-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v628)) (v1 : (c : Dev Cert.KernelIdeal.nD) → Buf (Elt Ideal) ((c.tc : Thread Cert.KernelIdeal.nD Cert.KernelIdeal.τ).loc Cert.KernelIdeal.main_v627)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v628) = v0 c
          ∧ r.2.mem ((c.tc : Thread Cert.KernelIdeal.nD Cert.KernelIdeal.τ).loc Cert.KernelIdeal.main_v627) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v640) = v0 c
          ∧ r.2.mem ((c.tc : Thread Cert.ReferenceIdeal.nD Cert.ReferenceIdeal.τ).loc Cert.ReferenceIdeal.main_v639) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x16 : Shape := ⟨2, ![128, 16]⟩
abbrev S32000x1024 : Shape := ⟨2, ![32000, 1024]⟩
abbrev S1024x1024 : Shape := ⟨2, ![1024, 1024]⟩
abbrev S1024x32000 : Shape := ⟨2, ![1024, 32000]⟩
abbrev S16x128x1 : Shape := ⟨3, ![16, 128, 1]⟩
abbrev S_ : Shape := ⟨0, ![]⟩
abbrev S128x16x1 : Shape := ⟨3, ![128, 16, 1]⟩
abbrev S1 : Shape := ⟨1, ![1]⟩
abbrev S1x1x1 : Shape := ⟨3, ![1, 1, 1]⟩
abbrev S128x16x1024 : Shape := ⟨3, ![128, 16, 1024]⟩
abbrev S128x1024 : Shape := ⟨2, ![128, 1024]⟩
abbrev S128x1 : Shape := ⟨2, ![128, 1]⟩
abbrev S128 : Shape := ⟨1, ![128]⟩
abbrev S1x1 : Shape := ⟨2, ![1, 1]⟩
abbrev S128x32000 : Shape := ⟨2, ![128, 32000]⟩
abbrev S1024x3200 : Shape := ⟨2, ![1024, 3200]⟩
abbrev S128x3200 : Shape := ⟨2, ![128, 3200]⟩
abbrev S1x128x1 : Shape := ⟨3, ![1, 128, 1]⟩
abbrev S128x250x128 : Shape := ⟨3, ![128, 250, 128]⟩
abbrev S128x128x250 : Shape := ⟨3, ![128, 128, 250]⟩
abbrev S128x128x256 : Shape := ⟨3, ![128, 128, 256]⟩
abbrev S128x256 : Shape := ⟨2, ![128, 256]⟩
abbrev S1x128x256 : Shape := ⟨3, ![1, 128, 256]⟩
abbrev S128x6 : Shape := ⟨2, ![128, 6]⟩
abbrev S128x1x1 : Shape := ⟨3, ![128, 1, 1]⟩
abbrev S128x2 : Shape := ⟨2, ![128, 2]⟩
abbrev S128x3 : Shape := ⟨2, ![128, 3]⟩
abbrev S128x4 : Shape := ⟨2, ![128, 4]⟩
abbrev S128x5 : Shape := ⟨2, ![128, 5]⟩
abbrev S128x7 : Shape := ⟨2, ![128, 7]⟩
abbrev S128x8 : Shape := ⟨2, ![128, 8]⟩
abbrev S128x9 : Shape := ⟨2, ![128, 9]⟩
abbrev S128x10 : Shape := ⟨2, ![128, 10]⟩
abbrev S128x11 : Shape := ⟨2, ![128, 11]⟩
abbrev S128x12 : Shape := ⟨2, ![128, 12]⟩
abbrev S128x13 : Shape := ⟨2, ![128, 13]⟩
abbrev S128x14 : Shape := ⟨2, ![128, 14]⟩
abbrev S128x15 : Shape := ⟨2, ![128, 15]⟩
abbrev S128x17 : Shape := ⟨2, ![128, 17]⟩

abbrev nBuf : Space → Nat
  | .hbm => 1476
  | .vmem => 224
  | .smem => 0
  | _ => 0

abbrev hbmTy0_0 (i : Nat) : BufTy := match i % 128 with
  | 0 => ⟨S128x16, .i32⟩
  | 1 => ⟨S32000x1024, .f32⟩
  | 2 => ⟨S1024x1024, .f32⟩
  | 3 => ⟨S1024x32000, .f32⟩
  | 4 => ⟨S16x128x1, .f32⟩
  | 5 => ⟨S_, .i32⟩
  | 6 => ⟨S128x16, .i32⟩
  | 7 => ⟨S128x16, .i1⟩
  | 8 => ⟨S_, .i32⟩
  | 9 => ⟨S128x16, .i32⟩
  | 10 => ⟨S128x16, .i32⟩
  | 11 => ⟨S128x16, .i32⟩
  | 12 => ⟨S128x16x1, .i32⟩
  | 13 => ⟨S1, .i32⟩
  | 14 => ⟨S_, .i32⟩
  | 15 => ⟨S128x16x1, .i32⟩
  | 16 => ⟨S128x16x1, .i1⟩
  | 17 => ⟨S1x1x1, .i32⟩
  | 18 => ⟨S128x16x1, .i32⟩
  | 19 => ⟨S128x16x1, .i1⟩
  | 20 => ⟨S128x16x1, .i1⟩
  | 21 => ⟨S_, .i1⟩
  | 22 => ⟨S128x16, .i1⟩
  | 23 => ⟨S128x16x1024, .f32⟩
  | 24 => ⟨S128x16x1024, .i1⟩
  | 25 => ⟨S_, .f32⟩
  | 26 => ⟨S128x16x1024, .f32⟩
  | 27 => ⟨S128x16x1024, .f32⟩
  | 28 => ⟨S_, .f32⟩
  | 29 => ⟨S128x1024, .f32⟩
  | 30 => ⟨S_, .f32⟩
  | 31 => ⟨S128x1024, .f32⟩
  | 32 => ⟨S128x1024, .f32⟩
  | 33 => ⟨S_, .i32⟩
  | 34 => ⟨S128x1, .i32⟩
  | 35 => ⟨S_, .f32⟩
  | 36 => ⟨S128, .f32⟩
  | 37 => ⟨S128, .i32⟩
  | 38 => ⟨S_, .i32⟩
  | 39 => ⟨S128, .i32⟩
  | 40 => ⟨S128, .i1⟩
  | 41 => ⟨S_, .i32⟩
  | 42 => ⟨S128, .i32⟩
  | 43 => ⟨S128, .i32⟩
  | 44 => ⟨S128, .i32⟩
  | 45 => ⟨S128x1, .i32⟩
  | 46 => ⟨S1, .i32⟩
  | 47 => ⟨S_, .i32⟩
  | 48 => ⟨S128x1, .i32⟩
  | 49 => ⟨S128x1, .i1⟩
  | 50 => ⟨S1x1, .i32⟩
  | 51 => ⟨S128x1, .i32⟩
  | 52 => ⟨S128x1, .i1⟩
  | 53 => ⟨S128x1, .i1⟩
  | 54 => ⟨S_, .i1⟩
  | 55 => ⟨S128, .i1⟩
  | 56 => ⟨S128x1024, .f32⟩
  | 57 => ⟨S128x1024, .i1⟩
  | 58 => ⟨S_, .f32⟩
  | 59 => ⟨S128x1024, .f32⟩
  | 60 => ⟨S128x1024, .f32⟩
  | 61 => ⟨S128x1024, .f32⟩
  | 62 => ⟨S128x1024, .f32⟩
  | 63 => ⟨S128x32000, .f32⟩
  | 64 => ⟨S_, .f32⟩
  | 65 => ⟨S128x32000, .f32⟩
  | 66 => ⟨S128x32000, .f32⟩
  | 67 => ⟨S_, .f32⟩
  | 68 => ⟨S128, .f32⟩
  | 69 => ⟨S_, .f32⟩
  | 70 => ⟨S128, .f32⟩
  | 71 => ⟨S128, .f32⟩
  | 72 => ⟨S128x1, .f32⟩
  | 73 => ⟨S128x32000, .f32⟩
  | 74 => ⟨S128x32000, .f32⟩
  | 75 => ⟨S128x32000, .f32⟩
  | 76 => ⟨S_, .f32⟩
  | 77 => ⟨S128, .f32⟩
  | 78 => ⟨S128x1, .f32⟩
  | 79 => ⟨S128x32000, .f32⟩
  | 80 => ⟨S128x32000, .f32⟩
  | 81 => ⟨S1x128x1, .f32⟩
  | 82 => ⟨S128x1, .f32⟩
  | 83 => ⟨S128x250x128, .f32⟩
  | 84 => ⟨S128x128x250, .f32⟩
  | 85 => ⟨S_, .i32⟩
  | 86 => ⟨S_, .f32⟩
  | 87 => ⟨S128x128x256, .f32⟩
  | 88 => ⟨S128x1, .i32⟩
  | 89 => ⟨S_, .f32⟩
  | 90 => ⟨S128, .f32⟩
  | 91 => ⟨S128x1, .f32⟩
  | 92 => ⟨S128x32000, .f32⟩
  | 93 => ⟨S128x32000, .f32⟩
  | 94 => ⟨S128x32000, .f32⟩
  | 95 => ⟨S_, .f32⟩
  | 96 => ⟨S128, .f32⟩
  | 97 => ⟨S128x1, .f32⟩
  | 98 => ⟨S_, .i32⟩
  | 99 => ⟨S128x1, .i32⟩
  | 100 => ⟨S128x1, .i1⟩
  | 101 => ⟨S_, .i32⟩
  | 102 => ⟨S128x1, .i32⟩
  | 103 => ⟨S128x1, .i32⟩
  | 104 => ⟨S128x1, .i32⟩
  | 105 => ⟨S128x1x1, .i32⟩
  | 106 => ⟨S1, .i32⟩
  | 107 => ⟨S_, .i32⟩
  | 108 => ⟨S128x1x1, .i32⟩
  | 109 => ⟨S128x1x1, .i1⟩
  | 110 => ⟨S1x1x1, .i32⟩
  | 111 => ⟨S128x1x1, .i32⟩
  | 112 => ⟨S128x1x1, .i1⟩
  | 113 => ⟨S128x1x1, .i1⟩
  | 114 => ⟨S_, .i1⟩
  | 115 => ⟨S128x1, .i1⟩
  | 116 => ⟨S128x1, .f32⟩
  | 117 => ⟨S_, .f32⟩
  | 118 => ⟨S128x1, .f32⟩
  | 119 => ⟨S128x1, .f32⟩
  | 120 => ⟨S128x1, .f32⟩
  | 121 => ⟨S128x1, .f32⟩
  | 122 => ⟨S128x1, .f32⟩
  | 123 => ⟨S128, .f32⟩
  | 124 => ⟨S128, .f32⟩
  | 125 => ⟨S128x2, .i32⟩
  | 126 => ⟨S128x1, .i32⟩
  | 127 => ⟨S128, .i32⟩
  | _ => ⟨S128x16, .i32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S1, .i32⟩
  | 9 => ⟨S_, .i32⟩
  | 10 => ⟨S128x1, .i32⟩
  | 11 => ⟨S128x1, .i1⟩
  | 12 => ⟨S1x1, .i32⟩
  | 13 => ⟨S128x1, .i32⟩
  | 14 => ⟨S128x1, .i1⟩
  | 15 => ⟨S128x1, .i1⟩
  | 16 => ⟨S_, .i1⟩
  | 17 => ⟨S128, .i1⟩
  | 18 => ⟨S128x1024, .f32⟩
  | 19 => ⟨S128x1024, .i1⟩
  | 20 => ⟨S_, .f32⟩
  | 21 => ⟨S128x1024, .f32⟩
  | 22 => ⟨S128x1024, .f32⟩
  | 23 => ⟨S128x1024, .f32⟩
  | 24 => ⟨S128x1024, .f32⟩
  | 25 => ⟨S128x32000, .f32⟩
  | 26 => ⟨S_, .f32⟩
  | 27 => ⟨S128x32000, .f32⟩
  | 28 => ⟨S128x32000, .f32⟩
  | 29 => ⟨S_, .f32⟩
  | 30 => ⟨S128, .f32⟩
  | 31 => ⟨S_, .f32⟩
  | 32 => ⟨S128, .f32⟩
  | 33 => ⟨S128, .f32⟩
  | 34 => ⟨S128x1, .f32⟩
  | 35 => ⟨S128x32000, .f32⟩
  | 36 => ⟨S128x32000, .f32⟩
  | 37 => ⟨S128x32000, .f32⟩
  | 38 => ⟨S_, .f32⟩
  | 39 => ⟨S128, .f32⟩
  | 40 => ⟨S128x1, .f32⟩
  | 41 => ⟨S128x32000, .f32⟩
  | 42 => ⟨S128x32000, .f32⟩
  | 43 => ⟨S1x128x1, .f32⟩
  | 44 => ⟨S128x1, .f32⟩
  | 45 => ⟨S128x250x128, .f32⟩
  | 46 => ⟨S128x128x250, .f32⟩
  | 47 => ⟨S_, .i32⟩
  | 48 => ⟨S_, .f32⟩
  | 49 => ⟨S128x128x256, .f32⟩
  | 50 => ⟨S128x1, .i32⟩
  | 51 => ⟨S_, .f32⟩
  | 52 => ⟨S128, .f32⟩
  | 53 => ⟨S128x1, .f32⟩
  | 54 => ⟨S128x32000, .f32⟩
  | 55 => ⟨S128x32000, .f32⟩
  | 56 => ⟨S128x32000, .f32⟩
  | 57 => ⟨S_, .f32⟩
  | 58 => ⟨S128, .f32⟩
  | 59 => ⟨S128x1, .f32⟩
  | 60 => ⟨S_, .i32⟩
  | 61 => ⟨S128x1, .i32⟩
  | 62 => ⟨S128x1, .i1⟩
  | 63 => ⟨S_, .i32⟩
  | 64 => ⟨S128x1, .i32⟩
  | 65 => ⟨S128x1, .i32⟩
  | 66 => ⟨S128x1, .i32⟩
  | 67 => ⟨S128x1x1, .i32⟩
  | 68 => ⟨S1, .i32⟩
  | 69 => ⟨S_, .i32⟩
  | 70 => ⟨S128x1x1, .i32⟩
  | 71 => ⟨S128x1x1, .i1⟩
  | 72 => ⟨S1x1x1, .i32⟩
  | 73 => ⟨S128x1x1, .i32⟩
  | 74 => ⟨S128x1x1, .i1⟩
  | 75 => ⟨S128x1x1, .i1⟩
  | 76 => ⟨S_, .i1⟩
  | 77 => ⟨S128x1, .i1⟩
  | 78 => ⟨S128x1, .f32⟩
  | 79 => ⟨S_, .f32⟩
  | 80 => ⟨S128x1, .f32⟩
  | 81 => ⟨S128x1, .f32⟩
  | 82 => ⟨S128x1, .f32⟩
  | 83 => ⟨S128x1, .f32⟩
  | 84 => ⟨S128x1, .f32⟩
  | 85 => ⟨S128, .f32⟩
  | 86 => ⟨S128, .f32⟩
  | 87 => ⟨S128x3, .i32⟩
  | 88 => ⟨S128x1, .i32⟩
  | 89 => ⟨S128, .i32⟩
  | 90 => ⟨S_, .i32⟩
  | 91 => ⟨S128, .i32⟩
  | 92 => ⟨S128, .i1⟩
  | 93 => ⟨S_, .i32⟩
  | 94 => ⟨S128, .i32⟩
  | 95 => ⟨S128, .i32⟩
  | 96 => ⟨S128, .i32⟩
  | 97 => ⟨S128x1, .i32⟩
  | 98 => ⟨S1, .i32⟩
  | 99 => ⟨S_, .i32⟩
  | 100 => ⟨S128x1, .i32⟩
  | 101 => ⟨S128x1, .i1⟩
  | 102 => ⟨S1x1, .i32⟩
  | 103 => ⟨S128x1, .i32⟩
  | 104 => ⟨S128x1, .i1⟩
  | 105 => ⟨S128x1, .i1⟩
  | 106 => ⟨S_, .i1⟩
  | 107 => ⟨S128, .i1⟩
  | 108 => ⟨S128x1024, .f32⟩
  | 109 => ⟨S128x1024, .i1⟩
  | 110 => ⟨S_, .f32⟩
  | 111 => ⟨S128x1024, .f32⟩
  | 112 => ⟨S128x1024, .f32⟩
  | 113 => ⟨S128x1024, .f32⟩
  | 114 => ⟨S128x1024, .f32⟩
  | 115 => ⟨S128x32000, .f32⟩
  | 116 => ⟨S_, .f32⟩
  | 117 => ⟨S128x32000, .f32⟩
  | 118 => ⟨S128x32000, .f32⟩
  | 119 => ⟨S_, .f32⟩
  | 120 => ⟨S128, .f32⟩
  | 121 => ⟨S_, .f32⟩
  | 122 => ⟨S128, .f32⟩
  | 123 => ⟨S128, .f32⟩
  | 124 => ⟨S128x1, .f32⟩
  | 125 => ⟨S128x32000, .f32⟩
  | 126 => ⟨S128x32000, .f32⟩
  | 127 => ⟨S128x32000, .f32⟩
  | _ => ⟨S128x16, .i32⟩

abbrev hbmTy0_2 (i : Nat) : BufTy := match i % 128 with
  | 0 => ⟨S_, .f32⟩
  | 1 => ⟨S128, .f32⟩
  | 2 => ⟨S128x1, .f32⟩
  | 3 => ⟨S128x32000, .f32⟩
  | 4 => ⟨S128x32000, .f32⟩
  | 5 => ⟨S1x128x1, .f32⟩
  | 6 => ⟨S128x1, .f32⟩
  | 7 => ⟨S128x250x128, .f32⟩
  | 8 => ⟨S128x128x250, .f32⟩
  | 9 => ⟨S_, .i32⟩
  | 10 => ⟨S_, .f32⟩
  | 11 => ⟨S128x128x256, .f32⟩
  | 12 => ⟨S128x1, .i32⟩
  | 13 => ⟨S_, .f32⟩
  | 14 => ⟨S128, .f32⟩
  | 15 => ⟨S128x1, .f32⟩
  | 16 => ⟨S128x32000, .f32⟩
  | 17 => ⟨S128x32000, .f32⟩
  | 18 => ⟨S128x32000, .f32⟩
  | 19 => ⟨S_, .f32⟩
  | 20 => ⟨S128, .f32⟩
  | 21 => ⟨S128x1, .f32⟩
  | 22 => ⟨S_, .i32⟩
  | 23 => ⟨S128x1, .i32⟩
  | 24 => ⟨S128x1, .i1⟩
  | 25 => ⟨S_, .i32⟩
  | 26 => ⟨S128x1, .i32⟩
  | 27 => ⟨S128x1, .i32⟩
  | 28 => ⟨S128x1, .i32⟩
  | 29 => ⟨S128x1x1, .i32⟩
  | 30 => ⟨S1, .i32⟩
  | 31 => ⟨S_, .i32⟩
  | 32 => ⟨S128x1x1, .i32⟩
  | 33 => ⟨S128x1x1, .i1⟩
  | 34 => ⟨S1x1x1, .i32⟩
  | 35 => ⟨S128x1x1, .i32⟩
  | 36 => ⟨S128x1x1, .i1⟩
  | 37 => ⟨S128x1x1, .i1⟩
  | 38 => ⟨S_, .i1⟩
  | 39 => ⟨S128x1, .i1⟩
  | 40 => ⟨S128x1, .f32⟩
  | 41 => ⟨S_, .f32⟩
  | 42 => ⟨S128x1, .f32⟩
  | 43 => ⟨S128x1, .f32⟩
  | 44 => ⟨S128x1, .f32⟩
  | 45 => ⟨S128x1, .f32⟩
  | 46 => ⟨S128x1, .f32⟩
  | 47 => ⟨S128, .f32⟩
  | 48 => ⟨S128, .f32⟩
  | 49 => ⟨S128x4, .i32⟩
  | 50 => ⟨S128x1, .i32⟩
  | 51 => ⟨S128, .i32⟩
  | 52 => ⟨S_, .i32⟩
  | 53 => ⟨S128, .i32⟩
  | 54 => ⟨S128, .i1⟩
  | 55 => ⟨S_, .i32⟩
  | 56 => ⟨S128, .i32⟩
  | 57 => ⟨S128, .i32⟩
  | 58 => ⟨S128, .i32⟩
  | 59 => ⟨S128x1, .i32⟩
  | 60 => ⟨S1, .i32⟩
  | 61 => ⟨S_, .i32⟩
  | 62 => ⟨S128x1, .i32⟩
  | 63 => ⟨S128x1, .i1⟩
  | 64 => ⟨S1x1, .i32⟩
  | 65 => ⟨S128x1, .i32⟩
  | 66 => ⟨S128x1, .i1⟩
  | 67 => ⟨S128x1, .i1⟩
  | 68 => ⟨S_, .i1⟩
  | 69 => ⟨S128, .i1⟩
  | 70 => ⟨S128x1024, .f32⟩
  | 71 => ⟨S128x1024, .i1⟩
  | 72 => ⟨S_, .f32⟩
  | 73 => ⟨S128x1024, .f32⟩
  | 74 => ⟨S128x1024, .f32⟩
  | 75 => ⟨S128x1024, .f32⟩
  | 76 => ⟨S128x1024, .f32⟩
  | 77 => ⟨S128x32000, .f32⟩
  | 78 => ⟨S_, .f32⟩
  | 79 => ⟨S128x32000, .f32⟩
  | 80 => ⟨S128x32000, .f32⟩
  | 81 => ⟨S_, .f32⟩
  | 82 => ⟨S128, .f32⟩
  | 83 => ⟨S_, .f32⟩
  | 84 => ⟨S128, .f32⟩
  | 85 => ⟨S128, .f32⟩
  | 86 => ⟨S128x1, .f32⟩
  | 87 => ⟨S128x32000, .f32⟩
  | 88 => ⟨S128x32000, .f32⟩
  | 89 => ⟨S128x32000, .f32⟩
  | 90 => ⟨S_, .f32⟩
  | 91 => ⟨S128, .f32⟩
  | 92 => ⟨S128x1, .f32⟩
  | 93 => ⟨S128x32000, .f32⟩
  | 94 => ⟨S128x32000, .f32⟩
  | 95 => ⟨S1x128x1, .f32⟩
  | 96 => ⟨S128x1, .f32⟩
  | 97 => ⟨S128x250x128, .f32⟩
  | 98 => ⟨S128x128x250, .f32⟩
  | 99 => ⟨S_, .i32⟩
  | 100 => ⟨S_, .f32⟩
  | 101 => ⟨S128x128x256, .f32⟩
  | 102 => ⟨S128x1, .i32⟩
  | 103 => ⟨S_, .f32⟩
  | 104 => ⟨S128, .f32⟩
  | 105 => ⟨S128x1, .f32⟩
  | 106 => ⟨S128x32000, .f32⟩
  | 107 => ⟨S128x32000, .f32⟩
  | 108 => ⟨S128x32000, .f32⟩
  | 109 => ⟨S_, .f32⟩
  | 110 => ⟨S128, .f32⟩
  | 111 => ⟨S128x1, .f32⟩
  | 112 => ⟨S_, .i32⟩
  | 113 => ⟨S128x1, .i32⟩
  | 114 => ⟨S128x1, .i1⟩
  | 115 => ⟨S_, .i32⟩
  | 116 => ⟨S128x1, .i32⟩
  | 117 => ⟨S128x1, .i32⟩
  | 118 => ⟨S128x1, .i32⟩
  | 119 => ⟨S128x1x1, .i32⟩
  | 120 => ⟨S1, .i32⟩
  | 121 => ⟨S_, .i32⟩
  | 122 => ⟨S128x1x1, .i32⟩
  | 123 => ⟨S128x1x1, .i1⟩
  | 124 => ⟨S1x1x1, .i32⟩
  | 125 => ⟨S128x1x1, .i32⟩
  | 126 => ⟨S128x1x1, .i1⟩
  | 127 => ⟨S128x1x1, .i1⟩
  | _ => ⟨S128x16, .i32⟩

abbrev hbmTy0_3 (i : Nat) : BufTy := match i % 128 with
  | 0 => ⟨S_, .i1⟩
  | 1 => ⟨S128x1, .i1⟩
  | 2 => ⟨S128x1, .f32⟩
  | 3 => ⟨S_, .f32⟩
  | 4 => ⟨S128x1, .f32⟩
  | 5 => ⟨S128x1, .f32⟩
  | 6 => ⟨S128x1, .f32⟩
  | 7 => ⟨S128x1, .f32⟩
  | 8 => ⟨S128x1, .f32⟩
  | 9 => ⟨S128, .f32⟩
  | 10 => ⟨S128, .f32⟩
  | 11 => ⟨S128x5, .i32⟩
  | 12 => ⟨S128x1, .i32⟩
  | 13 => ⟨S128, .i32⟩
  | 14 => ⟨S_, .i32⟩
  | 15 => ⟨S128, .i32⟩
  | 16 => ⟨S128, .i1⟩
  | 17 => ⟨S_, .i32⟩
  | 18 => ⟨S128, .i32⟩
  | 19 => ⟨S128, .i32⟩
  | 20 => ⟨S128, .i32⟩
  | 21 => ⟨S128x1, .i32⟩
  | 22 => ⟨S1, .i32⟩
  | 23 => ⟨S_, .i32⟩
  | 24 => ⟨S128x1, .i32⟩
  | 25 => ⟨S128x1, .i1⟩
  | 26 => ⟨S1x1, .i32⟩
  | 27 => ⟨S128x1, .i32⟩
  | 28 => ⟨S128x1, .i1⟩
  | 29 => ⟨S128x1, .i1⟩
  | 30 => ⟨S_, .i1⟩
  | 31 => ⟨S128, .i1⟩
  | 32 => ⟨S128x1024, .f32⟩
  | 33 => ⟨S128x1024, .i1⟩
  | 34 => ⟨S_, .f32⟩
  | 35 => ⟨S128x1024, .f32⟩
  | 36 => ⟨S128x1024, .f32⟩
  | 37 => ⟨S128x1024, .f32⟩
  | 38 => ⟨S128x1024, .f32⟩
  | 39 => ⟨S128x32000, .f32⟩
  | 40 => ⟨S_, .f32⟩
  | 41 => ⟨S128x32000, .f32⟩
  | 42 => ⟨S128x32000, .f32⟩
  | 43 => ⟨S_, .f32⟩
  | 44 => ⟨S128, .f32⟩
  | 45 => ⟨S_, .f32⟩
  | 46 => ⟨S128, .f32⟩
  | 47 => ⟨S128, .f32⟩
  | 48 => ⟨S128x1, .f32⟩
  | 49 => ⟨S128x32000, .f32⟩
  | 50 => ⟨S128x32000, .f32⟩
  | 51 => ⟨S128x32000, .f32⟩
  | 52 => ⟨S_, .f32⟩
  | 53 => ⟨S128, .f32⟩
  | 54 => ⟨S128x1, .f32⟩
  | 55 => ⟨S128x32000, .f32⟩
  | 56 => ⟨S128x32000, .f32⟩
  | 57 => ⟨S1x128x1, .f32⟩
  | 58 => ⟨S128x1, .f32⟩
  | 59 => ⟨S128x250x128, .f32⟩
  | 60 => ⟨S128x128x250, .f32⟩
  | 61 => ⟨S_, .i32⟩
  | 62 => ⟨S_, .f32⟩
  | 63 => ⟨S128x128x256, .f32⟩
  | 64 => ⟨S128x1, .i32⟩
  | 65 => ⟨S_, .f32⟩
  | 66 => ⟨S128, .f32⟩
  | 67 => ⟨S128x1, .f32⟩
  | 68 => ⟨S128x32000, .f32⟩
  | 69 => ⟨S128x32000, .f32⟩
  | 70 => ⟨S128x32000, .f32⟩
  | 71 => ⟨S_, .f32⟩
  | 72 => ⟨S128, .f32⟩
  | 73 => ⟨S128x1, .f32⟩
  | 74 => ⟨S_, .i32⟩
  | 75 => ⟨S128x1, .i32⟩
  | 76 => ⟨S128x1, .i1⟩
  | 77 => ⟨S_, .i32⟩
  | 78 => ⟨S128x1, .i32⟩
  | 79 => ⟨S128x1, .i32⟩
  | 80 => ⟨S128x1, .i32⟩
  | 81 => ⟨S128x1x1, .i32⟩
  | 82 => ⟨S1, .i32⟩
  | 83 => ⟨S_, .i32⟩
  | 84 => ⟨S128x1x1, .i32⟩
  | 85 => ⟨S128x1x1, .i1⟩
  | 86 => ⟨S1x1x1, .i32⟩
  | 87 => ⟨S128x1x1, .i32⟩
  | 88 => ⟨S128x1x1, .i1⟩
  | 89 => ⟨S128x1x1, .i1⟩
  | 90 => ⟨S_, .i1⟩
  | 91 => ⟨S128x1, .i1⟩
  | 92 => ⟨S128x1, .f32⟩
  | 93 => ⟨S_, .f32⟩
  | 94 => ⟨S128x1, .f32⟩
  | 95 => ⟨S128x1, .f32⟩
  | 96 => ⟨S128x1, .f32⟩
  | 97 => ⟨S128x1, .f32⟩
  | 98 => ⟨S128x1, .f32⟩
  | 99 => ⟨S128, .f32⟩
  | 100 => ⟨S128, .f32⟩
  | 101 => ⟨S128x6, .i32⟩
  | 102 => ⟨S128x1, .i32⟩
  | 103 => ⟨S128, .i32⟩
  | 104 => ⟨S_, .i32⟩
  | 105 => ⟨S128, .i32⟩
  | 106 => ⟨S128, .i1⟩
  | 107 => ⟨S_, .i32⟩
  | 108 => ⟨S128, .i32⟩
  | 109 => ⟨S128, .i32⟩
  | 110 => ⟨S128, .i32⟩
  | 111 => ⟨S128x1, .i32⟩
  | 112 => ⟨S1, .i32⟩
  | 113 => ⟨S_, .i32⟩
  | 114 => ⟨S128x1, .i32⟩
  | 115 => ⟨S128x1, .i1⟩
  | 116 => ⟨S1x1, .i32⟩
  | 117 => ⟨S128x1, .i32⟩
  | 118 => ⟨S128x1, .i1⟩
  | 119 => ⟨S128x1, .i1⟩
  | 120 => ⟨S_, .i1⟩
  | 121 => ⟨S128, .i1⟩
  | 122 => ⟨S128x1024, .f32⟩
  | 123 => ⟨S128x1024, .i1⟩
  | 124 => ⟨S_, .f32⟩
  | 125 => ⟨S128x1024, .f32⟩
  | 126 => ⟨S128x1024, .f32⟩
  | 127 => ⟨S128x1024, .f32⟩
  | _ => ⟨S128x16, .i32⟩

abbrev hbmTy0_4 (i : Nat) : BufTy := match i % 128 with
  | 0 => ⟨S128x1024, .f32⟩
  | 1 => ⟨S128x32000, .f32⟩
  | 2 => ⟨S_, .f32⟩
  | 3 => ⟨S128x32000, .f32⟩
  | 4 => ⟨S128x32000, .f32⟩
  | 5 => ⟨S_, .f32⟩
  | 6 => ⟨S128, .f32⟩
  | 7 => ⟨S_, .f32⟩
  | 8 => ⟨S128, .f32⟩
  | 9 => ⟨S128, .f32⟩
  | 10 => ⟨S128x1, .f32⟩
  | 11 => ⟨S128x32000, .f32⟩
  | 12 => ⟨S128x32000, .f32⟩
  | 13 => ⟨S128x32000, .f32⟩
  | 14 => ⟨S_, .f32⟩
  | 15 => ⟨S128, .f32⟩
  | 16 => ⟨S128x1, .f32⟩
  | 17 => ⟨S128x32000, .f32⟩
  | 18 => ⟨S128x32000, .f32⟩
  | 19 => ⟨S1x128x1, .f32⟩
  | 20 => ⟨S128x1, .f32⟩
  | 21 => ⟨S128x250x128, .f32⟩
  | 22 => ⟨S128x128x250, .f32⟩
  | 23 => ⟨S_, .i32⟩
  | 24 => ⟨S_, .f32⟩
  | 25 => ⟨S128x128x256, .f32⟩
  | 26 => ⟨S128x1, .i32⟩
  | 27 => ⟨S_, .f32⟩
  | 28 => ⟨S128, .f32⟩
  | 29 => ⟨S128x1, .f32⟩
  | 30 => ⟨S128x32000, .f32⟩
  | 31 => ⟨S128x32000, .f32⟩
  | 32 => ⟨S128x32000, .f32⟩
  | 33 => ⟨S_, .f32⟩
  | 34 => ⟨S128, .f32⟩
  | 35 => ⟨S128x1, .f32⟩
  | 36 => ⟨S_, .i32⟩
  | 37 => ⟨S128x1, .i32⟩
  | 38 => ⟨S128x1, .i1⟩
  | 39 => ⟨S_, .i32⟩
  | 40 => ⟨S128x1, .i32⟩
  | 41 => ⟨S128x1, .i32⟩
  | 42 => ⟨S128x1, .i32⟩
  | 43 => ⟨S128x1x1, .i32⟩
  | 44 => ⟨S1, .i32⟩
  | 45 => ⟨S_, .i32⟩
  | 46 => ⟨S128x1x1, .i32⟩
  | 47 => ⟨S128x1x1, .i1⟩
  | 48 => ⟨S1x1x1, .i32⟩
  | 49 => ⟨S128x1x1, .i32⟩
  | 50 => ⟨S128x1x1, .i1⟩
  | 51 => ⟨S128x1x1, .i1⟩
  | 52 => ⟨S_, .i1⟩
  | 53 => ⟨S128x1, .i1⟩
  | 54 => ⟨S128x1, .f32⟩
  | 55 => ⟨S_, .f32⟩
  | 56 => ⟨S128x1, .f32⟩
  | 57 => ⟨S128x1, .f32⟩
  | 58 => ⟨S128x1, .f32⟩
  | 59 => ⟨S128x1, .f32⟩
  | 60 => ⟨S128x1, .f32⟩
  | 61 => ⟨S128, .f32⟩
  | 62 => ⟨S128, .f32⟩
  | 63 => ⟨S128x7, .i32⟩
  | 64 => ⟨S128x1, .i32⟩
  | 65 => ⟨S128, .i32⟩
  | 66 => ⟨S_, .i32⟩
  | 67 => ⟨S128, .i32⟩
  | 68 => ⟨S128, .i1⟩
  | 69 => ⟨S_, .i32⟩
  | 70 => ⟨S128, .i32⟩
  | 71 => ⟨S128, .i32⟩
  | 72 => ⟨S128, .i32⟩
  | 73 => ⟨S128x1, .i32⟩
  | 74 => ⟨S1, .i32⟩
  | 75 => ⟨S_, .i32⟩
  | 76 => ⟨S128x1, .i32⟩
  | 77 => ⟨S128x1, .i1⟩
  | 78 => ⟨S1x1, .i32⟩
  | 79 => ⟨S128x1, .i32⟩
  | 80 => ⟨S128x1, .i1⟩
  | 81 => ⟨S128x1, .i1⟩
  | 82 => ⟨S_, .i1⟩
  | 83 => ⟨S128, .i1⟩
  | 84 => ⟨S128x1024, .f32⟩
  | 85 => ⟨S128x1024, .i1⟩
  | 86 => ⟨S_, .f32⟩
  | 87 => ⟨S128x1024, .f32⟩
  | 88 => ⟨S128x1024, .f32⟩
  | 89 => ⟨S128x1024, .f32⟩
  | 90 => ⟨S128x1024, .f32⟩
  | 91 => ⟨S128x32000, .f32⟩
  | 92 => ⟨S_, .f32⟩
  | 93 => ⟨S128x32000, .f32⟩
  | 94 => ⟨S128x32000, .f32⟩
  | 95 => ⟨S_, .f32⟩
  | 96 => ⟨S128, .f32⟩
  | 97 => ⟨S_, .f32⟩
  | 98 => ⟨S128, .f32⟩
  | 99 => ⟨S128, .f32⟩
  | 100 => ⟨S128x1, .f32⟩
  | 101 => ⟨S128x32000, .f32⟩
  | 102 => ⟨S128x32000, .f32⟩
  | 103 => ⟨S128x32000, .f32⟩
  | 104 => ⟨S_, .f32⟩
  | 105 => ⟨S128, .f32⟩
  | 106 => ⟨S128x1, .f32⟩
  | 107 => ⟨S128x32000, .f32⟩
  | 108 => ⟨S128x32000, .f32⟩
  | 109 => ⟨S1x128x1, .f32⟩
  | 110 => ⟨S128x1, .f32⟩
  | 111 => ⟨S128x250x128, .f32⟩
  | 112 => ⟨S128x128x250, .f32⟩
  | 113 => ⟨S_, .i32⟩
  | 114 => ⟨S_, .f32⟩
  | 115 => ⟨S128x128x256, .f32⟩
  | 116 => ⟨S128x1, .i32⟩
  | 117 => ⟨S_, .f32⟩
  | 118 => ⟨S128, .f32⟩
  | 119 => ⟨S128x1, .f32⟩
  | 120 => ⟨S128x32000, .f32⟩
  | 121 => ⟨S128x32000, .f32⟩
  | 122 => ⟨S128x32000, .f32⟩
  | 123 => ⟨S_, .f32⟩
  | 124 => ⟨S128, .f32⟩
  | 125 => ⟨S128x1, .f32⟩
  | 126 => ⟨S_, .i32⟩
  | 127 => ⟨S128x1, .i32⟩
  | _ => ⟨S128x16, .i32⟩

abbrev hbmTy0_5 (i : Nat) : BufTy := match i % 128 with
  | 0 => ⟨S128x1, .i1⟩
  | 1 => ⟨S_, .i32⟩
  | 2 => ⟨S128x1, .i32⟩
  | 3 => ⟨S128x1, .i32⟩
  | 4 => ⟨S128x1, .i32⟩
  | 5 => ⟨S128x1x1, .i32⟩
  | 6 => ⟨S1, .i32⟩
  | 7 => ⟨S_, .i32⟩
  | 8 => ⟨S128x1x1, .i32⟩
  | 9 => ⟨S128x1x1, .i1⟩
  | 10 => ⟨S1x1x1, .i32⟩
  | 11 => ⟨S128x1x1, .i32⟩
  | 12 => ⟨S128x1x1, .i1⟩
  | 13 => ⟨S128x1x1, .i1⟩
  | 14 => ⟨S_, .i1⟩
  | 15 => ⟨S128x1, .i1⟩
  | 16 => ⟨S128x1, .f32⟩
  | 17 => ⟨S_, .f32⟩
  | 18 => ⟨S128x1, .f32⟩
  | 19 => ⟨S128x1, .f32⟩
  | 20 => ⟨S128x1, .f32⟩
  | 21 => ⟨S128x1, .f32⟩
  | 22 => ⟨S128x1, .f32⟩
  | 23 => ⟨S128, .f32⟩
  | 24 => ⟨S128, .f32⟩
  | 25 => ⟨S128x8, .i32⟩
  | 26 => ⟨S128x1, .i32⟩
  | 27 => ⟨S128, .i32⟩
  | 28 => ⟨S_, .i32⟩
  | 29 => ⟨S128, .i32⟩
  | 30 => ⟨S128, .i1⟩
  | 31 => ⟨S_, .i32⟩
  | 32 => ⟨S128, .i32⟩
  | 33 => ⟨S128, .i32⟩
  | 34 => ⟨S128, .i32⟩
  | 35 => ⟨S128x1, .i32⟩
  | 36 => ⟨S1, .i32⟩
  | 37 => ⟨S_, .i32⟩
  | 38 => ⟨S128x1, .i32⟩
  | 39 => ⟨S128x1, .i1⟩
  | 40 => ⟨S1x1, .i32⟩
  | 41 => ⟨S128x1, .i32⟩
  | 42 => ⟨S128x1, .i1⟩
  | 43 => ⟨S128x1, .i1⟩
  | 44 => ⟨S_, .i1⟩
  | 45 => ⟨S128, .i1⟩
  | 46 => ⟨S128x1024, .f32⟩
  | 47 => ⟨S128x1024, .i1⟩
  | 48 => ⟨S_, .f32⟩
  | 49 => ⟨S128x1024, .f32⟩
  | 50 => ⟨S128x1024, .f32⟩
  | 51 => ⟨S128x1024, .f32⟩
  | 52 => ⟨S128x1024, .f32⟩
  | 53 => ⟨S128x32000, .f32⟩
  | 54 => ⟨S_, .f32⟩
  | 55 => ⟨S128x32000, .f32⟩
  | 56 => ⟨S128x32000, .f32⟩
  | 57 => ⟨S_, .f32⟩
  | 58 => ⟨S128, .f32⟩
  | 59 => ⟨S_, .f32⟩
  | 60 => ⟨S128, .f32⟩
  | 61 => ⟨S128, .f32⟩
  | 62 => ⟨S128x1, .f32⟩
  | 63 => ⟨S128x32000, .f32⟩
  | 64 => ⟨S128x32000, .f32⟩
  | 65 => ⟨S128x32000, .f32⟩
  | 66 => ⟨S_, .f32⟩
  | 67 => ⟨S128, .f32⟩
  | 68 => ⟨S128x1, .f32⟩
  | 69 => ⟨S128x32000, .f32⟩
  | 70 => ⟨S128x32000, .f32⟩
  | 71 => ⟨S1x128x1, .f32⟩
  | 72 => ⟨S128x1, .f32⟩
  | 73 => ⟨S128x250x128, .f32⟩
  | 74 => ⟨S128x128x250, .f32⟩
  | 75 => ⟨S_, .i32⟩
  | 76 => ⟨S_, .f32⟩
  | 77 => ⟨S128x128x256, .f32⟩
  | 78 => ⟨S128x1, .i32⟩
  | 79 => ⟨S_, .f32⟩
  | 80 => ⟨S128, .f32⟩
  | 81 => ⟨S128x1, .f32⟩
  | 82 => ⟨S128x32000, .f32⟩
  | 83 => ⟨S128x32000, .f32⟩
  | 84 => ⟨S128x32000, .f32⟩
  | 85 => ⟨S_, .f32⟩
  | 86 => ⟨S128, .f32⟩
  | 87 => ⟨S128x1, .f32⟩
  | 88 => ⟨S_, .i32⟩
  | 89 => ⟨S128x1, .i32⟩
  | 90 => ⟨S128x1, .i1⟩
  | 91 => ⟨S_, .i32⟩
  | 92 => ⟨S128x1, .i32⟩
  | 93 => ⟨S128x1, .i32⟩
  | 94 => ⟨S128x1, .i32⟩
  | 95 => ⟨S128x1x1, .i32⟩
  | 96 => ⟨S1, .i32⟩
  | 97 => ⟨S_, .i32⟩
  | 98 => ⟨S128x1x1, .i32⟩
  | 99 => ⟨S128x1x1, .i1⟩
  | 100 => ⟨S1x1x1, .i32⟩
  | 101 => ⟨S128x1x1, .i32⟩
  | 102 => ⟨S128x1x1, .i1⟩
  | 103 => ⟨S128x1x1, .i1⟩
  | 104 => ⟨S_, .i1⟩
  | 105 => ⟨S128x1, .i1⟩
  | 106 => ⟨S128x1, .f32⟩
  | 107 => ⟨S_, .f32⟩
  | 108 => ⟨S128x1, .f32⟩
  | 109 => ⟨S128x1, .f32⟩
  | 110 => ⟨S128x1, .f32⟩
  | 111 => ⟨S128x1, .f32⟩
  | 112 => ⟨S128x1, .f32⟩
  | 113 => ⟨S128, .f32⟩
  | 114 => ⟨S128, .f32⟩
  | 115 => ⟨S128x9, .i32⟩
  | 116 => ⟨S128x1, .i32⟩
  | 117 => ⟨S128, .i32⟩
  | 118 => ⟨S_, .i32⟩
  | 119 => ⟨S128, .i32⟩
  | 120 => ⟨S128, .i1⟩
  | 121 => ⟨S_, .i32⟩
  | 122 => ⟨S128, .i32⟩
  | 123 => ⟨S128, .i32⟩
  | 124 => ⟨S128, .i32⟩
  | 125 => ⟨S128x1, .i32⟩
  | 126 => ⟨S1, .i32⟩
  | 127 => ⟨S_, .i32⟩
  | _ => ⟨S128x16, .i32⟩

abbrev hbmTy0_6 (i : Nat) : BufTy := match i % 128 with
  | 0 => ⟨S128x1, .i32⟩
  | 1 => ⟨S128x1, .i1⟩
  | 2 => ⟨S1x1, .i32⟩
  | 3 => ⟨S128x1, .i32⟩
  | 4 => ⟨S128x1, .i1⟩
  | 5 => ⟨S128x1, .i1⟩
  | 6 => ⟨S_, .i1⟩
  | 7 => ⟨S128, .i1⟩
  | 8 => ⟨S128x1024, .f32⟩
  | 9 => ⟨S128x1024, .i1⟩
  | 10 => ⟨S_, .f32⟩
  | 11 => ⟨S128x1024, .f32⟩
  | 12 => ⟨S128x1024, .f32⟩
  | 13 => ⟨S128x1024, .f32⟩
  | 14 => ⟨S128x1024, .f32⟩
  | 15 => ⟨S128x32000, .f32⟩
  | 16 => ⟨S_, .f32⟩
  | 17 => ⟨S128x32000, .f32⟩
  | 18 => ⟨S128x32000, .f32⟩
  | 19 => ⟨S_, .f32⟩
  | 20 => ⟨S128, .f32⟩
  | 21 => ⟨S_, .f32⟩
  | 22 => ⟨S128, .f32⟩
  | 23 => ⟨S128, .f32⟩
  | 24 => ⟨S128x1, .f32⟩
  | 25 => ⟨S128x32000, .f32⟩
  | 26 => ⟨S128x32000, .f32⟩
  | 27 => ⟨S128x32000, .f32⟩
  | 28 => ⟨S_, .f32⟩
  | 29 => ⟨S128, .f32⟩
  | 30 => ⟨S128x1, .f32⟩
  | 31 => ⟨S128x32000, .f32⟩
  | 32 => ⟨S128x32000, .f32⟩
  | 33 => ⟨S1x128x1, .f32⟩
  | 34 => ⟨S128x1, .f32⟩
  | 35 => ⟨S128x250x128, .f32⟩
  | 36 => ⟨S128x128x250, .f32⟩
  | 37 => ⟨S_, .i32⟩
  | 38 => ⟨S_, .f32⟩
  | 39 => ⟨S128x128x256, .f32⟩
  | 40 => ⟨S128x1, .i32⟩
  | 41 => ⟨S_, .f32⟩
  | 42 => ⟨S128, .f32⟩
  | 43 => ⟨S128x1, .f32⟩
  | 44 => ⟨S128x32000, .f32⟩
  | 45 => ⟨S128x32000, .f32⟩
  | 46 => ⟨S128x32000, .f32⟩
  | 47 => ⟨S_, .f32⟩
  | 48 => ⟨S128, .f32⟩
  | 49 => ⟨S128x1, .f32⟩
  | 50 => ⟨S_, .i32⟩
  | 51 => ⟨S128x1, .i32⟩
  | 52 => ⟨S128x1, .i1⟩
  | 53 => ⟨S_, .i32⟩
  | 54 => ⟨S128x1, .i32⟩
  | 55 => ⟨S128x1, .i32⟩
  | 56 => ⟨S128x1, .i32⟩
  | 57 => ⟨S128x1x1, .i32⟩
  | 58 => ⟨S1, .i32⟩
  | 59 => ⟨S_, .i32⟩
  | 60 => ⟨S128x1x1, .i32⟩
  | 61 => ⟨S128x1x1, .i1⟩
  | 62 => ⟨S1x1x1, .i32⟩
  | 63 => ⟨S128x1x1, .i32⟩
  | 64 => ⟨S128x1x1, .i1⟩
  | 65 => ⟨S128x1x1, .i1⟩
  | 66 => ⟨S_, .i1⟩
  | 67 => ⟨S128x1, .i1⟩
  | 68 => ⟨S128x1, .f32⟩
  | 69 => ⟨S_, .f32⟩
  | 70 => ⟨S128x1, .f32⟩
  | 71 => ⟨S128x1, .f32⟩
  | 72 => ⟨S128x1, .f32⟩
  | 73 => ⟨S128x1, .f32⟩
  | 74 => ⟨S128x1, .f32⟩
  | 75 => ⟨S128, .f32⟩
  | 76 => ⟨S128, .f32⟩
  | 77 => ⟨S128x10, .i32⟩
  | 78 => ⟨S128x1, .i32⟩
  | 79 => ⟨S128, .i32⟩
  | 80 => ⟨S_, .i32⟩
  | 81 => ⟨S128, .i32⟩
  | 82 => ⟨S128, .i1⟩
  | 83 => ⟨S_, .i32⟩
  | 84 => ⟨S128, .i32⟩
  | 85 => ⟨S128, .i32⟩
  | 86 => ⟨S128, .i32⟩
  | 87 => ⟨S128x1, .i32⟩
  | 88 => ⟨S1, .i32⟩
  | 89 => ⟨S_, .i32⟩
  | 90 => ⟨S128x1, .i32⟩
  | 91 => ⟨S128x1, .i1⟩
  | 92 => ⟨S1x1, .i32⟩
  | 93 => ⟨S128x1, .i32⟩
  | 94 => ⟨S128x1, .i1⟩
  | 95 => ⟨S128x1, .i1⟩
  | 96 => ⟨S_, .i1⟩
  | 97 => ⟨S128, .i1⟩
  | 98 => ⟨S128x1024, .f32⟩
  | 99 => ⟨S128x1024, .i1⟩
  | 100 => ⟨S_, .f32⟩
  | 101 => ⟨S128x1024, .f32⟩
  | 102 => ⟨S128x1024, .f32⟩
  | 103 => ⟨S128x1024, .f32⟩
  | 104 => ⟨S128x1024, .f32⟩
  | 105 => ⟨S128x32000, .f32⟩
  | 106 => ⟨S_, .f32⟩
  | 107 => ⟨S128x32000, .f32⟩
  | 108 => ⟨S128x32000, .f32⟩
  | 109 => ⟨S_, .f32⟩
  | 110 => ⟨S128, .f32⟩
  | 111 => ⟨S_, .f32⟩
  | 112 => ⟨S128, .f32⟩
  | 113 => ⟨S128, .f32⟩
  | 114 => ⟨S128x1, .f32⟩
  | 115 => ⟨S128x32000, .f32⟩
  | 116 => ⟨S128x32000, .f32⟩
  | 117 => ⟨S128x32000, .f32⟩
  | 118 => ⟨S_, .f32⟩
  | 119 => ⟨S128, .f32⟩
  | 120 => ⟨S128x1, .f32⟩
  | 121 => ⟨S128x32000, .f32⟩
  | 122 => ⟨S128x32000, .f32⟩
  | 123 => ⟨S1x128x1, .f32⟩
  | 124 => ⟨S128x1, .f32⟩
  | 125 => ⟨S128x250x128, .f32⟩
  | 126 => ⟨S128x128x250, .f32⟩
  | 127 => ⟨S_, .i32⟩
  | _ => ⟨S128x16, .i32⟩

abbrev hbmTy0_7 (i : Nat) : BufTy := match i % 128 with
  | 0 => ⟨S_, .f32⟩
  | 1 => ⟨S128x128x256, .f32⟩
  | 2 => ⟨S128x1, .i32⟩
  | 3 => ⟨S_, .f32⟩
  | 4 => ⟨S128, .f32⟩
  | 5 => ⟨S128x1, .f32⟩
  | 6 => ⟨S128x32000, .f32⟩
  | 7 => ⟨S128x32000, .f32⟩
  | 8 => ⟨S128x32000, .f32⟩
  | 9 => ⟨S_, .f32⟩
  | 10 => ⟨S128, .f32⟩
  | 11 => ⟨S128x1, .f32⟩
  | 12 => ⟨S_, .i32⟩
  | 13 => ⟨S128x1, .i32⟩
  | 14 => ⟨S128x1, .i1⟩
  | 15 => ⟨S_, .i32⟩
  | 16 => ⟨S128x1, .i32⟩
  | 17 => ⟨S128x1, .i32⟩
  | 18 => ⟨S128x1, .i32⟩
  | 19 => ⟨S128x1x1, .i32⟩
  | 20 => ⟨S1, .i32⟩
  | 21 => ⟨S_, .i32⟩
  | 22 => ⟨S128x1x1, .i32⟩
  | 23 => ⟨S128x1x1, .i1⟩
  | 24 => ⟨S1x1x1, .i32⟩
  | 25 => ⟨S128x1x1, .i32⟩
  | 26 => ⟨S128x1x1, .i1⟩
  | 27 => ⟨S128x1x1, .i1⟩
  | 28 => ⟨S_, .i1⟩
  | 29 => ⟨S128x1, .i1⟩
  | 30 => ⟨S128x1, .f32⟩
  | 31 => ⟨S_, .f32⟩
  | 32 => ⟨S128x1, .f32⟩
  | 33 => ⟨S128x1, .f32⟩
  | 34 => ⟨S128x1, .f32⟩
  | 35 => ⟨S128x1, .f32⟩
  | 36 => ⟨S128x1, .f32⟩
  | 37 => ⟨S128, .f32⟩
  | 38 => ⟨S128, .f32⟩
  | 39 => ⟨S128x11, .i32⟩
  | 40 => ⟨S128x1, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i32⟩
  | 48 => ⟨S128, .i32⟩
  | 49 => ⟨S128x1, .i32⟩
  | 50 => ⟨S1, .i32⟩
  | 51 => ⟨S_, .i32⟩
  | 52 => ⟨S128x1, .i32⟩
  | 53 => ⟨S128x1, .i1⟩
  | 54 => ⟨S1x1, .i32⟩
  | 55 => ⟨S128x1, .i32⟩
  | 56 => ⟨S128x1, .i1⟩
  | 57 => ⟨S128x1, .i1⟩
  | 58 => ⟨S_, .i1⟩
  | 59 => ⟨S128, .i1⟩
  | 60 => ⟨S128x1024, .f32⟩
  | 61 => ⟨S128x1024, .i1⟩
  | 62 => ⟨S_, .f32⟩
  | 63 => ⟨S128x1024, .f32⟩
  | 64 => ⟨S128x1024, .f32⟩
  | 65 => ⟨S128x1024, .f32⟩
  | 66 => ⟨S128x1024, .f32⟩
  | 67 => ⟨S128x32000, .f32⟩
  | 68 => ⟨S_, .f32⟩
  | 69 => ⟨S128x32000, .f32⟩
  | 70 => ⟨S128x32000, .f32⟩
  | 71 => ⟨S_, .f32⟩
  | 72 => ⟨S128, .f32⟩
  | 73 => ⟨S_, .f32⟩
  | 74 => ⟨S128, .f32⟩
  | 75 => ⟨S128, .f32⟩
  | 76 => ⟨S128x1, .f32⟩
  | 77 => ⟨S128x32000, .f32⟩
  | 78 => ⟨S128x32000, .f32⟩
  | 79 => ⟨S128x32000, .f32⟩
  | 80 => ⟨S_, .f32⟩
  | 81 => ⟨S128, .f32⟩
  | 82 => ⟨S128x1, .f32⟩
  | 83 => ⟨S128x32000, .f32⟩
  | 84 => ⟨S128x32000, .f32⟩
  | 85 => ⟨S1x128x1, .f32⟩
  | 86 => ⟨S128x1, .f32⟩
  | 87 => ⟨S128x250x128, .f32⟩
  | 88 => ⟨S128x128x250, .f32⟩
  | 89 => ⟨S_, .i32⟩
  | 90 => ⟨S_, .f32⟩
  | 91 => ⟨S128x128x256, .f32⟩
  | 92 => ⟨S128x1, .i32⟩
  | 93 => ⟨S_, .f32⟩
  | 94 => ⟨S128, .f32⟩
  | 95 => ⟨S128x1, .f32⟩
  | 96 => ⟨S128x32000, .f32⟩
  | 97 => ⟨S128x32000, .f32⟩
  | 98 => ⟨S128x32000, .f32⟩
  | 99 => ⟨S_, .f32⟩
  | 100 => ⟨S128, .f32⟩
  | 101 => ⟨S128x1, .f32⟩
  | 102 => ⟨S_, .i32⟩
  | 103 => ⟨S128x1, .i32⟩
  | 104 => ⟨S128x1, .i1⟩
  | 105 => ⟨S_, .i32⟩
  | 106 => ⟨S128x1, .i32⟩
  | 107 => ⟨S128x1, .i32⟩
  | 108 => ⟨S128x1, .i32⟩
  | 109 => ⟨S128x1x1, .i32⟩
  | 110 => ⟨S1, .i32⟩
  | 111 => ⟨S_, .i32⟩
  | 112 => ⟨S128x1x1, .i32⟩
  | 113 => ⟨S128x1x1, .i1⟩
  | 114 => ⟨S1x1x1, .i32⟩
  | 115 => ⟨S128x1x1, .i32⟩
  | 116 => ⟨S128x1x1, .i1⟩
  | 117 => ⟨S128x1x1, .i1⟩
  | 118 => ⟨S_, .i1⟩
  | 119 => ⟨S128x1, .i1⟩
  | 120 => ⟨S128x1, .f32⟩
  | 121 => ⟨S_, .f32⟩
  | 122 => ⟨S128x1, .f32⟩
  | 123 => ⟨S128x1, .f32⟩
  | 124 => ⟨S128x1, .f32⟩
  | 125 => ⟨S128x1, .f32⟩
  | 126 => ⟨S128x1, .f32⟩
  | 127 => ⟨S128, .f32⟩
  | _ => ⟨S128x16, .i32⟩

abbrev hbmTy0_8 (i : Nat) : BufTy := match i % 128 with
  | 0 => ⟨S128, .f32⟩
  | 1 => ⟨S128x12, .i32⟩
  | 2 => ⟨S128x1, .i32⟩
  | 3 => ⟨S128, .i32⟩
  | 4 => ⟨S_, .i32⟩
  | 5 => ⟨S128, .i32⟩
  | 6 => ⟨S128, .i1⟩
  | 7 => ⟨S_, .i32⟩
  | 8 => ⟨S128, .i32⟩
  | 9 => ⟨S128, .i32⟩
  | 10 => ⟨S128, .i32⟩
  | 11 => ⟨S128x1, .i32⟩
  | 12 => ⟨S1, .i32⟩
  | 13 => ⟨S_, .i32⟩
  | 14 => ⟨S128x1, .i32⟩
  | 15 => ⟨S128x1, .i1⟩
  | 16 => ⟨S1x1, .i32⟩
  | 17 => ⟨S128x1, .i32⟩
  | 18 => ⟨S128x1, .i1⟩
  | 19 => ⟨S128x1, .i1⟩
  | 20 => ⟨S_, .i1⟩
  | 21 => ⟨S128, .i1⟩
  | 22 => ⟨S128x1024, .f32⟩
  | 23 => ⟨S128x1024, .i1⟩
  | 24 => ⟨S_, .f32⟩
  | 25 => ⟨S128x1024, .f32⟩
  | 26 => ⟨S128x1024, .f32⟩
  | 27 => ⟨S128x1024, .f32⟩
  | 28 => ⟨S128x1024, .f32⟩
  | 29 => ⟨S128x32000, .f32⟩
  | 30 => ⟨S_, .f32⟩
  | 31 => ⟨S128x32000, .f32⟩
  | 32 => ⟨S128x32000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x32000, .f32⟩
  | 40 => ⟨S128x32000, .f32⟩
  | 41 => ⟨S128x32000, .f32⟩
  | 42 => ⟨S_, .f32⟩
  | 43 => ⟨S128, .f32⟩
  | 44 => ⟨S128x1, .f32⟩
  | 45 => ⟨S128x32000, .f32⟩
  | 46 => ⟨S128x32000, .f32⟩
  | 47 => ⟨S1x128x1, .f32⟩
  | 48 => ⟨S128x1, .f32⟩
  | 49 => ⟨S128x250x128, .f32⟩
  | 50 => ⟨S128x128x250, .f32⟩
  | 51 => ⟨S_, .i32⟩
  | 52 => ⟨S_, .f32⟩
  | 53 => ⟨S128x128x256, .f32⟩
  | 54 => ⟨S128x1, .i32⟩
  | 55 => ⟨S_, .f32⟩
  | 56 => ⟨S128, .f32⟩
  | 57 => ⟨S128x1, .f32⟩
  | 58 => ⟨S128x32000, .f32⟩
  | 59 => ⟨S128x32000, .f32⟩
  | 60 => ⟨S128x32000, .f32⟩
  | 61 => ⟨S_, .f32⟩
  | 62 => ⟨S128, .f32⟩
  | 63 => ⟨S128x1, .f32⟩
  | 64 => ⟨S_, .i32⟩
  | 65 => ⟨S128x1, .i32⟩
  | 66 => ⟨S128x1, .i1⟩
  | 67 => ⟨S_, .i32⟩
  | 68 => ⟨S128x1, .i32⟩
  | 69 => ⟨S128x1, .i32⟩
  | 70 => ⟨S128x1, .i32⟩
  | 71 => ⟨S128x1x1, .i32⟩
  | 72 => ⟨S1, .i32⟩
  | 73 => ⟨S_, .i32⟩
  | 74 => ⟨S128x1x1, .i32⟩
  | 75 => ⟨S128x1x1, .i1⟩
  | 76 => ⟨S1x1x1, .i32⟩
  | 77 => ⟨S128x1x1, .i32⟩
  | 78 => ⟨S128x1x1, .i1⟩
  | 79 => ⟨S128x1x1, .i1⟩
  | 80 => ⟨S_, .i1⟩
  | 81 => ⟨S128x1, .i1⟩
  | 82 => ⟨S128x1, .f32⟩
  | 83 => ⟨S_, .f32⟩
  | 84 => ⟨S128x1, .f32⟩
  | 85 => ⟨S128x1, .f32⟩
  | 86 => ⟨S128x1, .f32⟩
  | 87 => ⟨S128x1, .f32⟩
  | 88 => ⟨S128x1, .f32⟩
  | 89 => ⟨S128, .f32⟩
  | 90 => ⟨S128, .f32⟩
  | 91 => ⟨S128x13, .i32⟩
  | 92 => ⟨S128x1, .i32⟩
  | 93 => ⟨S128, .i32⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S1, .i32⟩
  | 103 => ⟨S_, .i32⟩
  | 104 => ⟨S128x1, .i32⟩
  | 105 => ⟨S128x1, .i1⟩
  | 106 => ⟨S1x1, .i32⟩
  | 107 => ⟨S128x1, .i32⟩
  | 108 => ⟨S128x1, .i1⟩
  | 109 => ⟨S128x1, .i1⟩
  | 110 => ⟨S_, .i1⟩
  | 111 => ⟨S128, .i1⟩
  | 112 => ⟨S128x1024, .f32⟩
  | 113 => ⟨S128x1024, .i1⟩
  | 114 => ⟨S_, .f32⟩
  | 115 => ⟨S128x1024, .f32⟩
  | 116 => ⟨S128x1024, .f32⟩
  | 117 => ⟨S128x1024, .f32⟩
  | 118 => ⟨S128x1024, .f32⟩
  | 119 => ⟨S128x32000, .f32⟩
  | 120 => ⟨S_, .f32⟩
  | 121 => ⟨S128x32000, .f32⟩
  | 122 => ⟨S128x32000, .f32⟩
  | 123 => ⟨S_, .f32⟩
  | 124 => ⟨S128, .f32⟩
  | 125 => ⟨S_, .f32⟩
  | 126 => ⟨S128, .f32⟩
  | 127 => ⟨S128, .f32⟩
  | _ => ⟨S128x16, .i32⟩

abbrev hbmTy0_9 (i : Nat) : BufTy := match i % 128 with
  | 0 => ⟨S128x1, .f32⟩
  | 1 => ⟨S128x32000, .f32⟩
  | 2 => ⟨S128x32000, .f32⟩
  | 3 => ⟨S128x32000, .f32⟩
  | 4 => ⟨S_, .f32⟩
  | 5 => ⟨S128, .f32⟩
  | 6 => ⟨S128x1, .f32⟩
  | 7 => ⟨S128x32000, .f32⟩
  | 8 => ⟨S128x32000, .f32⟩
  | 9 => ⟨S1x128x1, .f32⟩
  | 10 => ⟨S128x1, .f32⟩
  | 11 => ⟨S128x250x128, .f32⟩
  | 12 => ⟨S128x128x250, .f32⟩
  | 13 => ⟨S_, .i32⟩
  | 14 => ⟨S_, .f32⟩
  | 15 => ⟨S128x128x256, .f32⟩
  | 16 => ⟨S128x1, .i32⟩
  | 17 => ⟨S_, .f32⟩
  | 18 => ⟨S128, .f32⟩
  | 19 => ⟨S128x1, .f32⟩
  | 20 => ⟨S128x32000, .f32⟩
  | 21 => ⟨S128x32000, .f32⟩
  | 22 => ⟨S128x32000, .f32⟩
  | 23 => ⟨S_, .f32⟩
  | 24 => ⟨S128, .f32⟩
  | 25 => ⟨S128x1, .f32⟩
  | 26 => ⟨S_, .i32⟩
  | 27 => ⟨S128x1, .i32⟩
  | 28 => ⟨S128x1, .i1⟩
  | 29 => ⟨S_, .i32⟩
  | 30 => ⟨S128x1, .i32⟩
  | 31 => ⟨S128x1, .i32⟩
  | 32 => ⟨S128x1, .i32⟩
  | 33 => ⟨S128x1x1, .i32⟩
  | 34 => ⟨S1, .i32⟩
  | 35 => ⟨S_, .i32⟩
  | 36 => ⟨S128x1x1, .i32⟩
  | 37 => ⟨S128x1x1, .i1⟩
  | 38 => ⟨S1x1x1, .i32⟩
  | 39 => ⟨S128x1x1, .i32⟩
  | 40 => ⟨S128x1x1, .i1⟩
  | 41 => ⟨S128x1x1, .i1⟩
  | 42 => ⟨S_, .i1⟩
  | 43 => ⟨S128x1, .i1⟩
  | 44 => ⟨S128x1, .f32⟩
  | 45 => ⟨S_, .f32⟩
  | 46 => ⟨S128x1, .f32⟩
  | 47 => ⟨S128x1, .f32⟩
  | 48 => ⟨S128x1, .f32⟩
  | 49 => ⟨S128x1, .f32⟩
  | 50 => ⟨S128x1, .f32⟩
  | 51 => ⟨S128, .f32⟩
  | 52 => ⟨S128, .f32⟩
  | 53 => ⟨S128x14, .i32⟩
  | 54 => ⟨S128x1, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i32⟩
  | 62 => ⟨S128, .i32⟩
  | 63 => ⟨S128x1, .i32⟩
  | 64 => ⟨S1, .i32⟩
  | 65 => ⟨S_, .i32⟩
  | 66 => ⟨S128x1, .i32⟩
  | 67 => ⟨S128x1, .i1⟩
  | 68 => ⟨S1x1, .i32⟩
  | 69 => ⟨S128x1, .i32⟩
  | 70 => ⟨S128x1, .i1⟩
  | 71 => ⟨S128x1, .i1⟩
  | 72 => ⟨S_, .i1⟩
  | 73 => ⟨S128, .i1⟩
  | 74 => ⟨S128x1024, .f32⟩
  | 75 => ⟨S128x1024, .i1⟩
  | 76 => ⟨S_, .f32⟩
  | 77 => ⟨S128x1024, .f32⟩
  | 78 => ⟨S128x1024, .f32⟩
  | 79 => ⟨S128x1024, .f32⟩
  | 80 => ⟨S128x1024, .f32⟩
  | 81 => ⟨S128x32000, .f32⟩
  | 82 => ⟨S_, .f32⟩
  | 83 => ⟨S128x32000, .f32⟩
  | 84 => ⟨S128x32000, .f32⟩
  | 85 => ⟨S_, .f32⟩
  | 86 => ⟨S128, .f32⟩
  | 87 => ⟨S_, .f32⟩
  | 88 => ⟨S128, .f32⟩
  | 89 => ⟨S128, .f32⟩
  | 90 => ⟨S128x1, .f32⟩
  | 91 => ⟨S128x32000, .f32⟩
  | 92 => ⟨S128x32000, .f32⟩
  | 93 => ⟨S128x32000, .f32⟩
  | 94 => ⟨S_, .f32⟩
  | 95 => ⟨S128, .f32⟩
  | 96 => ⟨S128x1, .f32⟩
  | 97 => ⟨S128x32000, .f32⟩
  | 98 => ⟨S128x32000, .f32⟩
  | 99 => ⟨S1x128x1, .f32⟩
  | 100 => ⟨S128x1, .f32⟩
  | 101 => ⟨S128x250x128, .f32⟩
  | 102 => ⟨S128x128x250, .f32⟩
  | 103 => ⟨S_, .i32⟩
  | 104 => ⟨S_, .f32⟩
  | 105 => ⟨S128x128x256, .f32⟩
  | 106 => ⟨S128x1, .i32⟩
  | 107 => ⟨S_, .f32⟩
  | 108 => ⟨S128, .f32⟩
  | 109 => ⟨S128x1, .f32⟩
  | 110 => ⟨S128x32000, .f32⟩
  | 111 => ⟨S128x32000, .f32⟩
  | 112 => ⟨S128x32000, .f32⟩
  | 113 => ⟨S_, .f32⟩
  | 114 => ⟨S128, .f32⟩
  | 115 => ⟨S128x1, .f32⟩
  | 116 => ⟨S_, .i32⟩
  | 117 => ⟨S128x1, .i32⟩
  | 118 => ⟨S128x1, .i1⟩
  | 119 => ⟨S_, .i32⟩
  | 120 => ⟨S128x1, .i32⟩
  | 121 => ⟨S128x1, .i32⟩
  | 122 => ⟨S128x1, .i32⟩
  | 123 => ⟨S128x1x1, .i32⟩
  | 124 => ⟨S1, .i32⟩
  | 125 => ⟨S_, .i32⟩
  | 126 => ⟨S128x1x1, .i32⟩
  | 127 => ⟨S128x1x1, .i1⟩
  | _ => ⟨S128x16, .i32⟩

abbrev hbmTy0_10 (i : Nat) : BufTy := match i % 128 with
  | 0 => ⟨S1x1x1, .i32⟩
  | 1 => ⟨S128x1x1, .i32⟩
  | 2 => ⟨S128x1x1, .i1⟩
  | 3 => ⟨S128x1x1, .i1⟩
  | 4 => ⟨S_, .i1⟩
  | 5 => ⟨S128x1, .i1⟩
  | 6 => ⟨S128x1, .f32⟩
  | 7 => ⟨S_, .f32⟩
  | 8 => ⟨S128x1, .f32⟩
  | 9 => ⟨S128x1, .f32⟩
  | 10 => ⟨S128x1, .f32⟩
  | 11 => ⟨S128x1, .f32⟩
  | 12 => ⟨S128x1, .f32⟩
  | 13 => ⟨S128, .f32⟩
  | 14 => ⟨S128, .f32⟩
  | 15 => ⟨S128x15, .i32⟩
  | 16 => ⟨S128x1, .i32⟩
  | 17 => ⟨S128, .i32⟩
  | 18 => ⟨S_, .i32⟩
  | 19 => ⟨S128, .i32⟩
  | 20 => ⟨S128, .i1⟩
  | 21 => ⟨S_, .i32⟩
  | 22 => ⟨S128, .i32⟩
  | 23 => ⟨S128, .i32⟩
  | 24 => ⟨S128, .i32⟩
  | 25 => ⟨S128x1, .i32⟩
  | 26 => ⟨S1, .i32⟩
  | 27 => ⟨S_, .i32⟩
  | 28 => ⟨S128x1, .i32⟩
  | 29 => ⟨S128x1, .i1⟩
  | 30 => ⟨S1x1, .i32⟩
  | 31 => ⟨S128x1, .i32⟩
  | 32 => ⟨S128x1, .i1⟩
  | 33 => ⟨S128x1, .i1⟩
  | 34 => ⟨S_, .i1⟩
  | 35 => ⟨S128, .i1⟩
  | 36 => ⟨S128x1024, .f32⟩
  | 37 => ⟨S128x1024, .i1⟩
  | 38 => ⟨S_, .f32⟩
  | 39 => ⟨S128x1024, .f32⟩
  | 40 => ⟨S128x1024, .f32⟩
  | 41 => ⟨S128x1024, .f32⟩
  | 42 => ⟨S128x1024, .f32⟩
  | 43 => ⟨S128x32000, .f32⟩
  | 44 => ⟨S_, .f32⟩
  | 45 => ⟨S128x32000, .f32⟩
  | 46 => ⟨S128x32000, .f32⟩
  | 47 => ⟨S_, .f32⟩
  | 48 => ⟨S128, .f32⟩
  | 49 => ⟨S_, .f32⟩
  | 50 => ⟨S128, .f32⟩
  | 51 => ⟨S128, .f32⟩
  | 52 => ⟨S128x1, .f32⟩
  | 53 => ⟨S128x32000, .f32⟩
  | 54 => ⟨S128x32000, .f32⟩
  | 55 => ⟨S128x32000, .f32⟩
  | 56 => ⟨S_, .f32⟩
  | 57 => ⟨S128, .f32⟩
  | 58 => ⟨S128x1, .f32⟩
  | 59 => ⟨S128x32000, .f32⟩
  | 60 => ⟨S128x32000, .f32⟩
  | 61 => ⟨S1x128x1, .f32⟩
  | 62 => ⟨S128x1, .f32⟩
  | 63 => ⟨S128x250x128, .f32⟩
  | 64 => ⟨S128x128x250, .f32⟩
  | 65 => ⟨S_, .i32⟩
  | 66 => ⟨S_, .f32⟩
  | 67 => ⟨S128x128x256, .f32⟩
  | 68 => ⟨S128x1, .i32⟩
  | 69 => ⟨S_, .f32⟩
  | 70 => ⟨S128, .f32⟩
  | 71 => ⟨S128x1, .f32⟩
  | 72 => ⟨S128x32000, .f32⟩
  | 73 => ⟨S128x32000, .f32⟩
  | 74 => ⟨S128x32000, .f32⟩
  | 75 => ⟨S_, .f32⟩
  | 76 => ⟨S128, .f32⟩
  | 77 => ⟨S128x1, .f32⟩
  | 78 => ⟨S_, .i32⟩
  | 79 => ⟨S128x1, .i32⟩
  | 80 => ⟨S128x1, .i1⟩
  | 81 => ⟨S_, .i32⟩
  | 82 => ⟨S128x1, .i32⟩
  | 83 => ⟨S128x1, .i32⟩
  | 84 => ⟨S128x1, .i32⟩
  | 85 => ⟨S128x1x1, .i32⟩
  | 86 => ⟨S1, .i32⟩
  | 87 => ⟨S_, .i32⟩
  | 88 => ⟨S128x1x1, .i32⟩
  | 89 => ⟨S128x1x1, .i1⟩
  | 90 => ⟨S1x1x1, .i32⟩
  | 91 => ⟨S128x1x1, .i32⟩
  | 92 => ⟨S128x1x1, .i1⟩
  | 93 => ⟨S128x1x1, .i1⟩
  | 94 => ⟨S_, .i1⟩
  | 95 => ⟨S128x1, .i1⟩
  | 96 => ⟨S128x1, .f32⟩
  | 97 => ⟨S_, .f32⟩
  | 98 => ⟨S128x1, .f32⟩
  | 99 => ⟨S128x1, .f32⟩
  | 100 => ⟨S128x1, .f32⟩
  | 101 => ⟨S128x1, .f32⟩
  | 102 => ⟨S128x1, .f32⟩
  | 103 => ⟨S128, .f32⟩
  | 104 => ⟨S128, .f32⟩
  | 105 => ⟨S128x16, .i32⟩
  | 106 => ⟨S128x1, .i32⟩
  | 107 => ⟨S128, .i32⟩
  | 108 => ⟨S_, .i32⟩
  | 109 => ⟨S128, .i32⟩
  | 110 => ⟨S128, .i1⟩
  | 111 => ⟨S_, .i32⟩
  | 112 => ⟨S128, .i32⟩
  | 113 => ⟨S128, .i32⟩
  | 114 => ⟨S128, .i32⟩
  | 115 => ⟨S128x1, .i32⟩
  | 116 => ⟨S1, .i32⟩
  | 117 => ⟨S_, .i32⟩
  | 118 => ⟨S128x1, .i32⟩
  | 119 => ⟨S128x1, .i1⟩
  | 120 => ⟨S1x1, .i32⟩
  | 121 => ⟨S128x1, .i32⟩
  | 122 => ⟨S128x1, .i1⟩
  | 123 => ⟨S128x1, .i1⟩
  | 124 => ⟨S_, .i1⟩
  | 125 => ⟨S128, .i1⟩
  | 126 => ⟨S128x1024, .f32⟩
  | 127 => ⟨S128x1024, .i1⟩
  | _ => ⟨S128x16, .i32⟩

abbrev hbmTy0_11 (i : Nat) : BufTy := match i % 128 with
  | 0 => ⟨S_, .f32⟩
  | 1 => ⟨S128x1024, .f32⟩
  | 2 => ⟨S128x1024, .f32⟩
  | 3 => ⟨S128x1024, .f32⟩
  | 4 => ⟨S128x1024, .f32⟩
  | 5 => ⟨S128x32000, .f32⟩
  | 6 => ⟨S_, .f32⟩
  | 7 => ⟨S128x32000, .f32⟩
  | 8 => ⟨S128x32000, .f32⟩
  | 9 => ⟨S_, .f32⟩
  | 10 => ⟨S128, .f32⟩
  | 11 => ⟨S_, .f32⟩
  | 12 => ⟨S128, .f32⟩
  | 13 => ⟨S128, .f32⟩
  | 14 => ⟨S128x1, .f32⟩
  | 15 => ⟨S128x32000, .f32⟩
  | 16 => ⟨S128x32000, .f32⟩
  | 17 => ⟨S128x32000, .f32⟩
  | 18 => ⟨S_, .f32⟩
  | 19 => ⟨S128, .f32⟩
  | 20 => ⟨S128x1, .f32⟩
  | 21 => ⟨S128x32000, .f32⟩
  | 22 => ⟨S128x32000, .f32⟩
  | 23 => ⟨S1x128x1, .f32⟩
  | 24 => ⟨S128x1, .f32⟩
  | 25 => ⟨S128x250x128, .f32⟩
  | 26 => ⟨S128x128x250, .f32⟩
  | 27 => ⟨S_, .i32⟩
  | 28 => ⟨S_, .f32⟩
  | 29 => ⟨S128x128x256, .f32⟩
  | 30 => ⟨S128x1, .i32⟩
  | 31 => ⟨S_, .f32⟩
  | 32 => ⟨S128, .f32⟩
  | 33 => ⟨S128x1, .f32⟩
  | 34 => ⟨S128x32000, .f32⟩
  | 35 => ⟨S128x32000, .f32⟩
  | 36 => ⟨S128x32000, .f32⟩
  | 37 => ⟨S_, .f32⟩
  | 38 => ⟨S128, .f32⟩
  | 39 => ⟨S128x1, .f32⟩
  | 40 => ⟨S_, .i32⟩
  | 41 => ⟨S128x1, .i32⟩
  | 42 => ⟨S128x1, .i1⟩
  | 43 => ⟨S_, .i32⟩
  | 44 => ⟨S128x1, .i32⟩
  | 45 => ⟨S128x1, .i32⟩
  | 46 => ⟨S128x1, .i32⟩
  | 47 => ⟨S128x1x1, .i32⟩
  | 48 => ⟨S1, .i32⟩
  | 49 => ⟨S_, .i32⟩
  | 50 => ⟨S128x1x1, .i32⟩
  | 51 => ⟨S128x1x1, .i1⟩
  | 52 => ⟨S1x1x1, .i32⟩
  | 53 => ⟨S128x1x1, .i32⟩
  | 54 => ⟨S128x1x1, .i1⟩
  | 55 => ⟨S128x1x1, .i1⟩
  | 56 => ⟨S_, .i1⟩
  | 57 => ⟨S128x1, .i1⟩
  | 58 => ⟨S128x1, .f32⟩
  | 59 => ⟨S_, .f32⟩
  | 60 => ⟨S128x1, .f32⟩
  | 61 => ⟨S128x1, .f32⟩
  | 62 => ⟨S128x1, .f32⟩
  | 63 => ⟨S128x1, .f32⟩
  | 64 => ⟨S128x1, .f32⟩
  | 65 => ⟨S128, .f32⟩
  | 66 => ⟨S128, .f32⟩
  | 67 => ⟨S128x17, .i32⟩
  | _ => ⟨S128x16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S128x16, .i32⟩

abbrev vmemTy0_0 (i : Nat) : BufTy := match i % 128 with
  | 0 => ⟨S128x1024, .f32⟩
  | 1 => ⟨S1024x1024, .f32⟩
  | 2 => ⟨S128x1024, .f32⟩
  | 3 => ⟨S128x1024, .f32⟩
  | 4 => ⟨S1024x3200, .f32⟩
  | 5 => ⟨S1024x3200, .f32⟩
  | 6 => ⟨S128x3200, .f32⟩
  | 7 => ⟨S128x3200, .f32⟩
  | 8 => ⟨S128x128x256, .f32⟩
  | 9 => ⟨S128x1, .f32⟩
  | 10 => ⟨S128x1, .i32⟩
  | 11 => ⟨S128x128x256, .f32⟩
  | 12 => ⟨S128x256, .f32⟩
  | 13 => ⟨S128x256, .f32⟩
  | 14 => ⟨S128x1024, .f32⟩
  | 15 => ⟨S1024x1024, .f32⟩
  | 16 => ⟨S128x1024, .f32⟩
  | 17 => ⟨S128x1024, .f32⟩
  | 18 => ⟨S1024x3200, .f32⟩
  | 19 => ⟨S1024x3200, .f32⟩
  | 20 => ⟨S128x3200, .f32⟩
  | 21 => ⟨S128x3200, .f32⟩
  | 22 => ⟨S128x128x256, .f32⟩
  | 23 => ⟨S128x1, .f32⟩
  | 24 => ⟨S128x1, .i32⟩
  | 25 => ⟨S128x128x256, .f32⟩
  | 26 => ⟨S128x256, .f32⟩
  | 27 => ⟨S128x256, .f32⟩
  | 28 => ⟨S128x1024, .f32⟩
  | 29 => ⟨S1024x1024, .f32⟩
  | 30 => ⟨S128x1024, .f32⟩
  | 31 => ⟨S128x1024, .f32⟩
  | 32 => ⟨S1024x3200, .f32⟩
  | 33 => ⟨S1024x3200, .f32⟩
  | 34 => ⟨S128x3200, .f32⟩
  | 35 => ⟨S128x3200, .f32⟩
  | 36 => ⟨S128x128x256, .f32⟩
  | 37 => ⟨S128x1, .f32⟩
  | 38 => ⟨S128x1, .i32⟩
  | 39 => ⟨S128x128x256, .f32⟩
  | 40 => ⟨S128x256, .f32⟩
  | 41 => ⟨S128x256, .f32⟩
  | 42 => ⟨S128x1024, .f32⟩
  | 43 => ⟨S1024x1024, .f32⟩
  | 44 => ⟨S128x1024, .f32⟩
  | 45 => ⟨S128x1024, .f32⟩
  | 46 => ⟨S1024x3200, .f32⟩
  | 47 => ⟨S1024x3200, .f32⟩
  | 48 => ⟨S128x3200, .f32⟩
  | 49 => ⟨S128x3200, .f32⟩
  | 50 => ⟨S128x128x256, .f32⟩
  | 51 => ⟨S128x1, .f32⟩
  | 52 => ⟨S128x1, .i32⟩
  | 53 => ⟨S128x128x256, .f32⟩
  | 54 => ⟨S128x256, .f32⟩
  | 55 => ⟨S128x256, .f32⟩
  | 56 => ⟨S128x1024, .f32⟩
  | 57 => ⟨S1024x1024, .f32⟩
  | 58 => ⟨S128x1024, .f32⟩
  | 59 => ⟨S128x1024, .f32⟩
  | 60 => ⟨S1024x3200, .f32⟩
  | 61 => ⟨S1024x3200, .f32⟩
  | 62 => ⟨S128x3200, .f32⟩
  | 63 => ⟨S128x3200, .f32⟩
  | 64 => ⟨S128x128x256, .f32⟩
  | 65 => ⟨S128x1, .f32⟩
  | 66 => ⟨S128x1, .i32⟩
  | 67 => ⟨S128x128x256, .f32⟩
  | 68 => ⟨S128x256, .f32⟩
  | 69 => ⟨S128x256, .f32⟩
  | 70 => ⟨S128x1024, .f32⟩
  | 71 => ⟨S1024x1024, .f32⟩
  | 72 => ⟨S128x1024, .f32⟩
  | 73 => ⟨S128x1024, .f32⟩
  | 74 => ⟨S1024x3200, .f32⟩
  | 75 => ⟨S1024x3200, .f32⟩
  | 76 => ⟨S128x3200, .f32⟩
  | 77 => ⟨S128x3200, .f32⟩
  | 78 => ⟨S128x128x256, .f32⟩
  | 79 => ⟨S128x1, .f32⟩
  | 80 => ⟨S128x1, .i32⟩
  | 81 => ⟨S128x128x256, .f32⟩
  | 82 => ⟨S128x256, .f32⟩
  | 83 => ⟨S128x256, .f32⟩
  | 84 => ⟨S128x1024, .f32⟩
  | 85 => ⟨S1024x1024, .f32⟩
  | 86 => ⟨S128x1024, .f32⟩
  | 87 => ⟨S128x1024, .f32⟩
  | 88 => ⟨S1024x3200, .f32⟩
  | 89 => ⟨S1024x3200, .f32⟩
  | 90 => ⟨S128x3200, .f32⟩
  | 91 => ⟨S128x3200, .f32⟩
  | 92 => ⟨S128x128x256, .f32⟩
  | 93 => ⟨S128x1, .f32⟩
  | 94 => ⟨S128x1, .i32⟩
  | 95 => ⟨S128x128x256, .f32⟩
  | 96 => ⟨S128x256, .f32⟩
  | 97 => ⟨S128x256, .f32⟩
  | 98 => ⟨S128x1024, .f32⟩
  | 99 => ⟨S1024x1024, .f32⟩
  | 100 => ⟨S128x1024, .f32⟩
  | 101 => ⟨S128x1024, .f32⟩
  | 102 => ⟨S1024x3200, .f32⟩
  | 103 => ⟨S1024x3200, .f32⟩
  | 104 => ⟨S128x3200, .f32⟩
  | 105 => ⟨S128x3200, .f32⟩
  | 106 => ⟨S128x128x256, .f32⟩
  | 107 => ⟨S128x1, .f32⟩
  | 108 => ⟨S128x1, .i32⟩
  | 109 => ⟨S128x128x256, .f32⟩
  | 110 => ⟨S128x256, .f32⟩
  | 111 => ⟨S128x256, .f32⟩
  | 112 => ⟨S128x1024, .f32⟩
  | 113 => ⟨S1024x1024, .f32⟩
  | 114 => ⟨S128x1024, .f32⟩
  | 115 => ⟨S128x1024, .f32⟩
  | 116 => ⟨S1024x3200, .f32⟩
  | 117 => ⟨S1024x3200, .f32⟩
  | 118 => ⟨S128x3200, .f32⟩
  | 119 => ⟨S128x3200, .f32⟩
  | 120 => ⟨S128x128x256, .f32⟩
  | 121 => ⟨S128x1, .f32⟩
  | 122 => ⟨S128x1, .i32⟩
  | 123 => ⟨S128x128x256, .f32⟩
  | 124 => ⟨S128x256, .f32⟩
  | 125 => ⟨S128x256, .f32⟩
  | 126 => ⟨S128x1024, .f32⟩
  | 127 => ⟨S1024x1024, .f32⟩
  | _ => ⟨S128x16, .i32⟩

abbrev vmemTy0_1 (i : Nat) : BufTy := match i % 128 with
  | 0 => ⟨S128x1024, .f32⟩
  | 1 => ⟨S128x1024, .f32⟩
  | 2 => ⟨S1024x3200, .f32⟩
  | 3 => ⟨S1024x3200, .f32⟩
  | 4 => ⟨S128x3200, .f32⟩
  | 5 => ⟨S128x3200, .f32⟩
  | 6 => ⟨S128x128x256, .f32⟩
  | 7 => ⟨S128x1, .f32⟩
  | 8 => ⟨S128x1, .i32⟩
  | 9 => ⟨S128x128x256, .f32⟩
  | 10 => ⟨S128x256, .f32⟩
  | 11 => ⟨S128x256, .f32⟩
  | 12 => ⟨S128x1024, .f32⟩
  | 13 => ⟨S1024x1024, .f32⟩
  | 14 => ⟨S128x1024, .f32⟩
  | 15 => ⟨S128x1024, .f32⟩
  | 16 => ⟨S1024x3200, .f32⟩
  | 17 => ⟨S1024x3200, .f32⟩
  | 18 => ⟨S128x3200, .f32⟩
  | 19 => ⟨S128x3200, .f32⟩
  | 20 => ⟨S128x128x256, .f32⟩
  | 21 => ⟨S128x1, .f32⟩
  | 22 => ⟨S128x1, .i32⟩
  | 23 => ⟨S128x128x256, .f32⟩
  | 24 => ⟨S128x256, .f32⟩
  | 25 => ⟨S128x256, .f32⟩
  | 26 => ⟨S128x1024, .f32⟩
  | 27 => ⟨S1024x1024, .f32⟩
  | 28 => ⟨S128x1024, .f32⟩
  | 29 => ⟨S128x1024, .f32⟩
  | 30 => ⟨S1024x3200, .f32⟩
  | 31 => ⟨S1024x3200, .f32⟩
  | 32 => ⟨S128x3200, .f32⟩
  | 33 => ⟨S128x3200, .f32⟩
  | 34 => ⟨S128x128x256, .f32⟩
  | 35 => ⟨S128x1, .f32⟩
  | 36 => ⟨S128x1, .i32⟩
  | 37 => ⟨S128x128x256, .f32⟩
  | 38 => ⟨S128x256, .f32⟩
  | 39 => ⟨S128x256, .f32⟩
  | 40 => ⟨S128x1024, .f32⟩
  | 41 => ⟨S1024x1024, .f32⟩
  | 42 => ⟨S128x1024, .f32⟩
  | 43 => ⟨S128x1024, .f32⟩
  | 44 => ⟨S1024x3200, .f32⟩
  | 45 => ⟨S1024x3200, .f32⟩
  | 46 => ⟨S128x3200, .f32⟩
  | 47 => ⟨S128x3200, .f32⟩
  | 48 => ⟨S128x128x256, .f32⟩
  | 49 => ⟨S128x1, .f32⟩
  | 50 => ⟨S128x1, .i32⟩
  | 51 => ⟨S128x128x256, .f32⟩
  | 52 => ⟨S128x256, .f32⟩
  | 53 => ⟨S128x256, .f32⟩
  | 54 => ⟨S128x1024, .f32⟩
  | 55 => ⟨S1024x1024, .f32⟩
  | 56 => ⟨S128x1024, .f32⟩
  | 57 => ⟨S128x1024, .f32⟩
  | 58 => ⟨S1024x3200, .f32⟩
  | 59 => ⟨S1024x3200, .f32⟩
  | 60 => ⟨S128x3200, .f32⟩
  | 61 => ⟨S128x3200, .f32⟩
  | 62 => ⟨S128x128x256, .f32⟩
  | 63 => ⟨S128x1, .f32⟩
  | 64 => ⟨S128x1, .i32⟩
  | 65 => ⟨S128x128x256, .f32⟩
  | 66 => ⟨S128x256, .f32⟩
  | 67 => ⟨S128x256, .f32⟩
  | 68 => ⟨S128x1024, .f32⟩
  | 69 => ⟨S1024x1024, .f32⟩
  | 70 => ⟨S128x1024, .f32⟩
  | 71 => ⟨S128x1024, .f32⟩
  | 72 => ⟨S1024x3200, .f32⟩
  | 73 => ⟨S1024x3200, .f32⟩
  | 74 => ⟨S128x3200, .f32⟩
  | 75 => ⟨S128x3200, .f32⟩
  | 76 => ⟨S128x128x256, .f32⟩
  | 77 => ⟨S128x1, .f32⟩
  | 78 => ⟨S128x1, .i32⟩
  | 79 => ⟨S128x128x256, .f32⟩
  | 80 => ⟨S128x256, .f32⟩
  | 81 => ⟨S128x256, .f32⟩
  | 82 => ⟨S128x1024, .f32⟩
  | 83 => ⟨S1024x1024, .f32⟩
  | 84 => ⟨S128x1024, .f32⟩
  | 85 => ⟨S128x1024, .f32⟩
  | 86 => ⟨S1024x3200, .f32⟩
  | 87 => ⟨S1024x3200, .f32⟩
  | 88 => ⟨S128x3200, .f32⟩
  | 89 => ⟨S128x3200, .f32⟩
  | 90 => ⟨S128x128x256, .f32⟩
  | 91 => ⟨S128x1, .f32⟩
  | 92 => ⟨S128x1, .i32⟩
  | 93 => ⟨S128x128x256, .f32⟩
  | 94 => ⟨S128x256, .f32⟩
  | 95 => ⟨S128x256, .f32⟩
  | _ => ⟨S128x16, .i32⟩

abbrev vmemTy (i : Nat) : BufTy := match i / 128 with
  | 0 => vmemTy0_0 i
  | 1 => vmemTy0_1 i
  | _ => ⟨S128x16, .i32⟩

abbrev bufTy : (tb : Table) → Fin (tcTables nBuf tb) → BufTy
  | .hbm, ⟨i, _⟩ => hbmTy i
  | .local _ .vmem, ⟨i, _⟩ => vmemTy i
  | _, _ => ⟨S128x16, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 176 → Bool
  | ⟨i, _⟩ => dmaSemScopedAt i

abbrev sig : RefSig :=
  ofTc nBuf bufTy 0 176 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_cst_2 : Ref sig .tc := ⟨.hbm, 64, rfl⟩
abbrev main_v11 : Ref sig .tc := ⟨.hbm, 65, rfl⟩
abbrev main_v12 : Ref sig .tc := ⟨.hbm, 66, rfl⟩
abbrev main_cst_3 : Ref sig .tc := ⟨.hbm, 67, rfl⟩
abbrev main_v13 : Ref sig .tc := ⟨.hbm, 68, rfl⟩
abbrev main_cst_4 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_5 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_c_6 : Ref sig .tc := ⟨.hbm, 85, rfl⟩
abbrev main_call2_v0 : Ref sig .tc := ⟨.hbm, 86, rfl⟩
abbrev main_v28 : Ref sig .tc := ⟨.hbm, 87, rfl⟩
abbrev main_v29 : Ref sig .tc := ⟨.hbm, 88, rfl⟩
abbrev main_cst_7 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_cst_8 : Ref sig .tc := ⟨.hbm, 95, rfl⟩
abbrev main_v35 : Ref sig .tc := ⟨.hbm, 96, rfl⟩
abbrev main_v36 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_cst : Ref sig .tc := ⟨.hbm, 117, rfl⟩
abbrev main_call3_v14 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_call4_c : Ref sig .tc := ⟨.hbm, 128, rfl⟩
abbrev main_call4_v0 : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_c_1 : Ref sig .tc := ⟨.hbm, 136, rfl⟩
abbrev main_call4_c_2 : Ref sig .tc := ⟨.hbm, 137, rfl⟩
abbrev main_call4_v6 : Ref sig .tc := ⟨.hbm, 138, rfl⟩
abbrev main_call4_v7 : Ref sig .tc := ⟨.hbm, 139, rfl⟩
abbrev main_call4_v8 : Ref sig .tc := ⟨.hbm, 140, rfl⟩
abbrev main_call4_v9 : Ref sig .tc := ⟨.hbm, 141, rfl⟩
abbrev main_call4_v10 : Ref sig .tc := ⟨.hbm, 142, rfl⟩
abbrev main_call4_v11 : Ref sig .tc := ⟨.hbm, 143, rfl⟩
abbrev main_call4_c_3 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_call4_cst : Ref sig .tc := ⟨.hbm, 148, rfl⟩
abbrev main_call4_v15 : Ref sig .tc := ⟨.hbm, 149, rfl⟩
abbrev main_v46 : Ref sig .tc := ⟨.hbm, 150, rfl⟩
abbrev main_v47 : Ref sig .tc := ⟨.hbm, 151, rfl⟩
abbrev main_v48 : Ref sig .tc := ⟨.hbm, 152, rfl⟩
abbrev main_v49 : Ref sig .tc := ⟨.hbm, 153, rfl⟩
abbrev main_cst_9 : Ref sig .tc := ⟨.hbm, 154, rfl⟩
abbrev main_v50 : Ref sig .tc := ⟨.hbm, 155, rfl⟩
abbrev main_v51 : Ref sig .tc := ⟨.hbm, 156, rfl⟩
abbrev main_cst_10 : Ref sig .tc := ⟨.hbm, 157, rfl⟩
abbrev main_v52 : Ref sig .tc := ⟨.hbm, 158, rfl⟩
abbrev main_cst_11 : Ref sig .tc := ⟨.hbm, 159, rfl⟩
abbrev main_v53 : Ref sig .tc := ⟨.hbm, 160, rfl⟩
abbrev main_v54 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_cst_12 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_c_13 : Ref sig .tc := ⟨.hbm, 175, rfl⟩
abbrev main_call5_v0 : Ref sig .tc := ⟨.hbm, 176, rfl⟩
abbrev main_v67 : Ref sig .tc := ⟨.hbm, 177, rfl⟩
abbrev main_v68 : Ref sig .tc := ⟨.hbm, 178, rfl⟩
abbrev main_cst_14 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_cst_15 : Ref sig .tc := ⟨.hbm, 185, rfl⟩
abbrev main_v74 : Ref sig .tc := ⟨.hbm, 186, rfl⟩
abbrev main_v75 : Ref sig .tc := ⟨.hbm, 187, rfl⟩
abbrev main_call6_c : Ref sig .tc := ⟨.hbm, 188, rfl⟩
abbrev main_call6_v0 : Ref sig .tc := ⟨.hbm, 189, rfl⟩
abbrev main_call6_v1 : Ref sig .tc := ⟨.hbm, 190, rfl⟩
abbrev main_call6_c_0 : Ref sig .tc := ⟨.hbm, 191, rfl⟩
abbrev main_call6_v2 : Ref sig .tc := ⟨.hbm, 192, rfl⟩
abbrev main_call6_v3 : Ref sig .tc := ⟨.hbm, 193, rfl⟩
abbrev main_call6_v4 : Ref sig .tc := ⟨.hbm, 194, rfl⟩
abbrev main_call6_v5 : Ref sig .tc := ⟨.hbm, 195, rfl⟩
abbrev main_call6_c_1 : Ref sig .tc := ⟨.hbm, 196, rfl⟩
abbrev main_call6_c_2 : Ref sig .tc := ⟨.hbm, 197, rfl⟩
abbrev main_call6_v6 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_c_3 : Ref sig .tc := ⟨.hbm, 204, rfl⟩
abbrev main_call6_v12 : Ref sig .tc := ⟨.hbm, 205, rfl⟩
abbrev main_call6_v13 : Ref sig .tc := ⟨.hbm, 206, rfl⟩
abbrev main_call6_cst : Ref sig .tc := ⟨.hbm, 207, rfl⟩
abbrev main_call6_v14 : Ref sig .tc := ⟨.hbm, 208, rfl⟩
abbrev main_v76 : Ref sig .tc := ⟨.hbm, 209, rfl⟩
abbrev main_v77 : Ref sig .tc := ⟨.hbm, 210, rfl⟩
abbrev main_v78 : Ref sig .tc := ⟨.hbm, 211, rfl⟩
abbrev main_v79 : Ref sig .tc := ⟨.hbm, 212, rfl⟩
abbrev main_v80 : Ref sig .tc := ⟨.hbm, 213, rfl⟩
abbrev main_v81 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_call7_c : Ref sig .tc := ⟨.hbm, 218, rfl⟩
abbrev main_call7_v0 : Ref sig .tc := ⟨.hbm, 219, rfl⟩
abbrev main_call7_v1 : Ref sig .tc := ⟨.hbm, 220, rfl⟩
abbrev main_call7_c_0 : Ref sig .tc := ⟨.hbm, 221, rfl⟩
abbrev main_call7_v2 : Ref sig .tc := ⟨.hbm, 222, rfl⟩
abbrev main_call7_v3 : Ref sig .tc := ⟨.hbm, 223, rfl⟩
abbrev main_call7_v4 : Ref sig .tc := ⟨.hbm, 224, rfl⟩
abbrev main_call7_v5 : Ref sig .tc := ⟨.hbm, 225, rfl⟩
abbrev main_call7_c_1 : Ref sig .tc := ⟨.hbm, 226, rfl⟩
abbrev main_call7_c_2 : Ref sig .tc := ⟨.hbm, 227, rfl⟩
abbrev main_call7_v6 : Ref sig .tc := ⟨.hbm, 228, rfl⟩
abbrev main_call7_v7 : Ref sig .tc := ⟨.hbm, 229, rfl⟩
abbrev main_call7_v8 : Ref sig .tc := ⟨.hbm, 230, rfl⟩
abbrev main_call7_v9 : Ref sig .tc := ⟨.hbm, 231, rfl⟩
abbrev main_call7_v10 : Ref sig .tc := ⟨.hbm, 232, rfl⟩
abbrev main_call7_v11 : Ref sig .tc := ⟨.hbm, 233, rfl⟩
abbrev main_call7_c_3 : Ref sig .tc := ⟨.hbm, 234, rfl⟩
abbrev main_call7_v12 : Ref sig .tc := ⟨.hbm, 235, rfl⟩
abbrev main_call7_v13 : Ref sig .tc := ⟨.hbm, 236, rfl⟩
abbrev main_call7_v14 : Ref sig .tc := ⟨.hbm, 237, rfl⟩
abbrev main_call7_cst : Ref sig .tc := ⟨.hbm, 238, rfl⟩
abbrev main_call7_v15 : Ref sig .tc := ⟨.hbm, 239, rfl⟩
abbrev main_v85 : Ref sig .tc := ⟨.hbm, 240, rfl⟩
abbrev main_v86 : Ref sig .tc := ⟨.hbm, 241, rfl⟩
abbrev main_v87 : Ref sig .tc := ⟨.hbm, 242, rfl⟩
abbrev main_v88 : Ref sig .tc := ⟨.hbm, 243, rfl⟩
abbrev main_cst_16 : Ref sig .tc := ⟨.hbm, 244, rfl⟩
abbrev main_v89 : Ref sig .tc := ⟨.hbm, 245, rfl⟩
abbrev main_v90 : Ref sig .tc := ⟨.hbm, 246, rfl⟩
abbrev main_cst_17 : Ref sig .tc := ⟨.hbm, 247, rfl⟩
abbrev main_v91 : Ref sig .tc := ⟨.hbm, 248, rfl⟩
abbrev main_cst_18 : Ref sig .tc := ⟨.hbm, 249, rfl⟩
abbrev main_v92 : Ref sig .tc := ⟨.hbm, 250, rfl⟩
abbrev main_v93 : Ref sig .tc := ⟨.hbm, 251, rfl⟩
abbrev main_v94 : Ref sig .tc := ⟨.hbm, 252, rfl⟩
abbrev main_v95 : Ref sig .tc := ⟨.hbm, 253, rfl⟩
abbrev main_v96 : Ref sig .tc := ⟨.hbm, 254, rfl⟩
abbrev main_v97 : Ref sig .tc := ⟨.hbm, 255, rfl⟩
abbrev main_cst_19 : Ref sig .tc := ⟨.hbm, 256, rfl⟩
abbrev main_v98 : Ref sig .tc := ⟨.hbm, 257, rfl⟩
abbrev main_v99 : Ref sig .tc := ⟨.hbm, 258, rfl⟩
abbrev main_v100 : Ref sig .tc := ⟨.hbm, 259, rfl⟩
abbrev main_v101 : Ref sig .tc := ⟨.hbm, 260, rfl⟩
abbrev main_v102 : Ref sig .tc := ⟨.hbm, 261, rfl⟩
abbrev main_v103 : Ref sig .tc := ⟨.hbm, 262, rfl⟩
abbrev main_v104 : Ref sig .tc := ⟨.hbm, 263, rfl⟩
abbrev main_v105 : Ref sig .tc := ⟨.hbm, 264, rfl⟩
abbrev main_c_20 : Ref sig .tc := ⟨.hbm, 265, rfl⟩
abbrev main_call8_v0 : Ref sig .tc := ⟨.hbm, 266, rfl⟩
abbrev main_v106 : Ref sig .tc := ⟨.hbm, 267, rfl⟩
abbrev main_v107 : Ref sig .tc := ⟨.hbm, 268, rfl⟩
abbrev main_cst_21 : Ref sig .tc := ⟨.hbm, 269, rfl⟩
abbrev main_v108 : Ref sig .tc := ⟨.hbm, 270, rfl⟩
abbrev main_v109 : Ref sig .tc := ⟨.hbm, 271, rfl⟩
abbrev main_v110 : Ref sig .tc := ⟨.hbm, 272, rfl⟩
abbrev main_v111 : Ref sig .tc := ⟨.hbm, 273, rfl⟩
abbrev main_v112 : Ref sig .tc := ⟨.hbm, 274, rfl⟩
abbrev main_cst_22 : Ref sig .tc := ⟨.hbm, 275, rfl⟩
abbrev main_v113 : Ref sig .tc := ⟨.hbm, 276, rfl⟩
abbrev main_v114 : Ref sig .tc := ⟨.hbm, 277, rfl⟩
abbrev main_call9_c : Ref sig .tc := ⟨.hbm, 278, rfl⟩
abbrev main_call9_v0 : Ref sig .tc := ⟨.hbm, 279, rfl⟩
abbrev main_call9_v1 : Ref sig .tc := ⟨.hbm, 280, rfl⟩
abbrev main_call9_c_0 : Ref sig .tc := ⟨.hbm, 281, rfl⟩
abbrev main_call9_v2 : Ref sig .tc := ⟨.hbm, 282, rfl⟩
abbrev main_call9_v3 : Ref sig .tc := ⟨.hbm, 283, rfl⟩
abbrev main_call9_v4 : Ref sig .tc := ⟨.hbm, 284, rfl⟩
abbrev main_call9_v5 : Ref sig .tc := ⟨.hbm, 285, rfl⟩
abbrev main_call9_c_1 : Ref sig .tc := ⟨.hbm, 286, rfl⟩
abbrev main_call9_c_2 : Ref sig .tc := ⟨.hbm, 287, rfl⟩
abbrev main_call9_v6 : Ref sig .tc := ⟨.hbm, 288, rfl⟩
abbrev main_call9_v7 : Ref sig .tc := ⟨.hbm, 289, rfl⟩
abbrev main_call9_v8 : Ref sig .tc := ⟨.hbm, 290, rfl⟩
abbrev main_call9_v9 : Ref sig .tc := ⟨.hbm, 291, rfl⟩
abbrev main_call9_v10 : Ref sig .tc := ⟨.hbm, 292, rfl⟩
abbrev main_call9_v11 : Ref sig .tc := ⟨.hbm, 293, rfl⟩
abbrev main_call9_c_3 : Ref sig .tc := ⟨.hbm, 294, rfl⟩
abbrev main_call9_v12 : Ref sig .tc := ⟨.hbm, 295, rfl⟩
abbrev main_call9_v13 : Ref sig .tc := ⟨.hbm, 296, rfl⟩
abbrev main_call9_cst : Ref sig .tc := ⟨.hbm, 297, rfl⟩
abbrev main_call9_v14 : Ref sig .tc := ⟨.hbm, 298, rfl⟩
abbrev main_v115 : Ref sig .tc := ⟨.hbm, 299, rfl⟩
abbrev main_v116 : Ref sig .tc := ⟨.hbm, 300, rfl⟩
abbrev main_v117 : Ref sig .tc := ⟨.hbm, 301, rfl⟩
abbrev main_v118 : Ref sig .tc := ⟨.hbm, 302, rfl⟩
abbrev main_v119 : Ref sig .tc := ⟨.hbm, 303, rfl⟩
abbrev main_v120 : Ref sig .tc := ⟨.hbm, 304, rfl⟩
abbrev main_v121 : Ref sig .tc := ⟨.hbm, 305, rfl⟩
abbrev main_v122 : Ref sig .tc := ⟨.hbm, 306, rfl⟩
abbrev main_v123 : Ref sig .tc := ⟨.hbm, 307, rfl⟩
abbrev main_call10_c : Ref sig .tc := ⟨.hbm, 308, rfl⟩
abbrev main_call10_v0 : Ref sig .tc := ⟨.hbm, 309, rfl⟩
abbrev main_call10_v1 : Ref sig .tc := ⟨.hbm, 310, rfl⟩
abbrev main_call10_c_0 : Ref sig .tc := ⟨.hbm, 311, rfl⟩
abbrev main_call10_v2 : Ref sig .tc := ⟨.hbm, 312, rfl⟩
abbrev main_call10_v3 : Ref sig .tc := ⟨.hbm, 313, rfl⟩
abbrev main_call10_v4 : Ref sig .tc := ⟨.hbm, 314, rfl⟩
abbrev main_call10_v5 : Ref sig .tc := ⟨.hbm, 315, rfl⟩
abbrev main_call10_c_1 : Ref sig .tc := ⟨.hbm, 316, rfl⟩
abbrev main_call10_c_2 : Ref sig .tc := ⟨.hbm, 317, rfl⟩
abbrev main_call10_v6 : Ref sig .tc := ⟨.hbm, 318, rfl⟩
abbrev main_call10_v7 : Ref sig .tc := ⟨.hbm, 319, rfl⟩
abbrev main_call10_v8 : Ref sig .tc := ⟨.hbm, 320, rfl⟩
abbrev main_call10_v9 : Ref sig .tc := ⟨.hbm, 321, rfl⟩
abbrev main_call10_v10 : Ref sig .tc := ⟨.hbm, 322, rfl⟩
abbrev main_call10_v11 : Ref sig .tc := ⟨.hbm, 323, rfl⟩
abbrev main_call10_c_3 : Ref sig .tc := ⟨.hbm, 324, rfl⟩
abbrev main_call10_v12 : Ref sig .tc := ⟨.hbm, 325, rfl⟩
abbrev main_call10_v13 : Ref sig .tc := ⟨.hbm, 326, rfl⟩
abbrev main_call10_v14 : Ref sig .tc := ⟨.hbm, 327, rfl⟩
abbrev main_call10_cst : Ref sig .tc := ⟨.hbm, 328, rfl⟩
abbrev main_call10_v15 : Ref sig .tc := ⟨.hbm, 329, rfl⟩
abbrev main_v124 : Ref sig .tc := ⟨.hbm, 330, rfl⟩
abbrev main_v125 : Ref sig .tc := ⟨.hbm, 331, rfl⟩
abbrev main_v126 : Ref sig .tc := ⟨.hbm, 332, rfl⟩
abbrev main_v127 : Ref sig .tc := ⟨.hbm, 333, rfl⟩
abbrev main_cst_23 : Ref sig .tc := ⟨.hbm, 334, rfl⟩
abbrev main_v128 : Ref sig .tc := ⟨.hbm, 335, rfl⟩
abbrev main_v129 : Ref sig .tc := ⟨.hbm, 336, rfl⟩
abbrev main_cst_24 : Ref sig .tc := ⟨.hbm, 337, rfl⟩
abbrev main_v130 : Ref sig .tc := ⟨.hbm, 338, rfl⟩
abbrev main_cst_25 : Ref sig .tc := ⟨.hbm, 339, rfl⟩
abbrev main_v131 : Ref sig .tc := ⟨.hbm, 340, rfl⟩
abbrev main_v132 : Ref sig .tc := ⟨.hbm, 341, rfl⟩
abbrev main_v133 : Ref sig .tc := ⟨.hbm, 342, rfl⟩
abbrev main_v134 : Ref sig .tc := ⟨.hbm, 343, rfl⟩
abbrev main_v135 : Ref sig .tc := ⟨.hbm, 344, rfl⟩
abbrev main_v136 : Ref sig .tc := ⟨.hbm, 345, rfl⟩
abbrev main_cst_26 : Ref sig .tc := ⟨.hbm, 346, rfl⟩
abbrev main_v137 : Ref sig .tc := ⟨.hbm, 347, rfl⟩
abbrev main_v138 : Ref sig .tc := ⟨.hbm, 348, rfl⟩
abbrev main_v139 : Ref sig .tc := ⟨.hbm, 349, rfl⟩
abbrev main_v140 : Ref sig .tc := ⟨.hbm, 350, rfl⟩
abbrev main_v141 : Ref sig .tc := ⟨.hbm, 351, rfl⟩
abbrev main_v142 : Ref sig .tc := ⟨.hbm, 352, rfl⟩
abbrev main_v143 : Ref sig .tc := ⟨.hbm, 353, rfl⟩
abbrev main_v144 : Ref sig .tc := ⟨.hbm, 354, rfl⟩
abbrev main_c_27 : Ref sig .tc := ⟨.hbm, 355, rfl⟩
abbrev main_call11_v0 : Ref sig .tc := ⟨.hbm, 356, rfl⟩
abbrev main_v145 : Ref sig .tc := ⟨.hbm, 357, rfl⟩
abbrev main_v146 : Ref sig .tc := ⟨.hbm, 358, rfl⟩
abbrev main_cst_28 : Ref sig .tc := ⟨.hbm, 359, rfl⟩
abbrev main_v147 : Ref sig .tc := ⟨.hbm, 360, rfl⟩
abbrev main_v148 : Ref sig .tc := ⟨.hbm, 361, rfl⟩
abbrev main_v149 : Ref sig .tc := ⟨.hbm, 362, rfl⟩
abbrev main_v150 : Ref sig .tc := ⟨.hbm, 363, rfl⟩
abbrev main_v151 : Ref sig .tc := ⟨.hbm, 364, rfl⟩
abbrev main_cst_29 : Ref sig .tc := ⟨.hbm, 365, rfl⟩
abbrev main_v152 : Ref sig .tc := ⟨.hbm, 366, rfl⟩
abbrev main_v153 : Ref sig .tc := ⟨.hbm, 367, rfl⟩
abbrev main_call12_c : Ref sig .tc := ⟨.hbm, 368, rfl⟩
abbrev main_call12_v0 : Ref sig .tc := ⟨.hbm, 369, rfl⟩
abbrev main_call12_v1 : Ref sig .tc := ⟨.hbm, 370, rfl⟩
abbrev main_call12_c_0 : Ref sig .tc := ⟨.hbm, 371, rfl⟩
abbrev main_call12_v2 : Ref sig .tc := ⟨.hbm, 372, rfl⟩
abbrev main_call12_v3 : Ref sig .tc := ⟨.hbm, 373, rfl⟩
abbrev main_call12_v4 : Ref sig .tc := ⟨.hbm, 374, rfl⟩
abbrev main_call12_v5 : Ref sig .tc := ⟨.hbm, 375, rfl⟩
abbrev main_call12_c_1 : Ref sig .tc := ⟨.hbm, 376, rfl⟩
abbrev main_call12_c_2 : Ref sig .tc := ⟨.hbm, 377, rfl⟩
abbrev main_call12_v6 : Ref sig .tc := ⟨.hbm, 378, rfl⟩
abbrev main_call12_v7 : Ref sig .tc := ⟨.hbm, 379, rfl⟩
abbrev main_call12_v8 : Ref sig .tc := ⟨.hbm, 380, rfl⟩
abbrev main_call12_v9 : Ref sig .tc := ⟨.hbm, 381, rfl⟩
abbrev main_call12_v10 : Ref sig .tc := ⟨.hbm, 382, rfl⟩
abbrev main_call12_v11 : Ref sig .tc := ⟨.hbm, 383, rfl⟩
abbrev main_call12_c_3 : Ref sig .tc := ⟨.hbm, 384, rfl⟩
abbrev main_call12_v12 : Ref sig .tc := ⟨.hbm, 385, rfl⟩
abbrev main_call12_v13 : Ref sig .tc := ⟨.hbm, 386, rfl⟩
abbrev main_call12_cst : Ref sig .tc := ⟨.hbm, 387, rfl⟩
abbrev main_call12_v14 : Ref sig .tc := ⟨.hbm, 388, rfl⟩
abbrev main_v154 : Ref sig .tc := ⟨.hbm, 389, rfl⟩
abbrev main_v155 : Ref sig .tc := ⟨.hbm, 390, rfl⟩
abbrev main_v156 : Ref sig .tc := ⟨.hbm, 391, rfl⟩
abbrev main_v157 : Ref sig .tc := ⟨.hbm, 392, rfl⟩
abbrev main_v158 : Ref sig .tc := ⟨.hbm, 393, rfl⟩
abbrev main_v159 : Ref sig .tc := ⟨.hbm, 394, rfl⟩
abbrev main_v160 : Ref sig .tc := ⟨.hbm, 395, rfl⟩
abbrev main_v161 : Ref sig .tc := ⟨.hbm, 396, rfl⟩
abbrev main_v162 : Ref sig .tc := ⟨.hbm, 397, rfl⟩
abbrev main_call13_c : Ref sig .tc := ⟨.hbm, 398, rfl⟩
abbrev main_call13_v0 : Ref sig .tc := ⟨.hbm, 399, rfl⟩
abbrev main_call13_v1 : Ref sig .tc := ⟨.hbm, 400, rfl⟩
abbrev main_call13_c_0 : Ref sig .tc := ⟨.hbm, 401, rfl⟩
abbrev main_call13_v2 : Ref sig .tc := ⟨.hbm, 402, rfl⟩
abbrev main_call13_v3 : Ref sig .tc := ⟨.hbm, 403, rfl⟩
abbrev main_call13_v4 : Ref sig .tc := ⟨.hbm, 404, rfl⟩
abbrev main_call13_v5 : Ref sig .tc := ⟨.hbm, 405, rfl⟩
abbrev main_call13_c_1 : Ref sig .tc := ⟨.hbm, 406, rfl⟩
abbrev main_call13_c_2 : Ref sig .tc := ⟨.hbm, 407, rfl⟩
abbrev main_call13_v6 : Ref sig .tc := ⟨.hbm, 408, rfl⟩
abbrev main_call13_v7 : Ref sig .tc := ⟨.hbm, 409, rfl⟩
abbrev main_call13_v8 : Ref sig .tc := ⟨.hbm, 410, rfl⟩
abbrev main_call13_v9 : Ref sig .tc := ⟨.hbm, 411, rfl⟩
abbrev main_call13_v10 : Ref sig .tc := ⟨.hbm, 412, rfl⟩
abbrev main_call13_v11 : Ref sig .tc := ⟨.hbm, 413, rfl⟩
abbrev main_call13_c_3 : Ref sig .tc := ⟨.hbm, 414, rfl⟩
abbrev main_call13_v12 : Ref sig .tc := ⟨.hbm, 415, rfl⟩
abbrev main_call13_v13 : Ref sig .tc := ⟨.hbm, 416, rfl⟩
abbrev main_call13_v14 : Ref sig .tc := ⟨.hbm, 417, rfl⟩
abbrev main_call13_cst : Ref sig .tc := ⟨.hbm, 418, rfl⟩
abbrev main_call13_v15 : Ref sig .tc := ⟨.hbm, 419, rfl⟩
abbrev main_v163 : Ref sig .tc := ⟨.hbm, 420, rfl⟩
abbrev main_v164 : Ref sig .tc := ⟨.hbm, 421, rfl⟩
abbrev main_v165 : Ref sig .tc := ⟨.hbm, 422, rfl⟩
abbrev main_v166 : Ref sig .tc := ⟨.hbm, 423, rfl⟩
abbrev main_cst_30 : Ref sig .tc := ⟨.hbm, 424, rfl⟩
abbrev main_v167 : Ref sig .tc := ⟨.hbm, 425, rfl⟩
abbrev main_v168 : Ref sig .tc := ⟨.hbm, 426, rfl⟩
abbrev main_cst_31 : Ref sig .tc := ⟨.hbm, 427, rfl⟩
abbrev main_v169 : Ref sig .tc := ⟨.hbm, 428, rfl⟩
abbrev main_cst_32 : Ref sig .tc := ⟨.hbm, 429, rfl⟩
abbrev main_v170 : Ref sig .tc := ⟨.hbm, 430, rfl⟩
abbrev main_v171 : Ref sig .tc := ⟨.hbm, 431, rfl⟩
abbrev main_v172 : Ref sig .tc := ⟨.hbm, 432, rfl⟩
abbrev main_v173 : Ref sig .tc := ⟨.hbm, 433, rfl⟩
abbrev main_v174 : Ref sig .tc := ⟨.hbm, 434, rfl⟩
abbrev main_v175 : Ref sig .tc := ⟨.hbm, 435, rfl⟩
abbrev main_cst_33 : Ref sig .tc := ⟨.hbm, 436, rfl⟩
abbrev main_v176 : Ref sig .tc := ⟨.hbm, 437, rfl⟩
abbrev main_v177 : Ref sig .tc := ⟨.hbm, 438, rfl⟩
abbrev main_v178 : Ref sig .tc := ⟨.hbm, 439, rfl⟩
abbrev main_v179 : Ref sig .tc := ⟨.hbm, 440, rfl⟩
abbrev main_v180 : Ref sig .tc := ⟨.hbm, 441, rfl⟩
abbrev main_v181 : Ref sig .tc := ⟨.hbm, 442, rfl⟩
abbrev main_v182 : Ref sig .tc := ⟨.hbm, 443, rfl⟩
abbrev main_v183 : Ref sig .tc := ⟨.hbm, 444, rfl⟩
abbrev main_c_34 : Ref sig .tc := ⟨.hbm, 445, rfl⟩
abbrev main_call14_v0 : Ref sig .tc := ⟨.hbm, 446, rfl⟩
abbrev main_v184 : Ref sig .tc := ⟨.hbm, 447, rfl⟩
abbrev main_v185 : Ref sig .tc := ⟨.hbm, 448, rfl⟩
abbrev main_cst_35 : Ref sig .tc := ⟨.hbm, 449, rfl⟩
abbrev main_v186 : Ref sig .tc := ⟨.hbm, 450, rfl⟩
abbrev main_v187 : Ref sig .tc := ⟨.hbm, 451, rfl⟩
abbrev main_v188 : Ref sig .tc := ⟨.hbm, 452, rfl⟩
abbrev main_v189 : Ref sig .tc := ⟨.hbm, 453, rfl⟩
abbrev main_v190 : Ref sig .tc := ⟨.hbm, 454, rfl⟩
abbrev main_cst_36 : Ref sig .tc := ⟨.hbm, 455, rfl⟩
abbrev main_v191 : Ref sig .tc := ⟨.hbm, 456, rfl⟩
abbrev main_v192 : Ref sig .tc := ⟨.hbm, 457, rfl⟩
abbrev main_call15_c : Ref sig .tc := ⟨.hbm, 458, rfl⟩
abbrev main_call15_v0 : Ref sig .tc := ⟨.hbm, 459, rfl⟩
abbrev main_call15_v1 : Ref sig .tc := ⟨.hbm, 460, rfl⟩
abbrev main_call15_c_0 : Ref sig .tc := ⟨.hbm, 461, rfl⟩
abbrev main_call15_v2 : Ref sig .tc := ⟨.hbm, 462, rfl⟩
abbrev main_call15_v3 : Ref sig .tc := ⟨.hbm, 463, rfl⟩
abbrev main_call15_v4 : Ref sig .tc := ⟨.hbm, 464, rfl⟩
abbrev main_call15_v5 : Ref sig .tc := ⟨.hbm, 465, rfl⟩
abbrev main_call15_c_1 : Ref sig .tc := ⟨.hbm, 466, rfl⟩
abbrev main_call15_c_2 : Ref sig .tc := ⟨.hbm, 467, rfl⟩
abbrev main_call15_v6 : Ref sig .tc := ⟨.hbm, 468, rfl⟩
abbrev main_call15_v7 : Ref sig .tc := ⟨.hbm, 469, rfl⟩
abbrev main_call15_v8 : Ref sig .tc := ⟨.hbm, 470, rfl⟩
abbrev main_call15_v9 : Ref sig .tc := ⟨.hbm, 471, rfl⟩
abbrev main_call15_v10 : Ref sig .tc := ⟨.hbm, 472, rfl⟩
abbrev main_call15_v11 : Ref sig .tc := ⟨.hbm, 473, rfl⟩
abbrev main_call15_c_3 : Ref sig .tc := ⟨.hbm, 474, rfl⟩
abbrev main_call15_v12 : Ref sig .tc := ⟨.hbm, 475, rfl⟩
abbrev main_call15_v13 : Ref sig .tc := ⟨.hbm, 476, rfl⟩
abbrev main_call15_cst : Ref sig .tc := ⟨.hbm, 477, rfl⟩
abbrev main_call15_v14 : Ref sig .tc := ⟨.hbm, 478, rfl⟩
abbrev main_v193 : Ref sig .tc := ⟨.hbm, 479, rfl⟩
abbrev main_v194 : Ref sig .tc := ⟨.hbm, 480, rfl⟩
abbrev main_v195 : Ref sig .tc := ⟨.hbm, 481, rfl⟩
abbrev main_v196 : Ref sig .tc := ⟨.hbm, 482, rfl⟩
abbrev main_v197 : Ref sig .tc := ⟨.hbm, 483, rfl⟩
abbrev main_v198 : Ref sig .tc := ⟨.hbm, 484, rfl⟩
abbrev main_v199 : Ref sig .tc := ⟨.hbm, 485, rfl⟩
abbrev main_v200 : Ref sig .tc := ⟨.hbm, 486, rfl⟩
abbrev main_v201 : Ref sig .tc := ⟨.hbm, 487, rfl⟩
abbrev main_call16_c : Ref sig .tc := ⟨.hbm, 488, rfl⟩
abbrev main_call16_v0 : Ref sig .tc := ⟨.hbm, 489, rfl⟩
abbrev main_call16_v1 : Ref sig .tc := ⟨.hbm, 490, rfl⟩
abbrev main_call16_c_0 : Ref sig .tc := ⟨.hbm, 491, rfl⟩
abbrev main_call16_v2 : Ref sig .tc := ⟨.hbm, 492, rfl⟩
abbrev main_call16_v3 : Ref sig .tc := ⟨.hbm, 493, rfl⟩
abbrev main_call16_v4 : Ref sig .tc := ⟨.hbm, 494, rfl⟩
abbrev main_call16_v5 : Ref sig .tc := ⟨.hbm, 495, rfl⟩
abbrev main_call16_c_1 : Ref sig .tc := ⟨.hbm, 496, rfl⟩
abbrev main_call16_c_2 : Ref sig .tc := ⟨.hbm, 497, rfl⟩
abbrev main_call16_v6 : Ref sig .tc := ⟨.hbm, 498, rfl⟩
abbrev main_call16_v7 : Ref sig .tc := ⟨.hbm, 499, rfl⟩
abbrev main_call16_v8 : Ref sig .tc := ⟨.hbm, 500, rfl⟩
abbrev main_call16_v9 : Ref sig .tc := ⟨.hbm, 501, rfl⟩
abbrev main_call16_v10 : Ref sig .tc := ⟨.hbm, 502, rfl⟩
abbrev main_call16_v11 : Ref sig .tc := ⟨.hbm, 503, rfl⟩
abbrev main_call16_c_3 : Ref sig .tc := ⟨.hbm, 504, rfl⟩
abbrev main_call16_v12 : Ref sig .tc := ⟨.hbm, 505, rfl⟩
abbrev main_call16_v13 : Ref sig .tc := ⟨.hbm, 506, rfl⟩
abbrev main_call16_v14 : Ref sig .tc := ⟨.hbm, 507, rfl⟩
abbrev main_call16_cst : Ref sig .tc := ⟨.hbm, 508, rfl⟩
abbrev main_call16_v15 : Ref sig .tc := ⟨.hbm, 509, rfl⟩
abbrev main_v202 : Ref sig .tc := ⟨.hbm, 510, rfl⟩
abbrev main_v203 : Ref sig .tc := ⟨.hbm, 511, rfl⟩
abbrev main_v204 : Ref sig .tc := ⟨.hbm, 512, rfl⟩
abbrev main_v205 : Ref sig .tc := ⟨.hbm, 513, rfl⟩
abbrev main_cst_37 : Ref sig .tc := ⟨.hbm, 514, rfl⟩
abbrev main_v206 : Ref sig .tc := ⟨.hbm, 515, rfl⟩
abbrev main_v207 : Ref sig .tc := ⟨.hbm, 516, rfl⟩
abbrev main_cst_38 : Ref sig .tc := ⟨.hbm, 517, rfl⟩
abbrev main_v208 : Ref sig .tc := ⟨.hbm, 518, rfl⟩
abbrev main_cst_39 : Ref sig .tc := ⟨.hbm, 519, rfl⟩
abbrev main_v209 : Ref sig .tc := ⟨.hbm, 520, rfl⟩
abbrev main_v210 : Ref sig .tc := ⟨.hbm, 521, rfl⟩
abbrev main_v211 : Ref sig .tc := ⟨.hbm, 522, rfl⟩
abbrev main_v212 : Ref sig .tc := ⟨.hbm, 523, rfl⟩
abbrev main_v213 : Ref sig .tc := ⟨.hbm, 524, rfl⟩
abbrev main_v214 : Ref sig .tc := ⟨.hbm, 525, rfl⟩
abbrev main_cst_40 : Ref sig .tc := ⟨.hbm, 526, rfl⟩
abbrev main_v215 : Ref sig .tc := ⟨.hbm, 527, rfl⟩
abbrev main_v216 : Ref sig .tc := ⟨.hbm, 528, rfl⟩
abbrev main_v217 : Ref sig .tc := ⟨.hbm, 529, rfl⟩
abbrev main_v218 : Ref sig .tc := ⟨.hbm, 530, rfl⟩
abbrev main_v219 : Ref sig .tc := ⟨.hbm, 531, rfl⟩
abbrev main_v220 : Ref sig .tc := ⟨.hbm, 532, rfl⟩
abbrev main_v221 : Ref sig .tc := ⟨.hbm, 533, rfl⟩
abbrev main_v222 : Ref sig .tc := ⟨.hbm, 534, rfl⟩
abbrev main_c_41 : Ref sig .tc := ⟨.hbm, 535, rfl⟩
abbrev main_call17_v0 : Ref sig .tc := ⟨.hbm, 536, rfl⟩
abbrev main_v223 : Ref sig .tc := ⟨.hbm, 537, rfl⟩
abbrev main_v224 : Ref sig .tc := ⟨.hbm, 538, rfl⟩
abbrev main_cst_42 : Ref sig .tc := ⟨.hbm, 539, rfl⟩
abbrev main_v225 : Ref sig .tc := ⟨.hbm, 540, rfl⟩
abbrev main_v226 : Ref sig .tc := ⟨.hbm, 541, rfl⟩
abbrev main_v227 : Ref sig .tc := ⟨.hbm, 542, rfl⟩
abbrev main_v228 : Ref sig .tc := ⟨.hbm, 543, rfl⟩
abbrev main_v229 : Ref sig .tc := ⟨.hbm, 544, rfl⟩
abbrev main_cst_43 : Ref sig .tc := ⟨.hbm, 545, rfl⟩
abbrev main_v230 : Ref sig .tc := ⟨.hbm, 546, rfl⟩
abbrev main_v231 : Ref sig .tc := ⟨.hbm, 547, rfl⟩
abbrev main_call18_c : Ref sig .tc := ⟨.hbm, 548, rfl⟩
abbrev main_call18_v0 : Ref sig .tc := ⟨.hbm, 549, rfl⟩
abbrev main_call18_v1 : Ref sig .tc := ⟨.hbm, 550, rfl⟩
abbrev main_call18_c_0 : Ref sig .tc := ⟨.hbm, 551, rfl⟩
abbrev main_call18_v2 : Ref sig .tc := ⟨.hbm, 552, rfl⟩
abbrev main_call18_v3 : Ref sig .tc := ⟨.hbm, 553, rfl⟩
abbrev main_call18_v4 : Ref sig .tc := ⟨.hbm, 554, rfl⟩
abbrev main_call18_v5 : Ref sig .tc := ⟨.hbm, 555, rfl⟩
abbrev main_call18_c_1 : Ref sig .tc := ⟨.hbm, 556, rfl⟩
abbrev main_call18_c_2 : Ref sig .tc := ⟨.hbm, 557, rfl⟩
abbrev main_call18_v6 : Ref sig .tc := ⟨.hbm, 558, rfl⟩
abbrev main_call18_v7 : Ref sig .tc := ⟨.hbm, 559, rfl⟩
abbrev main_call18_v8 : Ref sig .tc := ⟨.hbm, 560, rfl⟩
abbrev main_call18_v9 : Ref sig .tc := ⟨.hbm, 561, rfl⟩
abbrev main_call18_v10 : Ref sig .tc := ⟨.hbm, 562, rfl⟩
abbrev main_call18_v11 : Ref sig .tc := ⟨.hbm, 563, rfl⟩
abbrev main_call18_c_3 : Ref sig .tc := ⟨.hbm, 564, rfl⟩
abbrev main_call18_v12 : Ref sig .tc := ⟨.hbm, 565, rfl⟩
abbrev main_call18_v13 : Ref sig .tc := ⟨.hbm, 566, rfl⟩
abbrev main_call18_cst : Ref sig .tc := ⟨.hbm, 567, rfl⟩
abbrev main_call18_v14 : Ref sig .tc := ⟨.hbm, 568, rfl⟩
abbrev main_v232 : Ref sig .tc := ⟨.hbm, 569, rfl⟩
abbrev main_v233 : Ref sig .tc := ⟨.hbm, 570, rfl⟩
abbrev main_v234 : Ref sig .tc := ⟨.hbm, 571, rfl⟩
abbrev main_v235 : Ref sig .tc := ⟨.hbm, 572, rfl⟩
abbrev main_v236 : Ref sig .tc := ⟨.hbm, 573, rfl⟩
abbrev main_v237 : Ref sig .tc := ⟨.hbm, 574, rfl⟩
abbrev main_v238 : Ref sig .tc := ⟨.hbm, 575, rfl⟩
abbrev main_v239 : Ref sig .tc := ⟨.hbm, 576, rfl⟩
abbrev main_v240 : Ref sig .tc := ⟨.hbm, 577, rfl⟩
abbrev main_call19_c : Ref sig .tc := ⟨.hbm, 578, rfl⟩
abbrev main_call19_v0 : Ref sig .tc := ⟨.hbm, 579, rfl⟩
abbrev main_call19_v1 : Ref sig .tc := ⟨.hbm, 580, rfl⟩
abbrev main_call19_c_0 : Ref sig .tc := ⟨.hbm, 581, rfl⟩
abbrev main_call19_v2 : Ref sig .tc := ⟨.hbm, 582, rfl⟩
abbrev main_call19_v3 : Ref sig .tc := ⟨.hbm, 583, rfl⟩
abbrev main_call19_v4 : Ref sig .tc := ⟨.hbm, 584, rfl⟩
abbrev main_call19_v5 : Ref sig .tc := ⟨.hbm, 585, rfl⟩
abbrev main_call19_c_1 : Ref sig .tc := ⟨.hbm, 586, rfl⟩
abbrev main_call19_c_2 : Ref sig .tc := ⟨.hbm, 587, rfl⟩
abbrev main_call19_v6 : Ref sig .tc := ⟨.hbm, 588, rfl⟩
abbrev main_call19_v7 : Ref sig .tc := ⟨.hbm, 589, rfl⟩
abbrev main_call19_v8 : Ref sig .tc := ⟨.hbm, 590, rfl⟩
abbrev main_call19_v9 : Ref sig .tc := ⟨.hbm, 591, rfl⟩
abbrev main_call19_v10 : Ref sig .tc := ⟨.hbm, 592, rfl⟩
abbrev main_call19_v11 : Ref sig .tc := ⟨.hbm, 593, rfl⟩
abbrev main_call19_c_3 : Ref sig .tc := ⟨.hbm, 594, rfl⟩
abbrev main_call19_v12 : Ref sig .tc := ⟨.hbm, 595, rfl⟩
abbrev main_call19_v13 : Ref sig .tc := ⟨.hbm, 596, rfl⟩
abbrev main_call19_v14 : Ref sig .tc := ⟨.hbm, 597, rfl⟩
abbrev main_call19_cst : Ref sig .tc := ⟨.hbm, 598, rfl⟩
abbrev main_call19_v15 : Ref sig .tc := ⟨.hbm, 599, rfl⟩
abbrev main_v241 : Ref sig .tc := ⟨.hbm, 600, rfl⟩
abbrev main_v242 : Ref sig .tc := ⟨.hbm, 601, rfl⟩
abbrev main_v243 : Ref sig .tc := ⟨.hbm, 602, rfl⟩
abbrev main_v244 : Ref sig .tc := ⟨.hbm, 603, rfl⟩
abbrev main_cst_44 : Ref sig .tc := ⟨.hbm, 604, rfl⟩
abbrev main_v245 : Ref sig .tc := ⟨.hbm, 605, rfl⟩
abbrev main_v246 : Ref sig .tc := ⟨.hbm, 606, rfl⟩
abbrev main_cst_45 : Ref sig .tc := ⟨.hbm, 607, rfl⟩
abbrev main_v247 : Ref sig .tc := ⟨.hbm, 608, rfl⟩
abbrev main_cst_46 : Ref sig .tc := ⟨.hbm, 609, rfl⟩
abbrev main_v248 : Ref sig .tc := ⟨.hbm, 610, rfl⟩
abbrev main_v249 : Ref sig .tc := ⟨.hbm, 611, rfl⟩
abbrev main_v250 : Ref sig .tc := ⟨.hbm, 612, rfl⟩
abbrev main_v251 : Ref sig .tc := ⟨.hbm, 613, rfl⟩
abbrev main_v252 : Ref sig .tc := ⟨.hbm, 614, rfl⟩
abbrev main_v253 : Ref sig .tc := ⟨.hbm, 615, rfl⟩
abbrev main_cst_47 : Ref sig .tc := ⟨.hbm, 616, rfl⟩
abbrev main_v254 : Ref sig .tc := ⟨.hbm, 617, rfl⟩
abbrev main_v255 : Ref sig .tc := ⟨.hbm, 618, rfl⟩
abbrev main_v256 : Ref sig .tc := ⟨.hbm, 619, rfl⟩
abbrev main_v257 : Ref sig .tc := ⟨.hbm, 620, rfl⟩
abbrev main_v258 : Ref sig .tc := ⟨.hbm, 621, rfl⟩
abbrev main_v259 : Ref sig .tc := ⟨.hbm, 622, rfl⟩
abbrev main_v260 : Ref sig .tc := ⟨.hbm, 623, rfl⟩
abbrev main_v261 : Ref sig .tc := ⟨.hbm, 624, rfl⟩
abbrev main_c_48 : Ref sig .tc := ⟨.hbm, 625, rfl⟩
abbrev main_call20_v0 : Ref sig .tc := ⟨.hbm, 626, rfl⟩
abbrev main_v262 : Ref sig .tc := ⟨.hbm, 627, rfl⟩
abbrev main_v263 : Ref sig .tc := ⟨.hbm, 628, rfl⟩
abbrev main_cst_49 : Ref sig .tc := ⟨.hbm, 629, rfl⟩
abbrev main_v264 : Ref sig .tc := ⟨.hbm, 630, rfl⟩
abbrev main_v265 : Ref sig .tc := ⟨.hbm, 631, rfl⟩
abbrev main_v266 : Ref sig .tc := ⟨.hbm, 632, rfl⟩
abbrev main_v267 : Ref sig .tc := ⟨.hbm, 633, rfl⟩
abbrev main_v268 : Ref sig .tc := ⟨.hbm, 634, rfl⟩
abbrev main_cst_50 : Ref sig .tc := ⟨.hbm, 635, rfl⟩
abbrev main_v269 : Ref sig .tc := ⟨.hbm, 636, rfl⟩
abbrev main_v270 : Ref sig .tc := ⟨.hbm, 637, rfl⟩
abbrev main_call21_c : Ref sig .tc := ⟨.hbm, 638, rfl⟩
abbrev main_call21_v0 : Ref sig .tc := ⟨.hbm, 639, rfl⟩
abbrev main_call21_v1 : Ref sig .tc := ⟨.hbm, 640, rfl⟩
abbrev main_call21_c_0 : Ref sig .tc := ⟨.hbm, 641, rfl⟩
abbrev main_call21_v2 : Ref sig .tc := ⟨.hbm, 642, rfl⟩
abbrev main_call21_v3 : Ref sig .tc := ⟨.hbm, 643, rfl⟩
abbrev main_call21_v4 : Ref sig .tc := ⟨.hbm, 644, rfl⟩
abbrev main_call21_v5 : Ref sig .tc := ⟨.hbm, 645, rfl⟩
abbrev main_call21_c_1 : Ref sig .tc := ⟨.hbm, 646, rfl⟩
abbrev main_call21_c_2 : Ref sig .tc := ⟨.hbm, 647, rfl⟩
abbrev main_call21_v6 : Ref sig .tc := ⟨.hbm, 648, rfl⟩
abbrev main_call21_v7 : Ref sig .tc := ⟨.hbm, 649, rfl⟩
abbrev main_call21_v8 : Ref sig .tc := ⟨.hbm, 650, rfl⟩
abbrev main_call21_v9 : Ref sig .tc := ⟨.hbm, 651, rfl⟩
abbrev main_call21_v10 : Ref sig .tc := ⟨.hbm, 652, rfl⟩
abbrev main_call21_v11 : Ref sig .tc := ⟨.hbm, 653, rfl⟩
abbrev main_call21_c_3 : Ref sig .tc := ⟨.hbm, 654, rfl⟩
abbrev main_call21_v12 : Ref sig .tc := ⟨.hbm, 655, rfl⟩
abbrev main_call21_v13 : Ref sig .tc := ⟨.hbm, 656, rfl⟩
abbrev main_call21_cst : Ref sig .tc := ⟨.hbm, 657, rfl⟩
abbrev main_call21_v14 : Ref sig .tc := ⟨.hbm, 658, rfl⟩
abbrev main_v271 : Ref sig .tc := ⟨.hbm, 659, rfl⟩
abbrev main_v272 : Ref sig .tc := ⟨.hbm, 660, rfl⟩
abbrev main_v273 : Ref sig .tc := ⟨.hbm, 661, rfl⟩
abbrev main_v274 : Ref sig .tc := ⟨.hbm, 662, rfl⟩
abbrev main_v275 : Ref sig .tc := ⟨.hbm, 663, rfl⟩
abbrev main_v276 : Ref sig .tc := ⟨.hbm, 664, rfl⟩
abbrev main_v277 : Ref sig .tc := ⟨.hbm, 665, rfl⟩
abbrev main_v278 : Ref sig .tc := ⟨.hbm, 666, rfl⟩
abbrev main_v279 : Ref sig .tc := ⟨.hbm, 667, rfl⟩
abbrev main_call22_c : Ref sig .tc := ⟨.hbm, 668, rfl⟩
abbrev main_call22_v0 : Ref sig .tc := ⟨.hbm, 669, rfl⟩
abbrev main_call22_v1 : Ref sig .tc := ⟨.hbm, 670, rfl⟩
abbrev main_call22_c_0 : Ref sig .tc := ⟨.hbm, 671, rfl⟩
abbrev main_call22_v2 : Ref sig .tc := ⟨.hbm, 672, rfl⟩
abbrev main_call22_v3 : Ref sig .tc := ⟨.hbm, 673, rfl⟩
abbrev main_call22_v4 : Ref sig .tc := ⟨.hbm, 674, rfl⟩
abbrev main_call22_v5 : Ref sig .tc := ⟨.hbm, 675, rfl⟩
abbrev main_call22_c_1 : Ref sig .tc := ⟨.hbm, 676, rfl⟩
abbrev main_call22_c_2 : Ref sig .tc := ⟨.hbm, 677, rfl⟩
abbrev main_call22_v6 : Ref sig .tc := ⟨.hbm, 678, rfl⟩
abbrev main_call22_v7 : Ref sig .tc := ⟨.hbm, 679, rfl⟩
abbrev main_call22_v8 : Ref sig .tc := ⟨.hbm, 680, rfl⟩
abbrev main_call22_v9 : Ref sig .tc := ⟨.hbm, 681, rfl⟩
abbrev main_call22_v10 : Ref sig .tc := ⟨.hbm, 682, rfl⟩
abbrev main_call22_v11 : Ref sig .tc := ⟨.hbm, 683, rfl⟩
abbrev main_call22_c_3 : Ref sig .tc := ⟨.hbm, 684, rfl⟩
abbrev main_call22_v12 : Ref sig .tc := ⟨.hbm, 685, rfl⟩
abbrev main_call22_v13 : Ref sig .tc := ⟨.hbm, 686, rfl⟩
abbrev main_call22_v14 : Ref sig .tc := ⟨.hbm, 687, rfl⟩
abbrev main_call22_cst : Ref sig .tc := ⟨.hbm, 688, rfl⟩
abbrev main_call22_v15 : Ref sig .tc := ⟨.hbm, 689, rfl⟩
abbrev main_v280 : Ref sig .tc := ⟨.hbm, 690, rfl⟩
abbrev main_v281 : Ref sig .tc := ⟨.hbm, 691, rfl⟩
abbrev main_v282 : Ref sig .tc := ⟨.hbm, 692, rfl⟩
abbrev main_v283 : Ref sig .tc := ⟨.hbm, 693, rfl⟩
abbrev main_cst_51 : Ref sig .tc := ⟨.hbm, 694, rfl⟩
abbrev main_v284 : Ref sig .tc := ⟨.hbm, 695, rfl⟩
abbrev main_v285 : Ref sig .tc := ⟨.hbm, 696, rfl⟩
abbrev main_cst_52 : Ref sig .tc := ⟨.hbm, 697, rfl⟩
abbrev main_v286 : Ref sig .tc := ⟨.hbm, 698, rfl⟩
abbrev main_cst_53 : Ref sig .tc := ⟨.hbm, 699, rfl⟩
abbrev main_v287 : Ref sig .tc := ⟨.hbm, 700, rfl⟩
abbrev main_v288 : Ref sig .tc := ⟨.hbm, 701, rfl⟩
abbrev main_v289 : Ref sig .tc := ⟨.hbm, 702, rfl⟩
abbrev main_v290 : Ref sig .tc := ⟨.hbm, 703, rfl⟩
abbrev main_v291 : Ref sig .tc := ⟨.hbm, 704, rfl⟩
abbrev main_v292 : Ref sig .tc := ⟨.hbm, 705, rfl⟩
abbrev main_cst_54 : Ref sig .tc := ⟨.hbm, 706, rfl⟩
abbrev main_v293 : Ref sig .tc := ⟨.hbm, 707, rfl⟩
abbrev main_v294 : Ref sig .tc := ⟨.hbm, 708, rfl⟩
abbrev main_v295 : Ref sig .tc := ⟨.hbm, 709, rfl⟩
abbrev main_v296 : Ref sig .tc := ⟨.hbm, 710, rfl⟩
abbrev main_v297 : Ref sig .tc := ⟨.hbm, 711, rfl⟩
abbrev main_v298 : Ref sig .tc := ⟨.hbm, 712, rfl⟩
abbrev main_v299 : Ref sig .tc := ⟨.hbm, 713, rfl⟩
abbrev main_v300 : Ref sig .tc := ⟨.hbm, 714, rfl⟩
abbrev main_c_55 : Ref sig .tc := ⟨.hbm, 715, rfl⟩
abbrev main_call23_v0 : Ref sig .tc := ⟨.hbm, 716, rfl⟩
abbrev main_v301 : Ref sig .tc := ⟨.hbm, 717, rfl⟩
abbrev main_v302 : Ref sig .tc := ⟨.hbm, 718, rfl⟩
abbrev main_cst_56 : Ref sig .tc := ⟨.hbm, 719, rfl⟩
abbrev main_v303 : Ref sig .tc := ⟨.hbm, 720, rfl⟩
abbrev main_v304 : Ref sig .tc := ⟨.hbm, 721, rfl⟩
abbrev main_v305 : Ref sig .tc := ⟨.hbm, 722, rfl⟩
abbrev main_v306 : Ref sig .tc := ⟨.hbm, 723, rfl⟩
abbrev main_v307 : Ref sig .tc := ⟨.hbm, 724, rfl⟩
abbrev main_cst_57 : Ref sig .tc := ⟨.hbm, 725, rfl⟩
abbrev main_v308 : Ref sig .tc := ⟨.hbm, 726, rfl⟩
abbrev main_v309 : Ref sig .tc := ⟨.hbm, 727, rfl⟩
abbrev main_call24_c : Ref sig .tc := ⟨.hbm, 728, rfl⟩
abbrev main_call24_v0 : Ref sig .tc := ⟨.hbm, 729, rfl⟩
abbrev main_call24_v1 : Ref sig .tc := ⟨.hbm, 730, rfl⟩
abbrev main_call24_c_0 : Ref sig .tc := ⟨.hbm, 731, rfl⟩
abbrev main_call24_v2 : Ref sig .tc := ⟨.hbm, 732, rfl⟩
abbrev main_call24_v3 : Ref sig .tc := ⟨.hbm, 733, rfl⟩
abbrev main_call24_v4 : Ref sig .tc := ⟨.hbm, 734, rfl⟩
abbrev main_call24_v5 : Ref sig .tc := ⟨.hbm, 735, rfl⟩
abbrev main_call24_c_1 : Ref sig .tc := ⟨.hbm, 736, rfl⟩
abbrev main_call24_c_2 : Ref sig .tc := ⟨.hbm, 737, rfl⟩
abbrev main_call24_v6 : Ref sig .tc := ⟨.hbm, 738, rfl⟩
abbrev main_call24_v7 : Ref sig .tc := ⟨.hbm, 739, rfl⟩
abbrev main_call24_v8 : Ref sig .tc := ⟨.hbm, 740, rfl⟩
abbrev main_call24_v9 : Ref sig .tc := ⟨.hbm, 741, rfl⟩
abbrev main_call24_v10 : Ref sig .tc := ⟨.hbm, 742, rfl⟩
abbrev main_call24_v11 : Ref sig .tc := ⟨.hbm, 743, rfl⟩
abbrev main_call24_c_3 : Ref sig .tc := ⟨.hbm, 744, rfl⟩
abbrev main_call24_v12 : Ref sig .tc := ⟨.hbm, 745, rfl⟩
abbrev main_call24_v13 : Ref sig .tc := ⟨.hbm, 746, rfl⟩
abbrev main_call24_cst : Ref sig .tc := ⟨.hbm, 747, rfl⟩
abbrev main_call24_v14 : Ref sig .tc := ⟨.hbm, 748, rfl⟩
abbrev main_v310 : Ref sig .tc := ⟨.hbm, 749, rfl⟩
abbrev main_v311 : Ref sig .tc := ⟨.hbm, 750, rfl⟩
abbrev main_v312 : Ref sig .tc := ⟨.hbm, 751, rfl⟩
abbrev main_v313 : Ref sig .tc := ⟨.hbm, 752, rfl⟩
abbrev main_v314 : Ref sig .tc := ⟨.hbm, 753, rfl⟩
abbrev main_v315 : Ref sig .tc := ⟨.hbm, 754, rfl⟩
abbrev main_v316 : Ref sig .tc := ⟨.hbm, 755, rfl⟩
abbrev main_v317 : Ref sig .tc := ⟨.hbm, 756, rfl⟩
abbrev main_v318 : Ref sig .tc := ⟨.hbm, 757, rfl⟩
abbrev main_call25_c : Ref sig .tc := ⟨.hbm, 758, rfl⟩
abbrev main_call25_v0 : Ref sig .tc := ⟨.hbm, 759, rfl⟩
abbrev main_call25_v1 : Ref sig .tc := ⟨.hbm, 760, rfl⟩
abbrev main_call25_c_0 : Ref sig .tc := ⟨.hbm, 761, rfl⟩
abbrev main_call25_v2 : Ref sig .tc := ⟨.hbm, 762, rfl⟩
abbrev main_call25_v3 : Ref sig .tc := ⟨.hbm, 763, rfl⟩
abbrev main_call25_v4 : Ref sig .tc := ⟨.hbm, 764, rfl⟩
abbrev main_call25_v5 : Ref sig .tc := ⟨.hbm, 765, rfl⟩
abbrev main_call25_c_1 : Ref sig .tc := ⟨.hbm, 766, rfl⟩
abbrev main_call25_c_2 : Ref sig .tc := ⟨.hbm, 767, rfl⟩
abbrev main_call25_v6 : Ref sig .tc := ⟨.hbm, 768, rfl⟩
abbrev main_call25_v7 : Ref sig .tc := ⟨.hbm, 769, rfl⟩
abbrev main_call25_v8 : Ref sig .tc := ⟨.hbm, 770, rfl⟩
abbrev main_call25_v9 : Ref sig .tc := ⟨.hbm, 771, rfl⟩
abbrev main_call25_v10 : Ref sig .tc := ⟨.hbm, 772, rfl⟩
abbrev main_call25_v11 : Ref sig .tc := ⟨.hbm, 773, rfl⟩
abbrev main_call25_c_3 : Ref sig .tc := ⟨.hbm, 774, rfl⟩
abbrev main_call25_v12 : Ref sig .tc := ⟨.hbm, 775, rfl⟩
abbrev main_call25_v13 : Ref sig .tc := ⟨.hbm, 776, rfl⟩
abbrev main_call25_v14 : Ref sig .tc := ⟨.hbm, 777, rfl⟩
abbrev main_call25_cst : Ref sig .tc := ⟨.hbm, 778, rfl⟩
abbrev main_call25_v15 : Ref sig .tc := ⟨.hbm, 779, rfl⟩
abbrev main_v319 : Ref sig .tc := ⟨.hbm, 780, rfl⟩
abbrev main_v320 : Ref sig .tc := ⟨.hbm, 781, rfl⟩
abbrev main_v321 : Ref sig .tc := ⟨.hbm, 782, rfl⟩
abbrev main_v322 : Ref sig .tc := ⟨.hbm, 783, rfl⟩
abbrev main_cst_58 : Ref sig .tc := ⟨.hbm, 784, rfl⟩
abbrev main_v323 : Ref sig .tc := ⟨.hbm, 785, rfl⟩
abbrev main_v324 : Ref sig .tc := ⟨.hbm, 786, rfl⟩
abbrev main_cst_59 : Ref sig .tc := ⟨.hbm, 787, rfl⟩
abbrev main_v325 : Ref sig .tc := ⟨.hbm, 788, rfl⟩
abbrev main_cst_60 : Ref sig .tc := ⟨.hbm, 789, rfl⟩
abbrev main_v326 : Ref sig .tc := ⟨.hbm, 790, rfl⟩
abbrev main_v327 : Ref sig .tc := ⟨.hbm, 791, rfl⟩
abbrev main_v328 : Ref sig .tc := ⟨.hbm, 792, rfl⟩
abbrev main_v329 : Ref sig .tc := ⟨.hbm, 793, rfl⟩
abbrev main_v330 : Ref sig .tc := ⟨.hbm, 794, rfl⟩
abbrev main_v331 : Ref sig .tc := ⟨.hbm, 795, rfl⟩
abbrev main_cst_61 : Ref sig .tc := ⟨.hbm, 796, rfl⟩
abbrev main_v332 : Ref sig .tc := ⟨.hbm, 797, rfl⟩
abbrev main_v333 : Ref sig .tc := ⟨.hbm, 798, rfl⟩
abbrev main_v334 : Ref sig .tc := ⟨.hbm, 799, rfl⟩
abbrev main_v335 : Ref sig .tc := ⟨.hbm, 800, rfl⟩
abbrev main_v336 : Ref sig .tc := ⟨.hbm, 801, rfl⟩
abbrev main_v337 : Ref sig .tc := ⟨.hbm, 802, rfl⟩
abbrev main_v338 : Ref sig .tc := ⟨.hbm, 803, rfl⟩
abbrev main_v339 : Ref sig .tc := ⟨.hbm, 804, rfl⟩
abbrev main_c_62 : Ref sig .tc := ⟨.hbm, 805, rfl⟩
abbrev main_call26_v0 : Ref sig .tc := ⟨.hbm, 806, rfl⟩
abbrev main_v340 : Ref sig .tc := ⟨.hbm, 807, rfl⟩
abbrev main_v341 : Ref sig .tc := ⟨.hbm, 808, rfl⟩
abbrev main_cst_63 : Ref sig .tc := ⟨.hbm, 809, rfl⟩
abbrev main_v342 : Ref sig .tc := ⟨.hbm, 810, rfl⟩
abbrev main_v343 : Ref sig .tc := ⟨.hbm, 811, rfl⟩
abbrev main_v344 : Ref sig .tc := ⟨.hbm, 812, rfl⟩
abbrev main_v345 : Ref sig .tc := ⟨.hbm, 813, rfl⟩
abbrev main_v346 : Ref sig .tc := ⟨.hbm, 814, rfl⟩
abbrev main_cst_64 : Ref sig .tc := ⟨.hbm, 815, rfl⟩
abbrev main_v347 : Ref sig .tc := ⟨.hbm, 816, rfl⟩
abbrev main_v348 : Ref sig .tc := ⟨.hbm, 817, rfl⟩
abbrev main_call27_c : Ref sig .tc := ⟨.hbm, 818, rfl⟩
abbrev main_call27_v0 : Ref sig .tc := ⟨.hbm, 819, rfl⟩
abbrev main_call27_v1 : Ref sig .tc := ⟨.hbm, 820, rfl⟩
abbrev main_call27_c_0 : Ref sig .tc := ⟨.hbm, 821, rfl⟩
abbrev main_call27_v2 : Ref sig .tc := ⟨.hbm, 822, rfl⟩
abbrev main_call27_v3 : Ref sig .tc := ⟨.hbm, 823, rfl⟩
abbrev main_call27_v4 : Ref sig .tc := ⟨.hbm, 824, rfl⟩
abbrev main_call27_v5 : Ref sig .tc := ⟨.hbm, 825, rfl⟩
abbrev main_call27_c_1 : Ref sig .tc := ⟨.hbm, 826, rfl⟩
abbrev main_call27_c_2 : Ref sig .tc := ⟨.hbm, 827, rfl⟩
abbrev main_call27_v6 : Ref sig .tc := ⟨.hbm, 828, rfl⟩
abbrev main_call27_v7 : Ref sig .tc := ⟨.hbm, 829, rfl⟩
abbrev main_call27_v8 : Ref sig .tc := ⟨.hbm, 830, rfl⟩
abbrev main_call27_v9 : Ref sig .tc := ⟨.hbm, 831, rfl⟩
abbrev main_call27_v10 : Ref sig .tc := ⟨.hbm, 832, rfl⟩
abbrev main_call27_v11 : Ref sig .tc := ⟨.hbm, 833, rfl⟩
abbrev main_call27_c_3 : Ref sig .tc := ⟨.hbm, 834, rfl⟩
abbrev main_call27_v12 : Ref sig .tc := ⟨.hbm, 835, rfl⟩
abbrev main_call27_v13 : Ref sig .tc := ⟨.hbm, 836, rfl⟩
abbrev main_call27_cst : Ref sig .tc := ⟨.hbm, 837, rfl⟩
abbrev main_call27_v14 : Ref sig .tc := ⟨.hbm, 838, rfl⟩
abbrev main_v349 : Ref sig .tc := ⟨.hbm, 839, rfl⟩
abbrev main_v350 : Ref sig .tc := ⟨.hbm, 840, rfl⟩
abbrev main_v351 : Ref sig .tc := ⟨.hbm, 841, rfl⟩
abbrev main_v352 : Ref sig .tc := ⟨.hbm, 842, rfl⟩
abbrev main_v353 : Ref sig .tc := ⟨.hbm, 843, rfl⟩
abbrev main_v354 : Ref sig .tc := ⟨.hbm, 844, rfl⟩
abbrev main_v355 : Ref sig .tc := ⟨.hbm, 845, rfl⟩
abbrev main_v356 : Ref sig .tc := ⟨.hbm, 846, rfl⟩
abbrev main_v357 : Ref sig .tc := ⟨.hbm, 847, rfl⟩
abbrev main_call28_c : Ref sig .tc := ⟨.hbm, 848, rfl⟩
abbrev main_call28_v0 : Ref sig .tc := ⟨.hbm, 849, rfl⟩
abbrev main_call28_v1 : Ref sig .tc := ⟨.hbm, 850, rfl⟩
abbrev main_call28_c_0 : Ref sig .tc := ⟨.hbm, 851, rfl⟩
abbrev main_call28_v2 : Ref sig .tc := ⟨.hbm, 852, rfl⟩
abbrev main_call28_v3 : Ref sig .tc := ⟨.hbm, 853, rfl⟩
abbrev main_call28_v4 : Ref sig .tc := ⟨.hbm, 854, rfl⟩
abbrev main_call28_v5 : Ref sig .tc := ⟨.hbm, 855, rfl⟩
abbrev main_call28_c_1 : Ref sig .tc := ⟨.hbm, 856, rfl⟩
abbrev main_call28_c_2 : Ref sig .tc := ⟨.hbm, 857, rfl⟩
abbrev main_call28_v6 : Ref sig .tc := ⟨.hbm, 858, rfl⟩
abbrev main_call28_v7 : Ref sig .tc := ⟨.hbm, 859, rfl⟩
abbrev main_call28_v8 : Ref sig .tc := ⟨.hbm, 860, rfl⟩
abbrev main_call28_v9 : Ref sig .tc := ⟨.hbm, 861, rfl⟩
abbrev main_call28_v10 : Ref sig .tc := ⟨.hbm, 862, rfl⟩
abbrev main_call28_v11 : Ref sig .tc := ⟨.hbm, 863, rfl⟩
abbrev main_call28_c_3 : Ref sig .tc := ⟨.hbm, 864, rfl⟩
abbrev main_call28_v12 : Ref sig .tc := ⟨.hbm, 865, rfl⟩
abbrev main_call28_v13 : Ref sig .tc := ⟨.hbm, 866, rfl⟩
abbrev main_call28_v14 : Ref sig .tc := ⟨.hbm, 867, rfl⟩
abbrev main_call28_cst : Ref sig .tc := ⟨.hbm, 868, rfl⟩
abbrev main_call28_v15 : Ref sig .tc := ⟨.hbm, 869, rfl⟩
abbrev main_v358 : Ref sig .tc := ⟨.hbm, 870, rfl⟩
abbrev main_v359 : Ref sig .tc := ⟨.hbm, 871, rfl⟩
abbrev main_v360 : Ref sig .tc := ⟨.hbm, 872, rfl⟩
abbrev main_v361 : Ref sig .tc := ⟨.hbm, 873, rfl⟩
abbrev main_cst_65 : Ref sig .tc := ⟨.hbm, 874, rfl⟩
abbrev main_v362 : Ref sig .tc := ⟨.hbm, 875, rfl⟩
abbrev main_v363 : Ref sig .tc := ⟨.hbm, 876, rfl⟩
abbrev main_cst_66 : Ref sig .tc := ⟨.hbm, 877, rfl⟩
abbrev main_v364 : Ref sig .tc := ⟨.hbm, 878, rfl⟩
abbrev main_cst_67 : Ref sig .tc := ⟨.hbm, 879, rfl⟩
abbrev main_v365 : Ref sig .tc := ⟨.hbm, 880, rfl⟩
abbrev main_v366 : Ref sig .tc := ⟨.hbm, 881, rfl⟩
abbrev main_v367 : Ref sig .tc := ⟨.hbm, 882, rfl⟩
abbrev main_v368 : Ref sig .tc := ⟨.hbm, 883, rfl⟩
abbrev main_v369 : Ref sig .tc := ⟨.hbm, 884, rfl⟩
abbrev main_v370 : Ref sig .tc := ⟨.hbm, 885, rfl⟩
abbrev main_cst_68 : Ref sig .tc := ⟨.hbm, 886, rfl⟩
abbrev main_v371 : Ref sig .tc := ⟨.hbm, 887, rfl⟩
abbrev main_v372 : Ref sig .tc := ⟨.hbm, 888, rfl⟩
abbrev main_v373 : Ref sig .tc := ⟨.hbm, 889, rfl⟩
abbrev main_v374 : Ref sig .tc := ⟨.hbm, 890, rfl⟩
abbrev main_v375 : Ref sig .tc := ⟨.hbm, 891, rfl⟩
abbrev main_v376 : Ref sig .tc := ⟨.hbm, 892, rfl⟩
abbrev main_v377 : Ref sig .tc := ⟨.hbm, 893, rfl⟩
abbrev main_v378 : Ref sig .tc := ⟨.hbm, 894, rfl⟩
abbrev main_c_69 : Ref sig .tc := ⟨.hbm, 895, rfl⟩
abbrev main_call29_v0 : Ref sig .tc := ⟨.hbm, 896, rfl⟩
abbrev main_v379 : Ref sig .tc := ⟨.hbm, 897, rfl⟩
abbrev main_v380 : Ref sig .tc := ⟨.hbm, 898, rfl⟩
abbrev main_cst_70 : Ref sig .tc := ⟨.hbm, 899, rfl⟩
abbrev main_v381 : Ref sig .tc := ⟨.hbm, 900, rfl⟩
abbrev main_v382 : Ref sig .tc := ⟨.hbm, 901, rfl⟩
abbrev main_v383 : Ref sig .tc := ⟨.hbm, 902, rfl⟩
abbrev main_v384 : Ref sig .tc := ⟨.hbm, 903, rfl⟩
abbrev main_v385 : Ref sig .tc := ⟨.hbm, 904, rfl⟩
abbrev main_cst_71 : Ref sig .tc := ⟨.hbm, 905, rfl⟩
abbrev main_v386 : Ref sig .tc := ⟨.hbm, 906, rfl⟩
abbrev main_v387 : Ref sig .tc := ⟨.hbm, 907, rfl⟩
abbrev main_call30_c : Ref sig .tc := ⟨.hbm, 908, rfl⟩
abbrev main_call30_v0 : Ref sig .tc := ⟨.hbm, 909, rfl⟩
abbrev main_call30_v1 : Ref sig .tc := ⟨.hbm, 910, rfl⟩
abbrev main_call30_c_0 : Ref sig .tc := ⟨.hbm, 911, rfl⟩
abbrev main_call30_v2 : Ref sig .tc := ⟨.hbm, 912, rfl⟩
abbrev main_call30_v3 : Ref sig .tc := ⟨.hbm, 913, rfl⟩
abbrev main_call30_v4 : Ref sig .tc := ⟨.hbm, 914, rfl⟩
abbrev main_call30_v5 : Ref sig .tc := ⟨.hbm, 915, rfl⟩
abbrev main_call30_c_1 : Ref sig .tc := ⟨.hbm, 916, rfl⟩
abbrev main_call30_c_2 : Ref sig .tc := ⟨.hbm, 917, rfl⟩
abbrev main_call30_v6 : Ref sig .tc := ⟨.hbm, 918, rfl⟩
abbrev main_call30_v7 : Ref sig .tc := ⟨.hbm, 919, rfl⟩
abbrev main_call30_v8 : Ref sig .tc := ⟨.hbm, 920, rfl⟩
abbrev main_call30_v9 : Ref sig .tc := ⟨.hbm, 921, rfl⟩
abbrev main_call30_v10 : Ref sig .tc := ⟨.hbm, 922, rfl⟩
abbrev main_call30_v11 : Ref sig .tc := ⟨.hbm, 923, rfl⟩
abbrev main_call30_c_3 : Ref sig .tc := ⟨.hbm, 924, rfl⟩
abbrev main_call30_v12 : Ref sig .tc := ⟨.hbm, 925, rfl⟩
abbrev main_call30_v13 : Ref sig .tc := ⟨.hbm, 926, rfl⟩
abbrev main_call30_cst : Ref sig .tc := ⟨.hbm, 927, rfl⟩
abbrev main_call30_v14 : Ref sig .tc := ⟨.hbm, 928, rfl⟩
abbrev main_v388 : Ref sig .tc := ⟨.hbm, 929, rfl⟩
abbrev main_v389 : Ref sig .tc := ⟨.hbm, 930, rfl⟩
abbrev main_v390 : Ref sig .tc := ⟨.hbm, 931, rfl⟩
abbrev main_v391 : Ref sig .tc := ⟨.hbm, 932, rfl⟩
abbrev main_v392 : Ref sig .tc := ⟨.hbm, 933, rfl⟩
abbrev main_v393 : Ref sig .tc := ⟨.hbm, 934, rfl⟩
abbrev main_v394 : Ref sig .tc := ⟨.hbm, 935, rfl⟩
abbrev main_v395 : Ref sig .tc := ⟨.hbm, 936, rfl⟩
abbrev main_v396 : Ref sig .tc := ⟨.hbm, 937, rfl⟩
abbrev main_call31_c : Ref sig .tc := ⟨.hbm, 938, rfl⟩
abbrev main_call31_v0 : Ref sig .tc := ⟨.hbm, 939, rfl⟩
abbrev main_call31_v1 : Ref sig .tc := ⟨.hbm, 940, rfl⟩
abbrev main_call31_c_0 : Ref sig .tc := ⟨.hbm, 941, rfl⟩
abbrev main_call31_v2 : Ref sig .tc := ⟨.hbm, 942, rfl⟩
abbrev main_call31_v3 : Ref sig .tc := ⟨.hbm, 943, rfl⟩
abbrev main_call31_v4 : Ref sig .tc := ⟨.hbm, 944, rfl⟩
abbrev main_call31_v5 : Ref sig .tc := ⟨.hbm, 945, rfl⟩
abbrev main_call31_c_1 : Ref sig .tc := ⟨.hbm, 946, rfl⟩
abbrev main_call31_c_2 : Ref sig .tc := ⟨.hbm, 947, rfl⟩
abbrev main_call31_v6 : Ref sig .tc := ⟨.hbm, 948, rfl⟩
abbrev main_call31_v7 : Ref sig .tc := ⟨.hbm, 949, rfl⟩
abbrev main_call31_v8 : Ref sig .tc := ⟨.hbm, 950, rfl⟩
abbrev main_call31_v9 : Ref sig .tc := ⟨.hbm, 951, rfl⟩
abbrev main_call31_v10 : Ref sig .tc := ⟨.hbm, 952, rfl⟩
abbrev main_call31_v11 : Ref sig .tc := ⟨.hbm, 953, rfl⟩
abbrev main_call31_c_3 : Ref sig .tc := ⟨.hbm, 954, rfl⟩
abbrev main_call31_v12 : Ref sig .tc := ⟨.hbm, 955, rfl⟩
abbrev main_call31_v13 : Ref sig .tc := ⟨.hbm, 956, rfl⟩
abbrev main_call31_v14 : Ref sig .tc := ⟨.hbm, 957, rfl⟩
abbrev main_call31_cst : Ref sig .tc := ⟨.hbm, 958, rfl⟩
abbrev main_call31_v15 : Ref sig .tc := ⟨.hbm, 959, rfl⟩
abbrev main_v397 : Ref sig .tc := ⟨.hbm, 960, rfl⟩
abbrev main_v398 : Ref sig .tc := ⟨.hbm, 961, rfl⟩
abbrev main_v399 : Ref sig .tc := ⟨.hbm, 962, rfl⟩
abbrev main_v400 : Ref sig .tc := ⟨.hbm, 963, rfl⟩
abbrev main_cst_72 : Ref sig .tc := ⟨.hbm, 964, rfl⟩
abbrev main_v401 : Ref sig .tc := ⟨.hbm, 965, rfl⟩
abbrev main_v402 : Ref sig .tc := ⟨.hbm, 966, rfl⟩
abbrev main_cst_73 : Ref sig .tc := ⟨.hbm, 967, rfl⟩
abbrev main_v403 : Ref sig .tc := ⟨.hbm, 968, rfl⟩
abbrev main_cst_74 : Ref sig .tc := ⟨.hbm, 969, rfl⟩
abbrev main_v404 : Ref sig .tc := ⟨.hbm, 970, rfl⟩
abbrev main_v405 : Ref sig .tc := ⟨.hbm, 971, rfl⟩
abbrev main_v406 : Ref sig .tc := ⟨.hbm, 972, rfl⟩
abbrev main_v407 : Ref sig .tc := ⟨.hbm, 973, rfl⟩
abbrev main_v408 : Ref sig .tc := ⟨.hbm, 974, rfl⟩
abbrev main_v409 : Ref sig .tc := ⟨.hbm, 975, rfl⟩
abbrev main_cst_75 : Ref sig .tc := ⟨.hbm, 976, rfl⟩
abbrev main_v410 : Ref sig .tc := ⟨.hbm, 977, rfl⟩
abbrev main_v411 : Ref sig .tc := ⟨.hbm, 978, rfl⟩
abbrev main_v412 : Ref sig .tc := ⟨.hbm, 979, rfl⟩
abbrev main_v413 : Ref sig .tc := ⟨.hbm, 980, rfl⟩
abbrev main_v414 : Ref sig .tc := ⟨.hbm, 981, rfl⟩
abbrev main_v415 : Ref sig .tc := ⟨.hbm, 982, rfl⟩
abbrev main_v416 : Ref sig .tc := ⟨.hbm, 983, rfl⟩
abbrev main_v417 : Ref sig .tc := ⟨.hbm, 984, rfl⟩
abbrev main_c_76 : Ref sig .tc := ⟨.hbm, 985, rfl⟩
abbrev main_call32_v0 : Ref sig .tc := ⟨.hbm, 986, rfl⟩
abbrev main_v418 : Ref sig .tc := ⟨.hbm, 987, rfl⟩
abbrev main_v419 : Ref sig .tc := ⟨.hbm, 988, rfl⟩
abbrev main_cst_77 : Ref sig .tc := ⟨.hbm, 989, rfl⟩
abbrev main_v420 : Ref sig .tc := ⟨.hbm, 990, rfl⟩
abbrev main_v421 : Ref sig .tc := ⟨.hbm, 991, rfl⟩
abbrev main_v422 : Ref sig .tc := ⟨.hbm, 992, rfl⟩
abbrev main_v423 : Ref sig .tc := ⟨.hbm, 993, rfl⟩
abbrev main_v424 : Ref sig .tc := ⟨.hbm, 994, rfl⟩
abbrev main_cst_78 : Ref sig .tc := ⟨.hbm, 995, rfl⟩
abbrev main_v425 : Ref sig .tc := ⟨.hbm, 996, rfl⟩
abbrev main_v426 : Ref sig .tc := ⟨.hbm, 997, rfl⟩
abbrev main_call33_c : Ref sig .tc := ⟨.hbm, 998, rfl⟩
abbrev main_call33_v0 : Ref sig .tc := ⟨.hbm, 999, rfl⟩
abbrev main_call33_v1 : Ref sig .tc := ⟨.hbm, 1000, rfl⟩
abbrev main_call33_c_0 : Ref sig .tc := ⟨.hbm, 1001, rfl⟩
abbrev main_call33_v2 : Ref sig .tc := ⟨.hbm, 1002, rfl⟩
abbrev main_call33_v3 : Ref sig .tc := ⟨.hbm, 1003, rfl⟩
abbrev main_call33_v4 : Ref sig .tc := ⟨.hbm, 1004, rfl⟩
abbrev main_call33_v5 : Ref sig .tc := ⟨.hbm, 1005, rfl⟩
abbrev main_call33_c_1 : Ref sig .tc := ⟨.hbm, 1006, rfl⟩
abbrev main_call33_c_2 : Ref sig .tc := ⟨.hbm, 1007, rfl⟩
abbrev main_call33_v6 : Ref sig .tc := ⟨.hbm, 1008, rfl⟩
abbrev main_call33_v7 : Ref sig .tc := ⟨.hbm, 1009, rfl⟩
abbrev main_call33_v8 : Ref sig .tc := ⟨.hbm, 1010, rfl⟩
abbrev main_call33_v9 : Ref sig .tc := ⟨.hbm, 1011, rfl⟩
abbrev main_call33_v10 : Ref sig .tc := ⟨.hbm, 1012, rfl⟩
abbrev main_call33_v11 : Ref sig .tc := ⟨.hbm, 1013, rfl⟩
abbrev main_call33_c_3 : Ref sig .tc := ⟨.hbm, 1014, rfl⟩
abbrev main_call33_v12 : Ref sig .tc := ⟨.hbm, 1015, rfl⟩
abbrev main_call33_v13 : Ref sig .tc := ⟨.hbm, 1016, rfl⟩
abbrev main_call33_cst : Ref sig .tc := ⟨.hbm, 1017, rfl⟩
abbrev main_call33_v14 : Ref sig .tc := ⟨.hbm, 1018, rfl⟩
abbrev main_v427 : Ref sig .tc := ⟨.hbm, 1019, rfl⟩
abbrev main_v428 : Ref sig .tc := ⟨.hbm, 1020, rfl⟩
abbrev main_v429 : Ref sig .tc := ⟨.hbm, 1021, rfl⟩
abbrev main_v430 : Ref sig .tc := ⟨.hbm, 1022, rfl⟩
abbrev main_v431 : Ref sig .tc := ⟨.hbm, 1023, rfl⟩
abbrev main_v432 : Ref sig .tc := ⟨.hbm, 1024, rfl⟩
abbrev main_v433 : Ref sig .tc := ⟨.hbm, 1025, rfl⟩
abbrev main_v434 : Ref sig .tc := ⟨.hbm, 1026, rfl⟩
abbrev main_v435 : Ref sig .tc := ⟨.hbm, 1027, rfl⟩
abbrev main_call34_c : Ref sig .tc := ⟨.hbm, 1028, rfl⟩
abbrev main_call34_v0 : Ref sig .tc := ⟨.hbm, 1029, rfl⟩
abbrev main_call34_v1 : Ref sig .tc := ⟨.hbm, 1030, rfl⟩
abbrev main_call34_c_0 : Ref sig .tc := ⟨.hbm, 1031, rfl⟩
abbrev main_call34_v2 : Ref sig .tc := ⟨.hbm, 1032, rfl⟩
abbrev main_call34_v3 : Ref sig .tc := ⟨.hbm, 1033, rfl⟩
abbrev main_call34_v4 : Ref sig .tc := ⟨.hbm, 1034, rfl⟩
abbrev main_call34_v5 : Ref sig .tc := ⟨.hbm, 1035, rfl⟩
abbrev main_call34_c_1 : Ref sig .tc := ⟨.hbm, 1036, rfl⟩
abbrev main_call34_c_2 : Ref sig .tc := ⟨.hbm, 1037, rfl⟩
abbrev main_call34_v6 : Ref sig .tc := ⟨.hbm, 1038, rfl⟩
abbrev main_call34_v7 : Ref sig .tc := ⟨.hbm, 1039, rfl⟩
abbrev main_call34_v8 : Ref sig .tc := ⟨.hbm, 1040, rfl⟩
abbrev main_call34_v9 : Ref sig .tc := ⟨.hbm, 1041, rfl⟩
abbrev main_call34_v10 : Ref sig .tc := ⟨.hbm, 1042, rfl⟩
abbrev main_call34_v11 : Ref sig .tc := ⟨.hbm, 1043, rfl⟩
abbrev main_call34_c_3 : Ref sig .tc := ⟨.hbm, 1044, rfl⟩
abbrev main_call34_v12 : Ref sig .tc := ⟨.hbm, 1045, rfl⟩
abbrev main_call34_v13 : Ref sig .tc := ⟨.hbm, 1046, rfl⟩
abbrev main_call34_v14 : Ref sig .tc := ⟨.hbm, 1047, rfl⟩
abbrev main_call34_cst : Ref sig .tc := ⟨.hbm, 1048, rfl⟩
abbrev main_call34_v15 : Ref sig .tc := ⟨.hbm, 1049, rfl⟩
abbrev main_v436 : Ref sig .tc := ⟨.hbm, 1050, rfl⟩
abbrev main_v437 : Ref sig .tc := ⟨.hbm, 1051, rfl⟩
abbrev main_v438 : Ref sig .tc := ⟨.hbm, 1052, rfl⟩
abbrev main_v439 : Ref sig .tc := ⟨.hbm, 1053, rfl⟩
abbrev main_cst_79 : Ref sig .tc := ⟨.hbm, 1054, rfl⟩
abbrev main_v440 : Ref sig .tc := ⟨.hbm, 1055, rfl⟩
abbrev main_v441 : Ref sig .tc := ⟨.hbm, 1056, rfl⟩
abbrev main_cst_80 : Ref sig .tc := ⟨.hbm, 1057, rfl⟩
abbrev main_v442 : Ref sig .tc := ⟨.hbm, 1058, rfl⟩
abbrev main_cst_81 : Ref sig .tc := ⟨.hbm, 1059, rfl⟩
abbrev main_v443 : Ref sig .tc := ⟨.hbm, 1060, rfl⟩
abbrev main_v444 : Ref sig .tc := ⟨.hbm, 1061, rfl⟩
abbrev main_v445 : Ref sig .tc := ⟨.hbm, 1062, rfl⟩
abbrev main_v446 : Ref sig .tc := ⟨.hbm, 1063, rfl⟩
abbrev main_v447 : Ref sig .tc := ⟨.hbm, 1064, rfl⟩
abbrev main_v448 : Ref sig .tc := ⟨.hbm, 1065, rfl⟩
abbrev main_cst_82 : Ref sig .tc := ⟨.hbm, 1066, rfl⟩
abbrev main_v449 : Ref sig .tc := ⟨.hbm, 1067, rfl⟩
abbrev main_v450 : Ref sig .tc := ⟨.hbm, 1068, rfl⟩
abbrev main_v451 : Ref sig .tc := ⟨.hbm, 1069, rfl⟩
abbrev main_v452 : Ref sig .tc := ⟨.hbm, 1070, rfl⟩
abbrev main_v453 : Ref sig .tc := ⟨.hbm, 1071, rfl⟩
abbrev main_v454 : Ref sig .tc := ⟨.hbm, 1072, rfl⟩
abbrev main_v455 : Ref sig .tc := ⟨.hbm, 1073, rfl⟩
abbrev main_v456 : Ref sig .tc := ⟨.hbm, 1074, rfl⟩
abbrev main_c_83 : Ref sig .tc := ⟨.hbm, 1075, rfl⟩
abbrev main_call35_v0 : Ref sig .tc := ⟨.hbm, 1076, rfl⟩
abbrev main_v457 : Ref sig .tc := ⟨.hbm, 1077, rfl⟩
abbrev main_v458 : Ref sig .tc := ⟨.hbm, 1078, rfl⟩
abbrev main_cst_84 : Ref sig .tc := ⟨.hbm, 1079, rfl⟩
abbrev main_v459 : Ref sig .tc := ⟨.hbm, 1080, rfl⟩
abbrev main_v460 : Ref sig .tc := ⟨.hbm, 1081, rfl⟩
abbrev main_v461 : Ref sig .tc := ⟨.hbm, 1082, rfl⟩
abbrev main_v462 : Ref sig .tc := ⟨.hbm, 1083, rfl⟩
abbrev main_v463 : Ref sig .tc := ⟨.hbm, 1084, rfl⟩
abbrev main_cst_85 : Ref sig .tc := ⟨.hbm, 1085, rfl⟩
abbrev main_v464 : Ref sig .tc := ⟨.hbm, 1086, rfl⟩
abbrev main_v465 : Ref sig .tc := ⟨.hbm, 1087, rfl⟩
abbrev main_call36_c : Ref sig .tc := ⟨.hbm, 1088, rfl⟩
abbrev main_call36_v0 : Ref sig .tc := ⟨.hbm, 1089, rfl⟩
abbrev main_call36_v1 : Ref sig .tc := ⟨.hbm, 1090, rfl⟩
abbrev main_call36_c_0 : Ref sig .tc := ⟨.hbm, 1091, rfl⟩
abbrev main_call36_v2 : Ref sig .tc := ⟨.hbm, 1092, rfl⟩
abbrev main_call36_v3 : Ref sig .tc := ⟨.hbm, 1093, rfl⟩
abbrev main_call36_v4 : Ref sig .tc := ⟨.hbm, 1094, rfl⟩
abbrev main_call36_v5 : Ref sig .tc := ⟨.hbm, 1095, rfl⟩
abbrev main_call36_c_1 : Ref sig .tc := ⟨.hbm, 1096, rfl⟩
abbrev main_call36_c_2 : Ref sig .tc := ⟨.hbm, 1097, rfl⟩
abbrev main_call36_v6 : Ref sig .tc := ⟨.hbm, 1098, rfl⟩
abbrev main_call36_v7 : Ref sig .tc := ⟨.hbm, 1099, rfl⟩
abbrev main_call36_v8 : Ref sig .tc := ⟨.hbm, 1100, rfl⟩
abbrev main_call36_v9 : Ref sig .tc := ⟨.hbm, 1101, rfl⟩
abbrev main_call36_v10 : Ref sig .tc := ⟨.hbm, 1102, rfl⟩
abbrev main_call36_v11 : Ref sig .tc := ⟨.hbm, 1103, rfl⟩
abbrev main_call36_c_3 : Ref sig .tc := ⟨.hbm, 1104, rfl⟩
abbrev main_call36_v12 : Ref sig .tc := ⟨.hbm, 1105, rfl⟩
abbrev main_call36_v13 : Ref sig .tc := ⟨.hbm, 1106, rfl⟩
abbrev main_call36_cst : Ref sig .tc := ⟨.hbm, 1107, rfl⟩
abbrev main_call36_v14 : Ref sig .tc := ⟨.hbm, 1108, rfl⟩
abbrev main_v466 : Ref sig .tc := ⟨.hbm, 1109, rfl⟩
abbrev main_v467 : Ref sig .tc := ⟨.hbm, 1110, rfl⟩
abbrev main_v468 : Ref sig .tc := ⟨.hbm, 1111, rfl⟩
abbrev main_v469 : Ref sig .tc := ⟨.hbm, 1112, rfl⟩
abbrev main_v470 : Ref sig .tc := ⟨.hbm, 1113, rfl⟩
abbrev main_v471 : Ref sig .tc := ⟨.hbm, 1114, rfl⟩
abbrev main_v472 : Ref sig .tc := ⟨.hbm, 1115, rfl⟩
abbrev main_v473 : Ref sig .tc := ⟨.hbm, 1116, rfl⟩
abbrev main_v474 : Ref sig .tc := ⟨.hbm, 1117, rfl⟩
abbrev main_call37_c : Ref sig .tc := ⟨.hbm, 1118, rfl⟩
abbrev main_call37_v0 : Ref sig .tc := ⟨.hbm, 1119, rfl⟩
abbrev main_call37_v1 : Ref sig .tc := ⟨.hbm, 1120, rfl⟩
abbrev main_call37_c_0 : Ref sig .tc := ⟨.hbm, 1121, rfl⟩
abbrev main_call37_v2 : Ref sig .tc := ⟨.hbm, 1122, rfl⟩
abbrev main_call37_v3 : Ref sig .tc := ⟨.hbm, 1123, rfl⟩
abbrev main_call37_v4 : Ref sig .tc := ⟨.hbm, 1124, rfl⟩
abbrev main_call37_v5 : Ref sig .tc := ⟨.hbm, 1125, rfl⟩
abbrev main_call37_c_1 : Ref sig .tc := ⟨.hbm, 1126, rfl⟩
abbrev main_call37_c_2 : Ref sig .tc := ⟨.hbm, 1127, rfl⟩
abbrev main_call37_v6 : Ref sig .tc := ⟨.hbm, 1128, rfl⟩
abbrev main_call37_v7 : Ref sig .tc := ⟨.hbm, 1129, rfl⟩
abbrev main_call37_v8 : Ref sig .tc := ⟨.hbm, 1130, rfl⟩
abbrev main_call37_v9 : Ref sig .tc := ⟨.hbm, 1131, rfl⟩
abbrev main_call37_v10 : Ref sig .tc := ⟨.hbm, 1132, rfl⟩
abbrev main_call37_v11 : Ref sig .tc := ⟨.hbm, 1133, rfl⟩
abbrev main_call37_c_3 : Ref sig .tc := ⟨.hbm, 1134, rfl⟩
abbrev main_call37_v12 : Ref sig .tc := ⟨.hbm, 1135, rfl⟩
abbrev main_call37_v13 : Ref sig .tc := ⟨.hbm, 1136, rfl⟩
abbrev main_call37_v14 : Ref sig .tc := ⟨.hbm, 1137, rfl⟩
abbrev main_call37_cst : Ref sig .tc := ⟨.hbm, 1138, rfl⟩
abbrev main_call37_v15 : Ref sig .tc := ⟨.hbm, 1139, rfl⟩
abbrev main_v475 : Ref sig .tc := ⟨.hbm, 1140, rfl⟩
abbrev main_v476 : Ref sig .tc := ⟨.hbm, 1141, rfl⟩
abbrev main_v477 : Ref sig .tc := ⟨.hbm, 1142, rfl⟩
abbrev main_v478 : Ref sig .tc := ⟨.hbm, 1143, rfl⟩
abbrev main_cst_86 : Ref sig .tc := ⟨.hbm, 1144, rfl⟩
abbrev main_v479 : Ref sig .tc := ⟨.hbm, 1145, rfl⟩
abbrev main_v480 : Ref sig .tc := ⟨.hbm, 1146, rfl⟩
abbrev main_cst_87 : Ref sig .tc := ⟨.hbm, 1147, rfl⟩
abbrev main_v481 : Ref sig .tc := ⟨.hbm, 1148, rfl⟩
abbrev main_cst_88 : Ref sig .tc := ⟨.hbm, 1149, rfl⟩
abbrev main_v482 : Ref sig .tc := ⟨.hbm, 1150, rfl⟩
abbrev main_v483 : Ref sig .tc := ⟨.hbm, 1151, rfl⟩
abbrev main_v484 : Ref sig .tc := ⟨.hbm, 1152, rfl⟩
abbrev main_v485 : Ref sig .tc := ⟨.hbm, 1153, rfl⟩
abbrev main_v486 : Ref sig .tc := ⟨.hbm, 1154, rfl⟩
abbrev main_v487 : Ref sig .tc := ⟨.hbm, 1155, rfl⟩
abbrev main_cst_89 : Ref sig .tc := ⟨.hbm, 1156, rfl⟩
abbrev main_v488 : Ref sig .tc := ⟨.hbm, 1157, rfl⟩
abbrev main_v489 : Ref sig .tc := ⟨.hbm, 1158, rfl⟩
abbrev main_v490 : Ref sig .tc := ⟨.hbm, 1159, rfl⟩
abbrev main_v491 : Ref sig .tc := ⟨.hbm, 1160, rfl⟩
abbrev main_v492 : Ref sig .tc := ⟨.hbm, 1161, rfl⟩
abbrev main_v493 : Ref sig .tc := ⟨.hbm, 1162, rfl⟩
abbrev main_v494 : Ref sig .tc := ⟨.hbm, 1163, rfl⟩
abbrev main_v495 : Ref sig .tc := ⟨.hbm, 1164, rfl⟩
abbrev main_c_90 : Ref sig .tc := ⟨.hbm, 1165, rfl⟩
abbrev main_call38_v0 : Ref sig .tc := ⟨.hbm, 1166, rfl⟩
abbrev main_v496 : Ref sig .tc := ⟨.hbm, 1167, rfl⟩
abbrev main_v497 : Ref sig .tc := ⟨.hbm, 1168, rfl⟩
abbrev main_cst_91 : Ref sig .tc := ⟨.hbm, 1169, rfl⟩
abbrev main_v498 : Ref sig .tc := ⟨.hbm, 1170, rfl⟩
abbrev main_v499 : Ref sig .tc := ⟨.hbm, 1171, rfl⟩
abbrev main_v500 : Ref sig .tc := ⟨.hbm, 1172, rfl⟩
abbrev main_v501 : Ref sig .tc := ⟨.hbm, 1173, rfl⟩
abbrev main_v502 : Ref sig .tc := ⟨.hbm, 1174, rfl⟩
abbrev main_cst_92 : Ref sig .tc := ⟨.hbm, 1175, rfl⟩
abbrev main_v503 : Ref sig .tc := ⟨.hbm, 1176, rfl⟩
abbrev main_v504 : Ref sig .tc := ⟨.hbm, 1177, rfl⟩
abbrev main_call39_c : Ref sig .tc := ⟨.hbm, 1178, rfl⟩
abbrev main_call39_v0 : Ref sig .tc := ⟨.hbm, 1179, rfl⟩
abbrev main_call39_v1 : Ref sig .tc := ⟨.hbm, 1180, rfl⟩
abbrev main_call39_c_0 : Ref sig .tc := ⟨.hbm, 1181, rfl⟩
abbrev main_call39_v2 : Ref sig .tc := ⟨.hbm, 1182, rfl⟩
abbrev main_call39_v3 : Ref sig .tc := ⟨.hbm, 1183, rfl⟩
abbrev main_call39_v4 : Ref sig .tc := ⟨.hbm, 1184, rfl⟩
abbrev main_call39_v5 : Ref sig .tc := ⟨.hbm, 1185, rfl⟩
abbrev main_call39_c_1 : Ref sig .tc := ⟨.hbm, 1186, rfl⟩
abbrev main_call39_c_2 : Ref sig .tc := ⟨.hbm, 1187, rfl⟩
abbrev main_call39_v6 : Ref sig .tc := ⟨.hbm, 1188, rfl⟩
abbrev main_call39_v7 : Ref sig .tc := ⟨.hbm, 1189, rfl⟩
abbrev main_call39_v8 : Ref sig .tc := ⟨.hbm, 1190, rfl⟩
abbrev main_call39_v9 : Ref sig .tc := ⟨.hbm, 1191, rfl⟩
abbrev main_call39_v10 : Ref sig .tc := ⟨.hbm, 1192, rfl⟩
abbrev main_call39_v11 : Ref sig .tc := ⟨.hbm, 1193, rfl⟩
abbrev main_call39_c_3 : Ref sig .tc := ⟨.hbm, 1194, rfl⟩
abbrev main_call39_v12 : Ref sig .tc := ⟨.hbm, 1195, rfl⟩
abbrev main_call39_v13 : Ref sig .tc := ⟨.hbm, 1196, rfl⟩
abbrev main_call39_cst : Ref sig .tc := ⟨.hbm, 1197, rfl⟩
abbrev main_call39_v14 : Ref sig .tc := ⟨.hbm, 1198, rfl⟩
abbrev main_v505 : Ref sig .tc := ⟨.hbm, 1199, rfl⟩
abbrev main_v506 : Ref sig .tc := ⟨.hbm, 1200, rfl⟩
abbrev main_v507 : Ref sig .tc := ⟨.hbm, 1201, rfl⟩
abbrev main_v508 : Ref sig .tc := ⟨.hbm, 1202, rfl⟩
abbrev main_v509 : Ref sig .tc := ⟨.hbm, 1203, rfl⟩
abbrev main_v510 : Ref sig .tc := ⟨.hbm, 1204, rfl⟩
abbrev main_v511 : Ref sig .tc := ⟨.hbm, 1205, rfl⟩
abbrev main_v512 : Ref sig .tc := ⟨.hbm, 1206, rfl⟩
abbrev main_v513 : Ref sig .tc := ⟨.hbm, 1207, rfl⟩
abbrev main_call40_c : Ref sig .tc := ⟨.hbm, 1208, rfl⟩
abbrev main_call40_v0 : Ref sig .tc := ⟨.hbm, 1209, rfl⟩
abbrev main_call40_v1 : Ref sig .tc := ⟨.hbm, 1210, rfl⟩
abbrev main_call40_c_0 : Ref sig .tc := ⟨.hbm, 1211, rfl⟩
abbrev main_call40_v2 : Ref sig .tc := ⟨.hbm, 1212, rfl⟩
abbrev main_call40_v3 : Ref sig .tc := ⟨.hbm, 1213, rfl⟩
abbrev main_call40_v4 : Ref sig .tc := ⟨.hbm, 1214, rfl⟩
abbrev main_call40_v5 : Ref sig .tc := ⟨.hbm, 1215, rfl⟩
abbrev main_call40_c_1 : Ref sig .tc := ⟨.hbm, 1216, rfl⟩
abbrev main_call40_c_2 : Ref sig .tc := ⟨.hbm, 1217, rfl⟩
abbrev main_call40_v6 : Ref sig .tc := ⟨.hbm, 1218, rfl⟩
abbrev main_call40_v7 : Ref sig .tc := ⟨.hbm, 1219, rfl⟩
abbrev main_call40_v8 : Ref sig .tc := ⟨.hbm, 1220, rfl⟩
abbrev main_call40_v9 : Ref sig .tc := ⟨.hbm, 1221, rfl⟩
abbrev main_call40_v10 : Ref sig .tc := ⟨.hbm, 1222, rfl⟩
abbrev main_call40_v11 : Ref sig .tc := ⟨.hbm, 1223, rfl⟩
abbrev main_call40_c_3 : Ref sig .tc := ⟨.hbm, 1224, rfl⟩
abbrev main_call40_v12 : Ref sig .tc := ⟨.hbm, 1225, rfl⟩
abbrev main_call40_v13 : Ref sig .tc := ⟨.hbm, 1226, rfl⟩
abbrev main_call40_v14 : Ref sig .tc := ⟨.hbm, 1227, rfl⟩
abbrev main_call40_cst : Ref sig .tc := ⟨.hbm, 1228, rfl⟩
abbrev main_call40_v15 : Ref sig .tc := ⟨.hbm, 1229, rfl⟩
abbrev main_v514 : Ref sig .tc := ⟨.hbm, 1230, rfl⟩
abbrev main_v515 : Ref sig .tc := ⟨.hbm, 1231, rfl⟩
abbrev main_v516 : Ref sig .tc := ⟨.hbm, 1232, rfl⟩
abbrev main_v517 : Ref sig .tc := ⟨.hbm, 1233, rfl⟩
abbrev main_cst_93 : Ref sig .tc := ⟨.hbm, 1234, rfl⟩
abbrev main_v518 : Ref sig .tc := ⟨.hbm, 1235, rfl⟩
abbrev main_v519 : Ref sig .tc := ⟨.hbm, 1236, rfl⟩
abbrev main_cst_94 : Ref sig .tc := ⟨.hbm, 1237, rfl⟩
abbrev main_v520 : Ref sig .tc := ⟨.hbm, 1238, rfl⟩
abbrev main_cst_95 : Ref sig .tc := ⟨.hbm, 1239, rfl⟩
abbrev main_v521 : Ref sig .tc := ⟨.hbm, 1240, rfl⟩
abbrev main_v522 : Ref sig .tc := ⟨.hbm, 1241, rfl⟩
abbrev main_v523 : Ref sig .tc := ⟨.hbm, 1242, rfl⟩
abbrev main_v524 : Ref sig .tc := ⟨.hbm, 1243, rfl⟩
abbrev main_v525 : Ref sig .tc := ⟨.hbm, 1244, rfl⟩
abbrev main_v526 : Ref sig .tc := ⟨.hbm, 1245, rfl⟩
abbrev main_cst_96 : Ref sig .tc := ⟨.hbm, 1246, rfl⟩
abbrev main_v527 : Ref sig .tc := ⟨.hbm, 1247, rfl⟩
abbrev main_v528 : Ref sig .tc := ⟨.hbm, 1248, rfl⟩
abbrev main_v529 : Ref sig .tc := ⟨.hbm, 1249, rfl⟩
abbrev main_v530 : Ref sig .tc := ⟨.hbm, 1250, rfl⟩
abbrev main_v531 : Ref sig .tc := ⟨.hbm, 1251, rfl⟩
abbrev main_v532 : Ref sig .tc := ⟨.hbm, 1252, rfl⟩
abbrev main_v533 : Ref sig .tc := ⟨.hbm, 1253, rfl⟩
abbrev main_v534 : Ref sig .tc := ⟨.hbm, 1254, rfl⟩
abbrev main_c_97 : Ref sig .tc := ⟨.hbm, 1255, rfl⟩
abbrev main_call41_v0 : Ref sig .tc := ⟨.hbm, 1256, rfl⟩
abbrev main_v535 : Ref sig .tc := ⟨.hbm, 1257, rfl⟩
abbrev main_v536 : Ref sig .tc := ⟨.hbm, 1258, rfl⟩
abbrev main_cst_98 : Ref sig .tc := ⟨.hbm, 1259, rfl⟩
abbrev main_v537 : Ref sig .tc := ⟨.hbm, 1260, rfl⟩
abbrev main_v538 : Ref sig .tc := ⟨.hbm, 1261, rfl⟩
abbrev main_v539 : Ref sig .tc := ⟨.hbm, 1262, rfl⟩
abbrev main_v540 : Ref sig .tc := ⟨.hbm, 1263, rfl⟩
abbrev main_v541 : Ref sig .tc := ⟨.hbm, 1264, rfl⟩
abbrev main_cst_99 : Ref sig .tc := ⟨.hbm, 1265, rfl⟩
abbrev main_v542 : Ref sig .tc := ⟨.hbm, 1266, rfl⟩
abbrev main_v543 : Ref sig .tc := ⟨.hbm, 1267, rfl⟩
abbrev main_call42_c : Ref sig .tc := ⟨.hbm, 1268, rfl⟩
abbrev main_call42_v0 : Ref sig .tc := ⟨.hbm, 1269, rfl⟩
abbrev main_call42_v1 : Ref sig .tc := ⟨.hbm, 1270, rfl⟩
abbrev main_call42_c_0 : Ref sig .tc := ⟨.hbm, 1271, rfl⟩
abbrev main_call42_v2 : Ref sig .tc := ⟨.hbm, 1272, rfl⟩
abbrev main_call42_v3 : Ref sig .tc := ⟨.hbm, 1273, rfl⟩
abbrev main_call42_v4 : Ref sig .tc := ⟨.hbm, 1274, rfl⟩
abbrev main_call42_v5 : Ref sig .tc := ⟨.hbm, 1275, rfl⟩
abbrev main_call42_c_1 : Ref sig .tc := ⟨.hbm, 1276, rfl⟩
abbrev main_call42_c_2 : Ref sig .tc := ⟨.hbm, 1277, rfl⟩
abbrev main_call42_v6 : Ref sig .tc := ⟨.hbm, 1278, rfl⟩
abbrev main_call42_v7 : Ref sig .tc := ⟨.hbm, 1279, rfl⟩
abbrev main_call42_v8 : Ref sig .tc := ⟨.hbm, 1280, rfl⟩
abbrev main_call42_v9 : Ref sig .tc := ⟨.hbm, 1281, rfl⟩
abbrev main_call42_v10 : Ref sig .tc := ⟨.hbm, 1282, rfl⟩
abbrev main_call42_v11 : Ref sig .tc := ⟨.hbm, 1283, rfl⟩
abbrev main_call42_c_3 : Ref sig .tc := ⟨.hbm, 1284, rfl⟩
abbrev main_call42_v12 : Ref sig .tc := ⟨.hbm, 1285, rfl⟩
abbrev main_call42_v13 : Ref sig .tc := ⟨.hbm, 1286, rfl⟩
abbrev main_call42_cst : Ref sig .tc := ⟨.hbm, 1287, rfl⟩
abbrev main_call42_v14 : Ref sig .tc := ⟨.hbm, 1288, rfl⟩
abbrev main_v544 : Ref sig .tc := ⟨.hbm, 1289, rfl⟩
abbrev main_v545 : Ref sig .tc := ⟨.hbm, 1290, rfl⟩
abbrev main_v546 : Ref sig .tc := ⟨.hbm, 1291, rfl⟩
abbrev main_v547 : Ref sig .tc := ⟨.hbm, 1292, rfl⟩
abbrev main_v548 : Ref sig .tc := ⟨.hbm, 1293, rfl⟩
abbrev main_v549 : Ref sig .tc := ⟨.hbm, 1294, rfl⟩
abbrev main_v550 : Ref sig .tc := ⟨.hbm, 1295, rfl⟩
abbrev main_v551 : Ref sig .tc := ⟨.hbm, 1296, rfl⟩
abbrev main_v552 : Ref sig .tc := ⟨.hbm, 1297, rfl⟩
abbrev main_call43_c : Ref sig .tc := ⟨.hbm, 1298, rfl⟩
abbrev main_call43_v0 : Ref sig .tc := ⟨.hbm, 1299, rfl⟩
abbrev main_call43_v1 : Ref sig .tc := ⟨.hbm, 1300, rfl⟩
abbrev main_call43_c_0 : Ref sig .tc := ⟨.hbm, 1301, rfl⟩
abbrev main_call43_v2 : Ref sig .tc := ⟨.hbm, 1302, rfl⟩
abbrev main_call43_v3 : Ref sig .tc := ⟨.hbm, 1303, rfl⟩
abbrev main_call43_v4 : Ref sig .tc := ⟨.hbm, 1304, rfl⟩
abbrev main_call43_v5 : Ref sig .tc := ⟨.hbm, 1305, rfl⟩
abbrev main_call43_c_1 : Ref sig .tc := ⟨.hbm, 1306, rfl⟩
abbrev main_call43_c_2 : Ref sig .tc := ⟨.hbm, 1307, rfl⟩
abbrev main_call43_v6 : Ref sig .tc := ⟨.hbm, 1308, rfl⟩
abbrev main_call43_v7 : Ref sig .tc := ⟨.hbm, 1309, rfl⟩
abbrev main_call43_v8 : Ref sig .tc := ⟨.hbm, 1310, rfl⟩
abbrev main_call43_v9 : Ref sig .tc := ⟨.hbm, 1311, rfl⟩
abbrev main_call43_v10 : Ref sig .tc := ⟨.hbm, 1312, rfl⟩
abbrev main_call43_v11 : Ref sig .tc := ⟨.hbm, 1313, rfl⟩
abbrev main_call43_c_3 : Ref sig .tc := ⟨.hbm, 1314, rfl⟩
abbrev main_call43_v12 : Ref sig .tc := ⟨.hbm, 1315, rfl⟩
abbrev main_call43_v13 : Ref sig .tc := ⟨.hbm, 1316, rfl⟩
abbrev main_call43_v14 : Ref sig .tc := ⟨.hbm, 1317, rfl⟩
abbrev main_call43_cst : Ref sig .tc := ⟨.hbm, 1318, rfl⟩
abbrev main_call43_v15 : Ref sig .tc := ⟨.hbm, 1319, rfl⟩
abbrev main_v553 : Ref sig .tc := ⟨.hbm, 1320, rfl⟩
abbrev main_v554 : Ref sig .tc := ⟨.hbm, 1321, rfl⟩
abbrev main_v555 : Ref sig .tc := ⟨.hbm, 1322, rfl⟩
abbrev main_v556 : Ref sig .tc := ⟨.hbm, 1323, rfl⟩
abbrev main_cst_100 : Ref sig .tc := ⟨.hbm, 1324, rfl⟩
abbrev main_v557 : Ref sig .tc := ⟨.hbm, 1325, rfl⟩
abbrev main_v558 : Ref sig .tc := ⟨.hbm, 1326, rfl⟩
abbrev main_cst_101 : Ref sig .tc := ⟨.hbm, 1327, rfl⟩
abbrev main_v559 : Ref sig .tc := ⟨.hbm, 1328, rfl⟩
abbrev main_cst_102 : Ref sig .tc := ⟨.hbm, 1329, rfl⟩
abbrev main_v560 : Ref sig .tc := ⟨.hbm, 1330, rfl⟩
abbrev main_v561 : Ref sig .tc := ⟨.hbm, 1331, rfl⟩
abbrev main_v562 : Ref sig .tc := ⟨.hbm, 1332, rfl⟩
abbrev main_v563 : Ref sig .tc := ⟨.hbm, 1333, rfl⟩
abbrev main_v564 : Ref sig .tc := ⟨.hbm, 1334, rfl⟩
abbrev main_v565 : Ref sig .tc := ⟨.hbm, 1335, rfl⟩
abbrev main_cst_103 : Ref sig .tc := ⟨.hbm, 1336, rfl⟩
abbrev main_v566 : Ref sig .tc := ⟨.hbm, 1337, rfl⟩
abbrev main_v567 : Ref sig .tc := ⟨.hbm, 1338, rfl⟩
abbrev main_v568 : Ref sig .tc := ⟨.hbm, 1339, rfl⟩
abbrev main_v569 : Ref sig .tc := ⟨.hbm, 1340, rfl⟩
abbrev main_v570 : Ref sig .tc := ⟨.hbm, 1341, rfl⟩
abbrev main_v571 : Ref sig .tc := ⟨.hbm, 1342, rfl⟩
abbrev main_v572 : Ref sig .tc := ⟨.hbm, 1343, rfl⟩
abbrev main_v573 : Ref sig .tc := ⟨.hbm, 1344, rfl⟩
abbrev main_c_104 : Ref sig .tc := ⟨.hbm, 1345, rfl⟩
abbrev main_call44_v0 : Ref sig .tc := ⟨.hbm, 1346, rfl⟩
abbrev main_v574 : Ref sig .tc := ⟨.hbm, 1347, rfl⟩
abbrev main_v575 : Ref sig .tc := ⟨.hbm, 1348, rfl⟩
abbrev main_cst_105 : Ref sig .tc := ⟨.hbm, 1349, rfl⟩
abbrev main_v576 : Ref sig .tc := ⟨.hbm, 1350, rfl⟩
abbrev main_v577 : Ref sig .tc := ⟨.hbm, 1351, rfl⟩
abbrev main_v578 : Ref sig .tc := ⟨.hbm, 1352, rfl⟩
abbrev main_v579 : Ref sig .tc := ⟨.hbm, 1353, rfl⟩
abbrev main_v580 : Ref sig .tc := ⟨.hbm, 1354, rfl⟩
abbrev main_cst_106 : Ref sig .tc := ⟨.hbm, 1355, rfl⟩
abbrev main_v581 : Ref sig .tc := ⟨.hbm, 1356, rfl⟩
abbrev main_v582 : Ref sig .tc := ⟨.hbm, 1357, rfl⟩
abbrev main_call45_c : Ref sig .tc := ⟨.hbm, 1358, rfl⟩
abbrev main_call45_v0 : Ref sig .tc := ⟨.hbm, 1359, rfl⟩
abbrev main_call45_v1 : Ref sig .tc := ⟨.hbm, 1360, rfl⟩
abbrev main_call45_c_0 : Ref sig .tc := ⟨.hbm, 1361, rfl⟩
abbrev main_call45_v2 : Ref sig .tc := ⟨.hbm, 1362, rfl⟩
abbrev main_call45_v3 : Ref sig .tc := ⟨.hbm, 1363, rfl⟩
abbrev main_call45_v4 : Ref sig .tc := ⟨.hbm, 1364, rfl⟩
abbrev main_call45_v5 : Ref sig .tc := ⟨.hbm, 1365, rfl⟩
abbrev main_call45_c_1 : Ref sig .tc := ⟨.hbm, 1366, rfl⟩
abbrev main_call45_c_2 : Ref sig .tc := ⟨.hbm, 1367, rfl⟩
abbrev main_call45_v6 : Ref sig .tc := ⟨.hbm, 1368, rfl⟩
abbrev main_call45_v7 : Ref sig .tc := ⟨.hbm, 1369, rfl⟩
abbrev main_call45_v8 : Ref sig .tc := ⟨.hbm, 1370, rfl⟩
abbrev main_call45_v9 : Ref sig .tc := ⟨.hbm, 1371, rfl⟩
abbrev main_call45_v10 : Ref sig .tc := ⟨.hbm, 1372, rfl⟩
abbrev main_call45_v11 : Ref sig .tc := ⟨.hbm, 1373, rfl⟩
abbrev main_call45_c_3 : Ref sig .tc := ⟨.hbm, 1374, rfl⟩
abbrev main_call45_v12 : Ref sig .tc := ⟨.hbm, 1375, rfl⟩
abbrev main_call45_v13 : Ref sig .tc := ⟨.hbm, 1376, rfl⟩
abbrev main_call45_cst : Ref sig .tc := ⟨.hbm, 1377, rfl⟩
abbrev main_call45_v14 : Ref sig .tc := ⟨.hbm, 1378, rfl⟩
abbrev main_v583 : Ref sig .tc := ⟨.hbm, 1379, rfl⟩
abbrev main_v584 : Ref sig .tc := ⟨.hbm, 1380, rfl⟩
abbrev main_v585 : Ref sig .tc := ⟨.hbm, 1381, rfl⟩
abbrev main_v586 : Ref sig .tc := ⟨.hbm, 1382, rfl⟩
abbrev main_v587 : Ref sig .tc := ⟨.hbm, 1383, rfl⟩
abbrev main_v588 : Ref sig .tc := ⟨.hbm, 1384, rfl⟩
abbrev main_v589 : Ref sig .tc := ⟨.hbm, 1385, rfl⟩
abbrev main_v590 : Ref sig .tc := ⟨.hbm, 1386, rfl⟩
abbrev main_v591 : Ref sig .tc := ⟨.hbm, 1387, rfl⟩
abbrev main_call46_c : Ref sig .tc := ⟨.hbm, 1388, rfl⟩
abbrev main_call46_v0 : Ref sig .tc := ⟨.hbm, 1389, rfl⟩
abbrev main_call46_v1 : Ref sig .tc := ⟨.hbm, 1390, rfl⟩
abbrev main_call46_c_0 : Ref sig .tc := ⟨.hbm, 1391, rfl⟩
abbrev main_call46_v2 : Ref sig .tc := ⟨.hbm, 1392, rfl⟩
abbrev main_call46_v3 : Ref sig .tc := ⟨.hbm, 1393, rfl⟩
abbrev main_call46_v4 : Ref sig .tc := ⟨.hbm, 1394, rfl⟩
abbrev main_call46_v5 : Ref sig .tc := ⟨.hbm, 1395, rfl⟩
abbrev main_call46_c_1 : Ref sig .tc := ⟨.hbm, 1396, rfl⟩
abbrev main_call46_c_2 : Ref sig .tc := ⟨.hbm, 1397, rfl⟩
abbrev main_call46_v6 : Ref sig .tc := ⟨.hbm, 1398, rfl⟩
abbrev main_call46_v7 : Ref sig .tc := ⟨.hbm, 1399, rfl⟩
abbrev main_call46_v8 : Ref sig .tc := ⟨.hbm, 1400, rfl⟩
abbrev main_call46_v9 : Ref sig .tc := ⟨.hbm, 1401, rfl⟩
abbrev main_call46_v10 : Ref sig .tc := ⟨.hbm, 1402, rfl⟩
abbrev main_call46_v11 : Ref sig .tc := ⟨.hbm, 1403, rfl⟩
abbrev main_call46_c_3 : Ref sig .tc := ⟨.hbm, 1404, rfl⟩
abbrev main_call46_v12 : Ref sig .tc := ⟨.hbm, 1405, rfl⟩
abbrev main_call46_v13 : Ref sig .tc := ⟨.hbm, 1406, rfl⟩
abbrev main_call46_v14 : Ref sig .tc := ⟨.hbm, 1407, rfl⟩
abbrev main_call46_cst : Ref sig .tc := ⟨.hbm, 1408, rfl⟩
abbrev main_call46_v15 : Ref sig .tc := ⟨.hbm, 1409, rfl⟩
abbrev main_v592 : Ref sig .tc := ⟨.hbm, 1410, rfl⟩
abbrev main_v593 : Ref sig .tc := ⟨.hbm, 1411, rfl⟩
abbrev main_v594 : Ref sig .tc := ⟨.hbm, 1412, rfl⟩
abbrev main_v595 : Ref sig .tc := ⟨.hbm, 1413, rfl⟩
abbrev main_cst_107 : Ref sig .tc := ⟨.hbm, 1414, rfl⟩
abbrev main_v596 : Ref sig .tc := ⟨.hbm, 1415, rfl⟩
abbrev main_v597 : Ref sig .tc := ⟨.hbm, 1416, rfl⟩
abbrev main_cst_108 : Ref sig .tc := ⟨.hbm, 1417, rfl⟩
abbrev main_v598 : Ref sig .tc := ⟨.hbm, 1418, rfl⟩
abbrev main_cst_109 : Ref sig .tc := ⟨.hbm, 1419, rfl⟩
abbrev main_v599 : Ref sig .tc := ⟨.hbm, 1420, rfl⟩
abbrev main_v600 : Ref sig .tc := ⟨.hbm, 1421, rfl⟩
abbrev main_v601 : Ref sig .tc := ⟨.hbm, 1422, rfl⟩
abbrev main_v602 : Ref sig .tc := ⟨.hbm, 1423, rfl⟩
abbrev main_v603 : Ref sig .tc := ⟨.hbm, 1424, rfl⟩
abbrev main_v604 : Ref sig .tc := ⟨.hbm, 1425, rfl⟩
abbrev main_cst_110 : Ref sig .tc := ⟨.hbm, 1426, rfl⟩
abbrev main_v605 : Ref sig .tc := ⟨.hbm, 1427, rfl⟩
abbrev main_v606 : Ref sig .tc := ⟨.hbm, 1428, rfl⟩
abbrev main_v607 : Ref sig .tc := ⟨.hbm, 1429, rfl⟩
abbrev main_v608 : Ref sig .tc := ⟨.hbm, 1430, rfl⟩
abbrev main_v609 : Ref sig .tc := ⟨.hbm, 1431, rfl⟩
abbrev main_v610 : Ref sig .tc := ⟨.hbm, 1432, rfl⟩
abbrev main_v611 : Ref sig .tc := ⟨.hbm, 1433, rfl⟩
abbrev main_v612 : Ref sig .tc := ⟨.hbm, 1434, rfl⟩
abbrev main_c_111 : Ref sig .tc := ⟨.hbm, 1435, rfl⟩
abbrev main_call47_v0 : Ref sig .tc := ⟨.hbm, 1436, rfl⟩
abbrev main_v613 : Ref sig .tc := ⟨.hbm, 1437, rfl⟩
abbrev main_v614 : Ref sig .tc := ⟨.hbm, 1438, rfl⟩
abbrev main_cst_112 : Ref sig .tc := ⟨.hbm, 1439, rfl⟩
abbrev main_v615 : Ref sig .tc := ⟨.hbm, 1440, rfl⟩
abbrev main_v616 : Ref sig .tc := ⟨.hbm, 1441, rfl⟩
abbrev main_v617 : Ref sig .tc := ⟨.hbm, 1442, rfl⟩
abbrev main_v618 : Ref sig .tc := ⟨.hbm, 1443, rfl⟩
abbrev main_v619 : Ref sig .tc := ⟨.hbm, 1444, rfl⟩
abbrev main_cst_113 : Ref sig .tc := ⟨.hbm, 1445, rfl⟩
abbrev main_v620 : Ref sig .tc := ⟨.hbm, 1446, rfl⟩
abbrev main_v621 : Ref sig .tc := ⟨.hbm, 1447, rfl⟩
abbrev main_call48_c : Ref sig .tc := ⟨.hbm, 1448, rfl⟩
abbrev main_call48_v0 : Ref sig .tc := ⟨.hbm, 1449, rfl⟩
abbrev main_call48_v1 : Ref sig .tc := ⟨.hbm, 1450, rfl⟩
abbrev main_call48_c_0 : Ref sig .tc := ⟨.hbm, 1451, rfl⟩
abbrev main_call48_v2 : Ref sig .tc := ⟨.hbm, 1452, rfl⟩
abbrev main_call48_v3 : Ref sig .tc := ⟨.hbm, 1453, rfl⟩
abbrev main_call48_v4 : Ref sig .tc := ⟨.hbm, 1454, rfl⟩
abbrev main_call48_v5 : Ref sig .tc := ⟨.hbm, 1455, rfl⟩
abbrev main_call48_c_1 : Ref sig .tc := ⟨.hbm, 1456, rfl⟩
abbrev main_call48_c_2 : Ref sig .tc := ⟨.hbm, 1457, rfl⟩
abbrev main_call48_v6 : Ref sig .tc := ⟨.hbm, 1458, rfl⟩
abbrev main_call48_v7 : Ref sig .tc := ⟨.hbm, 1459, rfl⟩
abbrev main_call48_v8 : Ref sig .tc := ⟨.hbm, 1460, rfl⟩
abbrev main_call48_v9 : Ref sig .tc := ⟨.hbm, 1461, rfl⟩
abbrev main_call48_v10 : Ref sig .tc := ⟨.hbm, 1462, rfl⟩
abbrev main_call48_v11 : Ref sig .tc := ⟨.hbm, 1463, rfl⟩
abbrev main_call48_c_3 : Ref sig .tc := ⟨.hbm, 1464, rfl⟩
abbrev main_call48_v12 : Ref sig .tc := ⟨.hbm, 1465, rfl⟩
abbrev main_call48_v13 : Ref sig .tc := ⟨.hbm, 1466, rfl⟩
abbrev main_call48_cst : Ref sig .tc := ⟨.hbm, 1467, rfl⟩
abbrev main_call48_v14 : Ref sig .tc := ⟨.hbm, 1468, rfl⟩
abbrev main_v622 : Ref sig .tc := ⟨.hbm, 1469, rfl⟩
abbrev main_v623 : Ref sig .tc := ⟨.hbm, 1470, rfl⟩
abbrev main_v624 : Ref sig .tc := ⟨.hbm, 1471, rfl⟩
abbrev main_v625 : Ref sig .tc := ⟨.hbm, 1472, rfl⟩
abbrev main_v626 : Ref sig .tc := ⟨.hbm, 1473, rfl⟩
abbrev main_v627 : Ref sig .tc := ⟨.hbm, 1474, rfl⟩
abbrev main_v628 : Ref sig .tc := ⟨.hbm, 1475, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_scratch0 : Ref sig .tc := ⟨.vmem, 11, rfl⟩
abbrev cc2_scratch1 : Ref sig .tc := ⟨.vmem, 12, rfl⟩
abbrev cc2_scratch2 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc4_stg0_0 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc5_stg0_0 : Ref sig .tc := ⟨.vmem, 22, rfl⟩
abbrev cc5_stg1_0 : Ref sig .tc := ⟨.vmem, 23, rfl⟩
abbrev cc5_stg2_0 : Ref sig .tc := ⟨.vmem, 24, rfl⟩
abbrev cc5_scratch0 : Ref sig .tc := ⟨.vmem, 25, rfl⟩
abbrev cc5_scratch1 : Ref sig .tc := ⟨.vmem, 26, rfl⟩
abbrev cc5_scratch2 : Ref sig .tc := ⟨.vmem, 27, rfl⟩
abbrev cc6_stg0_0 : Ref sig .tc := ⟨.vmem, 28, rfl⟩
abbrev cc6_stg1_0 : Ref sig .tc := ⟨.vmem, 29, rfl⟩
abbrev cc6_stg2_0 : Ref sig .tc := ⟨.vmem, 30, rfl⟩
abbrev cc7_stg0_0 : Ref sig .tc := ⟨.vmem, 31, rfl⟩
abbrev cc7_stg1_0 : Ref sig .tc := ⟨.vmem, 32, rfl⟩
abbrev cc7_stg1_1 : Ref sig .tc := ⟨.vmem, 33, rfl⟩
abbrev cc7_stg2_0 : Ref sig .tc := ⟨.vmem, 34, rfl⟩
abbrev cc7_stg2_1 : Ref sig .tc := ⟨.vmem, 35, rfl⟩
abbrev cc8_stg0_0 : Ref sig .tc := ⟨.vmem, 36, rfl⟩
abbrev cc8_stg1_0 : Ref sig .tc := ⟨.vmem, 37, rfl⟩
abbrev cc8_stg2_0 : Ref sig .tc := ⟨.vmem, 38, rfl⟩
abbrev cc8_scratch0 : Ref sig .tc := ⟨.vmem, 39, rfl⟩
abbrev cc8_scratch1 : Ref sig .tc := ⟨.vmem, 40, rfl⟩
abbrev cc8_scratch2 : Ref sig .tc := ⟨.vmem, 41, rfl⟩
abbrev cc9_stg0_0 : Ref sig .tc := ⟨.vmem, 42, rfl⟩
abbrev cc9_stg1_0 : Ref sig .tc := ⟨.vmem, 43, rfl⟩
abbrev cc9_stg2_0 : Ref sig .tc := ⟨.vmem, 44, rfl⟩
abbrev cc10_stg0_0 : Ref sig .tc := ⟨.vmem, 45, rfl⟩
abbrev cc10_stg1_0 : Ref sig .tc := ⟨.vmem, 46, rfl⟩
abbrev cc10_stg1_1 : Ref sig .tc := ⟨.vmem, 47, rfl⟩
abbrev cc10_stg2_0 : Ref sig .tc := ⟨.vmem, 48, rfl⟩
abbrev cc10_stg2_1 : Ref sig .tc := ⟨.vmem, 49, rfl⟩
abbrev cc11_stg0_0 : Ref sig .tc := ⟨.vmem, 50, rfl⟩
abbrev cc11_stg1_0 : Ref sig .tc := ⟨.vmem, 51, rfl⟩
abbrev cc11_stg2_0 : Ref sig .tc := ⟨.vmem, 52, rfl⟩
abbrev cc11_scratch0 : Ref sig .tc := ⟨.vmem, 53, rfl⟩
abbrev cc11_scratch1 : Ref sig .tc := ⟨.vmem, 54, rfl⟩
abbrev cc11_scratch2 : Ref sig .tc := ⟨.vmem, 55, rfl⟩
abbrev cc12_stg0_0 : Ref sig .tc := ⟨.vmem, 56, rfl⟩
abbrev cc12_stg1_0 : Ref sig .tc := ⟨.vmem, 57, rfl⟩
abbrev cc12_stg2_0 : Ref sig .tc := ⟨.vmem, 58, rfl⟩
abbrev cc13_stg0_0 : Ref sig .tc := ⟨.vmem, 59, rfl⟩
abbrev cc13_stg1_0 : Ref sig .tc := ⟨.vmem, 60, rfl⟩
abbrev cc13_stg1_1 : Ref sig .tc := ⟨.vmem, 61, rfl⟩
abbrev cc13_stg2_0 : Ref sig .tc := ⟨.vmem, 62, rfl⟩
abbrev cc13_stg2_1 : Ref sig .tc := ⟨.vmem, 63, rfl⟩
abbrev cc14_stg0_0 : Ref sig .tc := ⟨.vmem, 64, rfl⟩
abbrev cc14_stg1_0 : Ref sig .tc := ⟨.vmem, 65, rfl⟩
abbrev cc14_stg2_0 : Ref sig .tc := ⟨.vmem, 66, rfl⟩
abbrev cc14_scratch0 : Ref sig .tc := ⟨.vmem, 67, rfl⟩
abbrev cc14_scratch1 : Ref sig .tc := ⟨.vmem, 68, rfl⟩
abbrev cc14_scratch2 : Ref sig .tc := ⟨.vmem, 69, rfl⟩
abbrev cc15_stg0_0 : Ref sig .tc := ⟨.vmem, 70, rfl⟩
abbrev cc15_stg1_0 : Ref sig .tc := ⟨.vmem, 71, rfl⟩
abbrev cc15_stg2_0 : Ref sig .tc := ⟨.vmem, 72, rfl⟩
abbrev cc16_stg0_0 : Ref sig .tc := ⟨.vmem, 73, rfl⟩
abbrev cc16_stg1_0 : Ref sig .tc := ⟨.vmem, 74, rfl⟩
abbrev cc16_stg1_1 : Ref sig .tc := ⟨.vmem, 75, rfl⟩
abbrev cc16_stg2_0 : Ref sig .tc := ⟨.vmem, 76, rfl⟩
abbrev cc16_stg2_1 : Ref sig .tc := ⟨.vmem, 77, rfl⟩
abbrev cc17_stg0_0 : Ref sig .tc := ⟨.vmem, 78, rfl⟩
abbrev cc17_stg1_0 : Ref sig .tc := ⟨.vmem, 79, rfl⟩
abbrev cc17_stg2_0 : Ref sig .tc := ⟨.vmem, 80, rfl⟩
abbrev cc17_scratch0 : Ref sig .tc := ⟨.vmem, 81, rfl⟩
abbrev cc17_scratch1 : Ref sig .tc := ⟨.vmem, 82, rfl⟩
abbrev cc17_scratch2 : Ref sig .tc := ⟨.vmem, 83, rfl⟩
abbrev cc18_stg0_0 : Ref sig .tc := ⟨.vmem, 84, rfl⟩
abbrev cc18_stg1_0 : Ref sig .tc := ⟨.vmem, 85, rfl⟩
abbrev cc18_stg2_0 : Ref sig .tc := ⟨.vmem, 86, rfl⟩
abbrev cc19_stg0_0 : Ref sig .tc := ⟨.vmem, 87, rfl⟩
abbrev cc19_stg1_0 : Ref sig .tc := ⟨.vmem, 88, rfl⟩
abbrev cc19_stg1_1 : Ref sig .tc := ⟨.vmem, 89, rfl⟩
abbrev cc19_stg2_0 : Ref sig .tc := ⟨.vmem, 90, rfl⟩
abbrev cc19_stg2_1 : Ref sig .tc := ⟨.vmem, 91, rfl⟩
abbrev cc20_stg0_0 : Ref sig .tc := ⟨.vmem, 92, rfl⟩
abbrev cc20_stg1_0 : Ref sig .tc := ⟨.vmem, 93, rfl⟩
abbrev cc20_stg2_0 : Ref sig .tc := ⟨.vmem, 94, rfl⟩
abbrev cc20_scratch0 : Ref sig .tc := ⟨.vmem, 95, rfl⟩
abbrev cc20_scratch1 : Ref sig .tc := ⟨.vmem, 96, rfl⟩
abbrev cc20_scratch2 : Ref sig .tc := ⟨.vmem, 97, rfl⟩
abbrev cc21_stg0_0 : Ref sig .tc := ⟨.vmem, 98, rfl⟩
abbrev cc21_stg1_0 : Ref sig .tc := ⟨.vmem, 99, rfl⟩
abbrev cc21_stg2_0 : Ref sig .tc := ⟨.vmem, 100, rfl⟩
abbrev cc22_stg0_0 : Ref sig .tc := ⟨.vmem, 101, rfl⟩
abbrev cc22_stg1_0 : Ref sig .tc := ⟨.vmem, 102, rfl⟩
abbrev cc22_stg1_1 : Ref sig .tc := ⟨.vmem, 103, rfl⟩
abbrev cc22_stg2_0 : Ref sig .tc := ⟨.vmem, 104, rfl⟩
abbrev cc22_stg2_1 : Ref sig .tc := ⟨.vmem, 105, rfl⟩
abbrev cc23_stg0_0 : Ref sig .tc := ⟨.vmem, 106, rfl⟩
abbrev cc23_stg1_0 : Ref sig .tc := ⟨.vmem, 107, rfl⟩
abbrev cc23_stg2_0 : Ref sig .tc := ⟨.vmem, 108, rfl⟩
abbrev cc23_scratch0 : Ref sig .tc := ⟨.vmem, 109, rfl⟩
abbrev cc23_scratch1 : Ref sig .tc := ⟨.vmem, 110, rfl⟩
abbrev cc23_scratch2 : Ref sig .tc := ⟨.vmem, 111, rfl⟩
abbrev cc24_stg0_0 : Ref sig .tc := ⟨.vmem, 112, rfl⟩
abbrev cc24_stg1_0 : Ref sig .tc := ⟨.vmem, 113, rfl⟩
abbrev cc24_stg2_0 : Ref sig .tc := ⟨.vmem, 114, rfl⟩
abbrev cc25_stg0_0 : Ref sig .tc := ⟨.vmem, 115, rfl⟩
abbrev cc25_stg1_0 : Ref sig .tc := ⟨.vmem, 116, rfl⟩
abbrev cc25_stg1_1 : Ref sig .tc := ⟨.vmem, 117, rfl⟩
abbrev cc25_stg2_0 : Ref sig .tc := ⟨.vmem, 118, rfl⟩
abbrev cc25_stg2_1 : Ref sig .tc := ⟨.vmem, 119, rfl⟩
abbrev cc26_stg0_0 : Ref sig .tc := ⟨.vmem, 120, rfl⟩
abbrev cc26_stg1_0 : Ref sig .tc := ⟨.vmem, 121, rfl⟩
abbrev cc26_stg2_0 : Ref sig .tc := ⟨.vmem, 122, rfl⟩
abbrev cc26_scratch0 : Ref sig .tc := ⟨.vmem, 123, rfl⟩
abbrev cc26_scratch1 : Ref sig .tc := ⟨.vmem, 124, rfl⟩
abbrev cc26_scratch2 : Ref sig .tc := ⟨.vmem, 125, rfl⟩
abbrev cc27_stg0_0 : Ref sig .tc := ⟨.vmem, 126, rfl⟩
abbrev cc27_stg1_0 : Ref sig .tc := ⟨.vmem, 127, rfl⟩
abbrev cc27_stg2_0 : Ref sig .tc := ⟨.vmem, 128, rfl⟩
abbrev cc28_stg0_0 : Ref sig .tc := ⟨.vmem, 129, rfl⟩
abbrev cc28_stg1_0 : Ref sig .tc := ⟨.vmem, 130, rfl⟩
abbrev cc28_stg1_1 : Ref sig .tc := ⟨.vmem, 131, rfl⟩
abbrev cc28_stg2_0 : Ref sig .tc := ⟨.vmem, 132, rfl⟩
abbrev cc28_stg2_1 : Ref sig .tc := ⟨.vmem, 133, rfl⟩
abbrev cc29_stg0_0 : Ref sig .tc := ⟨.vmem, 134, rfl⟩
abbrev cc29_stg1_0 : Ref sig .tc := ⟨.vmem, 135, rfl⟩
abbrev cc29_stg2_0 : Ref sig .tc := ⟨.vmem, 136, rfl⟩
abbrev cc29_scratch0 : Ref sig .tc := ⟨.vmem, 137, rfl⟩
abbrev cc29_scratch1 : Ref sig .tc := ⟨.vmem, 138, rfl⟩
abbrev cc29_scratch2 : Ref sig .tc := ⟨.vmem, 139, rfl⟩
abbrev cc30_stg0_0 : Ref sig .tc := ⟨.vmem, 140, rfl⟩
abbrev cc30_stg1_0 : Ref sig .tc := ⟨.vmem, 141, rfl⟩
abbrev cc30_stg2_0 : Ref sig .tc := ⟨.vmem, 142, rfl⟩
abbrev cc31_stg0_0 : Ref sig .tc := ⟨.vmem, 143, rfl⟩
abbrev cc31_stg1_0 : Ref sig .tc := ⟨.vmem, 144, rfl⟩
abbrev cc31_stg1_1 : Ref sig .tc := ⟨.vmem, 145, rfl⟩
abbrev cc31_stg2_0 : Ref sig .tc := ⟨.vmem, 146, rfl⟩
abbrev cc31_stg2_1 : Ref sig .tc := ⟨.vmem, 147, rfl⟩
abbrev cc32_stg0_0 : Ref sig .tc := ⟨.vmem, 148, rfl⟩
abbrev cc32_stg1_0 : Ref sig .tc := ⟨.vmem, 149, rfl⟩
abbrev cc32_stg2_0 : Ref sig .tc := ⟨.vmem, 150, rfl⟩
abbrev cc32_scratch0 : Ref sig .tc := ⟨.vmem, 151, rfl⟩
abbrev cc32_scratch1 : Ref sig .tc := ⟨.vmem, 152, rfl⟩
abbrev cc32_scratch2 : Ref sig .tc := ⟨.vmem, 153, rfl⟩
abbrev cc33_stg0_0 : Ref sig .tc := ⟨.vmem, 154, rfl⟩
abbrev cc33_stg1_0 : Ref sig .tc := ⟨.vmem, 155, rfl⟩
abbrev cc33_stg2_0 : Ref sig .tc := ⟨.vmem, 156, rfl⟩
abbrev cc34_stg0_0 : Ref sig .tc := ⟨.vmem, 157, rfl⟩
abbrev cc34_stg1_0 : Ref sig .tc := ⟨.vmem, 158, rfl⟩
abbrev cc34_stg1_1 : Ref sig .tc := ⟨.vmem, 159, rfl⟩
abbrev cc34_stg2_0 : Ref sig .tc := ⟨.vmem, 160, rfl⟩
abbrev cc34_stg2_1 : Ref sig .tc := ⟨.vmem, 161, rfl⟩
abbrev cc35_stg0_0 : Ref sig .tc := ⟨.vmem, 162, rfl⟩
abbrev cc35_stg1_0 : Ref sig .tc := ⟨.vmem, 163, rfl⟩
abbrev cc35_stg2_0 : Ref sig .tc := ⟨.vmem, 164, rfl⟩
abbrev cc35_scratch0 : Ref sig .tc := ⟨.vmem, 165, rfl⟩
abbrev cc35_scratch1 : Ref sig .tc := ⟨.vmem, 166, rfl⟩
abbrev cc35_scratch2 : Ref sig .tc := ⟨.vmem, 167, rfl⟩
abbrev cc36_stg0_0 : Ref sig .tc := ⟨.vmem, 168, rfl⟩
abbrev cc36_stg1_0 : Ref sig .tc := ⟨.vmem, 169, rfl⟩
abbrev cc36_stg2_0 : Ref sig .tc := ⟨.vmem, 170, rfl⟩
abbrev cc37_stg0_0 : Ref sig .tc := ⟨.vmem, 171, rfl⟩
abbrev cc37_stg1_0 : Ref sig .tc := ⟨.vmem, 172, rfl⟩
abbrev cc37_stg1_1 : Ref sig .tc := ⟨.vmem, 173, rfl⟩
abbrev cc37_stg2_0 : Ref sig .tc := ⟨.vmem, 174, rfl⟩
abbrev cc37_stg2_1 : Ref sig .tc := ⟨.vmem, 175, rfl⟩
abbrev cc38_stg0_0 : Ref sig .tc := ⟨.vmem, 176, rfl⟩
abbrev cc38_stg1_0 : Ref sig .tc := ⟨.vmem, 177, rfl⟩
abbrev cc38_stg2_0 : Ref sig .tc := ⟨.vmem, 178, rfl⟩
abbrev cc38_scratch0 : Ref sig .tc := ⟨.vmem, 179, rfl⟩
abbrev cc38_scratch1 : Ref sig .tc := ⟨.vmem, 180, rfl⟩
abbrev cc38_scratch2 : Ref sig .tc := ⟨.vmem, 181, rfl⟩
abbrev cc39_stg0_0 : Ref sig .tc := ⟨.vmem, 182, rfl⟩
abbrev cc39_stg1_0 : Ref sig .tc := ⟨.vmem, 183, rfl⟩
abbrev cc39_stg2_0 : Ref sig .tc := ⟨.vmem, 184, rfl⟩
abbrev cc40_stg0_0 : Ref sig .tc := ⟨.vmem, 185, rfl⟩
abbrev cc40_stg1_0 : Ref sig .tc := ⟨.vmem, 186, rfl⟩
abbrev cc40_stg1_1 : Ref sig .tc := ⟨.vmem, 187, rfl⟩
abbrev cc40_stg2_0 : Ref sig .tc := ⟨.vmem, 188, rfl⟩
abbrev cc40_stg2_1 : Ref sig .tc := ⟨.vmem, 189, rfl⟩
abbrev cc41_stg0_0 : Ref sig .tc := ⟨.vmem, 190, rfl⟩
abbrev cc41_stg1_0 : Ref sig .tc := ⟨.vmem, 191, rfl⟩
abbrev cc41_stg2_0 : Ref sig .tc := ⟨.vmem, 192, rfl⟩
abbrev cc41_scratch0 : Ref sig .tc := ⟨.vmem, 193, rfl⟩
abbrev cc41_scratch1 : Ref sig .tc := ⟨.vmem, 194, rfl⟩
abbrev cc41_scratch2 : Ref sig .tc := ⟨.vmem, 195, rfl⟩
abbrev cc42_stg0_0 : Ref sig .tc := ⟨.vmem, 196, rfl⟩
abbrev cc42_stg1_0 : Ref sig .tc := ⟨.vmem, 197, rfl⟩
abbrev cc42_stg2_0 : Ref sig .tc := ⟨.vmem, 198, rfl⟩
abbrev cc43_stg0_0 : Ref sig .tc := ⟨.vmem, 199, rfl⟩
abbrev cc43_stg1_0 : Ref sig .tc := ⟨.vmem, 200, rfl⟩
abbrev cc43_stg1_1 : Ref sig .tc := ⟨.vmem, 201, rfl⟩
abbrev cc43_stg2_0 : Ref sig .tc := ⟨.vmem, 202, rfl⟩
abbrev cc43_stg2_1 : Ref sig .tc := ⟨.vmem, 203, rfl⟩
abbrev cc44_stg0_0 : Ref sig .tc := ⟨.vmem, 204, rfl⟩
abbrev cc44_stg1_0 : Ref sig .tc := ⟨.vmem, 205, rfl⟩
abbrev cc44_stg2_0 : Ref sig .tc := ⟨.vmem, 206, rfl⟩
abbrev cc44_scratch0 : Ref sig .tc := ⟨.vmem, 207, rfl⟩
abbrev cc44_scratch1 : Ref sig .tc := ⟨.vmem, 208, rfl⟩
abbrev cc44_scratch2 : Ref sig .tc := ⟨.vmem, 209, rfl⟩
abbrev cc45_stg0_0 : Ref sig .tc := ⟨.vmem, 210, rfl⟩
abbrev cc45_stg1_0 : Ref sig .tc := ⟨.vmem, 211, rfl⟩
abbrev cc45_stg2_0 : Ref sig .tc := ⟨.vmem, 212, rfl⟩
abbrev cc46_stg0_0 : Ref sig .tc := ⟨.vmem, 213, rfl⟩
abbrev cc46_stg1_0 : Ref sig .tc := ⟨.vmem, 214, rfl⟩
abbrev cc46_stg1_1 : Ref sig .tc := ⟨.vmem, 215, rfl⟩
abbrev cc46_stg2_0 : Ref sig .tc := ⟨.vmem, 216, rfl⟩
abbrev cc46_stg2_1 : Ref sig .tc := ⟨.vmem, 217, rfl⟩
abbrev cc47_stg0_0 : Ref sig .tc := ⟨.vmem, 218, rfl⟩
abbrev cc47_stg1_0 : Ref sig .tc := ⟨.vmem, 219, rfl⟩
abbrev cc47_stg2_0 : Ref sig .tc := ⟨.vmem, 220, rfl⟩
abbrev cc47_scratch0 : Ref sig .tc := ⟨.vmem, 221, rfl⟩
abbrev cc47_scratch1 : Ref sig .tc := ⟨.vmem, 222, rfl⟩
abbrev cc47_scratch2 : Ref sig .tc := ⟨.vmem, 223, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem1_0 : DmaSem sig := 12
abbrev cc3_sem2_0 : DmaSem sig := 13
abbrev cc4_sem0_0 : DmaSem sig := 14
abbrev cc4_sem1_0 : DmaSem sig := 15
abbrev cc4_sem1_1 : DmaSem sig := 16
abbrev cc4_sem2_0 : DmaSem sig := 17
abbrev cc4_sem2_1 : DmaSem sig := 18
abbrev cc5_sem0_0 : DmaSem sig := 19
abbrev cc5_sem1_0 : DmaSem sig := 20
abbrev cc5_sem2_0 : DmaSem sig := 21
abbrev cc6_sem0_0 : DmaSem sig := 22
abbrev cc6_sem1_0 : DmaSem sig := 23
abbrev cc6_sem2_0 : DmaSem sig := 24
abbrev cc7_sem0_0 : DmaSem sig := 25
abbrev cc7_sem1_0 : DmaSem sig := 26
abbrev cc7_sem1_1 : DmaSem sig := 27
abbrev cc7_sem2_0 : DmaSem sig := 28
abbrev cc7_sem2_1 : DmaSem sig := 29
abbrev cc8_sem0_0 : DmaSem sig := 30
abbrev cc8_sem1_0 : DmaSem sig := 31
abbrev cc8_sem2_0 : DmaSem sig := 32
abbrev cc9_sem0_0 : DmaSem sig := 33
abbrev cc9_sem1_0 : DmaSem sig := 34
abbrev cc9_sem2_0 : DmaSem sig := 35
abbrev cc10_sem0_0 : DmaSem sig := 36
abbrev cc10_sem1_0 : DmaSem sig := 37
abbrev cc10_sem1_1 : DmaSem sig := 38
abbrev cc10_sem2_0 : DmaSem sig := 39
abbrev cc10_sem2_1 : DmaSem sig := 40
abbrev cc11_sem0_0 : DmaSem sig := 41
abbrev cc11_sem1_0 : DmaSem sig := 42
abbrev cc11_sem2_0 : DmaSem sig := 43
abbrev cc12_sem0_0 : DmaSem sig := 44
abbrev cc12_sem1_0 : DmaSem sig := 45
abbrev cc12_sem2_0 : DmaSem sig := 46
abbrev cc13_sem0_0 : DmaSem sig := 47
abbrev cc13_sem1_0 : DmaSem sig := 48
abbrev cc13_sem1_1 : DmaSem sig := 49
abbrev cc13_sem2_0 : DmaSem sig := 50
abbrev cc13_sem2_1 : DmaSem sig := 51
abbrev cc14_sem0_0 : DmaSem sig := 52
abbrev cc14_sem1_0 : DmaSem sig := 53
abbrev cc14_sem2_0 : DmaSem sig := 54
abbrev cc15_sem0_0 : DmaSem sig := 55
abbrev cc15_sem1_0 : DmaSem sig := 56
abbrev cc15_sem2_0 : DmaSem sig := 57
abbrev cc16_sem0_0 : DmaSem sig := 58
abbrev cc16_sem1_0 : DmaSem sig := 59
abbrev cc16_sem1_1 : DmaSem sig := 60
abbrev cc16_sem2_0 : DmaSem sig := 61
abbrev cc16_sem2_1 : DmaSem sig := 62
abbrev cc17_sem0_0 : DmaSem sig := 63
abbrev cc17_sem1_0 : DmaSem sig := 64
abbrev cc17_sem2_0 : DmaSem sig := 65
abbrev cc18_sem0_0 : DmaSem sig := 66
abbrev cc18_sem1_0 : DmaSem sig := 67
abbrev cc18_sem2_0 : DmaSem sig := 68
abbrev cc19_sem0_0 : DmaSem sig := 69
abbrev cc19_sem1_0 : DmaSem sig := 70
abbrev cc19_sem1_1 : DmaSem sig := 71
abbrev cc19_sem2_0 : DmaSem sig := 72
abbrev cc19_sem2_1 : DmaSem sig := 73
abbrev cc20_sem0_0 : DmaSem sig := 74
abbrev cc20_sem1_0 : DmaSem sig := 75
abbrev cc20_sem2_0 : DmaSem sig := 76
abbrev cc21_sem0_0 : DmaSem sig := 77
abbrev cc21_sem1_0 : DmaSem sig := 78
abbrev cc21_sem2_0 : DmaSem sig := 79
abbrev cc22_sem0_0 : DmaSem sig := 80
abbrev cc22_sem1_0 : DmaSem sig := 81
abbrev cc22_sem1_1 : DmaSem sig := 82
abbrev cc22_sem2_0 : DmaSem sig := 83
abbrev cc22_sem2_1 : DmaSem sig := 84
abbrev cc23_sem0_0 : DmaSem sig := 85
abbrev cc23_sem1_0 : DmaSem sig := 86
abbrev cc23_sem2_0 : DmaSem sig := 87
abbrev cc24_sem0_0 : DmaSem sig := 88
abbrev cc24_sem1_0 : DmaSem sig := 89
abbrev cc24_sem2_0 : DmaSem sig := 90
abbrev cc25_sem0_0 : DmaSem sig := 91
abbrev cc25_sem1_0 : DmaSem sig := 92
abbrev cc25_sem1_1 : DmaSem sig := 93
abbrev cc25_sem2_0 : DmaSem sig := 94
abbrev cc25_sem2_1 : DmaSem sig := 95
abbrev cc26_sem0_0 : DmaSem sig := 96
abbrev cc26_sem1_0 : DmaSem sig := 97
abbrev cc26_sem2_0 : DmaSem sig := 98
abbrev cc27_sem0_0 : DmaSem sig := 99
abbrev cc27_sem1_0 : DmaSem sig := 100
abbrev cc27_sem2_0 : DmaSem sig := 101
abbrev cc28_sem0_0 : DmaSem sig := 102
abbrev cc28_sem1_0 : DmaSem sig := 103
abbrev cc28_sem1_1 : DmaSem sig := 104
abbrev cc28_sem2_0 : DmaSem sig := 105
abbrev cc28_sem2_1 : DmaSem sig := 106
abbrev cc29_sem0_0 : DmaSem sig := 107
abbrev cc29_sem1_0 : DmaSem sig := 108
abbrev cc29_sem2_0 : DmaSem sig := 109
abbrev cc30_sem0_0 : DmaSem sig := 110
abbrev cc30_sem1_0 : DmaSem sig := 111
abbrev cc30_sem2_0 : DmaSem sig := 112
abbrev cc31_sem0_0 : DmaSem sig := 113
abbrev cc31_sem1_0 : DmaSem sig := 114
abbrev cc31_sem1_1 : DmaSem sig := 115
abbrev cc31_sem2_0 : DmaSem sig := 116
abbrev cc31_sem2_1 : DmaSem sig := 117
abbrev cc32_sem0_0 : DmaSem sig := 118
abbrev cc32_sem1_0 : DmaSem sig := 119
abbrev cc32_sem2_0 : DmaSem sig := 120
abbrev cc33_sem0_0 : DmaSem sig := 121
abbrev cc33_sem1_0 : DmaSem sig := 122
abbrev cc33_sem2_0 : DmaSem sig := 123
abbrev cc34_sem0_0 : DmaSem sig := 124
abbrev cc34_sem1_0 : DmaSem sig := 125
abbrev cc34_sem1_1 : DmaSem sig := 126
abbrev cc34_sem2_0 : DmaSem sig := 127
abbrev cc34_sem2_1 : DmaSem sig := 128
abbrev cc35_sem0_0 : DmaSem sig := 129
abbrev cc35_sem1_0 : DmaSem sig := 130
abbrev cc35_sem2_0 : DmaSem sig := 131
abbrev cc36_sem0_0 : DmaSem sig := 132
abbrev cc36_sem1_0 : DmaSem sig := 133
abbrev cc36_sem2_0 : DmaSem sig := 134
abbrev cc37_sem0_0 : DmaSem sig := 135
abbrev cc37_sem1_0 : DmaSem sig := 136
abbrev cc37_sem1_1 : DmaSem sig := 137
abbrev cc37_sem2_0 : DmaSem sig := 138
abbrev cc37_sem2_1 : DmaSem sig := 139
abbrev cc38_sem0_0 : DmaSem sig := 140
abbrev cc38_sem1_0 : DmaSem sig := 141
abbrev cc38_sem2_0 : DmaSem sig := 142
abbrev cc39_sem0_0 : DmaSem sig := 143
abbrev cc39_sem1_0 : DmaSem sig := 144
abbrev cc39_sem2_0 : DmaSem sig := 145
abbrev cc40_sem0_0 : DmaSem sig := 146
abbrev cc40_sem1_0 : DmaSem sig := 147
abbrev cc40_sem1_1 : DmaSem sig := 148
abbrev cc40_sem2_0 : DmaSem sig := 149
abbrev cc40_sem2_1 : DmaSem sig := 150
abbrev cc41_sem0_0 : DmaSem sig := 151
abbrev cc41_sem1_0 : DmaSem sig := 152
abbrev cc41_sem2_0 : DmaSem sig := 153
abbrev cc42_sem0_0 : DmaSem sig := 154
abbrev cc42_sem1_0 : DmaSem sig := 155
abbrev cc42_sem2_0 : DmaSem sig := 156
abbrev cc43_sem0_0 : DmaSem sig := 157
abbrev cc43_sem1_0 : DmaSem sig := 158
abbrev cc43_sem1_1 : DmaSem sig := 159
abbrev cc43_sem2_0 : DmaSem sig := 160
abbrev cc43_sem2_1 : DmaSem sig := 161
abbrev cc44_sem0_0 : DmaSem sig := 162
abbrev cc44_sem1_0 : DmaSem sig := 163
abbrev cc44_sem2_0 : DmaSem sig := 164
abbrev cc45_sem0_0 : DmaSem sig := 165
abbrev cc45_sem1_0 : DmaSem sig := 166
abbrev cc45_sem2_0 : DmaSem sig := 167
abbrev cc46_sem0_0 : DmaSem sig := 168
abbrev cc46_sem1_0 : DmaSem sig := 169
abbrev cc46_sem1_1 : DmaSem sig := 170
abbrev cc46_sem2_0 : DmaSem sig := 171
abbrev cc46_sem2_1 : DmaSem sig := 172
abbrev cc47_sem0_0 : DmaSem sig := 173
abbrev cc47_sem1_0 : DmaSem sig := 174
abbrev cc47_sem2_0 : DmaSem sig := 175

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x3200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

@[reducible] def k2_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k2_off1 (k2_t1 : Fin k2_t1_loop.trips) : Fin 3 → Nat :=
  let c1_i32 : BitVec 32 := 1#32
  let c1_i32_5 : BitVec 32 := 1#32
  let arg6 : BitVec 32 := Scf.iv c1_i32 c1_i32_5 k2_t1
  let v1400 : Index := Scalar.indexCast arg6
  let c0_775 : Index := 0#32
  let c0_776 : Index := 0#32
  ![v1400.toNat, 0, 0]
def k2_off2 (k2_t1 : Fin k2_t1_loop.trips) : Fin 3 → Nat :=
  let c1_i32 : BitVec 32 := 1#32
  let c1_i32_5 : BitVec 32 := 1#32
  let arg6 : BitVec 32 := Scf.iv c1_i32 c1_i32_5 k2_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k2_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k2_off3 (k2_t2 : Fin k2_t2_loop.trips) : Fin 3 → Nat :=
  let c0_i32_768 : BitVec 32 := 0#32
  let c1_i32_769 : BitVec 32 := 1#32
  let arg6 : BitVec 32 := Scf.iv c0_i32_768 c1_i32_769 k2_t2
  let v1400 : Index := Scalar.indexCast arg6
  let c0_775 : Index := 0#32
  let c0_776 : Index := 0#32
  ![v1400.toNat, 0, 0]
abbrev stage2_0 : Fin 1 → Memref sig .tc .vmem S128x128x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := .none

abbrev stage3_0 : Fin 1 → Memref sig .tc .vmem S128x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S128x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1024x3200 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x3200 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := .none

@[reducible] def k5_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k5_off1 (k5_t1 : Fin k5_t1_loop.trips) : Fin 3 → Nat :=
  let c1_i32 : BitVec 32 := 1#32
  let c1_i32_5 : BitVec 32 := 1#32
  let arg6 : BitVec 32 := Scf.iv c1_i32 c1_i32_5 k5_t1
  let v1400 : Index := Scalar.indexCast arg6
  let c0_775 : Index := 0#32
  let c0_776 : Index := 0#32
  ![v1400.toNat, 0, 0]
def k5_off2 (k5_t1 : Fin k5_t1_loop.trips) : Fin 3 → Nat :=
  let c1_i32 : BitVec 32 := 1#32
  let c1_i32_5 : BitVec 32 := 1#32
  let arg6 : BitVec 32 := Scf.iv c1_i32 c1_i32_5 k5_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k5_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k5_off3 (k5_t2 : Fin k5_t2_loop.trips) : Fin 3 → Nat :=
  let c0_i32_768 : BitVec 32 := 0#32
  let c1_i32_769 : BitVec 32 := 1#32
  let arg6 : BitVec 32 := Scf.iv c0_i32_768 c1_i32_769 k5_t2
  let v1400 : Index := Scalar.indexCast arg6
  let c0_775 : Index := 0#32
  let c0_776 : Index := 0#32
  ![v1400.toNat, 0, 0]
abbrev stage5_0 : Fin 1 → Memref sig .tc .vmem S128x128x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S128x1 .i32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev grid6 : Pipeline.Grid := .none

abbrev stage6_0 : Fin 1 → Memref sig .tc .vmem S128x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S128x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 1 → Memref sig .tc .vmem S128x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S1024x3200 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S128x3200 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := .none

@[reducible] def k8_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k8_off1 (k8_t1 : Fin k8_t1_loop.trips) : Fin 3 → Nat :=
  let c1_i32 : BitVec 32 := 1#32
  let c1_i32_5 : BitVec 32 := 1#32
  let arg6 : BitVec 32 := Scf.iv c1_i32 c1_i32_5 k8_t1
  let v1400 : Index := Scalar.indexCast arg6
  let c0_775 : Index := 0#32
  let c0_776 : Index := 0#32
  ![v1400.toNat, 0, 0]
def k8_off2 (k8_t1 : Fin k8_t1_loop.trips) : Fin 3 → Nat :=
  let c1_i32 : BitVec 32 := 1#32
  let c1_i32_5 : BitVec 32 := 1#32
  let arg6 : BitVec 32 := Scf.iv c1_i32 c1_i32_5 k8_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k8_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k8_off3 (k8_t2 : Fin k8_t2_loop.trips) : Fin 3 → Nat :=
  let c0_i32_768 : BitVec 32 := 0#32
  let c1_i32_769 : BitVec 32 := 1#32
  let arg6 : BitVec 32 := Scf.iv c0_i32_768 c1_i32_769 k8_t2
  let v1400 : Index := Scalar.indexCast arg6
  let c0_775 : Index := 0#32
  let c0_776 : Index := 0#32
  ![v1400.toNat, 0, 0]
abbrev stage8_0 : Fin 1 → Memref sig .tc .vmem S128x128x256 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S128x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S128x1 .i32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev grid9 : Pipeline.Grid := .none

abbrev stage9_0 : Fin 1 → Memref sig .tc .vmem S128x1024 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S1024x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S128x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage10_0 : Fin 1 → Memref sig .tc .vmem S128x1024 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 2 → Memref sig .tc .vmem S1024x3200 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S128x3200 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := .none

@[reducible] def k11_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k11_off1 (k11_t1 : Fin k11_t1_loop.trips) : Fin 3 → Nat :=
  let c1_i32 : BitVec 32 := 1#32
  let c1_i32_5 : BitVec 32 := 1#32
  let arg6 : BitVec 32 := Scf.iv c1_i32 c1_i32_5 k11_t1
  let v1400 : Index := Scalar.indexCast arg6
  let c0_775 : Index := 0#32
  let c0_776 : Index := 0#32
  ![v1400.toNat, 0, 0]
def k11_off2 (k11_t1 : Fin k11_t1_loop.trips) : Fin 3 → Nat :=
  let c1_i32 : BitVec 32 := 1#32
  let c1_i32_5 : BitVec 32 := 1#32
  let arg6 : BitVec 32 := Scf.iv c1_i32 c1_i32_5 k11_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k11_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k11_off3 (k11_t2 : Fin k11_t2_loop.trips) : Fin 3 → Nat :=
  let c0_i32_768 : BitVec 32 := 0#32
  let c1_i32_769 : BitVec 32 := 1#32
  let arg6 : BitVec 32 := Scf.iv c0_i32_768 c1_i32_769 k11_t2
  let v1400 : Index := Scalar.indexCast arg6
  let c0_775 : Index := 0#32
  let c0_776 : Index := 0#32
  ![v1400.toNat, 0, 0]
abbrev stage11_0 : Fin 1 → Memref sig .tc .vmem S128x128x256 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S128x1 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S128x1 .i32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev grid12 : Pipeline.Grid := .none

abbrev stage12_0 : Fin 1 → Memref sig .tc .vmem S128x1024 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))

abbrev stage12_1 : Fin 1 → Memref sig .tc .vmem S1024x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))

abbrev stage12_2 : Fin 1 → Memref sig .tc .vmem S128x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage13_0 : Fin 1 → Memref sig .tc .vmem S128x1024 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 2 → Memref sig .tc .vmem S1024x3200 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S128x3200 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := .none

@[reducible] def k14_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k14_off1 (k14_t1 : Fin k14_t1_loop.trips) : Fin 3 → Nat :=
  let c1_i32 : BitVec 32 := 1#32
  let c1_i32_5 : BitVec 32 := 1#32
  let arg6 : BitVec 32 := Scf.iv c1_i32 c1_i32_5 k14_t1
  let v1400 : Index := Scalar.indexCast arg6
  let c0_775 : Index := 0#32
  let c0_776 : Index := 0#32
  ![v1400.toNat, 0, 0]
def k14_off2 (k14_t1 : Fin k14_t1_loop.trips) : Fin 3 → Nat :=
  let c1_i32 : BitVec 32 := 1#32
  let c1_i32_5 : BitVec 32 := 1#32
  let arg6 : BitVec 32 := Scf.iv c1_i32 c1_i32_5 k14_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k14_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k14_off3 (k14_t2 : Fin k14_t2_loop.trips) : Fin 3 → Nat :=
  let c0_i32_768 : BitVec 32 := 0#32
  let c1_i32_769 : BitVec 32 := 1#32
  let arg6 : BitVec 32 := Scf.iv c0_i32_768 c1_i32_769 k14_t2
  let v1400 : Index := Scalar.indexCast arg6
  let c0_775 : Index := 0#32
  let c0_776 : Index := 0#32
  ![v1400.toNat, 0, 0]
abbrev stage14_0 : Fin 1 → Memref sig .tc .vmem S128x128x256 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))

abbrev stage14_1 : Fin 1 → Memref sig .tc .vmem S128x1 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))

abbrev stage14_2 : Fin 1 → Memref sig .tc .vmem S128x1 .i32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))

abbrev grid15 : Pipeline.Grid := .none

abbrev stage15_0 : Fin 1 → Memref sig .tc .vmem S128x1024 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))

abbrev stage15_1 : Fin 1 → Memref sig .tc .vmem S1024x1024 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))

abbrev stage15_2 : Fin 1 → Memref sig .tc .vmem S128x1024 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage16_0 : Fin 1 → Memref sig .tc .vmem S128x1024 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 2 → Memref sig .tc .vmem S1024x3200 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S128x3200 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := .none

@[reducible] def k17_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k17_off1 (k17_t1 : Fin k17_t1_loop.trips) : Fin 3 → Nat :=
  let c1_i32 : BitVec 32 := 1#32
  let c1_i32_5 : BitVec 32 := 1#32
  let arg6 : BitVec 32 := Scf.iv c1_i32 c1_i32_5 k17_t1
  let v1400 : Index := Scalar.indexCast arg6
  let c0_775 : Index := 0#32
  let c0_776 : Index := 0#32
  ![v1400.toNat, 0, 0]
def k17_off2 (k17_t1 : Fin k17_t1_loop.trips) : Fin 3 → Nat :=
  let c1_i32 : BitVec 32 := 1#32
  let c1_i32_5 : BitVec 32 := 1#32
  let arg6 : BitVec 32 := Scf.iv c1_i32 c1_i32_5 k17_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k17_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k17_off3 (k17_t2 : Fin k17_t2_loop.trips) : Fin 3 → Nat :=
  let c0_i32_768 : BitVec 32 := 0#32
  let c1_i32_769 : BitVec 32 := 1#32
  let arg6 : BitVec 32 := Scf.iv c0_i32_768 c1_i32_769 k17_t2
  let v1400 : Index := Scalar.indexCast arg6
  let c0_775 : Index := 0#32
  let c0_776 : Index := 0#32
  ![v1400.toNat, 0, 0]
abbrev stage17_0 : Fin 1 → Memref sig .tc .vmem S128x128x256 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))

abbrev stage17_1 : Fin 1 → Memref sig .tc .vmem S128x1 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))

abbrev stage17_2 : Fin 1 → Memref sig .tc .vmem S128x1 .i32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))

abbrev grid18 : Pipeline.Grid := .none

abbrev stage18_0 : Fin 1 → Memref sig .tc .vmem S128x1024 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))

abbrev stage18_1 : Fin 1 → Memref sig .tc .vmem S1024x1024 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))

abbrev stage18_2 : Fin 1 → Memref sig .tc .vmem S128x1024 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_1 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage19_0 : Fin 1 → Memref sig .tc .vmem S128x1024 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))
abbrev reads19_0 : Fin grid19.rank → Bool := ![false]

abbrev stage19_1 : Fin 2 → Memref sig .tc .vmem S1024x3200 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S128x3200 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := .none

@[reducible] def k20_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k20_off1 (k20_t1 : Fin k20_t1_loop.trips) : Fin 3 → Nat :=
  let c1_i32 : BitVec 32 := 1#32
  let c1_i32_5 : BitVec 32 := 1#32
  let arg6 : BitVec 32 := Scf.iv c1_i32 c1_i32_5 k20_t1
  let v1400 : Index := Scalar.indexCast arg6
  let c0_775 : Index := 0#32
  let c0_776 : Index := 0#32
  ![v1400.toNat, 0, 0]
def k20_off2 (k20_t1 : Fin k20_t1_loop.trips) : Fin 3 → Nat :=
  let c1_i32 : BitVec 32 := 1#32
  let c1_i32_5 : BitVec 32 := 1#32
  let arg6 : BitVec 32 := Scf.iv c1_i32 c1_i32_5 k20_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k20_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k20_off3 (k20_t2 : Fin k20_t2_loop.trips) : Fin 3 → Nat :=
  let c0_i32_768 : BitVec 32 := 0#32
  let c1_i32_769 : BitVec 32 := 1#32
  let arg6 : BitVec 32 := Scf.iv c0_i32_768 c1_i32_769 k20_t2
  let v1400 : Index := Scalar.indexCast arg6
  let c0_775 : Index := 0#32
  let c0_776 : Index := 0#32
  ![v1400.toNat, 0, 0]
abbrev stage20_0 : Fin 1 → Memref sig .tc .vmem S128x128x256 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))

abbrev stage20_1 : Fin 1 → Memref sig .tc .vmem S128x1 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))

abbrev stage20_2 : Fin 1 → Memref sig .tc .vmem S128x1 .i32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))

abbrev grid21 : Pipeline.Grid := .none

abbrev stage21_0 : Fin 1 → Memref sig .tc .vmem S128x1024 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))

abbrev stage21_1 : Fin 1 → Memref sig .tc .vmem S1024x1024 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))

abbrev stage21_2 : Fin 1 → Memref sig .tc .vmem S128x1024 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_1 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

def cc22_transform_2 (i : grid22.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage22_0 : Fin 1 → Memref sig .tc .vmem S128x1024 .f32 := fun | 0 => Memref.whole cc22_stg0_0 | ⟨_ + 1, h⟩ => absurd h (Nat.not_lt.2 (Nat.le_add_left _ _))
abbrev sem22_0 : Fin 1 → DmaSem sig := fun | 0 => cc22_sem0_0 | ⟨_ + 1, h⟩ => absurd h (Nat.not_lt.2 (Nat.le_add_left _ _))
abbrev reads22_0 : Fin grid22.rank → Bool := ![false]

abbrev stage22_1 : Fin 2 → Memref sig .tc .vmem S1024x3200 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S128x3200 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := .none

@[reducible] def k23_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k23_off1 (k23_t1 : Fin k23_t1_loop.trips) : Fin 3 → Nat :=
  let c1_i32 : BitVec 32 := 1#32
  let c1_i32_5 : BitVec 32 := 1#32
  let arg6 : BitVec 32 := Scf.iv c1_i32 c1_i32_5 k23_t1
  let v1400 : Index := Scalar.indexCast arg6
  let c0_775 : Index := 0#32
  let c0_776 : Index := 0#32
  ![v1400.toNat, 0, 0]
def k23_off2 (k23_t1 : Fin k23_t1_loop.trips) : Fin 3 → Nat :=
  let c1_i32 : BitVec 32 := 1#32
  let c1_i32_5 : BitVec 32 := 1#32
  let arg6 : BitVec 32 := Scf.iv c1_i32 c1_i32_5 k23_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k23_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k23_off3 (k23_t2 : Fin k23_t2_loop.trips) : Fin 3 → Nat :=
  let c0_i32_768 : BitVec 32 := 0#32
  let c1_i32_769 : BitVec 32 := 1#32
  let arg6 : BitVec 32 := Scf.iv c0_i32_768 c1_i32_769 k23_t2
  let v1400 : Index := Scalar.indexCast arg6
  let c0_775 : Index := 0#32
  let c0_776 : Index := 0#32
  ![v1400.toNat, 0, 0]
abbrev stage23_0 : Fin 1 → Memref sig .tc .vmem S128x128x256 .f32 := fun | 0 => Memref.whole cc23_stg0_0 | ⟨_ + 1, h⟩ => absurd h (Nat.not_lt.2 (Nat.le_add_left _ _))
abbrev sem23_0 : Fin 1 → DmaSem sig := fun | 0 => cc23_sem0_0 | ⟨_ + 1, h⟩ => absurd h (Nat.not_lt.2 (Nat.le_add_left _ _))

abbrev stage23_1 : Fin 1 → Memref sig .tc .vmem S128x1 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))

abbrev stage23_2 : Fin 1 → Memref sig .tc .vmem S128x1 .i32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))

abbrev grid24 : Pipeline.Grid := .none

abbrev stage24_0 : Fin 1 → Memref sig .tc .vmem S128x1024 .f32 := fun | 0 => Memref.whole cc24_stg0_0 | ⟨_ + 1, h⟩ => absurd h (Nat.not_lt.2 (Nat.le_add_left _ _))
abbrev sem24_0 : Fin 1 → DmaSem sig := fun | 0 => cc24_sem0_0 | ⟨_ + 1, h⟩ => absurd h (Nat.not_lt.2 (Nat.le_add_left _ _))

abbrev stage24_1 : Fin 1 → Memref sig .tc .vmem S1024x1024 .f32 := fun | 0 => Memref.whole cc24_stg1_0 | ⟨_ + 1, h⟩ => absurd h (Nat.not_lt.2 (Nat.le_add_left _ _))
abbrev sem24_1 : Fin 1 → DmaSem sig := fun | 0 => cc24_sem1_0 | ⟨_ + 1, h⟩ => absurd h (Nat.not_lt.2 (Nat.le_add_left _ _))

abbrev stage24_2 : Fin 1 → Memref sig .tc .vmem S128x1024 .f32 := fun | 0 => Memref.whole cc24_stg2_0 | ⟨_ + 1, h⟩ => absurd h (Nat.not_lt.2 (Nat.le_add_left _ _))
abbrev sem24_2 : Fin 1 → DmaSem sig := fun | 0 => cc24_sem2_0 | ⟨_ + 1, h⟩ => absurd h (Nat.not_lt.2 (Nat.le_add_left _ _))

abbrev grid25 : Pipeline.Grid := ⟨1, ![10], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc25_transform_1 (i : grid25.Coords) : Fin 2 → Nat :=
  let arg0 : BitVec 32 := BitVec.ofNat 32 (i 0).val
  let c0_i32 : BitVec 32 := 0#32
  let c0_i32_0 : BitVec 32 := 0#32
  ![c0_i32.toNat, arg0.toNat]

def cc25_transform_2 (i : grid25.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage25_0 : Fin 1 → Memref sig .tc .vmem S128x1024 .f32 := fun | 0 => Memref.whole cc25_stg0_0 | ⟨_ + 1, h⟩ => absurd h (Nat.not_lt.2 (Nat.le_add_left _ _))
abbrev sem25_0 : Fin 1 → DmaSem sig := fun | 0 => cc25_sem0_0 | ⟨_ + 1, h⟩ => absurd h (Nat.not_lt.2 (Nat.le_add_left _ _))
abbrev reads25_0 : Fin grid25.rank → Bool := ![false]

abbrev stage25_1 : Fin 2 → Memref sig .tc .vmem S1024x3200 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 2 → Memref sig .tc .vmem S128x3200 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev grid26 : Pipeline.Grid := .none

@[reducible] def k26_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k26_off1 (k26_t1 : Fin k26_t1_loop.trips) : Fin 3 → Nat :=
  let c1_i32 : BitVec 32 := 1#32
  let c1_i32_5 : BitVec 32 := 1#32
  let arg6 : BitVec 32 := Scf.iv c1_i32 c1_i32_5 k26_t1
  let v1400 : Index := Scalar.indexCast arg6
  let c0_775 : Index := 0#32
  let c0_776 : Index := 0#32
  ![v1400.toNat, 0, 0]
def k26_off2 (k26_t1 : Fin k26_t1_loop.trips) : Fin 3 → Nat :=
  let c1_i32 : BitVec 32 := 1#32
  let c1_i32_5 : BitVec 32 := 1#32
  let arg6 : BitVec 32 := Scf.iv c1_i32 c1_i32_5 k26_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k26_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k26_off3 (k26_t2 : Fin k26_t2_loop.trips) : Fin 3 → Nat :=
  let c0_i32_768 : BitVec 32 := 0#32
  let c1_i32_769 : BitVec 32 := 1#32
  let arg6 : BitVec 32 := Scf.iv c0_i32_768 c1_i32_769 k26_t2
  let v1400 : Index := Scalar.indexCast arg6
  let c0_775 : Index := 0#32
  let c0_776 : Index := 0#32
  ![v1400.toNat, 0, 0]
abbrev stage26_0 : Fin 1 → Memref sig .tc .vmem S128x128x256 .f32 := fun | 0 => Memref.whole cc26_stg0_0 | ⟨_ + 1, h⟩ => absurd h (Nat.not_lt.2 (Nat.le_add_left _ _))
abbrev sem26_0 : Fin 1 → DmaSem sig := fun | 0 => cc26_sem0_0 | ⟨_ + 1, h⟩ => absurd h (Nat.not_lt.2 (Nat.le_add_left _ _))

abbrev stage26_1 : Fin 1 → Memref sig .tc .vmem S128x1 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))

abbrev stage26_2 : Fin 1 → Memref sig .tc .vmem S128x1 .i32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))

abbrev grid27 : Pipeline.Grid := .none

abbrev stage27_0 : Fin 1 → Memref sig .tc .vmem S128x1024 .f32 := fun | 0 => Memref.whole cc27_stg0_0 | ⟨_ + 1, h⟩ => absurd h (Nat.not_lt.2 (Nat.le_add_left _ _))
abbrev sem27_0 : Fin 1 → DmaSem sig := fun | 0 => cc27_sem0_0 | ⟨_ + 1, h⟩ => absurd h (Nat.not_lt.2 (Nat.le_add_left _ _))

abbrev stage27_1 : Fin 1 → Memref sig .tc .vmem S1024x1024 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))

abbrev stage27_2 : Fin 1 → Memref sig .tc .vmem S128x1024 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))

abbrev grid28 : Pipeline.Grid := ⟨1, ![10], ![false]⟩

def cc28_transform_0 (i : grid28.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc28_transform_1 (i : grid28.Coords) : Fin 2 → Nat :=
  let arg0 : BitVec 32 := BitVec.ofNat 32 (i 0).val
  let c0_i32 : BitVec 32 := 0#32
  let c0_i32_0 : BitVec 32 := 0#32
  ![c0_i32.toNat, arg0.toNat]

def cc28_transform_2 (i : grid28.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage28_0 : Fin 1 → Memref sig .tc .vmem S128x1024 .f32 := fun | 0 => Memref.whole cc28_stg0_0 | ⟨_ + 1, h⟩ => absurd h (Nat.not_lt.2 (Nat.le_add_left _ _))
abbrev sem28_0 : Fin 1 → DmaSem sig := fun | 0 => cc28_sem0_0 | ⟨_ + 1, h⟩ => absurd h (Nat.not_lt.2 (Nat.le_add_left _ _))
abbrev reads28_0 : Fin grid28.rank → Bool := ![false]

abbrev stage28_1 : Fin 2 → Memref sig .tc .vmem S1024x3200 .f32 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![true]

abbrev stage28_2 : Fin 2 → Memref sig .tc .vmem S128x3200 .f32 := fun | 0 => Memref.whole cc28_stg2_0 | 1 => Memref.whole cc28_stg2_1 | ⟨_ + 2, h⟩ => absurd h (Nat.not_lt.2 (Nat.le_add_left _ _))
abbrev sem28_2 : Fin 2 → DmaSem sig := fun | 0 => cc28_sem2_0 | 1 => cc28_sem2_1 | ⟨_ + 2, h⟩ => absurd h (Nat.not_lt.2 (Nat.le_add_left _ _))
abbrev reads28_2 : Fin grid28.rank → Bool := ![true]

abbrev grid29 : Pipeline.Grid := .none

@[reducible] def k29_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k29_off1 (k29_t1 : Fin k29_t1_loop.trips) : Fin 3 → Nat :=
  let c1_i32 : BitVec 32 := 1#32
  let c1_i32_5 : BitVec 32 := 1#32
  let arg6 : BitVec 32 := Scf.iv c1_i32 c1_i32_5 k29_t1
  let v1400 : Index := Scalar.indexCast arg6
  let c0_775 : Index := 0#32
  let c0_776 : Index := 0#32
  ![v1400.toNat, 0, 0]
def k29_off2 (k29_t1 : Fin k29_t1_loop.trips) : Fin 3 → Nat :=
  let c1_i32 : BitVec 32 := 1#32
  let c1_i32_5 : BitVec 32 := 1#32
  let arg6 : BitVec 32 := Scf.iv c1_i32 c1_i32_5 k29_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k29_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k29_off3 (k29_t2 : Fin k29_t2_loop.trips) : Fin 3 → Nat :=
  let c0_i32_768 : BitVec 32 := 0#32
  let c1_i32_769 : BitVec 32 := 1#32
  let arg6 : BitVec 32 := Scf.iv c0_i32_768 c1_i32_769 k29_t2
  let v1400 : Index := Scalar.indexCast arg6
  let c0_775 : Index := 0#32
  let c0_776 : Index := 0#32
  ![v1400.toNat, 0, 0]
abbrev stage29_0 : Fin 1 → Memref sig .tc .vmem S128x128x256 .f32 := fun | 0 => Memref.whole cc29_stg0_0 | ⟨_ + 1, h⟩ => absurd h (Nat.not_lt.2 (Nat.le_add_left _ _))
abbrev sem29_0 : Fin 1 → DmaSem sig := fun | 0 => cc29_sem0_0 | ⟨_ + 1, h⟩ => absurd h (Nat.not_lt.2 (Nat.le_add_left _ _))

abbrev stage29_1 : Fin 1 → Memref sig .tc .vmem S128x1 .f32 := fun | 0 => Memref.whole cc29_stg1_0 | ⟨_ + 1, h⟩ => absurd h (Nat.not_lt.2 (Nat.le_add_left _ _))
abbrev sem29_1 : Fin 1 → DmaSem sig := fun | 0 => cc29_sem1_0 | ⟨_ + 1, h⟩ => absurd h (Nat.not_lt.2 (Nat.le_add_left _ _))

abbrev stage29_2 : Fin 1 → Memref sig .tc .vmem S128x1 .i32 := fun | 0 => Memref.whole cc29_stg2_0 | ⟨_ + 1, h⟩ => absurd h (Nat.not_lt.2 (Nat.le_add_left _ _))
abbrev sem29_2 : Fin 1 → DmaSem sig := fun | 0 => cc29_sem2_0 | ⟨_ + 1, h⟩ => absurd h (Nat.not_lt.2 (Nat.le_add_left _ _))

abbrev grid30 : Pipeline.Grid := .none

abbrev stage30_0 : Fin 1 → Memref sig .tc .vmem S128x1024 .f32 := fun | 0 => Memref.whole cc30_stg0_0 | ⟨_ + 1, h⟩ => absurd h (Nat.not_lt.2 (Nat.le_add_left _ _))
abbrev sem30_0 : Fin 1 → DmaSem sig := fun | 0 => cc30_sem0_0 | ⟨_ + 1, h⟩ => absurd h (Nat.not_lt.2 (Nat.le_add_left _ _))

abbrev stage30_1 : Fin 1 → Memref sig .tc .vmem S1024x1024 .f32 := fun | 0 => Memref.whole cc30_stg1_0 | ⟨_ + 1, h⟩ => absurd h (Nat.not_lt.2 (Nat.le_add_left _ _))
abbrev sem30_1 : Fin 1 → DmaSem sig := fun | 0 => cc30_sem1_0 | ⟨_ + 1, h⟩ => absurd h (Nat.not_lt.2 (Nat.le_add_left _ _))

abbrev stage30_2 : Fin 1 → Memref sig .tc .vmem S128x1024 .f32 := fun | 0 => Memref.whole cc30_stg2_0 | ⟨_ + 1, h⟩ => absurd h (Nat.not_lt.2 (Nat.le_add_left _ _))
abbrev sem30_2 : Fin 1 → DmaSem sig := fun | 0 => cc30_sem2_0 | ⟨_ + 1, h⟩ => absurd h (Nat.not_lt.2 (Nat.le_add_left _ _))

abbrev grid31 : Pipeline.Grid := ⟨1, ![10], ![false]⟩

def cc31_transform_0 (i : grid31.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc31_transform_1 (i : grid31.Coords) : Fin 2 → Nat :=
  let arg0 : BitVec 32 := BitVec.ofNat 32 (i 0).val
  let c0_i32 : BitVec 32 := 0#32
  let c0_i32_0 : BitVec 32 := 0#32
  ![c0_i32.toNat, arg0.toNat]

def cc31_transform_2 (i : grid31.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage31_0 : Fin 1 → Memref sig .tc .vmem S128x1024 .f32 := fun | 0 => Memref.whole cc31_stg0_0 | ⟨_ + 1, h⟩ => absurd h (Nat.not_lt.2 (Nat.le_add_left _ _))
abbrev sem31_0 : Fin 1 → DmaSem sig := fun | 0 => cc31_sem0_0 | ⟨_ + 1, h⟩ => absurd h (Nat.not_lt.2 (Nat.le_add_left _ _))
abbrev reads31_0 : Fin grid31.rank → Bool := ![false]

abbrev stage31_1 : Fin 2 → Memref sig .tc .vmem S1024x3200 .f32 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![true]

abbrev stage31_2 : Fin 2 → Memref sig .tc .vmem S128x3200 .f32 := fun | 0 => Memref.whole cc31_stg2_0 | 1 => Memref.whole cc31_stg2_1 | ⟨_ + 2, h⟩ => absurd h (Nat.not_lt.2 (Nat.le_add_left _ _))
abbrev sem31_2 : Fin 2 → DmaSem sig := fun | 0 => cc31_sem2_0 | 1 => cc31_sem2_1 | ⟨_ + 2, h⟩ => absurd h (Nat.not_lt.2 (Nat.le_add_left _ _))
abbrev reads31_2 : Fin grid31.rank → Bool := ![true]

abbrev grid32 : Pipeline.Grid := .none

@[reducible] def k32_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k32_off1 (k32_t1 : Fin k32_t1_loop.trips) : Fin 3 → Nat :=
  let c1_i32 : BitVec 32 := 1#32
  let c1_i32_5 : BitVec 32 := 1#32
  let arg6 : BitVec 32 := Scf.iv c1_i32 c1_i32_5 k32_t1
  let v1400 : Index := Scalar.indexCast arg6
  let c0_775 : Index := 0#32
  let c0_776 : Index := 0#32
  ![v1400.toNat, 0, 0]
def k32_off2 (k32_t1 : Fin k32_t1_loop.trips) : Fin 3 → Nat :=
  let c1_i32 : BitVec 32 := 1#32
  let c1_i32_5 : BitVec 32 := 1#32
  let arg6 : BitVec 32 := Scf.iv c1_i32 c1_i32_5 k32_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k32_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k32_off3 (k32_t2 : Fin k32_t2_loop.trips) : Fin 3 → Nat :=
  let c0_i32_768 : BitVec 32 := 0#32
  let c1_i32_769 : BitVec 32 := 1#32
  let arg6 : BitVec 32 := Scf.iv c0_i32_768 c1_i32_769 k32_t2
  let v1400 : Index := Scalar.indexCast arg6
  let c0_775 : Index := 0#32
  let c0_776 : Index := 0#32
  ![v1400.toNat, 0, 0]
abbrev stage32_0 : Fin 1 → Memref sig .tc .vmem S128x128x256 .f32 := fun | 0 => Memref.whole cc32_stg0_0 | ⟨_ + 1, h⟩ => absurd h (Nat.not_lt.2 (Nat.le_add_left _ _))
abbrev sem32_0 : Fin 1 → DmaSem sig := fun | 0 => cc32_sem0_0 | ⟨_ + 1, h⟩ => absurd h (Nat.not_lt.2 (Nat.le_add_left _ _))

abbrev stage32_1 : Fin 1 → Memref sig .tc .vmem S128x1 .f32 := fun | 0 => Memref.whole cc32_stg1_0 | ⟨_ + 1, h⟩ => absurd h (Nat.not_lt.2 (Nat.le_add_left _ _))
abbrev sem32_1 : Fin 1 → DmaSem sig := fun | 0 => cc32_sem1_0 | ⟨_ + 1, h⟩ => absurd h (Nat.not_lt.2 (Nat.le_add_left _ _))

abbrev stage32_2 : Fin 1 → Memref sig .tc .vmem S128x1 .i32 := fun | 0 => Memref.whole cc32_stg2_0 | ⟨_ + 1, h⟩ => absurd h (Nat.not_lt.2 (Nat.le_add_left _ _))
abbrev sem32_2 : Fin 1 → DmaSem sig := fun | 0 => cc32_sem2_0 | ⟨_ + 1, h⟩ => absurd h (Nat.not_lt.2 (Nat.le_add_left _ _))

abbrev grid33 : Pipeline.Grid := .none

abbrev stage33_0 : Fin 1 → Memref sig .tc .vmem S128x1024 .f32 := fun | 0 => Memref.whole cc33_stg0_0 | ⟨_ + 1, h⟩ => absurd h (Nat.not_lt.2 (Nat.le_add_left _ _))
abbrev sem33_0 : Fin 1 → DmaSem sig := fun | 0 => cc33_sem0_0 | ⟨_ + 1, h⟩ => absurd h (Nat.not_lt.2 (Nat.le_add_left _ _))

abbrev stage33_1 : Fin 1 → Memref sig .tc .vmem S1024x1024 .f32 := fun | 0 => Memref.whole cc33_stg1_0 | ⟨_ + 1, h⟩ => absurd h (Nat.not_lt.2 (Nat.le_add_left _ _))
abbrev sem33_1 : Fin 1 → DmaSem sig := fun | 0 => cc33_sem1_0 | ⟨_ + 1, h⟩ => absurd h (Nat.not_lt.2 (Nat.le_add_left _ _))

abbrev stage33_2 : Fin 1 → Memref sig .tc .vmem S128x1024 .f32 := fun | 0 => Memref.whole cc33_stg2_0 | ⟨_ + 1, h⟩ => absurd h (Nat.not_lt.2 (Nat.le_add_left _ _))
abbrev sem33_2 : Fin 1 → DmaSem sig := fun | 0 => cc33_sem2_0 | ⟨_ + 1, h⟩ => absurd h (Nat.not_lt.2 (Nat.le_add_left _ _))

abbrev grid34 : Pipeline.Grid := ⟨1, ![10], ![false]⟩

def cc34_transform_0 (i : grid34.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc34_transform_1 (i : grid34.Coords) : Fin 2 → Nat :=
  let arg0 : BitVec 32 := BitVec.ofNat 32 (i 0).val
  let c0_i32 : BitVec 32 := 0#32
  let c0_i32_0 : BitVec 32 := 0#32
  ![c0_i32.toNat, arg0.toNat]

def cc34_transform_2 (i : grid34.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage34_0 : Fin 1 → Memref sig .tc .vmem S128x1024 .f32 := fun | 0 => Memref.whole cc34_stg0_0 | ⟨_ + 1, h⟩ => absurd h (Nat.not_lt.2 (Nat.le_add_left _ _))
abbrev sem34_0 : Fin 1 → DmaSem sig := fun | 0 => cc34_sem0_0 | ⟨_ + 1, h⟩ => absurd h (Nat.not_lt.2 (Nat.le_add_left _ _))
abbrev reads34_0 : Fin grid34.rank → Bool := ![false]

abbrev stage34_1 : Fin 2 → Memref sig .tc .vmem S1024x3200 .f32 := fun | 0 => Memref.whole cc34_stg1_0 | 1 => Memref.whole cc34_stg1_1 | ⟨_ + 2, h⟩ => absurd h (Nat.not_lt.2 (Nat.le_add_left _ _))
abbrev sem34_1 : Fin 2 → DmaSem sig := fun | 0 => cc34_sem1_0 | 1 => cc34_sem1_1 | ⟨_ + 2, h⟩ => absurd h (Nat.not_lt.2 (Nat.le_add_left _ _))
abbrev reads34_1 : Fin grid34.rank → Bool := ![true]

abbrev stage34_2 : Fin 2 → Memref sig .tc .vmem S128x3200 .f32 := fun | 0 => Memref.whole cc34_stg2_0 | 1 => Memref.whole cc34_stg2_1 | ⟨_ + 2, h⟩ => absurd h (Nat.not_lt.2 (Nat.le_add_left _ _))
abbrev sem34_2 : Fin 2 → DmaSem sig := fun | 0 => cc34_sem2_0 | 1 => cc34_sem2_1 | ⟨_ + 2, h⟩ => absurd h (Nat.not_lt.2 (Nat.le_add_left _ _))
abbrev reads34_2 : Fin grid34.rank → Bool := ![true]

abbrev grid35 : Pipeline.Grid := .none

@[reducible] def k35_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k35_off1 (k35_t1 : Fin k35_t1_loop.trips) : Fin 3 → Nat :=
  let c1_i32 : BitVec 32 := 1#32
  let c1_i32_5 : BitVec 32 := 1#32
  let arg6 : BitVec 32 := Scf.iv c1_i32 c1_i32_5 k35_t1
  let v1400 : Index := Scalar.indexCast arg6
  let c0_775 : Index := 0#32
  let c0_776 : Index := 0#32
  ![v1400.toNat, 0, 0]
def k35_off2 (k35_t1 : Fin k35_t1_loop.trips) : Fin 3 → Nat :=
  let c1_i32 : BitVec 32 := 1#32
  let c1_i32_5 : BitVec 32 := 1#32
  let arg6 : BitVec 32 := Scf.iv c1_i32 c1_i32_5 k35_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k35_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k35_off3 (k35_t2 : Fin k35_t2_loop.trips) : Fin 3 → Nat :=
  let c0_i32_768 : BitVec 32 := 0#32
  let c1_i32_769 : BitVec 32 := 1#32
  let arg6 : BitVec 32 := Scf.iv c0_i32_768 c1_i32_769 k35_t2
  let v1400 : Index := Scalar.indexCast arg6
  let c0_775 : Index := 0#32
  let c0_776 : Index := 0#32
  ![v1400.toNat, 0, 0]
abbrev stage35_0 : Fin 1 → Memref sig .tc .vmem S128x128x256 .f32 := fun | 0 => Memref.whole cc35_stg0_0 | ⟨_ + 1, h⟩ => absurd h (Nat.not_lt.2 (Nat.le_add_left _ _))
abbrev sem35_0 : Fin 1 → DmaSem sig := fun | 0 => cc35_sem0_0 | ⟨_ + 1, h⟩ => absurd h (Nat.not_lt.2 (Nat.le_add_left _ _))

abbrev stage35_1 : Fin 1 → Memref sig .tc .vmem S128x1 .f32 := fun | 0 => Memref.whole cc35_stg1_0 | ⟨_ + 1, h⟩ => absurd h (Nat.not_lt.2 (Nat.le_add_left _ _))
abbrev sem35_1 : Fin 1 → DmaSem sig := fun | 0 => cc35_sem1_0 | ⟨_ + 1, h⟩ => absurd h (Nat.not_lt.2 (Nat.le_add_left _ _))

abbrev stage35_2 : Fin 1 → Memref sig .tc .vmem S128x1 .i32 := fun | 0 => Memref.whole cc35_stg2_0 | ⟨_ + 1, h⟩ => absurd h (Nat.not_lt.2 (Nat.le_add_left _ _))
abbrev sem35_2 : Fin 1 → DmaSem sig := fun | 0 => cc35_sem2_0 | ⟨_ + 1, h⟩ => absurd h (Nat.not_lt.2 (Nat.le_add_left _ _))

abbrev grid36 : Pipeline.Grid := .none

abbrev stage36_0 : Fin 1 → Memref sig .tc .vmem S128x1024 .f32 := fun | 0 => Memref.whole cc36_stg0_0 | ⟨_ + 1, h⟩ => absurd h (Nat.not_lt.2 (Nat.le_add_left _ _))
abbrev sem36_0 : Fin 1 → DmaSem sig := fun | 0 => cc36_sem0_0 | ⟨_ + 1, h⟩ => absurd h (Nat.not_lt.2 (Nat.le_add_left _ _))

abbrev stage36_1 : Fin 1 → Memref sig .tc .vmem S1024x1024 .f32 := fun | 0 => Memref.whole cc36_stg1_0 | ⟨_ + 1, h⟩ => absurd h (Nat.not_lt.2 (Nat.le_add_left _ _))
abbrev sem36_1 : Fin 1 → DmaSem sig := fun | 0 => cc36_sem1_0 | ⟨_ + 1, h⟩ => absurd h (Nat.not_lt.2 (Nat.le_add_left _ _))

abbrev stage36_2 : Fin 1 → Memref sig .tc .vmem S128x1024 .f32 := fun | 0 => Memref.whole cc36_stg2_0 | ⟨_ + 1, h⟩ => absurd h (Nat.not_lt.2 (Nat.le_add_left _ _))
abbrev sem36_2 : Fin 1 → DmaSem sig := fun | 0 => cc36_sem2_0 | ⟨_ + 1, h⟩ => absurd h (Nat.not_lt.2 (Nat.le_add_left _ _))

abbrev grid37 : Pipeline.Grid := ⟨1, ![10], ![false]⟩

def cc37_transform_0 (i : grid37.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc37_transform_1 (i : grid37.Coords) : Fin 2 → Nat :=
  let arg0 : BitVec 32 := BitVec.ofNat 32 (i 0).val
  let c0_i32 : BitVec 32 := 0#32
  let c0_i32_0 : BitVec 32 := 0#32
  ![c0_i32.toNat, arg0.toNat]

def cc37_transform_2 (i : grid37.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage37_0 : Fin 1 → Memref sig .tc .vmem S128x1024 .f32 := fun | 0 => Memref.whole cc37_stg0_0 | ⟨_ + 1, h⟩ => absurd h (Nat.not_lt.2 (Nat.le_add_left _ _))
abbrev sem37_0 : Fin 1 → DmaSem sig := fun | 0 => cc37_sem0_0 | ⟨_ + 1, h⟩ => absurd h (Nat.not_lt.2 (Nat.le_add_left _ _))
abbrev reads37_0 : Fin grid37.rank → Bool := ![false]

abbrev stage37_1 : Fin 2 → Memref sig .tc .vmem S1024x3200 .f32 := fun | 0 => Memref.whole cc37_stg1_0 | 1 => Memref.whole cc37_stg1_1 | ⟨_ + 2, h⟩ => absurd h (Nat.not_lt.2 (Nat.le_add_left _ _))
abbrev sem37_1 : Fin 2 → DmaSem sig := fun | 0 => cc37_sem1_0 | 1 => cc37_sem1_1 | ⟨_ + 2, h⟩ => absurd h (Nat.not_lt.2 (Nat.le_add_left _ _))
abbrev reads37_1 : Fin grid37.rank → Bool := ![true]

abbrev stage37_2 : Fin 2 → Memref sig .tc .vmem S128x3200 .f32 := fun | 0 => Memref.whole cc37_stg2_0 | 1 => Memref.whole cc37_stg2_1 | ⟨_ + 2, h⟩ => absurd h (Nat.not_lt.2 (Nat.le_add_left _ _))
abbrev sem37_2 : Fin 2 → DmaSem sig := fun | 0 => cc37_sem2_0 | 1 => cc37_sem2_1 | ⟨_ + 2, h⟩ => absurd h (Nat.not_lt.2 (Nat.le_add_left _ _))
abbrev reads37_2 : Fin grid37.rank → Bool := ![true]

abbrev grid38 : Pipeline.Grid := .none

@[reducible] def k38_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k38_off1 (k38_t1 : Fin k38_t1_loop.trips) : Fin 3 → Nat :=
  let c1_i32 : BitVec 32 := 1#32
  let c1_i32_5 : BitVec 32 := 1#32
  let arg6 : BitVec 32 := Scf.iv c1_i32 c1_i32_5 k38_t1
  let v1400 : Index := Scalar.indexCast arg6
  let c0_775 : Index := 0#32
  let c0_776 : Index := 0#32
  ![v1400.toNat, 0, 0]
def k38_off2 (k38_t1 : Fin k38_t1_loop.trips) : Fin 3 → Nat :=
  let c1_i32 : BitVec 32 := 1#32
  let c1_i32_5 : BitVec 32 := 1#32
  let arg6 : BitVec 32 := Scf.iv c1_i32 c1_i32_5 k38_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k38_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k38_off3 (k38_t2 : Fin k38_t2_loop.trips) : Fin 3 → Nat :=
  let c0_i32_768 : BitVec 32 := 0#32
  let c1_i32_769 : BitVec 32 := 1#32
  let arg6 : BitVec 32 := Scf.iv c0_i32_768 c1_i32_769 k38_t2
  let v1400 : Index := Scalar.indexCast arg6
  let c0_775 : Index := 0#32
  let c0_776 : Index := 0#32
  ![v1400.toNat, 0, 0]
abbrev stage38_0 : Fin 1 → Memref sig .tc .vmem S128x128x256 .f32 := fun | 0 => Memref.whole cc38_stg0_0 | ⟨_ + 1, h⟩ => absurd h (Nat.not_lt.2 (Nat.le_add_left _ _))
abbrev sem38_0 : Fin 1 → DmaSem sig := fun | 0 => cc38_sem0_0 | ⟨_ + 1, h⟩ => absurd h (Nat.not_lt.2 (Nat.le_add_left _ _))

abbrev stage38_1 : Fin 1 → Memref sig .tc .vmem S128x1 .f32 := fun | 0 => Memref.whole cc38_stg1_0 | ⟨_ + 1, h⟩ => absurd h (Nat.not_lt.2 (Nat.le_add_left _ _))
abbrev sem38_1 : Fin 1 → DmaSem sig := fun | 0 => cc38_sem1_0 | ⟨_ + 1, h⟩ => absurd h (Nat.not_lt.2 (Nat.le_add_left _ _))

abbrev stage38_2 : Fin 1 → Memref sig .tc .vmem S128x1 .i32 := fun | 0 => Memref.whole cc38_stg2_0 | ⟨_ + 1, h⟩ => absurd h (Nat.not_lt.2 (Nat.le_add_left _ _))
abbrev sem38_2 : Fin 1 → DmaSem sig := fun | 0 => cc38_sem2_0 | ⟨_ + 1, h⟩ => absurd h (Nat.not_lt.2 (Nat.le_add_left _ _))

abbrev grid39 : Pipeline.Grid := .none

abbrev stage39_0 : Fin 1 → Memref sig .tc .vmem S128x1024 .f32 := fun | 0 => Memref.whole cc39_stg0_0 | ⟨_ + 1, h⟩ => absurd h (Nat.not_lt.2 (Nat.le_add_left _ _))
abbrev sem39_0 : Fin 1 → DmaSem sig := fun | 0 => cc39_sem0_0 | ⟨_ + 1, h⟩ => absurd h (Nat.not_lt.2 (Nat.le_add_left _ _))

abbrev stage39_1 : Fin 1 → Memref sig .tc .vmem S1024x1024 .f32 := fun | 0 => Memref.whole cc39_stg1_0 | ⟨_ + 1, h⟩ => absurd h (Nat.not_lt.2 (Nat.le_add_left _ _))
abbrev sem39_1 : Fin 1 → DmaSem sig := fun | 0 => cc39_sem1_0 | ⟨_ + 1, h⟩ => absurd h (Nat.not_lt.2 (Nat.le_add_left _ _))

abbrev stage39_2 : Fin 1 → Memref sig .tc .vmem S128x1024 .f32 := fun | 0 => Memref.whole cc39_stg2_0 | ⟨_ + 1, h⟩ => absurd h (Nat.not_lt.2 (Nat.le_add_left _ _))
abbrev sem39_2 : Fin 1 → DmaSem sig := fun | 0 => cc39_sem2_0 | ⟨_ + 1, h⟩ => absurd h (Nat.not_lt.2 (Nat.le_add_left _ _))

abbrev grid40 : Pipeline.Grid := ⟨1, ![10], ![false]⟩

def cc40_transform_0 (i : grid40.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc40_transform_1 (i : grid40.Coords) : Fin 2 → Nat :=
  let arg0 : BitVec 32 := BitVec.ofNat 32 (i 0).val
  let c0_i32 : BitVec 32 := 0#32
  let c0_i32_0 : BitVec 32 := 0#32
  ![c0_i32.toNat, arg0.toNat]

def cc40_transform_2 (i : grid40.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage40_0 : Fin 1 → Memref sig .tc .vmem S128x1024 .f32 := fun | 0 => Memref.whole cc40_stg0_0 | ⟨_ + 1, h⟩ => absurd h (Nat.not_lt.2 (Nat.le_add_left _ _))
abbrev sem40_0 : Fin 1 → DmaSem sig := fun | 0 => cc40_sem0_0 | ⟨_ + 1, h⟩ => absurd h (Nat.not_lt.2 (Nat.le_add_left _ _))
abbrev reads40_0 : Fin grid40.rank → Bool := ![false]

abbrev stage40_1 : Fin 2 → Memref sig .tc .vmem S1024x3200 .f32 := fun | 0 => Memref.whole cc40_stg1_0 | 1 => Memref.whole cc40_stg1_1 | ⟨_ + 2, h⟩ => absurd h (Nat.not_lt.2 (Nat.le_add_left _ _))
abbrev sem40_1 : Fin 2 → DmaSem sig := fun | 0 => cc40_sem1_0 | 1 => cc40_sem1_1 | ⟨_ + 2, h⟩ => absurd h (Nat.not_lt.2 (Nat.le_add_left _ _))
abbrev reads40_1 : Fin grid40.rank → Bool := ![true]

abbrev stage40_2 : Fin 2 → Memref sig .tc .vmem S128x3200 .f32 := fun | 0 => Memref.whole cc40_stg2_0 | 1 => Memref.whole cc40_stg2_1 | ⟨_ + 2, h⟩ => absurd h (Nat.not_lt.2 (Nat.le_add_left _ _))
abbrev sem40_2 : Fin 2 → DmaSem sig := fun | 0 => cc40_sem2_0 | 1 => cc40_sem2_1 | ⟨_ + 2, h⟩ => absurd h (Nat.not_lt.2 (Nat.le_add_left _ _))
abbrev reads40_2 : Fin grid40.rank → Bool := ![true]

abbrev grid41 : Pipeline.Grid := .none

@[reducible] def k41_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k41_off1 (k41_t1 : Fin k41_t1_loop.trips) : Fin 3 → Nat :=
  let c1_i32 : BitVec 32 := 1#32
  let c1_i32_5 : BitVec 32 := 1#32
  let arg6 : BitVec 32 := Scf.iv c1_i32 c1_i32_5 k41_t1
  let v1400 : Index := Scalar.indexCast arg6
  let c0_775 : Index := 0#32
  let c0_776 : Index := 0#32
  ![v1400.toNat, 0, 0]
def k41_off2 (k41_t1 : Fin k41_t1_loop.trips) : Fin 3 → Nat :=
  let c1_i32 : BitVec 32 := 1#32
  let c1_i32_5 : BitVec 32 := 1#32
  let arg6 : BitVec 32 := Scf.iv c1_i32 c1_i32_5 k41_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k41_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k41_off3 (k41_t2 : Fin k41_t2_loop.trips) : Fin 3 → Nat :=
  let c0_i32_768 : BitVec 32 := 0#32
  let c1_i32_769 : BitVec 32 := 1#32
  let arg6 : BitVec 32 := Scf.iv c0_i32_768 c1_i32_769 k41_t2
  let v1400 : Index := Scalar.indexCast arg6
  let c0_775 : Index := 0#32
  let c0_776 : Index := 0#32
  ![v1400.toNat, 0, 0]
abbrev stage41_0 : Fin 1 → Memref sig .tc .vmem S128x128x256 .f32 := fun | 0 => Memref.whole cc41_stg0_0 | ⟨_ + 1, h⟩ => absurd h (Nat.not_lt.2 (Nat.le_add_left _ _))
abbrev sem41_0 : Fin 1 → DmaSem sig := fun | 0 => cc41_sem0_0 | ⟨_ + 1, h⟩ => absurd h (Nat.not_lt.2 (Nat.le_add_left _ _))

abbrev stage41_1 : Fin 1 → Memref sig .tc .vmem S128x1 .f32 := fun | 0 => Memref.whole cc41_stg1_0 | ⟨_ + 1, h⟩ => absurd h (Nat.not_lt.2 (Nat.le_add_left _ _))
abbrev sem41_1 : Fin 1 → DmaSem sig := fun | 0 => cc41_sem1_0 | ⟨_ + 1, h⟩ => absurd h (Nat.not_lt.2 (Nat.le_add_left _ _))

abbrev stage41_2 : Fin 1 → Memref sig .tc .vmem S128x1 .i32 := fun | 0 => Memref.whole cc41_stg2_0 | ⟨_ + 1, h⟩ => absurd h (Nat.not_lt.2 (Nat.le_add_left _ _))
abbrev sem41_2 : Fin 1 → DmaSem sig := fun | 0 => cc41_sem2_0 | ⟨_ + 1, h⟩ => absurd h (Nat.not_lt.2 (Nat.le_add_left _ _))

abbrev grid42 : Pipeline.Grid := .none

abbrev stage42_0 : Fin 1 → Memref sig .tc .vmem S128x1024 .f32 := fun | 0 => Memref.whole cc42_stg0_0 | ⟨_ + 1, h⟩ => absurd h (Nat.not_lt.2 (Nat.le_add_left _ _))
abbrev sem42_0 : Fin 1 → DmaSem sig := fun | 0 => cc42_sem0_0 | ⟨_ + 1, h⟩ => absurd h (Nat.not_lt.2 (Nat.le_add_left _ _))

abbrev stage42_1 : Fin 1 → Memref sig .tc .vmem S1024x1024 .f32 := fun | 0 => Memref.whole cc42_stg1_0 | ⟨_ + 1, h⟩ => absurd h (Nat.not_lt.2 (Nat.le_add_left _ _))
abbrev sem42_1 : Fin 1 → DmaSem sig := fun | 0 => cc42_sem1_0 | ⟨_ + 1, h⟩ => absurd h (Nat.not_lt.2 (Nat.le_add_left _ _))

abbrev stage42_2 : Fin 1 → Memref sig .tc .vmem S128x1024 .f32 := fun | 0 => Memref.whole cc42_stg2_0 | ⟨_ + 1, h⟩ => absurd h (Nat.not_lt.2 (Nat.le_add_left _ _))
abbrev sem42_2 : Fin 1 → DmaSem sig := fun | 0 => cc42_sem2_0 | ⟨_ + 1, h⟩ => absurd h (Nat.not_lt.2 (Nat.le_add_left _ _))

abbrev grid43 : Pipeline.Grid := ⟨1, ![10], ![false]⟩

def cc43_transform_0 (i : grid43.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc43_transform_1 (i : grid43.Coords) : Fin 2 → Nat :=
  let arg0 : BitVec 32 := BitVec.ofNat 32 (i 0).val
  let c0_i32 : BitVec 32 := 0#32
  let c0_i32_0 : BitVec 32 := 0#32
  ![c0_i32.toNat, arg0.toNat]

def cc43_transform_2 (i : grid43.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage43_0 : Fin 1 → Memref sig .tc .vmem S128x1024 .f32 := fun | 0 => Memref.whole cc43_stg0_0 | ⟨_ + 1, h⟩ => absurd h (Nat.not_lt.2 (Nat.le_add_left _ _))
abbrev sem43_0 : Fin 1 → DmaSem sig := fun | 0 => cc43_sem0_0 | ⟨_ + 1, h⟩ => absurd h (Nat.not_lt.2 (Nat.le_add_left _ _))
abbrev reads43_0 : Fin grid43.rank → Bool := ![false]

abbrev stage43_1 : Fin 2 → Memref sig .tc .vmem S1024x3200 .f32 := fun | 0 => Memref.whole cc43_stg1_0 | 1 => Memref.whole cc43_stg1_1 | ⟨_ + 2, h⟩ => absurd h (Nat.not_lt.2 (Nat.le_add_left _ _))
abbrev sem43_1 : Fin 2 → DmaSem sig := fun | 0 => cc43_sem1_0 | 1 => cc43_sem1_1 | ⟨_ + 2, h⟩ => absurd h (Nat.not_lt.2 (Nat.le_add_left _ _))
abbrev reads43_1 : Fin grid43.rank → Bool := ![true]

abbrev stage43_2 : Fin 2 → Memref sig .tc .vmem S128x3200 .f32 := fun | 0 => Memref.whole cc43_stg2_0 | 1 => Memref.whole cc43_stg2_1 | ⟨_ + 2, h⟩ => absurd h (Nat.not_lt.2 (Nat.le_add_left _ _))
abbrev sem43_2 : Fin 2 → DmaSem sig := fun | 0 => cc43_sem2_0 | 1 => cc43_sem2_1 | ⟨_ + 2, h⟩ => absurd h (Nat.not_lt.2 (Nat.le_add_left _ _))
abbrev reads43_2 : Fin grid43.rank → Bool := ![true]

abbrev grid44 : Pipeline.Grid := .none

@[reducible] def k44_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k44_off1 (k44_t1 : Fin k44_t1_loop.trips) : Fin 3 → Nat :=
  let c1_i32 : BitVec 32 := 1#32
  let c1_i32_5 : BitVec 32 := 1#32
  let arg6 : BitVec 32 := Scf.iv c1_i32 c1_i32_5 k44_t1
  let v1400 : Index := Scalar.indexCast arg6
  let c0_775 : Index := 0#32
  let c0_776 : Index := 0#32
  ![v1400.toNat, 0, 0]
def k44_off2 (k44_t1 : Fin k44_t1_loop.trips) : Fin 3 → Nat :=
  let c1_i32 : BitVec 32 := 1#32
  let c1_i32_5 : BitVec 32 := 1#32
  let arg6 : BitVec 32 := Scf.iv c1_i32 c1_i32_5 k44_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k44_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k44_off3 (k44_t2 : Fin k44_t2_loop.trips) : Fin 3 → Nat :=
  let c0_i32_768 : BitVec 32 := 0#32
  let c1_i32_769 : BitVec 32 := 1#32
  let arg6 : BitVec 32 := Scf.iv c0_i32_768 c1_i32_769 k44_t2
  let v1400 : Index := Scalar.indexCast arg6
  let c0_775 : Index := 0#32
  let c0_776 : Index := 0#32
  ![v1400.toNat, 0, 0]
abbrev stage44_0 : Fin 1 → Memref sig .tc .vmem S128x128x256 .f32 := fun | 0 => Memref.whole cc44_stg0_0 | ⟨_ + 1, h⟩ => absurd h (Nat.not_lt.2 (Nat.le_add_left _ _))
abbrev sem44_0 : Fin 1 → DmaSem sig := fun | 0 => cc44_sem0_0 | ⟨_ + 1, h⟩ => absurd h (Nat.not_lt.2 (Nat.le_add_left _ _))

abbrev stage44_1 : Fin 1 → Memref sig .tc .vmem S128x1 .f32 := fun | 0 => Memref.whole cc44_stg1_0 | ⟨_ + 1, h⟩ => absurd h (Nat.not_lt.2 (Nat.le_add_left _ _))
abbrev sem44_1 : Fin 1 → DmaSem sig := fun | 0 => cc44_sem1_0 | ⟨_ + 1, h⟩ => absurd h (Nat.not_lt.2 (Nat.le_add_left _ _))

abbrev stage44_2 : Fin 1 → Memref sig .tc .vmem S128x1 .i32 := fun | 0 => Memref.whole cc44_stg2_0 | ⟨_ + 1, h⟩ => absurd h (Nat.not_lt.2 (Nat.le_add_left _ _))
abbrev sem44_2 : Fin 1 → DmaSem sig := fun | 0 => cc44_sem2_0 | ⟨_ + 1, h⟩ => absurd h (Nat.not_lt.2 (Nat.le_add_left _ _))

abbrev grid45 : Pipeline.Grid := .none

abbrev stage45_0 : Fin 1 → Memref sig .tc .vmem S128x1024 .f32 := fun | 0 => Memref.whole cc45_stg0_0 | ⟨_ + 1, h⟩ => absurd h (Nat.not_lt.2 (Nat.le_add_left _ _))
abbrev sem45_0 : Fin 1 → DmaSem sig := fun | 0 => cc45_sem0_0 | ⟨_ + 1, h⟩ => absurd h (Nat.not_lt.2 (Nat.le_add_left _ _))

abbrev stage45_1 : Fin 1 → Memref sig .tc .vmem S1024x1024 .f32 := fun | 0 => Memref.whole cc45_stg1_0 | ⟨_ + 1, h⟩ => absurd h (Nat.not_lt.2 (Nat.le_add_left _ _))
abbrev sem45_1 : Fin 1 → DmaSem sig := fun | 0 => cc45_sem1_0 | ⟨_ + 1, h⟩ => absurd h (Nat.not_lt.2 (Nat.le_add_left _ _))

abbrev stage45_2 : Fin 1 → Memref sig .tc .vmem S128x1024 .f32 := fun | 0 => Memref.whole cc45_stg2_0 | ⟨_ + 1, h⟩ => absurd h (Nat.not_lt.2 (Nat.le_add_left _ _))
abbrev sem45_2 : Fin 1 → DmaSem sig := fun | 0 => cc45_sem2_0 | ⟨_ + 1, h⟩ => absurd h (Nat.not_lt.2 (Nat.le_add_left _ _))

abbrev grid46 : Pipeline.Grid := ⟨1, ![10], ![false]⟩

def cc46_transform_0 (i : grid46.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc46_transform_1 (i : grid46.Coords) : Fin 2 → Nat :=
  let arg0 : BitVec 32 := BitVec.ofNat 32 (i 0).val
  let c0_i32 : BitVec 32 := 0#32
  let c0_i32_0 : BitVec 32 := 0#32
  ![c0_i32.toNat, arg0.toNat]

def cc46_transform_2 (i : grid46.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage46_0 : Fin 1 → Memref sig .tc .vmem S128x1024 .f32 := fun | 0 => Memref.whole cc46_stg0_0 | ⟨_ + 1, h⟩ => absurd h (Nat.not_lt.2 (Nat.le_add_left _ _))
abbrev sem46_0 : Fin 1 → DmaSem sig := fun | 0 => cc46_sem0_0 | ⟨_ + 1, h⟩ => absurd h (Nat.not_lt.2 (Nat.le_add_left _ _))
abbrev reads46_0 : Fin grid46.rank → Bool := ![false]

abbrev stage46_1 : Fin 2 → Memref sig .tc .vmem S1024x3200 .f32 := fun | 0 => Memref.whole cc46_stg1_0 | 1 => Memref.whole cc46_stg1_1 | ⟨_ + 2, h⟩ => absurd h (Nat.not_lt.2 (Nat.le_add_left _ _))
abbrev sem46_1 : Fin 2 → DmaSem sig := fun | 0 => cc46_sem1_0 | 1 => cc46_sem1_1 | ⟨_ + 2, h⟩ => absurd h (Nat.not_lt.2 (Nat.le_add_left _ _))
abbrev reads46_1 : Fin grid46.rank → Bool := ![true]

abbrev stage46_2 : Fin 2 → Memref sig .tc .vmem S128x3200 .f32 := fun | 0 => Memref.whole cc46_stg2_0 | 1 => Memref.whole cc46_stg2_1 | ⟨_ + 2, h⟩ => absurd h (Nat.not_lt.2 (Nat.le_add_left _ _))
abbrev sem46_2 : Fin 2 → DmaSem sig := fun | 0 => cc46_sem2_0 | 1 => cc46_sem2_1 | ⟨_ + 2, h⟩ => absurd h (Nat.not_lt.2 (Nat.le_add_left _ _))
abbrev reads46_2 : Fin grid46.rank → Bool := ![true]

abbrev grid47 : Pipeline.Grid := .none

@[reducible] def k47_t1_loop : Scf.Loop 32 :=
  let c1_i32 : BitVec 32 := 1#32
  let c127_i32 : BitVec 32 := 127#32
  let v5 : BitVec 32 := Scalar.addi c1_i32 c127_i32
  let c1_i32_5 : BitVec 32 := 1#32
  ⟨c1_i32, v5, c1_i32_5⟩
def k47_off1 (k47_t1 : Fin k47_t1_loop.trips) : Fin 3 → Nat :=
  let c1_i32 : BitVec 32 := 1#32
  let c1_i32_5 : BitVec 32 := 1#32
  let arg6 : BitVec 32 := Scf.iv c1_i32 c1_i32_5 k47_t1
  let v1400 : Index := Scalar.indexCast arg6
  let c0_775 : Index := 0#32
  let c0_776 : Index := 0#32
  ![v1400.toNat, 0, 0]
def k47_off2 (k47_t1 : Fin k47_t1_loop.trips) : Fin 3 → Nat :=
  let c1_i32 : BitVec 32 := 1#32
  let c1_i32_5 : BitVec 32 := 1#32
  let arg6 : BitVec 32 := Scf.iv c1_i32 c1_i32_5 k47_t1
  let c1_i32_777 : BitVec 32 := 1#32
  let v1402 : BitVec 32 := Scalar.subi arg6 c1_i32_777
  let v1403 : Index := Scalar.indexCast v1402
  let c0_778 : Index := 0#32
  let c0_779 : Index := 0#32
  ![v1403.toNat, 0, 0]
@[reducible] def k47_t2_loop : Scf.Loop 32 :=
  let c0_i32_768 : BitVec 32 := 0#32
  let c128_i32 : BitVec 32 := 128#32
  let v1391 : BitVec 32 := Scalar.addi c0_i32_768 c128_i32
  let c1_i32_769 : BitVec 32 := 1#32
  ⟨c0_i32_768, v1391, c1_i32_769⟩
def k47_off3 (k47_t2 : Fin k47_t2_loop.trips) : Fin 3 → Nat :=
  let c0_i32_768 : BitVec 32 := 0#32
  let c1_i32_769 : BitVec 32 := 1#32
  let arg6 : BitVec 32 := Scf.iv c0_i32_768 c1_i32_769 k47_t2
  let v1400 : Index := Scalar.indexCast arg6
  let c0_775 : Index := 0#32
  let c0_776 : Index := 0#32
  ![v1400.toNat, 0, 0]
abbrev stage47_0 : Fin 1 → Memref sig .tc .vmem S128x128x256 .f32 := fun | 0 => Memref.whole cc47_stg0_0 | ⟨_ + 1, h⟩ => absurd h (Nat.not_lt.2 (Nat.le_add_left _ _))
abbrev sem47_0 : Fin 1 → DmaSem sig := fun | 0 => cc47_sem0_0 | ⟨_ + 1, h⟩ => absurd h (Nat.not_lt.2 (Nat.le_add_left _ _))

abbrev stage47_1 : Fin 1 → Memref sig .tc .vmem S128x1 .f32 := fun | 0 => Memref.whole cc47_stg1_0 | ⟨_ + 1, h⟩ => absurd h (Nat.not_lt.2 (Nat.le_add_left _ _))
abbrev sem47_1 : Fin 1 → DmaSem sig := fun | 0 => cc47_sem1_0 | ⟨_ + 1, h⟩ => absurd h (Nat.not_lt.2 (Nat.le_add_left _ _))

abbrev stage47_2 : Fin 1 → Memref sig .tc .vmem S128x1 .i32 := fun | 0 => Memref.whole cc47_stg2_0 | ⟨_ + 1, h⟩ => absurd h (Nat.not_lt.2 (Nat.le_add_left _ _))
abbrev sem47_2 : Fin 1 → DmaSem sig := fun | 0 => cc47_sem2_0 | ⟨_ + 1, h⟩ => absurd h (Nat.not_lt.2 (Nat.le_add_left _ _))
-- ==== ReferenceIdeal.lean ====
abbrev S128x16 : Shape := ⟨2, ![128, 16]⟩
abbrev S32000x1024 : Shape := ⟨2, ![32000, 1024]⟩
abbrev S1024x1024 : Shape := ⟨2, ![1024, 1024]⟩
abbrev S1024x32000 : Shape := ⟨2, ![1024, 32000]⟩
abbrev S16x128x1 : Shape := ⟨3, ![16, 128, 1]⟩
abbrev S_ : Shape := ⟨0, ![]⟩
abbrev S128x1 : Shape := ⟨2, ![128, 1]⟩
abbrev S128 : Shape := ⟨1, ![128]⟩
abbrev S128x16x1 : Shape := ⟨3, ![128, 16, 1]⟩
abbrev S1 : Shape := ⟨1, ![1]⟩
abbrev S1x1x1 : Shape := ⟨3, ![1, 1, 1]⟩
abbrev S128x16x1024 : Shape := ⟨3, ![128, 16, 1024]⟩
abbrev S128x1024 : Shape := ⟨2, ![128, 1024]⟩
abbrev S1x1 : Shape := ⟨2, ![1, 1]⟩
abbrev S128x32000 : Shape := ⟨2, ![128, 32000]⟩
abbrev S1x128x1 : Shape := ⟨3, ![1, 128, 1]⟩
abbrev S128x1x1 : Shape := ⟨3, ![128, 1, 1]⟩
abbrev S128x2 : Shape := ⟨2, ![128, 2]⟩
abbrev S128x3 : Shape := ⟨2, ![128, 3]⟩
abbrev S128x4 : Shape := ⟨2, ![128, 4]⟩
abbrev S128x5 : Shape := ⟨2, ![128, 5]⟩
abbrev S128x6 : Shape := ⟨2, ![128, 6]⟩
abbrev S128x7 : Shape := ⟨2, ![128, 7]⟩
abbrev S128x8 : Shape := ⟨2, ![128, 8]⟩
abbrev S128x9 : Shape := ⟨2, ![128, 9]⟩
abbrev S128x10 : Shape := ⟨2, ![128, 10]⟩
abbrev S128x11 : Shape := ⟨2, ![128, 11]⟩
abbrev S128x12 : Shape := ⟨2, ![128, 12]⟩
abbrev S128x13 : Shape := ⟨2, ![128, 13]⟩
abbrev S128x14 : Shape := ⟨2, ![128, 14]⟩
abbrev S128x15 : Shape := ⟨2, ![128, 15]⟩
abbrev S128x17 : Shape := ⟨2, ![128, 17]⟩

abbrev nBuf : Space → Nat
  | .hbm => 2184
  | .vmem => 0
  | .smem => 0
  | _ => 0

abbrev hbmTy0_0 (i : Nat) : BufTy := match i % 128 with
  | 0 => ⟨S128x16, .i32⟩
  | 1 => ⟨S32000x1024, .f32⟩
  | 2 => ⟨S1024x1024, .f32⟩
  | 3 => ⟨S1024x32000, .f32⟩
  | 4 => ⟨S16x128x1, .f32⟩
  | 5 => ⟨S_, .i32⟩
  | 6 => ⟨S128x1, .i32⟩
  | 7 => ⟨S_, .f32⟩
  | 8 => ⟨S128, .f32⟩
  | 9 => ⟨S128, .i32⟩
  | 10 => ⟨S_, .i32⟩
  | 11 => ⟨S128x16, .i32⟩
  | 12 => ⟨S128x16, .i1⟩
  | 13 => ⟨S_, .i32⟩
  | 14 => ⟨S128x16, .i32⟩
  | 15 => ⟨S128x16, .i32⟩
  | 16 => ⟨S128x16, .i32⟩
  | 17 => ⟨S128x16x1, .i32⟩
  | 18 => ⟨S1, .i32⟩
  | 19 => ⟨S_, .i32⟩
  | 20 => ⟨S128x16x1, .i32⟩
  | 21 => ⟨S128x16x1, .i1⟩
  | 22 => ⟨S1x1x1, .i32⟩
  | 23 => ⟨S128x16x1, .i32⟩
  | 24 => ⟨S128x16x1, .i1⟩
  | 25 => ⟨S128x16x1, .i1⟩
  | 26 => ⟨S_, .i1⟩
  | 27 => ⟨S128x16, .i1⟩
  | 28 => ⟨S128x16x1024, .f32⟩
  | 29 => ⟨S128x16x1024, .i1⟩
  | 30 => ⟨S_, .f32⟩
  | 31 => ⟨S128x16x1024, .f32⟩
  | 32 => ⟨S128x16x1024, .f32⟩
  | 33 => ⟨S_, .f32⟩
  | 34 => ⟨S128x1024, .f32⟩
  | 35 => ⟨S_, .f32⟩
  | 36 => ⟨S128x1024, .f32⟩
  | 37 => ⟨S128x1024, .f32⟩
  | 38 => ⟨S_, .i32⟩
  | 39 => ⟨S128, .i32⟩
  | 40 => ⟨S128, .i1⟩
  | 41 => ⟨S_, .i32⟩
  | 42 => ⟨S128, .i32⟩
  | 43 => ⟨S128, .i32⟩
  | 44 => ⟨S128, .i32⟩
  | 45 => ⟨S128x1, .i32⟩
  | 46 => ⟨S1, .i32⟩
  | 47 => ⟨S_, .i32⟩
  | 48 => ⟨S128x1, .i32⟩
  | 49 => ⟨S128x1, .i1⟩
  | 50 => ⟨S1x1, .i32⟩
  | 51 => ⟨S128x1, .i32⟩
  | 52 => ⟨S128x1, .i1⟩
  | 53 => ⟨S128x1, .i1⟩
  | 54 => ⟨S_, .i1⟩
  | 55 => ⟨S128, .i1⟩
  | 56 => ⟨S128x1024, .f32⟩
  | 57 => ⟨S128x1024, .i1⟩
  | 58 => ⟨S_, .f32⟩
  | 59 => ⟨S128x1024, .f32⟩
  | 60 => ⟨S128x1024, .f32⟩
  | 61 => ⟨S128x1024, .f32⟩
  | 62 => ⟨S128x1024, .f32⟩
  | 63 => ⟨S128x1024, .f32⟩
  | 64 => ⟨S128x32000, .f32⟩
  | 65 => ⟨S_, .f32⟩
  | 66 => ⟨S128x32000, .f32⟩
  | 67 => ⟨S128x32000, .f32⟩
  | 68 => ⟨S_, .f32⟩
  | 69 => ⟨S128, .f32⟩
  | 70 => ⟨S_, .f32⟩
  | 71 => ⟨S128, .f32⟩
  | 72 => ⟨S128, .f32⟩
  | 73 => ⟨S128x1, .f32⟩
  | 74 => ⟨S128x32000, .f32⟩
  | 75 => ⟨S128x32000, .f32⟩
  | 76 => ⟨S128x32000, .f32⟩
  | 77 => ⟨S_, .f32⟩
  | 78 => ⟨S128, .f32⟩
  | 79 => ⟨S128x1, .f32⟩
  | 80 => ⟨S128x32000, .f32⟩
  | 81 => ⟨S128x32000, .f32⟩
  | 82 => ⟨S1x128x1, .f32⟩
  | 83 => ⟨S128x1, .f32⟩
  | 84 => ⟨S_, .f32⟩
  | 85 => ⟨S_, .f32⟩
  | 86 => ⟨S128x32000, .f32⟩
  | 87 => ⟨S128x32000, .f32⟩
  | 88 => ⟨S128x32000, .i1⟩
  | 89 => ⟨S128x32000, .i32⟩
  | 90 => ⟨S_, .i32⟩
  | 91 => ⟨S128, .i32⟩
  | 92 => ⟨S128x1, .i32⟩
  | 93 => ⟨S_, .i32⟩
  | 94 => ⟨S_, .i32⟩
  | 95 => ⟨S_, .i32⟩
  | 96 => ⟨S128x1, .i32⟩
  | 97 => ⟨S128x1, .i32⟩
  | 98 => ⟨S_, .i32⟩
  | 99 => ⟨S128x1, .i32⟩
  | 100 => ⟨S128x1, .i32⟩
  | 101 => ⟨S_, .f32⟩
  | 102 => ⟨S128x32000, .f32⟩
  | 103 => ⟨S128x32000, .f32⟩
  | 104 => ⟨S_, .f32⟩
  | 105 => ⟨S128, .f32⟩
  | 106 => ⟨S_, .f32⟩
  | 107 => ⟨S128, .f32⟩
  | 108 => ⟨S128, .f32⟩
  | 109 => ⟨S128x1, .f32⟩
  | 110 => ⟨S128x32000, .f32⟩
  | 111 => ⟨S128x32000, .f32⟩
  | 112 => ⟨S128x32000, .f32⟩
  | 113 => ⟨S_, .f32⟩
  | 114 => ⟨S128, .f32⟩
  | 115 => ⟨S128x1, .f32⟩
  | 116 => ⟨S128x1, .f32⟩
  | 117 => ⟨S128x32000, .f32⟩
  | 118 => ⟨S128x32000, .f32⟩
  | 119 => ⟨S_, .i32⟩
  | 120 => ⟨S128x1, .i32⟩
  | 121 => ⟨S128x1, .i1⟩
  | 122 => ⟨S_, .i32⟩
  | 123 => ⟨S128x1, .i32⟩
  | 124 => ⟨S128x1, .i32⟩
  | 125 => ⟨S128x1, .i32⟩
  | 126 => ⟨S128x1x1, .i32⟩
  | 127 => ⟨S1, .i32⟩
  | _ => ⟨S128x16, .i32⟩

abbrev hbmTy0_1 (i : Nat) : BufTy := match i % 128 with
  | 0 => ⟨S_, .i32⟩
  | 1 => ⟨S128x1x1, .i32⟩
  | 2 => ⟨S128x1x1, .i1⟩
  | 3 => ⟨S1x1x1, .i32⟩
  | 4 => ⟨S128x1x1, .i32⟩
  | 5 => ⟨S128x1x1, .i1⟩
  | 6 => ⟨S128x1x1, .i1⟩
  | 7 => ⟨S_, .i1⟩
  | 8 => ⟨S128x1, .i1⟩
  | 9 => ⟨S128x1, .f32⟩
  | 10 => ⟨S_, .f32⟩
  | 11 => ⟨S128x1, .f32⟩
  | 12 => ⟨S128x1, .f32⟩
  | 13 => ⟨S128, .f32⟩
  | 14 => ⟨S128, .f32⟩
  | 15 => ⟨S128x2, .i32⟩
  | 16 => ⟨S128x1, .i32⟩
  | 17 => ⟨S128, .i32⟩
  | 18 => ⟨S_, .i32⟩
  | 19 => ⟨S128x16, .i32⟩
  | 20 => ⟨S128x16, .i1⟩
  | 21 => ⟨S_, .i32⟩
  | 22 => ⟨S128x16, .i32⟩
  | 23 => ⟨S128x16, .i32⟩
  | 24 => ⟨S128x16, .i32⟩
  | 25 => ⟨S128x16x1, .i32⟩
  | 26 => ⟨S1, .i32⟩
  | 27 => ⟨S_, .i32⟩
  | 28 => ⟨S128x16x1, .i32⟩
  | 29 => ⟨S128x16x1, .i1⟩
  | 30 => ⟨S1x1x1, .i32⟩
  | 31 => ⟨S128x16x1, .i32⟩
  | 32 => ⟨S128x16x1, .i1⟩
  | 33 => ⟨S128x16x1, .i1⟩
  | 34 => ⟨S_, .i1⟩
  | 35 => ⟨S128x16, .i1⟩
  | 36 => ⟨S128x16x1024, .f32⟩
  | 37 => ⟨S128x16x1024, .i1⟩
  | 38 => ⟨S_, .f32⟩
  | 39 => ⟨S128x16x1024, .f32⟩
  | 40 => ⟨S128x16x1024, .f32⟩
  | 41 => ⟨S_, .f32⟩
  | 42 => ⟨S128x1024, .f32⟩
  | 43 => ⟨S_, .f32⟩
  | 44 => ⟨S128x1024, .f32⟩
  | 45 => ⟨S128x1024, .f32⟩
  | 46 => ⟨S_, .i32⟩
  | 47 => ⟨S128, .i32⟩
  | 48 => ⟨S128, .i1⟩
  | 49 => ⟨S_, .i32⟩
  | 50 => ⟨S128, .i32⟩
  | 51 => ⟨S128, .i32⟩
  | 52 => ⟨S128, .i32⟩
  | 53 => ⟨S128x1, .i32⟩
  | 54 => ⟨S1, .i32⟩
  | 55 => ⟨S_, .i32⟩
  | 56 => ⟨S128x1, .i32⟩
  | 57 => ⟨S128x1, .i1⟩
  | 58 => ⟨S1x1, .i32⟩
  | 59 => ⟨S128x1, .i32⟩
  | 60 => ⟨S128x1, .i1⟩
  | 61 => ⟨S128x1, .i1⟩
  | 62 => ⟨S_, .i1⟩
  | 63 => ⟨S128, .i1⟩
  | 64 => ⟨S128x1024, .f32⟩
  | 65 => ⟨S128x1024, .i1⟩
  | 66 => ⟨S_, .f32⟩
  | 67 => ⟨S128x1024, .f32⟩
  | 68 => ⟨S128x1024, .f32⟩
  | 69 => ⟨S128x1024, .f32⟩
  | 70 => ⟨S128x1024, .f32⟩
  | 71 => ⟨S128x1024, .f32⟩
  | 72 => ⟨S128x32000, .f32⟩
  | 73 => ⟨S_, .f32⟩
  | 74 => ⟨S128x32000, .f32⟩
  | 75 => ⟨S128x32000, .f32⟩
  | 76 => ⟨S_, .f32⟩
  | 77 => ⟨S128, .f32⟩
  | 78 => ⟨S_, .f32⟩
  | 79 => ⟨S128, .f32⟩
  | 80 => ⟨S128, .f32⟩
  | 81 => ⟨S128x1, .f32⟩
  | 82 => ⟨S128x32000, .f32⟩
  | 83 => ⟨S128x32000, .f32⟩
  | 84 => ⟨S128x32000, .f32⟩
  | 85 => ⟨S_, .f32⟩
  | 86 => ⟨S128, .f32⟩
  | 87 => ⟨S128x1, .f32⟩
  | 88 => ⟨S128x32000, .f32⟩
  | 89 => ⟨S128x32000, .f32⟩
  | 90 => ⟨S1x128x1, .f32⟩
  | 91 => ⟨S128x1, .f32⟩
  | 92 => ⟨S_, .f32⟩
  | 93 => ⟨S_, .f32⟩
  | 94 => ⟨S128x32000, .f32⟩
  | 95 => ⟨S128x32000, .f32⟩
  | 96 => ⟨S128x32000, .i1⟩
  | 97 => ⟨S128x32000, .i32⟩
  | 98 => ⟨S_, .i32⟩
  | 99 => ⟨S128, .i32⟩
  | 100 => ⟨S128x1, .i32⟩
  | 101 => ⟨S_, .i32⟩
  | 102 => ⟨S_, .i32⟩
  | 103 => ⟨S_, .i32⟩
  | 104 => ⟨S128x1, .i32⟩
  | 105 => ⟨S128x1, .i32⟩
  | 106 => ⟨S_, .i32⟩
  | 107 => ⟨S128x1, .i32⟩
  | 108 => ⟨S128x1, .i32⟩
  | 109 => ⟨S_, .f32⟩
  | 110 => ⟨S128x32000, .f32⟩
  | 111 => ⟨S128x32000, .f32⟩
  | 112 => ⟨S_, .f32⟩
  | 113 => ⟨S128, .f32⟩
  | 114 => ⟨S_, .f32⟩
  | 115 => ⟨S128, .f32⟩
  | 116 => ⟨S128, .f32⟩
  | 117 => ⟨S128x1, .f32⟩
  | 118 => ⟨S128x32000, .f32⟩
  | 119 => ⟨S128x32000, .f32⟩
  | 120 => ⟨S128x32000, .f32⟩
  | 121 => ⟨S_, .f32⟩
  | 122 => ⟨S128, .f32⟩
  | 123 => ⟨S128x1, .f32⟩
  | 124 => ⟨S128x1, .f32⟩
  | 125 => ⟨S128x32000, .f32⟩
  | 126 => ⟨S128x32000, .f32⟩
  | 127 => ⟨S_, .i32⟩
  | _ => ⟨S128x16, .i32⟩

abbrev hbmTy0_2 (i : Nat) : BufTy := match i % 128 with
  | 0 => ⟨S128x1, .i32⟩
  | 1 => ⟨S128x1, .i1⟩
  | 2 => ⟨S_, .i32⟩
  | 3 => ⟨S128x1, .i32⟩
  | 4 => ⟨S128x1, .i32⟩
  | 5 => ⟨S128x1, .i32⟩
  | 6 => ⟨S128x1x1, .i32⟩
  | 7 => ⟨S1, .i32⟩
  | 8 => ⟨S_, .i32⟩
  | 9 => ⟨S128x1x1, .i32⟩
  | 10 => ⟨S128x1x1, .i1⟩
  | 11 => ⟨S1x1x1, .i32⟩
  | 12 => ⟨S128x1x1, .i32⟩
  | 13 => ⟨S128x1x1, .i1⟩
  | 14 => ⟨S128x1x1, .i1⟩
  | 15 => ⟨S_, .i1⟩
  | 16 => ⟨S128x1, .i1⟩
  | 17 => ⟨S128x1, .f32⟩
  | 18 => ⟨S_, .f32⟩
  | 19 => ⟨S128x1, .f32⟩
  | 20 => ⟨S128x1, .f32⟩
  | 21 => ⟨S128, .f32⟩
  | 22 => ⟨S128, .f32⟩
  | 23 => ⟨S128x3, .i32⟩
  | 24 => ⟨S128x1, .i32⟩
  | 25 => ⟨S128, .i32⟩
  | 26 => ⟨S_, .i32⟩
  | 27 => ⟨S128x16, .i32⟩
  | 28 => ⟨S128x16, .i1⟩
  | 29 => ⟨S_, .i32⟩
  | 30 => ⟨S128x16, .i32⟩
  | 31 => ⟨S128x16, .i32⟩
  | 32 => ⟨S128x16, .i32⟩
  | 33 => ⟨S128x16x1, .i32⟩
  | 34 => ⟨S1, .i32⟩
  | 35 => ⟨S_, .i32⟩
  | 36 => ⟨S128x16x1, .i32⟩
  | 37 => ⟨S128x16x1, .i1⟩
  | 38 => ⟨S1x1x1, .i32⟩
  | 39 => ⟨S128x16x1, .i32⟩
  | 40 => ⟨S128x16x1, .i1⟩
  | 41 => ⟨S128x16x1, .i1⟩
  | 42 => ⟨S_, .i1⟩
  | 43 => ⟨S128x16, .i1⟩
  | 44 => ⟨S128x16x1024, .f32⟩
  | 45 => ⟨S128x16x1024, .i1⟩
  | 46 => ⟨S_, .f32⟩
  | 47 => ⟨S128x16x1024, .f32⟩
  | 48 => ⟨S128x16x1024, .f32⟩
  | 49 => ⟨S_, .f32⟩
  | 50 => ⟨S128x1024, .f32⟩
  | 51 => ⟨S_, .f32⟩
  | 52 => ⟨S128x1024, .f32⟩
  | 53 => ⟨S128x1024, .f32⟩
  | 54 => ⟨S_, .i32⟩
  | 55 => ⟨S128, .i32⟩
  | 56 => ⟨S128, .i1⟩
  | 57 => ⟨S_, .i32⟩
  | 58 => ⟨S128, .i32⟩
  | 59 => ⟨S128, .i32⟩
  | 60 => ⟨S128, .i32⟩
  | 61 => ⟨S128x1, .i32⟩
  | 62 => ⟨S1, .i32⟩
  | 63 => ⟨S_, .i32⟩
  | 64 => ⟨S128x1, .i32⟩
  | 65 => ⟨S128x1, .i1⟩
  | 66 => ⟨S1x1, .i32⟩
  | 67 => ⟨S128x1, .i32⟩
  | 68 => ⟨S128x1, .i1⟩
  | 69 => ⟨S128x1, .i1⟩
  | 70 => ⟨S_, .i1⟩
  | 71 => ⟨S128, .i1⟩
  | 72 => ⟨S128x1024, .f32⟩
  | 73 => ⟨S128x1024, .i1⟩
  | 74 => ⟨S_, .f32⟩
  | 75 => ⟨S128x1024, .f32⟩
  | 76 => ⟨S128x1024, .f32⟩
  | 77 => ⟨S128x1024, .f32⟩
  | 78 => ⟨S128x1024, .f32⟩
  | 79 => ⟨S128x1024, .f32⟩
  | 80 => ⟨S128x32000, .f32⟩
  | 81 => ⟨S_, .f32⟩
  | 82 => ⟨S128x32000, .f32⟩
  | 83 => ⟨S128x32000, .f32⟩
  | 84 => ⟨S_, .f32⟩
  | 85 => ⟨S128, .f32⟩
  | 86 => ⟨S_, .f32⟩
  | 87 => ⟨S128, .f32⟩
  | 88 => ⟨S128, .f32⟩
  | 89 => ⟨S128x1, .f32⟩
  | 90 => ⟨S128x32000, .f32⟩
  | 91 => ⟨S128x32000, .f32⟩
  | 92 => ⟨S128x32000, .f32⟩
  | 93 => ⟨S_, .f32⟩
  | 94 => ⟨S128, .f32⟩
  | 95 => ⟨S128x1, .f32⟩
  | 96 => ⟨S128x32000, .f32⟩
  | 97 => ⟨S128x32000, .f32⟩
  | 98 => ⟨S1x128x1, .f32⟩
  | 99 => ⟨S128x1, .f32⟩
  | 100 => ⟨S_, .f32⟩
  | 101 => ⟨S_, .f32⟩
  | 102 => ⟨S128x32000, .f32⟩
  | 103 => ⟨S128x32000, .f32⟩
  | 104 => ⟨S128x32000, .i1⟩
  | 105 => ⟨S128x32000, .i32⟩
  | 106 => ⟨S_, .i32⟩
  | 107 => ⟨S128, .i32⟩
  | 108 => ⟨S128x1, .i32⟩
  | 109 => ⟨S_, .i32⟩
  | 110 => ⟨S_, .i32⟩
  | 111 => ⟨S_, .i32⟩
  | 112 => ⟨S128x1, .i32⟩
  | 113 => ⟨S128x1, .i32⟩
  | 114 => ⟨S_, .i32⟩
  | 115 => ⟨S128x1, .i32⟩
  | 116 => ⟨S128x1, .i32⟩
  | 117 => ⟨S_, .f32⟩
  | 118 => ⟨S128x32000, .f32⟩
  | 119 => ⟨S128x32000, .f32⟩
  | 120 => ⟨S_, .f32⟩
  | 121 => ⟨S128, .f32⟩
  | 122 => ⟨S_, .f32⟩
  | 123 => ⟨S128, .f32⟩
  | 124 => ⟨S128, .f32⟩
  | 125 => ⟨S128x1, .f32⟩
  | 126 => ⟨S128x32000, .f32⟩
  | 127 => ⟨S128x32000, .f32⟩
  | _ => ⟨S128x16, .i32⟩

abbrev hbmTy0_3 (i : Nat) : BufTy := match i % 128 with
  | 0 => ⟨S128x32000, .f32⟩
  | 1 => ⟨S_, .f32⟩
  | 2 => ⟨S128, .f32⟩
  | 3 => ⟨S128x1, .f32⟩
  | 4 => ⟨S128x1, .f32⟩
  | 5 => ⟨S128x32000, .f32⟩
  | 6 => ⟨S128x32000, .f32⟩
  | 7 => ⟨S_, .i32⟩
  | 8 => ⟨S128x1, .i32⟩
  | 9 => ⟨S128x1, .i1⟩
  | 10 => ⟨S_, .i32⟩
  | 11 => ⟨S128x1, .i32⟩
  | 12 => ⟨S128x1, .i32⟩
  | 13 => ⟨S128x1, .i32⟩
  | 14 => ⟨S128x1x1, .i32⟩
  | 15 => ⟨S1, .i32⟩
  | 16 => ⟨S_, .i32⟩
  | 17 => ⟨S128x1x1, .i32⟩
  | 18 => ⟨S128x1x1, .i1⟩
  | 19 => ⟨S1x1x1, .i32⟩
  | 20 => ⟨S128x1x1, .i32⟩
  | 21 => ⟨S128x1x1, .i1⟩
  | 22 => ⟨S128x1x1, .i1⟩
  | 23 => ⟨S_, .i1⟩
  | 24 => ⟨S128x1, .i1⟩
  | 25 => ⟨S128x1, .f32⟩
  | 26 => ⟨S_, .f32⟩
  | 27 => ⟨S128x1, .f32⟩
  | 28 => ⟨S128x1, .f32⟩
  | 29 => ⟨S128, .f32⟩
  | 30 => ⟨S128, .f32⟩
  | 31 => ⟨S128x4, .i32⟩
  | 32 => ⟨S128x1, .i32⟩
  | 33 => ⟨S128, .i32⟩
  | 34 => ⟨S_, .i32⟩
  | 35 => ⟨S128x16, .i32⟩
  | 36 => ⟨S128x16, .i1⟩
  | 37 => ⟨S_, .i32⟩
  | 38 => ⟨S128x16, .i32⟩
  | 39 => ⟨S128x16, .i32⟩
  | 40 => ⟨S128x16, .i32⟩
  | 41 => ⟨S128x16x1, .i32⟩
  | 42 => ⟨S1, .i32⟩
  | 43 => ⟨S_, .i32⟩
  | 44 => ⟨S128x16x1, .i32⟩
  | 45 => ⟨S128x16x1, .i1⟩
  | 46 => ⟨S1x1x1, .i32⟩
  | 47 => ⟨S128x16x1, .i32⟩
  | 48 => ⟨S128x16x1, .i1⟩
  | 49 => ⟨S128x16x1, .i1⟩
  | 50 => ⟨S_, .i1⟩
  | 51 => ⟨S128x16, .i1⟩
  | 52 => ⟨S128x16x1024, .f32⟩
  | 53 => ⟨S128x16x1024, .i1⟩
  | 54 => ⟨S_, .f32⟩
  | 55 => ⟨S128x16x1024, .f32⟩
  | 56 => ⟨S128x16x1024, .f32⟩
  | 57 => ⟨S_, .f32⟩
  | 58 => ⟨S128x1024, .f32⟩
  | 59 => ⟨S_, .f32⟩
  | 60 => ⟨S128x1024, .f32⟩
  | 61 => ⟨S128x1024, .f32⟩
  | 62 => ⟨S_, .i32⟩
  | 63 => ⟨S128, .i32⟩
  | 64 => ⟨S128, .i1⟩
  | 65 => ⟨S_, .i32⟩
  | 66 => ⟨S128, .i32⟩
  | 67 => ⟨S128, .i32⟩
  | 68 => ⟨S128, .i32⟩
  | 69 => ⟨S128x1, .i32⟩
  | 70 => ⟨S1, .i32⟩
  | 71 => ⟨S_, .i32⟩
  | 72 => ⟨S128x1, .i32⟩
  | 73 => ⟨S128x1, .i1⟩
  | 74 => ⟨S1x1, .i32⟩
  | 75 => ⟨S128x1, .i32⟩
  | 76 => ⟨S128x1, .i1⟩
  | 77 => ⟨S128x1, .i1⟩
  | 78 => ⟨S_, .i1⟩
  | 79 => ⟨S128, .i1⟩
  | 80 => ⟨S128x1024, .f32⟩
  | 81 => ⟨S128x1024, .i1⟩
  | 82 => ⟨S_, .f32⟩
  | 83 => ⟨S128x1024, .f32⟩
  | 84 => ⟨S128x1024, .f32⟩
  | 85 => ⟨S128x1024, .f32⟩
  | 86 => ⟨S128x1024, .f32⟩
  | 87 => ⟨S128x1024, .f32⟩
  | 88 => ⟨S128x32000, .f32⟩
  | 89 => ⟨S_, .f32⟩
  | 90 => ⟨S128x32000, .f32⟩
  | 91 => ⟨S128x32000, .f32⟩
  | 92 => ⟨S_, .f32⟩
  | 93 => ⟨S128, .f32⟩
  | 94 => ⟨S_, .f32⟩
  | 95 => ⟨S128, .f32⟩
  | 96 => ⟨S128, .f32⟩
  | 97 => ⟨S128x1, .f32⟩
  | 98 => ⟨S128x32000, .f32⟩
  | 99 => ⟨S128x32000, .f32⟩
  | 100 => ⟨S128x32000, .f32⟩
  | 101 => ⟨S_, .f32⟩
  | 102 => ⟨S128, .f32⟩
  | 103 => ⟨S128x1, .f32⟩
  | 104 => ⟨S128x32000, .f32⟩
  | 105 => ⟨S128x32000, .f32⟩
  | 106 => ⟨S1x128x1, .f32⟩
  | 107 => ⟨S128x1, .f32⟩
  | 108 => ⟨S_, .f32⟩
  | 109 => ⟨S_, .f32⟩
  | 110 => ⟨S128x32000, .f32⟩
  | 111 => ⟨S128x32000, .f32⟩
  | 112 => ⟨S128x32000, .i1⟩
  | 113 => ⟨S128x32000, .i32⟩
  | 114 => ⟨S_, .i32⟩
  | 115 => ⟨S128, .i32⟩
  | 116 => ⟨S128x1, .i32⟩
  | 117 => ⟨S_, .i32⟩
  | 118 => ⟨S_, .i32⟩
  | 119 => ⟨S_, .i32⟩
  | 120 => ⟨S128x1, .i32⟩
  | 121 => ⟨S128x1, .i32⟩
  | 122 => ⟨S_, .i32⟩
  | 123 => ⟨S128x1, .i32⟩
  | 124 => ⟨S128x1, .i32⟩
  | 125 => ⟨S_, .f32⟩
  | 126 => ⟨S128x32000, .f32⟩
  | 127 => ⟨S128x32000, .f32⟩
  | _ => ⟨S128x16, .i32⟩

abbrev hbmTy0_4 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S128x1, .f32⟩
  | 6 => ⟨S128x32000, .f32⟩
  | 7 => ⟨S128x32000, .f32⟩
  | 8 => ⟨S128x32000, .f32⟩
  | 9 => ⟨S_, .f32⟩
  | 10 => ⟨S128, .f32⟩
  | 11 => ⟨S128x1, .f32⟩
  | 12 => ⟨S128x1, .f32⟩
  | 13 => ⟨S128x32000, .f32⟩
  | 14 => ⟨S128x32000, .f32⟩
  | 15 => ⟨S_, .i32⟩
  | 16 => ⟨S128x1, .i32⟩
  | 17 => ⟨S128x1, .i1⟩
  | 18 => ⟨S_, .i32⟩
  | 19 => ⟨S128x1, .i32⟩
  | 20 => ⟨S128x1, .i32⟩
  | 21 => ⟨S128x1, .i32⟩
  | 22 => ⟨S128x1x1, .i32⟩
  | 23 => ⟨S1, .i32⟩
  | 24 => ⟨S_, .i32⟩
  | 25 => ⟨S128x1x1, .i32⟩
  | 26 => ⟨S128x1x1, .i1⟩
  | 27 => ⟨S1x1x1, .i32⟩
  | 28 => ⟨S128x1x1, .i32⟩
  | 29 => ⟨S128x1x1, .i1⟩
  | 30 => ⟨S128x1x1, .i1⟩
  | 31 => ⟨S_, .i1⟩
  | 32 => ⟨S128x1, .i1⟩
  | 33 => ⟨S128x1, .f32⟩
  | 34 => ⟨S_, .f32⟩
  | 35 => ⟨S128x1, .f32⟩
  | 36 => ⟨S128x1, .f32⟩
  | 37 => ⟨S128, .f32⟩
  | 38 => ⟨S128, .f32⟩
  | 39 => ⟨S128x5, .i32⟩
  | 40 => ⟨S128x1, .i32⟩
  | 41 => ⟨S128, .i32⟩
  | 42 => ⟨S_, .i32⟩
  | 43 => ⟨S128x16, .i32⟩
  | 44 => ⟨S128x16, .i1⟩
  | 45 => ⟨S_, .i32⟩
  | 46 => ⟨S128x16, .i32⟩
  | 47 => ⟨S128x16, .i32⟩
  | 48 => ⟨S128x16, .i32⟩
  | 49 => ⟨S128x16x1, .i32⟩
  | 50 => ⟨S1, .i32⟩
  | 51 => ⟨S_, .i32⟩
  | 52 => ⟨S128x16x1, .i32⟩
  | 53 => ⟨S128x16x1, .i1⟩
  | 54 => ⟨S1x1x1, .i32⟩
  | 55 => ⟨S128x16x1, .i32⟩
  | 56 => ⟨S128x16x1, .i1⟩
  | 57 => ⟨S128x16x1, .i1⟩
  | 58 => ⟨S_, .i1⟩
  | 59 => ⟨S128x16, .i1⟩
  | 60 => ⟨S128x16x1024, .f32⟩
  | 61 => ⟨S128x16x1024, .i1⟩
  | 62 => ⟨S_, .f32⟩
  | 63 => ⟨S128x16x1024, .f32⟩
  | 64 => ⟨S128x16x1024, .f32⟩
  | 65 => ⟨S_, .f32⟩
  | 66 => ⟨S128x1024, .f32⟩
  | 67 => ⟨S_, .f32⟩
  | 68 => ⟨S128x1024, .f32⟩
  | 69 => ⟨S128x1024, .f32⟩
  | 70 => ⟨S_, .i32⟩
  | 71 => ⟨S128, .i32⟩
  | 72 => ⟨S128, .i1⟩
  | 73 => ⟨S_, .i32⟩
  | 74 => ⟨S128, .i32⟩
  | 75 => ⟨S128, .i32⟩
  | 76 => ⟨S128, .i32⟩
  | 77 => ⟨S128x1, .i32⟩
  | 78 => ⟨S1, .i32⟩
  | 79 => ⟨S_, .i32⟩
  | 80 => ⟨S128x1, .i32⟩
  | 81 => ⟨S128x1, .i1⟩
  | 82 => ⟨S1x1, .i32⟩
  | 83 => ⟨S128x1, .i32⟩
  | 84 => ⟨S128x1, .i1⟩
  | 85 => ⟨S128x1, .i1⟩
  | 86 => ⟨S_, .i1⟩
  | 87 => ⟨S128, .i1⟩
  | 88 => ⟨S128x1024, .f32⟩
  | 89 => ⟨S128x1024, .i1⟩
  | 90 => ⟨S_, .f32⟩
  | 91 => ⟨S128x1024, .f32⟩
  | 92 => ⟨S128x1024, .f32⟩
  | 93 => ⟨S128x1024, .f32⟩
  | 94 => ⟨S128x1024, .f32⟩
  | 95 => ⟨S128x1024, .f32⟩
  | 96 => ⟨S128x32000, .f32⟩
  | 97 => ⟨S_, .f32⟩
  | 98 => ⟨S128x32000, .f32⟩
  | 99 => ⟨S128x32000, .f32⟩
  | 100 => ⟨S_, .f32⟩
  | 101 => ⟨S128, .f32⟩
  | 102 => ⟨S_, .f32⟩
  | 103 => ⟨S128, .f32⟩
  | 104 => ⟨S128, .f32⟩
  | 105 => ⟨S128x1, .f32⟩
  | 106 => ⟨S128x32000, .f32⟩
  | 107 => ⟨S128x32000, .f32⟩
  | 108 => ⟨S128x32000, .f32⟩
  | 109 => ⟨S_, .f32⟩
  | 110 => ⟨S128, .f32⟩
  | 111 => ⟨S128x1, .f32⟩
  | 112 => ⟨S128x32000, .f32⟩
  | 113 => ⟨S128x32000, .f32⟩
  | 114 => ⟨S1x128x1, .f32⟩
  | 115 => ⟨S128x1, .f32⟩
  | 116 => ⟨S_, .f32⟩
  | 117 => ⟨S_, .f32⟩
  | 118 => ⟨S128x32000, .f32⟩
  | 119 => ⟨S128x32000, .f32⟩
  | 120 => ⟨S128x32000, .i1⟩
  | 121 => ⟨S128x32000, .i32⟩
  | 122 => ⟨S_, .i32⟩
  | 123 => ⟨S128, .i32⟩
  | 124 => ⟨S128x1, .i32⟩
  | 125 => ⟨S_, .i32⟩
  | 126 => ⟨S_, .i32⟩
  | 127 => ⟨S_, .i32⟩
  | _ => ⟨S128x16, .i32⟩

abbrev hbmTy0_5 (i : Nat) : BufTy := match i % 128 with
  | 0 => ⟨S128x1, .i32⟩
  | 1 => ⟨S128x1, .i32⟩
  | 2 => ⟨S_, .i32⟩
  | 3 => ⟨S128x1, .i32⟩
  | 4 => ⟨S128x1, .i32⟩
  | 5 => ⟨S_, .f32⟩
  | 6 => ⟨S128x32000, .f32⟩
  | 7 => ⟨S128x32000, .f32⟩
  | 8 => ⟨S_, .f32⟩
  | 9 => ⟨S128, .f32⟩
  | 10 => ⟨S_, .f32⟩
  | 11 => ⟨S128, .f32⟩
  | 12 => ⟨S128, .f32⟩
  | 13 => ⟨S128x1, .f32⟩
  | 14 => ⟨S128x32000, .f32⟩
  | 15 => ⟨S128x32000, .f32⟩
  | 16 => ⟨S128x32000, .f32⟩
  | 17 => ⟨S_, .f32⟩
  | 18 => ⟨S128, .f32⟩
  | 19 => ⟨S128x1, .f32⟩
  | 20 => ⟨S128x1, .f32⟩
  | 21 => ⟨S128x32000, .f32⟩
  | 22 => ⟨S128x32000, .f32⟩
  | 23 => ⟨S_, .i32⟩
  | 24 => ⟨S128x1, .i32⟩
  | 25 => ⟨S128x1, .i1⟩
  | 26 => ⟨S_, .i32⟩
  | 27 => ⟨S128x1, .i32⟩
  | 28 => ⟨S128x1, .i32⟩
  | 29 => ⟨S128x1, .i32⟩
  | 30 => ⟨S128x1x1, .i32⟩
  | 31 => ⟨S1, .i32⟩
  | 32 => ⟨S_, .i32⟩
  | 33 => ⟨S128x1x1, .i32⟩
  | 34 => ⟨S128x1x1, .i1⟩
  | 35 => ⟨S1x1x1, .i32⟩
  | 36 => ⟨S128x1x1, .i32⟩
  | 37 => ⟨S128x1x1, .i1⟩
  | 38 => ⟨S128x1x1, .i1⟩
  | 39 => ⟨S_, .i1⟩
  | 40 => ⟨S128x1, .i1⟩
  | 41 => ⟨S128x1, .f32⟩
  | 42 => ⟨S_, .f32⟩
  | 43 => ⟨S128x1, .f32⟩
  | 44 => ⟨S128x1, .f32⟩
  | 45 => ⟨S128, .f32⟩
  | 46 => ⟨S128, .f32⟩
  | 47 => ⟨S128x6, .i32⟩
  | 48 => ⟨S128x1, .i32⟩
  | 49 => ⟨S128, .i32⟩
  | 50 => ⟨S_, .i32⟩
  | 51 => ⟨S128x16, .i32⟩
  | 52 => ⟨S128x16, .i1⟩
  | 53 => ⟨S_, .i32⟩
  | 54 => ⟨S128x16, .i32⟩
  | 55 => ⟨S128x16, .i32⟩
  | 56 => ⟨S128x16, .i32⟩
  | 57 => ⟨S128x16x1, .i32⟩
  | 58 => ⟨S1, .i32⟩
  | 59 => ⟨S_, .i32⟩
  | 60 => ⟨S128x16x1, .i32⟩
  | 61 => ⟨S128x16x1, .i1⟩
  | 62 => ⟨S1x1x1, .i32⟩
  | 63 => ⟨S128x16x1, .i32⟩
  | 64 => ⟨S128x16x1, .i1⟩
  | 65 => ⟨S128x16x1, .i1⟩
  | 66 => ⟨S_, .i1⟩
  | 67 => ⟨S128x16, .i1⟩
  | 68 => ⟨S128x16x1024, .f32⟩
  | 69 => ⟨S128x16x1024, .i1⟩
  | 70 => ⟨S_, .f32⟩
  | 71 => ⟨S128x16x1024, .f32⟩
  | 72 => ⟨S128x16x1024, .f32⟩
  | 73 => ⟨S_, .f32⟩
  | 74 => ⟨S128x1024, .f32⟩
  | 75 => ⟨S_, .f32⟩
  | 76 => ⟨S128x1024, .f32⟩
  | 77 => ⟨S128x1024, .f32⟩
  | 78 => ⟨S_, .i32⟩
  | 79 => ⟨S128, .i32⟩
  | 80 => ⟨S128, .i1⟩
  | 81 => ⟨S_, .i32⟩
  | 82 => ⟨S128, .i32⟩
  | 83 => ⟨S128, .i32⟩
  | 84 => ⟨S128, .i32⟩
  | 85 => ⟨S128x1, .i32⟩
  | 86 => ⟨S1, .i32⟩
  | 87 => ⟨S_, .i32⟩
  | 88 => ⟨S128x1, .i32⟩
  | 89 => ⟨S128x1, .i1⟩
  | 90 => ⟨S1x1, .i32⟩
  | 91 => ⟨S128x1, .i32⟩
  | 92 => ⟨S128x1, .i1⟩
  | 93 => ⟨S128x1, .i1⟩
  | 94 => ⟨S_, .i1⟩
  | 95 => ⟨S128, .i1⟩
  | 96 => ⟨S128x1024, .f32⟩
  | 97 => ⟨S128x1024, .i1⟩
  | 98 => ⟨S_, .f32⟩
  | 99 => ⟨S128x1024, .f32⟩
  | 100 => ⟨S128x1024, .f32⟩
  | 101 => ⟨S128x1024, .f32⟩
  | 102 => ⟨S128x1024, .f32⟩
  | 103 => ⟨S128x1024, .f32⟩
  | 104 => ⟨S128x32000, .f32⟩
  | 105 => ⟨S_, .f32⟩
  | 106 => ⟨S128x32000, .f32⟩
  | 107 => ⟨S128x32000, .f32⟩
  | 108 => ⟨S_, .f32⟩
  | 109 => ⟨S128, .f32⟩
  | 110 => ⟨S_, .f32⟩
  | 111 => ⟨S128, .f32⟩
  | 112 => ⟨S128, .f32⟩
  | 113 => ⟨S128x1, .f32⟩
  | 114 => ⟨S128x32000, .f32⟩
  | 115 => ⟨S128x32000, .f32⟩
  | 116 => ⟨S128x32000, .f32⟩
  | 117 => ⟨S_, .f32⟩
  | 118 => ⟨S128, .f32⟩
  | 119 => ⟨S128x1, .f32⟩
  | 120 => ⟨S128x32000, .f32⟩
  | 121 => ⟨S128x32000, .f32⟩
  | 122 => ⟨S1x128x1, .f32⟩
  | 123 => ⟨S128x1, .f32⟩
  | 124 => ⟨S_, .f32⟩
  | 125 => ⟨S_, .f32⟩
  | 126 => ⟨S128x32000, .f32⟩
  | 127 => ⟨S128x32000, .f32⟩
  | _ => ⟨S128x16, .i32⟩

abbrev hbmTy0_6 (i : Nat) : BufTy := match i % 128 with
  | 0 => ⟨S128x32000, .i1⟩
  | 1 => ⟨S128x32000, .i32⟩
  | 2 => ⟨S_, .i32⟩
  | 3 => ⟨S128, .i32⟩
  | 4 => ⟨S128x1, .i32⟩
  | 5 => ⟨S_, .i32⟩
  | 6 => ⟨S_, .i32⟩
  | 7 => ⟨S_, .i32⟩
  | 8 => ⟨S128x1, .i32⟩
  | 9 => ⟨S128x1, .i32⟩
  | 10 => ⟨S_, .i32⟩
  | 11 => ⟨S128x1, .i32⟩
  | 12 => ⟨S128x1, .i32⟩
  | 13 => ⟨S_, .f32⟩
  | 14 => ⟨S128x32000, .f32⟩
  | 15 => ⟨S128x32000, .f32⟩
  | 16 => ⟨S_, .f32⟩
  | 17 => ⟨S128, .f32⟩
  | 18 => ⟨S_, .f32⟩
  | 19 => ⟨S128, .f32⟩
  | 20 => ⟨S128, .f32⟩
  | 21 => ⟨S128x1, .f32⟩
  | 22 => ⟨S128x32000, .f32⟩
  | 23 => ⟨S128x32000, .f32⟩
  | 24 => ⟨S128x32000, .f32⟩
  | 25 => ⟨S_, .f32⟩
  | 26 => ⟨S128, .f32⟩
  | 27 => ⟨S128x1, .f32⟩
  | 28 => ⟨S128x1, .f32⟩
  | 29 => ⟨S128x32000, .f32⟩
  | 30 => ⟨S128x32000, .f32⟩
  | 31 => ⟨S_, .i32⟩
  | 32 => ⟨S128x1, .i32⟩
  | 33 => ⟨S128x1, .i1⟩
  | 34 => ⟨S_, .i32⟩
  | 35 => ⟨S128x1, .i32⟩
  | 36 => ⟨S128x1, .i32⟩
  | 37 => ⟨S128x1, .i32⟩
  | 38 => ⟨S128x1x1, .i32⟩
  | 39 => ⟨S1, .i32⟩
  | 40 => ⟨S_, .i32⟩
  | 41 => ⟨S128x1x1, .i32⟩
  | 42 => ⟨S128x1x1, .i1⟩
  | 43 => ⟨S1x1x1, .i32⟩
  | 44 => ⟨S128x1x1, .i32⟩
  | 45 => ⟨S128x1x1, .i1⟩
  | 46 => ⟨S128x1x1, .i1⟩
  | 47 => ⟨S_, .i1⟩
  | 48 => ⟨S128x1, .i1⟩
  | 49 => ⟨S128x1, .f32⟩
  | 50 => ⟨S_, .f32⟩
  | 51 => ⟨S128x1, .f32⟩
  | 52 => ⟨S128x1, .f32⟩
  | 53 => ⟨S128, .f32⟩
  | 54 => ⟨S128, .f32⟩
  | 55 => ⟨S128x7, .i32⟩
  | 56 => ⟨S128x1, .i32⟩
  | 57 => ⟨S128, .i32⟩
  | 58 => ⟨S_, .i32⟩
  | 59 => ⟨S128x16, .i32⟩
  | 60 => ⟨S128x16, .i1⟩
  | 61 => ⟨S_, .i32⟩
  | 62 => ⟨S128x16, .i32⟩
  | 63 => ⟨S128x16, .i32⟩
  | 64 => ⟨S128x16, .i32⟩
  | 65 => ⟨S128x16x1, .i32⟩
  | 66 => ⟨S1, .i32⟩
  | 67 => ⟨S_, .i32⟩
  | 68 => ⟨S128x16x1, .i32⟩
  | 69 => ⟨S128x16x1, .i1⟩
  | 70 => ⟨S1x1x1, .i32⟩
  | 71 => ⟨S128x16x1, .i32⟩
  | 72 => ⟨S128x16x1, .i1⟩
  | 73 => ⟨S128x16x1, .i1⟩
  | 74 => ⟨S_, .i1⟩
  | 75 => ⟨S128x16, .i1⟩
  | 76 => ⟨S128x16x1024, .f32⟩
  | 77 => ⟨S128x16x1024, .i1⟩
  | 78 => ⟨S_, .f32⟩
  | 79 => ⟨S128x16x1024, .f32⟩
  | 80 => ⟨S128x16x1024, .f32⟩
  | 81 => ⟨S_, .f32⟩
  | 82 => ⟨S128x1024, .f32⟩
  | 83 => ⟨S_, .f32⟩
  | 84 => ⟨S128x1024, .f32⟩
  | 85 => ⟨S128x1024, .f32⟩
  | 86 => ⟨S_, .i32⟩
  | 87 => ⟨S128, .i32⟩
  | 88 => ⟨S128, .i1⟩
  | 89 => ⟨S_, .i32⟩
  | 90 => ⟨S128, .i32⟩
  | 91 => ⟨S128, .i32⟩
  | 92 => ⟨S128, .i32⟩
  | 93 => ⟨S128x1, .i32⟩
  | 94 => ⟨S1, .i32⟩
  | 95 => ⟨S_, .i32⟩
  | 96 => ⟨S128x1, .i32⟩
  | 97 => ⟨S128x1, .i1⟩
  | 98 => ⟨S1x1, .i32⟩
  | 99 => ⟨S128x1, .i32⟩
  | 100 => ⟨S128x1, .i1⟩
  | 101 => ⟨S128x1, .i1⟩
  | 102 => ⟨S_, .i1⟩
  | 103 => ⟨S128, .i1⟩
  | 104 => ⟨S128x1024, .f32⟩
  | 105 => ⟨S128x1024, .i1⟩
  | 106 => ⟨S_, .f32⟩
  | 107 => ⟨S128x1024, .f32⟩
  | 108 => ⟨S128x1024, .f32⟩
  | 109 => ⟨S128x1024, .f32⟩
  | 110 => ⟨S128x1024, .f32⟩
  | 111 => ⟨S128x1024, .f32⟩
  | 112 => ⟨S128x32000, .f32⟩
  | 113 => ⟨S_, .f32⟩
  | 114 => ⟨S128x32000, .f32⟩
  | 115 => ⟨S128x32000, .f32⟩
  | 116 => ⟨S_, .f32⟩
  | 117 => ⟨S128, .f32⟩
  | 118 => ⟨S_, .f32⟩
  | 119 => ⟨S128, .f32⟩
  | 120 => ⟨S128, .f32⟩
  | 121 => ⟨S128x1, .f32⟩
  | 122 => ⟨S128x32000, .f32⟩
  | 123 => ⟨S128x32000, .f32⟩
  | 124 => ⟨S128x32000, .f32⟩
  | 125 => ⟨S_, .f32⟩
  | 126 => ⟨S128, .f32⟩
  | 127 => ⟨S128x1, .f32⟩
  | _ => ⟨S128x16, .i32⟩

abbrev hbmTy0_7 (i : Nat) : BufTy := match i % 128 with
  | 0 => ⟨S128x32000, .f32⟩
  | 1 => ⟨S128x32000, .f32⟩
  | 2 => ⟨S1x128x1, .f32⟩
  | 3 => ⟨S128x1, .f32⟩
  | 4 => ⟨S_, .f32⟩
  | 5 => ⟨S_, .f32⟩
  | 6 => ⟨S128x32000, .f32⟩
  | 7 => ⟨S128x32000, .f32⟩
  | 8 => ⟨S128x32000, .i1⟩
  | 9 => ⟨S128x32000, .i32⟩
  | 10 => ⟨S_, .i32⟩
  | 11 => ⟨S128, .i32⟩
  | 12 => ⟨S128x1, .i32⟩
  | 13 => ⟨S_, .i32⟩
  | 14 => ⟨S_, .i32⟩
  | 15 => ⟨S_, .i32⟩
  | 16 => ⟨S128x1, .i32⟩
  | 17 => ⟨S128x1, .i32⟩
  | 18 => ⟨S_, .i32⟩
  | 19 => ⟨S128x1, .i32⟩
  | 20 => ⟨S128x1, .i32⟩
  | 21 => ⟨S_, .f32⟩
  | 22 => ⟨S128x32000, .f32⟩
  | 23 => ⟨S128x32000, .f32⟩
  | 24 => ⟨S_, .f32⟩
  | 25 => ⟨S128, .f32⟩
  | 26 => ⟨S_, .f32⟩
  | 27 => ⟨S128, .f32⟩
  | 28 => ⟨S128, .f32⟩
  | 29 => ⟨S128x1, .f32⟩
  | 30 => ⟨S128x32000, .f32⟩
  | 31 => ⟨S128x32000, .f32⟩
  | 32 => ⟨S128x32000, .f32⟩
  | 33 => ⟨S_, .f32⟩
  | 34 => ⟨S128, .f32⟩
  | 35 => ⟨S128x1, .f32⟩
  | 36 => ⟨S128x1, .f32⟩
  | 37 => ⟨S128x32000, .f32⟩
  | 38 => ⟨S128x32000, .f32⟩
  | 39 => ⟨S_, .i32⟩
  | 40 => ⟨S128x1, .i32⟩
  | 41 => ⟨S128x1, .i1⟩
  | 42 => ⟨S_, .i32⟩
  | 43 => ⟨S128x1, .i32⟩
  | 44 => ⟨S128x1, .i32⟩
  | 45 => ⟨S128x1, .i32⟩
  | 46 => ⟨S128x1x1, .i32⟩
  | 47 => ⟨S1, .i32⟩
  | 48 => ⟨S_, .i32⟩
  | 49 => ⟨S128x1x1, .i32⟩
  | 50 => ⟨S128x1x1, .i1⟩
  | 51 => ⟨S1x1x1, .i32⟩
  | 52 => ⟨S128x1x1, .i32⟩
  | 53 => ⟨S128x1x1, .i1⟩
  | 54 => ⟨S128x1x1, .i1⟩
  | 55 => ⟨S_, .i1⟩
  | 56 => ⟨S128x1, .i1⟩
  | 57 => ⟨S128x1, .f32⟩
  | 58 => ⟨S_, .f32⟩
  | 59 => ⟨S128x1, .f32⟩
  | 60 => ⟨S128x1, .f32⟩
  | 61 => ⟨S128, .f32⟩
  | 62 => ⟨S128, .f32⟩
  | 63 => ⟨S128x8, .i32⟩
  | 64 => ⟨S128x1, .i32⟩
  | 65 => ⟨S128, .i32⟩
  | 66 => ⟨S_, .i32⟩
  | 67 => ⟨S128x16, .i32⟩
  | 68 => ⟨S128x16, .i1⟩
  | 69 => ⟨S_, .i32⟩
  | 70 => ⟨S128x16, .i32⟩
  | 71 => ⟨S128x16, .i32⟩
  | 72 => ⟨S128x16, .i32⟩
  | 73 => ⟨S128x16x1, .i32⟩
  | 74 => ⟨S1, .i32⟩
  | 75 => ⟨S_, .i32⟩
  | 76 => ⟨S128x16x1, .i32⟩
  | 77 => ⟨S128x16x1, .i1⟩
  | 78 => ⟨S1x1x1, .i32⟩
  | 79 => ⟨S128x16x1, .i32⟩
  | 80 => ⟨S128x16x1, .i1⟩
  | 81 => ⟨S128x16x1, .i1⟩
  | 82 => ⟨S_, .i1⟩
  | 83 => ⟨S128x16, .i1⟩
  | 84 => ⟨S128x16x1024, .f32⟩
  | 85 => ⟨S128x16x1024, .i1⟩
  | 86 => ⟨S_, .f32⟩
  | 87 => ⟨S128x16x1024, .f32⟩
  | 88 => ⟨S128x16x1024, .f32⟩
  | 89 => ⟨S_, .f32⟩
  | 90 => ⟨S128x1024, .f32⟩
  | 91 => ⟨S_, .f32⟩
  | 92 => ⟨S128x1024, .f32⟩
  | 93 => ⟨S128x1024, .f32⟩
  | 94 => ⟨S_, .i32⟩
  | 95 => ⟨S128, .i32⟩
  | 96 => ⟨S128, .i1⟩
  | 97 => ⟨S_, .i32⟩
  | 98 => ⟨S128, .i32⟩
  | 99 => ⟨S128, .i32⟩
  | 100 => ⟨S128, .i32⟩
  | 101 => ⟨S128x1, .i32⟩
  | 102 => ⟨S1, .i32⟩
  | 103 => ⟨S_, .i32⟩
  | 104 => ⟨S128x1, .i32⟩
  | 105 => ⟨S128x1, .i1⟩
  | 106 => ⟨S1x1, .i32⟩
  | 107 => ⟨S128x1, .i32⟩
  | 108 => ⟨S128x1, .i1⟩
  | 109 => ⟨S128x1, .i1⟩
  | 110 => ⟨S_, .i1⟩
  | 111 => ⟨S128, .i1⟩
  | 112 => ⟨S128x1024, .f32⟩
  | 113 => ⟨S128x1024, .i1⟩
  | 114 => ⟨S_, .f32⟩
  | 115 => ⟨S128x1024, .f32⟩
  | 116 => ⟨S128x1024, .f32⟩
  | 117 => ⟨S128x1024, .f32⟩
  | 118 => ⟨S128x1024, .f32⟩
  | 119 => ⟨S128x1024, .f32⟩
  | 120 => ⟨S128x32000, .f32⟩
  | 121 => ⟨S_, .f32⟩
  | 122 => ⟨S128x32000, .f32⟩
  | 123 => ⟨S128x32000, .f32⟩
  | 124 => ⟨S_, .f32⟩
  | 125 => ⟨S128, .f32⟩
  | 126 => ⟨S_, .f32⟩
  | 127 => ⟨S128, .f32⟩
  | _ => ⟨S128x16, .i32⟩

abbrev hbmTy0_8 (i : Nat) : BufTy := match i % 128 with
  | 0 => ⟨S128, .f32⟩
  | 1 => ⟨S128x1, .f32⟩
  | 2 => ⟨S128x32000, .f32⟩
  | 3 => ⟨S128x32000, .f32⟩
  | 4 => ⟨S128x32000, .f32⟩
  | 5 => ⟨S_, .f32⟩
  | 6 => ⟨S128, .f32⟩
  | 7 => ⟨S128x1, .f32⟩
  | 8 => ⟨S128x32000, .f32⟩
  | 9 => ⟨S128x32000, .f32⟩
  | 10 => ⟨S1x128x1, .f32⟩
  | 11 => ⟨S128x1, .f32⟩
  | 12 => ⟨S_, .f32⟩
  | 13 => ⟨S_, .f32⟩
  | 14 => ⟨S128x32000, .f32⟩
  | 15 => ⟨S128x32000, .f32⟩
  | 16 => ⟨S128x32000, .i1⟩
  | 17 => ⟨S128x32000, .i32⟩
  | 18 => ⟨S_, .i32⟩
  | 19 => ⟨S128, .i32⟩
  | 20 => ⟨S128x1, .i32⟩
  | 21 => ⟨S_, .i32⟩
  | 22 => ⟨S_, .i32⟩
  | 23 => ⟨S_, .i32⟩
  | 24 => ⟨S128x1, .i32⟩
  | 25 => ⟨S128x1, .i32⟩
  | 26 => ⟨S_, .i32⟩
  | 27 => ⟨S128x1, .i32⟩
  | 28 => ⟨S128x1, .i32⟩
  | 29 => ⟨S_, .f32⟩
  | 30 => ⟨S128x32000, .f32⟩
  | 31 => ⟨S128x32000, .f32⟩
  | 32 => ⟨S_, .f32⟩
  | 33 => ⟨S128, .f32⟩
  | 34 => ⟨S_, .f32⟩
  | 35 => ⟨S128, .f32⟩
  | 36 => ⟨S128, .f32⟩
  | 37 => ⟨S128x1, .f32⟩
  | 38 => ⟨S128x32000, .f32⟩
  | 39 => ⟨S128x32000, .f32⟩
  | 40 => ⟨S128x32000, .f32⟩
  | 41 => ⟨S_, .f32⟩
  | 42 => ⟨S128, .f32⟩
  | 43 => ⟨S128x1, .f32⟩
  | 44 => ⟨S128x1, .f32⟩
  | 45 => ⟨S128x32000, .f32⟩
  | 46 => ⟨S128x32000, .f32⟩
  | 47 => ⟨S_, .i32⟩
  | 48 => ⟨S128x1, .i32⟩
  | 49 => ⟨S128x1, .i1⟩
  | 50 => ⟨S_, .i32⟩
  | 51 => ⟨S128x1, .i32⟩
  | 52 => ⟨S128x1, .i32⟩
  | 53 => ⟨S128x1, .i32⟩
  | 54 => ⟨S128x1x1, .i32⟩
  | 55 => ⟨S1, .i32⟩
  | 56 => ⟨S_, .i32⟩
  | 57 => ⟨S128x1x1, .i32⟩
  | 58 => ⟨S128x1x1, .i1⟩
  | 59 => ⟨S1x1x1, .i32⟩
  | 60 => ⟨S128x1x1, .i32⟩
  | 61 => ⟨S128x1x1, .i1⟩
  | 62 => ⟨S128x1x1, .i1⟩
  | 63 => ⟨S_, .i1⟩
  | 64 => ⟨S128x1, .i1⟩
  | 65 => ⟨S128x1, .f32⟩
  | 66 => ⟨S_, .f32⟩
  | 67 => ⟨S128x1, .f32⟩
  | 68 => ⟨S128x1, .f32⟩
  | 69 => ⟨S128, .f32⟩
  | 70 => ⟨S128, .f32⟩
  | 71 => ⟨S128x9, .i32⟩
  | 72 => ⟨S128x1, .i32⟩
  | 73 => ⟨S128, .i32⟩
  | 74 => ⟨S_, .i32⟩
  | 75 => ⟨S128x16, .i32⟩
  | 76 => ⟨S128x16, .i1⟩
  | 77 => ⟨S_, .i32⟩
  | 78 => ⟨S128x16, .i32⟩
  | 79 => ⟨S128x16, .i32⟩
  | 80 => ⟨S128x16, .i32⟩
  | 81 => ⟨S128x16x1, .i32⟩
  | 82 => ⟨S1, .i32⟩
  | 83 => ⟨S_, .i32⟩
  | 84 => ⟨S128x16x1, .i32⟩
  | 85 => ⟨S128x16x1, .i1⟩
  | 86 => ⟨S1x1x1, .i32⟩
  | 87 => ⟨S128x16x1, .i32⟩
  | 88 => ⟨S128x16x1, .i1⟩
  | 89 => ⟨S128x16x1, .i1⟩
  | 90 => ⟨S_, .i1⟩
  | 91 => ⟨S128x16, .i1⟩
  | 92 => ⟨S128x16x1024, .f32⟩
  | 93 => ⟨S128x16x1024, .i1⟩
  | 94 => ⟨S_, .f32⟩
  | 95 => ⟨S128x16x1024, .f32⟩
  | 96 => ⟨S128x16x1024, .f32⟩
  | 97 => ⟨S_, .f32⟩
  | 98 => ⟨S128x1024, .f32⟩
  | 99 => ⟨S_, .f32⟩
  | 100 => ⟨S128x1024, .f32⟩
  | 101 => ⟨S128x1024, .f32⟩
  | 102 => ⟨S_, .i32⟩
  | 103 => ⟨S128, .i32⟩
  | 104 => ⟨S128, .i1⟩
  | 105 => ⟨S_, .i32⟩
  | 106 => ⟨S128, .i32⟩
  | 107 => ⟨S128, .i32⟩
  | 108 => ⟨S128, .i32⟩
  | 109 => ⟨S128x1, .i32⟩
  | 110 => ⟨S1, .i32⟩
  | 111 => ⟨S_, .i32⟩
  | 112 => ⟨S128x1, .i32⟩
  | 113 => ⟨S128x1, .i1⟩
  | 114 => ⟨S1x1, .i32⟩
  | 115 => ⟨S128x1, .i32⟩
  | 116 => ⟨S128x1, .i1⟩
  | 117 => ⟨S128x1, .i1⟩
  | 118 => ⟨S_, .i1⟩
  | 119 => ⟨S128, .i1⟩
  | 120 => ⟨S128x1024, .f32⟩
  | 121 => ⟨S128x1024, .i1⟩
  | 122 => ⟨S_, .f32⟩
  | 123 => ⟨S128x1024, .f32⟩
  | 124 => ⟨S128x1024, .f32⟩
  | 125 => ⟨S128x1024, .f32⟩
  | 126 => ⟨S128x1024, .f32⟩
  | 127 => ⟨S128x1024, .f32⟩
  | _ => ⟨S128x16, .i32⟩

abbrev hbmTy0_9 (i : Nat) : BufTy := match i % 128 with
  | 0 => ⟨S128x32000, .f32⟩
  | 1 => ⟨S_, .f32⟩
  | 2 => ⟨S128x32000, .f32⟩
  | 3 => ⟨S128x32000, .f32⟩
  | 4 => ⟨S_, .f32⟩
  | 5 => ⟨S128, .f32⟩
  | 6 => ⟨S_, .f32⟩
  | 7 => ⟨S128, .f32⟩
  | 8 => ⟨S128, .f32⟩
  | 9 => ⟨S128x1, .f32⟩
  | 10 => ⟨S128x32000, .f32⟩
  | 11 => ⟨S128x32000, .f32⟩
  | 12 => ⟨S128x32000, .f32⟩
  | 13 => ⟨S_, .f32⟩
  | 14 => ⟨S128, .f32⟩
  | 15 => ⟨S128x1, .f32⟩
  | 16 => ⟨S128x32000, .f32⟩
  | 17 => ⟨S128x32000, .f32⟩
  | 18 => ⟨S1x128x1, .f32⟩
  | 19 => ⟨S128x1, .f32⟩
  | 20 => ⟨S_, .f32⟩
  | 21 => ⟨S_, .f32⟩
  | 22 => ⟨S128x32000, .f32⟩
  | 23 => ⟨S128x32000, .f32⟩
  | 24 => ⟨S128x32000, .i1⟩
  | 25 => ⟨S128x32000, .i32⟩
  | 26 => ⟨S_, .i32⟩
  | 27 => ⟨S128, .i32⟩
  | 28 => ⟨S128x1, .i32⟩
  | 29 => ⟨S_, .i32⟩
  | 30 => ⟨S_, .i32⟩
  | 31 => ⟨S_, .i32⟩
  | 32 => ⟨S128x1, .i32⟩
  | 33 => ⟨S128x1, .i32⟩
  | 34 => ⟨S_, .i32⟩
  | 35 => ⟨S128x1, .i32⟩
  | 36 => ⟨S128x1, .i32⟩
  | 37 => ⟨S_, .f32⟩
  | 38 => ⟨S128x32000, .f32⟩
  | 39 => ⟨S128x32000, .f32⟩
  | 40 => ⟨S_, .f32⟩
  | 41 => ⟨S128, .f32⟩
  | 42 => ⟨S_, .f32⟩
  | 43 => ⟨S128, .f32⟩
  | 44 => ⟨S128, .f32⟩
  | 45 => ⟨S128x1, .f32⟩
  | 46 => ⟨S128x32000, .f32⟩
  | 47 => ⟨S128x32000, .f32⟩
  | 48 => ⟨S128x32000, .f32⟩
  | 49 => ⟨S_, .f32⟩
  | 50 => ⟨S128, .f32⟩
  | 51 => ⟨S128x1, .f32⟩
  | 52 => ⟨S128x1, .f32⟩
  | 53 => ⟨S128x32000, .f32⟩
  | 54 => ⟨S128x32000, .f32⟩
  | 55 => ⟨S_, .i32⟩
  | 56 => ⟨S128x1, .i32⟩
  | 57 => ⟨S128x1, .i1⟩
  | 58 => ⟨S_, .i32⟩
  | 59 => ⟨S128x1, .i32⟩
  | 60 => ⟨S128x1, .i32⟩
  | 61 => ⟨S128x1, .i32⟩
  | 62 => ⟨S128x1x1, .i32⟩
  | 63 => ⟨S1, .i32⟩
  | 64 => ⟨S_, .i32⟩
  | 65 => ⟨S128x1x1, .i32⟩
  | 66 => ⟨S128x1x1, .i1⟩
  | 67 => ⟨S1x1x1, .i32⟩
  | 68 => ⟨S128x1x1, .i32⟩
  | 69 => ⟨S128x1x1, .i1⟩
  | 70 => ⟨S128x1x1, .i1⟩
  | 71 => ⟨S_, .i1⟩
  | 72 => ⟨S128x1, .i1⟩
  | 73 => ⟨S128x1, .f32⟩
  | 74 => ⟨S_, .f32⟩
  | 75 => ⟨S128x1, .f32⟩
  | 76 => ⟨S128x1, .f32⟩
  | 77 => ⟨S128, .f32⟩
  | 78 => ⟨S128, .f32⟩
  | 79 => ⟨S128x10, .i32⟩
  | 80 => ⟨S128x1, .i32⟩
  | 81 => ⟨S128, .i32⟩
  | 82 => ⟨S_, .i32⟩
  | 83 => ⟨S128x16, .i32⟩
  | 84 => ⟨S128x16, .i1⟩
  | 85 => ⟨S_, .i32⟩
  | 86 => ⟨S128x16, .i32⟩
  | 87 => ⟨S128x16, .i32⟩
  | 88 => ⟨S128x16, .i32⟩
  | 89 => ⟨S128x16x1, .i32⟩
  | 90 => ⟨S1, .i32⟩
  | 91 => ⟨S_, .i32⟩
  | 92 => ⟨S128x16x1, .i32⟩
  | 93 => ⟨S128x16x1, .i1⟩
  | 94 => ⟨S1x1x1, .i32⟩
  | 95 => ⟨S128x16x1, .i32⟩
  | 96 => ⟨S128x16x1, .i1⟩
  | 97 => ⟨S128x16x1, .i1⟩
  | 98 => ⟨S_, .i1⟩
  | 99 => ⟨S128x16, .i1⟩
  | 100 => ⟨S128x16x1024, .f32⟩
  | 101 => ⟨S128x16x1024, .i1⟩
  | 102 => ⟨S_, .f32⟩
  | 103 => ⟨S128x16x1024, .f32⟩
  | 104 => ⟨S128x16x1024, .f32⟩
  | 105 => ⟨S_, .f32⟩
  | 106 => ⟨S128x1024, .f32⟩
  | 107 => ⟨S_, .f32⟩
  | 108 => ⟨S128x1024, .f32⟩
  | 109 => ⟨S128x1024, .f32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S128x1, .i32⟩
  | 118 => ⟨S1, .i32⟩
  | 119 => ⟨S_, .i32⟩
  | 120 => ⟨S128x1, .i32⟩
  | 121 => ⟨S128x1, .i1⟩
  | 122 => ⟨S1x1, .i32⟩
  | 123 => ⟨S128x1, .i32⟩
  | 124 => ⟨S128x1, .i1⟩
  | 125 => ⟨S128x1, .i1⟩
  | 126 => ⟨S_, .i1⟩
  | 127 => ⟨S128, .i1⟩
  | _ => ⟨S128x16, .i32⟩

abbrev hbmTy0_10 (i : Nat) : BufTy := match i % 128 with
  | 0 => ⟨S128x1024, .f32⟩
  | 1 => ⟨S128x1024, .i1⟩
  | 2 => ⟨S_, .f32⟩
  | 3 => ⟨S128x1024, .f32⟩
  | 4 => ⟨S128x1024, .f32⟩
  | 5 => ⟨S128x1024, .f32⟩
  | 6 => ⟨S128x1024, .f32⟩
  | 7 => ⟨S128x1024, .f32⟩
  | 8 => ⟨S128x32000, .f32⟩
  | 9 => ⟨S_, .f32⟩
  | 10 => ⟨S128x32000, .f32⟩
  | 11 => ⟨S128x32000, .f32⟩
  | 12 => ⟨S_, .f32⟩
  | 13 => ⟨S128, .f32⟩
  | 14 => ⟨S_, .f32⟩
  | 15 => ⟨S128, .f32⟩
  | 16 => ⟨S128, .f32⟩
  | 17 => ⟨S128x1, .f32⟩
  | 18 => ⟨S128x32000, .f32⟩
  | 19 => ⟨S128x32000, .f32⟩
  | 20 => ⟨S128x32000, .f32⟩
  | 21 => ⟨S_, .f32⟩
  | 22 => ⟨S128, .f32⟩
  | 23 => ⟨S128x1, .f32⟩
  | 24 => ⟨S128x32000, .f32⟩
  | 25 => ⟨S128x32000, .f32⟩
  | 26 => ⟨S1x128x1, .f32⟩
  | 27 => ⟨S128x1, .f32⟩
  | 28 => ⟨S_, .f32⟩
  | 29 => ⟨S_, .f32⟩
  | 30 => ⟨S128x32000, .f32⟩
  | 31 => ⟨S128x32000, .f32⟩
  | 32 => ⟨S128x32000, .i1⟩
  | 33 => ⟨S128x32000, .i32⟩
  | 34 => ⟨S_, .i32⟩
  | 35 => ⟨S128, .i32⟩
  | 36 => ⟨S128x1, .i32⟩
  | 37 => ⟨S_, .i32⟩
  | 38 => ⟨S_, .i32⟩
  | 39 => ⟨S_, .i32⟩
  | 40 => ⟨S128x1, .i32⟩
  | 41 => ⟨S128x1, .i32⟩
  | 42 => ⟨S_, .i32⟩
  | 43 => ⟨S128x1, .i32⟩
  | 44 => ⟨S128x1, .i32⟩
  | 45 => ⟨S_, .f32⟩
  | 46 => ⟨S128x32000, .f32⟩
  | 47 => ⟨S128x32000, .f32⟩
  | 48 => ⟨S_, .f32⟩
  | 49 => ⟨S128, .f32⟩
  | 50 => ⟨S_, .f32⟩
  | 51 => ⟨S128, .f32⟩
  | 52 => ⟨S128, .f32⟩
  | 53 => ⟨S128x1, .f32⟩
  | 54 => ⟨S128x32000, .f32⟩
  | 55 => ⟨S128x32000, .f32⟩
  | 56 => ⟨S128x32000, .f32⟩
  | 57 => ⟨S_, .f32⟩
  | 58 => ⟨S128, .f32⟩
  | 59 => ⟨S128x1, .f32⟩
  | 60 => ⟨S128x1, .f32⟩
  | 61 => ⟨S128x32000, .f32⟩
  | 62 => ⟨S128x32000, .f32⟩
  | 63 => ⟨S_, .i32⟩
  | 64 => ⟨S128x1, .i32⟩
  | 65 => ⟨S128x1, .i1⟩
  | 66 => ⟨S_, .i32⟩
  | 67 => ⟨S128x1, .i32⟩
  | 68 => ⟨S128x1, .i32⟩
  | 69 => ⟨S128x1, .i32⟩
  | 70 => ⟨S128x1x1, .i32⟩
  | 71 => ⟨S1, .i32⟩
  | 72 => ⟨S_, .i32⟩
  | 73 => ⟨S128x1x1, .i32⟩
  | 74 => ⟨S128x1x1, .i1⟩
  | 75 => ⟨S1x1x1, .i32⟩
  | 76 => ⟨S128x1x1, .i32⟩
  | 77 => ⟨S128x1x1, .i1⟩
  | 78 => ⟨S128x1x1, .i1⟩
  | 79 => ⟨S_, .i1⟩
  | 80 => ⟨S128x1, .i1⟩
  | 81 => ⟨S128x1, .f32⟩
  | 82 => ⟨S_, .f32⟩
  | 83 => ⟨S128x1, .f32⟩
  | 84 => ⟨S128x1, .f32⟩
  | 85 => ⟨S128, .f32⟩
  | 86 => ⟨S128, .f32⟩
  | 87 => ⟨S128x11, .i32⟩
  | 88 => ⟨S128x1, .i32⟩
  | 89 => ⟨S128, .i32⟩
  | 90 => ⟨S_, .i32⟩
  | 91 => ⟨S128x16, .i32⟩
  | 92 => ⟨S128x16, .i1⟩
  | 93 => ⟨S_, .i32⟩
  | 94 => ⟨S128x16, .i32⟩
  | 95 => ⟨S128x16, .i32⟩
  | 96 => ⟨S128x16, .i32⟩
  | 97 => ⟨S128x16x1, .i32⟩
  | 98 => ⟨S1, .i32⟩
  | 99 => ⟨S_, .i32⟩
  | 100 => ⟨S128x16x1, .i32⟩
  | 101 => ⟨S128x16x1, .i1⟩
  | 102 => ⟨S1x1x1, .i32⟩
  | 103 => ⟨S128x16x1, .i32⟩
  | 104 => ⟨S128x16x1, .i1⟩
  | 105 => ⟨S128x16x1, .i1⟩
  | 106 => ⟨S_, .i1⟩
  | 107 => ⟨S128x16, .i1⟩
  | 108 => ⟨S128x16x1024, .f32⟩
  | 109 => ⟨S128x16x1024, .i1⟩
  | 110 => ⟨S_, .f32⟩
  | 111 => ⟨S128x16x1024, .f32⟩
  | 112 => ⟨S128x16x1024, .f32⟩
  | 113 => ⟨S_, .f32⟩
  | 114 => ⟨S128x1024, .f32⟩
  | 115 => ⟨S_, .f32⟩
  | 116 => ⟨S128x1024, .f32⟩
  | 117 => ⟨S128x1024, .f32⟩
  | 118 => ⟨S_, .i32⟩
  | 119 => ⟨S128, .i32⟩
  | 120 => ⟨S128, .i1⟩
  | 121 => ⟨S_, .i32⟩
  | 122 => ⟨S128, .i32⟩
  | 123 => ⟨S128, .i32⟩
  | 124 => ⟨S128, .i32⟩
  | 125 => ⟨S128x1, .i32⟩
  | 126 => ⟨S1, .i32⟩
  | 127 => ⟨S_, .i32⟩
  | _ => ⟨S128x16, .i32⟩

abbrev hbmTy0_11 (i : Nat) : BufTy := match i % 128 with
  | 0 => ⟨S128x1, .i32⟩
  | 1 => ⟨S128x1, .i1⟩
  | 2 => ⟨S1x1, .i32⟩
  | 3 => ⟨S128x1, .i32⟩
  | 4 => ⟨S128x1, .i1⟩
  | 5 => ⟨S128x1, .i1⟩
  | 6 => ⟨S_, .i1⟩
  | 7 => ⟨S128, .i1⟩
  | 8 => ⟨S128x1024, .f32⟩
  | 9 => ⟨S128x1024, .i1⟩
  | 10 => ⟨S_, .f32⟩
  | 11 => ⟨S128x1024, .f32⟩
  | 12 => ⟨S128x1024, .f32⟩
  | 13 => ⟨S128x1024, .f32⟩
  | 14 => ⟨S128x1024, .f32⟩
  | 15 => ⟨S128x1024, .f32⟩
  | 16 => ⟨S128x32000, .f32⟩
  | 17 => ⟨S_, .f32⟩
  | 18 => ⟨S128x32000, .f32⟩
  | 19 => ⟨S128x32000, .f32⟩
  | 20 => ⟨S_, .f32⟩
  | 21 => ⟨S128, .f32⟩
  | 22 => ⟨S_, .f32⟩
  | 23 => ⟨S128, .f32⟩
  | 24 => ⟨S128, .f32⟩
  | 25 => ⟨S128x1, .f32⟩
  | 26 => ⟨S128x32000, .f32⟩
  | 27 => ⟨S128x32000, .f32⟩
  | 28 => ⟨S128x32000, .f32⟩
  | 29 => ⟨S_, .f32⟩
  | 30 => ⟨S128, .f32⟩
  | 31 => ⟨S128x1, .f32⟩
  | 32 => ⟨S128x32000, .f32⟩
  | 33 => ⟨S128x32000, .f32⟩
  | 34 => ⟨S1x128x1, .f32⟩
  | 35 => ⟨S128x1, .f32⟩
  | 36 => ⟨S_, .f32⟩
  | 37 => ⟨S_, .f32⟩
  | 38 => ⟨S128x32000, .f32⟩
  | 39 => ⟨S128x32000, .f32⟩
  | 40 => ⟨S128x32000, .i1⟩
  | 41 => ⟨S128x32000, .i32⟩
  | 42 => ⟨S_, .i32⟩
  | 43 => ⟨S128, .i32⟩
  | 44 => ⟨S128x1, .i32⟩
  | 45 => ⟨S_, .i32⟩
  | 46 => ⟨S_, .i32⟩
  | 47 => ⟨S_, .i32⟩
  | 48 => ⟨S128x1, .i32⟩
  | 49 => ⟨S128x1, .i32⟩
  | 50 => ⟨S_, .i32⟩
  | 51 => ⟨S128x1, .i32⟩
  | 52 => ⟨S128x1, .i32⟩
  | 53 => ⟨S_, .f32⟩
  | 54 => ⟨S128x32000, .f32⟩
  | 55 => ⟨S128x32000, .f32⟩
  | 56 => ⟨S_, .f32⟩
  | 57 => ⟨S128, .f32⟩
  | 58 => ⟨S_, .f32⟩
  | 59 => ⟨S128, .f32⟩
  | 60 => ⟨S128, .f32⟩
  | 61 => ⟨S128x1, .f32⟩
  | 62 => ⟨S128x32000, .f32⟩
  | 63 => ⟨S128x32000, .f32⟩
  | 64 => ⟨S128x32000, .f32⟩
  | 65 => ⟨S_, .f32⟩
  | 66 => ⟨S128, .f32⟩
  | 67 => ⟨S128x1, .f32⟩
  | 68 => ⟨S128x1, .f32⟩
  | 69 => ⟨S128x32000, .f32⟩
  | 70 => ⟨S128x32000, .f32⟩
  | 71 => ⟨S_, .i32⟩
  | 72 => ⟨S128x1, .i32⟩
  | 73 => ⟨S128x1, .i1⟩
  | 74 => ⟨S_, .i32⟩
  | 75 => ⟨S128x1, .i32⟩
  | 76 => ⟨S128x1, .i32⟩
  | 77 => ⟨S128x1, .i32⟩
  | 78 => ⟨S128x1x1, .i32⟩
  | 79 => ⟨S1, .i32⟩
  | 80 => ⟨S_, .i32⟩
  | 81 => ⟨S128x1x1, .i32⟩
  | 82 => ⟨S128x1x1, .i1⟩
  | 83 => ⟨S1x1x1, .i32⟩
  | 84 => ⟨S128x1x1, .i32⟩
  | 85 => ⟨S128x1x1, .i1⟩
  | 86 => ⟨S128x1x1, .i1⟩
  | 87 => ⟨S_, .i1⟩
  | 88 => ⟨S128x1, .i1⟩
  | 89 => ⟨S128x1, .f32⟩
  | 90 => ⟨S_, .f32⟩
  | 91 => ⟨S128x1, .f32⟩
  | 92 => ⟨S128x1, .f32⟩
  | 93 => ⟨S128, .f32⟩
  | 94 => ⟨S128, .f32⟩
  | 95 => ⟨S128x12, .i32⟩
  | 96 => ⟨S128x1, .i32⟩
  | 97 => ⟨S128, .i32⟩
  | 98 => ⟨S_, .i32⟩
  | 99 => ⟨S128x16, .i32⟩
  | 100 => ⟨S128x16, .i1⟩
  | 101 => ⟨S_, .i32⟩
  | 102 => ⟨S128x16, .i32⟩
  | 103 => ⟨S128x16, .i32⟩
  | 104 => ⟨S128x16, .i32⟩
  | 105 => ⟨S128x16x1, .i32⟩
  | 106 => ⟨S1, .i32⟩
  | 107 => ⟨S_, .i32⟩
  | 108 => ⟨S128x16x1, .i32⟩
  | 109 => ⟨S128x16x1, .i1⟩
  | 110 => ⟨S1x1x1, .i32⟩
  | 111 => ⟨S128x16x1, .i32⟩
  | 112 => ⟨S128x16x1, .i1⟩
  | 113 => ⟨S128x16x1, .i1⟩
  | 114 => ⟨S_, .i1⟩
  | 115 => ⟨S128x16, .i1⟩
  | 116 => ⟨S128x16x1024, .f32⟩
  | 117 => ⟨S128x16x1024, .i1⟩
  | 118 => ⟨S_, .f32⟩
  | 119 => ⟨S128x16x1024, .f32⟩
  | 120 => ⟨S128x16x1024, .f32⟩
  | 121 => ⟨S_, .f32⟩
  | 122 => ⟨S128x1024, .f32⟩
  | 123 => ⟨S_, .f32⟩
  | 124 => ⟨S128x1024, .f32⟩
  | 125 => ⟨S128x1024, .f32⟩
  | 126 => ⟨S_, .i32⟩
  | 127 => ⟨S128, .i32⟩
  | _ => ⟨S128x16, .i32⟩

abbrev hbmTy0_12 (i : Nat) : BufTy := match i % 128 with
  | 0 => ⟨S128, .i1⟩
  | 1 => ⟨S_, .i32⟩
  | 2 => ⟨S128, .i32⟩
  | 3 => ⟨S128, .i32⟩
  | 4 => ⟨S128, .i32⟩
  | 5 => ⟨S128x1, .i32⟩
  | 6 => ⟨S1, .i32⟩
  | 7 => ⟨S_, .i32⟩
  | 8 => ⟨S128x1, .i32⟩
  | 9 => ⟨S128x1, .i1⟩
  | 10 => ⟨S1x1, .i32⟩
  | 11 => ⟨S128x1, .i32⟩
  | 12 => ⟨S128x1, .i1⟩
  | 13 => ⟨S128x1, .i1⟩
  | 14 => ⟨S_, .i1⟩
  | 15 => ⟨S128, .i1⟩
  | 16 => ⟨S128x1024, .f32⟩
  | 17 => ⟨S128x1024, .i1⟩
  | 18 => ⟨S_, .f32⟩
  | 19 => ⟨S128x1024, .f32⟩
  | 20 => ⟨S128x1024, .f32⟩
  | 21 => ⟨S128x1024, .f32⟩
  | 22 => ⟨S128x1024, .f32⟩
  | 23 => ⟨S128x1024, .f32⟩
  | 24 => ⟨S128x32000, .f32⟩
  | 25 => ⟨S_, .f32⟩
  | 26 => ⟨S128x32000, .f32⟩
  | 27 => ⟨S128x32000, .f32⟩
  | 28 => ⟨S_, .f32⟩
  | 29 => ⟨S128, .f32⟩
  | 30 => ⟨S_, .f32⟩
  | 31 => ⟨S128, .f32⟩
  | 32 => ⟨S128, .f32⟩
  | 33 => ⟨S128x1, .f32⟩
  | 34 => ⟨S128x32000, .f32⟩
  | 35 => ⟨S128x32000, .f32⟩
  | 36 => ⟨S128x32000, .f32⟩
  | 37 => ⟨S_, .f32⟩
  | 38 => ⟨S128, .f32⟩
  | 39 => ⟨S128x1, .f32⟩
  | 40 => ⟨S128x32000, .f32⟩
  | 41 => ⟨S128x32000, .f32⟩
  | 42 => ⟨S1x128x1, .f32⟩
  | 43 => ⟨S128x1, .f32⟩
  | 44 => ⟨S_, .f32⟩
  | 45 => ⟨S_, .f32⟩
  | 46 => ⟨S128x32000, .f32⟩
  | 47 => ⟨S128x32000, .f32⟩
  | 48 => ⟨S128x32000, .i1⟩
  | 49 => ⟨S128x32000, .i32⟩
  | 50 => ⟨S_, .i32⟩
  | 51 => ⟨S128, .i32⟩
  | 52 => ⟨S128x1, .i32⟩
  | 53 => ⟨S_, .i32⟩
  | 54 => ⟨S_, .i32⟩
  | 55 => ⟨S_, .i32⟩
  | 56 => ⟨S128x1, .i32⟩
  | 57 => ⟨S128x1, .i32⟩
  | 58 => ⟨S_, .i32⟩
  | 59 => ⟨S128x1, .i32⟩
  | 60 => ⟨S128x1, .i32⟩
  | 61 => ⟨S_, .f32⟩
  | 62 => ⟨S128x32000, .f32⟩
  | 63 => ⟨S128x32000, .f32⟩
  | 64 => ⟨S_, .f32⟩
  | 65 => ⟨S128, .f32⟩
  | 66 => ⟨S_, .f32⟩
  | 67 => ⟨S128, .f32⟩
  | 68 => ⟨S128, .f32⟩
  | 69 => ⟨S128x1, .f32⟩
  | 70 => ⟨S128x32000, .f32⟩
  | 71 => ⟨S128x32000, .f32⟩
  | 72 => ⟨S128x32000, .f32⟩
  | 73 => ⟨S_, .f32⟩
  | 74 => ⟨S128, .f32⟩
  | 75 => ⟨S128x1, .f32⟩
  | 76 => ⟨S128x1, .f32⟩
  | 77 => ⟨S128x32000, .f32⟩
  | 78 => ⟨S128x32000, .f32⟩
  | 79 => ⟨S_, .i32⟩
  | 80 => ⟨S128x1, .i32⟩
  | 81 => ⟨S128x1, .i1⟩
  | 82 => ⟨S_, .i32⟩
  | 83 => ⟨S128x1, .i32⟩
  | 84 => ⟨S128x1, .i32⟩
  | 85 => ⟨S128x1, .i32⟩
  | 86 => ⟨S128x1x1, .i32⟩
  | 87 => ⟨S1, .i32⟩
  | 88 => ⟨S_, .i32⟩
  | 89 => ⟨S128x1x1, .i32⟩
  | 90 => ⟨S128x1x1, .i1⟩
  | 91 => ⟨S1x1x1, .i32⟩
  | 92 => ⟨S128x1x1, .i32⟩
  | 93 => ⟨S128x1x1, .i1⟩
  | 94 => ⟨S128x1x1, .i1⟩
  | 95 => ⟨S_, .i1⟩
  | 96 => ⟨S128x1, .i1⟩
  | 97 => ⟨S128x1, .f32⟩
  | 98 => ⟨S_, .f32⟩
  | 99 => ⟨S128x1, .f32⟩
  | 100 => ⟨S128x1, .f32⟩
  | 101 => ⟨S128, .f32⟩
  | 102 => ⟨S128, .f32⟩
  | 103 => ⟨S128x13, .i32⟩
  | 104 => ⟨S128x1, .i32⟩
  | 105 => ⟨S128, .i32⟩
  | 106 => ⟨S_, .i32⟩
  | 107 => ⟨S128x16, .i32⟩
  | 108 => ⟨S128x16, .i1⟩
  | 109 => ⟨S_, .i32⟩
  | 110 => ⟨S128x16, .i32⟩
  | 111 => ⟨S128x16, .i32⟩
  | 112 => ⟨S128x16, .i32⟩
  | 113 => ⟨S128x16x1, .i32⟩
  | 114 => ⟨S1, .i32⟩
  | 115 => ⟨S_, .i32⟩
  | 116 => ⟨S128x16x1, .i32⟩
  | 117 => ⟨S128x16x1, .i1⟩
  | 118 => ⟨S1x1x1, .i32⟩
  | 119 => ⟨S128x16x1, .i32⟩
  | 120 => ⟨S128x16x1, .i1⟩
  | 121 => ⟨S128x16x1, .i1⟩
  | 122 => ⟨S_, .i1⟩
  | 123 => ⟨S128x16, .i1⟩
  | 124 => ⟨S128x16x1024, .f32⟩
  | 125 => ⟨S128x16x1024, .i1⟩
  | 126 => ⟨S_, .f32⟩
  | 127 => ⟨S128x16x1024, .f32⟩
  | _ => ⟨S128x16, .i32⟩

abbrev hbmTy0_13 (i : Nat) : BufTy := match i % 128 with
  | 0 => ⟨S128x16x1024, .f32⟩
  | 1 => ⟨S_, .f32⟩
  | 2 => ⟨S128x1024, .f32⟩
  | 3 => ⟨S_, .f32⟩
  | 4 => ⟨S128x1024, .f32⟩
  | 5 => ⟨S128x1024, .f32⟩
  | 6 => ⟨S_, .i32⟩
  | 7 => ⟨S128, .i32⟩
  | 8 => ⟨S128, .i1⟩
  | 9 => ⟨S_, .i32⟩
  | 10 => ⟨S128, .i32⟩
  | 11 => ⟨S128, .i32⟩
  | 12 => ⟨S128, .i32⟩
  | 13 => ⟨S128x1, .i32⟩
  | 14 => ⟨S1, .i32⟩
  | 15 => ⟨S_, .i32⟩
  | 16 => ⟨S128x1, .i32⟩
  | 17 => ⟨S128x1, .i1⟩
  | 18 => ⟨S1x1, .i32⟩
  | 19 => ⟨S128x1, .i32⟩
  | 20 => ⟨S128x1, .i1⟩
  | 21 => ⟨S128x1, .i1⟩
  | 22 => ⟨S_, .i1⟩
  | 23 => ⟨S128, .i1⟩
  | 24 => ⟨S128x1024, .f32⟩
  | 25 => ⟨S128x1024, .i1⟩
  | 26 => ⟨S_, .f32⟩
  | 27 => ⟨S128x1024, .f32⟩
  | 28 => ⟨S128x1024, .f32⟩
  | 29 => ⟨S128x1024, .f32⟩
  | 30 => ⟨S128x1024, .f32⟩
  | 31 => ⟨S128x1024, .f32⟩
  | 32 => ⟨S128x32000, .f32⟩
  | 33 => ⟨S_, .f32⟩
  | 34 => ⟨S128x32000, .f32⟩
  | 35 => ⟨S128x32000, .f32⟩
  | 36 => ⟨S_, .f32⟩
  | 37 => ⟨S128, .f32⟩
  | 38 => ⟨S_, .f32⟩
  | 39 => ⟨S128, .f32⟩
  | 40 => ⟨S128, .f32⟩
  | 41 => ⟨S128x1, .f32⟩
  | 42 => ⟨S128x32000, .f32⟩
  | 43 => ⟨S128x32000, .f32⟩
  | 44 => ⟨S128x32000, .f32⟩
  | 45 => ⟨S_, .f32⟩
  | 46 => ⟨S128, .f32⟩
  | 47 => ⟨S128x1, .f32⟩
  | 48 => ⟨S128x32000, .f32⟩
  | 49 => ⟨S128x32000, .f32⟩
  | 50 => ⟨S1x128x1, .f32⟩
  | 51 => ⟨S128x1, .f32⟩
  | 52 => ⟨S_, .f32⟩
  | 53 => ⟨S_, .f32⟩
  | 54 => ⟨S128x32000, .f32⟩
  | 55 => ⟨S128x32000, .f32⟩
  | 56 => ⟨S128x32000, .i1⟩
  | 57 => ⟨S128x32000, .i32⟩
  | 58 => ⟨S_, .i32⟩
  | 59 => ⟨S128, .i32⟩
  | 60 => ⟨S128x1, .i32⟩
  | 61 => ⟨S_, .i32⟩
  | 62 => ⟨S_, .i32⟩
  | 63 => ⟨S_, .i32⟩
  | 64 => ⟨S128x1, .i32⟩
  | 65 => ⟨S128x1, .i32⟩
  | 66 => ⟨S_, .i32⟩
  | 67 => ⟨S128x1, .i32⟩
  | 68 => ⟨S128x1, .i32⟩
  | 69 => ⟨S_, .f32⟩
  | 70 => ⟨S128x32000, .f32⟩
  | 71 => ⟨S128x32000, .f32⟩
  | 72 => ⟨S_, .f32⟩
  | 73 => ⟨S128, .f32⟩
  | 74 => ⟨S_, .f32⟩
  | 75 => ⟨S128, .f32⟩
  | 76 => ⟨S128, .f32⟩
  | 77 => ⟨S128x1, .f32⟩
  | 78 => ⟨S128x32000, .f32⟩
  | 79 => ⟨S128x32000, .f32⟩
  | 80 => ⟨S128x32000, .f32⟩
  | 81 => ⟨S_, .f32⟩
  | 82 => ⟨S128, .f32⟩
  | 83 => ⟨S128x1, .f32⟩
  | 84 => ⟨S128x1, .f32⟩
  | 85 => ⟨S128x32000, .f32⟩
  | 86 => ⟨S128x32000, .f32⟩
  | 87 => ⟨S_, .i32⟩
  | 88 => ⟨S128x1, .i32⟩
  | 89 => ⟨S128x1, .i1⟩
  | 90 => ⟨S_, .i32⟩
  | 91 => ⟨S128x1, .i32⟩
  | 92 => ⟨S128x1, .i32⟩
  | 93 => ⟨S128x1, .i32⟩
  | 94 => ⟨S128x1x1, .i32⟩
  | 95 => ⟨S1, .i32⟩
  | 96 => ⟨S_, .i32⟩
  | 97 => ⟨S128x1x1, .i32⟩
  | 98 => ⟨S128x1x1, .i1⟩
  | 99 => ⟨S1x1x1, .i32⟩
  | 100 => ⟨S128x1x1, .i32⟩
  | 101 => ⟨S128x1x1, .i1⟩
  | 102 => ⟨S128x1x1, .i1⟩
  | 103 => ⟨S_, .i1⟩
  | 104 => ⟨S128x1, .i1⟩
  | 105 => ⟨S128x1, .f32⟩
  | 106 => ⟨S_, .f32⟩
  | 107 => ⟨S128x1, .f32⟩
  | 108 => ⟨S128x1, .f32⟩
  | 109 => ⟨S128, .f32⟩
  | 110 => ⟨S128, .f32⟩
  | 111 => ⟨S128x14, .i32⟩
  | 112 => ⟨S128x1, .i32⟩
  | 113 => ⟨S128, .i32⟩
  | 114 => ⟨S_, .i32⟩
  | 115 => ⟨S128x16, .i32⟩
  | 116 => ⟨S128x16, .i1⟩
  | 117 => ⟨S_, .i32⟩
  | 118 => ⟨S128x16, .i32⟩
  | 119 => ⟨S128x16, .i32⟩
  | 120 => ⟨S128x16, .i32⟩
  | 121 => ⟨S128x16x1, .i32⟩
  | 122 => ⟨S1, .i32⟩
  | 123 => ⟨S_, .i32⟩
  | 124 => ⟨S128x16x1, .i32⟩
  | 125 => ⟨S128x16x1, .i1⟩
  | 126 => ⟨S1x1x1, .i32⟩
  | 127 => ⟨S128x16x1, .i32⟩
  | _ => ⟨S128x16, .i32⟩

abbrev hbmTy0_14 (i : Nat) : BufTy := match i % 128 with
  | 0 => ⟨S128x16x1, .i1⟩
  | 1 => ⟨S128x16x1, .i1⟩
  | 2 => ⟨S_, .i1⟩
  | 3 => ⟨S128x16, .i1⟩
  | 4 => ⟨S128x16x1024, .f32⟩
  | 5 => ⟨S128x16x1024, .i1⟩
  | 6 => ⟨S_, .f32⟩
  | 7 => ⟨S128x16x1024, .f32⟩
  | 8 => ⟨S128x16x1024, .f32⟩
  | 9 => ⟨S_, .f32⟩
  | 10 => ⟨S128x1024, .f32⟩
  | 11 => ⟨S_, .f32⟩
  | 12 => ⟨S128x1024, .f32⟩
  | 13 => ⟨S128x1024, .f32⟩
  | 14 => ⟨S_, .i32⟩
  | 15 => ⟨S128, .i32⟩
  | 16 => ⟨S128, .i1⟩
  | 17 => ⟨S_, .i32⟩
  | 18 => ⟨S128, .i32⟩
  | 19 => ⟨S128, .i32⟩
  | 20 => ⟨S128, .i32⟩
  | 21 => ⟨S128x1, .i32⟩
  | 22 => ⟨S1, .i32⟩
  | 23 => ⟨S_, .i32⟩
  | 24 => ⟨S128x1, .i32⟩
  | 25 => ⟨S128x1, .i1⟩
  | 26 => ⟨S1x1, .i32⟩
  | 27 => ⟨S128x1, .i32⟩
  | 28 => ⟨S128x1, .i1⟩
  | 29 => ⟨S128x1, .i1⟩
  | 30 => ⟨S_, .i1⟩
  | 31 => ⟨S128, .i1⟩
  | 32 => ⟨S128x1024, .f32⟩
  | 33 => ⟨S128x1024, .i1⟩
  | 34 => ⟨S_, .f32⟩
  | 35 => ⟨S128x1024, .f32⟩
  | 36 => ⟨S128x1024, .f32⟩
  | 37 => ⟨S128x1024, .f32⟩
  | 38 => ⟨S128x1024, .f32⟩
  | 39 => ⟨S128x1024, .f32⟩
  | 40 => ⟨S128x32000, .f32⟩
  | 41 => ⟨S_, .f32⟩
  | 42 => ⟨S128x32000, .f32⟩
  | 43 => ⟨S128x32000, .f32⟩
  | 44 => ⟨S_, .f32⟩
  | 45 => ⟨S128, .f32⟩
  | 46 => ⟨S_, .f32⟩
  | 47 => ⟨S128, .f32⟩
  | 48 => ⟨S128, .f32⟩
  | 49 => ⟨S128x1, .f32⟩
  | 50 => ⟨S128x32000, .f32⟩
  | 51 => ⟨S128x32000, .f32⟩
  | 52 => ⟨S128x32000, .f32⟩
  | 53 => ⟨S_, .f32⟩
  | 54 => ⟨S128, .f32⟩
  | 55 => ⟨S128x1, .f32⟩
  | 56 => ⟨S128x32000, .f32⟩
  | 57 => ⟨S128x32000, .f32⟩
  | 58 => ⟨S1x128x1, .f32⟩
  | 59 => ⟨S128x1, .f32⟩
  | 60 => ⟨S_, .f32⟩
  | 61 => ⟨S_, .f32⟩
  | 62 => ⟨S128x32000, .f32⟩
  | 63 => ⟨S128x32000, .f32⟩
  | 64 => ⟨S128x32000, .i1⟩
  | 65 => ⟨S128x32000, .i32⟩
  | 66 => ⟨S_, .i32⟩
  | 67 => ⟨S128, .i32⟩
  | 68 => ⟨S128x1, .i32⟩
  | 69 => ⟨S_, .i32⟩
  | 70 => ⟨S_, .i32⟩
  | 71 => ⟨S_, .i32⟩
  | 72 => ⟨S128x1, .i32⟩
  | 73 => ⟨S128x1, .i32⟩
  | 74 => ⟨S_, .i32⟩
  | 75 => ⟨S128x1, .i32⟩
  | 76 => ⟨S128x1, .i32⟩
  | 77 => ⟨S_, .f32⟩
  | 78 => ⟨S128x32000, .f32⟩
  | 79 => ⟨S128x32000, .f32⟩
  | 80 => ⟨S_, .f32⟩
  | 81 => ⟨S128, .f32⟩
  | 82 => ⟨S_, .f32⟩
  | 83 => ⟨S128, .f32⟩
  | 84 => ⟨S128, .f32⟩
  | 85 => ⟨S128x1, .f32⟩
  | 86 => ⟨S128x32000, .f32⟩
  | 87 => ⟨S128x32000, .f32⟩
  | 88 => ⟨S128x32000, .f32⟩
  | 89 => ⟨S_, .f32⟩
  | 90 => ⟨S128, .f32⟩
  | 91 => ⟨S128x1, .f32⟩
  | 92 => ⟨S128x1, .f32⟩
  | 93 => ⟨S128x32000, .f32⟩
  | 94 => ⟨S128x32000, .f32⟩
  | 95 => ⟨S_, .i32⟩
  | 96 => ⟨S128x1, .i32⟩
  | 97 => ⟨S128x1, .i1⟩
  | 98 => ⟨S_, .i32⟩
  | 99 => ⟨S128x1, .i32⟩
  | 100 => ⟨S128x1, .i32⟩
  | 101 => ⟨S128x1, .i32⟩
  | 102 => ⟨S128x1x1, .i32⟩
  | 103 => ⟨S1, .i32⟩
  | 104 => ⟨S_, .i32⟩
  | 105 => ⟨S128x1x1, .i32⟩
  | 106 => ⟨S128x1x1, .i1⟩
  | 107 => ⟨S1x1x1, .i32⟩
  | 108 => ⟨S128x1x1, .i32⟩
  | 109 => ⟨S128x1x1, .i1⟩
  | 110 => ⟨S128x1x1, .i1⟩
  | 111 => ⟨S_, .i1⟩
  | 112 => ⟨S128x1, .i1⟩
  | 113 => ⟨S128x1, .f32⟩
  | 114 => ⟨S_, .f32⟩
  | 115 => ⟨S128x1, .f32⟩
  | 116 => ⟨S128x1, .f32⟩
  | 117 => ⟨S128, .f32⟩
  | 118 => ⟨S128, .f32⟩
  | 119 => ⟨S128x15, .i32⟩
  | 120 => ⟨S128x1, .i32⟩
  | 121 => ⟨S128, .i32⟩
  | 122 => ⟨S_, .i32⟩
  | 123 => ⟨S128x16, .i32⟩
  | 124 => ⟨S128x16, .i1⟩
  | 125 => ⟨S_, .i32⟩
  | 126 => ⟨S128x16, .i32⟩
  | 127 => ⟨S128x16, .i32⟩
  | _ => ⟨S128x16, .i32⟩

abbrev hbmTy0_15 (i : Nat) : BufTy := match i % 128 with
  | 0 => ⟨S128x16, .i32⟩
  | 1 => ⟨S128x16x1, .i32⟩
  | 2 => ⟨S1, .i32⟩
  | 3 => ⟨S_, .i32⟩
  | 4 => ⟨S128x16x1, .i32⟩
  | 5 => ⟨S128x16x1, .i1⟩
  | 6 => ⟨S1x1x1, .i32⟩
  | 7 => ⟨S128x16x1, .i32⟩
  | 8 => ⟨S128x16x1, .i1⟩
  | 9 => ⟨S128x16x1, .i1⟩
  | 10 => ⟨S_, .i1⟩
  | 11 => ⟨S128x16, .i1⟩
  | 12 => ⟨S128x16x1024, .f32⟩
  | 13 => ⟨S128x16x1024, .i1⟩
  | 14 => ⟨S_, .f32⟩
  | 15 => ⟨S128x16x1024, .f32⟩
  | 16 => ⟨S128x16x1024, .f32⟩
  | 17 => ⟨S_, .f32⟩
  | 18 => ⟨S128x1024, .f32⟩
  | 19 => ⟨S_, .f32⟩
  | 20 => ⟨S128x1024, .f32⟩
  | 21 => ⟨S128x1024, .f32⟩
  | 22 => ⟨S_, .i32⟩
  | 23 => ⟨S128, .i32⟩
  | 24 => ⟨S128, .i1⟩
  | 25 => ⟨S_, .i32⟩
  | 26 => ⟨S128, .i32⟩
  | 27 => ⟨S128, .i32⟩
  | 28 => ⟨S128, .i32⟩
  | 29 => ⟨S128x1, .i32⟩
  | 30 => ⟨S1, .i32⟩
  | 31 => ⟨S_, .i32⟩
  | 32 => ⟨S128x1, .i32⟩
  | 33 => ⟨S128x1, .i1⟩
  | 34 => ⟨S1x1, .i32⟩
  | 35 => ⟨S128x1, .i32⟩
  | 36 => ⟨S128x1, .i1⟩
  | 37 => ⟨S128x1, .i1⟩
  | 38 => ⟨S_, .i1⟩
  | 39 => ⟨S128, .i1⟩
  | 40 => ⟨S128x1024, .f32⟩
  | 41 => ⟨S128x1024, .i1⟩
  | 42 => ⟨S_, .f32⟩
  | 43 => ⟨S128x1024, .f32⟩
  | 44 => ⟨S128x1024, .f32⟩
  | 45 => ⟨S128x1024, .f32⟩
  | 46 => ⟨S128x1024, .f32⟩
  | 47 => ⟨S128x1024, .f32⟩
  | 48 => ⟨S128x32000, .f32⟩
  | 49 => ⟨S_, .f32⟩
  | 50 => ⟨S128x32000, .f32⟩
  | 51 => ⟨S128x32000, .f32⟩
  | 52 => ⟨S_, .f32⟩
  | 53 => ⟨S128, .f32⟩
  | 54 => ⟨S_, .f32⟩
  | 55 => ⟨S128, .f32⟩
  | 56 => ⟨S128, .f32⟩
  | 57 => ⟨S128x1, .f32⟩
  | 58 => ⟨S128x32000, .f32⟩
  | 59 => ⟨S128x32000, .f32⟩
  | 60 => ⟨S128x32000, .f32⟩
  | 61 => ⟨S_, .f32⟩
  | 62 => ⟨S128, .f32⟩
  | 63 => ⟨S128x1, .f32⟩
  | 64 => ⟨S128x32000, .f32⟩
  | 65 => ⟨S128x32000, .f32⟩
  | 66 => ⟨S1x128x1, .f32⟩
  | 67 => ⟨S128x1, .f32⟩
  | 68 => ⟨S_, .f32⟩
  | 69 => ⟨S_, .f32⟩
  | 70 => ⟨S128x32000, .f32⟩
  | 71 => ⟨S128x32000, .f32⟩
  | 72 => ⟨S128x32000, .i1⟩
  | 73 => ⟨S128x32000, .i32⟩
  | 74 => ⟨S_, .i32⟩
  | 75 => ⟨S128, .i32⟩
  | 76 => ⟨S128x1, .i32⟩
  | 77 => ⟨S_, .i32⟩
  | 78 => ⟨S_, .i32⟩
  | 79 => ⟨S_, .i32⟩
  | 80 => ⟨S128x1, .i32⟩
  | 81 => ⟨S128x1, .i32⟩
  | 82 => ⟨S_, .i32⟩
  | 83 => ⟨S128x1, .i32⟩
  | 84 => ⟨S128x1, .i32⟩
  | 85 => ⟨S_, .f32⟩
  | 86 => ⟨S128x32000, .f32⟩
  | 87 => ⟨S128x32000, .f32⟩
  | 88 => ⟨S_, .f32⟩
  | 89 => ⟨S128, .f32⟩
  | 90 => ⟨S_, .f32⟩
  | 91 => ⟨S128, .f32⟩
  | 92 => ⟨S128, .f32⟩
  | 93 => ⟨S128x1, .f32⟩
  | 94 => ⟨S128x32000, .f32⟩
  | 95 => ⟨S128x32000, .f32⟩
  | 96 => ⟨S128x32000, .f32⟩
  | 97 => ⟨S_, .f32⟩
  | 98 => ⟨S128, .f32⟩
  | 99 => ⟨S128x1, .f32⟩
  | 100 => ⟨S128x1, .f32⟩
  | 101 => ⟨S128x32000, .f32⟩
  | 102 => ⟨S128x32000, .f32⟩
  | 103 => ⟨S_, .i32⟩
  | 104 => ⟨S128x1, .i32⟩
  | 105 => ⟨S128x1, .i1⟩
  | 106 => ⟨S_, .i32⟩
  | 107 => ⟨S128x1, .i32⟩
  | 108 => ⟨S128x1, .i32⟩
  | 109 => ⟨S128x1, .i32⟩
  | 110 => ⟨S128x1x1, .i32⟩
  | 111 => ⟨S1, .i32⟩
  | 112 => ⟨S_, .i32⟩
  | 113 => ⟨S128x1x1, .i32⟩
  | 114 => ⟨S128x1x1, .i1⟩
  | 115 => ⟨S1x1x1, .i32⟩
  | 116 => ⟨S128x1x1, .i32⟩
  | 117 => ⟨S128x1x1, .i1⟩
  | 118 => ⟨S128x1x1, .i1⟩
  | 119 => ⟨S_, .i1⟩
  | 120 => ⟨S128x1, .i1⟩
  | 121 => ⟨S128x1, .f32⟩
  | 122 => ⟨S_, .f32⟩
  | 123 => ⟨S128x1, .f32⟩
  | 124 => ⟨S128x1, .f32⟩
  | 125 => ⟨S128, .f32⟩
  | 126 => ⟨S128, .f32⟩
  | 127 => ⟨S128x16, .i32⟩
  | _ => ⟨S128x16, .i32⟩

abbrev hbmTy0_16 (i : Nat) : BufTy := match i % 128 with
  | 0 => ⟨S128x1, .i32⟩
  | 1 => ⟨S128, .i32⟩
  | 2 => ⟨S_, .i32⟩
  | 3 => ⟨S128x16, .i32⟩
  | 4 => ⟨S128x16, .i1⟩
  | 5 => ⟨S_, .i32⟩
  | 6 => ⟨S128x16, .i32⟩
  | 7 => ⟨S128x16, .i32⟩
  | 8 => ⟨S128x16, .i32⟩
  | 9 => ⟨S128x16x1, .i32⟩
  | 10 => ⟨S1, .i32⟩
  | 11 => ⟨S_, .i32⟩
  | 12 => ⟨S128x16x1, .i32⟩
  | 13 => ⟨S128x16x1, .i1⟩
  | 14 => ⟨S1x1x1, .i32⟩
  | 15 => ⟨S128x16x1, .i32⟩
  | 16 => ⟨S128x16x1, .i1⟩
  | 17 => ⟨S128x16x1, .i1⟩
  | 18 => ⟨S_, .i1⟩
  | 19 => ⟨S128x16, .i1⟩
  | 20 => ⟨S128x16x1024, .f32⟩
  | 21 => ⟨S128x16x1024, .i1⟩
  | 22 => ⟨S_, .f32⟩
  | 23 => ⟨S128x16x1024, .f32⟩
  | 24 => ⟨S128x16x1024, .f32⟩
  | 25 => ⟨S_, .f32⟩
  | 26 => ⟨S128x1024, .f32⟩
  | 27 => ⟨S_, .f32⟩
  | 28 => ⟨S128x1024, .f32⟩
  | 29 => ⟨S128x1024, .f32⟩
  | 30 => ⟨S_, .i32⟩
  | 31 => ⟨S128, .i32⟩
  | 32 => ⟨S128, .i1⟩
  | 33 => ⟨S_, .i32⟩
  | 34 => ⟨S128, .i32⟩
  | 35 => ⟨S128, .i32⟩
  | 36 => ⟨S128, .i32⟩
  | 37 => ⟨S128x1, .i32⟩
  | 38 => ⟨S1, .i32⟩
  | 39 => ⟨S_, .i32⟩
  | 40 => ⟨S128x1, .i32⟩
  | 41 => ⟨S128x1, .i1⟩
  | 42 => ⟨S1x1, .i32⟩
  | 43 => ⟨S128x1, .i32⟩
  | 44 => ⟨S128x1, .i1⟩
  | 45 => ⟨S128x1, .i1⟩
  | 46 => ⟨S_, .i1⟩
  | 47 => ⟨S128, .i1⟩
  | 48 => ⟨S128x1024, .f32⟩
  | 49 => ⟨S128x1024, .i1⟩
  | 50 => ⟨S_, .f32⟩
  | 51 => ⟨S128x1024, .f32⟩
  | 52 => ⟨S128x1024, .f32⟩
  | 53 => ⟨S128x1024, .f32⟩
  | 54 => ⟨S128x1024, .f32⟩
  | 55 => ⟨S128x1024, .f32⟩
  | 56 => ⟨S128x32000, .f32⟩
  | 57 => ⟨S_, .f32⟩
  | 58 => ⟨S128x32000, .f32⟩
  | 59 => ⟨S128x32000, .f32⟩
  | 60 => ⟨S_, .f32⟩
  | 61 => ⟨S128, .f32⟩
  | 62 => ⟨S_, .f32⟩
  | 63 => ⟨S128, .f32⟩
  | 64 => ⟨S128, .f32⟩
  | 65 => ⟨S128x1, .f32⟩
  | 66 => ⟨S128x32000, .f32⟩
  | 67 => ⟨S128x32000, .f32⟩
  | 68 => ⟨S128x32000, .f32⟩
  | 69 => ⟨S_, .f32⟩
  | 70 => ⟨S128, .f32⟩
  | 71 => ⟨S128x1, .f32⟩
  | 72 => ⟨S128x32000, .f32⟩
  | 73 => ⟨S128x32000, .f32⟩
  | 74 => ⟨S1x128x1, .f32⟩
  | 75 => ⟨S128x1, .f32⟩
  | 76 => ⟨S_, .f32⟩
  | 77 => ⟨S_, .f32⟩
  | 78 => ⟨S128x32000, .f32⟩
  | 79 => ⟨S128x32000, .f32⟩
  | 80 => ⟨S128x32000, .i1⟩
  | 81 => ⟨S128x32000, .i32⟩
  | 82 => ⟨S_, .i32⟩
  | 83 => ⟨S128, .i32⟩
  | 84 => ⟨S128x1, .i32⟩
  | 85 => ⟨S_, .i32⟩
  | 86 => ⟨S_, .i32⟩
  | 87 => ⟨S_, .i32⟩
  | 88 => ⟨S128x1, .i32⟩
  | 89 => ⟨S128x1, .i32⟩
  | 90 => ⟨S_, .i32⟩
  | 91 => ⟨S128x1, .i32⟩
  | 92 => ⟨S128x1, .i32⟩
  | 93 => ⟨S_, .f32⟩
  | 94 => ⟨S128x32000, .f32⟩
  | 95 => ⟨S128x32000, .f32⟩
  | 96 => ⟨S_, .f32⟩
  | 97 => ⟨S128, .f32⟩
  | 98 => ⟨S_, .f32⟩
  | 99 => ⟨S128, .f32⟩
  | 100 => ⟨S128, .f32⟩
  | 101 => ⟨S128x1, .f32⟩
  | 102 => ⟨S128x32000, .f32⟩
  | 103 => ⟨S128x32000, .f32⟩
  | 104 => ⟨S128x32000, .f32⟩
  | 105 => ⟨S_, .f32⟩
  | 106 => ⟨S128, .f32⟩
  | 107 => ⟨S128x1, .f32⟩
  | 108 => ⟨S128x1, .f32⟩
  | 109 => ⟨S128x32000, .f32⟩
  | 110 => ⟨S128x32000, .f32⟩
  | 111 => ⟨S_, .i32⟩
  | 112 => ⟨S128x1, .i32⟩
  | 113 => ⟨S128x1, .i1⟩
  | 114 => ⟨S_, .i32⟩
  | 115 => ⟨S128x1, .i32⟩
  | 116 => ⟨S128x1, .i32⟩
  | 117 => ⟨S128x1, .i32⟩
  | 118 => ⟨S128x1x1, .i32⟩
  | 119 => ⟨S1, .i32⟩
  | 120 => ⟨S_, .i32⟩
  | 121 => ⟨S128x1x1, .i32⟩
  | 122 => ⟨S128x1x1, .i1⟩
  | 123 => ⟨S1x1x1, .i32⟩
  | 124 => ⟨S128x1x1, .i32⟩
  | 125 => ⟨S128x1x1, .i1⟩
  | 126 => ⟨S128x1x1, .i1⟩
  | 127 => ⟨S_, .i1⟩
  | _ => ⟨S128x16, .i32⟩

abbrev hbmTy0_17 (i : Nat) : BufTy := match i % 128 with
  | 0 => ⟨S128x1, .i1⟩
  | 1 => ⟨S128x1, .f32⟩
  | 2 => ⟨S_, .f32⟩
  | 3 => ⟨S128x1, .f32⟩
  | 4 => ⟨S128x1, .f32⟩
  | 5 => ⟨S128, .f32⟩
  | 6 => ⟨S128, .f32⟩
  | 7 => ⟨S128x17, .i32⟩
  | _ => ⟨S128x16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | _ => ⟨S128x16, .i32⟩

abbrev bufTy : (tb : Table) → Fin (tcTables nBuf tb) → BufTy
  | .hbm, ⟨i, _⟩ => hbmTy i
  | _, _ => ⟨S128x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_cst_0 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_cst_2 : Ref sig .tc := ⟨.hbm, 65, rfl⟩
abbrev main_v12 : Ref sig .tc := ⟨.hbm, 66, rfl⟩
abbrev main_v13 : Ref sig .tc := ⟨.hbm, 67, rfl⟩
abbrev main_cst_3 : Ref sig .tc := ⟨.hbm, 68, rfl⟩
abbrev main_v14 : Ref sig .tc := ⟨.hbm, 69, rfl⟩
abbrev main_cst_4 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_5 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_call2_call0_cst : Ref sig .tc := ⟨.hbm, 84, rfl⟩
abbrev main_call2_call0_v0 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_c_6 : Ref sig .tc := ⟨.hbm, 90, rfl⟩
abbrev main_v31 : Ref sig .tc := ⟨.hbm, 91, rfl⟩
abbrev main_v32 : Ref sig .tc := ⟨.hbm, 92, rfl⟩
abbrev main_c_7 : Ref sig .tc := ⟨.hbm, 93, rfl⟩
abbrev main_c_8 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_v33 : Ref sig .tc := ⟨.hbm, 100, rfl⟩
abbrev main_cst_9 : Ref sig .tc := ⟨.hbm, 101, rfl⟩
abbrev main_v34 : Ref sig .tc := ⟨.hbm, 102, rfl⟩
abbrev main_v35 : Ref sig .tc := ⟨.hbm, 103, rfl⟩
abbrev main_call4_cst : Ref sig .tc := ⟨.hbm, 104, rfl⟩
abbrev main_call4_v0 : Ref sig .tc := ⟨.hbm, 105, rfl⟩
abbrev main_call4_cst_0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_cst_1 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_v36 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_cst : Ref sig .tc := ⟨.hbm, 138, rfl⟩
abbrev main_call5_v14 : Ref sig .tc := ⟨.hbm, 139, rfl⟩
abbrev main_v37 : Ref sig .tc := ⟨.hbm, 140, rfl⟩
abbrev main_v38 : Ref sig .tc := ⟨.hbm, 141, rfl⟩
abbrev main_v39 : Ref sig .tc := ⟨.hbm, 142, rfl⟩
abbrev main_v40 : Ref sig .tc := ⟨.hbm, 143, rfl⟩
abbrev main_v41 : Ref sig .tc := ⟨.hbm, 144, rfl⟩
abbrev main_v42 : Ref sig .tc := ⟨.hbm, 145, rfl⟩
abbrev main_call6_c : Ref sig .tc := ⟨.hbm, 146, rfl⟩
abbrev main_call6_v0 : Ref sig .tc := ⟨.hbm, 147, rfl⟩
abbrev main_call6_v1 : Ref sig .tc := ⟨.hbm, 148, rfl⟩
abbrev main_call6_c_0 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_c_1 : Ref sig .tc := ⟨.hbm, 154, rfl⟩
abbrev main_call6_c_2 : Ref sig .tc := ⟨.hbm, 155, rfl⟩
abbrev main_call6_v6 : Ref sig .tc := ⟨.hbm, 156, rfl⟩
abbrev main_call6_v7 : Ref sig .tc := ⟨.hbm, 157, rfl⟩
abbrev main_call6_v8 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_c_3 : Ref sig .tc := ⟨.hbm, 162, rfl⟩
abbrev main_call6_v12 : Ref sig .tc := ⟨.hbm, 163, rfl⟩
abbrev main_call6_v13 : Ref sig .tc := ⟨.hbm, 164, rfl⟩
abbrev main_call6_v14 : Ref sig .tc := ⟨.hbm, 165, rfl⟩
abbrev main_call6_cst : Ref sig .tc := ⟨.hbm, 166, rfl⟩
abbrev main_call6_v15 : Ref sig .tc := ⟨.hbm, 167, rfl⟩
abbrev main_v43 : Ref sig .tc := ⟨.hbm, 168, rfl⟩
abbrev main_cst_10 : Ref sig .tc := ⟨.hbm, 169, rfl⟩
abbrev main_v44 : Ref sig .tc := ⟨.hbm, 170, rfl⟩
abbrev main_cst_11 : Ref sig .tc := ⟨.hbm, 171, rfl⟩
abbrev main_v45 : Ref sig .tc := ⟨.hbm, 172, rfl⟩
abbrev main_v46 : Ref sig .tc := ⟨.hbm, 173, rfl⟩
abbrev main_call7_c : Ref sig .tc := ⟨.hbm, 174, rfl⟩
abbrev main_call7_v0 : Ref sig .tc := ⟨.hbm, 175, rfl⟩
abbrev main_call7_v1 : Ref sig .tc := ⟨.hbm, 176, rfl⟩
abbrev main_call7_c_0 : Ref sig .tc := ⟨.hbm, 177, rfl⟩
abbrev main_call7_v2 : Ref sig .tc := ⟨.hbm, 178, rfl⟩
abbrev main_call7_v3 : Ref sig .tc := ⟨.hbm, 179, rfl⟩
abbrev main_call7_v4 : Ref sig .tc := ⟨.hbm, 180, rfl⟩
abbrev main_call7_v5 : Ref sig .tc := ⟨.hbm, 181, rfl⟩
abbrev main_call7_c_1 : Ref sig .tc := ⟨.hbm, 182, rfl⟩
abbrev main_call7_c_2 : Ref sig .tc := ⟨.hbm, 183, rfl⟩
abbrev main_call7_v6 : Ref sig .tc := ⟨.hbm, 184, rfl⟩
abbrev main_call7_v7 : Ref sig .tc := ⟨.hbm, 185, rfl⟩
abbrev main_call7_v8 : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_call7_c_3 : Ref sig .tc := ⟨.hbm, 190, rfl⟩
abbrev main_call7_v12 : Ref sig .tc := ⟨.hbm, 191, rfl⟩
abbrev main_call7_v13 : Ref sig .tc := ⟨.hbm, 192, rfl⟩
abbrev main_call7_v14 : Ref sig .tc := ⟨.hbm, 193, rfl⟩
abbrev main_call7_cst : Ref sig .tc := ⟨.hbm, 194, rfl⟩
abbrev main_call7_v15 : Ref sig .tc := ⟨.hbm, 195, rfl⟩
abbrev main_v47 : Ref sig .tc := ⟨.hbm, 196, rfl⟩
abbrev main_v48 : Ref sig .tc := ⟨.hbm, 197, rfl⟩
abbrev main_v49 : Ref sig .tc := ⟨.hbm, 198, rfl⟩
abbrev main_v50 : Ref sig .tc := ⟨.hbm, 199, rfl⟩
abbrev main_v51 : Ref sig .tc := ⟨.hbm, 200, rfl⟩
abbrev main_cst_12 : Ref sig .tc := ⟨.hbm, 201, rfl⟩
abbrev main_v52 : Ref sig .tc := ⟨.hbm, 202, rfl⟩
abbrev main_v53 : Ref sig .tc := ⟨.hbm, 203, rfl⟩
abbrev main_cst_13 : Ref sig .tc := ⟨.hbm, 204, rfl⟩
abbrev main_v54 : Ref sig .tc := ⟨.hbm, 205, rfl⟩
abbrev main_cst_14 : Ref sig .tc := ⟨.hbm, 206, rfl⟩
abbrev main_v55 : Ref sig .tc := ⟨.hbm, 207, rfl⟩
abbrev main_v56 : Ref sig .tc := ⟨.hbm, 208, rfl⟩
abbrev main_v57 : Ref sig .tc := ⟨.hbm, 209, rfl⟩
abbrev main_v58 : Ref sig .tc := ⟨.hbm, 210, rfl⟩
abbrev main_v59 : Ref sig .tc := ⟨.hbm, 211, rfl⟩
abbrev main_v60 : Ref sig .tc := ⟨.hbm, 212, rfl⟩
abbrev main_cst_15 : Ref sig .tc := ⟨.hbm, 213, rfl⟩
abbrev main_v61 : Ref sig .tc := ⟨.hbm, 214, rfl⟩
abbrev main_v62 : Ref sig .tc := ⟨.hbm, 215, rfl⟩
abbrev main_v63 : Ref sig .tc := ⟨.hbm, 216, rfl⟩
abbrev main_v64 : Ref sig .tc := ⟨.hbm, 217, rfl⟩
abbrev main_v65 : Ref sig .tc := ⟨.hbm, 218, rfl⟩
abbrev main_v66 : Ref sig .tc := ⟨.hbm, 219, rfl⟩
abbrev main_call8_call0_cst : Ref sig .tc := ⟨.hbm, 220, rfl⟩
abbrev main_call8_call0_v0 : Ref sig .tc := ⟨.hbm, 221, rfl⟩
abbrev main_v67 : Ref sig .tc := ⟨.hbm, 222, rfl⟩
abbrev main_v68 : Ref sig .tc := ⟨.hbm, 223, rfl⟩
abbrev main_v69 : Ref sig .tc := ⟨.hbm, 224, rfl⟩
abbrev main_v70 : Ref sig .tc := ⟨.hbm, 225, rfl⟩
abbrev main_c_16 : Ref sig .tc := ⟨.hbm, 226, rfl⟩
abbrev main_v71 : Ref sig .tc := ⟨.hbm, 227, rfl⟩
abbrev main_v72 : Ref sig .tc := ⟨.hbm, 228, rfl⟩
abbrev main_c_17 : Ref sig .tc := ⟨.hbm, 229, rfl⟩
abbrev main_c_18 : Ref sig .tc := ⟨.hbm, 230, rfl⟩
abbrev main_call9_v0 : Ref sig .tc := ⟨.hbm, 231, rfl⟩
abbrev main_call9_v1 : Ref sig .tc := ⟨.hbm, 232, rfl⟩
abbrev main_call9_v2 : Ref sig .tc := ⟨.hbm, 233, rfl⟩
abbrev main_call9_v3 : Ref sig .tc := ⟨.hbm, 234, rfl⟩
abbrev main_call9_v4 : Ref sig .tc := ⟨.hbm, 235, rfl⟩
abbrev main_v73 : Ref sig .tc := ⟨.hbm, 236, rfl⟩
abbrev main_cst_19 : Ref sig .tc := ⟨.hbm, 237, rfl⟩
abbrev main_v74 : Ref sig .tc := ⟨.hbm, 238, rfl⟩
abbrev main_v75 : Ref sig .tc := ⟨.hbm, 239, rfl⟩
abbrev main_call10_cst : Ref sig .tc := ⟨.hbm, 240, rfl⟩
abbrev main_call10_v0 : Ref sig .tc := ⟨.hbm, 241, rfl⟩
abbrev main_call10_cst_0 : Ref sig .tc := ⟨.hbm, 242, rfl⟩
abbrev main_call10_v1 : Ref sig .tc := ⟨.hbm, 243, rfl⟩
abbrev main_call10_v2 : Ref sig .tc := ⟨.hbm, 244, rfl⟩
abbrev main_call10_v3 : Ref sig .tc := ⟨.hbm, 245, rfl⟩
abbrev main_call10_v4 : Ref sig .tc := ⟨.hbm, 246, rfl⟩
abbrev main_call10_v5 : Ref sig .tc := ⟨.hbm, 247, rfl⟩
abbrev main_call10_v6 : Ref sig .tc := ⟨.hbm, 248, rfl⟩
abbrev main_call10_cst_1 : Ref sig .tc := ⟨.hbm, 249, rfl⟩
abbrev main_call10_v7 : Ref sig .tc := ⟨.hbm, 250, rfl⟩
abbrev main_call10_v8 : Ref sig .tc := ⟨.hbm, 251, rfl⟩
abbrev main_call10_v9 : Ref sig .tc := ⟨.hbm, 252, rfl⟩
abbrev main_call10_v10 : Ref sig .tc := ⟨.hbm, 253, rfl⟩
abbrev main_v76 : Ref sig .tc := ⟨.hbm, 254, rfl⟩
abbrev main_call11_c : Ref sig .tc := ⟨.hbm, 255, rfl⟩
abbrev main_call11_v0 : Ref sig .tc := ⟨.hbm, 256, rfl⟩
abbrev main_call11_v1 : Ref sig .tc := ⟨.hbm, 257, rfl⟩
abbrev main_call11_c_0 : Ref sig .tc := ⟨.hbm, 258, rfl⟩
abbrev main_call11_v2 : Ref sig .tc := ⟨.hbm, 259, rfl⟩
abbrev main_call11_v3 : Ref sig .tc := ⟨.hbm, 260, rfl⟩
abbrev main_call11_v4 : Ref sig .tc := ⟨.hbm, 261, rfl⟩
abbrev main_call11_v5 : Ref sig .tc := ⟨.hbm, 262, rfl⟩
abbrev main_call11_c_1 : Ref sig .tc := ⟨.hbm, 263, rfl⟩
abbrev main_call11_c_2 : Ref sig .tc := ⟨.hbm, 264, rfl⟩
abbrev main_call11_v6 : Ref sig .tc := ⟨.hbm, 265, rfl⟩
abbrev main_call11_v7 : Ref sig .tc := ⟨.hbm, 266, rfl⟩
abbrev main_call11_v8 : Ref sig .tc := ⟨.hbm, 267, rfl⟩
abbrev main_call11_v9 : Ref sig .tc := ⟨.hbm, 268, rfl⟩
abbrev main_call11_v10 : Ref sig .tc := ⟨.hbm, 269, rfl⟩
abbrev main_call11_v11 : Ref sig .tc := ⟨.hbm, 270, rfl⟩
abbrev main_call11_c_3 : Ref sig .tc := ⟨.hbm, 271, rfl⟩
abbrev main_call11_v12 : Ref sig .tc := ⟨.hbm, 272, rfl⟩
abbrev main_call11_v13 : Ref sig .tc := ⟨.hbm, 273, rfl⟩
abbrev main_call11_cst : Ref sig .tc := ⟨.hbm, 274, rfl⟩
abbrev main_call11_v14 : Ref sig .tc := ⟨.hbm, 275, rfl⟩
abbrev main_v77 : Ref sig .tc := ⟨.hbm, 276, rfl⟩
abbrev main_v78 : Ref sig .tc := ⟨.hbm, 277, rfl⟩
abbrev main_v79 : Ref sig .tc := ⟨.hbm, 278, rfl⟩
abbrev main_v80 : Ref sig .tc := ⟨.hbm, 279, rfl⟩
abbrev main_v81 : Ref sig .tc := ⟨.hbm, 280, rfl⟩
abbrev main_v82 : Ref sig .tc := ⟨.hbm, 281, rfl⟩
abbrev main_call12_c : Ref sig .tc := ⟨.hbm, 282, rfl⟩
abbrev main_call12_v0 : Ref sig .tc := ⟨.hbm, 283, rfl⟩
abbrev main_call12_v1 : Ref sig .tc := ⟨.hbm, 284, rfl⟩
abbrev main_call12_c_0 : Ref sig .tc := ⟨.hbm, 285, rfl⟩
abbrev main_call12_v2 : Ref sig .tc := ⟨.hbm, 286, rfl⟩
abbrev main_call12_v3 : Ref sig .tc := ⟨.hbm, 287, rfl⟩
abbrev main_call12_v4 : Ref sig .tc := ⟨.hbm, 288, rfl⟩
abbrev main_call12_v5 : Ref sig .tc := ⟨.hbm, 289, rfl⟩
abbrev main_call12_c_1 : Ref sig .tc := ⟨.hbm, 290, rfl⟩
abbrev main_call12_c_2 : Ref sig .tc := ⟨.hbm, 291, rfl⟩
abbrev main_call12_v6 : Ref sig .tc := ⟨.hbm, 292, rfl⟩
abbrev main_call12_v7 : Ref sig .tc := ⟨.hbm, 293, rfl⟩
abbrev main_call12_v8 : Ref sig .tc := ⟨.hbm, 294, rfl⟩
abbrev main_call12_v9 : Ref sig .tc := ⟨.hbm, 295, rfl⟩
abbrev main_call12_v10 : Ref sig .tc := ⟨.hbm, 296, rfl⟩
abbrev main_call12_v11 : Ref sig .tc := ⟨.hbm, 297, rfl⟩
abbrev main_call12_c_3 : Ref sig .tc := ⟨.hbm, 298, rfl⟩
abbrev main_call12_v12 : Ref sig .tc := ⟨.hbm, 299, rfl⟩
abbrev main_call12_v13 : Ref sig .tc := ⟨.hbm, 300, rfl⟩
abbrev main_call12_v14 : Ref sig .tc := ⟨.hbm, 301, rfl⟩
abbrev main_call12_cst : Ref sig .tc := ⟨.hbm, 302, rfl⟩
abbrev main_call12_v15 : Ref sig .tc := ⟨.hbm, 303, rfl⟩
abbrev main_v83 : Ref sig .tc := ⟨.hbm, 304, rfl⟩
abbrev main_cst_20 : Ref sig .tc := ⟨.hbm, 305, rfl⟩
abbrev main_v84 : Ref sig .tc := ⟨.hbm, 306, rfl⟩
abbrev main_cst_21 : Ref sig .tc := ⟨.hbm, 307, rfl⟩
abbrev main_v85 : Ref sig .tc := ⟨.hbm, 308, rfl⟩
abbrev main_v86 : Ref sig .tc := ⟨.hbm, 309, rfl⟩
abbrev main_call13_c : Ref sig .tc := ⟨.hbm, 310, rfl⟩
abbrev main_call13_v0 : Ref sig .tc := ⟨.hbm, 311, rfl⟩
abbrev main_call13_v1 : Ref sig .tc := ⟨.hbm, 312, rfl⟩
abbrev main_call13_c_0 : Ref sig .tc := ⟨.hbm, 313, rfl⟩
abbrev main_call13_v2 : Ref sig .tc := ⟨.hbm, 314, rfl⟩
abbrev main_call13_v3 : Ref sig .tc := ⟨.hbm, 315, rfl⟩
abbrev main_call13_v4 : Ref sig .tc := ⟨.hbm, 316, rfl⟩
abbrev main_call13_v5 : Ref sig .tc := ⟨.hbm, 317, rfl⟩
abbrev main_call13_c_1 : Ref sig .tc := ⟨.hbm, 318, rfl⟩
abbrev main_call13_c_2 : Ref sig .tc := ⟨.hbm, 319, rfl⟩
abbrev main_call13_v6 : Ref sig .tc := ⟨.hbm, 320, rfl⟩
abbrev main_call13_v7 : Ref sig .tc := ⟨.hbm, 321, rfl⟩
abbrev main_call13_v8 : Ref sig .tc := ⟨.hbm, 322, rfl⟩
abbrev main_call13_v9 : Ref sig .tc := ⟨.hbm, 323, rfl⟩
abbrev main_call13_v10 : Ref sig .tc := ⟨.hbm, 324, rfl⟩
abbrev main_call13_v11 : Ref sig .tc := ⟨.hbm, 325, rfl⟩
abbrev main_call13_c_3 : Ref sig .tc := ⟨.hbm, 326, rfl⟩
abbrev main_call13_v12 : Ref sig .tc := ⟨.hbm, 327, rfl⟩
abbrev main_call13_v13 : Ref sig .tc := ⟨.hbm, 328, rfl⟩
abbrev main_call13_v14 : Ref sig .tc := ⟨.hbm, 329, rfl⟩
abbrev main_call13_cst : Ref sig .tc := ⟨.hbm, 330, rfl⟩
abbrev main_call13_v15 : Ref sig .tc := ⟨.hbm, 331, rfl⟩
abbrev main_v87 : Ref sig .tc := ⟨.hbm, 332, rfl⟩
abbrev main_v88 : Ref sig .tc := ⟨.hbm, 333, rfl⟩
abbrev main_v89 : Ref sig .tc := ⟨.hbm, 334, rfl⟩
abbrev main_v90 : Ref sig .tc := ⟨.hbm, 335, rfl⟩
abbrev main_v91 : Ref sig .tc := ⟨.hbm, 336, rfl⟩
abbrev main_cst_22 : Ref sig .tc := ⟨.hbm, 337, rfl⟩
abbrev main_v92 : Ref sig .tc := ⟨.hbm, 338, rfl⟩
abbrev main_v93 : Ref sig .tc := ⟨.hbm, 339, rfl⟩
abbrev main_cst_23 : Ref sig .tc := ⟨.hbm, 340, rfl⟩
abbrev main_v94 : Ref sig .tc := ⟨.hbm, 341, rfl⟩
abbrev main_cst_24 : Ref sig .tc := ⟨.hbm, 342, rfl⟩
abbrev main_v95 : Ref sig .tc := ⟨.hbm, 343, rfl⟩
abbrev main_v96 : Ref sig .tc := ⟨.hbm, 344, rfl⟩
abbrev main_v97 : Ref sig .tc := ⟨.hbm, 345, rfl⟩
abbrev main_v98 : Ref sig .tc := ⟨.hbm, 346, rfl⟩
abbrev main_v99 : Ref sig .tc := ⟨.hbm, 347, rfl⟩
abbrev main_v100 : Ref sig .tc := ⟨.hbm, 348, rfl⟩
abbrev main_cst_25 : Ref sig .tc := ⟨.hbm, 349, rfl⟩
abbrev main_v101 : Ref sig .tc := ⟨.hbm, 350, rfl⟩
abbrev main_v102 : Ref sig .tc := ⟨.hbm, 351, rfl⟩
abbrev main_v103 : Ref sig .tc := ⟨.hbm, 352, rfl⟩
abbrev main_v104 : Ref sig .tc := ⟨.hbm, 353, rfl⟩
abbrev main_v105 : Ref sig .tc := ⟨.hbm, 354, rfl⟩
abbrev main_v106 : Ref sig .tc := ⟨.hbm, 355, rfl⟩
abbrev main_call14_call0_cst : Ref sig .tc := ⟨.hbm, 356, rfl⟩
abbrev main_call14_call0_v0 : Ref sig .tc := ⟨.hbm, 357, rfl⟩
abbrev main_v107 : Ref sig .tc := ⟨.hbm, 358, rfl⟩
abbrev main_v108 : Ref sig .tc := ⟨.hbm, 359, rfl⟩
abbrev main_v109 : Ref sig .tc := ⟨.hbm, 360, rfl⟩
abbrev main_v110 : Ref sig .tc := ⟨.hbm, 361, rfl⟩
abbrev main_c_26 : Ref sig .tc := ⟨.hbm, 362, rfl⟩
abbrev main_v111 : Ref sig .tc := ⟨.hbm, 363, rfl⟩
abbrev main_v112 : Ref sig .tc := ⟨.hbm, 364, rfl⟩
abbrev main_c_27 : Ref sig .tc := ⟨.hbm, 365, rfl⟩
abbrev main_c_28 : Ref sig .tc := ⟨.hbm, 366, rfl⟩
abbrev main_call15_v0 : Ref sig .tc := ⟨.hbm, 367, rfl⟩
abbrev main_call15_v1 : Ref sig .tc := ⟨.hbm, 368, rfl⟩
abbrev main_call15_v2 : Ref sig .tc := ⟨.hbm, 369, rfl⟩
abbrev main_call15_v3 : Ref sig .tc := ⟨.hbm, 370, rfl⟩
abbrev main_call15_v4 : Ref sig .tc := ⟨.hbm, 371, rfl⟩
abbrev main_v113 : Ref sig .tc := ⟨.hbm, 372, rfl⟩
abbrev main_cst_29 : Ref sig .tc := ⟨.hbm, 373, rfl⟩
abbrev main_v114 : Ref sig .tc := ⟨.hbm, 374, rfl⟩
abbrev main_v115 : Ref sig .tc := ⟨.hbm, 375, rfl⟩
abbrev main_call16_cst : Ref sig .tc := ⟨.hbm, 376, rfl⟩
abbrev main_call16_v0 : Ref sig .tc := ⟨.hbm, 377, rfl⟩
abbrev main_call16_cst_0 : Ref sig .tc := ⟨.hbm, 378, rfl⟩
abbrev main_call16_v1 : Ref sig .tc := ⟨.hbm, 379, rfl⟩
abbrev main_call16_v2 : Ref sig .tc := ⟨.hbm, 380, rfl⟩
abbrev main_call16_v3 : Ref sig .tc := ⟨.hbm, 381, rfl⟩
abbrev main_call16_v4 : Ref sig .tc := ⟨.hbm, 382, rfl⟩
abbrev main_call16_v5 : Ref sig .tc := ⟨.hbm, 383, rfl⟩
abbrev main_call16_v6 : Ref sig .tc := ⟨.hbm, 384, rfl⟩
abbrev main_call16_cst_1 : Ref sig .tc := ⟨.hbm, 385, rfl⟩
abbrev main_call16_v7 : Ref sig .tc := ⟨.hbm, 386, rfl⟩
abbrev main_call16_v8 : Ref sig .tc := ⟨.hbm, 387, rfl⟩
abbrev main_call16_v9 : Ref sig .tc := ⟨.hbm, 388, rfl⟩
abbrev main_call16_v10 : Ref sig .tc := ⟨.hbm, 389, rfl⟩
abbrev main_v116 : Ref sig .tc := ⟨.hbm, 390, rfl⟩
abbrev main_call17_c : Ref sig .tc := ⟨.hbm, 391, rfl⟩
abbrev main_call17_v0 : Ref sig .tc := ⟨.hbm, 392, rfl⟩
abbrev main_call17_v1 : Ref sig .tc := ⟨.hbm, 393, rfl⟩
abbrev main_call17_c_0 : Ref sig .tc := ⟨.hbm, 394, rfl⟩
abbrev main_call17_v2 : Ref sig .tc := ⟨.hbm, 395, rfl⟩
abbrev main_call17_v3 : Ref sig .tc := ⟨.hbm, 396, rfl⟩
abbrev main_call17_v4 : Ref sig .tc := ⟨.hbm, 397, rfl⟩
abbrev main_call17_v5 : Ref sig .tc := ⟨.hbm, 398, rfl⟩
abbrev main_call17_c_1 : Ref sig .tc := ⟨.hbm, 399, rfl⟩
abbrev main_call17_c_2 : Ref sig .tc := ⟨.hbm, 400, rfl⟩
abbrev main_call17_v6 : Ref sig .tc := ⟨.hbm, 401, rfl⟩
abbrev main_call17_v7 : Ref sig .tc := ⟨.hbm, 402, rfl⟩
abbrev main_call17_v8 : Ref sig .tc := ⟨.hbm, 403, rfl⟩
abbrev main_call17_v9 : Ref sig .tc := ⟨.hbm, 404, rfl⟩
abbrev main_call17_v10 : Ref sig .tc := ⟨.hbm, 405, rfl⟩
abbrev main_call17_v11 : Ref sig .tc := ⟨.hbm, 406, rfl⟩
abbrev main_call17_c_3 : Ref sig .tc := ⟨.hbm, 407, rfl⟩
abbrev main_call17_v12 : Ref sig .tc := ⟨.hbm, 408, rfl⟩
abbrev main_call17_v13 : Ref sig .tc := ⟨.hbm, 409, rfl⟩
abbrev main_call17_cst : Ref sig .tc := ⟨.hbm, 410, rfl⟩
abbrev main_call17_v14 : Ref sig .tc := ⟨.hbm, 411, rfl⟩
abbrev main_v117 : Ref sig .tc := ⟨.hbm, 412, rfl⟩
abbrev main_v118 : Ref sig .tc := ⟨.hbm, 413, rfl⟩
abbrev main_v119 : Ref sig .tc := ⟨.hbm, 414, rfl⟩
abbrev main_v120 : Ref sig .tc := ⟨.hbm, 415, rfl⟩
abbrev main_v121 : Ref sig .tc := ⟨.hbm, 416, rfl⟩
abbrev main_v122 : Ref sig .tc := ⟨.hbm, 417, rfl⟩
abbrev main_call18_c : Ref sig .tc := ⟨.hbm, 418, rfl⟩
abbrev main_call18_v0 : Ref sig .tc := ⟨.hbm, 419, rfl⟩
abbrev main_call18_v1 : Ref sig .tc := ⟨.hbm, 420, rfl⟩
abbrev main_call18_c_0 : Ref sig .tc := ⟨.hbm, 421, rfl⟩
abbrev main_call18_v2 : Ref sig .tc := ⟨.hbm, 422, rfl⟩
abbrev main_call18_v3 : Ref sig .tc := ⟨.hbm, 423, rfl⟩
abbrev main_call18_v4 : Ref sig .tc := ⟨.hbm, 424, rfl⟩
abbrev main_call18_v5 : Ref sig .tc := ⟨.hbm, 425, rfl⟩
abbrev main_call18_c_1 : Ref sig .tc := ⟨.hbm, 426, rfl⟩
abbrev main_call18_c_2 : Ref sig .tc := ⟨.hbm, 427, rfl⟩
abbrev main_call18_v6 : Ref sig .tc := ⟨.hbm, 428, rfl⟩
abbrev main_call18_v7 : Ref sig .tc := ⟨.hbm, 429, rfl⟩
abbrev main_call18_v8 : Ref sig .tc := ⟨.hbm, 430, rfl⟩
abbrev main_call18_v9 : Ref sig .tc := ⟨.hbm, 431, rfl⟩
abbrev main_call18_v10 : Ref sig .tc := ⟨.hbm, 432, rfl⟩
abbrev main_call18_v11 : Ref sig .tc := ⟨.hbm, 433, rfl⟩
abbrev main_call18_c_3 : Ref sig .tc := ⟨.hbm, 434, rfl⟩
abbrev main_call18_v12 : Ref sig .tc := ⟨.hbm, 435, rfl⟩
abbrev main_call18_v13 : Ref sig .tc := ⟨.hbm, 436, rfl⟩
abbrev main_call18_v14 : Ref sig .tc := ⟨.hbm, 437, rfl⟩
abbrev main_call18_cst : Ref sig .tc := ⟨.hbm, 438, rfl⟩
abbrev main_call18_v15 : Ref sig .tc := ⟨.hbm, 439, rfl⟩
abbrev main_v123 : Ref sig .tc := ⟨.hbm, 440, rfl⟩
abbrev main_cst_30 : Ref sig .tc := ⟨.hbm, 441, rfl⟩
abbrev main_v124 : Ref sig .tc := ⟨.hbm, 442, rfl⟩
abbrev main_cst_31 : Ref sig .tc := ⟨.hbm, 443, rfl⟩
abbrev main_v125 : Ref sig .tc := ⟨.hbm, 444, rfl⟩
abbrev main_v126 : Ref sig .tc := ⟨.hbm, 445, rfl⟩
abbrev main_call19_c : Ref sig .tc := ⟨.hbm, 446, rfl⟩
abbrev main_call19_v0 : Ref sig .tc := ⟨.hbm, 447, rfl⟩
abbrev main_call19_v1 : Ref sig .tc := ⟨.hbm, 448, rfl⟩
abbrev main_call19_c_0 : Ref sig .tc := ⟨.hbm, 449, rfl⟩
abbrev main_call19_v2 : Ref sig .tc := ⟨.hbm, 450, rfl⟩
abbrev main_call19_v3 : Ref sig .tc := ⟨.hbm, 451, rfl⟩
abbrev main_call19_v4 : Ref sig .tc := ⟨.hbm, 452, rfl⟩
abbrev main_call19_v5 : Ref sig .tc := ⟨.hbm, 453, rfl⟩
abbrev main_call19_c_1 : Ref sig .tc := ⟨.hbm, 454, rfl⟩
abbrev main_call19_c_2 : Ref sig .tc := ⟨.hbm, 455, rfl⟩
abbrev main_call19_v6 : Ref sig .tc := ⟨.hbm, 456, rfl⟩
abbrev main_call19_v7 : Ref sig .tc := ⟨.hbm, 457, rfl⟩
abbrev main_call19_v8 : Ref sig .tc := ⟨.hbm, 458, rfl⟩
abbrev main_call19_v9 : Ref sig .tc := ⟨.hbm, 459, rfl⟩
abbrev main_call19_v10 : Ref sig .tc := ⟨.hbm, 460, rfl⟩
abbrev main_call19_v11 : Ref sig .tc := ⟨.hbm, 461, rfl⟩
abbrev main_call19_c_3 : Ref sig .tc := ⟨.hbm, 462, rfl⟩
abbrev main_call19_v12 : Ref sig .tc := ⟨.hbm, 463, rfl⟩
abbrev main_call19_v13 : Ref sig .tc := ⟨.hbm, 464, rfl⟩
abbrev main_call19_v14 : Ref sig .tc := ⟨.hbm, 465, rfl⟩
abbrev main_call19_cst : Ref sig .tc := ⟨.hbm, 466, rfl⟩
abbrev main_call19_v15 : Ref sig .tc := ⟨.hbm, 467, rfl⟩
abbrev main_v127 : Ref sig .tc := ⟨.hbm, 468, rfl⟩
abbrev main_v128 : Ref sig .tc := ⟨.hbm, 469, rfl⟩
abbrev main_v129 : Ref sig .tc := ⟨.hbm, 470, rfl⟩
abbrev main_v130 : Ref sig .tc := ⟨.hbm, 471, rfl⟩
abbrev main_v131 : Ref sig .tc := ⟨.hbm, 472, rfl⟩
abbrev main_cst_32 : Ref sig .tc := ⟨.hbm, 473, rfl⟩
abbrev main_v132 : Ref sig .tc := ⟨.hbm, 474, rfl⟩
abbrev main_v133 : Ref sig .tc := ⟨.hbm, 475, rfl⟩
abbrev main_cst_33 : Ref sig .tc := ⟨.hbm, 476, rfl⟩
abbrev main_v134 : Ref sig .tc := ⟨.hbm, 477, rfl⟩
abbrev main_cst_34 : Ref sig .tc := ⟨.hbm, 478, rfl⟩
abbrev main_v135 : Ref sig .tc := ⟨.hbm, 479, rfl⟩
abbrev main_v136 : Ref sig .tc := ⟨.hbm, 480, rfl⟩
abbrev main_v137 : Ref sig .tc := ⟨.hbm, 481, rfl⟩
abbrev main_v138 : Ref sig .tc := ⟨.hbm, 482, rfl⟩
abbrev main_v139 : Ref sig .tc := ⟨.hbm, 483, rfl⟩
abbrev main_v140 : Ref sig .tc := ⟨.hbm, 484, rfl⟩
abbrev main_cst_35 : Ref sig .tc := ⟨.hbm, 485, rfl⟩
abbrev main_v141 : Ref sig .tc := ⟨.hbm, 486, rfl⟩
abbrev main_v142 : Ref sig .tc := ⟨.hbm, 487, rfl⟩
abbrev main_v143 : Ref sig .tc := ⟨.hbm, 488, rfl⟩
abbrev main_v144 : Ref sig .tc := ⟨.hbm, 489, rfl⟩
abbrev main_v145 : Ref sig .tc := ⟨.hbm, 490, rfl⟩
abbrev main_v146 : Ref sig .tc := ⟨.hbm, 491, rfl⟩
abbrev main_call20_call0_cst : Ref sig .tc := ⟨.hbm, 492, rfl⟩
abbrev main_call20_call0_v0 : Ref sig .tc := ⟨.hbm, 493, rfl⟩
abbrev main_v147 : Ref sig .tc := ⟨.hbm, 494, rfl⟩
abbrev main_v148 : Ref sig .tc := ⟨.hbm, 495, rfl⟩
abbrev main_v149 : Ref sig .tc := ⟨.hbm, 496, rfl⟩
abbrev main_v150 : Ref sig .tc := ⟨.hbm, 497, rfl⟩
abbrev main_c_36 : Ref sig .tc := ⟨.hbm, 498, rfl⟩
abbrev main_v151 : Ref sig .tc := ⟨.hbm, 499, rfl⟩
abbrev main_v152 : Ref sig .tc := ⟨.hbm, 500, rfl⟩
abbrev main_c_37 : Ref sig .tc := ⟨.hbm, 501, rfl⟩
abbrev main_c_38 : Ref sig .tc := ⟨.hbm, 502, rfl⟩
abbrev main_call21_v0 : Ref sig .tc := ⟨.hbm, 503, rfl⟩
abbrev main_call21_v1 : Ref sig .tc := ⟨.hbm, 504, rfl⟩
abbrev main_call21_v2 : Ref sig .tc := ⟨.hbm, 505, rfl⟩
abbrev main_call21_v3 : Ref sig .tc := ⟨.hbm, 506, rfl⟩
abbrev main_call21_v4 : Ref sig .tc := ⟨.hbm, 507, rfl⟩
abbrev main_v153 : Ref sig .tc := ⟨.hbm, 508, rfl⟩
abbrev main_cst_39 : Ref sig .tc := ⟨.hbm, 509, rfl⟩
abbrev main_v154 : Ref sig .tc := ⟨.hbm, 510, rfl⟩
abbrev main_v155 : Ref sig .tc := ⟨.hbm, 511, rfl⟩
abbrev main_call22_cst : Ref sig .tc := ⟨.hbm, 512, rfl⟩
abbrev main_call22_v0 : Ref sig .tc := ⟨.hbm, 513, rfl⟩
abbrev main_call22_cst_0 : Ref sig .tc := ⟨.hbm, 514, rfl⟩
abbrev main_call22_v1 : Ref sig .tc := ⟨.hbm, 515, rfl⟩
abbrev main_call22_v2 : Ref sig .tc := ⟨.hbm, 516, rfl⟩
abbrev main_call22_v3 : Ref sig .tc := ⟨.hbm, 517, rfl⟩
abbrev main_call22_v4 : Ref sig .tc := ⟨.hbm, 518, rfl⟩
abbrev main_call22_v5 : Ref sig .tc := ⟨.hbm, 519, rfl⟩
abbrev main_call22_v6 : Ref sig .tc := ⟨.hbm, 520, rfl⟩
abbrev main_call22_cst_1 : Ref sig .tc := ⟨.hbm, 521, rfl⟩
abbrev main_call22_v7 : Ref sig .tc := ⟨.hbm, 522, rfl⟩
abbrev main_call22_v8 : Ref sig .tc := ⟨.hbm, 523, rfl⟩
abbrev main_call22_v9 : Ref sig .tc := ⟨.hbm, 524, rfl⟩
abbrev main_call22_v10 : Ref sig .tc := ⟨.hbm, 525, rfl⟩
abbrev main_v156 : Ref sig .tc := ⟨.hbm, 526, rfl⟩
abbrev main_call23_c : Ref sig .tc := ⟨.hbm, 527, rfl⟩
abbrev main_call23_v0 : Ref sig .tc := ⟨.hbm, 528, rfl⟩
abbrev main_call23_v1 : Ref sig .tc := ⟨.hbm, 529, rfl⟩
abbrev main_call23_c_0 : Ref sig .tc := ⟨.hbm, 530, rfl⟩
abbrev main_call23_v2 : Ref sig .tc := ⟨.hbm, 531, rfl⟩
abbrev main_call23_v3 : Ref sig .tc := ⟨.hbm, 532, rfl⟩
abbrev main_call23_v4 : Ref sig .tc := ⟨.hbm, 533, rfl⟩
abbrev main_call23_v5 : Ref sig .tc := ⟨.hbm, 534, rfl⟩
abbrev main_call23_c_1 : Ref sig .tc := ⟨.hbm, 535, rfl⟩
abbrev main_call23_c_2 : Ref sig .tc := ⟨.hbm, 536, rfl⟩
abbrev main_call23_v6 : Ref sig .tc := ⟨.hbm, 537, rfl⟩
abbrev main_call23_v7 : Ref sig .tc := ⟨.hbm, 538, rfl⟩
abbrev main_call23_v8 : Ref sig .tc := ⟨.hbm, 539, rfl⟩
abbrev main_call23_v9 : Ref sig .tc := ⟨.hbm, 540, rfl⟩
abbrev main_call23_v10 : Ref sig .tc := ⟨.hbm, 541, rfl⟩
abbrev main_call23_v11 : Ref sig .tc := ⟨.hbm, 542, rfl⟩
abbrev main_call23_c_3 : Ref sig .tc := ⟨.hbm, 543, rfl⟩
abbrev main_call23_v12 : Ref sig .tc := ⟨.hbm, 544, rfl⟩
abbrev main_call23_v13 : Ref sig .tc := ⟨.hbm, 545, rfl⟩
abbrev main_call23_cst : Ref sig .tc := ⟨.hbm, 546, rfl⟩
abbrev main_call23_v14 : Ref sig .tc := ⟨.hbm, 547, rfl⟩
abbrev main_v157 : Ref sig .tc := ⟨.hbm, 548, rfl⟩
abbrev main_v158 : Ref sig .tc := ⟨.hbm, 549, rfl⟩
abbrev main_v159 : Ref sig .tc := ⟨.hbm, 550, rfl⟩
abbrev main_v160 : Ref sig .tc := ⟨.hbm, 551, rfl⟩
abbrev main_v161 : Ref sig .tc := ⟨.hbm, 552, rfl⟩
abbrev main_v162 : Ref sig .tc := ⟨.hbm, 553, rfl⟩
abbrev main_call24_c : Ref sig .tc := ⟨.hbm, 554, rfl⟩
abbrev main_call24_v0 : Ref sig .tc := ⟨.hbm, 555, rfl⟩
abbrev main_call24_v1 : Ref sig .tc := ⟨.hbm, 556, rfl⟩
abbrev main_call24_c_0 : Ref sig .tc := ⟨.hbm, 557, rfl⟩
abbrev main_call24_v2 : Ref sig .tc := ⟨.hbm, 558, rfl⟩
abbrev main_call24_v3 : Ref sig .tc := ⟨.hbm, 559, rfl⟩
abbrev main_call24_v4 : Ref sig .tc := ⟨.hbm, 560, rfl⟩
abbrev main_call24_v5 : Ref sig .tc := ⟨.hbm, 561, rfl⟩
abbrev main_call24_c_1 : Ref sig .tc := ⟨.hbm, 562, rfl⟩
abbrev main_call24_c_2 : Ref sig .tc := ⟨.hbm, 563, rfl⟩
abbrev main_call24_v6 : Ref sig .tc := ⟨.hbm, 564, rfl⟩
abbrev main_call24_v7 : Ref sig .tc := ⟨.hbm, 565, rfl⟩
abbrev main_call24_v8 : Ref sig .tc := ⟨.hbm, 566, rfl⟩
abbrev main_call24_v9 : Ref sig .tc := ⟨.hbm, 567, rfl⟩
abbrev main_call24_v10 : Ref sig .tc := ⟨.hbm, 568, rfl⟩
abbrev main_call24_v11 : Ref sig .tc := ⟨.hbm, 569, rfl⟩
abbrev main_call24_c_3 : Ref sig .tc := ⟨.hbm, 570, rfl⟩
abbrev main_call24_v12 : Ref sig .tc := ⟨.hbm, 571, rfl⟩
abbrev main_call24_v13 : Ref sig .tc := ⟨.hbm, 572, rfl⟩
abbrev main_call24_v14 : Ref sig .tc := ⟨.hbm, 573, rfl⟩
abbrev main_call24_cst : Ref sig .tc := ⟨.hbm, 574, rfl⟩
abbrev main_call24_v15 : Ref sig .tc := ⟨.hbm, 575, rfl⟩
abbrev main_v163 : Ref sig .tc := ⟨.hbm, 576, rfl⟩
abbrev main_cst_40 : Ref sig .tc := ⟨.hbm, 577, rfl⟩
abbrev main_v164 : Ref sig .tc := ⟨.hbm, 578, rfl⟩
abbrev main_cst_41 : Ref sig .tc := ⟨.hbm, 579, rfl⟩
abbrev main_v165 : Ref sig .tc := ⟨.hbm, 580, rfl⟩
abbrev main_v166 : Ref sig .tc := ⟨.hbm, 581, rfl⟩
abbrev main_call25_c : Ref sig .tc := ⟨.hbm, 582, rfl⟩
abbrev main_call25_v0 : Ref sig .tc := ⟨.hbm, 583, rfl⟩
abbrev main_call25_v1 : Ref sig .tc := ⟨.hbm, 584, rfl⟩
abbrev main_call25_c_0 : Ref sig .tc := ⟨.hbm, 585, rfl⟩
abbrev main_call25_v2 : Ref sig .tc := ⟨.hbm, 586, rfl⟩
abbrev main_call25_v3 : Ref sig .tc := ⟨.hbm, 587, rfl⟩
abbrev main_call25_v4 : Ref sig .tc := ⟨.hbm, 588, rfl⟩
abbrev main_call25_v5 : Ref sig .tc := ⟨.hbm, 589, rfl⟩
abbrev main_call25_c_1 : Ref sig .tc := ⟨.hbm, 590, rfl⟩
abbrev main_call25_c_2 : Ref sig .tc := ⟨.hbm, 591, rfl⟩
abbrev main_call25_v6 : Ref sig .tc := ⟨.hbm, 592, rfl⟩
abbrev main_call25_v7 : Ref sig .tc := ⟨.hbm, 593, rfl⟩
abbrev main_call25_v8 : Ref sig .tc := ⟨.hbm, 594, rfl⟩
abbrev main_call25_v9 : Ref sig .tc := ⟨.hbm, 595, rfl⟩
abbrev main_call25_v10 : Ref sig .tc := ⟨.hbm, 596, rfl⟩
abbrev main_call25_v11 : Ref sig .tc := ⟨.hbm, 597, rfl⟩
abbrev main_call25_c_3 : Ref sig .tc := ⟨.hbm, 598, rfl⟩
abbrev main_call25_v12 : Ref sig .tc := ⟨.hbm, 599, rfl⟩
abbrev main_call25_v13 : Ref sig .tc := ⟨.hbm, 600, rfl⟩
abbrev main_call25_v14 : Ref sig .tc := ⟨.hbm, 601, rfl⟩
abbrev main_call25_cst : Ref sig .tc := ⟨.hbm, 602, rfl⟩
abbrev main_call25_v15 : Ref sig .tc := ⟨.hbm, 603, rfl⟩
abbrev main_v167 : Ref sig .tc := ⟨.hbm, 604, rfl⟩
abbrev main_v168 : Ref sig .tc := ⟨.hbm, 605, rfl⟩
abbrev main_v169 : Ref sig .tc := ⟨.hbm, 606, rfl⟩
abbrev main_v170 : Ref sig .tc := ⟨.hbm, 607, rfl⟩
abbrev main_v171 : Ref sig .tc := ⟨.hbm, 608, rfl⟩
abbrev main_cst_42 : Ref sig .tc := ⟨.hbm, 609, rfl⟩
abbrev main_v172 : Ref sig .tc := ⟨.hbm, 610, rfl⟩
abbrev main_v173 : Ref sig .tc := ⟨.hbm, 611, rfl⟩
abbrev main_cst_43 : Ref sig .tc := ⟨.hbm, 612, rfl⟩
abbrev main_v174 : Ref sig .tc := ⟨.hbm, 613, rfl⟩
abbrev main_cst_44 : Ref sig .tc := ⟨.hbm, 614, rfl⟩
abbrev main_v175 : Ref sig .tc := ⟨.hbm, 615, rfl⟩
abbrev main_v176 : Ref sig .tc := ⟨.hbm, 616, rfl⟩
abbrev main_v177 : Ref sig .tc := ⟨.hbm, 617, rfl⟩
abbrev main_v178 : Ref sig .tc := ⟨.hbm, 618, rfl⟩
abbrev main_v179 : Ref sig .tc := ⟨.hbm, 619, rfl⟩
abbrev main_v180 : Ref sig .tc := ⟨.hbm, 620, rfl⟩
abbrev main_cst_45 : Ref sig .tc := ⟨.hbm, 621, rfl⟩
abbrev main_v181 : Ref sig .tc := ⟨.hbm, 622, rfl⟩
abbrev main_v182 : Ref sig .tc := ⟨.hbm, 623, rfl⟩
abbrev main_v183 : Ref sig .tc := ⟨.hbm, 624, rfl⟩
abbrev main_v184 : Ref sig .tc := ⟨.hbm, 625, rfl⟩
abbrev main_v185 : Ref sig .tc := ⟨.hbm, 626, rfl⟩
abbrev main_v186 : Ref sig .tc := ⟨.hbm, 627, rfl⟩
abbrev main_call26_call0_cst : Ref sig .tc := ⟨.hbm, 628, rfl⟩
abbrev main_call26_call0_v0 : Ref sig .tc := ⟨.hbm, 629, rfl⟩
abbrev main_v187 : Ref sig .tc := ⟨.hbm, 630, rfl⟩
abbrev main_v188 : Ref sig .tc := ⟨.hbm, 631, rfl⟩
abbrev main_v189 : Ref sig .tc := ⟨.hbm, 632, rfl⟩
abbrev main_v190 : Ref sig .tc := ⟨.hbm, 633, rfl⟩
abbrev main_c_46 : Ref sig .tc := ⟨.hbm, 634, rfl⟩
abbrev main_v191 : Ref sig .tc := ⟨.hbm, 635, rfl⟩
abbrev main_v192 : Ref sig .tc := ⟨.hbm, 636, rfl⟩
abbrev main_c_47 : Ref sig .tc := ⟨.hbm, 637, rfl⟩
abbrev main_c_48 : Ref sig .tc := ⟨.hbm, 638, rfl⟩
abbrev main_call27_v0 : Ref sig .tc := ⟨.hbm, 639, rfl⟩
abbrev main_call27_v1 : Ref sig .tc := ⟨.hbm, 640, rfl⟩
abbrev main_call27_v2 : Ref sig .tc := ⟨.hbm, 641, rfl⟩
abbrev main_call27_v3 : Ref sig .tc := ⟨.hbm, 642, rfl⟩
abbrev main_call27_v4 : Ref sig .tc := ⟨.hbm, 643, rfl⟩
abbrev main_v193 : Ref sig .tc := ⟨.hbm, 644, rfl⟩
abbrev main_cst_49 : Ref sig .tc := ⟨.hbm, 645, rfl⟩
abbrev main_v194 : Ref sig .tc := ⟨.hbm, 646, rfl⟩
abbrev main_v195 : Ref sig .tc := ⟨.hbm, 647, rfl⟩
abbrev main_call28_cst : Ref sig .tc := ⟨.hbm, 648, rfl⟩
abbrev main_call28_v0 : Ref sig .tc := ⟨.hbm, 649, rfl⟩
abbrev main_call28_cst_0 : Ref sig .tc := ⟨.hbm, 650, rfl⟩
abbrev main_call28_v1 : Ref sig .tc := ⟨.hbm, 651, rfl⟩
abbrev main_call28_v2 : Ref sig .tc := ⟨.hbm, 652, rfl⟩
abbrev main_call28_v3 : Ref sig .tc := ⟨.hbm, 653, rfl⟩
abbrev main_call28_v4 : Ref sig .tc := ⟨.hbm, 654, rfl⟩
abbrev main_call28_v5 : Ref sig .tc := ⟨.hbm, 655, rfl⟩
abbrev main_call28_v6 : Ref sig .tc := ⟨.hbm, 656, rfl⟩
abbrev main_call28_cst_1 : Ref sig .tc := ⟨.hbm, 657, rfl⟩
abbrev main_call28_v7 : Ref sig .tc := ⟨.hbm, 658, rfl⟩
abbrev main_call28_v8 : Ref sig .tc := ⟨.hbm, 659, rfl⟩
abbrev main_call28_v9 : Ref sig .tc := ⟨.hbm, 660, rfl⟩
abbrev main_call28_v10 : Ref sig .tc := ⟨.hbm, 661, rfl⟩
abbrev main_v196 : Ref sig .tc := ⟨.hbm, 662, rfl⟩
abbrev main_call29_c : Ref sig .tc := ⟨.hbm, 663, rfl⟩
abbrev main_call29_v0 : Ref sig .tc := ⟨.hbm, 664, rfl⟩
abbrev main_call29_v1 : Ref sig .tc := ⟨.hbm, 665, rfl⟩
abbrev main_call29_c_0 : Ref sig .tc := ⟨.hbm, 666, rfl⟩
abbrev main_call29_v2 : Ref sig .tc := ⟨.hbm, 667, rfl⟩
abbrev main_call29_v3 : Ref sig .tc := ⟨.hbm, 668, rfl⟩
abbrev main_call29_v4 : Ref sig .tc := ⟨.hbm, 669, rfl⟩
abbrev main_call29_v5 : Ref sig .tc := ⟨.hbm, 670, rfl⟩
abbrev main_call29_c_1 : Ref sig .tc := ⟨.hbm, 671, rfl⟩
abbrev main_call29_c_2 : Ref sig .tc := ⟨.hbm, 672, rfl⟩
abbrev main_call29_v6 : Ref sig .tc := ⟨.hbm, 673, rfl⟩
abbrev main_call29_v7 : Ref sig .tc := ⟨.hbm, 674, rfl⟩
abbrev main_call29_v8 : Ref sig .tc := ⟨.hbm, 675, rfl⟩
abbrev main_call29_v9 : Ref sig .tc := ⟨.hbm, 676, rfl⟩
abbrev main_call29_v10 : Ref sig .tc := ⟨.hbm, 677, rfl⟩
abbrev main_call29_v11 : Ref sig .tc := ⟨.hbm, 678, rfl⟩
abbrev main_call29_c_3 : Ref sig .tc := ⟨.hbm, 679, rfl⟩
abbrev main_call29_v12 : Ref sig .tc := ⟨.hbm, 680, rfl⟩
abbrev main_call29_v13 : Ref sig .tc := ⟨.hbm, 681, rfl⟩
abbrev main_call29_cst : Ref sig .tc := ⟨.hbm, 682, rfl⟩
abbrev main_call29_v14 : Ref sig .tc := ⟨.hbm, 683, rfl⟩
abbrev main_v197 : Ref sig .tc := ⟨.hbm, 684, rfl⟩
abbrev main_v198 : Ref sig .tc := ⟨.hbm, 685, rfl⟩
abbrev main_v199 : Ref sig .tc := ⟨.hbm, 686, rfl⟩
abbrev main_v200 : Ref sig .tc := ⟨.hbm, 687, rfl⟩
abbrev main_v201 : Ref sig .tc := ⟨.hbm, 688, rfl⟩
abbrev main_v202 : Ref sig .tc := ⟨.hbm, 689, rfl⟩
abbrev main_call30_c : Ref sig .tc := ⟨.hbm, 690, rfl⟩
abbrev main_call30_v0 : Ref sig .tc := ⟨.hbm, 691, rfl⟩
abbrev main_call30_v1 : Ref sig .tc := ⟨.hbm, 692, rfl⟩
abbrev main_call30_c_0 : Ref sig .tc := ⟨.hbm, 693, rfl⟩
abbrev main_call30_v2 : Ref sig .tc := ⟨.hbm, 694, rfl⟩
abbrev main_call30_v3 : Ref sig .tc := ⟨.hbm, 695, rfl⟩
abbrev main_call30_v4 : Ref sig .tc := ⟨.hbm, 696, rfl⟩
abbrev main_call30_v5 : Ref sig .tc := ⟨.hbm, 697, rfl⟩
abbrev main_call30_c_1 : Ref sig .tc := ⟨.hbm, 698, rfl⟩
abbrev main_call30_c_2 : Ref sig .tc := ⟨.hbm, 699, rfl⟩
abbrev main_call30_v6 : Ref sig .tc := ⟨.hbm, 700, rfl⟩
abbrev main_call30_v7 : Ref sig .tc := ⟨.hbm, 701, rfl⟩
abbrev main_call30_v8 : Ref sig .tc := ⟨.hbm, 702, rfl⟩
abbrev main_call30_v9 : Ref sig .tc := ⟨.hbm, 703, rfl⟩
abbrev main_call30_v10 : Ref sig .tc := ⟨.hbm, 704, rfl⟩
abbrev main_call30_v11 : Ref sig .tc := ⟨.hbm, 705, rfl⟩
abbrev main_call30_c_3 : Ref sig .tc := ⟨.hbm, 706, rfl⟩
abbrev main_call30_v12 : Ref sig .tc := ⟨.hbm, 707, rfl⟩
abbrev main_call30_v13 : Ref sig .tc := ⟨.hbm, 708, rfl⟩
abbrev main_call30_v14 : Ref sig .tc := ⟨.hbm, 709, rfl⟩
abbrev main_call30_cst : Ref sig .tc := ⟨.hbm, 710, rfl⟩
abbrev main_call30_v15 : Ref sig .tc := ⟨.hbm, 711, rfl⟩
abbrev main_v203 : Ref sig .tc := ⟨.hbm, 712, rfl⟩
abbrev main_cst_50 : Ref sig .tc := ⟨.hbm, 713, rfl⟩
abbrev main_v204 : Ref sig .tc := ⟨.hbm, 714, rfl⟩
abbrev main_cst_51 : Ref sig .tc := ⟨.hbm, 715, rfl⟩
abbrev main_v205 : Ref sig .tc := ⟨.hbm, 716, rfl⟩
abbrev main_v206 : Ref sig .tc := ⟨.hbm, 717, rfl⟩
abbrev main_call31_c : Ref sig .tc := ⟨.hbm, 718, rfl⟩
abbrev main_call31_v0 : Ref sig .tc := ⟨.hbm, 719, rfl⟩
abbrev main_call31_v1 : Ref sig .tc := ⟨.hbm, 720, rfl⟩
abbrev main_call31_c_0 : Ref sig .tc := ⟨.hbm, 721, rfl⟩
abbrev main_call31_v2 : Ref sig .tc := ⟨.hbm, 722, rfl⟩
abbrev main_call31_v3 : Ref sig .tc := ⟨.hbm, 723, rfl⟩
abbrev main_call31_v4 : Ref sig .tc := ⟨.hbm, 724, rfl⟩
abbrev main_call31_v5 : Ref sig .tc := ⟨.hbm, 725, rfl⟩
abbrev main_call31_c_1 : Ref sig .tc := ⟨.hbm, 726, rfl⟩
abbrev main_call31_c_2 : Ref sig .tc := ⟨.hbm, 727, rfl⟩
abbrev main_call31_v6 : Ref sig .tc := ⟨.hbm, 728, rfl⟩
abbrev main_call31_v7 : Ref sig .tc := ⟨.hbm, 729, rfl⟩
abbrev main_call31_v8 : Ref sig .tc := ⟨.hbm, 730, rfl⟩
abbrev main_call31_v9 : Ref sig .tc := ⟨.hbm, 731, rfl⟩
abbrev main_call31_v10 : Ref sig .tc := ⟨.hbm, 732, rfl⟩
abbrev main_call31_v11 : Ref sig .tc := ⟨.hbm, 733, rfl⟩
abbrev main_call31_c_3 : Ref sig .tc := ⟨.hbm, 734, rfl⟩
abbrev main_call31_v12 : Ref sig .tc := ⟨.hbm, 735, rfl⟩
abbrev main_call31_v13 : Ref sig .tc := ⟨.hbm, 736, rfl⟩
abbrev main_call31_v14 : Ref sig .tc := ⟨.hbm, 737, rfl⟩
abbrev main_call31_cst : Ref sig .tc := ⟨.hbm, 738, rfl⟩
abbrev main_call31_v15 : Ref sig .tc := ⟨.hbm, 739, rfl⟩
abbrev main_v207 : Ref sig .tc := ⟨.hbm, 740, rfl⟩
abbrev main_v208 : Ref sig .tc := ⟨.hbm, 741, rfl⟩
abbrev main_v209 : Ref sig .tc := ⟨.hbm, 742, rfl⟩
abbrev main_v210 : Ref sig .tc := ⟨.hbm, 743, rfl⟩
abbrev main_v211 : Ref sig .tc := ⟨.hbm, 744, rfl⟩
abbrev main_cst_52 : Ref sig .tc := ⟨.hbm, 745, rfl⟩
abbrev main_v212 : Ref sig .tc := ⟨.hbm, 746, rfl⟩
abbrev main_v213 : Ref sig .tc := ⟨.hbm, 747, rfl⟩
abbrev main_cst_53 : Ref sig .tc := ⟨.hbm, 748, rfl⟩
abbrev main_v214 : Ref sig .tc := ⟨.hbm, 749, rfl⟩
abbrev main_cst_54 : Ref sig .tc := ⟨.hbm, 750, rfl⟩
abbrev main_v215 : Ref sig .tc := ⟨.hbm, 751, rfl⟩
abbrev main_v216 : Ref sig .tc := ⟨.hbm, 752, rfl⟩
abbrev main_v217 : Ref sig .tc := ⟨.hbm, 753, rfl⟩
abbrev main_v218 : Ref sig .tc := ⟨.hbm, 754, rfl⟩
abbrev main_v219 : Ref sig .tc := ⟨.hbm, 755, rfl⟩
abbrev main_v220 : Ref sig .tc := ⟨.hbm, 756, rfl⟩
abbrev main_cst_55 : Ref sig .tc := ⟨.hbm, 757, rfl⟩
abbrev main_v221 : Ref sig .tc := ⟨.hbm, 758, rfl⟩
abbrev main_v222 : Ref sig .tc := ⟨.hbm, 759, rfl⟩
abbrev main_v223 : Ref sig .tc := ⟨.hbm, 760, rfl⟩
abbrev main_v224 : Ref sig .tc := ⟨.hbm, 761, rfl⟩
abbrev main_v225 : Ref sig .tc := ⟨.hbm, 762, rfl⟩
abbrev main_v226 : Ref sig .tc := ⟨.hbm, 763, rfl⟩
abbrev main_call32_call0_cst : Ref sig .tc := ⟨.hbm, 764, rfl⟩
abbrev main_call32_call0_v0 : Ref sig .tc := ⟨.hbm, 765, rfl⟩
abbrev main_v227 : Ref sig .tc := ⟨.hbm, 766, rfl⟩
abbrev main_v228 : Ref sig .tc := ⟨.hbm, 767, rfl⟩
abbrev main_v229 : Ref sig .tc := ⟨.hbm, 768, rfl⟩
abbrev main_v230 : Ref sig .tc := ⟨.hbm, 769, rfl⟩
abbrev main_c_56 : Ref sig .tc := ⟨.hbm, 770, rfl⟩
abbrev main_v231 : Ref sig .tc := ⟨.hbm, 771, rfl⟩
abbrev main_v232 : Ref sig .tc := ⟨.hbm, 772, rfl⟩
abbrev main_c_57 : Ref sig .tc := ⟨.hbm, 773, rfl⟩
abbrev main_c_58 : Ref sig .tc := ⟨.hbm, 774, rfl⟩
abbrev main_call33_v0 : Ref sig .tc := ⟨.hbm, 775, rfl⟩
abbrev main_call33_v1 : Ref sig .tc := ⟨.hbm, 776, rfl⟩
abbrev main_call33_v2 : Ref sig .tc := ⟨.hbm, 777, rfl⟩
abbrev main_call33_v3 : Ref sig .tc := ⟨.hbm, 778, rfl⟩
abbrev main_call33_v4 : Ref sig .tc := ⟨.hbm, 779, rfl⟩
abbrev main_v233 : Ref sig .tc := ⟨.hbm, 780, rfl⟩
abbrev main_cst_59 : Ref sig .tc := ⟨.hbm, 781, rfl⟩
abbrev main_v234 : Ref sig .tc := ⟨.hbm, 782, rfl⟩
abbrev main_v235 : Ref sig .tc := ⟨.hbm, 783, rfl⟩
abbrev main_call34_cst : Ref sig .tc := ⟨.hbm, 784, rfl⟩
abbrev main_call34_v0 : Ref sig .tc := ⟨.hbm, 785, rfl⟩
abbrev main_call34_cst_0 : Ref sig .tc := ⟨.hbm, 786, rfl⟩
abbrev main_call34_v1 : Ref sig .tc := ⟨.hbm, 787, rfl⟩
abbrev main_call34_v2 : Ref sig .tc := ⟨.hbm, 788, rfl⟩
abbrev main_call34_v3 : Ref sig .tc := ⟨.hbm, 789, rfl⟩
abbrev main_call34_v4 : Ref sig .tc := ⟨.hbm, 790, rfl⟩
abbrev main_call34_v5 : Ref sig .tc := ⟨.hbm, 791, rfl⟩
abbrev main_call34_v6 : Ref sig .tc := ⟨.hbm, 792, rfl⟩
abbrev main_call34_cst_1 : Ref sig .tc := ⟨.hbm, 793, rfl⟩
abbrev main_call34_v7 : Ref sig .tc := ⟨.hbm, 794, rfl⟩
abbrev main_call34_v8 : Ref sig .tc := ⟨.hbm, 795, rfl⟩
abbrev main_call34_v9 : Ref sig .tc := ⟨.hbm, 796, rfl⟩
abbrev main_call34_v10 : Ref sig .tc := ⟨.hbm, 797, rfl⟩
abbrev main_v236 : Ref sig .tc := ⟨.hbm, 798, rfl⟩
abbrev main_call35_c : Ref sig .tc := ⟨.hbm, 799, rfl⟩
abbrev main_call35_v0 : Ref sig .tc := ⟨.hbm, 800, rfl⟩
abbrev main_call35_v1 : Ref sig .tc := ⟨.hbm, 801, rfl⟩
abbrev main_call35_c_0 : Ref sig .tc := ⟨.hbm, 802, rfl⟩
abbrev main_call35_v2 : Ref sig .tc := ⟨.hbm, 803, rfl⟩
abbrev main_call35_v3 : Ref sig .tc := ⟨.hbm, 804, rfl⟩
abbrev main_call35_v4 : Ref sig .tc := ⟨.hbm, 805, rfl⟩
abbrev main_call35_v5 : Ref sig .tc := ⟨.hbm, 806, rfl⟩
abbrev main_call35_c_1 : Ref sig .tc := ⟨.hbm, 807, rfl⟩
abbrev main_call35_c_2 : Ref sig .tc := ⟨.hbm, 808, rfl⟩
abbrev main_call35_v6 : Ref sig .tc := ⟨.hbm, 809, rfl⟩
abbrev main_call35_v7 : Ref sig .tc := ⟨.hbm, 810, rfl⟩
abbrev main_call35_v8 : Ref sig .tc := ⟨.hbm, 811, rfl⟩
abbrev main_call35_v9 : Ref sig .tc := ⟨.hbm, 812, rfl⟩
abbrev main_call35_v10 : Ref sig .tc := ⟨.hbm, 813, rfl⟩
abbrev main_call35_v11 : Ref sig .tc := ⟨.hbm, 814, rfl⟩
abbrev main_call35_c_3 : Ref sig .tc := ⟨.hbm, 815, rfl⟩
abbrev main_call35_v12 : Ref sig .tc := ⟨.hbm, 816, rfl⟩
abbrev main_call35_v13 : Ref sig .tc := ⟨.hbm, 817, rfl⟩
abbrev main_call35_cst : Ref sig .tc := ⟨.hbm, 818, rfl⟩
abbrev main_call35_v14 : Ref sig .tc := ⟨.hbm, 819, rfl⟩
abbrev main_v237 : Ref sig .tc := ⟨.hbm, 820, rfl⟩
abbrev main_v238 : Ref sig .tc := ⟨.hbm, 821, rfl⟩
abbrev main_v239 : Ref sig .tc := ⟨.hbm, 822, rfl⟩
abbrev main_v240 : Ref sig .tc := ⟨.hbm, 823, rfl⟩
abbrev main_v241 : Ref sig .tc := ⟨.hbm, 824, rfl⟩
abbrev main_v242 : Ref sig .tc := ⟨.hbm, 825, rfl⟩
abbrev main_call36_c : Ref sig .tc := ⟨.hbm, 826, rfl⟩
abbrev main_call36_v0 : Ref sig .tc := ⟨.hbm, 827, rfl⟩
abbrev main_call36_v1 : Ref sig .tc := ⟨.hbm, 828, rfl⟩
abbrev main_call36_c_0 : Ref sig .tc := ⟨.hbm, 829, rfl⟩
abbrev main_call36_v2 : Ref sig .tc := ⟨.hbm, 830, rfl⟩
abbrev main_call36_v3 : Ref sig .tc := ⟨.hbm, 831, rfl⟩
abbrev main_call36_v4 : Ref sig .tc := ⟨.hbm, 832, rfl⟩
abbrev main_call36_v5 : Ref sig .tc := ⟨.hbm, 833, rfl⟩
abbrev main_call36_c_1 : Ref sig .tc := ⟨.hbm, 834, rfl⟩
abbrev main_call36_c_2 : Ref sig .tc := ⟨.hbm, 835, rfl⟩
abbrev main_call36_v6 : Ref sig .tc := ⟨.hbm, 836, rfl⟩
abbrev main_call36_v7 : Ref sig .tc := ⟨.hbm, 837, rfl⟩
abbrev main_call36_v8 : Ref sig .tc := ⟨.hbm, 838, rfl⟩
abbrev main_call36_v9 : Ref sig .tc := ⟨.hbm, 839, rfl⟩
abbrev main_call36_v10 : Ref sig .tc := ⟨.hbm, 840, rfl⟩
abbrev main_call36_v11 : Ref sig .tc := ⟨.hbm, 841, rfl⟩
abbrev main_call36_c_3 : Ref sig .tc := ⟨.hbm, 842, rfl⟩
abbrev main_call36_v12 : Ref sig .tc := ⟨.hbm, 843, rfl⟩
abbrev main_call36_v13 : Ref sig .tc := ⟨.hbm, 844, rfl⟩
abbrev main_call36_v14 : Ref sig .tc := ⟨.hbm, 845, rfl⟩
abbrev main_call36_cst : Ref sig .tc := ⟨.hbm, 846, rfl⟩
abbrev main_call36_v15 : Ref sig .tc := ⟨.hbm, 847, rfl⟩
abbrev main_v243 : Ref sig .tc := ⟨.hbm, 848, rfl⟩
abbrev main_cst_60 : Ref sig .tc := ⟨.hbm, 849, rfl⟩
abbrev main_v244 : Ref sig .tc := ⟨.hbm, 850, rfl⟩
abbrev main_cst_61 : Ref sig .tc := ⟨.hbm, 851, rfl⟩
abbrev main_v245 : Ref sig .tc := ⟨.hbm, 852, rfl⟩
abbrev main_v246 : Ref sig .tc := ⟨.hbm, 853, rfl⟩
abbrev main_call37_c : Ref sig .tc := ⟨.hbm, 854, rfl⟩
abbrev main_call37_v0 : Ref sig .tc := ⟨.hbm, 855, rfl⟩
abbrev main_call37_v1 : Ref sig .tc := ⟨.hbm, 856, rfl⟩
abbrev main_call37_c_0 : Ref sig .tc := ⟨.hbm, 857, rfl⟩
abbrev main_call37_v2 : Ref sig .tc := ⟨.hbm, 858, rfl⟩
abbrev main_call37_v3 : Ref sig .tc := ⟨.hbm, 859, rfl⟩
abbrev main_call37_v4 : Ref sig .tc := ⟨.hbm, 860, rfl⟩
abbrev main_call37_v5 : Ref sig .tc := ⟨.hbm, 861, rfl⟩
abbrev main_call37_c_1 : Ref sig .tc := ⟨.hbm, 862, rfl⟩
abbrev main_call37_c_2 : Ref sig .tc := ⟨.hbm, 863, rfl⟩
abbrev main_call37_v6 : Ref sig .tc := ⟨.hbm, 864, rfl⟩
abbrev main_call37_v7 : Ref sig .tc := ⟨.hbm, 865, rfl⟩
abbrev main_call37_v8 : Ref sig .tc := ⟨.hbm, 866, rfl⟩
abbrev main_call37_v9 : Ref sig .tc := ⟨.hbm, 867, rfl⟩
abbrev main_call37_v10 : Ref sig .tc := ⟨.hbm, 868, rfl⟩
abbrev main_call37_v11 : Ref sig .tc := ⟨.hbm, 869, rfl⟩
abbrev main_call37_c_3 : Ref sig .tc := ⟨.hbm, 870, rfl⟩
abbrev main_call37_v12 : Ref sig .tc := ⟨.hbm, 871, rfl⟩
abbrev main_call37_v13 : Ref sig .tc := ⟨.hbm, 872, rfl⟩
abbrev main_call37_v14 : Ref sig .tc := ⟨.hbm, 873, rfl⟩
abbrev main_call37_cst : Ref sig .tc := ⟨.hbm, 874, rfl⟩
abbrev main_call37_v15 : Ref sig .tc := ⟨.hbm, 875, rfl⟩
abbrev main_v247 : Ref sig .tc := ⟨.hbm, 876, rfl⟩
abbrev main_v248 : Ref sig .tc := ⟨.hbm, 877, rfl⟩
abbrev main_v249 : Ref sig .tc := ⟨.hbm, 878, rfl⟩
abbrev main_v250 : Ref sig .tc := ⟨.hbm, 879, rfl⟩
abbrev main_v251 : Ref sig .tc := ⟨.hbm, 880, rfl⟩
abbrev main_cst_62 : Ref sig .tc := ⟨.hbm, 881, rfl⟩
abbrev main_v252 : Ref sig .tc := ⟨.hbm, 882, rfl⟩
abbrev main_v253 : Ref sig .tc := ⟨.hbm, 883, rfl⟩
abbrev main_cst_63 : Ref sig .tc := ⟨.hbm, 884, rfl⟩
abbrev main_v254 : Ref sig .tc := ⟨.hbm, 885, rfl⟩
abbrev main_cst_64 : Ref sig .tc := ⟨.hbm, 886, rfl⟩
abbrev main_v255 : Ref sig .tc := ⟨.hbm, 887, rfl⟩
abbrev main_v256 : Ref sig .tc := ⟨.hbm, 888, rfl⟩
abbrev main_v257 : Ref sig .tc := ⟨.hbm, 889, rfl⟩
abbrev main_v258 : Ref sig .tc := ⟨.hbm, 890, rfl⟩
abbrev main_v259 : Ref sig .tc := ⟨.hbm, 891, rfl⟩
abbrev main_v260 : Ref sig .tc := ⟨.hbm, 892, rfl⟩
abbrev main_cst_65 : Ref sig .tc := ⟨.hbm, 893, rfl⟩
abbrev main_v261 : Ref sig .tc := ⟨.hbm, 894, rfl⟩
abbrev main_v262 : Ref sig .tc := ⟨.hbm, 895, rfl⟩
abbrev main_v263 : Ref sig .tc := ⟨.hbm, 896, rfl⟩
abbrev main_v264 : Ref sig .tc := ⟨.hbm, 897, rfl⟩
abbrev main_v265 : Ref sig .tc := ⟨.hbm, 898, rfl⟩
abbrev main_v266 : Ref sig .tc := ⟨.hbm, 899, rfl⟩
abbrev main_call38_call0_cst : Ref sig .tc := ⟨.hbm, 900, rfl⟩
abbrev main_call38_call0_v0 : Ref sig .tc := ⟨.hbm, 901, rfl⟩
abbrev main_v267 : Ref sig .tc := ⟨.hbm, 902, rfl⟩
abbrev main_v268 : Ref sig .tc := ⟨.hbm, 903, rfl⟩
abbrev main_v269 : Ref sig .tc := ⟨.hbm, 904, rfl⟩
abbrev main_v270 : Ref sig .tc := ⟨.hbm, 905, rfl⟩
abbrev main_c_66 : Ref sig .tc := ⟨.hbm, 906, rfl⟩
abbrev main_v271 : Ref sig .tc := ⟨.hbm, 907, rfl⟩
abbrev main_v272 : Ref sig .tc := ⟨.hbm, 908, rfl⟩
abbrev main_c_67 : Ref sig .tc := ⟨.hbm, 909, rfl⟩
abbrev main_c_68 : Ref sig .tc := ⟨.hbm, 910, rfl⟩
abbrev main_call39_v0 : Ref sig .tc := ⟨.hbm, 911, rfl⟩
abbrev main_call39_v1 : Ref sig .tc := ⟨.hbm, 912, rfl⟩
abbrev main_call39_v2 : Ref sig .tc := ⟨.hbm, 913, rfl⟩
abbrev main_call39_v3 : Ref sig .tc := ⟨.hbm, 914, rfl⟩
abbrev main_call39_v4 : Ref sig .tc := ⟨.hbm, 915, rfl⟩
abbrev main_v273 : Ref sig .tc := ⟨.hbm, 916, rfl⟩
abbrev main_cst_69 : Ref sig .tc := ⟨.hbm, 917, rfl⟩
abbrev main_v274 : Ref sig .tc := ⟨.hbm, 918, rfl⟩
abbrev main_v275 : Ref sig .tc := ⟨.hbm, 919, rfl⟩
abbrev main_call40_cst : Ref sig .tc := ⟨.hbm, 920, rfl⟩
abbrev main_call40_v0 : Ref sig .tc := ⟨.hbm, 921, rfl⟩
abbrev main_call40_cst_0 : Ref sig .tc := ⟨.hbm, 922, rfl⟩
abbrev main_call40_v1 : Ref sig .tc := ⟨.hbm, 923, rfl⟩
abbrev main_call40_v2 : Ref sig .tc := ⟨.hbm, 924, rfl⟩
abbrev main_call40_v3 : Ref sig .tc := ⟨.hbm, 925, rfl⟩
abbrev main_call40_v4 : Ref sig .tc := ⟨.hbm, 926, rfl⟩
abbrev main_call40_v5 : Ref sig .tc := ⟨.hbm, 927, rfl⟩
abbrev main_call40_v6 : Ref sig .tc := ⟨.hbm, 928, rfl⟩
abbrev main_call40_cst_1 : Ref sig .tc := ⟨.hbm, 929, rfl⟩
abbrev main_call40_v7 : Ref sig .tc := ⟨.hbm, 930, rfl⟩
abbrev main_call40_v8 : Ref sig .tc := ⟨.hbm, 931, rfl⟩
abbrev main_call40_v9 : Ref sig .tc := ⟨.hbm, 932, rfl⟩
abbrev main_call40_v10 : Ref sig .tc := ⟨.hbm, 933, rfl⟩
abbrev main_v276 : Ref sig .tc := ⟨.hbm, 934, rfl⟩
abbrev main_call41_c : Ref sig .tc := ⟨.hbm, 935, rfl⟩
abbrev main_call41_v0 : Ref sig .tc := ⟨.hbm, 936, rfl⟩
abbrev main_call41_v1 : Ref sig .tc := ⟨.hbm, 937, rfl⟩
abbrev main_call41_c_0 : Ref sig .tc := ⟨.hbm, 938, rfl⟩
abbrev main_call41_v2 : Ref sig .tc := ⟨.hbm, 939, rfl⟩
abbrev main_call41_v3 : Ref sig .tc := ⟨.hbm, 940, rfl⟩
abbrev main_call41_v4 : Ref sig .tc := ⟨.hbm, 941, rfl⟩
abbrev main_call41_v5 : Ref sig .tc := ⟨.hbm, 942, rfl⟩
abbrev main_call41_c_1 : Ref sig .tc := ⟨.hbm, 943, rfl⟩
abbrev main_call41_c_2 : Ref sig .tc := ⟨.hbm, 944, rfl⟩
abbrev main_call41_v6 : Ref sig .tc := ⟨.hbm, 945, rfl⟩
abbrev main_call41_v7 : Ref sig .tc := ⟨.hbm, 946, rfl⟩
abbrev main_call41_v8 : Ref sig .tc := ⟨.hbm, 947, rfl⟩
abbrev main_call41_v9 : Ref sig .tc := ⟨.hbm, 948, rfl⟩
abbrev main_call41_v10 : Ref sig .tc := ⟨.hbm, 949, rfl⟩
abbrev main_call41_v11 : Ref sig .tc := ⟨.hbm, 950, rfl⟩
abbrev main_call41_c_3 : Ref sig .tc := ⟨.hbm, 951, rfl⟩
abbrev main_call41_v12 : Ref sig .tc := ⟨.hbm, 952, rfl⟩
abbrev main_call41_v13 : Ref sig .tc := ⟨.hbm, 953, rfl⟩
abbrev main_call41_cst : Ref sig .tc := ⟨.hbm, 954, rfl⟩
abbrev main_call41_v14 : Ref sig .tc := ⟨.hbm, 955, rfl⟩
abbrev main_v277 : Ref sig .tc := ⟨.hbm, 956, rfl⟩
abbrev main_v278 : Ref sig .tc := ⟨.hbm, 957, rfl⟩
abbrev main_v279 : Ref sig .tc := ⟨.hbm, 958, rfl⟩
abbrev main_v280 : Ref sig .tc := ⟨.hbm, 959, rfl⟩
abbrev main_v281 : Ref sig .tc := ⟨.hbm, 960, rfl⟩
abbrev main_v282 : Ref sig .tc := ⟨.hbm, 961, rfl⟩
abbrev main_call42_c : Ref sig .tc := ⟨.hbm, 962, rfl⟩
abbrev main_call42_v0 : Ref sig .tc := ⟨.hbm, 963, rfl⟩
abbrev main_call42_v1 : Ref sig .tc := ⟨.hbm, 964, rfl⟩
abbrev main_call42_c_0 : Ref sig .tc := ⟨.hbm, 965, rfl⟩
abbrev main_call42_v2 : Ref sig .tc := ⟨.hbm, 966, rfl⟩
abbrev main_call42_v3 : Ref sig .tc := ⟨.hbm, 967, rfl⟩
abbrev main_call42_v4 : Ref sig .tc := ⟨.hbm, 968, rfl⟩
abbrev main_call42_v5 : Ref sig .tc := ⟨.hbm, 969, rfl⟩
abbrev main_call42_c_1 : Ref sig .tc := ⟨.hbm, 970, rfl⟩
abbrev main_call42_c_2 : Ref sig .tc := ⟨.hbm, 971, rfl⟩
abbrev main_call42_v6 : Ref sig .tc := ⟨.hbm, 972, rfl⟩
abbrev main_call42_v7 : Ref sig .tc := ⟨.hbm, 973, rfl⟩
abbrev main_call42_v8 : Ref sig .tc := ⟨.hbm, 974, rfl⟩
abbrev main_call42_v9 : Ref sig .tc := ⟨.hbm, 975, rfl⟩
abbrev main_call42_v10 : Ref sig .tc := ⟨.hbm, 976, rfl⟩
abbrev main_call42_v11 : Ref sig .tc := ⟨.hbm, 977, rfl⟩
abbrev main_call42_c_3 : Ref sig .tc := ⟨.hbm, 978, rfl⟩
abbrev main_call42_v12 : Ref sig .tc := ⟨.hbm, 979, rfl⟩
abbrev main_call42_v13 : Ref sig .tc := ⟨.hbm, 980, rfl⟩
abbrev main_call42_v14 : Ref sig .tc := ⟨.hbm, 981, rfl⟩
abbrev main_call42_cst : Ref sig .tc := ⟨.hbm, 982, rfl⟩
abbrev main_call42_v15 : Ref sig .tc := ⟨.hbm, 983, rfl⟩
abbrev main_v283 : Ref sig .tc := ⟨.hbm, 984, rfl⟩
abbrev main_cst_70 : Ref sig .tc := ⟨.hbm, 985, rfl⟩
abbrev main_v284 : Ref sig .tc := ⟨.hbm, 986, rfl⟩
abbrev main_cst_71 : Ref sig .tc := ⟨.hbm, 987, rfl⟩
abbrev main_v285 : Ref sig .tc := ⟨.hbm, 988, rfl⟩
abbrev main_v286 : Ref sig .tc := ⟨.hbm, 989, rfl⟩
abbrev main_call43_c : Ref sig .tc := ⟨.hbm, 990, rfl⟩
abbrev main_call43_v0 : Ref sig .tc := ⟨.hbm, 991, rfl⟩
abbrev main_call43_v1 : Ref sig .tc := ⟨.hbm, 992, rfl⟩
abbrev main_call43_c_0 : Ref sig .tc := ⟨.hbm, 993, rfl⟩
abbrev main_call43_v2 : Ref sig .tc := ⟨.hbm, 994, rfl⟩
abbrev main_call43_v3 : Ref sig .tc := ⟨.hbm, 995, rfl⟩
abbrev main_call43_v4 : Ref sig .tc := ⟨.hbm, 996, rfl⟩
abbrev main_call43_v5 : Ref sig .tc := ⟨.hbm, 997, rfl⟩
abbrev main_call43_c_1 : Ref sig .tc := ⟨.hbm, 998, rfl⟩
abbrev main_call43_c_2 : Ref sig .tc := ⟨.hbm, 999, rfl⟩
abbrev main_call43_v6 : Ref sig .tc := ⟨.hbm, 1000, rfl⟩
abbrev main_call43_v7 : Ref sig .tc := ⟨.hbm, 1001, rfl⟩
abbrev main_call43_v8 : Ref sig .tc := ⟨.hbm, 1002, rfl⟩
abbrev main_call43_v9 : Ref sig .tc := ⟨.hbm, 1003, rfl⟩
abbrev main_call43_v10 : Ref sig .tc := ⟨.hbm, 1004, rfl⟩
abbrev main_call43_v11 : Ref sig .tc := ⟨.hbm, 1005, rfl⟩
abbrev main_call43_c_3 : Ref sig .tc := ⟨.hbm, 1006, rfl⟩
abbrev main_call43_v12 : Ref sig .tc := ⟨.hbm, 1007, rfl⟩
abbrev main_call43_v13 : Ref sig .tc := ⟨.hbm, 1008, rfl⟩
abbrev main_call43_v14 : Ref sig .tc := ⟨.hbm, 1009, rfl⟩
abbrev main_call43_cst : Ref sig .tc := ⟨.hbm, 1010, rfl⟩
abbrev main_call43_v15 : Ref sig .tc := ⟨.hbm, 1011, rfl⟩
abbrev main_v287 : Ref sig .tc := ⟨.hbm, 1012, rfl⟩
abbrev main_v288 : Ref sig .tc := ⟨.hbm, 1013, rfl⟩
abbrev main_v289 : Ref sig .tc := ⟨.hbm, 1014, rfl⟩
abbrev main_v290 : Ref sig .tc := ⟨.hbm, 1015, rfl⟩
abbrev main_v291 : Ref sig .tc := ⟨.hbm, 1016, rfl⟩
abbrev main_cst_72 : Ref sig .tc := ⟨.hbm, 1017, rfl⟩
abbrev main_v292 : Ref sig .tc := ⟨.hbm, 1018, rfl⟩
abbrev main_v293 : Ref sig .tc := ⟨.hbm, 1019, rfl⟩
abbrev main_cst_73 : Ref sig .tc := ⟨.hbm, 1020, rfl⟩
abbrev main_v294 : Ref sig .tc := ⟨.hbm, 1021, rfl⟩
abbrev main_cst_74 : Ref sig .tc := ⟨.hbm, 1022, rfl⟩
abbrev main_v295 : Ref sig .tc := ⟨.hbm, 1023, rfl⟩
abbrev main_v296 : Ref sig .tc := ⟨.hbm, 1024, rfl⟩
abbrev main_v297 : Ref sig .tc := ⟨.hbm, 1025, rfl⟩
abbrev main_v298 : Ref sig .tc := ⟨.hbm, 1026, rfl⟩
abbrev main_v299 : Ref sig .tc := ⟨.hbm, 1027, rfl⟩
abbrev main_v300 : Ref sig .tc := ⟨.hbm, 1028, rfl⟩
abbrev main_cst_75 : Ref sig .tc := ⟨.hbm, 1029, rfl⟩
abbrev main_v301 : Ref sig .tc := ⟨.hbm, 1030, rfl⟩
abbrev main_v302 : Ref sig .tc := ⟨.hbm, 1031, rfl⟩
abbrev main_v303 : Ref sig .tc := ⟨.hbm, 1032, rfl⟩
abbrev main_v304 : Ref sig .tc := ⟨.hbm, 1033, rfl⟩
abbrev main_v305 : Ref sig .tc := ⟨.hbm, 1034, rfl⟩
abbrev main_v306 : Ref sig .tc := ⟨.hbm, 1035, rfl⟩
abbrev main_call44_call0_cst : Ref sig .tc := ⟨.hbm, 1036, rfl⟩
abbrev main_call44_call0_v0 : Ref sig .tc := ⟨.hbm, 1037, rfl⟩
abbrev main_v307 : Ref sig .tc := ⟨.hbm, 1038, rfl⟩
abbrev main_v308 : Ref sig .tc := ⟨.hbm, 1039, rfl⟩
abbrev main_v309 : Ref sig .tc := ⟨.hbm, 1040, rfl⟩
abbrev main_v310 : Ref sig .tc := ⟨.hbm, 1041, rfl⟩
abbrev main_c_76 : Ref sig .tc := ⟨.hbm, 1042, rfl⟩
abbrev main_v311 : Ref sig .tc := ⟨.hbm, 1043, rfl⟩
abbrev main_v312 : Ref sig .tc := ⟨.hbm, 1044, rfl⟩
abbrev main_c_77 : Ref sig .tc := ⟨.hbm, 1045, rfl⟩
abbrev main_c_78 : Ref sig .tc := ⟨.hbm, 1046, rfl⟩
abbrev main_call45_v0 : Ref sig .tc := ⟨.hbm, 1047, rfl⟩
abbrev main_call45_v1 : Ref sig .tc := ⟨.hbm, 1048, rfl⟩
abbrev main_call45_v2 : Ref sig .tc := ⟨.hbm, 1049, rfl⟩
abbrev main_call45_v3 : Ref sig .tc := ⟨.hbm, 1050, rfl⟩
abbrev main_call45_v4 : Ref sig .tc := ⟨.hbm, 1051, rfl⟩
abbrev main_v313 : Ref sig .tc := ⟨.hbm, 1052, rfl⟩
abbrev main_cst_79 : Ref sig .tc := ⟨.hbm, 1053, rfl⟩
abbrev main_v314 : Ref sig .tc := ⟨.hbm, 1054, rfl⟩
abbrev main_v315 : Ref sig .tc := ⟨.hbm, 1055, rfl⟩
abbrev main_call46_cst : Ref sig .tc := ⟨.hbm, 1056, rfl⟩
abbrev main_call46_v0 : Ref sig .tc := ⟨.hbm, 1057, rfl⟩
abbrev main_call46_cst_0 : Ref sig .tc := ⟨.hbm, 1058, rfl⟩
abbrev main_call46_v1 : Ref sig .tc := ⟨.hbm, 1059, rfl⟩
abbrev main_call46_v2 : Ref sig .tc := ⟨.hbm, 1060, rfl⟩
abbrev main_call46_v3 : Ref sig .tc := ⟨.hbm, 1061, rfl⟩
abbrev main_call46_v4 : Ref sig .tc := ⟨.hbm, 1062, rfl⟩
abbrev main_call46_v5 : Ref sig .tc := ⟨.hbm, 1063, rfl⟩
abbrev main_call46_v6 : Ref sig .tc := ⟨.hbm, 1064, rfl⟩
abbrev main_call46_cst_1 : Ref sig .tc := ⟨.hbm, 1065, rfl⟩
abbrev main_call46_v7 : Ref sig .tc := ⟨.hbm, 1066, rfl⟩
abbrev main_call46_v8 : Ref sig .tc := ⟨.hbm, 1067, rfl⟩
abbrev main_call46_v9 : Ref sig .tc := ⟨.hbm, 1068, rfl⟩
abbrev main_call46_v10 : Ref sig .tc := ⟨.hbm, 1069, rfl⟩
abbrev main_v316 : Ref sig .tc := ⟨.hbm, 1070, rfl⟩
abbrev main_call47_c : Ref sig .tc := ⟨.hbm, 1071, rfl⟩
abbrev main_call47_v0 : Ref sig .tc := ⟨.hbm, 1072, rfl⟩
abbrev main_call47_v1 : Ref sig .tc := ⟨.hbm, 1073, rfl⟩
abbrev main_call47_c_0 : Ref sig .tc := ⟨.hbm, 1074, rfl⟩
abbrev main_call47_v2 : Ref sig .tc := ⟨.hbm, 1075, rfl⟩
abbrev main_call47_v3 : Ref sig .tc := ⟨.hbm, 1076, rfl⟩
abbrev main_call47_v4 : Ref sig .tc := ⟨.hbm, 1077, rfl⟩
abbrev main_call47_v5 : Ref sig .tc := ⟨.hbm, 1078, rfl⟩
abbrev main_call47_c_1 : Ref sig .tc := ⟨.hbm, 1079, rfl⟩
abbrev main_call47_c_2 : Ref sig .tc := ⟨.hbm, 1080, rfl⟩
abbrev main_call47_v6 : Ref sig .tc := ⟨.hbm, 1081, rfl⟩
abbrev main_call47_v7 : Ref sig .tc := ⟨.hbm, 1082, rfl⟩
abbrev main_call47_v8 : Ref sig .tc := ⟨.hbm, 1083, rfl⟩
abbrev main_call47_v9 : Ref sig .tc := ⟨.hbm, 1084, rfl⟩
abbrev main_call47_v10 : Ref sig .tc := ⟨.hbm, 1085, rfl⟩
abbrev main_call47_v11 : Ref sig .tc := ⟨.hbm, 1086, rfl⟩
abbrev main_call47_c_3 : Ref sig .tc := ⟨.hbm, 1087, rfl⟩
abbrev main_call47_v12 : Ref sig .tc := ⟨.hbm, 1088, rfl⟩
abbrev main_call47_v13 : Ref sig .tc := ⟨.hbm, 1089, rfl⟩
abbrev main_call47_cst : Ref sig .tc := ⟨.hbm, 1090, rfl⟩
abbrev main_call47_v14 : Ref sig .tc := ⟨.hbm, 1091, rfl⟩
abbrev main_v317 : Ref sig .tc := ⟨.hbm, 1092, rfl⟩
abbrev main_v318 : Ref sig .tc := ⟨.hbm, 1093, rfl⟩
abbrev main_v319 : Ref sig .tc := ⟨.hbm, 1094, rfl⟩
abbrev main_v320 : Ref sig .tc := ⟨.hbm, 1095, rfl⟩
abbrev main_v321 : Ref sig .tc := ⟨.hbm, 1096, rfl⟩
abbrev main_v322 : Ref sig .tc := ⟨.hbm, 1097, rfl⟩
abbrev main_call48_c : Ref sig .tc := ⟨.hbm, 1098, rfl⟩
abbrev main_call48_v0 : Ref sig .tc := ⟨.hbm, 1099, rfl⟩
abbrev main_call48_v1 : Ref sig .tc := ⟨.hbm, 1100, rfl⟩
abbrev main_call48_c_0 : Ref sig .tc := ⟨.hbm, 1101, rfl⟩
abbrev main_call48_v2 : Ref sig .tc := ⟨.hbm, 1102, rfl⟩
abbrev main_call48_v3 : Ref sig .tc := ⟨.hbm, 1103, rfl⟩
abbrev main_call48_v4 : Ref sig .tc := ⟨.hbm, 1104, rfl⟩
abbrev main_call48_v5 : Ref sig .tc := ⟨.hbm, 1105, rfl⟩
abbrev main_call48_c_1 : Ref sig .tc := ⟨.hbm, 1106, rfl⟩
abbrev main_call48_c_2 : Ref sig .tc := ⟨.hbm, 1107, rfl⟩
abbrev main_call48_v6 : Ref sig .tc := ⟨.hbm, 1108, rfl⟩
abbrev main_call48_v7 : Ref sig .tc := ⟨.hbm, 1109, rfl⟩
abbrev main_call48_v8 : Ref sig .tc := ⟨.hbm, 1110, rfl⟩
abbrev main_call48_v9 : Ref sig .tc := ⟨.hbm, 1111, rfl⟩
abbrev main_call48_v10 : Ref sig .tc := ⟨.hbm, 1112, rfl⟩
abbrev main_call48_v11 : Ref sig .tc := ⟨.hbm, 1113, rfl⟩
abbrev main_call48_c_3 : Ref sig .tc := ⟨.hbm, 1114, rfl⟩
abbrev main_call48_v12 : Ref sig .tc := ⟨.hbm, 1115, rfl⟩
abbrev main_call48_v13 : Ref sig .tc := ⟨.hbm, 1116, rfl⟩
abbrev main_call48_v14 : Ref sig .tc := ⟨.hbm, 1117, rfl⟩
abbrev main_call48_cst : Ref sig .tc := ⟨.hbm, 1118, rfl⟩
abbrev main_call48_v15 : Ref sig .tc := ⟨.hbm, 1119, rfl⟩
abbrev main_v323 : Ref sig .tc := ⟨.hbm, 1120, rfl⟩
abbrev main_cst_80 : Ref sig .tc := ⟨.hbm, 1121, rfl⟩
abbrev main_v324 : Ref sig .tc := ⟨.hbm, 1122, rfl⟩
abbrev main_cst_81 : Ref sig .tc := ⟨.hbm, 1123, rfl⟩
abbrev main_v325 : Ref sig .tc := ⟨.hbm, 1124, rfl⟩
abbrev main_v326 : Ref sig .tc := ⟨.hbm, 1125, rfl⟩
abbrev main_call49_c : Ref sig .tc := ⟨.hbm, 1126, rfl⟩
abbrev main_call49_v0 : Ref sig .tc := ⟨.hbm, 1127, rfl⟩
abbrev main_call49_v1 : Ref sig .tc := ⟨.hbm, 1128, rfl⟩
abbrev main_call49_c_0 : Ref sig .tc := ⟨.hbm, 1129, rfl⟩
abbrev main_call49_v2 : Ref sig .tc := ⟨.hbm, 1130, rfl⟩
abbrev main_call49_v3 : Ref sig .tc := ⟨.hbm, 1131, rfl⟩
abbrev main_call49_v4 : Ref sig .tc := ⟨.hbm, 1132, rfl⟩
abbrev main_call49_v5 : Ref sig .tc := ⟨.hbm, 1133, rfl⟩
abbrev main_call49_c_1 : Ref sig .tc := ⟨.hbm, 1134, rfl⟩
abbrev main_call49_c_2 : Ref sig .tc := ⟨.hbm, 1135, rfl⟩
abbrev main_call49_v6 : Ref sig .tc := ⟨.hbm, 1136, rfl⟩
abbrev main_call49_v7 : Ref sig .tc := ⟨.hbm, 1137, rfl⟩
abbrev main_call49_v8 : Ref sig .tc := ⟨.hbm, 1138, rfl⟩
abbrev main_call49_v9 : Ref sig .tc := ⟨.hbm, 1139, rfl⟩
abbrev main_call49_v10 : Ref sig .tc := ⟨.hbm, 1140, rfl⟩
abbrev main_call49_v11 : Ref sig .tc := ⟨.hbm, 1141, rfl⟩
abbrev main_call49_c_3 : Ref sig .tc := ⟨.hbm, 1142, rfl⟩
abbrev main_call49_v12 : Ref sig .tc := ⟨.hbm, 1143, rfl⟩
abbrev main_call49_v13 : Ref sig .tc := ⟨.hbm, 1144, rfl⟩
abbrev main_call49_v14 : Ref sig .tc := ⟨.hbm, 1145, rfl⟩
abbrev main_call49_cst : Ref sig .tc := ⟨.hbm, 1146, rfl⟩
abbrev main_call49_v15 : Ref sig .tc := ⟨.hbm, 1147, rfl⟩
abbrev main_v327 : Ref sig .tc := ⟨.hbm, 1148, rfl⟩
abbrev main_v328 : Ref sig .tc := ⟨.hbm, 1149, rfl⟩
abbrev main_v329 : Ref sig .tc := ⟨.hbm, 1150, rfl⟩
abbrev main_v330 : Ref sig .tc := ⟨.hbm, 1151, rfl⟩
abbrev main_v331 : Ref sig .tc := ⟨.hbm, 1152, rfl⟩
abbrev main_cst_82 : Ref sig .tc := ⟨.hbm, 1153, rfl⟩
abbrev main_v332 : Ref sig .tc := ⟨.hbm, 1154, rfl⟩
abbrev main_v333 : Ref sig .tc := ⟨.hbm, 1155, rfl⟩
abbrev main_cst_83 : Ref sig .tc := ⟨.hbm, 1156, rfl⟩
abbrev main_v334 : Ref sig .tc := ⟨.hbm, 1157, rfl⟩
abbrev main_cst_84 : Ref sig .tc := ⟨.hbm, 1158, rfl⟩
abbrev main_v335 : Ref sig .tc := ⟨.hbm, 1159, rfl⟩
abbrev main_v336 : Ref sig .tc := ⟨.hbm, 1160, rfl⟩
abbrev main_v337 : Ref sig .tc := ⟨.hbm, 1161, rfl⟩
abbrev main_v338 : Ref sig .tc := ⟨.hbm, 1162, rfl⟩
abbrev main_v339 : Ref sig .tc := ⟨.hbm, 1163, rfl⟩
abbrev main_v340 : Ref sig .tc := ⟨.hbm, 1164, rfl⟩
abbrev main_cst_85 : Ref sig .tc := ⟨.hbm, 1165, rfl⟩
abbrev main_v341 : Ref sig .tc := ⟨.hbm, 1166, rfl⟩
abbrev main_v342 : Ref sig .tc := ⟨.hbm, 1167, rfl⟩
abbrev main_v343 : Ref sig .tc := ⟨.hbm, 1168, rfl⟩
abbrev main_v344 : Ref sig .tc := ⟨.hbm, 1169, rfl⟩
abbrev main_v345 : Ref sig .tc := ⟨.hbm, 1170, rfl⟩
abbrev main_v346 : Ref sig .tc := ⟨.hbm, 1171, rfl⟩
abbrev main_call50_call0_cst : Ref sig .tc := ⟨.hbm, 1172, rfl⟩
abbrev main_call50_call0_v0 : Ref sig .tc := ⟨.hbm, 1173, rfl⟩
abbrev main_v347 : Ref sig .tc := ⟨.hbm, 1174, rfl⟩
abbrev main_v348 : Ref sig .tc := ⟨.hbm, 1175, rfl⟩
abbrev main_v349 : Ref sig .tc := ⟨.hbm, 1176, rfl⟩
abbrev main_v350 : Ref sig .tc := ⟨.hbm, 1177, rfl⟩
abbrev main_c_86 : Ref sig .tc := ⟨.hbm, 1178, rfl⟩
abbrev main_v351 : Ref sig .tc := ⟨.hbm, 1179, rfl⟩
abbrev main_v352 : Ref sig .tc := ⟨.hbm, 1180, rfl⟩
abbrev main_c_87 : Ref sig .tc := ⟨.hbm, 1181, rfl⟩
abbrev main_c_88 : Ref sig .tc := ⟨.hbm, 1182, rfl⟩
abbrev main_call51_v0 : Ref sig .tc := ⟨.hbm, 1183, rfl⟩
abbrev main_call51_v1 : Ref sig .tc := ⟨.hbm, 1184, rfl⟩
abbrev main_call51_v2 : Ref sig .tc := ⟨.hbm, 1185, rfl⟩
abbrev main_call51_v3 : Ref sig .tc := ⟨.hbm, 1186, rfl⟩
abbrev main_call51_v4 : Ref sig .tc := ⟨.hbm, 1187, rfl⟩
abbrev main_v353 : Ref sig .tc := ⟨.hbm, 1188, rfl⟩
abbrev main_cst_89 : Ref sig .tc := ⟨.hbm, 1189, rfl⟩
abbrev main_v354 : Ref sig .tc := ⟨.hbm, 1190, rfl⟩
abbrev main_v355 : Ref sig .tc := ⟨.hbm, 1191, rfl⟩
abbrev main_call52_cst : Ref sig .tc := ⟨.hbm, 1192, rfl⟩
abbrev main_call52_v0 : Ref sig .tc := ⟨.hbm, 1193, rfl⟩
abbrev main_call52_cst_0 : Ref sig .tc := ⟨.hbm, 1194, rfl⟩
abbrev main_call52_v1 : Ref sig .tc := ⟨.hbm, 1195, rfl⟩
abbrev main_call52_v2 : Ref sig .tc := ⟨.hbm, 1196, rfl⟩
abbrev main_call52_v3 : Ref sig .tc := ⟨.hbm, 1197, rfl⟩
abbrev main_call52_v4 : Ref sig .tc := ⟨.hbm, 1198, rfl⟩
abbrev main_call52_v5 : Ref sig .tc := ⟨.hbm, 1199, rfl⟩
abbrev main_call52_v6 : Ref sig .tc := ⟨.hbm, 1200, rfl⟩
abbrev main_call52_cst_1 : Ref sig .tc := ⟨.hbm, 1201, rfl⟩
abbrev main_call52_v7 : Ref sig .tc := ⟨.hbm, 1202, rfl⟩
abbrev main_call52_v8 : Ref sig .tc := ⟨.hbm, 1203, rfl⟩
abbrev main_call52_v9 : Ref sig .tc := ⟨.hbm, 1204, rfl⟩
abbrev main_call52_v10 : Ref sig .tc := ⟨.hbm, 1205, rfl⟩
abbrev main_v356 : Ref sig .tc := ⟨.hbm, 1206, rfl⟩
abbrev main_call53_c : Ref sig .tc := ⟨.hbm, 1207, rfl⟩
abbrev main_call53_v0 : Ref sig .tc := ⟨.hbm, 1208, rfl⟩
abbrev main_call53_v1 : Ref sig .tc := ⟨.hbm, 1209, rfl⟩
abbrev main_call53_c_0 : Ref sig .tc := ⟨.hbm, 1210, rfl⟩
abbrev main_call53_v2 : Ref sig .tc := ⟨.hbm, 1211, rfl⟩
abbrev main_call53_v3 : Ref sig .tc := ⟨.hbm, 1212, rfl⟩
abbrev main_call53_v4 : Ref sig .tc := ⟨.hbm, 1213, rfl⟩
abbrev main_call53_v5 : Ref sig .tc := ⟨.hbm, 1214, rfl⟩
abbrev main_call53_c_1 : Ref sig .tc := ⟨.hbm, 1215, rfl⟩
abbrev main_call53_c_2 : Ref sig .tc := ⟨.hbm, 1216, rfl⟩
abbrev main_call53_v6 : Ref sig .tc := ⟨.hbm, 1217, rfl⟩
abbrev main_call53_v7 : Ref sig .tc := ⟨.hbm, 1218, rfl⟩
abbrev main_call53_v8 : Ref sig .tc := ⟨.hbm, 1219, rfl⟩
abbrev main_call53_v9 : Ref sig .tc := ⟨.hbm, 1220, rfl⟩
abbrev main_call53_v10 : Ref sig .tc := ⟨.hbm, 1221, rfl⟩
abbrev main_call53_v11 : Ref sig .tc := ⟨.hbm, 1222, rfl⟩
abbrev main_call53_c_3 : Ref sig .tc := ⟨.hbm, 1223, rfl⟩
abbrev main_call53_v12 : Ref sig .tc := ⟨.hbm, 1224, rfl⟩
abbrev main_call53_v13 : Ref sig .tc := ⟨.hbm, 1225, rfl⟩
abbrev main_call53_cst : Ref sig .tc := ⟨.hbm, 1226, rfl⟩
abbrev main_call53_v14 : Ref sig .tc := ⟨.hbm, 1227, rfl⟩
abbrev main_v357 : Ref sig .tc := ⟨.hbm, 1228, rfl⟩
abbrev main_v358 : Ref sig .tc := ⟨.hbm, 1229, rfl⟩
abbrev main_v359 : Ref sig .tc := ⟨.hbm, 1230, rfl⟩
abbrev main_v360 : Ref sig .tc := ⟨.hbm, 1231, rfl⟩
abbrev main_v361 : Ref sig .tc := ⟨.hbm, 1232, rfl⟩
abbrev main_v362 : Ref sig .tc := ⟨.hbm, 1233, rfl⟩
abbrev main_call54_c : Ref sig .tc := ⟨.hbm, 1234, rfl⟩
abbrev main_call54_v0 : Ref sig .tc := ⟨.hbm, 1235, rfl⟩
abbrev main_call54_v1 : Ref sig .tc := ⟨.hbm, 1236, rfl⟩
abbrev main_call54_c_0 : Ref sig .tc := ⟨.hbm, 1237, rfl⟩
abbrev main_call54_v2 : Ref sig .tc := ⟨.hbm, 1238, rfl⟩
abbrev main_call54_v3 : Ref sig .tc := ⟨.hbm, 1239, rfl⟩
abbrev main_call54_v4 : Ref sig .tc := ⟨.hbm, 1240, rfl⟩
abbrev main_call54_v5 : Ref sig .tc := ⟨.hbm, 1241, rfl⟩
abbrev main_call54_c_1 : Ref sig .tc := ⟨.hbm, 1242, rfl⟩
abbrev main_call54_c_2 : Ref sig .tc := ⟨.hbm, 1243, rfl⟩
abbrev main_call54_v6 : Ref sig .tc := ⟨.hbm, 1244, rfl⟩
abbrev main_call54_v7 : Ref sig .tc := ⟨.hbm, 1245, rfl⟩
abbrev main_call54_v8 : Ref sig .tc := ⟨.hbm, 1246, rfl⟩
abbrev main_call54_v9 : Ref sig .tc := ⟨.hbm, 1247, rfl⟩
abbrev main_call54_v10 : Ref sig .tc := ⟨.hbm, 1248, rfl⟩
abbrev main_call54_v11 : Ref sig .tc := ⟨.hbm, 1249, rfl⟩
abbrev main_call54_c_3 : Ref sig .tc := ⟨.hbm, 1250, rfl⟩
abbrev main_call54_v12 : Ref sig .tc := ⟨.hbm, 1251, rfl⟩
abbrev main_call54_v13 : Ref sig .tc := ⟨.hbm, 1252, rfl⟩
abbrev main_call54_v14 : Ref sig .tc := ⟨.hbm, 1253, rfl⟩
abbrev main_call54_cst : Ref sig .tc := ⟨.hbm, 1254, rfl⟩
abbrev main_call54_v15 : Ref sig .tc := ⟨.hbm, 1255, rfl⟩
abbrev main_v363 : Ref sig .tc := ⟨.hbm, 1256, rfl⟩
abbrev main_cst_90 : Ref sig .tc := ⟨.hbm, 1257, rfl⟩
abbrev main_v364 : Ref sig .tc := ⟨.hbm, 1258, rfl⟩
abbrev main_cst_91 : Ref sig .tc := ⟨.hbm, 1259, rfl⟩
abbrev main_v365 : Ref sig .tc := ⟨.hbm, 1260, rfl⟩
abbrev main_v366 : Ref sig .tc := ⟨.hbm, 1261, rfl⟩
abbrev main_call55_c : Ref sig .tc := ⟨.hbm, 1262, rfl⟩
abbrev main_call55_v0 : Ref sig .tc := ⟨.hbm, 1263, rfl⟩
abbrev main_call55_v1 : Ref sig .tc := ⟨.hbm, 1264, rfl⟩
abbrev main_call55_c_0 : Ref sig .tc := ⟨.hbm, 1265, rfl⟩
abbrev main_call55_v2 : Ref sig .tc := ⟨.hbm, 1266, rfl⟩
abbrev main_call55_v3 : Ref sig .tc := ⟨.hbm, 1267, rfl⟩
abbrev main_call55_v4 : Ref sig .tc := ⟨.hbm, 1268, rfl⟩
abbrev main_call55_v5 : Ref sig .tc := ⟨.hbm, 1269, rfl⟩
abbrev main_call55_c_1 : Ref sig .tc := ⟨.hbm, 1270, rfl⟩
abbrev main_call55_c_2 : Ref sig .tc := ⟨.hbm, 1271, rfl⟩
abbrev main_call55_v6 : Ref sig .tc := ⟨.hbm, 1272, rfl⟩
abbrev main_call55_v7 : Ref sig .tc := ⟨.hbm, 1273, rfl⟩
abbrev main_call55_v8 : Ref sig .tc := ⟨.hbm, 1274, rfl⟩
abbrev main_call55_v9 : Ref sig .tc := ⟨.hbm, 1275, rfl⟩
abbrev main_call55_v10 : Ref sig .tc := ⟨.hbm, 1276, rfl⟩
abbrev main_call55_v11 : Ref sig .tc := ⟨.hbm, 1277, rfl⟩
abbrev main_call55_c_3 : Ref sig .tc := ⟨.hbm, 1278, rfl⟩
abbrev main_call55_v12 : Ref sig .tc := ⟨.hbm, 1279, rfl⟩
abbrev main_call55_v13 : Ref sig .tc := ⟨.hbm, 1280, rfl⟩
abbrev main_call55_v14 : Ref sig .tc := ⟨.hbm, 1281, rfl⟩
abbrev main_call55_cst : Ref sig .tc := ⟨.hbm, 1282, rfl⟩
abbrev main_call55_v15 : Ref sig .tc := ⟨.hbm, 1283, rfl⟩
abbrev main_v367 : Ref sig .tc := ⟨.hbm, 1284, rfl⟩
abbrev main_v368 : Ref sig .tc := ⟨.hbm, 1285, rfl⟩
abbrev main_v369 : Ref sig .tc := ⟨.hbm, 1286, rfl⟩
abbrev main_v370 : Ref sig .tc := ⟨.hbm, 1287, rfl⟩
abbrev main_v371 : Ref sig .tc := ⟨.hbm, 1288, rfl⟩
abbrev main_cst_92 : Ref sig .tc := ⟨.hbm, 1289, rfl⟩
abbrev main_v372 : Ref sig .tc := ⟨.hbm, 1290, rfl⟩
abbrev main_v373 : Ref sig .tc := ⟨.hbm, 1291, rfl⟩
abbrev main_cst_93 : Ref sig .tc := ⟨.hbm, 1292, rfl⟩
abbrev main_v374 : Ref sig .tc := ⟨.hbm, 1293, rfl⟩
abbrev main_cst_94 : Ref sig .tc := ⟨.hbm, 1294, rfl⟩
abbrev main_v375 : Ref sig .tc := ⟨.hbm, 1295, rfl⟩
abbrev main_v376 : Ref sig .tc := ⟨.hbm, 1296, rfl⟩
abbrev main_v377 : Ref sig .tc := ⟨.hbm, 1297, rfl⟩
abbrev main_v378 : Ref sig .tc := ⟨.hbm, 1298, rfl⟩
abbrev main_v379 : Ref sig .tc := ⟨.hbm, 1299, rfl⟩
abbrev main_v380 : Ref sig .tc := ⟨.hbm, 1300, rfl⟩
abbrev main_cst_95 : Ref sig .tc := ⟨.hbm, 1301, rfl⟩
abbrev main_v381 : Ref sig .tc := ⟨.hbm, 1302, rfl⟩
abbrev main_v382 : Ref sig .tc := ⟨.hbm, 1303, rfl⟩
abbrev main_v383 : Ref sig .tc := ⟨.hbm, 1304, rfl⟩
abbrev main_v384 : Ref sig .tc := ⟨.hbm, 1305, rfl⟩
abbrev main_v385 : Ref sig .tc := ⟨.hbm, 1306, rfl⟩
abbrev main_v386 : Ref sig .tc := ⟨.hbm, 1307, rfl⟩
abbrev main_call56_call0_cst : Ref sig .tc := ⟨.hbm, 1308, rfl⟩
abbrev main_call56_call0_v0 : Ref sig .tc := ⟨.hbm, 1309, rfl⟩
abbrev main_v387 : Ref sig .tc := ⟨.hbm, 1310, rfl⟩
abbrev main_v388 : Ref sig .tc := ⟨.hbm, 1311, rfl⟩
abbrev main_v389 : Ref sig .tc := ⟨.hbm, 1312, rfl⟩
abbrev main_v390 : Ref sig .tc := ⟨.hbm, 1313, rfl⟩
abbrev main_c_96 : Ref sig .tc := ⟨.hbm, 1314, rfl⟩
abbrev main_v391 : Ref sig .tc := ⟨.hbm, 1315, rfl⟩
abbrev main_v392 : Ref sig .tc := ⟨.hbm, 1316, rfl⟩
abbrev main_c_97 : Ref sig .tc := ⟨.hbm, 1317, rfl⟩
abbrev main_c_98 : Ref sig .tc := ⟨.hbm, 1318, rfl⟩
abbrev main_call57_v0 : Ref sig .tc := ⟨.hbm, 1319, rfl⟩
abbrev main_call57_v1 : Ref sig .tc := ⟨.hbm, 1320, rfl⟩
abbrev main_call57_v2 : Ref sig .tc := ⟨.hbm, 1321, rfl⟩
abbrev main_call57_v3 : Ref sig .tc := ⟨.hbm, 1322, rfl⟩
abbrev main_call57_v4 : Ref sig .tc := ⟨.hbm, 1323, rfl⟩
abbrev main_v393 : Ref sig .tc := ⟨.hbm, 1324, rfl⟩
abbrev main_cst_99 : Ref sig .tc := ⟨.hbm, 1325, rfl⟩
abbrev main_v394 : Ref sig .tc := ⟨.hbm, 1326, rfl⟩
abbrev main_v395 : Ref sig .tc := ⟨.hbm, 1327, rfl⟩
abbrev main_call58_cst : Ref sig .tc := ⟨.hbm, 1328, rfl⟩
abbrev main_call58_v0 : Ref sig .tc := ⟨.hbm, 1329, rfl⟩
abbrev main_call58_cst_0 : Ref sig .tc := ⟨.hbm, 1330, rfl⟩
abbrev main_call58_v1 : Ref sig .tc := ⟨.hbm, 1331, rfl⟩
abbrev main_call58_v2 : Ref sig .tc := ⟨.hbm, 1332, rfl⟩
abbrev main_call58_v3 : Ref sig .tc := ⟨.hbm, 1333, rfl⟩
abbrev main_call58_v4 : Ref sig .tc := ⟨.hbm, 1334, rfl⟩
abbrev main_call58_v5 : Ref sig .tc := ⟨.hbm, 1335, rfl⟩
abbrev main_call58_v6 : Ref sig .tc := ⟨.hbm, 1336, rfl⟩
abbrev main_call58_cst_1 : Ref sig .tc := ⟨.hbm, 1337, rfl⟩
abbrev main_call58_v7 : Ref sig .tc := ⟨.hbm, 1338, rfl⟩
abbrev main_call58_v8 : Ref sig .tc := ⟨.hbm, 1339, rfl⟩
abbrev main_call58_v9 : Ref sig .tc := ⟨.hbm, 1340, rfl⟩
abbrev main_call58_v10 : Ref sig .tc := ⟨.hbm, 1341, rfl⟩
abbrev main_v396 : Ref sig .tc := ⟨.hbm, 1342, rfl⟩
abbrev main_call59_c : Ref sig .tc := ⟨.hbm, 1343, rfl⟩
abbrev main_call59_v0 : Ref sig .tc := ⟨.hbm, 1344, rfl⟩
abbrev main_call59_v1 : Ref sig .tc := ⟨.hbm, 1345, rfl⟩
abbrev main_call59_c_0 : Ref sig .tc := ⟨.hbm, 1346, rfl⟩
abbrev main_call59_v2 : Ref sig .tc := ⟨.hbm, 1347, rfl⟩
abbrev main_call59_v3 : Ref sig .tc := ⟨.hbm, 1348, rfl⟩
abbrev main_call59_v4 : Ref sig .tc := ⟨.hbm, 1349, rfl⟩
abbrev main_call59_v5 : Ref sig .tc := ⟨.hbm, 1350, rfl⟩
abbrev main_call59_c_1 : Ref sig .tc := ⟨.hbm, 1351, rfl⟩
abbrev main_call59_c_2 : Ref sig .tc := ⟨.hbm, 1352, rfl⟩
abbrev main_call59_v6 : Ref sig .tc := ⟨.hbm, 1353, rfl⟩
abbrev main_call59_v7 : Ref sig .tc := ⟨.hbm, 1354, rfl⟩
abbrev main_call59_v8 : Ref sig .tc := ⟨.hbm, 1355, rfl⟩
abbrev main_call59_v9 : Ref sig .tc := ⟨.hbm, 1356, rfl⟩
abbrev main_call59_v10 : Ref sig .tc := ⟨.hbm, 1357, rfl⟩
abbrev main_call59_v11 : Ref sig .tc := ⟨.hbm, 1358, rfl⟩
abbrev main_call59_c_3 : Ref sig .tc := ⟨.hbm, 1359, rfl⟩
abbrev main_call59_v12 : Ref sig .tc := ⟨.hbm, 1360, rfl⟩
abbrev main_call59_v13 : Ref sig .tc := ⟨.hbm, 1361, rfl⟩
abbrev main_call59_cst : Ref sig .tc := ⟨.hbm, 1362, rfl⟩
abbrev main_call59_v14 : Ref sig .tc := ⟨.hbm, 1363, rfl⟩
abbrev main_v397 : Ref sig .tc := ⟨.hbm, 1364, rfl⟩
abbrev main_v398 : Ref sig .tc := ⟨.hbm, 1365, rfl⟩
abbrev main_v399 : Ref sig .tc := ⟨.hbm, 1366, rfl⟩
abbrev main_v400 : Ref sig .tc := ⟨.hbm, 1367, rfl⟩
abbrev main_v401 : Ref sig .tc := ⟨.hbm, 1368, rfl⟩
abbrev main_v402 : Ref sig .tc := ⟨.hbm, 1369, rfl⟩
abbrev main_call60_c : Ref sig .tc := ⟨.hbm, 1370, rfl⟩
abbrev main_call60_v0 : Ref sig .tc := ⟨.hbm, 1371, rfl⟩
abbrev main_call60_v1 : Ref sig .tc := ⟨.hbm, 1372, rfl⟩
abbrev main_call60_c_0 : Ref sig .tc := ⟨.hbm, 1373, rfl⟩
abbrev main_call60_v2 : Ref sig .tc := ⟨.hbm, 1374, rfl⟩
abbrev main_call60_v3 : Ref sig .tc := ⟨.hbm, 1375, rfl⟩
abbrev main_call60_v4 : Ref sig .tc := ⟨.hbm, 1376, rfl⟩
abbrev main_call60_v5 : Ref sig .tc := ⟨.hbm, 1377, rfl⟩
abbrev main_call60_c_1 : Ref sig .tc := ⟨.hbm, 1378, rfl⟩
abbrev main_call60_c_2 : Ref sig .tc := ⟨.hbm, 1379, rfl⟩
abbrev main_call60_v6 : Ref sig .tc := ⟨.hbm, 1380, rfl⟩
abbrev main_call60_v7 : Ref sig .tc := ⟨.hbm, 1381, rfl⟩
abbrev main_call60_v8 : Ref sig .tc := ⟨.hbm, 1382, rfl⟩
abbrev main_call60_v9 : Ref sig .tc := ⟨.hbm, 1383, rfl⟩
abbrev main_call60_v10 : Ref sig .tc := ⟨.hbm, 1384, rfl⟩
abbrev main_call60_v11 : Ref sig .tc := ⟨.hbm, 1385, rfl⟩
abbrev main_call60_c_3 : Ref sig .tc := ⟨.hbm, 1386, rfl⟩
abbrev main_call60_v12 : Ref sig .tc := ⟨.hbm, 1387, rfl⟩
abbrev main_call60_v13 : Ref sig .tc := ⟨.hbm, 1388, rfl⟩
abbrev main_call60_v14 : Ref sig .tc := ⟨.hbm, 1389, rfl⟩
abbrev main_call60_cst : Ref sig .tc := ⟨.hbm, 1390, rfl⟩
abbrev main_call60_v15 : Ref sig .tc := ⟨.hbm, 1391, rfl⟩
abbrev main_v403 : Ref sig .tc := ⟨.hbm, 1392, rfl⟩
abbrev main_cst_100 : Ref sig .tc := ⟨.hbm, 1393, rfl⟩
abbrev main_v404 : Ref sig .tc := ⟨.hbm, 1394, rfl⟩
abbrev main_cst_101 : Ref sig .tc := ⟨.hbm, 1395, rfl⟩
abbrev main_v405 : Ref sig .tc := ⟨.hbm, 1396, rfl⟩
abbrev main_v406 : Ref sig .tc := ⟨.hbm, 1397, rfl⟩
abbrev main_call61_c : Ref sig .tc := ⟨.hbm, 1398, rfl⟩
abbrev main_call61_v0 : Ref sig .tc := ⟨.hbm, 1399, rfl⟩
abbrev main_call61_v1 : Ref sig .tc := ⟨.hbm, 1400, rfl⟩
abbrev main_call61_c_0 : Ref sig .tc := ⟨.hbm, 1401, rfl⟩
abbrev main_call61_v2 : Ref sig .tc := ⟨.hbm, 1402, rfl⟩
abbrev main_call61_v3 : Ref sig .tc := ⟨.hbm, 1403, rfl⟩
abbrev main_call61_v4 : Ref sig .tc := ⟨.hbm, 1404, rfl⟩
abbrev main_call61_v5 : Ref sig .tc := ⟨.hbm, 1405, rfl⟩
abbrev main_call61_c_1 : Ref sig .tc := ⟨.hbm, 1406, rfl⟩
abbrev main_call61_c_2 : Ref sig .tc := ⟨.hbm, 1407, rfl⟩
abbrev main_call61_v6 : Ref sig .tc := ⟨.hbm, 1408, rfl⟩
abbrev main_call61_v7 : Ref sig .tc := ⟨.hbm, 1409, rfl⟩
abbrev main_call61_v8 : Ref sig .tc := ⟨.hbm, 1410, rfl⟩
abbrev main_call61_v9 : Ref sig .tc := ⟨.hbm, 1411, rfl⟩
abbrev main_call61_v10 : Ref sig .tc := ⟨.hbm, 1412, rfl⟩
abbrev main_call61_v11 : Ref sig .tc := ⟨.hbm, 1413, rfl⟩
abbrev main_call61_c_3 : Ref sig .tc := ⟨.hbm, 1414, rfl⟩
abbrev main_call61_v12 : Ref sig .tc := ⟨.hbm, 1415, rfl⟩
abbrev main_call61_v13 : Ref sig .tc := ⟨.hbm, 1416, rfl⟩
abbrev main_call61_v14 : Ref sig .tc := ⟨.hbm, 1417, rfl⟩
abbrev main_call61_cst : Ref sig .tc := ⟨.hbm, 1418, rfl⟩
abbrev main_call61_v15 : Ref sig .tc := ⟨.hbm, 1419, rfl⟩
abbrev main_v407 : Ref sig .tc := ⟨.hbm, 1420, rfl⟩
abbrev main_v408 : Ref sig .tc := ⟨.hbm, 1421, rfl⟩
abbrev main_v409 : Ref sig .tc := ⟨.hbm, 1422, rfl⟩
abbrev main_v410 : Ref sig .tc := ⟨.hbm, 1423, rfl⟩
abbrev main_v411 : Ref sig .tc := ⟨.hbm, 1424, rfl⟩
abbrev main_cst_102 : Ref sig .tc := ⟨.hbm, 1425, rfl⟩
abbrev main_v412 : Ref sig .tc := ⟨.hbm, 1426, rfl⟩
abbrev main_v413 : Ref sig .tc := ⟨.hbm, 1427, rfl⟩
abbrev main_cst_103 : Ref sig .tc := ⟨.hbm, 1428, rfl⟩
abbrev main_v414 : Ref sig .tc := ⟨.hbm, 1429, rfl⟩
abbrev main_cst_104 : Ref sig .tc := ⟨.hbm, 1430, rfl⟩
abbrev main_v415 : Ref sig .tc := ⟨.hbm, 1431, rfl⟩
abbrev main_v416 : Ref sig .tc := ⟨.hbm, 1432, rfl⟩
abbrev main_v417 : Ref sig .tc := ⟨.hbm, 1433, rfl⟩
abbrev main_v418 : Ref sig .tc := ⟨.hbm, 1434, rfl⟩
abbrev main_v419 : Ref sig .tc := ⟨.hbm, 1435, rfl⟩
abbrev main_v420 : Ref sig .tc := ⟨.hbm, 1436, rfl⟩
abbrev main_cst_105 : Ref sig .tc := ⟨.hbm, 1437, rfl⟩
abbrev main_v421 : Ref sig .tc := ⟨.hbm, 1438, rfl⟩
abbrev main_v422 : Ref sig .tc := ⟨.hbm, 1439, rfl⟩
abbrev main_v423 : Ref sig .tc := ⟨.hbm, 1440, rfl⟩
abbrev main_v424 : Ref sig .tc := ⟨.hbm, 1441, rfl⟩
abbrev main_v425 : Ref sig .tc := ⟨.hbm, 1442, rfl⟩
abbrev main_v426 : Ref sig .tc := ⟨.hbm, 1443, rfl⟩
abbrev main_call62_call0_cst : Ref sig .tc := ⟨.hbm, 1444, rfl⟩
abbrev main_call62_call0_v0 : Ref sig .tc := ⟨.hbm, 1445, rfl⟩
abbrev main_v427 : Ref sig .tc := ⟨.hbm, 1446, rfl⟩
abbrev main_v428 : Ref sig .tc := ⟨.hbm, 1447, rfl⟩
abbrev main_v429 : Ref sig .tc := ⟨.hbm, 1448, rfl⟩
abbrev main_v430 : Ref sig .tc := ⟨.hbm, 1449, rfl⟩
abbrev main_c_106 : Ref sig .tc := ⟨.hbm, 1450, rfl⟩
abbrev main_v431 : Ref sig .tc := ⟨.hbm, 1451, rfl⟩
abbrev main_v432 : Ref sig .tc := ⟨.hbm, 1452, rfl⟩
abbrev main_c_107 : Ref sig .tc := ⟨.hbm, 1453, rfl⟩
abbrev main_c_108 : Ref sig .tc := ⟨.hbm, 1454, rfl⟩
abbrev main_call63_v0 : Ref sig .tc := ⟨.hbm, 1455, rfl⟩
abbrev main_call63_v1 : Ref sig .tc := ⟨.hbm, 1456, rfl⟩
abbrev main_call63_v2 : Ref sig .tc := ⟨.hbm, 1457, rfl⟩
abbrev main_call63_v3 : Ref sig .tc := ⟨.hbm, 1458, rfl⟩
abbrev main_call63_v4 : Ref sig .tc := ⟨.hbm, 1459, rfl⟩
abbrev main_v433 : Ref sig .tc := ⟨.hbm, 1460, rfl⟩
abbrev main_cst_109 : Ref sig .tc := ⟨.hbm, 1461, rfl⟩
abbrev main_v434 : Ref sig .tc := ⟨.hbm, 1462, rfl⟩
abbrev main_v435 : Ref sig .tc := ⟨.hbm, 1463, rfl⟩
abbrev main_call64_cst : Ref sig .tc := ⟨.hbm, 1464, rfl⟩
abbrev main_call64_v0 : Ref sig .tc := ⟨.hbm, 1465, rfl⟩
abbrev main_call64_cst_0 : Ref sig .tc := ⟨.hbm, 1466, rfl⟩
abbrev main_call64_v1 : Ref sig .tc := ⟨.hbm, 1467, rfl⟩
abbrev main_call64_v2 : Ref sig .tc := ⟨.hbm, 1468, rfl⟩
abbrev main_call64_v3 : Ref sig .tc := ⟨.hbm, 1469, rfl⟩
abbrev main_call64_v4 : Ref sig .tc := ⟨.hbm, 1470, rfl⟩
abbrev main_call64_v5 : Ref sig .tc := ⟨.hbm, 1471, rfl⟩
abbrev main_call64_v6 : Ref sig .tc := ⟨.hbm, 1472, rfl⟩
abbrev main_call64_cst_1 : Ref sig .tc := ⟨.hbm, 1473, rfl⟩
abbrev main_call64_v7 : Ref sig .tc := ⟨.hbm, 1474, rfl⟩
abbrev main_call64_v8 : Ref sig .tc := ⟨.hbm, 1475, rfl⟩
abbrev main_call64_v9 : Ref sig .tc := ⟨.hbm, 1476, rfl⟩
abbrev main_call64_v10 : Ref sig .tc := ⟨.hbm, 1477, rfl⟩
abbrev main_v436 : Ref sig .tc := ⟨.hbm, 1478, rfl⟩
abbrev main_call65_c : Ref sig .tc := ⟨.hbm, 1479, rfl⟩
abbrev main_call65_v0 : Ref sig .tc := ⟨.hbm, 1480, rfl⟩
abbrev main_call65_v1 : Ref sig .tc := ⟨.hbm, 1481, rfl⟩
abbrev main_call65_c_0 : Ref sig .tc := ⟨.hbm, 1482, rfl⟩
abbrev main_call65_v2 : Ref sig .tc := ⟨.hbm, 1483, rfl⟩
abbrev main_call65_v3 : Ref sig .tc := ⟨.hbm, 1484, rfl⟩
abbrev main_call65_v4 : Ref sig .tc := ⟨.hbm, 1485, rfl⟩
abbrev main_call65_v5 : Ref sig .tc := ⟨.hbm, 1486, rfl⟩
abbrev main_call65_c_1 : Ref sig .tc := ⟨.hbm, 1487, rfl⟩
abbrev main_call65_c_2 : Ref sig .tc := ⟨.hbm, 1488, rfl⟩
abbrev main_call65_v6 : Ref sig .tc := ⟨.hbm, 1489, rfl⟩
abbrev main_call65_v7 : Ref sig .tc := ⟨.hbm, 1490, rfl⟩
abbrev main_call65_v8 : Ref sig .tc := ⟨.hbm, 1491, rfl⟩
abbrev main_call65_v9 : Ref sig .tc := ⟨.hbm, 1492, rfl⟩
abbrev main_call65_v10 : Ref sig .tc := ⟨.hbm, 1493, rfl⟩
abbrev main_call65_v11 : Ref sig .tc := ⟨.hbm, 1494, rfl⟩
abbrev main_call65_c_3 : Ref sig .tc := ⟨.hbm, 1495, rfl⟩
abbrev main_call65_v12 : Ref sig .tc := ⟨.hbm, 1496, rfl⟩
abbrev main_call65_v13 : Ref sig .tc := ⟨.hbm, 1497, rfl⟩
abbrev main_call65_cst : Ref sig .tc := ⟨.hbm, 1498, rfl⟩
abbrev main_call65_v14 : Ref sig .tc := ⟨.hbm, 1499, rfl⟩
abbrev main_v437 : Ref sig .tc := ⟨.hbm, 1500, rfl⟩
abbrev main_v438 : Ref sig .tc := ⟨.hbm, 1501, rfl⟩
abbrev main_v439 : Ref sig .tc := ⟨.hbm, 1502, rfl⟩
abbrev main_v440 : Ref sig .tc := ⟨.hbm, 1503, rfl⟩
abbrev main_v441 : Ref sig .tc := ⟨.hbm, 1504, rfl⟩
abbrev main_v442 : Ref sig .tc := ⟨.hbm, 1505, rfl⟩
abbrev main_call66_c : Ref sig .tc := ⟨.hbm, 1506, rfl⟩
abbrev main_call66_v0 : Ref sig .tc := ⟨.hbm, 1507, rfl⟩
abbrev main_call66_v1 : Ref sig .tc := ⟨.hbm, 1508, rfl⟩
abbrev main_call66_c_0 : Ref sig .tc := ⟨.hbm, 1509, rfl⟩
abbrev main_call66_v2 : Ref sig .tc := ⟨.hbm, 1510, rfl⟩
abbrev main_call66_v3 : Ref sig .tc := ⟨.hbm, 1511, rfl⟩
abbrev main_call66_v4 : Ref sig .tc := ⟨.hbm, 1512, rfl⟩
abbrev main_call66_v5 : Ref sig .tc := ⟨.hbm, 1513, rfl⟩
abbrev main_call66_c_1 : Ref sig .tc := ⟨.hbm, 1514, rfl⟩
abbrev main_call66_c_2 : Ref sig .tc := ⟨.hbm, 1515, rfl⟩
abbrev main_call66_v6 : Ref sig .tc := ⟨.hbm, 1516, rfl⟩
abbrev main_call66_v7 : Ref sig .tc := ⟨.hbm, 1517, rfl⟩
abbrev main_call66_v8 : Ref sig .tc := ⟨.hbm, 1518, rfl⟩
abbrev main_call66_v9 : Ref sig .tc := ⟨.hbm, 1519, rfl⟩
abbrev main_call66_v10 : Ref sig .tc := ⟨.hbm, 1520, rfl⟩
abbrev main_call66_v11 : Ref sig .tc := ⟨.hbm, 1521, rfl⟩
abbrev main_call66_c_3 : Ref sig .tc := ⟨.hbm, 1522, rfl⟩
abbrev main_call66_v12 : Ref sig .tc := ⟨.hbm, 1523, rfl⟩
abbrev main_call66_v13 : Ref sig .tc := ⟨.hbm, 1524, rfl⟩
abbrev main_call66_v14 : Ref sig .tc := ⟨.hbm, 1525, rfl⟩
abbrev main_call66_cst : Ref sig .tc := ⟨.hbm, 1526, rfl⟩
abbrev main_call66_v15 : Ref sig .tc := ⟨.hbm, 1527, rfl⟩
abbrev main_v443 : Ref sig .tc := ⟨.hbm, 1528, rfl⟩
abbrev main_cst_110 : Ref sig .tc := ⟨.hbm, 1529, rfl⟩
abbrev main_v444 : Ref sig .tc := ⟨.hbm, 1530, rfl⟩
abbrev main_cst_111 : Ref sig .tc := ⟨.hbm, 1531, rfl⟩
abbrev main_v445 : Ref sig .tc := ⟨.hbm, 1532, rfl⟩
abbrev main_v446 : Ref sig .tc := ⟨.hbm, 1533, rfl⟩
abbrev main_call67_c : Ref sig .tc := ⟨.hbm, 1534, rfl⟩
abbrev main_call67_v0 : Ref sig .tc := ⟨.hbm, 1535, rfl⟩
abbrev main_call67_v1 : Ref sig .tc := ⟨.hbm, 1536, rfl⟩
abbrev main_call67_c_0 : Ref sig .tc := ⟨.hbm, 1537, rfl⟩
abbrev main_call67_v2 : Ref sig .tc := ⟨.hbm, 1538, rfl⟩
abbrev main_call67_v3 : Ref sig .tc := ⟨.hbm, 1539, rfl⟩
abbrev main_call67_v4 : Ref sig .tc := ⟨.hbm, 1540, rfl⟩
abbrev main_call67_v5 : Ref sig .tc := ⟨.hbm, 1541, rfl⟩
abbrev main_call67_c_1 : Ref sig .tc := ⟨.hbm, 1542, rfl⟩
abbrev main_call67_c_2 : Ref sig .tc := ⟨.hbm, 1543, rfl⟩
abbrev main_call67_v6 : Ref sig .tc := ⟨.hbm, 1544, rfl⟩
abbrev main_call67_v7 : Ref sig .tc := ⟨.hbm, 1545, rfl⟩
abbrev main_call67_v8 : Ref sig .tc := ⟨.hbm, 1546, rfl⟩
abbrev main_call67_v9 : Ref sig .tc := ⟨.hbm, 1547, rfl⟩
abbrev main_call67_v10 : Ref sig .tc := ⟨.hbm, 1548, rfl⟩
abbrev main_call67_v11 : Ref sig .tc := ⟨.hbm, 1549, rfl⟩
abbrev main_call67_c_3 : Ref sig .tc := ⟨.hbm, 1550, rfl⟩
abbrev main_call67_v12 : Ref sig .tc := ⟨.hbm, 1551, rfl⟩
abbrev main_call67_v13 : Ref sig .tc := ⟨.hbm, 1552, rfl⟩
abbrev main_call67_v14 : Ref sig .tc := ⟨.hbm, 1553, rfl⟩
abbrev main_call67_cst : Ref sig .tc := ⟨.hbm, 1554, rfl⟩
abbrev main_call67_v15 : Ref sig .tc := ⟨.hbm, 1555, rfl⟩
abbrev main_v447 : Ref sig .tc := ⟨.hbm, 1556, rfl⟩
abbrev main_v448 : Ref sig .tc := ⟨.hbm, 1557, rfl⟩
abbrev main_v449 : Ref sig .tc := ⟨.hbm, 1558, rfl⟩
abbrev main_v450 : Ref sig .tc := ⟨.hbm, 1559, rfl⟩
abbrev main_v451 : Ref sig .tc := ⟨.hbm, 1560, rfl⟩
abbrev main_cst_112 : Ref sig .tc := ⟨.hbm, 1561, rfl⟩
abbrev main_v452 : Ref sig .tc := ⟨.hbm, 1562, rfl⟩
abbrev main_v453 : Ref sig .tc := ⟨.hbm, 1563, rfl⟩
abbrev main_cst_113 : Ref sig .tc := ⟨.hbm, 1564, rfl⟩
abbrev main_v454 : Ref sig .tc := ⟨.hbm, 1565, rfl⟩
abbrev main_cst_114 : Ref sig .tc := ⟨.hbm, 1566, rfl⟩
abbrev main_v455 : Ref sig .tc := ⟨.hbm, 1567, rfl⟩
abbrev main_v456 : Ref sig .tc := ⟨.hbm, 1568, rfl⟩
abbrev main_v457 : Ref sig .tc := ⟨.hbm, 1569, rfl⟩
abbrev main_v458 : Ref sig .tc := ⟨.hbm, 1570, rfl⟩
abbrev main_v459 : Ref sig .tc := ⟨.hbm, 1571, rfl⟩
abbrev main_v460 : Ref sig .tc := ⟨.hbm, 1572, rfl⟩
abbrev main_cst_115 : Ref sig .tc := ⟨.hbm, 1573, rfl⟩
abbrev main_v461 : Ref sig .tc := ⟨.hbm, 1574, rfl⟩
abbrev main_v462 : Ref sig .tc := ⟨.hbm, 1575, rfl⟩
abbrev main_v463 : Ref sig .tc := ⟨.hbm, 1576, rfl⟩
abbrev main_v464 : Ref sig .tc := ⟨.hbm, 1577, rfl⟩
abbrev main_v465 : Ref sig .tc := ⟨.hbm, 1578, rfl⟩
abbrev main_v466 : Ref sig .tc := ⟨.hbm, 1579, rfl⟩
abbrev main_call68_call0_cst : Ref sig .tc := ⟨.hbm, 1580, rfl⟩
abbrev main_call68_call0_v0 : Ref sig .tc := ⟨.hbm, 1581, rfl⟩
abbrev main_v467 : Ref sig .tc := ⟨.hbm, 1582, rfl⟩
abbrev main_v468 : Ref sig .tc := ⟨.hbm, 1583, rfl⟩
abbrev main_v469 : Ref sig .tc := ⟨.hbm, 1584, rfl⟩
abbrev main_v470 : Ref sig .tc := ⟨.hbm, 1585, rfl⟩
abbrev main_c_116 : Ref sig .tc := ⟨.hbm, 1586, rfl⟩
abbrev main_v471 : Ref sig .tc := ⟨.hbm, 1587, rfl⟩
abbrev main_v472 : Ref sig .tc := ⟨.hbm, 1588, rfl⟩
abbrev main_c_117 : Ref sig .tc := ⟨.hbm, 1589, rfl⟩
abbrev main_c_118 : Ref sig .tc := ⟨.hbm, 1590, rfl⟩
abbrev main_call69_v0 : Ref sig .tc := ⟨.hbm, 1591, rfl⟩
abbrev main_call69_v1 : Ref sig .tc := ⟨.hbm, 1592, rfl⟩
abbrev main_call69_v2 : Ref sig .tc := ⟨.hbm, 1593, rfl⟩
abbrev main_call69_v3 : Ref sig .tc := ⟨.hbm, 1594, rfl⟩
abbrev main_call69_v4 : Ref sig .tc := ⟨.hbm, 1595, rfl⟩
abbrev main_v473 : Ref sig .tc := ⟨.hbm, 1596, rfl⟩
abbrev main_cst_119 : Ref sig .tc := ⟨.hbm, 1597, rfl⟩
abbrev main_v474 : Ref sig .tc := ⟨.hbm, 1598, rfl⟩
abbrev main_v475 : Ref sig .tc := ⟨.hbm, 1599, rfl⟩
abbrev main_call70_cst : Ref sig .tc := ⟨.hbm, 1600, rfl⟩
abbrev main_call70_v0 : Ref sig .tc := ⟨.hbm, 1601, rfl⟩
abbrev main_call70_cst_0 : Ref sig .tc := ⟨.hbm, 1602, rfl⟩
abbrev main_call70_v1 : Ref sig .tc := ⟨.hbm, 1603, rfl⟩
abbrev main_call70_v2 : Ref sig .tc := ⟨.hbm, 1604, rfl⟩
abbrev main_call70_v3 : Ref sig .tc := ⟨.hbm, 1605, rfl⟩
abbrev main_call70_v4 : Ref sig .tc := ⟨.hbm, 1606, rfl⟩
abbrev main_call70_v5 : Ref sig .tc := ⟨.hbm, 1607, rfl⟩
abbrev main_call70_v6 : Ref sig .tc := ⟨.hbm, 1608, rfl⟩
abbrev main_call70_cst_1 : Ref sig .tc := ⟨.hbm, 1609, rfl⟩
abbrev main_call70_v7 : Ref sig .tc := ⟨.hbm, 1610, rfl⟩
abbrev main_call70_v8 : Ref sig .tc := ⟨.hbm, 1611, rfl⟩
abbrev main_call70_v9 : Ref sig .tc := ⟨.hbm, 1612, rfl⟩
abbrev main_call70_v10 : Ref sig .tc := ⟨.hbm, 1613, rfl⟩
abbrev main_v476 : Ref sig .tc := ⟨.hbm, 1614, rfl⟩
abbrev main_call71_c : Ref sig .tc := ⟨.hbm, 1615, rfl⟩
abbrev main_call71_v0 : Ref sig .tc := ⟨.hbm, 1616, rfl⟩
abbrev main_call71_v1 : Ref sig .tc := ⟨.hbm, 1617, rfl⟩
abbrev main_call71_c_0 : Ref sig .tc := ⟨.hbm, 1618, rfl⟩
abbrev main_call71_v2 : Ref sig .tc := ⟨.hbm, 1619, rfl⟩
abbrev main_call71_v3 : Ref sig .tc := ⟨.hbm, 1620, rfl⟩
abbrev main_call71_v4 : Ref sig .tc := ⟨.hbm, 1621, rfl⟩
abbrev main_call71_v5 : Ref sig .tc := ⟨.hbm, 1622, rfl⟩
abbrev main_call71_c_1 : Ref sig .tc := ⟨.hbm, 1623, rfl⟩
abbrev main_call71_c_2 : Ref sig .tc := ⟨.hbm, 1624, rfl⟩
abbrev main_call71_v6 : Ref sig .tc := ⟨.hbm, 1625, rfl⟩
abbrev main_call71_v7 : Ref sig .tc := ⟨.hbm, 1626, rfl⟩
abbrev main_call71_v8 : Ref sig .tc := ⟨.hbm, 1627, rfl⟩
abbrev main_call71_v9 : Ref sig .tc := ⟨.hbm, 1628, rfl⟩
abbrev main_call71_v10 : Ref sig .tc := ⟨.hbm, 1629, rfl⟩
abbrev main_call71_v11 : Ref sig .tc := ⟨.hbm, 1630, rfl⟩
abbrev main_call71_c_3 : Ref sig .tc := ⟨.hbm, 1631, rfl⟩
abbrev main_call71_v12 : Ref sig .tc := ⟨.hbm, 1632, rfl⟩
abbrev main_call71_v13 : Ref sig .tc := ⟨.hbm, 1633, rfl⟩
abbrev main_call71_cst : Ref sig .tc := ⟨.hbm, 1634, rfl⟩
abbrev main_call71_v14 : Ref sig .tc := ⟨.hbm, 1635, rfl⟩
abbrev main_v477 : Ref sig .tc := ⟨.hbm, 1636, rfl⟩
abbrev main_v478 : Ref sig .tc := ⟨.hbm, 1637, rfl⟩
abbrev main_v479 : Ref sig .tc := ⟨.hbm, 1638, rfl⟩
abbrev main_v480 : Ref sig .tc := ⟨.hbm, 1639, rfl⟩
abbrev main_v481 : Ref sig .tc := ⟨.hbm, 1640, rfl⟩
abbrev main_v482 : Ref sig .tc := ⟨.hbm, 1641, rfl⟩
abbrev main_call72_c : Ref sig .tc := ⟨.hbm, 1642, rfl⟩
abbrev main_call72_v0 : Ref sig .tc := ⟨.hbm, 1643, rfl⟩
abbrev main_call72_v1 : Ref sig .tc := ⟨.hbm, 1644, rfl⟩
abbrev main_call72_c_0 : Ref sig .tc := ⟨.hbm, 1645, rfl⟩
abbrev main_call72_v2 : Ref sig .tc := ⟨.hbm, 1646, rfl⟩
abbrev main_call72_v3 : Ref sig .tc := ⟨.hbm, 1647, rfl⟩
abbrev main_call72_v4 : Ref sig .tc := ⟨.hbm, 1648, rfl⟩
abbrev main_call72_v5 : Ref sig .tc := ⟨.hbm, 1649, rfl⟩
abbrev main_call72_c_1 : Ref sig .tc := ⟨.hbm, 1650, rfl⟩
abbrev main_call72_c_2 : Ref sig .tc := ⟨.hbm, 1651, rfl⟩
abbrev main_call72_v6 : Ref sig .tc := ⟨.hbm, 1652, rfl⟩
abbrev main_call72_v7 : Ref sig .tc := ⟨.hbm, 1653, rfl⟩
abbrev main_call72_v8 : Ref sig .tc := ⟨.hbm, 1654, rfl⟩
abbrev main_call72_v9 : Ref sig .tc := ⟨.hbm, 1655, rfl⟩
abbrev main_call72_v10 : Ref sig .tc := ⟨.hbm, 1656, rfl⟩
abbrev main_call72_v11 : Ref sig .tc := ⟨.hbm, 1657, rfl⟩
abbrev main_call72_c_3 : Ref sig .tc := ⟨.hbm, 1658, rfl⟩
abbrev main_call72_v12 : Ref sig .tc := ⟨.hbm, 1659, rfl⟩
abbrev main_call72_v13 : Ref sig .tc := ⟨.hbm, 1660, rfl⟩
abbrev main_call72_v14 : Ref sig .tc := ⟨.hbm, 1661, rfl⟩
abbrev main_call72_cst : Ref sig .tc := ⟨.hbm, 1662, rfl⟩
abbrev main_call72_v15 : Ref sig .tc := ⟨.hbm, 1663, rfl⟩
abbrev main_v483 : Ref sig .tc := ⟨.hbm, 1664, rfl⟩
abbrev main_cst_120 : Ref sig .tc := ⟨.hbm, 1665, rfl⟩
abbrev main_v484 : Ref sig .tc := ⟨.hbm, 1666, rfl⟩
abbrev main_cst_121 : Ref sig .tc := ⟨.hbm, 1667, rfl⟩
abbrev main_v485 : Ref sig .tc := ⟨.hbm, 1668, rfl⟩
abbrev main_v486 : Ref sig .tc := ⟨.hbm, 1669, rfl⟩
abbrev main_call73_c : Ref sig .tc := ⟨.hbm, 1670, rfl⟩
abbrev main_call73_v0 : Ref sig .tc := ⟨.hbm, 1671, rfl⟩
abbrev main_call73_v1 : Ref sig .tc := ⟨.hbm, 1672, rfl⟩
abbrev main_call73_c_0 : Ref sig .tc := ⟨.hbm, 1673, rfl⟩
abbrev main_call73_v2 : Ref sig .tc := ⟨.hbm, 1674, rfl⟩
abbrev main_call73_v3 : Ref sig .tc := ⟨.hbm, 1675, rfl⟩
abbrev main_call73_v4 : Ref sig .tc := ⟨.hbm, 1676, rfl⟩
abbrev main_call73_v5 : Ref sig .tc := ⟨.hbm, 1677, rfl⟩
abbrev main_call73_c_1 : Ref sig .tc := ⟨.hbm, 1678, rfl⟩
abbrev main_call73_c_2 : Ref sig .tc := ⟨.hbm, 1679, rfl⟩
abbrev main_call73_v6 : Ref sig .tc := ⟨.hbm, 1680, rfl⟩
abbrev main_call73_v7 : Ref sig .tc := ⟨.hbm, 1681, rfl⟩
abbrev main_call73_v8 : Ref sig .tc := ⟨.hbm, 1682, rfl⟩
abbrev main_call73_v9 : Ref sig .tc := ⟨.hbm, 1683, rfl⟩
abbrev main_call73_v10 : Ref sig .tc := ⟨.hbm, 1684, rfl⟩
abbrev main_call73_v11 : Ref sig .tc := ⟨.hbm, 1685, rfl⟩
abbrev main_call73_c_3 : Ref sig .tc := ⟨.hbm, 1686, rfl⟩
abbrev main_call73_v12 : Ref sig .tc := ⟨.hbm, 1687, rfl⟩
abbrev main_call73_v13 : Ref sig .tc := ⟨.hbm, 1688, rfl⟩
abbrev main_call73_v14 : Ref sig .tc := ⟨.hbm, 1689, rfl⟩
abbrev main_call73_cst : Ref sig .tc := ⟨.hbm, 1690, rfl⟩
abbrev main_call73_v15 : Ref sig .tc := ⟨.hbm, 1691, rfl⟩
abbrev main_v487 : Ref sig .tc := ⟨.hbm, 1692, rfl⟩
abbrev main_v488 : Ref sig .tc := ⟨.hbm, 1693, rfl⟩
abbrev main_v489 : Ref sig .tc := ⟨.hbm, 1694, rfl⟩
abbrev main_v490 : Ref sig .tc := ⟨.hbm, 1695, rfl⟩
abbrev main_v491 : Ref sig .tc := ⟨.hbm, 1696, rfl⟩
abbrev main_cst_122 : Ref sig .tc := ⟨.hbm, 1697, rfl⟩
abbrev main_v492 : Ref sig .tc := ⟨.hbm, 1698, rfl⟩
abbrev main_v493 : Ref sig .tc := ⟨.hbm, 1699, rfl⟩
abbrev main_cst_123 : Ref sig .tc := ⟨.hbm, 1700, rfl⟩
abbrev main_v494 : Ref sig .tc := ⟨.hbm, 1701, rfl⟩
abbrev main_cst_124 : Ref sig .tc := ⟨.hbm, 1702, rfl⟩
abbrev main_v495 : Ref sig .tc := ⟨.hbm, 1703, rfl⟩
abbrev main_v496 : Ref sig .tc := ⟨.hbm, 1704, rfl⟩
abbrev main_v497 : Ref sig .tc := ⟨.hbm, 1705, rfl⟩
abbrev main_v498 : Ref sig .tc := ⟨.hbm, 1706, rfl⟩
abbrev main_v499 : Ref sig .tc := ⟨.hbm, 1707, rfl⟩
abbrev main_v500 : Ref sig .tc := ⟨.hbm, 1708, rfl⟩
abbrev main_cst_125 : Ref sig .tc := ⟨.hbm, 1709, rfl⟩
abbrev main_v501 : Ref sig .tc := ⟨.hbm, 1710, rfl⟩
abbrev main_v502 : Ref sig .tc := ⟨.hbm, 1711, rfl⟩
abbrev main_v503 : Ref sig .tc := ⟨.hbm, 1712, rfl⟩
abbrev main_v504 : Ref sig .tc := ⟨.hbm, 1713, rfl⟩
abbrev main_v505 : Ref sig .tc := ⟨.hbm, 1714, rfl⟩
abbrev main_v506 : Ref sig .tc := ⟨.hbm, 1715, rfl⟩
abbrev main_call74_call0_cst : Ref sig .tc := ⟨.hbm, 1716, rfl⟩
abbrev main_call74_call0_v0 : Ref sig .tc := ⟨.hbm, 1717, rfl⟩
abbrev main_v507 : Ref sig .tc := ⟨.hbm, 1718, rfl⟩
abbrev main_v508 : Ref sig .tc := ⟨.hbm, 1719, rfl⟩
abbrev main_v509 : Ref sig .tc := ⟨.hbm, 1720, rfl⟩
abbrev main_v510 : Ref sig .tc := ⟨.hbm, 1721, rfl⟩
abbrev main_c_126 : Ref sig .tc := ⟨.hbm, 1722, rfl⟩
abbrev main_v511 : Ref sig .tc := ⟨.hbm, 1723, rfl⟩
abbrev main_v512 : Ref sig .tc := ⟨.hbm, 1724, rfl⟩
abbrev main_c_127 : Ref sig .tc := ⟨.hbm, 1725, rfl⟩
abbrev main_c_128 : Ref sig .tc := ⟨.hbm, 1726, rfl⟩
abbrev main_call75_v0 : Ref sig .tc := ⟨.hbm, 1727, rfl⟩
abbrev main_call75_v1 : Ref sig .tc := ⟨.hbm, 1728, rfl⟩
abbrev main_call75_v2 : Ref sig .tc := ⟨.hbm, 1729, rfl⟩
abbrev main_call75_v3 : Ref sig .tc := ⟨.hbm, 1730, rfl⟩
abbrev main_call75_v4 : Ref sig .tc := ⟨.hbm, 1731, rfl⟩
abbrev main_v513 : Ref sig .tc := ⟨.hbm, 1732, rfl⟩
abbrev main_cst_129 : Ref sig .tc := ⟨.hbm, 1733, rfl⟩
abbrev main_v514 : Ref sig .tc := ⟨.hbm, 1734, rfl⟩
abbrev main_v515 : Ref sig .tc := ⟨.hbm, 1735, rfl⟩
abbrev main_call76_cst : Ref sig .tc := ⟨.hbm, 1736, rfl⟩
abbrev main_call76_v0 : Ref sig .tc := ⟨.hbm, 1737, rfl⟩
abbrev main_call76_cst_0 : Ref sig .tc := ⟨.hbm, 1738, rfl⟩
abbrev main_call76_v1 : Ref sig .tc := ⟨.hbm, 1739, rfl⟩
abbrev main_call76_v2 : Ref sig .tc := ⟨.hbm, 1740, rfl⟩
abbrev main_call76_v3 : Ref sig .tc := ⟨.hbm, 1741, rfl⟩
abbrev main_call76_v4 : Ref sig .tc := ⟨.hbm, 1742, rfl⟩
abbrev main_call76_v5 : Ref sig .tc := ⟨.hbm, 1743, rfl⟩
abbrev main_call76_v6 : Ref sig .tc := ⟨.hbm, 1744, rfl⟩
abbrev main_call76_cst_1 : Ref sig .tc := ⟨.hbm, 1745, rfl⟩
abbrev main_call76_v7 : Ref sig .tc := ⟨.hbm, 1746, rfl⟩
abbrev main_call76_v8 : Ref sig .tc := ⟨.hbm, 1747, rfl⟩
abbrev main_call76_v9 : Ref sig .tc := ⟨.hbm, 1748, rfl⟩
abbrev main_call76_v10 : Ref sig .tc := ⟨.hbm, 1749, rfl⟩
abbrev main_v516 : Ref sig .tc := ⟨.hbm, 1750, rfl⟩
abbrev main_call77_c : Ref sig .tc := ⟨.hbm, 1751, rfl⟩
abbrev main_call77_v0 : Ref sig .tc := ⟨.hbm, 1752, rfl⟩
abbrev main_call77_v1 : Ref sig .tc := ⟨.hbm, 1753, rfl⟩
abbrev main_call77_c_0 : Ref sig .tc := ⟨.hbm, 1754, rfl⟩
abbrev main_call77_v2 : Ref sig .tc := ⟨.hbm, 1755, rfl⟩
abbrev main_call77_v3 : Ref sig .tc := ⟨.hbm, 1756, rfl⟩
abbrev main_call77_v4 : Ref sig .tc := ⟨.hbm, 1757, rfl⟩
abbrev main_call77_v5 : Ref sig .tc := ⟨.hbm, 1758, rfl⟩
abbrev main_call77_c_1 : Ref sig .tc := ⟨.hbm, 1759, rfl⟩
abbrev main_call77_c_2 : Ref sig .tc := ⟨.hbm, 1760, rfl⟩
abbrev main_call77_v6 : Ref sig .tc := ⟨.hbm, 1761, rfl⟩
abbrev main_call77_v7 : Ref sig .tc := ⟨.hbm, 1762, rfl⟩
abbrev main_call77_v8 : Ref sig .tc := ⟨.hbm, 1763, rfl⟩
abbrev main_call77_v9 : Ref sig .tc := ⟨.hbm, 1764, rfl⟩
abbrev main_call77_v10 : Ref sig .tc := ⟨.hbm, 1765, rfl⟩
abbrev main_call77_v11 : Ref sig .tc := ⟨.hbm, 1766, rfl⟩
abbrev main_call77_c_3 : Ref sig .tc := ⟨.hbm, 1767, rfl⟩
abbrev main_call77_v12 : Ref sig .tc := ⟨.hbm, 1768, rfl⟩
abbrev main_call77_v13 : Ref sig .tc := ⟨.hbm, 1769, rfl⟩
abbrev main_call77_cst : Ref sig .tc := ⟨.hbm, 1770, rfl⟩
abbrev main_call77_v14 : Ref sig .tc := ⟨.hbm, 1771, rfl⟩
abbrev main_v517 : Ref sig .tc := ⟨.hbm, 1772, rfl⟩
abbrev main_v518 : Ref sig .tc := ⟨.hbm, 1773, rfl⟩
abbrev main_v519 : Ref sig .tc := ⟨.hbm, 1774, rfl⟩
abbrev main_v520 : Ref sig .tc := ⟨.hbm, 1775, rfl⟩
abbrev main_v521 : Ref sig .tc := ⟨.hbm, 1776, rfl⟩
abbrev main_v522 : Ref sig .tc := ⟨.hbm, 1777, rfl⟩
abbrev main_call78_c : Ref sig .tc := ⟨.hbm, 1778, rfl⟩
abbrev main_call78_v0 : Ref sig .tc := ⟨.hbm, 1779, rfl⟩
abbrev main_call78_v1 : Ref sig .tc := ⟨.hbm, 1780, rfl⟩
abbrev main_call78_c_0 : Ref sig .tc := ⟨.hbm, 1781, rfl⟩
abbrev main_call78_v2 : Ref sig .tc := ⟨.hbm, 1782, rfl⟩
abbrev main_call78_v3 : Ref sig .tc := ⟨.hbm, 1783, rfl⟩
abbrev main_call78_v4 : Ref sig .tc := ⟨.hbm, 1784, rfl⟩
abbrev main_call78_v5 : Ref sig .tc := ⟨.hbm, 1785, rfl⟩
abbrev main_call78_c_1 : Ref sig .tc := ⟨.hbm, 1786, rfl⟩
abbrev main_call78_c_2 : Ref sig .tc := ⟨.hbm, 1787, rfl⟩
abbrev main_call78_v6 : Ref sig .tc := ⟨.hbm, 1788, rfl⟩
abbrev main_call78_v7 : Ref sig .tc := ⟨.hbm, 1789, rfl⟩
abbrev main_call78_v8 : Ref sig .tc := ⟨.hbm, 1790, rfl⟩
abbrev main_call78_v9 : Ref sig .tc := ⟨.hbm, 1791, rfl⟩
abbrev main_call78_v10 : Ref sig .tc := ⟨.hbm, 1792, rfl⟩
abbrev main_call78_v11 : Ref sig .tc := ⟨.hbm, 1793, rfl⟩
abbrev main_call78_c_3 : Ref sig .tc := ⟨.hbm, 1794, rfl⟩
abbrev main_call78_v12 : Ref sig .tc := ⟨.hbm, 1795, rfl⟩
abbrev main_call78_v13 : Ref sig .tc := ⟨.hbm, 1796, rfl⟩
abbrev main_call78_v14 : Ref sig .tc := ⟨.hbm, 1797, rfl⟩
abbrev main_call78_cst : Ref sig .tc := ⟨.hbm, 1798, rfl⟩
abbrev main_call78_v15 : Ref sig .tc := ⟨.hbm, 1799, rfl⟩
abbrev main_v523 : Ref sig .tc := ⟨.hbm, 1800, rfl⟩
abbrev main_cst_130 : Ref sig .tc := ⟨.hbm, 1801, rfl⟩
abbrev main_v524 : Ref sig .tc := ⟨.hbm, 1802, rfl⟩
abbrev main_cst_131 : Ref sig .tc := ⟨.hbm, 1803, rfl⟩
abbrev main_v525 : Ref sig .tc := ⟨.hbm, 1804, rfl⟩
abbrev main_v526 : Ref sig .tc := ⟨.hbm, 1805, rfl⟩
abbrev main_call79_c : Ref sig .tc := ⟨.hbm, 1806, rfl⟩
abbrev main_call79_v0 : Ref sig .tc := ⟨.hbm, 1807, rfl⟩
abbrev main_call79_v1 : Ref sig .tc := ⟨.hbm, 1808, rfl⟩
abbrev main_call79_c_0 : Ref sig .tc := ⟨.hbm, 1809, rfl⟩
abbrev main_call79_v2 : Ref sig .tc := ⟨.hbm, 1810, rfl⟩
abbrev main_call79_v3 : Ref sig .tc := ⟨.hbm, 1811, rfl⟩
abbrev main_call79_v4 : Ref sig .tc := ⟨.hbm, 1812, rfl⟩
abbrev main_call79_v5 : Ref sig .tc := ⟨.hbm, 1813, rfl⟩
abbrev main_call79_c_1 : Ref sig .tc := ⟨.hbm, 1814, rfl⟩
abbrev main_call79_c_2 : Ref sig .tc := ⟨.hbm, 1815, rfl⟩
abbrev main_call79_v6 : Ref sig .tc := ⟨.hbm, 1816, rfl⟩
abbrev main_call79_v7 : Ref sig .tc := ⟨.hbm, 1817, rfl⟩
abbrev main_call79_v8 : Ref sig .tc := ⟨.hbm, 1818, rfl⟩
abbrev main_call79_v9 : Ref sig .tc := ⟨.hbm, 1819, rfl⟩
abbrev main_call79_v10 : Ref sig .tc := ⟨.hbm, 1820, rfl⟩
abbrev main_call79_v11 : Ref sig .tc := ⟨.hbm, 1821, rfl⟩
abbrev main_call79_c_3 : Ref sig .tc := ⟨.hbm, 1822, rfl⟩
abbrev main_call79_v12 : Ref sig .tc := ⟨.hbm, 1823, rfl⟩
abbrev main_call79_v13 : Ref sig .tc := ⟨.hbm, 1824, rfl⟩
abbrev main_call79_v14 : Ref sig .tc := ⟨.hbm, 1825, rfl⟩
abbrev main_call79_cst : Ref sig .tc := ⟨.hbm, 1826, rfl⟩
abbrev main_call79_v15 : Ref sig .tc := ⟨.hbm, 1827, rfl⟩
abbrev main_v527 : Ref sig .tc := ⟨.hbm, 1828, rfl⟩
abbrev main_v528 : Ref sig .tc := ⟨.hbm, 1829, rfl⟩
abbrev main_v529 : Ref sig .tc := ⟨.hbm, 1830, rfl⟩
abbrev main_v530 : Ref sig .tc := ⟨.hbm, 1831, rfl⟩
abbrev main_v531 : Ref sig .tc := ⟨.hbm, 1832, rfl⟩
abbrev main_cst_132 : Ref sig .tc := ⟨.hbm, 1833, rfl⟩
abbrev main_v532 : Ref sig .tc := ⟨.hbm, 1834, rfl⟩
abbrev main_v533 : Ref sig .tc := ⟨.hbm, 1835, rfl⟩
abbrev main_cst_133 : Ref sig .tc := ⟨.hbm, 1836, rfl⟩
abbrev main_v534 : Ref sig .tc := ⟨.hbm, 1837, rfl⟩
abbrev main_cst_134 : Ref sig .tc := ⟨.hbm, 1838, rfl⟩
abbrev main_v535 : Ref sig .tc := ⟨.hbm, 1839, rfl⟩
abbrev main_v536 : Ref sig .tc := ⟨.hbm, 1840, rfl⟩
abbrev main_v537 : Ref sig .tc := ⟨.hbm, 1841, rfl⟩
abbrev main_v538 : Ref sig .tc := ⟨.hbm, 1842, rfl⟩
abbrev main_v539 : Ref sig .tc := ⟨.hbm, 1843, rfl⟩
abbrev main_v540 : Ref sig .tc := ⟨.hbm, 1844, rfl⟩
abbrev main_cst_135 : Ref sig .tc := ⟨.hbm, 1845, rfl⟩
abbrev main_v541 : Ref sig .tc := ⟨.hbm, 1846, rfl⟩
abbrev main_v542 : Ref sig .tc := ⟨.hbm, 1847, rfl⟩
abbrev main_v543 : Ref sig .tc := ⟨.hbm, 1848, rfl⟩
abbrev main_v544 : Ref sig .tc := ⟨.hbm, 1849, rfl⟩
abbrev main_v545 : Ref sig .tc := ⟨.hbm, 1850, rfl⟩
abbrev main_v546 : Ref sig .tc := ⟨.hbm, 1851, rfl⟩
abbrev main_call80_call0_cst : Ref sig .tc := ⟨.hbm, 1852, rfl⟩
abbrev main_call80_call0_v0 : Ref sig .tc := ⟨.hbm, 1853, rfl⟩
abbrev main_v547 : Ref sig .tc := ⟨.hbm, 1854, rfl⟩
abbrev main_v548 : Ref sig .tc := ⟨.hbm, 1855, rfl⟩
abbrev main_v549 : Ref sig .tc := ⟨.hbm, 1856, rfl⟩
abbrev main_v550 : Ref sig .tc := ⟨.hbm, 1857, rfl⟩
abbrev main_c_136 : Ref sig .tc := ⟨.hbm, 1858, rfl⟩
abbrev main_v551 : Ref sig .tc := ⟨.hbm, 1859, rfl⟩
abbrev main_v552 : Ref sig .tc := ⟨.hbm, 1860, rfl⟩
abbrev main_c_137 : Ref sig .tc := ⟨.hbm, 1861, rfl⟩
abbrev main_c_138 : Ref sig .tc := ⟨.hbm, 1862, rfl⟩
abbrev main_call81_v0 : Ref sig .tc := ⟨.hbm, 1863, rfl⟩
abbrev main_call81_v1 : Ref sig .tc := ⟨.hbm, 1864, rfl⟩
abbrev main_call81_v2 : Ref sig .tc := ⟨.hbm, 1865, rfl⟩
abbrev main_call81_v3 : Ref sig .tc := ⟨.hbm, 1866, rfl⟩
abbrev main_call81_v4 : Ref sig .tc := ⟨.hbm, 1867, rfl⟩
abbrev main_v553 : Ref sig .tc := ⟨.hbm, 1868, rfl⟩
abbrev main_cst_139 : Ref sig .tc := ⟨.hbm, 1869, rfl⟩
abbrev main_v554 : Ref sig .tc := ⟨.hbm, 1870, rfl⟩
abbrev main_v555 : Ref sig .tc := ⟨.hbm, 1871, rfl⟩
abbrev main_call82_cst : Ref sig .tc := ⟨.hbm, 1872, rfl⟩
abbrev main_call82_v0 : Ref sig .tc := ⟨.hbm, 1873, rfl⟩
abbrev main_call82_cst_0 : Ref sig .tc := ⟨.hbm, 1874, rfl⟩
abbrev main_call82_v1 : Ref sig .tc := ⟨.hbm, 1875, rfl⟩
abbrev main_call82_v2 : Ref sig .tc := ⟨.hbm, 1876, rfl⟩
abbrev main_call82_v3 : Ref sig .tc := ⟨.hbm, 1877, rfl⟩
abbrev main_call82_v4 : Ref sig .tc := ⟨.hbm, 1878, rfl⟩
abbrev main_call82_v5 : Ref sig .tc := ⟨.hbm, 1879, rfl⟩
abbrev main_call82_v6 : Ref sig .tc := ⟨.hbm, 1880, rfl⟩
abbrev main_call82_cst_1 : Ref sig .tc := ⟨.hbm, 1881, rfl⟩
abbrev main_call82_v7 : Ref sig .tc := ⟨.hbm, 1882, rfl⟩
abbrev main_call82_v8 : Ref sig .tc := ⟨.hbm, 1883, rfl⟩
abbrev main_call82_v9 : Ref sig .tc := ⟨.hbm, 1884, rfl⟩
abbrev main_call82_v10 : Ref sig .tc := ⟨.hbm, 1885, rfl⟩
abbrev main_v556 : Ref sig .tc := ⟨.hbm, 1886, rfl⟩
abbrev main_call83_c : Ref sig .tc := ⟨.hbm, 1887, rfl⟩
abbrev main_call83_v0 : Ref sig .tc := ⟨.hbm, 1888, rfl⟩
abbrev main_call83_v1 : Ref sig .tc := ⟨.hbm, 1889, rfl⟩
abbrev main_call83_c_0 : Ref sig .tc := ⟨.hbm, 1890, rfl⟩
abbrev main_call83_v2 : Ref sig .tc := ⟨.hbm, 1891, rfl⟩
abbrev main_call83_v3 : Ref sig .tc := ⟨.hbm, 1892, rfl⟩
abbrev main_call83_v4 : Ref sig .tc := ⟨.hbm, 1893, rfl⟩
abbrev main_call83_v5 : Ref sig .tc := ⟨.hbm, 1894, rfl⟩
abbrev main_call83_c_1 : Ref sig .tc := ⟨.hbm, 1895, rfl⟩
abbrev main_call83_c_2 : Ref sig .tc := ⟨.hbm, 1896, rfl⟩
abbrev main_call83_v6 : Ref sig .tc := ⟨.hbm, 1897, rfl⟩
abbrev main_call83_v7 : Ref sig .tc := ⟨.hbm, 1898, rfl⟩
abbrev main_call83_v8 : Ref sig .tc := ⟨.hbm, 1899, rfl⟩
abbrev main_call83_v9 : Ref sig .tc := ⟨.hbm, 1900, rfl⟩
abbrev main_call83_v10 : Ref sig .tc := ⟨.hbm, 1901, rfl⟩
abbrev main_call83_v11 : Ref sig .tc := ⟨.hbm, 1902, rfl⟩
abbrev main_call83_c_3 : Ref sig .tc := ⟨.hbm, 1903, rfl⟩
abbrev main_call83_v12 : Ref sig .tc := ⟨.hbm, 1904, rfl⟩
abbrev main_call83_v13 : Ref sig .tc := ⟨.hbm, 1905, rfl⟩
abbrev main_call83_cst : Ref sig .tc := ⟨.hbm, 1906, rfl⟩
abbrev main_call83_v14 : Ref sig .tc := ⟨.hbm, 1907, rfl⟩
abbrev main_v557 : Ref sig .tc := ⟨.hbm, 1908, rfl⟩
abbrev main_v558 : Ref sig .tc := ⟨.hbm, 1909, rfl⟩
abbrev main_v559 : Ref sig .tc := ⟨.hbm, 1910, rfl⟩
abbrev main_v560 : Ref sig .tc := ⟨.hbm, 1911, rfl⟩
abbrev main_v561 : Ref sig .tc := ⟨.hbm, 1912, rfl⟩
abbrev main_v562 : Ref sig .tc := ⟨.hbm, 1913, rfl⟩
abbrev main_call84_c : Ref sig .tc := ⟨.hbm, 1914, rfl⟩
abbrev main_call84_v0 : Ref sig .tc := ⟨.hbm, 1915, rfl⟩
abbrev main_call84_v1 : Ref sig .tc := ⟨.hbm, 1916, rfl⟩
abbrev main_call84_c_0 : Ref sig .tc := ⟨.hbm, 1917, rfl⟩
abbrev main_call84_v2 : Ref sig .tc := ⟨.hbm, 1918, rfl⟩
abbrev main_call84_v3 : Ref sig .tc := ⟨.hbm, 1919, rfl⟩
abbrev main_call84_v4 : Ref sig .tc := ⟨.hbm, 1920, rfl⟩
abbrev main_call84_v5 : Ref sig .tc := ⟨.hbm, 1921, rfl⟩
abbrev main_call84_c_1 : Ref sig .tc := ⟨.hbm, 1922, rfl⟩
abbrev main_call84_c_2 : Ref sig .tc := ⟨.hbm, 1923, rfl⟩
abbrev main_call84_v6 : Ref sig .tc := ⟨.hbm, 1924, rfl⟩
abbrev main_call84_v7 : Ref sig .tc := ⟨.hbm, 1925, rfl⟩
abbrev main_call84_v8 : Ref sig .tc := ⟨.hbm, 1926, rfl⟩
abbrev main_call84_v9 : Ref sig .tc := ⟨.hbm, 1927, rfl⟩
abbrev main_call84_v10 : Ref sig .tc := ⟨.hbm, 1928, rfl⟩
abbrev main_call84_v11 : Ref sig .tc := ⟨.hbm, 1929, rfl⟩
abbrev main_call84_c_3 : Ref sig .tc := ⟨.hbm, 1930, rfl⟩
abbrev main_call84_v12 : Ref sig .tc := ⟨.hbm, 1931, rfl⟩
abbrev main_call84_v13 : Ref sig .tc := ⟨.hbm, 1932, rfl⟩
abbrev main_call84_v14 : Ref sig .tc := ⟨.hbm, 1933, rfl⟩
abbrev main_call84_cst : Ref sig .tc := ⟨.hbm, 1934, rfl⟩
abbrev main_call84_v15 : Ref sig .tc := ⟨.hbm, 1935, rfl⟩
abbrev main_v563 : Ref sig .tc := ⟨.hbm, 1936, rfl⟩
abbrev main_cst_140 : Ref sig .tc := ⟨.hbm, 1937, rfl⟩
abbrev main_v564 : Ref sig .tc := ⟨.hbm, 1938, rfl⟩
abbrev main_cst_141 : Ref sig .tc := ⟨.hbm, 1939, rfl⟩
abbrev main_v565 : Ref sig .tc := ⟨.hbm, 1940, rfl⟩
abbrev main_v566 : Ref sig .tc := ⟨.hbm, 1941, rfl⟩
abbrev main_call85_c : Ref sig .tc := ⟨.hbm, 1942, rfl⟩
abbrev main_call85_v0 : Ref sig .tc := ⟨.hbm, 1943, rfl⟩
abbrev main_call85_v1 : Ref sig .tc := ⟨.hbm, 1944, rfl⟩
abbrev main_call85_c_0 : Ref sig .tc := ⟨.hbm, 1945, rfl⟩
abbrev main_call85_v2 : Ref sig .tc := ⟨.hbm, 1946, rfl⟩
abbrev main_call85_v3 : Ref sig .tc := ⟨.hbm, 1947, rfl⟩
abbrev main_call85_v4 : Ref sig .tc := ⟨.hbm, 1948, rfl⟩
abbrev main_call85_v5 : Ref sig .tc := ⟨.hbm, 1949, rfl⟩
abbrev main_call85_c_1 : Ref sig .tc := ⟨.hbm, 1950, rfl⟩
abbrev main_call85_c_2 : Ref sig .tc := ⟨.hbm, 1951, rfl⟩
abbrev main_call85_v6 : Ref sig .tc := ⟨.hbm, 1952, rfl⟩
abbrev main_call85_v7 : Ref sig .tc := ⟨.hbm, 1953, rfl⟩
abbrev main_call85_v8 : Ref sig .tc := ⟨.hbm, 1954, rfl⟩
abbrev main_call85_v9 : Ref sig .tc := ⟨.hbm, 1955, rfl⟩
abbrev main_call85_v10 : Ref sig .tc := ⟨.hbm, 1956, rfl⟩
abbrev main_call85_v11 : Ref sig .tc := ⟨.hbm, 1957, rfl⟩
abbrev main_call85_c_3 : Ref sig .tc := ⟨.hbm, 1958, rfl⟩
abbrev main_call85_v12 : Ref sig .tc := ⟨.hbm, 1959, rfl⟩
abbrev main_call85_v13 : Ref sig .tc := ⟨.hbm, 1960, rfl⟩
abbrev main_call85_v14 : Ref sig .tc := ⟨.hbm, 1961, rfl⟩
abbrev main_call85_cst : Ref sig .tc := ⟨.hbm, 1962, rfl⟩
abbrev main_call85_v15 : Ref sig .tc := ⟨.hbm, 1963, rfl⟩
abbrev main_v567 : Ref sig .tc := ⟨.hbm, 1964, rfl⟩
abbrev main_v568 : Ref sig .tc := ⟨.hbm, 1965, rfl⟩
abbrev main_v569 : Ref sig .tc := ⟨.hbm, 1966, rfl⟩
abbrev main_v570 : Ref sig .tc := ⟨.hbm, 1967, rfl⟩
abbrev main_v571 : Ref sig .tc := ⟨.hbm, 1968, rfl⟩
abbrev main_cst_142 : Ref sig .tc := ⟨.hbm, 1969, rfl⟩
abbrev main_v572 : Ref sig .tc := ⟨.hbm, 1970, rfl⟩
abbrev main_v573 : Ref sig .tc := ⟨.hbm, 1971, rfl⟩
abbrev main_cst_143 : Ref sig .tc := ⟨.hbm, 1972, rfl⟩
abbrev main_v574 : Ref sig .tc := ⟨.hbm, 1973, rfl⟩
abbrev main_cst_144 : Ref sig .tc := ⟨.hbm, 1974, rfl⟩
abbrev main_v575 : Ref sig .tc := ⟨.hbm, 1975, rfl⟩
abbrev main_v576 : Ref sig .tc := ⟨.hbm, 1976, rfl⟩
abbrev main_v577 : Ref sig .tc := ⟨.hbm, 1977, rfl⟩
abbrev main_v578 : Ref sig .tc := ⟨.hbm, 1978, rfl⟩
abbrev main_v579 : Ref sig .tc := ⟨.hbm, 1979, rfl⟩
abbrev main_v580 : Ref sig .tc := ⟨.hbm, 1980, rfl⟩
abbrev main_cst_145 : Ref sig .tc := ⟨.hbm, 1981, rfl⟩
abbrev main_v581 : Ref sig .tc := ⟨.hbm, 1982, rfl⟩
abbrev main_v582 : Ref sig .tc := ⟨.hbm, 1983, rfl⟩
abbrev main_v583 : Ref sig .tc := ⟨.hbm, 1984, rfl⟩
abbrev main_v584 : Ref sig .tc := ⟨.hbm, 1985, rfl⟩
abbrev main_v585 : Ref sig .tc := ⟨.hbm, 1986, rfl⟩
abbrev main_v586 : Ref sig .tc := ⟨.hbm, 1987, rfl⟩
abbrev main_call86_call0_cst : Ref sig .tc := ⟨.hbm, 1988, rfl⟩
abbrev main_call86_call0_v0 : Ref sig .tc := ⟨.hbm, 1989, rfl⟩
abbrev main_v587 : Ref sig .tc := ⟨.hbm, 1990, rfl⟩
abbrev main_v588 : Ref sig .tc := ⟨.hbm, 1991, rfl⟩
abbrev main_v589 : Ref sig .tc := ⟨.hbm, 1992, rfl⟩
abbrev main_v590 : Ref sig .tc := ⟨.hbm, 1993, rfl⟩
abbrev main_c_146 : Ref sig .tc := ⟨.hbm, 1994, rfl⟩
abbrev main_v591 : Ref sig .tc := ⟨.hbm, 1995, rfl⟩
abbrev main_v592 : Ref sig .tc := ⟨.hbm, 1996, rfl⟩
abbrev main_c_147 : Ref sig .tc := ⟨.hbm, 1997, rfl⟩
abbrev main_c_148 : Ref sig .tc := ⟨.hbm, 1998, rfl⟩
abbrev main_call87_v0 : Ref sig .tc := ⟨.hbm, 1999, rfl⟩
abbrev main_call87_v1 : Ref sig .tc := ⟨.hbm, 2000, rfl⟩
abbrev main_call87_v2 : Ref sig .tc := ⟨.hbm, 2001, rfl⟩
abbrev main_call87_v3 : Ref sig .tc := ⟨.hbm, 2002, rfl⟩
abbrev main_call87_v4 : Ref sig .tc := ⟨.hbm, 2003, rfl⟩
abbrev main_v593 : Ref sig .tc := ⟨.hbm, 2004, rfl⟩
abbrev main_cst_149 : Ref sig .tc := ⟨.hbm, 2005, rfl⟩
abbrev main_v594 : Ref sig .tc := ⟨.hbm, 2006, rfl⟩
abbrev main_v595 : Ref sig .tc := ⟨.hbm, 2007, rfl⟩
abbrev main_call88_cst : Ref sig .tc := ⟨.hbm, 2008, rfl⟩
abbrev main_call88_v0 : Ref sig .tc := ⟨.hbm, 2009, rfl⟩
abbrev main_call88_cst_0 : Ref sig .tc := ⟨.hbm, 2010, rfl⟩
abbrev main_call88_v1 : Ref sig .tc := ⟨.hbm, 2011, rfl⟩
abbrev main_call88_v2 : Ref sig .tc := ⟨.hbm, 2012, rfl⟩
abbrev main_call88_v3 : Ref sig .tc := ⟨.hbm, 2013, rfl⟩
abbrev main_call88_v4 : Ref sig .tc := ⟨.hbm, 2014, rfl⟩
abbrev main_call88_v5 : Ref sig .tc := ⟨.hbm, 2015, rfl⟩
abbrev main_call88_v6 : Ref sig .tc := ⟨.hbm, 2016, rfl⟩
abbrev main_call88_cst_1 : Ref sig .tc := ⟨.hbm, 2017, rfl⟩
abbrev main_call88_v7 : Ref sig .tc := ⟨.hbm, 2018, rfl⟩
abbrev main_call88_v8 : Ref sig .tc := ⟨.hbm, 2019, rfl⟩
abbrev main_call88_v9 : Ref sig .tc := ⟨.hbm, 2020, rfl⟩
abbrev main_call88_v10 : Ref sig .tc := ⟨.hbm, 2021, rfl⟩
abbrev main_v596 : Ref sig .tc := ⟨.hbm, 2022, rfl⟩
abbrev main_call89_c : Ref sig .tc := ⟨.hbm, 2023, rfl⟩
abbrev main_call89_v0 : Ref sig .tc := ⟨.hbm, 2024, rfl⟩
abbrev main_call89_v1 : Ref sig .tc := ⟨.hbm, 2025, rfl⟩
abbrev main_call89_c_0 : Ref sig .tc := ⟨.hbm, 2026, rfl⟩
abbrev main_call89_v2 : Ref sig .tc := ⟨.hbm, 2027, rfl⟩
abbrev main_call89_v3 : Ref sig .tc := ⟨.hbm, 2028, rfl⟩
abbrev main_call89_v4 : Ref sig .tc := ⟨.hbm, 2029, rfl⟩
abbrev main_call89_v5 : Ref sig .tc := ⟨.hbm, 2030, rfl⟩
abbrev main_call89_c_1 : Ref sig .tc := ⟨.hbm, 2031, rfl⟩
abbrev main_call89_c_2 : Ref sig .tc := ⟨.hbm, 2032, rfl⟩
abbrev main_call89_v6 : Ref sig .tc := ⟨.hbm, 2033, rfl⟩
abbrev main_call89_v7 : Ref sig .tc := ⟨.hbm, 2034, rfl⟩
abbrev main_call89_v8 : Ref sig .tc := ⟨.hbm, 2035, rfl⟩
abbrev main_call89_v9 : Ref sig .tc := ⟨.hbm, 2036, rfl⟩
abbrev main_call89_v10 : Ref sig .tc := ⟨.hbm, 2037, rfl⟩
abbrev main_call89_v11 : Ref sig .tc := ⟨.hbm, 2038, rfl⟩
abbrev main_call89_c_3 : Ref sig .tc := ⟨.hbm, 2039, rfl⟩
abbrev main_call89_v12 : Ref sig .tc := ⟨.hbm, 2040, rfl⟩
abbrev main_call89_v13 : Ref sig .tc := ⟨.hbm, 2041, rfl⟩
abbrev main_call89_cst : Ref sig .tc := ⟨.hbm, 2042, rfl⟩
abbrev main_call89_v14 : Ref sig .tc := ⟨.hbm, 2043, rfl⟩
abbrev main_v597 : Ref sig .tc := ⟨.hbm, 2044, rfl⟩
abbrev main_v598 : Ref sig .tc := ⟨.hbm, 2045, rfl⟩
abbrev main_v599 : Ref sig .tc := ⟨.hbm, 2046, rfl⟩
abbrev main_v600 : Ref sig .tc := ⟨.hbm, 2047, rfl⟩
abbrev main_v601 : Ref sig .tc := ⟨.hbm, 2048, rfl⟩
abbrev main_v602 : Ref sig .tc := ⟨.hbm, 2049, rfl⟩
abbrev main_call90_c : Ref sig .tc := ⟨.hbm, 2050, rfl⟩
abbrev main_call90_v0 : Ref sig .tc := ⟨.hbm, 2051, rfl⟩
abbrev main_call90_v1 : Ref sig .tc := ⟨.hbm, 2052, rfl⟩
abbrev main_call90_c_0 : Ref sig .tc := ⟨.hbm, 2053, rfl⟩
abbrev main_call90_v2 : Ref sig .tc := ⟨.hbm, 2054, rfl⟩
abbrev main_call90_v3 : Ref sig .tc := ⟨.hbm, 2055, rfl⟩
abbrev main_call90_v4 : Ref sig .tc := ⟨.hbm, 2056, rfl⟩
abbrev main_call90_v5 : Ref sig .tc := ⟨.hbm, 2057, rfl⟩
abbrev main_call90_c_1 : Ref sig .tc := ⟨.hbm, 2058, rfl⟩
abbrev main_call90_c_2 : Ref sig .tc := ⟨.hbm, 2059, rfl⟩
abbrev main_call90_v6 : Ref sig .tc := ⟨.hbm, 2060, rfl⟩
abbrev main_call90_v7 : Ref sig .tc := ⟨.hbm, 2061, rfl⟩
abbrev main_call90_v8 : Ref sig .tc := ⟨.hbm, 2062, rfl⟩
abbrev main_call90_v9 : Ref sig .tc := ⟨.hbm, 2063, rfl⟩
abbrev main_call90_v10 : Ref sig .tc := ⟨.hbm, 2064, rfl⟩
abbrev main_call90_v11 : Ref sig .tc := ⟨.hbm, 2065, rfl⟩
abbrev main_call90_c_3 : Ref sig .tc := ⟨.hbm, 2066, rfl⟩
abbrev main_call90_v12 : Ref sig .tc := ⟨.hbm, 2067, rfl⟩
abbrev main_call90_v13 : Ref sig .tc := ⟨.hbm, 2068, rfl⟩
abbrev main_call90_v14 : Ref sig .tc := ⟨.hbm, 2069, rfl⟩
abbrev main_call90_cst : Ref sig .tc := ⟨.hbm, 2070, rfl⟩
abbrev main_call90_v15 : Ref sig .tc := ⟨.hbm, 2071, rfl⟩
abbrev main_v603 : Ref sig .tc := ⟨.hbm, 2072, rfl⟩
abbrev main_cst_150 : Ref sig .tc := ⟨.hbm, 2073, rfl⟩
abbrev main_v604 : Ref sig .tc := ⟨.hbm, 2074, rfl⟩
abbrev main_cst_151 : Ref sig .tc := ⟨.hbm, 2075, rfl⟩
abbrev main_v605 : Ref sig .tc := ⟨.hbm, 2076, rfl⟩
abbrev main_v606 : Ref sig .tc := ⟨.hbm, 2077, rfl⟩
abbrev main_call91_c : Ref sig .tc := ⟨.hbm, 2078, rfl⟩
abbrev main_call91_v0 : Ref sig .tc := ⟨.hbm, 2079, rfl⟩
abbrev main_call91_v1 : Ref sig .tc := ⟨.hbm, 2080, rfl⟩
abbrev main_call91_c_0 : Ref sig .tc := ⟨.hbm, 2081, rfl⟩
abbrev main_call91_v2 : Ref sig .tc := ⟨.hbm, 2082, rfl⟩
abbrev main_call91_v3 : Ref sig .tc := ⟨.hbm, 2083, rfl⟩
abbrev main_call91_v4 : Ref sig .tc := ⟨.hbm, 2084, rfl⟩
abbrev main_call91_v5 : Ref sig .tc := ⟨.hbm, 2085, rfl⟩
abbrev main_call91_c_1 : Ref sig .tc := ⟨.hbm, 2086, rfl⟩
abbrev main_call91_c_2 : Ref sig .tc := ⟨.hbm, 2087, rfl⟩
abbrev main_call91_v6 : Ref sig .tc := ⟨.hbm, 2088, rfl⟩
abbrev main_call91_v7 : Ref sig .tc := ⟨.hbm, 2089, rfl⟩
abbrev main_call91_v8 : Ref sig .tc := ⟨.hbm, 2090, rfl⟩
abbrev main_call91_v9 : Ref sig .tc := ⟨.hbm, 2091, rfl⟩
abbrev main_call91_v10 : Ref sig .tc := ⟨.hbm, 2092, rfl⟩
abbrev main_call91_v11 : Ref sig .tc := ⟨.hbm, 2093, rfl⟩
abbrev main_call91_c_3 : Ref sig .tc := ⟨.hbm, 2094, rfl⟩
abbrev main_call91_v12 : Ref sig .tc := ⟨.hbm, 2095, rfl⟩
abbrev main_call91_v13 : Ref sig .tc := ⟨.hbm, 2096, rfl⟩
abbrev main_call91_v14 : Ref sig .tc := ⟨.hbm, 2097, rfl⟩
abbrev main_call91_cst : Ref sig .tc := ⟨.hbm, 2098, rfl⟩
abbrev main_call91_v15 : Ref sig .tc := ⟨.hbm, 2099, rfl⟩
abbrev main_v607 : Ref sig .tc := ⟨.hbm, 2100, rfl⟩
abbrev main_v608 : Ref sig .tc := ⟨.hbm, 2101, rfl⟩
abbrev main_v609 : Ref sig .tc := ⟨.hbm, 2102, rfl⟩
abbrev main_v610 : Ref sig .tc := ⟨.hbm, 2103, rfl⟩
abbrev main_v611 : Ref sig .tc := ⟨.hbm, 2104, rfl⟩
abbrev main_cst_152 : Ref sig .tc := ⟨.hbm, 2105, rfl⟩
abbrev main_v612 : Ref sig .tc := ⟨.hbm, 2106, rfl⟩
abbrev main_v613 : Ref sig .tc := ⟨.hbm, 2107, rfl⟩
abbrev main_cst_153 : Ref sig .tc := ⟨.hbm, 2108, rfl⟩
abbrev main_v614 : Ref sig .tc := ⟨.hbm, 2109, rfl⟩
abbrev main_cst_154 : Ref sig .tc := ⟨.hbm, 2110, rfl⟩
abbrev main_v615 : Ref sig .tc := ⟨.hbm, 2111, rfl⟩
abbrev main_v616 : Ref sig .tc := ⟨.hbm, 2112, rfl⟩
abbrev main_v617 : Ref sig .tc := ⟨.hbm, 2113, rfl⟩
abbrev main_v618 : Ref sig .tc := ⟨.hbm, 2114, rfl⟩
abbrev main_v619 : Ref sig .tc := ⟨.hbm, 2115, rfl⟩
abbrev main_v620 : Ref sig .tc := ⟨.hbm, 2116, rfl⟩
abbrev main_cst_155 : Ref sig .tc := ⟨.hbm, 2117, rfl⟩
abbrev main_v621 : Ref sig .tc := ⟨.hbm, 2118, rfl⟩
abbrev main_v622 : Ref sig .tc := ⟨.hbm, 2119, rfl⟩
abbrev main_v623 : Ref sig .tc := ⟨.hbm, 2120, rfl⟩
abbrev main_v624 : Ref sig .tc := ⟨.hbm, 2121, rfl⟩
abbrev main_v625 : Ref sig .tc := ⟨.hbm, 2122, rfl⟩
abbrev main_v626 : Ref sig .tc := ⟨.hbm, 2123, rfl⟩
abbrev main_call92_call0_cst : Ref sig .tc := ⟨.hbm, 2124, rfl⟩
abbrev main_call92_call0_v0 : Ref sig .tc := ⟨.hbm, 2125, rfl⟩
abbrev main_v627 : Ref sig .tc := ⟨.hbm, 2126, rfl⟩
abbrev main_v628 : Ref sig .tc := ⟨.hbm, 2127, rfl⟩
abbrev main_v629 : Ref sig .tc := ⟨.hbm, 2128, rfl⟩
abbrev main_v630 : Ref sig .tc := ⟨.hbm, 2129, rfl⟩
abbrev main_c_156 : Ref sig .tc := ⟨.hbm, 2130, rfl⟩
abbrev main_v631 : Ref sig .tc := ⟨.hbm, 2131, rfl⟩
abbrev main_v632 : Ref sig .tc := ⟨.hbm, 2132, rfl⟩
abbrev main_c_157 : Ref sig .tc := ⟨.hbm, 2133, rfl⟩
abbrev main_c_158 : Ref sig .tc := ⟨.hbm, 2134, rfl⟩
abbrev main_call93_v0 : Ref sig .tc := ⟨.hbm, 2135, rfl⟩
abbrev main_call93_v1 : Ref sig .tc := ⟨.hbm, 2136, rfl⟩
abbrev main_call93_v2 : Ref sig .tc := ⟨.hbm, 2137, rfl⟩
abbrev main_call93_v3 : Ref sig .tc := ⟨.hbm, 2138, rfl⟩
abbrev main_call93_v4 : Ref sig .tc := ⟨.hbm, 2139, rfl⟩
abbrev main_v633 : Ref sig .tc := ⟨.hbm, 2140, rfl⟩
abbrev main_cst_159 : Ref sig .tc := ⟨.hbm, 2141, rfl⟩
abbrev main_v634 : Ref sig .tc := ⟨.hbm, 2142, rfl⟩
abbrev main_v635 : Ref sig .tc := ⟨.hbm, 2143, rfl⟩
abbrev main_call94_cst : Ref sig .tc := ⟨.hbm, 2144, rfl⟩
abbrev main_call94_v0 : Ref sig .tc := ⟨.hbm, 2145, rfl⟩
abbrev main_call94_cst_0 : Ref sig .tc := ⟨.hbm, 2146, rfl⟩
abbrev main_call94_v1 : Ref sig .tc := ⟨.hbm, 2147, rfl⟩
abbrev main_call94_v2 : Ref sig .tc := ⟨.hbm, 2148, rfl⟩
abbrev main_call94_v3 : Ref sig .tc := ⟨.hbm, 2149, rfl⟩
abbrev main_call94_v4 : Ref sig .tc := ⟨.hbm, 2150, rfl⟩
abbrev main_call94_v5 : Ref sig .tc := ⟨.hbm, 2151, rfl⟩
abbrev main_call94_v6 : Ref sig .tc := ⟨.hbm, 2152, rfl⟩
abbrev main_call94_cst_1 : Ref sig .tc := ⟨.hbm, 2153, rfl⟩
abbrev main_call94_v7 : Ref sig .tc := ⟨.hbm, 2154, rfl⟩
abbrev main_call94_v8 : Ref sig .tc := ⟨.hbm, 2155, rfl⟩
abbrev main_call94_v9 : Ref sig .tc := ⟨.hbm, 2156, rfl⟩
abbrev main_call94_v10 : Ref sig .tc := ⟨.hbm, 2157, rfl⟩
abbrev main_v636 : Ref sig .tc := ⟨.hbm, 2158, rfl⟩
abbrev main_call95_c : Ref sig .tc := ⟨.hbm, 2159, rfl⟩
abbrev main_call95_v0 : Ref sig .tc := ⟨.hbm, 2160, rfl⟩
abbrev main_call95_v1 : Ref sig .tc := ⟨.hbm, 2161, rfl⟩
abbrev main_call95_c_0 : Ref sig .tc := ⟨.hbm, 2162, rfl⟩
abbrev main_call95_v2 : Ref sig .tc := ⟨.hbm, 2163, rfl⟩
abbrev main_call95_v3 : Ref sig .tc := ⟨.hbm, 2164, rfl⟩
abbrev main_call95_v4 : Ref sig .tc := ⟨.hbm, 2165, rfl⟩
abbrev main_call95_v5 : Ref sig .tc := ⟨.hbm, 2166, rfl⟩
abbrev main_call95_c_1 : Ref sig .tc := ⟨.hbm, 2167, rfl⟩
abbrev main_call95_c_2 : Ref sig .tc := ⟨.hbm, 2168, rfl⟩
abbrev main_call95_v6 : Ref sig .tc := ⟨.hbm, 2169, rfl⟩
abbrev main_call95_v7 : Ref sig .tc := ⟨.hbm, 2170, rfl⟩
abbrev main_call95_v8 : Ref sig .tc := ⟨.hbm, 2171, rfl⟩
abbrev main_call95_v9 : Ref sig .tc := ⟨.hbm, 2172, rfl⟩
abbrev main_call95_v10 : Ref sig .tc := ⟨.hbm, 2173, rfl⟩
abbrev main_call95_v11 : Ref sig .tc := ⟨.hbm, 2174, rfl⟩
abbrev main_call95_c_3 : Ref sig .tc := ⟨.hbm, 2175, rfl⟩
abbrev main_call95_v12 : Ref sig .tc := ⟨.hbm, 2176, rfl⟩
abbrev main_call95_v13 : Ref sig .tc := ⟨.hbm, 2177, rfl⟩
abbrev main_call95_cst : Ref sig .tc := ⟨.hbm, 2178, rfl⟩
abbrev main_call95_v14 : Ref sig .tc := ⟨.hbm, 2179, rfl⟩
abbrev main_v637 : Ref sig .tc := ⟨.hbm, 2180, rfl⟩
abbrev main_v638 : Ref sig .tc := ⟨.hbm, 2181, rfl⟩
abbrev main_v639 : Ref sig .tc := ⟨.hbm, 2182, rfl⟩
abbrev main_v640 : Ref sig .tc := ⟨.hbm, 2183, rfl⟩

abbrev nD : Nat := 1
abbrev τ : Topo := Topo.v7x

variable {F : FTy → Type} [FloatOps F]
-- ==== Proof.HostStep.lean ====
/-
  One step of the sampling as the reference writes it, as functions of arrays: the embeddings, the logits, the softmax,
  the drawn token and its log-probability. Nothing here names a program's buffer.
-/
module

public import proofs.«01_k».proof.Proof.Gen.ReferenceIdeal

@[expose] public section

set_option maxRecDepth 8192

noncomputable section

namespace Cert.Sample.Host

open Cert.ReferenceIdeal Cert.ReferenceIdeal.Gen Idealize.ShloMosaic Idealize.ShloMosaic.TcCoe Idealize.SL.Sem

variable {F : FTy → Type} [FloatOps F]

/-- A zero, a one, and so on at every place of an array. -/
abbrev fill {s : Shape} (b : BitVec 32) (h : S_.BroadcastsInDim s (![] : Fin 0 → Fin s.rank)) : Vec F s .f32 :=
  broadcastInDim s ![] h (constant S_ .f32 b)

/-- The same integer at every place of an array. -/
abbrev fillI {s : Shape} (b : BitVec 32) (h : S_.BroadcastsInDim s (![] : Fin 0 → Fin s.rank)) : IVec s 32 :=
  broadcastInDim s ![] h (constantI S_ 32 b)

/-- The row numbers of the source tokens, negative ones counted from the end. -/
def rowsX (X : IVec S128x16 32) : IVec S128x16x1 32 :=
  broadcastInDim S128x16x1 ![0, 1] bcast_S128x16_S128x16x1_0_1
    (select (cmpi .slt X (fillI 0#32 bcast_S_S128x16)) (addi X (fillI 32000#32 bcast_S_S128x16)) X)

/-- The embeddings of the source tokens. -/
def takeX (E : Vec F S32000x1024 .f32) (X : IVec S128x16 32) : Vec F S128x16x1024 .f32 :=
  select (broadcastInDim S128x16x1024 ![0, 1] bcast_S128x16_S128x16x1024_0_1
      (Host.reduce IntOp.andi (andi (cmpi .sge (rowsX X) (fillI 0#32 bcast_S_S128x16x1))
        (cmpi .sle (rowsX X) (broadcastInDim S128x16x1 ![0, 1, 2] bcast_S1x1x1_S128x16x1_0_1_2
          (broadcastInDim S1x1x1 ![2] bcast_S1_S1x1x1_2 (constantI S1 32 31999#32)))))
        (constantI S_ 1 1#1) reducesTo_S128x16x1_S128x16_d2 h_S_))
    (Host.gather gather_S32000x1024_S128x16x1_S128x16x1024_2_0_n_n_0_2_11024 E (rowsX X))
    (fill 0x7FC00000#32 bcast_S_S128x16x1024)

/-- The mean of the source tokens' embeddings. -/
def context (E : Vec F S32000x1024 .f32) (X : IVec S128x16 32) : Vec F S128x1024 .f32 :=
  Host.divf (Host.reduceAdd (takeX E X) (constant S_ .f32 0x00000000#32) reducesTo_S128x16x1024_S128x1024_d1 h_S_)
    (fill 0x41800000#32 bcast_S_S128x1024)

/-- The row numbers of the last tokens. -/
def rowsY (y : IVec S128 32) : IVec S128x1 32 :=
  broadcastInDim S128x1 ![0] bcast_S128_S128x1_0
    (select (cmpi .slt y (fillI 0#32 bcast_S_S128)) (addi y (fillI 32000#32 bcast_S_S128)) y)

/-- The embeddings of the last tokens. -/
def takeY (E : Vec F S32000x1024 .f32) (y : IVec S128 32) : Vec F S128x1024 .f32 :=
  select (broadcastInDim S128x1024 ![0] bcast_S128_S128x1024_0
      (Host.reduce IntOp.andi (andi (cmpi .sge (rowsY y) (fillI 0#32 bcast_S_S128x1))
        (cmpi .sle (rowsY y) (broadcastInDim S128x1 ![0, 1] bcast_S1x1_S128x1_0_1
          (broadcastInDim S1x1 ![1] bcast_S1_S1x1_1 (constantI S1 32 31999#32)))))
        (constantI S_ 1 1#1) reducesTo_S128x1_S128_d1 h_S_))
    (Host.gather gather_S32000x1024_S128x1_S128x1024_1_0_n_n_0_1_11024 E (rowsY y))
    (fill 0x7FC00000#32 bcast_S_S128x1024)

/-- The decoder's input: the last token's embedding plus the context. -/
def embed (E : Vec F S32000x1024 .f32) (X : IVec S128x16 32) (y : IVec S128 32) : Vec F S128x1024 .f32 :=
  addf (takeY E y) (context E X)

/-- The hidden layer. -/
def hidden (a : Vec F S128x1024 .f32) (Wh : Vec F S1024x1024 .f32) : Vec F S128x1024 .f32 :=
  Host.tanh (Host.dotGeneral dot_S128x1024_S1024x1024_S128x1024_1_0_0_1_n_n none a Wh)

/-- The logits. -/
def logits (h : Vec F S128x1024 .f32) (Wo : Vec F S1024x32000 .f32) : Vec F S128x32000 .f32 :=
  Host.dotGeneral dot_S128x1024_S1024x32000_S128x32000_1_0_0_1_n_n none h Wo

/-- The logits over the temperature. -/
def tempered (x : Vec F S128x32000 .f32) : Vec F S128x32000 .f32 :=
  Host.divf x (fill 0x3F800000#32 bcast_S_S128x32000)

/-- One number per row, spread along the row. -/
def spread (v : Vec F S128 .f32) : Vec F S128x32000 .f32 :=
  broadcastInDim S128x32000 ![0, 1] bcast_S128x1_S128x32000_0_1 (broadcastInDim S128x1 ![0] bcast_S128_S128x1_0 v)

/-- The greatest entry of each row. -/
def rowMax (x : Vec F S128x32000 .f32) : Vec F S128 .f32 :=
  Host.reduce FloatOps.maximumf x (constant S_ .f32 0xFF800000#32) reducesTo_S128x32000_S128_d1 h_S_

/-- The rows less their greatest entry, taken once more against the bottom element. -/
def shifted (x : Vec F S128x32000 .f32) : Vec F S128x32000 .f32 :=
  subf x (spread (maximumf (fill 0xFF800000#32 bcast_S_S128) (rowMax x)))

/-- The sum of each row. -/
def rowTotal (x : Vec F S128x32000 .f32) : Vec F S128 .f32 :=
  Host.reduceAdd x (constant S_ .f32 0x00000000#32) reducesTo_S128x32000_S128_d1 h_S_

/-- The softmax of each row. -/
def softmax (x : Vec F S128x32000 .f32) : Vec F S128x32000 .f32 :=
  Host.divf (Host.exp (shifted x)) (spread (rowTotal (Host.exp (shifted x))))

/-- The drawn token: how many running sums of the row lie below the drawn number, clipped to the vocabulary. -/
def draw (p : Vec F S128x32000 .f32) (u : Vec F S128x1 .f32) : IVec S128x1 32 :=
  minsi (broadcastInDim S128x1 ![] bcast_S_S128x1 (id (constantI S_ 32 31999#32)))
    (maxsi (broadcastInDim S128x1 ![] bcast_S_S128x1 (id (constantI S_ 32 0#32)))
      (broadcastInDim S128x1 ![0] bcast_S128_S128x1_0
        (Host.reduce IntOp.addi
          (extui 32 (cmpf .olt
            (Host.reduceWindowAdd ![1, 32000] ![1, 1] ![0, 31999] ![0, 0] p
              (broadcastInDim S_ ![] bcast_S_S_ (constant S_ .f32 0x00000000#32))
              reduceWindows_S128x32000_S128x32000_w1s1p0_0_w32000s1p31999_0 h_S_)
            (broadcastInDim S128x32000 ![0, 1] bcast_S128x1_S128x32000_0_1 u)) natLt_1_32)
          (constantI S_ 32 0#32) reducesTo_S128x32000_S128_d1 h_S_)))

/-- The log-softmax of each row. -/
def logSoftmax (x : Vec F S128x32000 .f32) : Vec F S128x32000 .f32 :=
  subf (shifted x) (broadcastInDim S128x32000 ![0, 1] bcast_S128x1_S128x32000_0_1
    (Host.log (broadcastInDim S128x1 ![0] bcast_S128_S128x1_0 (rowTotal (Host.exp (shifted x))))))

/-- The column numbers of the drawn tokens. -/
def cols (k : IVec S128x1 32) : IVec S128x1x1 32 :=
  shapeCast _ (select (cmpi .slt k (fillI 0#32 bcast_S_S128x1)) (addi k (fillI 32000#32 bcast_S_S128x1)) k)
    shapeCasts_S128x1_S128x1x1

/-- Whether a column number lies inside the row. -/
def inside (k : IVec S128x1 32) : IVec S128x1 1 :=
  Host.reduce IntOp.andi (andi (cmpi .sge (cols k) (fillI 0#32 bcast_S_S128x1x1))
      (cmpi .sle (cols k) (broadcastInDim S128x1x1 ![0, 1, 2] bcast_S1x1x1_S128x1x1_0_1_2
        (broadcastInDim S1x1x1 ![2] bcast_S1_S1x1x1_2 (constantI S1 32 31999#32)))))
    (constantI S_ 1 1#1) reducesTo_S128x1x1_S128x1_d2 h_S_

/-- The entry of each row at the drawn token. -/
def pick (x : Vec F S128x32000 .f32) (k : IVec S128x1 32) : Vec F S128x1 .f32 :=
  select (inside k) (Host.gather gather_S128x32000_S128x1x1_S128x1_n_1_0_0_1_2_11 x (cols k))
    (fill 0x7FC00000#32 bcast_S_S128x1)

/-- The step's logits over the temperature. -/
def scores (E : Vec F S32000x1024 .f32) (X : IVec S128x16 32) (Wh : Vec F S1024x1024 .f32) (Wo : Vec F S1024x32000 .f32)
    (y : IVec S128 32) : Vec F S128x32000 .f32 :=
  tempered (logits (hidden (embed E X y) Wh) Wo)

/-- The step's token. -/
def token (E : Vec F S32000x1024 .f32) (X : IVec S128x16 32) (Wh : Vec F S1024x1024 .f32) (Wo : Vec F S1024x32000 .f32)
    (y : IVec S128 32) (u : Vec F S128x1 .f32) : IVec S128x1 32 :=
  draw (softmax (scores E X Wh Wo y)) u

/-- The log-probability after the step: the one before it plus the drawn token's. -/
def logProb (E : Vec F S32000x1024 .f32) (X : IVec S128x16 32) (Wh : Vec F S1024x1024 .f32) (Wo : Vec F S1024x32000 .f32)
    (y : IVec S128 32) (u : Vec F S128x1 .f32) (acc : Vec F S128 .f32) : Vec F S128 .f32 :=
  addf acc (shapeCast S128 (pick (logSoftmax (scores E X Wh Wo y)) (token E X Wh Wo y u)) shapeCasts_S128x1_S128)

end Cert.Sample.Host

end
-- ==== Proof.Sampling.lean ====
/-
  The sixteen steps of the sampling as the reference writes them: the tokens drawn so far, one column per step, and the
  sum of their log-probabilities. Nothing here names a program's buffer.
-/
module

public import proofs.«01_k».proof.Proof.HostStep

@[expose] public section

set_option maxRecDepth 8192

noncomputable section

namespace Cert.Sample.Host

open Cert.ReferenceIdeal Cert.ReferenceIdeal.Gen Idealize.ShloMosaic Idealize.ShloMosaic.TcCoe Idealize.SL.Sem

variable {F : FTy → Type} [FloatOps F]

/-- The shape of the tokens after `n` steps: the starting column and one column per step. -/
abbrev Columns (n : ℕ) : Shape := ⟨2, ![128, n + 1]⟩

/-- A column after the columns so far gives one column more. -/
theorem columns_join : ∀ n : Fin 16, Shape.Concatenates [Columns n.val, S128x1] (Columns (n.val + 1)) 1 := by decide

/-- The columns after a step have a last column. -/
theorem columns_last : ∀ n : Fin 16, (Columns (n.val + 1)).Slices ![0, n.val + 1] S128x1 := by decide

/-- The drawn numbers of each step are a slice of all of them. -/
theorem draws_slice : ∀ n : Fin 16, S16x128x1.Slices ![n.val, 0, 0] S1x128x1 := by decide

/-- The numbers drawn for step `n`. -/
def drawn (U : Vec F S16x128x1 .f32) (n : ℕ) (h : n < 16) : Vec F S128x1 .f32 :=
  shapeCast S128x1 (extractStridedSlice S1x128x1 ![n, 0, 0] U (draws_slice ⟨n, h⟩)) shapeCasts_S1x128x1_S128x1

/-- The last column of the tokens. -/
def last : (n : ℕ) → n ≤ 16 → IVec (Columns n) 32 → IVec S128 32
  | 0, _, Y => shapeCast S128 Y shapeCasts_S128x1_S128
  | n + 1, h, Y => shapeCast S128 (extractStridedSlice S128x1 ![0, n + 1] Y (columns_last ⟨n, h⟩)) shapeCasts_S128x1_S128

/-- The tokens with one column more. -/
def append (n : ℕ) (h : n < 16) (Y : IVec (Columns n) 32) (k : IVec S128x1 32) : IVec (Columns (n + 1)) 32 :=
  concatenate (Columns (n + 1)) 1 [⟨Columns n, Y⟩, ⟨S128x1, k⟩] (columns_join ⟨n, h⟩)

variable (E : Vec F S32000x1024 .f32) (X : IVec S128x16 32) (Wh : Vec F S1024x1024 .f32) (Wo : Vec F S1024x32000 .f32)
  (U : Vec F S16x128x1 .f32)

/-- The tokens after `n` steps, from a column of ones. -/
def columns : (n : ℕ) → n ≤ 16 → IVec (Columns n) 32
  | 0, _ => fillI 1#32 bcast_S_S128x1
  | n + 1, h => append n h (columns n (Nat.le_of_succ_le h))
      (token E X Wh Wo (last n (Nat.le_of_succ_le h) (columns n (Nat.le_of_succ_le h))) (drawn U n h))

/-- The token from which step `n` goes on. -/
def seen (n : ℕ) (h : n ≤ 16) : IVec S128 32 := last n h (columns E X Wh Wo U n h)

/-- The token drawn in step `n`. -/
def next (n : ℕ) (h : n < 16) : IVec S128x1 32 := token E X Wh Wo (seen E X Wh Wo U n (Nat.le_of_lt h)) (drawn U n h)

/-- The logits over the temperature of step `n`. -/
def rowScores (n : ℕ) (h : n < 16) : Vec F S128x32000 .f32 := scores E X Wh Wo (seen E X Wh Wo U n (Nat.le_of_lt h))

/-- The log-probabilities after `n` steps, from zero. -/
def total : (n : ℕ) → n ≤ 16 → Vec F S128 .f32
  | 0, _ => fill 0x00000000#32 bcast_S_S128
  | n + 1, h => logProb E X Wh Wo (seen E X Wh Wo U n (Nat.le_of_succ_le h)) (drawn U n h) (total n (Nat.le_of_succ_le h))

end Cert.Sample.Host

end
-- ==== Proof.RefValue.lean ====
/-
  The reference's run: it leaves the sixteen steps' tokens and log-probabilities, and its arguments unchanged.
-/
module

public import proofs.«01_k».proof.Proof.Sampling
public import proofs.«01_k».proof.Proof.Gen.ReferenceIdeal.Run
public import Idealize.ShloMosaic.Lib.Tactic

@[expose] public section

set_option maxRecDepth 8192

noncomputable section

namespace Cert.Sample

open Cert.ReferenceIdeal Cert.ReferenceIdeal.Gen Idealize.ShloMosaic Idealize.ShloMosaic.TcCoe Idealize.SL.Sem
open Idealize.ShloMosaic.StableHlo

variable {F : FTy → Type} [FloatOps F]

/-- The reference's tokens are the sixteen steps' tokens. -/
theorem ref_columns (V : Valuation τ sig (Elt F)) :
    concatenate S128x17 1 [⟨S128x16, Value.res_main_v600 V⟩, ⟨S128x1, Value.res_main_v633 V⟩] facts.concatenates_S128x16_S128x1_S128x17_d1
      = Host.columns (F := F) (V (Proc.devRef .tc main_arg1)) (V (Proc.devRef .tc main_arg0)) (V (Proc.devRef .tc main_arg2))
          (V (Proc.devRef .tc main_arg3)) (V (Proc.devRef .tc main_arg4)) 16 (le_refl 16) := by
  sl_kernel_rfl

/-- What the reference leaves. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      let M := fun b : Ref sig .tc => m ((c.tc : Thread nD τ).loc b)
      r.2.mem ((c.tc : Thread nD τ).loc main_v640)
        = Host.columns (F := F) (M main_arg1) (M main_arg0) (M main_arg2) (M main_arg3) (M main_arg4) 16 (le_refl 16)
      ∧ r.2.mem ((c.tc : Thread nD τ).loc main_v639)
        = Host.total (F := F) (M main_arg1) (M main_arg0) (M main_arg2) (M main_arg3) (M main_arg4) 16 (le_refl 16)
      ∧ r.2.mem ((c.tc : Thread nD τ).loc main_arg0) = M main_arg0
      ∧ r.2.mem ((c.tc : Thread nD τ).loc main_arg1) = M main_arg1
      ∧ r.2.mem ((c.tc : Thread nD τ).loc main_arg2) = M main_arg2
      ∧ r.2.mem ((c.tc : Thread nD τ).loc main_arg3) = M main_arg3
      ∧ r.2.mem ((c.tc : Thread nD τ).loc main_arg4) = M main_arg4 := by
  refine (θ_run defs _ _).mono (fun r h c => ?_) (Value.run m ρ)
  obtain ⟨h1, h2, rest⟩ := h c
  refine ⟨h1.trans (ref_columns (launchContents m c)), h2.trans ?_, rest⟩
  sl_kernel_rfl

end Cert.Sample

end
-- ==== Proof.SampleScan.lean ====
/-
  The first loop of the sampling kernel: the running sum along the first axis.

  The scratch array `q` starts as a copy of the block `t` (128 × 128 × 256); trip `k` of the loop adds row `k` into
  row `k + 1`. So after `k` trips row `j ≤ k` holds the ordered sum of the rows `0 … j` of `t`, and the rows behind `k`
  still hold `t`.
-/
module

public import proofs.«01_k».proof.Proof.Gen.KernelIdeal.Frame.Region2
public import Idealize.ShloMosaic.Lib.Pipeline.ValueKit
public import Idealize.ShloMosaic.Lib.Pipeline.ReadBack
public import Idealize.ShloMosaic.Lib.WritesUnit
public import Idealize.ShloMosaic.Lib.VecWindow
public import Idealize.ShloMosaic.Lib.ValueIdx

@[expose] public section

set_option maxRecDepth 16384

noncomputable section

namespace Cert.Sample

open Cert.KernelIdeal Cert.KernelIdeal.Gen
open Idealize.ShloMosaic Idealize.ShloMosaic.TcCoe Idealize.SL.Sem

variable {F : FTy → Type} [FloatOps F]

/-- The ordered sum of the rows `0 … j` of `t` at `(b, l)`: the newer row is the left operand, as the kernel adds. -/
def rowSum (t : Vec F S128x128x256 .f32) (b : Fin 128) (l : Fin 256) : (j : ℕ) → j < 128 → F .f32
  | 0, h => t (ValueIdx.ix3 ⟨0, h⟩ b l)
  | j + 1, h => FloatOps.addf (t (ValueIdx.ix3 ⟨j + 1, h⟩ b l)) (rowSum t b l j (Nat.lt_of_succ_lt h))

/-- What the scratch array holds after `k` trips. -/
def scanned (t : Vec F S128x128x256 .f32) (k : ℕ) : Vec F S128x128x256 .f32 := fun i =>
  if (i 0).val ≤ k then rowSum t (i 1) (i 2) (i 0).val (i 0).isLt else t i

/-- Before the first trip the array is `t`. -/
theorem scanned_zero (t : Vec F S128x128x256 .f32) : scanned t 0 = t := by
  funext i
  unfold scanned
  split
  · next h =>
    rw [ValueIdx.eq_ix3 i] at h ⊢
    obtain ⟨v, hv⟩ : ∃ v, v = i 0 := ⟨_, rfl⟩
    have h0 : i 0 = (0 : Fin 128) := Fin.ext (by simpa using h)
    rw [h0]
    rfl
  · rfl

section Loop

variable (c : Dev nD) (arg0 : Memref sig .tc .vmem S128x128x256 .f32) (harg0 : arg0.IsWhole) (arg1 : Memref sig .tc .vmem S128x1 .f32) (harg1 : arg1.IsWhole) (arg2 : Memref sig .tc .vmem S128x1 .i32) (harg2 : arg2.IsWhole) (arg3 : Memref sig .tc .vmem S128x128x256 .f32) (harg3 : arg3.IsWhole) (arg4 : Memref sig .tc .vmem S128x256 .f32) (harg4 : arg4.IsWhole) (arg5 : Memref sig .tc .vmem S128x256 .f32) (harg5 : arg5.IsWhole)

/-- One trip: over contents that read as `q`, row `k + 1` becomes `q (k + 1) + q k`, the other rows stay. -/
theorem trip_read (k : Fin k2_t1_loop.trips) (hk : k.val < 127) (f : arg3.view.ty.Contents (Elt F)) (j b : Fin 128) (l : Fin 256) :
    arg3.view.read (Elt F) (arg3.view.writes (Elt F) f
        (tripL_k2_t1 (F := F) Variants.none c none arg0 harg0 arg1 harg1 arg2 harg2 arg3 harg3 arg4 harg4 arg5 harg5 k f)) (ValueIdx.ix3 j b l)
      = if j.val = k.val + 1 then
          FloatOps.addf (arg3.view.read (Elt F) f (ValueIdx.ix3 j b l))
            (arg3.view.read (Elt F) f (ValueIdx.ix3 (⟨k.val, by omega⟩ : Fin 128) b l))
        else arg3.view.read (Elt F) f (ValueIdx.ix3 j b l) := by
  unfold tripL_k2_t1 trip_k2_t1
  dsimp only
  by_cases h : j.val = k.val + 1
  · rw [if_pos h]
    refine (View.read_writes_cons_unit_of_mem arg3.view f _ _ _ _ (ValueIdx.ix3 (0 : Fin 1) b l) (k2_off1_eq k) (fun a => by
      match a with
      | ⟨0, _⟩ => exact h
      | ⟨1, _⟩ => exact (Nat.zero_add _).symm
      | ⟨2, _⟩ => exact (Nat.zero_add _).symm)).trans ?_
    unfold k2_pay6
    rw [shapeCast_self]
    show FloatOps.addf (arg3.view.read (Elt F) f _) (arg3.view.read (Elt F) f _) = _
    refine congrArg₂ FloatOps.addf (congrArg (arg3.view.read (Elt F) f) ?_) (congrArg (arg3.view.read (Elt F) f) ?_)
    · funext a
      apply Fin.ext
      match a with
      | ⟨0, _⟩ => show k2_off1 k 0 + 1 * 0 = j.val; rw [k2_off1_eq, h]; rfl
      | ⟨1, _⟩ => show k2_off1 k 1 + 1 * b.val = b.val; rw [k2_off1_eq]; show 0 + 1 * _ = _; omega
      | ⟨2, _⟩ => show k2_off1 k 2 + 1 * l.val = l.val; rw [k2_off1_eq]; show 0 + 1 * _ = _; omega
    · funext a
      apply Fin.ext
      match a with
      | ⟨0, _⟩ => show k2_off2 k 0 + 1 * 0 = k.val; rw [k2_off2_eq]; rfl
      | ⟨1, _⟩ => show k2_off2 k 1 + 1 * b.val = b.val; rw [k2_off2_eq]; show 0 + 1 * _ = _; omega
      | ⟨2, _⟩ => show k2_off2 k 2 + 1 * l.val = l.val; rw [k2_off2_eq]; show 0 + 1 * _ = _; omega
  · rw [if_neg h]
    refine (View.read_writes_cons_unit_of_not_mem arg3.view f _ _ _ _ (k2_off1_eq k) (0 : Fin 3) (by
      show j.val < k.val + 1 ∨ k.val + 1 + 1 ≤ j.val
      omega)).trans ?_
    rfl

/-- The loop makes 127 trips. -/
theorem trips_t1 : k2_t1_loop.trips = 127 := by decide +kernel

/-- After `k` trips over contents that read as `t`, the array reads as `scanned t k`. -/
theorem scan_read (t : Vec F S128x128x256 .f32) (G : arg3.view.ty.Contents (Elt F)) (hG : arg3.view.read (Elt F) G = t) :
    ∀ k : ℕ, k ≤ 127 → arg3.view.read (Elt F) (arg3.view.writes (Elt F) G
        (pb_k2_t1 (F := F) Variants.none c none arg0 harg0 arg1 harg1 arg2 harg2 arg3 harg3 arg4 harg4 arg5 harg5 G k)) = scanned t k
  | 0, _ => by
    rw [scanned_zero]
    exact hG
  | k + 1, hk => by
    have ih := scan_read t G hG k (by omega)
    have hs := pb_k2_t1_succ (F := F) Variants.none c none arg0 harg0 arg1 harg1 arg2 harg2 arg3 harg3 arg4 harg4 arg5 harg5 G
      ⟨k, by rw [trips_t1]; omega⟩
    dsimp only at hs
    rw [hs, View.writes_append]
    funext i
    obtain ⟨j, b, l, rfl⟩ : ∃ j b l, i = ValueIdx.ix3 j b l := ⟨i 0, i 1, i 2, ValueIdx.eq_ix3 i⟩
    rw [trip_read (hk := by dsimp only; omega), ih]
    show (if j.val = k + 1 then FloatOps.addf (if j.val ≤ k then rowSum t b l j.val j.isLt else t (ValueIdx.ix3 j b l))
        (if k ≤ k then rowSum t b l k _ else t _) else if j.val ≤ k then rowSum t b l j.val j.isLt else t (ValueIdx.ix3 j b l))
      = if j.val ≤ k + 1 then rowSum t b l j.val j.isLt else t (ValueIdx.ix3 j b l)
    by_cases h : j.val = k + 1
    · obtain ⟨j, hj⟩ := j
      dsimp only at h
      subst h
      rw [if_pos rfl, if_neg (by dsimp only; omega), if_pos (le_refl k), if_pos (le_refl _)]
      rfl
    · rw [if_neg h]
      by_cases h' : j.val ≤ k
      · rw [if_pos h', if_pos (by omega)]
      · rw [if_neg h', if_neg (by omega)]

end Loop

end Cert.Sample

end
-- ==== Proof.SampleColumns.lean ====
/-
  The columns of the sampling kernel: the running sum along the second axis.

  `tot` is the last row of the scanned array. The kernel writes column `k < 128` of `pt` as the ordered sum of the
  columns `0 … k - 1` of `tot`; column `128 ≤ k < 250` as the ordered sum of the columns `128 … k - 1` plus the sum of
  the first 128 columns; and the last six columns as the f32 infinity.
-/
module

public import proofs.«01_k».proof.Proof.SampleScan

@[expose] public section

set_option maxRecDepth 16384

noncomputable section

namespace Cert.Sample

open Cert.KernelIdeal Cert.KernelIdeal.Gen
open Idealize.ShloMosaic Idealize.ShloMosaic.TcCoe Idealize.SL.Sem

variable {F : FTy → Type} [FloatOps F]

/-- A column of a 128 × 256 array lies within it. -/
theorem col_inb (k : ℕ) (h : k + 1 ≤ 256) : ∀ a, (![0, k] : Fin 2 → ℕ) a + S128x1.size a ≤ S128x256.size a
  | ⟨0, _⟩ => le_refl 128
  | ⟨1, _⟩ => h

/-- The rectangle of column `k`. -/
abbrev colRect (k : ℕ) (h : k + 1 ≤ 256) : Rect S128x256 := Rect.unit ![0, k] S128x1.size (col_inb k h)

/-- The ordered sum of the columns `lo … lo + n - 1`, from zero. -/
def colSum (r : (k : ℕ) → k + 1 ≤ 256 → FVec F S128x1 .f32) (lo : ℕ) : (n : ℕ) → lo + n ≤ 256 → FVec F S128x1 .f32
  | 0, _ => broadcast S128x1 (Scalar.ofBits .f32 0x00000000#32)
  | n + 1, h => addf (colSum r lo n (Nat.le_of_succ_le h)) (r (lo + n) h)

/-- The pieces written into the columns `0 … n - 1`, newest first. -/
def leftPieces (r : (k : ℕ) → k + 1 ≤ 256 → FVec F S128x1 .f32) : (n : ℕ) → n ≤ 256 → List (View.Piece (Elt F) S128x256 .f32)
  | 0, _ => []
  | n + 1, h => ⟨colRect n h, shapeCast S128x1 (colSum r 0 n (by omega)) shapeCasts_S128x1_S128x1⟩ :: leftPieces r n (Nat.le_of_succ_le h)

/-- The pieces written into the columns `128 … 128 + n - 1`, newest first, over the first 128 columns. -/
def rightPieces (r : (k : ℕ) → k + 1 ≤ 256 → FVec F S128x1 .f32) : (n : ℕ) → 128 + n ≤ 256 → List (View.Piece (Elt F) S128x256 .f32)
  | 0, _ => leftPieces r 128 (by omega)
  | n + 1, h => ⟨colRect (128 + n) h, shapeCast S128x1 (addf (colSum r 128 n (Nat.le_of_succ_le h)) (colSum r 0 128 (by omega)))
      shapeCasts_S128x1_S128x1⟩ :: rightPieces r n (Nat.le_of_succ_le h)

/-- All pieces written into `pt`: the infinite columns over the sums. -/
def ptPieces (r : (k : ℕ) → k + 1 ≤ 256 → FVec F S128x1 .f32) : List (View.Piece (Elt F) S128x256 .f32) :=
  ⟨Rect.unit ![0, 250] ![128, 6] inb_S128x256_S128x6_0_250, shapeCast S128x6 (broadcast S128x6 (Scalar.ofBits .f32 0x7F800000#32)) shapeCasts_S128x6_S128x6⟩
    :: rightPieces r 122 (by omega)

section Run

variable (c : Dev nD) (arg0 : Memref sig .tc .vmem S128x128x256 .f32) (harg0 : arg0.IsWhole) (arg1 : Memref sig .tc .vmem S128x1 .f32) (harg1 : arg1.IsWhole) (arg2 : Memref sig .tc .vmem S128x1 .i32) (harg2 : arg2.IsWhole) (arg3 : Memref sig .tc .vmem S128x128x256 .f32) (harg3 : arg3.IsWhole) (arg4 : Memref sig .tc .vmem S128x256 .f32) (harg4 : arg4.IsWhole) (arg5 : Memref sig .tc .vmem S128x256 .f32) (harg5 : arg5.IsWhole)
variable (x0 : Vec F S128x128x256 .f32)

/-- Column `k` of `tot` as the kernel reads it back. -/
def totCol (k : ℕ) (h : k + 1 ≤ 256) : FVec F S128x1 .f32 :=
  arg5.view.readCov (kernelRun2_A.sl.HS2_1 c arg0 harg0 arg1 harg1 arg2 harg2 arg3 harg3 arg4 harg4 arg5 harg5 x0) (colRect k h).toLoadRect

/-- The list of the kernel's writes into `pt` is the recursive one. -/
theorem pieces_eq :
    kernelRun2_A.sl.HS1_251 c arg0 harg0 arg1 harg1 arg2 harg2 arg3 harg3 arg4 harg4 arg5 harg5 x0
      = ptPieces (totCol c arg0 harg0 arg1 harg1 arg2 harg2 arg3 harg3 arg4 harg4 arg5 harg5 x0) := by
  sl_kernel_rfl

end Run

end Cert.Sample

end
-- ==== Proof.SamplePrefix.lean ====
/-
  What the sampling kernel's scratch arrays hold once the first loop and the columns are done.

  `tot` (its row is the last row of the scanned array) and `pt` are stated here as functions of the block `t` alone.
-/
module

public import proofs.«01_k».proof.Proof.SampleColumns
public import Idealize.ShloMosaic.Lib.ValueLayout

@[expose] public section

set_option maxRecDepth 16384

noncomputable section

namespace Cert.Sample

open Cert.KernelIdeal Cert.KernelIdeal.Gen
open Idealize.ShloMosaic Idealize.ShloMosaic.TcCoe Idealize.SL.Sem

variable {F : FTy → Type} [FloatOps F]

/-- The sum of all 128 rows, at batch `b` and column `l`. -/
def totOf (t : Vec F S128x128x256 .f32) : Vec F S128x256 .f32 := fun i => rowSum t (i 0) (i 1) 127 (by omega)

/-- The ordered sum of row `b` of `w` over the columns `lo … lo + n - 1`, from zero. -/
def rowCols (w : Vec F S128x256 .f32) (b : Fin 128) (lo : ℕ) : (n : ℕ) → lo + n ≤ 256 → F .f32
  | 0, _ => Scalar.ofBits .f32 0x00000000#32
  | n + 1, h => FloatOps.addf (rowCols w b lo n (Nat.le_of_succ_le h)) (w (ValueIdx.ix2 b (⟨lo + n, h⟩ : Fin 256)))

/-- Entry `k` of row `b` of `pt`. -/
def ptAt (w : Vec F S128x256 .f32) (b : Fin 128) (k : ℕ) : F .f32 :=
  if h : k < 128 then rowCols w b 0 k (by omega)
  else if h' : k < 250 then FloatOps.addf (rowCols w b 128 (k - 128) (by omega)) (rowCols w b 0 128 (by omega))
  else Scalar.ofBits .f32 0x7F800000#32

/-- What `pt` holds. -/
def ptOf (w : Vec F S128x256 .f32) : Vec F S128x256 .f32 := fun i => ptAt w (i 0) (i 1).val

/-- Column `k` of `w`. -/
def colOf (w : Vec F S128x256 .f32) (k : ℕ) (h : k + 1 ≤ 256) : FVec F S128x1 .f32 := fun i => w (ValueIdx.ix2 (i 0) (⟨k, h⟩ : Fin 256))

/-- The ordered sum of columns, read at an entry. -/
theorem colSum_apply (w : Vec F S128x256 .f32) (lo : ℕ) (i : S128x1.Idx) :
    ∀ (n : ℕ) (h : lo + n ≤ 256), colSum (colOf w) lo n h i = rowCols w (i 0) lo n h
  | 0, _ => rfl
  | n + 1, h => by
    show FloatOps.addf (colSum (colOf w) lo n _ i) _ = _
    rw [colSum_apply w lo i n]
    rfl

/-- Where an entry of a column lies in the array. -/
theorem colRect_emb (k : ℕ) (h : k + 1 ≤ 256) (x : S128x1.Idx) : (colRect k h).emb x = ValueIdx.ix2 (x 0) (⟨k, h⟩ : Fin 256) := by
  funext a
  apply Fin.ext
  match a with
  | ⟨0, _⟩ => show 0 + 1 * (x 0).val = (x 0).val; omega
  | ⟨1, _⟩ =>
    have hx : (x 1).val < 1 := (x 1).isLt
    show k + 1 * (x 1).val = k; omega

/-- An entry whose column is `k` lies in the rectangle of column `k`. -/
theorem mem_colRect (k : ℕ) (h : k + 1 ≤ 256) (y : S128x256.Idx) (hy : (y 1).val = k) : y ∈ (colRect k h).set := by
  rw [Rect.mem_set_unit]
  intro a
  match a with
  | ⟨0, _⟩ => exact ⟨Nat.zero_le _, by show (y 0).val < 0 + 128; have : (y 0).val < 128 := (y 0).isLt; omega⟩
  | ⟨1, _⟩ => exact ⟨by show k ≤ (y 1).val; omega, by show (y 1).val < k + 1; omega⟩

/-- The pieces of the first columns agree with `pt`. -/
theorem leftPieces_agree (w : Vec F S128x256 .f32) : ∀ (n : ℕ) (h : n ≤ 256) (hn : n ≤ 128), ∀ p ∈ leftPieces (colOf w) n h,
    ∀ x : p.1.shape.Idx, p.2 x = ptOf w (p.1.emb x)
  | 0, _, _ => fun p hp => absurd hp List.not_mem_nil
  | n + 1, h, hn => fun p hp x => by
    rcases List.mem_cons.mp hp with rfl | hp
    · rw [shapeCast_self, colRect_emb n h x]
      show colSum (colOf w) 0 n _ x = ptAt w (x 0) n
      unfold ptAt
      rw [colSum_apply, dif_pos (by omega)]
    · exact leftPieces_agree w n _ (by omega) p hp x

/-- The pieces of the first columns cover them. -/
theorem leftPieces_cover (r : (k : ℕ) → k + 1 ≤ 256 → FVec F S128x1 .f32) (y : S128x256.Idx) : ∀ (n : ℕ) (h : n ≤ 256), (y 1).val < n →
    ∃ p ∈ leftPieces r n h, y ∈ p.1.set
  | 0, _, hy => absurd hy (Nat.not_lt_zero _)
  | n + 1, h, hy => by
    by_cases e : (y 1).val = n
    · exact ⟨_, List.mem_cons_self, mem_colRect n h y e⟩
    · obtain ⟨p, hp, hm⟩ := leftPieces_cover r y n (Nat.le_of_succ_le h) (by omega)
      exact ⟨p, List.mem_cons_of_mem _ hp, hm⟩

/-- The pieces of the later columns agree with `pt`. -/
theorem rightPieces_agree (w : Vec F S128x256 .f32) : ∀ (n : ℕ) (h : 128 + n ≤ 256) (hn : n ≤ 122), ∀ p ∈ rightPieces (colOf w) n h,
    ∀ x : p.1.shape.Idx, p.2 x = ptOf w (p.1.emb x)
  | 0, _, _ => leftPieces_agree w 128 (by omega) (le_refl _)
  | n + 1, h, hn => fun p hp x => by
    rcases List.mem_cons.mp hp with rfl | hp
    · rw [shapeCast_self, colRect_emb (128 + n) h x]
      show FloatOps.addf (colSum (colOf w) 128 n _ x) (colSum (colOf w) 0 128 _ x) = ptAt w (x 0) (128 + n)
      unfold ptAt
      rw [colSum_apply, colSum_apply, dif_neg (by omega), dif_pos (by omega)]
      congr 2
      omega
    · exact rightPieces_agree w n _ (by omega) p hp x

/-- The pieces of the later columns cover, with the first ones, what lies before them. -/
theorem rightPieces_cover (r : (k : ℕ) → k + 1 ≤ 256 → FVec F S128x1 .f32) (y : S128x256.Idx) : ∀ (n : ℕ) (h : 128 + n ≤ 256), (y 1).val < 128 + n →
    ∃ p ∈ rightPieces r n h, y ∈ p.1.set
  | 0, _, hy => leftPieces_cover r y 128 (by omega) hy
  | n + 1, h, hy => by
    by_cases e : (y 1).val = 128 + n
    · exact ⟨_, List.mem_cons_self, mem_colRect (128 + n) h y e⟩
    · obtain ⟨p, hp, hm⟩ := rightPieces_cover r y n (Nat.le_of_succ_le h) (by omega)
      exact ⟨p, List.mem_cons_of_mem _ hp, hm⟩

/-- All pieces agree with `pt`. -/
theorem ptPieces_agree (w : Vec F S128x256 .f32) : ∀ p ∈ ptPieces (colOf w), ∀ x : p.1.shape.Idx, p.2 x = ptOf w (p.1.emb x) := fun p hp x => by
  rcases List.mem_cons.mp hp with rfl | hp
  · rw [shapeCast_self]
    show _ = ptAt w _ (250 + 1 * (x 1).val)
    unfold ptAt
    rw [dif_neg (by omega), dif_neg (by omega)]
    rfl
  · exact rightPieces_agree w 122 (by omega) (le_refl _) p hp x

/-- All pieces together cover `pt`. -/
theorem ptPieces_cover (r : (k : ℕ) → k + 1 ≤ 256 → FVec F S128x1 .f32) (y : S128x256.Idx) : ∃ p ∈ ptPieces r, y ∈ p.1.set := by
  by_cases e : (y 1).val < 250
  · obtain ⟨p, hp, hm⟩ := rightPieces_cover r y 122 (by omega) e
    exact ⟨p, List.mem_cons_of_mem _ hp, hm⟩
  · refine ⟨_, List.mem_cons_self, ?_⟩
    rw [Rect.mem_set_unit]
    intro a
    match a with
    | ⟨0, _⟩ => exact ⟨Nat.zero_le _, by show (y 0).val < 0 + 128; have : (y 0).val < 128 := (y 0).isLt; omega⟩
    | ⟨1, _⟩ => exact ⟨by show 250 ≤ (y 1).val; omega, by show (y 1).val < 250 + 6; have : (y 1).val < 256 := (y 1).isLt; omega⟩

section Run

variable (c : Dev nD) (arg0 : Memref sig .tc .vmem S128x128x256 .f32) (harg0 : arg0.IsWhole) (arg1 : Memref sig .tc .vmem S128x1 .f32) (harg1 : arg1.IsWhole) (arg2 : Memref sig .tc .vmem S128x1 .i32) (harg2 : arg2.IsWhole) (arg3 : Memref sig .tc .vmem S128x128x256 .f32) (harg3 : arg3.IsWhole) (arg4 : Memref sig .tc .vmem S128x256 .f32) (harg4 : arg4.IsWhole) (arg5 : Memref sig .tc .vmem S128x256 .f32) (harg5 : arg5.IsWhole)
variable (x0 : Vec F S128x128x256 .f32)

/-- The scratch array starts as the block. -/
theorem start_read : arg3.view.read (Elt F) (arg3.view.writes (Elt F) arg3.view.junk (kernelRun2_A.sl.HS0_1 c arg0 harg0 x0)) = x0 := by
  unfold kernelRun2_A.sl.HS0_1
  rw [View.read_writes_eq_canon _ _ _ (fun y => ⟨_, List.mem_singleton_self _, View.mem_set_unit_zero (by funext a; fin_cases a <;> rfl) inb_S128x128x256_S128x128x256_0_0_0 y⟩),
    View.canon_unit_zero (by funext a; fin_cases a <;> rfl)]
  unfold k2_pay5
  dsimp only
  rw [shapeCast_self, View.readAt_eq_ld, harg0.read_unread, View.ld_unit_zero (by funext a; fin_cases a <;> rfl), shapeCast_self]

/-- After the loop it holds all partial sums. -/
theorem end_read : arg3.view.read (Elt F) (arg3.view.writes (Elt F) arg3.view.junk
    (pb_k2_t1 (F := F) Variants.none c none arg0 harg0 arg1 harg1 arg2 harg2 arg3 harg3 arg4 harg4 arg5 harg5
        (arg3.view.writes (Elt F) arg3.view.junk (kernelRun2_A.sl.HS0_1 c arg0 harg0 x0)) (Scf.trips 1#32 (Scalar.addi 1#32 127#32) 1#32)
      ++ kernelRun2_A.sl.HS0_1 c arg0 harg0 x0)) = scanned x0 127 := by
  rw [View.writes_append, show Scf.trips 1#32 (Scalar.addi 1#32 127#32) 1#32 = 127 from trips_t1]
  exact scan_read c arg0 harg0 arg1 harg1 arg2 harg2 arg3 harg3 arg4 harg4 arg5 harg5 x0 _ (start_read c arg0 harg0 arg3 x0) 127 (le_refl _)

/-- The row the kernel takes as `tot`. -/
theorem tot_eq : k2_pay7 (kernelRun2_A.sl.v6 c arg0 harg0 arg1 harg1 arg2 harg2 arg3 harg3 arg4 harg4 arg5 harg5 x0) = totOf x0 := by
  unfold k2_pay7 kernelRun2_A.sl.v6
  dsimp only
  rw [shapeCast_self]
  funext i
  obtain ⟨b, l, rfl⟩ : ∃ b l, i = ValueIdx.ix2 b l := ⟨i 0, i 1, ValueIdx.eq_ix2 i⟩
  refine (ValueIdx.shapeCast_1ab_ab_apply _ _ b l).trans ?_
  show arg3.view.readAt (Elt F) _ _ _ = _
  rw [View.readAt_eq_ld]
  refine (congrArg (fun q => View.ld q _ _) (end_read c arg0 harg0 arg1 harg1 arg2 harg2 arg3 harg3 arg4 harg4 arg5 harg5 x0)).trans ?_
  refine (congrArg (scanned x0 127) (?_ : _ = ValueIdx.ix3 (127 : Fin 128) b l)).trans rfl
  funext a
  apply Fin.ext
  match a with
  | ⟨0, _⟩ => rfl
  | ⟨1, _⟩ => show 0 + 1 * b.val = b.val; omega
  | ⟨2, _⟩ => show 0 + 1 * l.val = l.val; omega

/-- The columns the kernel reads back are those of `tot`. -/
theorem totCol_eq : totCol c arg0 harg0 arg1 harg1 arg2 harg2 arg3 harg3 arg4 harg4 arg5 harg5 x0 = colOf (totOf x0) := by
  funext k h
  unfold totCol kernelRun2_A.sl.HS2_1
  rw [tot_eq, View.readCov_fill _ _ _ _ _ (by intro a; fin_cases a <;> rfl)]
  funext x
  exact congrArg (totOf x0) (colRect_emb k h x)

/-- `pt` as the kernel reads it whole. -/
theorem pt_eq : kernelRun2_A.sl.v1389 c arg0 harg0 arg1 harg1 arg2 harg2 arg3 harg3 arg4 harg4 arg5 harg5 x0 = ptOf (totOf x0) := by
  unfold kernelRun2_A.sl.v1389
  rw [pieces_eq, totCol_eq, View.readCov_eq_canon_ld _ _ _ (ptPieces_cover _), View.ld_unit_zero (by funext a; fin_cases a <;> rfl)]
  exact funext fun y => View.canon_apply_of_pieces _ _ (ptPieces_agree _) y (ptPieces_cover _ y)

end Run

end Cert.Sample

end
-- ==== Proof.SampleOut.lean ====
/-
  The second loop of the sampling kernel and its result.

  Trip `j` adds one to a lane's counter where the lane's prefix sum, row `j` of the scanned array plus the lane's entry
  of `pt`, lies below the row's drawn number. The result sums the lanes and clips to a token of the vocabulary.
-/
module

public import proofs.«01_k».proof.Proof.SamplePrefix

@[expose] public section

set_option maxRecDepth 16384

noncomputable section

namespace Cert.Sample

open Cert.KernelIdeal Cert.KernelIdeal.Gen
open Idealize.ShloMosaic Idealize.ShloMosaic.TcCoe Idealize.SL.Sem

variable {F : FTy → Type} [FloatOps F]

/-- Whether the prefix sum of row `j` in a lane lies below the drawn number, as one bit. -/
def hit (t : Vec F S128x128x256 .f32) (w : Vec F S128x256 .f32) (u : Vec F S128x1 .f32) (j : ℕ) (h : j < 128) (i : S128x256.Idx) : BitVec 1 :=
  FloatOps.cmpf .olt (FloatOps.addf (rowSum t (i 0) (i 1) j h) (w i)) (u (ValueIdx.ix2 (i 0) (0 : Fin 1)))

/-- The counters after `n` trips. -/
def counters (t : Vec F S128x128x256 .f32) (w : Vec F S128x256 .f32) (u : Vec F S128x1 .f32) : (n : ℕ) → n ≤ 128 → IVec S128x256 32
  | 0, _ => broadcast S128x256 0#32
  | n + 1, h => fun i => IntOp.addi (counters t w u n (Nat.le_of_succ_le h) i) ((hit t w u n h i).setWidth 32)

/-- The drawn tokens as a function of the block and the drawn numbers. -/
def tokens (t : Vec F S128x128x256 .f32) (u : Vec F S128x1 .f32) : IVec S128x1 32 := k2_pay4 (counters t (ptOf (totOf t)) u 128 (le_refl _))

/-- The second loop makes 128 trips. -/
theorem trips_t2 : k2_t2_loop.trips = 128 := by decide +kernel

section Run

variable (c : Dev nD) (arg0 : Memref sig .tc .vmem S128x128x256 .f32) (harg0 : arg0.IsWhole) (arg1 : Memref sig .tc .vmem S128x1 .f32) (harg1 : arg1.IsWhole) (arg2 : Memref sig .tc .vmem S128x1 .i32) (harg2 : arg2.IsWhole) (arg3 : Memref sig .tc .vmem S128x128x256 .f32) (harg3 : arg3.IsWhole) (arg4 : Memref sig .tc .vmem S128x256 .f32) (harg4 : arg4.IsWhole) (arg5 : Memref sig .tc .vmem S128x256 .f32) (harg5 : arg5.IsWhole)

/-- One trip of the second loop over the scanned array. -/
theorem trip_count (t : Vec F S128x128x256 .f32) (w : Vec F S128x256 .f32) (u : Vec F S128x1 .f32) (X : arg3.view.ty.Contents (Elt F))
    (hX : arg3.view.read (Elt F) X = scanned t 127) (k : Fin k2_t2_loop.trips) (hk : k.val < 128) (acc : IVec S128x256 32) :
    tripR_k2_t2 (F := F) Variants.none c none arg0 harg0 arg1 harg1 arg2 harg2 arg3 harg3 arg4 harg4 arg5 harg5 u w X k acc
      = fun i => IntOp.addi (acc i) ((hit t w u k.val hk i).setWidth 32) := by
  unfold tripR_k2_t2 trip_k2_t2
  dsimp only
  unfold k2_pay3
  dsimp only
  funext i
  obtain ⟨b, l, rfl⟩ : ∃ b l, i = ValueIdx.ix2 b l := ⟨i 0, i 1, ValueIdx.eq_ix2 i⟩
  refine congrArg (fun z : BitVec 1 => IntOp.addi (acc (ValueIdx.ix2 b l)) (z.setWidth 32)) ?_
  refine congrArg₂ (FloatOps.cmpf .olt) (congrArg (fun z => FloatOps.addf z (w (ValueIdx.ix2 b l))) ?_) ?_
  · refine (ValueIdx.shapeCast_1ab_ab_apply _ _ b l).trans ?_
    rw [View.readAt_eq_ld, hX]
    refine (congrArg (scanned t 127) (?_ : _ = ValueIdx.ix3 (⟨k.val, hk⟩ : Fin 128) b l)).trans (if_pos (show k.val ≤ 127 by omega))
    funext a
    apply Fin.ext
    match a with
    | ⟨0, _⟩ => show k2_off3 k 0 + 1 * 0 = k.val; rw [k2_off3_eq]; rfl
    | ⟨1, _⟩ => show k2_off3 k 1 + 1 * b.val = b.val; rw [k2_off3_eq]; show 0 + 1 * _ = _; omega
    | ⟨2, _⟩ => show k2_off3 k 2 + 1 * l.val = l.val; rw [k2_off3_eq]; show 0 + 1 * _ = _; omega
  · rw [shapeCast_self]
    exact broadcastTo_apply u _ _ (ValueIdx.ix2 b (0 : Fin 1)) fun a => by
      match a with
      | ⟨0, _⟩ => rfl
      | ⟨1, _⟩ => rfl

/-- The loop's counters after `n` trips. -/
theorem loop_count (t : Vec F S128x128x256 .f32) (w : Vec F S128x256 .f32) (u : Vec F S128x1 .f32) (X : arg3.view.ty.Contents (Elt F))
    (hX : arg3.view.read (Elt F) X = scanned t 127) : ∀ (n : ℕ) (h : n ≤ 128),
    st_k2_t2 (F := F) Variants.none c none arg0 harg0 arg1 harg1 arg2 harg2 arg3 harg3 arg4 harg4 arg5 harg5 u w X k2_pay2 n = counters t w u n h
  | 0, _ => st_k2_t2_zero (F := F) Variants.none c none arg0 harg0 arg1 harg1 arg2 harg2 arg3 harg3 arg4 harg4 arg5 harg5 u w X k2_pay2
  | n + 1, h => by
    have hs := st_k2_t2_succ (F := F) Variants.none c none arg0 harg0 arg1 harg1 arg2 harg2 arg3 harg3 arg4 harg4 arg5 harg5 u w X k2_pay2
      ⟨n, by rw [trips_t2]; omega⟩
    dsimp only at hs
    rw [hs, loop_count t w u X hX n (Nat.le_of_succ_le h), trip_count c arg0 harg0 arg1 harg1 arg2 harg2 arg3 harg3 arg4 harg4 arg5 harg5 t w u X hX
      ⟨n, by rw [trips_t2]; omega⟩ h]
    rfl

/-- What the body writes to its output block: the drawn tokens. -/
theorem out_eq (x0 : Vec F S128x128x256 .f32) (x1 : Vec F S128x1 .f32) :
    out2_A_2 c arg0 harg0 arg1 harg1 arg2 harg2 arg3 harg3 arg4 harg4 arg5 harg5 x0 x1 = tokens x0 x1 := by
  unfold out2_A_2
  rw [View.read_writes_eq_canon _ _ _ (cover2_A_2 c arg0 harg0 arg1 harg1 arg2 harg2 arg3 harg3 arg4 harg4 arg5 harg5 x0 x1)]
  unfold kernelRun2_A
  dsimp only
  rw [View.canon_unit_zero (by funext a; fin_cases a <;> rfl)]
  unfold tokens
  rw [pt_eq, View.readAt_eq_ld, harg1.read_unread, View.ld_unit_zero (by funext a; fin_cases a <;> rfl)]
  rw [show Scf.trips 0#32 (Scalar.addi 0#32 128#32) 1#32 = 128 from trips_t2]
  exact congrArg k2_pay4 (loop_count c arg0 harg0 arg1 harg1 arg2 harg2 arg3 harg3 arg4 harg4 arg5 harg5 x0 (ptOf (totOf x0)) x1 _
    (end_read c arg0 harg0 arg1 harg1 arg2 harg2 arg3 harg3 arg4 harg4 arg5 harg5 x0) 128 (le_refl _))

end Run

end Cert.Sample

end
-- ==== Proof.RegionValue.lean ====
/-
  What the three calls of the first step leave in their result arrays, over the extended reals: the hidden layer, the logits,
  and the drawn tokens. Each is stated for any contents of the arrays the call reads.
-/
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.SampleOut
public import proofs.«01_k».proof.Proof.HostStep
public import Idealize.ShloMosaic.Lib.KernelVsHost
public import Idealize.ShloMosaic.Lib.Pipeline.Value
public import Idealize.ShloMosaic.Lib.Pipeline.ValueKit
public import Idealize.ShloMosaic.Lib.Tactic

@[expose] public section

set_option maxRecDepth 16384

noncomputable section

namespace Cert.Sample

open Cert.KernelIdeal Cert.KernelIdeal.Gen
open Idealize.ShloMosaic Idealize.ShloMosaic.TcCoe Idealize.SL.Sem
open Idealize.ShloMosaic.Pipeline (Dat)

/-- Contents of every buffer of every device. -/
abbrev Held : Type := (c : Dev nD) → (b : Ref sig .tc) → Buf (Elt Ideal) ((c : Thread nD τ).loc b)

/-- Contents with one buffer's replaced. -/
def put (V : Held) (r : Ref sig .tc) (x : (c : Dev nD) → Buf (Elt Ideal) ((c : Thread nD τ).loc r)) : Held :=
  fun c => Function.update (V c) r (x c)

variable (V : Held) (c : Dev nD)

/-- The first call's block of the hidden layer. -/
theorem hidden_out (x0 : Vec Ideal S128x1024 .f32) (x1 : Vec Ideal S1024x1024 .f32) :
    out0_2 x0 x1 = Host.hidden x0 x1 := by
  unfold out0_2
  rw [View.canon_unit_zero (by funext a; fin_cases a <;> rfl), View.ld_unit_zero (by funext a; fin_cases a <;> rfl),
    View.ld_unit_zero (by funext a; fin_cases a <;> rfl)]
  unfold k0_pay1 Host.hidden
  dsimp only
  rw [shapeCast_self, matmul_zero_eq_dotGeneral]
  rfl

/-- The second call's block of logits. -/
theorem logits_out (x0 : Vec Ideal S128x1024 .f32) (x1 : Vec Ideal S1024x3200 .f32) :
    out1_2 x0 x1 = Host.dotGeneral (F := Ideal) (φ₁ := .f32) (φ₂ := .f32) dot_S128x1024_S1024x3200_S128x3200_1_0_0_1_n_n none x0 x1 := by
  unfold out1_2
  rw [View.canon_unit_zero (by funext a; fin_cases a <;> rfl), View.ld_unit_zero (by funext a; fin_cases a <;> rfl),
    View.ld_unit_zero (by funext a; fin_cases a <;> rfl)]
  unfold k1_pay1
  dsimp only
  rw [shapeCast_self, matmul_zero_eq_dotGeneral]

/-- The first call reads its left array whole. -/
theorem iblk0_0 (t : Fin cfg0.N) : iblk0 V c 0 t = V c main_v8 := by
  funext y
  show V c main_v8 ((win0_0.blk t).view.emb y) = V c main_v8 y
  refine congrArg (V c main_v8) (funext fun a => Fin.ext ?_)
  fin_cases a <;> (simp [View.emb]; rfl)

/-- The first call reads its right array whole. -/
theorem iblk0_1 (t : Fin cfg0.N) : iblk0 V c 1 t = V c main_arg2 := by
  funext y
  show V c main_arg2 ((win0_1.blk t).view.emb y) = V c main_arg2 y
  refine congrArg (V c main_arg2) (funext fun a => Fin.ext ?_)
  fin_cases a <;> (simp [View.emb]; rfl)

/-- The first call writes its result whole. -/
theorem emb0_2 (t : Fin cfg0.N) (y : S128x1024.Idx) : (win0_2.blk t).view.emb y = y := by
  refine funext fun a => Fin.ext ?_
  fin_cases a <;> (simp [View.emb]; rfl)

/-- The third call reads its left array whole. -/
theorem iblk2_0 (t : Fin cfg2.N) : iblk2 V c 0 t = V c main_v28 := by
  funext y
  show V c main_v28 ((win2_0.blk t).view.emb y) = V c main_v28 y
  refine congrArg (V c main_v28) (funext fun a => Fin.ext ?_)
  fin_cases a <;> (simp [View.emb]; rfl)

/-- The third call reads its right array whole. -/
theorem iblk2_1 (t : Fin cfg2.N) : iblk2 V c 1 t = V c main_v25 := by
  funext y
  show V c main_v25 ((win2_1.blk t).view.emb y) = V c main_v25 y
  refine congrArg (V c main_v25) (funext fun a => Fin.ext ?_)
  fin_cases a <;> (simp [View.emb]; rfl)

/-- The third call writes its result whole. -/
theorem emb2_2 (t : Fin cfg2.N) (y : S128x1.Idx) : (win2_2.blk t).view.emb y = y := by
  refine funext fun a => Fin.ext ?_
  fin_cases a <;> (simp [View.emb]; rfl)

/-- The second call reads its left array whole at every grid point. -/
theorem iblk1_0 (t : Fin cfg1.N) : iblk1 V c 0 t = V c main_v9 := by
  funext y
  show V c main_v9 ((win1_0.blk t).view.emb y) = V c main_v9 y
  refine congrArg (V c main_v9) (funext fun a => Fin.ext ?_)
  fin_cases a <;> (simp [View.emb]; rfl)

/-- The first call leaves the hidden layer of its two inputs. -/
theorem hidden_array : (dat0 V c).arrAt 2 cfg0.N = Host.hidden (V c main_v8) (V c main_arg2) := by
  refine (dat0 V c).arrAt_eq_of_covers 2 _ (by decide +kernel) fun t hf y => ?_
  blk_simp
  rw [after0_2, hidden_out, iblk0_0, iblk0_1]
  exact congrArg (Host.hidden (F := Ideal) (V c main_v8) (V c main_arg2)) (emb0_2 t y).symm

/-- Grid point `t` of the second call reads column block `t`. -/
theorem index1_1 : ∀ t : Fin grid1.N, win1_1.index t 1 = t.val := by decide +kernel

/-- Grid point `t` of the second call writes column block `t`. -/
theorem index1_2 : ∀ t : Fin grid1.N, win1_2.index t 1 = t.val := by decide +kernel

/-- The second call leaves the logits of its two inputs. -/
theorem logits_array : (dat1 V c).arrAt 2 cfg1.N = Host.logits (V c main_v9) (V c main_arg3) := by
  refine (dat1 V c).arrAt_eq_of_covers 2 _ (by decide +kernel) fun t hf y => ?_
  blk_simp
  rw [after1_2, logits_out, iblk1_0]
  unfold Host.logits
  show FloatOps.dotGeneral _ _ _ _ _ _ = FloatOps.dotGeneral _ _ _ _ _ _
  rw [Ideal.dotGeneral_apply, Ideal.dotGeneral_apply]
  refine Finset.sum_congr rfl fun k _ => ?_
  have h0 : ((win1_2.blk t).view.emb y 0).val = (y 0).val := by simp [View.emb]; rfl
  have h1 : ((win1_2.blk t).view.emb y 1).val = t.val * 3200 + (y 1).val := by
    simp [View.emb]
    exact index1_2 t
  refine congrArg₂ (· * ·) (congrArg (V c main_v9) (funext fun a => Fin.ext ?_)) ?_
  · fin_cases a
    · exact h0.symm
    · rfl
  · show V c main_arg3 ((win1_1.blk t).view.emb _) = _
    refine congrArg (V c main_arg3) (funext fun a => Fin.ext ?_)
    fin_cases a
    · simp [View.emb]
      rw [show win1_1.index t 0 = 0 from rfl, Nat.zero_mul, Nat.zero_add]
      rfl
    · refine Eq.trans ?_ h1.symm
      simp [View.emb]
      rw [index1_1 t]
      rfl

/-- The third call leaves the tokens of its two inputs. -/
theorem tokens_array : (dat2 V c).arrAt 2 cfg2.N = tokens (V c main_v28) (V c main_v25) := by
  refine (dat2 V c).arrAt_eq_of_covers 2 _ (by decide +kernel) fun t hf y => ?_
  blk_simp
  rw [after2_2]
  unfold outsAt2
  rw [out_eq, iblk2_0, iblk2_1]
  exact congrArg (tokens (F := Ideal) (V c main_v28) (V c main_v25)) (emb2_2 t y).symm

end Cert.Sample

end
-- ==== Proof.HiddenArrays.lean ====
/-
  The hidden layer of each later step. Its call is the first step's call over other buffers: put the contents of its
  buffers in the places of the first step's, and the two runs are the same term.
-/
module

public import proofs.«01_k».proof.Proof.RegionValue
public import proofs.«01_k».proof.Proof.Gen.KernelIdeal.Frame.Region3
public import proofs.«01_k».proof.Proof.Gen.KernelIdeal.Frame.Region6
public import proofs.«01_k».proof.Proof.Gen.KernelIdeal.Frame.Region9
public import proofs.«01_k».proof.Proof.Gen.KernelIdeal.Frame.Region12
public import proofs.«01_k».proof.Proof.Gen.KernelIdeal.Frame.Region15
public import proofs.«01_k».proof.Proof.Gen.KernelIdeal.Frame.Region18
public import proofs.«01_k».proof.Proof.Gen.KernelIdeal.Frame.Region21
public import proofs.«01_k».proof.Proof.Gen.KernelIdeal.Frame.Region24
public import proofs.«01_k».proof.Proof.Gen.KernelIdeal.Frame.Region27
public import proofs.«01_k».proof.Proof.Gen.KernelIdeal.Frame.Region30
public import proofs.«01_k».proof.Proof.Gen.KernelIdeal.Frame.Region33
public import proofs.«01_k».proof.Proof.Gen.KernelIdeal.Frame.Region36
public import proofs.«01_k».proof.Proof.Gen.KernelIdeal.Frame.Region39
public import proofs.«01_k».proof.Proof.Gen.KernelIdeal.Frame.Region42
public import proofs.«01_k».proof.Proof.Gen.KernelIdeal.Frame.Region45

@[expose] public section

set_option maxRecDepth 16384

noncomputable section

namespace Cert.Sample

open Cert.KernelIdeal Cert.KernelIdeal.Gen
open Idealize.ShloMosaic Idealize.ShloMosaic.TcCoe Idealize.SL.Sem

variable (V : Held) (c : Dev nD)

/-- The second step's hidden layer. -/
theorem hidden_array3 : (dat3 V c).arrAt 2 cfg3.N = Host.hidden (V c main_v47) (V c main_arg2) := by
  refine Eq.trans ?_ ((hidden_array (put (put V main_v8 fun c => V c main_v47) main_v9 fun c => V c main_v48) c).trans ?_) <;> sl_kernel_rfl

/-- The third step's hidden layer. -/
theorem hidden_array6 : (dat6 V c).arrAt 2 cfg6.N = Host.hidden (V c main_v86) (V c main_arg2) := by
  refine Eq.trans ?_ ((hidden_array (put (put V main_v8 fun c => V c main_v86) main_v9 fun c => V c main_v87) c).trans ?_) <;> sl_kernel_rfl

/-- The fourth step's hidden layer. -/
theorem hidden_array9 : (dat9 V c).arrAt 2 cfg9.N = Host.hidden (V c main_v125) (V c main_arg2) := by
  refine Eq.trans ?_ ((hidden_array (put (put V main_v8 fun c => V c main_v125) main_v9 fun c => V c main_v126) c).trans ?_) <;> sl_kernel_rfl

/-- The fifth step's hidden layer. -/
theorem hidden_array12 : (dat12 V c).arrAt 2 cfg12.N = Host.hidden (V c main_v164) (V c main_arg2) := by
  refine Eq.trans ?_ ((hidden_array (put (put V main_v8 fun c => V c main_v164) main_v9 fun c => V c main_v165) c).trans ?_) <;> sl_kernel_rfl

/-- The sixth step's hidden layer. -/
theorem hidden_array15 : (dat15 V c).arrAt 2 cfg15.N = Host.hidden (V c main_v203) (V c main_arg2) := by
  refine Eq.trans ?_ ((hidden_array (put (put V main_v8 fun c => V c main_v203) main_v9 fun c => V c main_v204) c).trans ?_) <;> sl_kernel_rfl

/-- The seventh step's hidden layer. -/
theorem hidden_array18 : (dat18 V c).arrAt 2 cfg18.N = Host.hidden (V c main_v242) (V c main_arg2) := by
  refine Eq.trans ?_ ((hidden_array (put (put V main_v8 fun c => V c main_v242) main_v9 fun c => V c main_v243) c).trans ?_) <;> sl_kernel_rfl

/-- The eighth step's hidden layer. -/
theorem hidden_array21 : (dat21 V c).arrAt 2 cfg21.N = Host.hidden (V c main_v281) (V c main_arg2) := by
  refine Eq.trans ?_ ((hidden_array (put (put V main_v8 fun c => V c main_v281) main_v9 fun c => V c main_v282) c).trans ?_) <;> sl_kernel_rfl

/-- The ninth step's hidden layer. -/
theorem hidden_array24 : (dat24 V c).arrAt 2 cfg24.N = Host.hidden (V c main_v320) (V c main_arg2) := by
  refine Eq.trans ?_ ((hidden_array (put (put V main_v8 fun c => V c main_v320) main_v9 fun c => V c main_v321) c).trans ?_) <;> sl_kernel_rfl

/-- The tenth step's hidden layer. -/
theorem hidden_array27 : (dat27 V c).arrAt 2 cfg27.N = Host.hidden (V c main_v359) (V c main_arg2) := by
  refine Eq.trans ?_ ((hidden_array (put (put V main_v8 fun c => V c main_v359) main_v9 fun c => V c main_v360) c).trans ?_) <;> sl_kernel_rfl

/-- The eleventh step's hidden layer. -/
theorem hidden_array30 : (dat30 V c).arrAt 2 cfg30.N = Host.hidden (V c main_v398) (V c main_arg2) := by
  refine Eq.trans ?_ ((hidden_array (put (put V main_v8 fun c => V c main_v398) main_v9 fun c => V c main_v399) c).trans ?_) <;> sl_kernel_rfl

/-- The twelfth step's hidden layer. -/
theorem hidden_array33 : (dat33 V c).arrAt 2 cfg33.N = Host.hidden (V c main_v437) (V c main_arg2) := by
  refine Eq.trans ?_ ((hidden_array (put (put V main_v8 fun c => V c main_v437) main_v9 fun c => V c main_v438) c).trans ?_) <;> sl_kernel_rfl

/-- The thirteenth step's hidden layer. -/
theorem hidden_array36 : (dat36 V c).arrAt 2 cfg36.N = Host.hidden (V c main_v476) (V c main_arg2) := by
  refine Eq.trans ?_ ((hidden_array (put (put V main_v8 fun c => V c main_v476) main_v9 fun c => V c main_v477) c).trans ?_) <;> sl_kernel_rfl

/-- The fourteenth step's hidden layer. -/
theorem hidden_array39 : (dat39 V c).arrAt 2 cfg39.N = Host.hidden (V c main_v515) (V c main_arg2) := by
  refine Eq.trans ?_ ((hidden_array (put (put V main_v8 fun c => V c main_v515) main_v9 fun c => V c main_v516) c).trans ?_) <;> sl_kernel_rfl

/-- The fifteenth step's hidden layer. -/
theorem hidden_array42 : (dat42 V c).arrAt 2 cfg42.N = Host.hidden (V c main_v554) (V c main_arg2) := by
  refine Eq.trans ?_ ((hidden_array (put (put V main_v8 fun c => V c main_v554) main_v9 fun c => V c main_v555) c).trans ?_) <;> sl_kernel_rfl

/-- The sixteenth step's hidden layer. -/
theorem hidden_array45 : (dat45 V c).arrAt 2 cfg45.N = Host.hidden (V c main_v593) (V c main_arg2) := by
  refine Eq.trans ?_ ((hidden_array (put (put V main_v8 fun c => V c main_v593) main_v9 fun c => V c main_v594) c).trans ?_) <;> sl_kernel_rfl

end Cert.Sample

end
-- ==== Proof.LogitsArrays.lean ====
/-
  The logits of each later step. Its call is the first step's call over other buffers: put the contents of its buffers
  in the places of the first step's, and the two runs are the same term.
-/
module

public import proofs.«01_k».proof.Proof.RegionValue
public import proofs.«01_k».proof.Proof.Gen.KernelIdeal.Frame.Region4
public import proofs.«01_k».proof.Proof.Gen.KernelIdeal.Frame.Region7
public import proofs.«01_k».proof.Proof.Gen.KernelIdeal.Frame.Region10
public import proofs.«01_k».proof.Proof.Gen.KernelIdeal.Frame.Region13
public import proofs.«01_k».proof.Proof.Gen.KernelIdeal.Frame.Region16
public import proofs.«01_k».proof.Proof.Gen.KernelIdeal.Frame.Region19
public import proofs.«01_k».proof.Proof.Gen.KernelIdeal.Frame.Region22
public import proofs.«01_k».proof.Proof.Gen.KernelIdeal.Frame.Region25
public import proofs.«01_k».proof.Proof.Gen.KernelIdeal.Frame.Region28
public import proofs.«01_k».proof.Proof.Gen.KernelIdeal.Frame.Region31
public import proofs.«01_k».proof.Proof.Gen.KernelIdeal.Frame.Region34
public import proofs.«01_k».proof.Proof.Gen.KernelIdeal.Frame.Region37
public import proofs.«01_k».proof.Proof.Gen.KernelIdeal.Frame.Region40
public import proofs.«01_k».proof.Proof.Gen.KernelIdeal.Frame.Region43
public import proofs.«01_k».proof.Proof.Gen.KernelIdeal.Frame.Region46

@[expose] public section

set_option maxRecDepth 16384

noncomputable section

namespace Cert.Sample

open Cert.KernelIdeal Cert.KernelIdeal.Gen
open Idealize.ShloMosaic Idealize.ShloMosaic.TcCoe Idealize.SL.Sem

variable (V : Held) (c : Dev nD)

/-- The second step's logits. -/
theorem logits_array4 : (dat4 V c).arrAt 2 cfg4.N = Host.logits (V c main_v48) (V c main_arg3) := by
  refine Eq.trans ?_ ((logits_array (put (put V main_v9 fun c => V c main_v48) main_v10 fun c => V c main_v49) c).trans ?_) <;> sl_kernel_rfl

/-- The third step's logits. -/
theorem logits_array7 : (dat7 V c).arrAt 2 cfg7.N = Host.logits (V c main_v87) (V c main_arg3) := by
  refine Eq.trans ?_ ((logits_array (put (put V main_v9 fun c => V c main_v87) main_v10 fun c => V c main_v88) c).trans ?_) <;> sl_kernel_rfl

/-- The fourth step's logits. -/
theorem logits_array10 : (dat10 V c).arrAt 2 cfg10.N = Host.logits (V c main_v126) (V c main_arg3) := by
  refine Eq.trans ?_ ((logits_array (put (put V main_v9 fun c => V c main_v126) main_v10 fun c => V c main_v127) c).trans ?_) <;> sl_kernel_rfl

/-- The fifth step's logits. -/
theorem logits_array13 : (dat13 V c).arrAt 2 cfg13.N = Host.logits (V c main_v165) (V c main_arg3) := by
  refine Eq.trans ?_ ((logits_array (put (put V main_v9 fun c => V c main_v165) main_v10 fun c => V c main_v166) c).trans ?_) <;> sl_kernel_rfl

/-- The sixth step's logits. -/
theorem logits_array16 : (dat16 V c).arrAt 2 cfg16.N = Host.logits (V c main_v204) (V c main_arg3) := by
  refine Eq.trans ?_ ((logits_array (put (put V main_v9 fun c => V c main_v204) main_v10 fun c => V c main_v205) c).trans ?_) <;> sl_kernel_rfl

/-- The seventh step's logits. -/
theorem logits_array19 : (dat19 V c).arrAt 2 cfg19.N = Host.logits (V c main_v243) (V c main_arg3) := by
  refine Eq.trans ?_ ((logits_array (put (put V main_v9 fun c => V c main_v243) main_v10 fun c => V c main_v244) c).trans ?_) <;> sl_kernel_rfl

/-- The eighth step's logits. -/
theorem logits_array22 : (dat22 V c).arrAt 2 cfg22.N = Host.logits (V c main_v282) (V c main_arg3) := by
  refine Eq.trans ?_ ((logits_array (put (put V main_v9 fun c => V c main_v282) main_v10 fun c => V c main_v283) c).trans ?_) <;> sl_kernel_rfl

/-- The ninth step's logits. -/
theorem logits_array25 : (dat25 V c).arrAt 2 cfg25.N = Host.logits (V c main_v321) (V c main_arg3) := by
  refine Eq.trans ?_ ((logits_array (put (put V main_v9 fun c => V c main_v321) main_v10 fun c => V c main_v322) c).trans ?_) <;> sl_kernel_rfl

/-- The tenth step's logits. -/
theorem logits_array28 : (dat28 V c).arrAt 2 cfg28.N = Host.logits (V c main_v360) (V c main_arg3) := by
  refine Eq.trans ?_ ((logits_array (put (put V main_v9 fun c => V c main_v360) main_v10 fun c => V c main_v361) c).trans ?_) <;> sl_kernel_rfl

/-- The eleventh step's logits. -/
theorem logits_array31 : (dat31 V c).arrAt 2 cfg31.N = Host.logits (V c main_v399) (V c main_arg3) := by
  refine Eq.trans ?_ ((logits_array (put (put V main_v9 fun c => V c main_v399) main_v10 fun c => V c main_v400) c).trans ?_) <;> sl_kernel_rfl

/-- The twelfth step's logits. -/
theorem logits_array34 : (dat34 V c).arrAt 2 cfg34.N = Host.logits (V c main_v438) (V c main_arg3) := by
  refine Eq.trans ?_ ((logits_array (put (put V main_v9 fun c => V c main_v438) main_v10 fun c => V c main_v439) c).trans ?_) <;> sl_kernel_rfl

/-- The thirteenth step's logits. -/
theorem logits_array37 : (dat37 V c).arrAt 2 cfg37.N = Host.logits (V c main_v477) (V c main_arg3) := by
  refine Eq.trans ?_ ((logits_array (put (put V main_v9 fun c => V c main_v477) main_v10 fun c => V c main_v478) c).trans ?_) <;> sl_kernel_rfl

/-- The fourteenth step's logits. -/
theorem logits_array40 : (dat40 V c).arrAt 2 cfg40.N = Host.logits (V c main_v516) (V c main_arg3) := by
  refine Eq.trans ?_ ((logits_array (put (put V main_v9 fun c => V c main_v516) main_v10 fun c => V c main_v517) c).trans ?_) <;> sl_kernel_rfl

/-- The fifteenth step's logits. -/
theorem logits_array43 : (dat43 V c).arrAt 2 cfg43.N = Host.logits (V c main_v555) (V c main_arg3) := by
  refine Eq.trans ?_ ((logits_array (put (put V main_v9 fun c => V c main_v555) main_v10 fun c => V c main_v556) c).trans ?_) <;> sl_kernel_rfl

/-- The sixteenth step's logits. -/
theorem logits_array46 : (dat46 V c).arrAt 2 cfg46.N = Host.logits (V c main_v594) (V c main_arg3) := by
  refine Eq.trans ?_ ((logits_array (put (put V main_v9 fun c => V c main_v594) main_v10 fun c => V c main_v595) c).trans ?_) <;> sl_kernel_rfl

end Cert.Sample

end
-- ==== Proof.TokenArrays.lean ====
/-
  The tokens of each later step. Its body is the first step's body: as functions of the staging buffers and the two
  blocks the two are the same term. The blocks are whole arrays, as in the first step.
-/
module

public import proofs.«01_k».proof.Proof.RegionValue
public import proofs.«01_k».proof.Proof.Gen.KernelIdeal.Frame.Region5
public import proofs.«01_k».proof.Proof.Gen.KernelIdeal.Frame.Region8
public import proofs.«01_k».proof.Proof.Gen.KernelIdeal.Frame.Region11
public import proofs.«01_k».proof.Proof.Gen.KernelIdeal.Frame.Region14
public import proofs.«01_k».proof.Proof.Gen.KernelIdeal.Frame.Region17
public import proofs.«01_k».proof.Proof.Gen.KernelIdeal.Frame.Region20
public import proofs.«01_k».proof.Proof.Gen.KernelIdeal.Frame.Region23
public import proofs.«01_k».proof.Proof.Gen.KernelIdeal.Frame.Region26
public import proofs.«01_k».proof.Proof.Gen.KernelIdeal.Frame.Region29
public import proofs.«01_k».proof.Proof.Gen.KernelIdeal.Frame.Region32
public import proofs.«01_k».proof.Proof.Gen.KernelIdeal.Frame.Region35
public import proofs.«01_k».proof.Proof.Gen.KernelIdeal.Frame.Region38
public import proofs.«01_k».proof.Proof.Gen.KernelIdeal.Frame.Region41
public import proofs.«01_k».proof.Proof.Gen.KernelIdeal.Frame.Region44
public import proofs.«01_k».proof.Proof.Gen.KernelIdeal.Frame.Region47

@[expose] public section

set_option maxRecDepth 16384

noncomputable section

namespace Cert.Sample

open Cert.KernelIdeal Cert.KernelIdeal.Gen
open Idealize.ShloMosaic Idealize.ShloMosaic.TcCoe Idealize.SL.Sem

variable (V : Held) (c : Dev nD)

/-- The first step's block of tokens at a place of its array, from the two arrays it reads. -/
theorem tokens_block (arg0 : Memref sig .tc .vmem S128x128x256 .f32) (harg0 : arg0.IsWhole) (arg1 : Memref sig .tc .vmem S128x1 .f32) (harg1 : arg1.IsWhole)
    (arg2 : Memref sig .tc .vmem S128x1 .i32) (harg2 : arg2.IsWhole) (arg3 : Memref sig .tc .vmem S128x128x256 .f32) (harg3 : arg3.IsWhole)
    (arg4 : Memref sig .tc .vmem S128x256 .f32) (harg4 : arg4.IsWhole) (arg5 : Memref sig .tc .vmem S128x256 .f32) (harg5 : arg5.IsWhole)
    (t : Fin cfg2.N) (y : S128x1.Idx) :
    out2_A_2 (F := Ideal) c arg0 harg0 arg1 harg1 arg2 harg2 arg3 harg3 arg4 harg4 arg5 harg5 (iblk2 V c 0 t) (iblk2 V c 1 t) y
      = tokens (F := Ideal) (V c main_v28) (V c main_v25) ((win2_2.blk t).view.emb y) := by
  rw [out_eq, iblk2_0, iblk2_1, emb2_2]

/-- The second step's tokens. -/
theorem tokens_array5 : (dat5 V c).arrAt 2 cfg5.N = tokens (V c main_v67) (V c main_v64) := by
  refine (dat5 V c).arrAt_eq_of_covers 2 _ (by decide +kernel) fun t _ y => ?_
  blk_simp
  rw [after5_2]
  unfold outsAt5
  rw [show @out5_A_2 Ideal _ = @out2_A_2 Ideal _ from by sl_kernel_rfl]
  refine Eq.trans ?_ ((tokens_block (put (put V main_v28 fun c => V c main_v67) main_v25 fun c => V c main_v64) c _ (hs5_0 t) _ (hs5_1 t) _ (hs5_2 t)
    scM5_0 (Memref.isWhole_whole _) scM5_1 (Memref.isWhole_whole _) scM5_2 (Memref.isWhole_whole _) t y).trans ?_) <;> sl_kernel_rfl

/-- The third step's tokens. -/
theorem tokens_array8 : (dat8 V c).arrAt 2 cfg8.N = tokens (V c main_v106) (V c main_v103) := by
  refine (dat8 V c).arrAt_eq_of_covers 2 _ (by decide +kernel) fun t _ y => ?_
  blk_simp
  rw [after8_2]
  unfold outsAt8
  rw [show @out8_A_2 Ideal _ = @out2_A_2 Ideal _ from by sl_kernel_rfl]
  refine Eq.trans ?_ ((tokens_block (put (put V main_v28 fun c => V c main_v106) main_v25 fun c => V c main_v103) c _ (hs8_0 t) _ (hs8_1 t) _ (hs8_2 t)
    scM8_0 (Memref.isWhole_whole _) scM8_1 (Memref.isWhole_whole _) scM8_2 (Memref.isWhole_whole _) t y).trans ?_) <;> sl_kernel_rfl

/-- The fourth step's tokens. -/
theorem tokens_array11 : (dat11 V c).arrAt 2 cfg11.N = tokens (V c main_v145) (V c main_v142) := by
  refine (dat11 V c).arrAt_eq_of_covers 2 _ (by decide +kernel) fun t _ y => ?_
  blk_simp
  rw [after11_2]
  unfold outsAt11
  rw [show @out11_A_2 Ideal _ = @out2_A_2 Ideal _ from by sl_kernel_rfl]
  refine Eq.trans ?_ ((tokens_block (put (put V main_v28 fun c => V c main_v145) main_v25 fun c => V c main_v142) c _ (hs11_0 t) _ (hs11_1 t) _ (hs11_2 t)
    scM11_0 (Memref.isWhole_whole _) scM11_1 (Memref.isWhole_whole _) scM11_2 (Memref.isWhole_whole _) t y).trans ?_) <;> sl_kernel_rfl

/-- The fifth step's tokens. -/
theorem tokens_array14 : (dat14 V c).arrAt 2 cfg14.N = tokens (V c main_v184) (V c main_v181) := by
  refine (dat14 V c).arrAt_eq_of_covers 2 _ (by decide +kernel) fun t _ y => ?_
  blk_simp
  rw [after14_2]
  unfold outsAt14
  rw [show @out14_A_2 Ideal _ = @out2_A_2 Ideal _ from by sl_kernel_rfl]
  refine Eq.trans ?_ ((tokens_block (put (put V main_v28 fun c => V c main_v184) main_v25 fun c => V c main_v181) c _ (hs14_0 t) _ (hs14_1 t) _ (hs14_2 t)
    scM14_0 (Memref.isWhole_whole _) scM14_1 (Memref.isWhole_whole _) scM14_2 (Memref.isWhole_whole _) t y).trans ?_) <;> sl_kernel_rfl

/-- The sixth step's tokens. -/
theorem tokens_array17 : (dat17 V c).arrAt 2 cfg17.N = tokens (V c main_v223) (V c main_v220) := by
  refine (dat17 V c).arrAt_eq_of_covers 2 _ (by decide +kernel) fun t _ y => ?_
  blk_simp
  rw [after17_2]
  unfold outsAt17
  rw [show @out17_A_2 Ideal _ = @out2_A_2 Ideal _ from by sl_kernel_rfl]
  refine Eq.trans ?_ ((tokens_block (put (put V main_v28 fun c => V c main_v223) main_v25 fun c => V c main_v220) c _ (hs17_0 t) _ (hs17_1 t) _ (hs17_2 t)
    scM17_0 (Memref.isWhole_whole _) scM17_1 (Memref.isWhole_whole _) scM17_2 (Memref.isWhole_whole _) t y).trans ?_) <;> sl_kernel_rfl

/-- The seventh step's tokens. -/
theorem tokens_array20 : (dat20 V c).arrAt 2 cfg20.N = tokens (V c main_v262) (V c main_v259) := by
  refine (dat20 V c).arrAt_eq_of_covers 2 _ (by decide +kernel) fun t _ y => ?_
  blk_simp
  rw [after20_2]
  unfold outsAt20
  rw [show @out20_A_2 Ideal _ = @out2_A_2 Ideal _ from by sl_kernel_rfl]
  refine Eq.trans ?_ ((tokens_block (put (put V main_v28 fun c => V c main_v262) main_v25 fun c => V c main_v259) c _ (hs20_0 t) _ (hs20_1 t) _ (hs20_2 t)
    scM20_0 (Memref.isWhole_whole _) scM20_1 (Memref.isWhole_whole _) scM20_2 (Memref.isWhole_whole _) t y).trans ?_) <;> sl_kernel_rfl

/-- The eighth step's tokens. -/
theorem tokens_array23 : (dat23 V c).arrAt 2 cfg23.N = tokens (V c main_v301) (V c main_v298) := by
  refine (dat23 V c).arrAt_eq_of_covers 2 _ (by decide +kernel) fun t _ y => ?_
  blk_simp
  rw [after23_2]
  unfold outsAt23
  rw [show @out23_A_2 Ideal _ = @out2_A_2 Ideal _ from by sl_kernel_rfl]
  refine Eq.trans ?_ ((tokens_block (put (put V main_v28 fun c => V c main_v301) main_v25 fun c => V c main_v298) c _ (hs23_0 t) _ (hs23_1 t) _ (hs23_2 t)
    scM23_0 (Memref.isWhole_whole _) scM23_1 (Memref.isWhole_whole _) scM23_2 (Memref.isWhole_whole _) t y).trans ?_) <;> sl_kernel_rfl

/-- The ninth step's tokens. -/
theorem tokens_array26 : (dat26 V c).arrAt 2 cfg26.N = tokens (V c main_v340) (V c main_v337) := by
  refine (dat26 V c).arrAt_eq_of_covers 2 _ (by decide +kernel) fun t _ y => ?_
  blk_simp
  rw [after26_2]
  unfold outsAt26
  rw [show @out26_A_2 Ideal _ = @out2_A_2 Ideal _ from by sl_kernel_rfl]
  refine Eq.trans ?_ ((tokens_block (put (put V main_v28 fun c => V c main_v340) main_v25 fun c => V c main_v337) c _ (hs26_0 t) _ (hs26_1 t) _ (hs26_2 t)
    scM26_0 (Memref.isWhole_whole _) scM26_1 (Memref.isWhole_whole _) scM26_2 (Memref.isWhole_whole _) t y).trans ?_) <;> sl_kernel_rfl

/-- The tenth step's tokens. -/
theorem tokens_array29 : (dat29 V c).arrAt 2 cfg29.N = tokens (V c main_v379) (V c main_v376) := by
  refine (dat29 V c).arrAt_eq_of_covers 2 _ (by decide +kernel) fun t _ y => ?_
  blk_simp
  rw [after29_2]
  unfold outsAt29
  rw [show @out29_A_2 Ideal _ = @out2_A_2 Ideal _ from by sl_kernel_rfl]
  refine Eq.trans ?_ ((tokens_block (put (put V main_v28 fun c => V c main_v379) main_v25 fun c => V c main_v376) c _ (hs29_0 t) _ (hs29_1 t) _ (hs29_2 t)
    scM29_0 (Memref.isWhole_whole _) scM29_1 (Memref.isWhole_whole _) scM29_2 (Memref.isWhole_whole _) t y).trans ?_) <;> sl_kernel_rfl

/-- The eleventh step's tokens. -/
theorem tokens_array32 : (dat32 V c).arrAt 2 cfg32.N = tokens (V c main_v418) (V c main_v415) := by
  refine (dat32 V c).arrAt_eq_of_covers 2 _ (by decide +kernel) fun t _ y => ?_
  blk_simp
  rw [after32_2]
  unfold outsAt32
  rw [show @out32_A_2 Ideal _ = @out2_A_2 Ideal _ from by sl_kernel_rfl]
  refine Eq.trans ?_ ((tokens_block (put (put V main_v28 fun c => V c main_v418) main_v25 fun c => V c main_v415) c _ (hs32_0 t) _ (hs32_1 t) _ (hs32_2 t)
    scM32_0 (Memref.isWhole_whole _) scM32_1 (Memref.isWhole_whole _) scM32_2 (Memref.isWhole_whole _) t y).trans ?_) <;> sl_kernel_rfl

/-- The twelfth step's tokens. -/
theorem tokens_array35 : (dat35 V c).arrAt 2 cfg35.N = tokens (V c main_v457) (V c main_v454) := by
  refine (dat35 V c).arrAt_eq_of_covers 2 _ (by decide +kernel) fun t _ y => ?_
  blk_simp
  rw [after35_2]
  unfold outsAt35
  rw [show @out35_A_2 Ideal _ = @out2_A_2 Ideal _ from by sl_kernel_rfl]
  refine Eq.trans ?_ ((tokens_block (put (put V main_v28 fun c => V c main_v457) main_v25 fun c => V c main_v454) c _ (hs35_0 t) _ (hs35_1 t) _ (hs35_2 t)
    scM35_0 (Memref.isWhole_whole _) scM35_1 (Memref.isWhole_whole _) scM35_2 (Memref.isWhole_whole _) t y).trans ?_) <;> sl_kernel_rfl

/-- The thirteenth step's tokens. -/
theorem tokens_array38 : (dat38 V c).arrAt 2 cfg38.N = tokens (V c main_v496) (V c main_v493) := by
  refine (dat38 V c).arrAt_eq_of_covers 2 _ (by decide +kernel) fun t _ y => ?_
  blk_simp
  rw [after38_2]
  unfold outsAt38
  rw [show @out38_A_2 Ideal _ = @out2_A_2 Ideal _ from by sl_kernel_rfl]
  refine Eq.trans ?_ ((tokens_block (put (put V main_v28 fun c => V c main_v496) main_v25 fun c => V c main_v493) c _ (hs38_0 t) _ (hs38_1 t) _ (hs38_2 t)
    scM38_0 (Memref.isWhole_whole _) scM38_1 (Memref.isWhole_whole _) scM38_2 (Memref.isWhole_whole _) t y).trans ?_) <;> sl_kernel_rfl

/-- The fourteenth step's tokens. -/
theorem tokens_array41 : (dat41 V c).arrAt 2 cfg41.N = tokens (V c main_v535) (V c main_v532) := by
  refine (dat41 V c).arrAt_eq_of_covers 2 _ (by decide +kernel) fun t _ y => ?_
  blk_simp
  rw [after41_2]
  unfold outsAt41
  rw [show @out41_A_2 Ideal _ = @out2_A_2 Ideal _ from by sl_kernel_rfl]
  refine Eq.trans ?_ ((tokens_block (put (put V main_v28 fun c => V c main_v535) main_v25 fun c => V c main_v532) c _ (hs41_0 t) _ (hs41_1 t) _ (hs41_2 t)
    scM41_0 (Memref.isWhole_whole _) scM41_1 (Memref.isWhole_whole _) scM41_2 (Memref.isWhole_whole _) t y).trans ?_) <;> sl_kernel_rfl

/-- The fifteenth step's tokens. -/
theorem tokens_array44 : (dat44 V c).arrAt 2 cfg44.N = tokens (V c main_v574) (V c main_v571) := by
  refine (dat44 V c).arrAt_eq_of_covers 2 _ (by decide +kernel) fun t _ y => ?_
  blk_simp
  rw [after44_2]
  unfold outsAt44
  rw [show @out44_A_2 Ideal _ = @out2_A_2 Ideal _ from by sl_kernel_rfl]
  refine Eq.trans ?_ ((tokens_block (put (put V main_v28 fun c => V c main_v574) main_v25 fun c => V c main_v571) c _ (hs44_0 t) _ (hs44_1 t) _ (hs44_2 t)
    scM44_0 (Memref.isWhole_whole _) scM44_1 (Memref.isWhole_whole _) scM44_2 (Memref.isWhole_whole _) t y).trans ?_) <;> sl_kernel_rfl

/-- The sixteenth step's tokens. -/
theorem tokens_array47 : (dat47 V c).arrAt 2 cfg47.N = tokens (V c main_v613) (V c main_v610) := by
  refine (dat47 V c).arrAt_eq_of_covers 2 _ (by decide +kernel) fun t _ y => ?_
  blk_simp
  rw [after47_2]
  unfold outsAt47
  rw [show @out47_A_2 Ideal _ = @out2_A_2 Ideal _ from by sl_kernel_rfl]
  refine Eq.trans ?_ ((tokens_block (put (put V main_v28 fun c => V c main_v613) main_v25 fun c => V c main_v610) c _ (hs47_0 t) _ (hs47_1 t) _ (hs47_2 t)
    scM47_0 (Memref.isWhole_whole _) scM47_1 (Memref.isWhole_whole _) scM47_2 (Memref.isWhole_whole _) t y).trans ?_) <;> sl_kernel_rfl

end Cert.Sample

end
-- ==== Proof.PrefixMath.lean ====
/-
  The sampling kernel's sums over the extended reals.

  The probabilities of row `b`, in the order of the vocabulary, are `P b 0, P b 1, …`; the block holds number
  `128 · l + j` at row `j` and lane `l`, and zeros in the lanes from 250 on. Then the prefix sum that the kernel compares
  is the sum of the probabilities up to and including number `128 · l + j`, and the counters count those below the drawn
  number.
-/
module

public import proofs.«01_k».proof.Proof.SampleOut
public import Idealize.ShloMosaic.PureOps.Ideal.Laws
public import Idealize.ShloMosaic.Lib.WordSum
public import Idealize.ShloMosaic.Lib.Pointwise.Reduce
public import Idealize.ShloMosaic.Lib.StableHlo.Predicate

@[expose] public section

set_option maxRecDepth 16384

noncomputable section

namespace Cert.Sample

open Cert.KernelIdeal Cert.KernelIdeal.Gen
open Idealize.ShloMosaic Idealize.ShloMosaic.TcCoe Idealize.SL.Sem
open scoped BigOperators

/-- A sum over `a · m` consecutive numbers, as `a` sums of `m` each. -/
theorem sum_range_mul {M : Type*} [AddCommMonoid M] (f : ℕ → M) (m : ℕ) :
    ∀ a : ℕ, ∑ l ∈ Finset.range a, ∑ j ∈ Finset.range m, f (l * m + j) = ∑ n ∈ Finset.range (a * m), f n
  | 0 => by simp
  | a + 1 => by rw [Finset.sum_range_succ, sum_range_mul f m a, Nat.succ_mul, Finset.sum_range_add]

/-- The block at row `j`, batch `b` and lane `l` holds probability `128 · l + j` of row `b`, or zero in the padding lanes. -/
def Holds (t : Vec Ideal S128x128x256 .f32) (P : Fin 128 → ℕ → EReal) : Prop :=
  ∀ (j b : Fin 128) (l : Fin 256), t (ValueIdx.ix3 j b l) = if l.val < 250 then P b (l.val * 128 + j.val) else (0 : EReal)

variable {t : Vec Ideal S128x128x256 .f32} {P : Fin 128 → ℕ → EReal}

/-- The bit pattern of zeros is zero. -/
theorem ofBits_zero : (Scalar.ofBits (F := Ideal) .f32 0x00000000#32 : EReal) = 0 := by
  show Ideal.ofBits .f32 0x00000000#32 = 0
  simp [Ideal.ofBits, Ideal.ieee]

/-- The bit pattern of the infinity is the greatest element. -/
theorem ofBits_inf : (Scalar.ofBits (F := Ideal) .f32 0x7F800000#32 : EReal) = ⊤ := by
  show Ideal.ofBits .f32 0x7F800000#32 = ⊤
  simp [Ideal.ofBits, Ideal.ieee]

/-- The sum down a lane. -/
theorem rowSum_eq (ht : Holds t P) (b : Fin 128) (l : Fin 256) : ∀ (j : ℕ) (h : j < 128),
    (rowSum t b l j h : EReal) = if l.val < 250 then ∑ j' ∈ Finset.range (j + 1), P b (l.val * 128 + j') else 0
  | 0, h => by
    show t (ValueIdx.ix3 ⟨0, h⟩ b l) = _
    rw [ht]
    simp
  | j + 1, h => by
    show (t (ValueIdx.ix3 ⟨j + 1, h⟩ b l) : EReal) + rowSum t b l j _ = _
    rw [rowSum_eq ht b l j, ht]
    by_cases hl : l.val < 250
    · rw [if_pos hl, if_pos hl, if_pos hl, Finset.sum_range_succ _ (j + 1), add_comm]
    · rw [if_neg hl, if_neg hl, if_neg hl, add_zero]

/-- The sum across lanes. -/
theorem rowCols_eq (ht : Holds t P) (b : Fin 128) (lo : ℕ) : ∀ (n : ℕ) (h : lo + n ≤ 256) (h' : lo + n ≤ 250),
    (rowCols (totOf t) b lo n h : EReal) = ∑ l ∈ Finset.range n, ∑ j ∈ Finset.range 128, P b ((lo + l) * 128 + j)
  | 0, _, _ => by
    rw [Finset.sum_range_zero]
    exact ofBits_zero
  | n + 1, h, h' => by
    show (rowCols (totOf t) b lo n _ : EReal) + rowSum t b ⟨lo + n, h⟩ 127 _ = _
    rw [rowCols_eq ht b lo n _ (by omega), rowSum_eq ht, if_pos (show lo + n < 250 by omega), Finset.sum_range_succ _ n]

/-- Entry `k` of `pt` is the sum of all probabilities before lane `k`. -/
theorem ptAt_eq (ht : Holds t P) (b : Fin 128) (k : ℕ) (hk : k < 250) :
    (ptAt (totOf t) b k : EReal) = ∑ n ∈ Finset.range (k * 128), P b n := by
  rw [← sum_range_mul]
  unfold ptAt
  by_cases h : k < 128
  · rw [dif_pos h, rowCols_eq ht b 0 k _ (by omega)]
    simp
  · rw [dif_neg h, dif_pos hk]
    show (rowCols (totOf t) b 128 (k - 128) _ : EReal) + rowCols (totOf t) b 0 128 _ = _
    rw [rowCols_eq ht b 128 (k - 128) _ (by omega), rowCols_eq ht b 0 128 _ (by omega), add_comm]
    obtain ⟨d, rfl⟩ : ∃ d, k = 128 + d := ⟨k - 128, by omega⟩
    rw [Finset.sum_range_add, Nat.add_sub_cancel_left]
    simp

/-- In the padding lanes `pt` is infinite. -/
theorem ptAt_pad (b : Fin 128) (k : ℕ) (hk : ¬k < 250) : (ptAt (totOf t) b k : EReal) = ⊤ := by
  unfold ptAt
  rw [dif_neg (by omega), dif_neg hk]
  exact ofBits_inf

/-- The bit the kernel counts: whether the sum of the probabilities up to and including number `128 · l + j` lies below
the drawn number; never in a padding lane. -/
theorem hit_eq (ht : Holds t P) (u : Vec Ideal S128x1 .f32) (b : Fin 128) (l : Fin 256) (j : ℕ) (h : j < 128) :
    hit t (ptOf (totOf t)) u j h (ValueIdx.ix2 b l)
      = BitVec.ofBool (decide (l.val < 250 ∧ ∑ n ∈ Finset.range (l.val * 128 + j + 1), P b n < (u (ValueIdx.ix2 b (0 : Fin 1)) : EReal))) := by
  show BitVec.ofBool (decide ((rowSum t b l j h : EReal) + ptAt (totOf t) b l.val < (u (ValueIdx.ix2 b (0 : Fin 1)) : EReal))) = _
  rw [rowSum_eq ht]
  by_cases hl : l.val < 250
  · rw [if_pos hl, ptAt_eq ht b l.val hl, add_comm, Nat.add_assoc, Finset.sum_range_add _ (l.val * 128) (j + 1)]
    simp [hl]
  · rw [if_neg hl, ptAt_pad b l.val hl]
    simp [hl]

/-- A counter after `n` trips is the number of its hits. -/
theorem counters_toNat (ht : Holds t P) (u : Vec Ideal S128x1 .f32) (b : Fin 128) (l : Fin 256) : ∀ (n : ℕ) (h : n ≤ 128),
    (counters t (ptOf (totOf t)) u n h (ValueIdx.ix2 b l)).toNat
      = ∑ j ∈ Finset.range n, if l.val < 250 ∧ ∑ n ∈ Finset.range (l.val * 128 + j + 1), P b n < (u (ValueIdx.ix2 b (0 : Fin 1)) : EReal) then 1 else 0
  | 0, _ => rfl
  | n + 1, h => by
    have ih := counters_toNat ht u b l n (Nat.le_of_succ_le h)
    have hle : ∀ n, (∑ j ∈ Finset.range n, if l.val < 250 ∧ ∑ n ∈ Finset.range (l.val * 128 + j + 1), P b n < (u (ValueIdx.ix2 b (0 : Fin 1)) : EReal) then 1 else 0) ≤ n := fun n => by
      refine (Finset.sum_le_card_nsmul _ _ 1 fun j _ => by split <;> omega).trans ?_
      simp
    show ((counters t (ptOf (totOf t)) u n _ (ValueIdx.ix2 b l)) + (hit t (ptOf (totOf t)) u n h (ValueIdx.ix2 b l)).setWidth 32).toNat = _
    rw [BitVec.toNat_add, ih, hit_eq ht]
    have hb : ((BitVec.ofBool (decide (l.val < 250 ∧ ∑ n' ∈ Finset.range (l.val * 128 + n + 1), P b n' < (u (ValueIdx.ix2 b (0 : Fin 1)) : EReal)))).setWidth 32).toNat
        = if l.val < 250 ∧ ∑ n' ∈ Finset.range (l.val * 128 + n + 1), P b n' < (u (ValueIdx.ix2 b (0 : Fin 1)) : EReal) then 1 else 0 := by
      split
      · next hh => rw [decide_eq_true hh]; rfl
      · next hh => rw [decide_eq_false hh]; rfl
    rw [hb, Finset.sum_range_succ (fun j => if l.val < 250 ∧ _ then 1 else 0)]
    refine Nat.mod_eq_of_lt ?_
    have := hle n
    split <;> omega

/-- The number of prefix sums of row `b` that lie below the drawn number. -/
def below (P : Fin 128 → ℕ → EReal) (u : Vec Ideal S128x1 .f32) (b : Fin 128) : ℕ :=
  ∑ n ∈ Finset.range 32000, if ∑ n' ∈ Finset.range (n + 1), P b n' < (u (ValueIdx.ix2 b (0 : Fin 1)) : EReal) then 1 else 0

/-- It is at most the size of the vocabulary. -/
theorem below_le (u : Vec Ideal S128x1 .f32) (b : Fin 128) : below P u b ≤ 32000 := by
  refine (Finset.sum_le_card_nsmul _ _ 1 fun j _ => by split <;> omega).trans ?_
  simp

/-- The counters of all lanes add up to it. -/
theorem sum_counters (ht : Holds t P) (u : Vec Ideal S128x1 .f32) (b : Fin 128) :
    ∑ l : Fin 256, (counters t (ptOf (totOf t)) u 128 (le_refl _) (ValueIdx.ix2 b l)).toNat = below P u b := by
  simp only [counters_toNat ht]
  rw [Fin.sum_univ_eq_sum_range (fun l => ∑ j ∈ Finset.range 128, if l < 250 ∧ ∑ n ∈ Finset.range (l * 128 + j + 1), P b n < (u (ValueIdx.ix2 b (0 : Fin 1)) : EReal) then 1 else 0) 256,
    show 256 = 250 + 6 from rfl, Finset.sum_range_add]
  unfold below
  rw [show 32000 = 250 * 128 from rfl, ← sum_range_mul]
  rw [Finset.sum_eq_zero (s := Finset.range 6) (fun l _ => Finset.sum_eq_zero fun j _ => if_neg (by omega)), add_zero]
  refine Finset.sum_congr rfl fun l hl => Finset.sum_congr rfl fun j _ => ?_
  have : l < 250 := Finset.mem_range.1 hl
  simp [this]

/-- The token the kernel draws: that number, clipped to the vocabulary. -/
theorem tokens_eq (ht : Holds t P) (u : Vec Ideal S128x1 .f32) (b : Fin 128) :
    tokens t u (ValueIdx.ix2 b (0 : Fin 1)) = IntOp.minsi 31999#32 (IntOp.maxsi 0#32 (BitVec.ofNat 32 (below P u b))) := by
  unfold tokens k2_pay4
  dsimp only
  refine congrArg (fun z => IntOp.minsi 31999#32 (IntOp.maxsi 0#32 z)) ?_
  refine (shapeCast_apply _ _ _ (ValueIdx.ix1 b) ?_).trans ?_
  · rw [Shape.rowMajor_val_two, Shape.rowMajor_val_one]
    show b.val = b.val * 1 + 0
    omega
  · apply BitVec.eq_of_toNat_eq
    have hs : ∑ i ∈ Finset.univ.filter (fun i => reduces_S128x256_S128.drop i = ValueIdx.ix1 b),
        (counters t (ptOf (totOf t)) u 128 (le_refl _) i).toNat = below P u b := by
      rw [Shape.Reduces.sum_fiber_r2_a1]
      exact sum_counters ht u b
    have hb := below_le (P := P) u b
    refine (WordSum.toNat_multiReductionI_add _ _ _ _ ((congrArg (· < 2 ^ 32) hs).mpr (by omega))).trans ?_
    rw [hs, BitVec.toNat_ofNat, Nat.mod_eq_of_lt (by omega)]

end Cert.Sample

end
-- ==== Proof.RunningSum.lean ====
/-
  The host's running sum along the rows of a matrix, over the extended reals: entry `(b, j)` is the sum of the entries
  `(b, 0), …, (b, j)`.
-/
module

public import Idealize.ShloMosaic.PureOps.Ideal.Laws
public import Idealize.ShloMosaic.Lib.Routing.OpsOne

@[expose] public section

noncomputable section

namespace Cert.Sample

open Idealize.ShloMosaic
open scoped BigOperators

/-- A left fold of additions is its start plus the sum. -/
theorem foldl_add_sum {ι : Type*} (g : ι → EReal) : ∀ (l : List ι) (v : EReal), l.foldl (fun r n => r + g n) v = v + (l.map g).sum
  | [], v => by simp
  | n :: l, v => by rw [List.foldl_cons, foldl_add_sum g l, List.map_cons, List.sum_cons, add_assoc]

/-- The matrix shape used below. -/
abbrev mat (R C : ℕ) : Shape := ⟨2, ![R, C]⟩

/-- Position `n` of a matrix of one row is its index `(0, n)`. -/
theorem symm_row {C : ℕ} (n : Fin (mat 1 C).numel) :
    (((mat 1 C).rowMajor.symm n) 0).val = 0 ∧ (((mat 1 C).rowMajor.symm n) 1).val = n.val := by
  have e := congrArg Fin.val ((mat 1 C).rowMajor.apply_symm_apply n)
  rw [Shape.rowMajor_val_two] at e
  have h0 : (((mat 1 C).rowMajor.symm n) 0).val = 0 := Nat.lt_one_iff.1 (((mat 1 C).rowMajor.symm n) 0).isLt
  refine ⟨h0, ?_⟩
  rw [h0] at e
  omega

/-- Of the window's positions the last `j + 1` lie inside the row. -/
theorem sum_tail (f : ℕ → EReal) (D j : ℕ) (h : j ≤ D) :
    (∑ w ∈ Finset.range (D + 1), if D ≤ j + w then f (j + w - D) else 0) = ∑ n ∈ Finset.range (j + 1), f n := by
  obtain ⟨d, rfl⟩ : ∃ d, D = d + j := ⟨D - j, by omega⟩
  rw [Nat.add_assoc, Finset.sum_range_add, Finset.sum_eq_zero fun w hw => if_neg (by have := Finset.mem_range.1 hw; omega), zero_add]
  refine Finset.sum_congr rfl fun w hw => ?_
  rw [if_pos (by omega)]
  congr 1
  omega

/-- The window of one row and all `C` columns, padded low by one less, started from zero, sums each row's entries up to
the column. -/
theorem running_sum {R C D : ℕ} (hC : D + 1 = C) (x : FVec Ideal (mat R C) .f32) (f : ℕ → ℕ → EReal)
    (hx : ∀ (b : Fin R) (n : Fin C), x (ValueIdx.ix2 b n) = f b.val n.val) {u : Shape} (init : u.Idx → Ideal .f32)
    (h : (mat R C).ReduceWindows (![1, C] : Fin 2 → ℕ) ![1, 1] ![0, D] ![0, 0] (mat R C)) (hu : 0 < u.numel)
    (hinit : init (Shape.Idx.first hu) = (0 : EReal)) (b : Fin R) (j : Fin C) :
    (Host.reduceWindowAdd ![1, C] ![1, 1] ![0, D] ![0, 0] x init h hu (ValueIdx.ix2 b j) : EReal)
      = ∑ n ∈ Finset.range (j.val + 1), f b.val n := by
  subst hC
  have hj := j.isLt
  have hb := b.isLt
  show Host.reduceWindow (fun a c : EReal => a + c) ![1, D + 1] ![1, 1] ![0, D] ![0, 0] x (fun _ => init (Shape.Idx.first hu)) h hu (ValueIdx.ix2 b j) = _
  unfold Host.reduceWindow
  dsimp only
  refine (foldl_add_sum _ _ _).trans ?_
  rw [hinit, zero_add, ← Fin.sum_univ_def]
  have hN : (mat 1 (D + 1)).numel = D + 1 := (Shape.numel_rank2 _).trans (Nat.one_mul _)
  refine (Finset.sum_congr (s₂ := Finset.univ) (g := fun n : Fin (mat 1 (D + 1)).numel => (fun w : ℕ => if D ≤ j.val + w then f b.val (j.val + w - D) else 0) n.val) rfl
    fun n _ => ?_).trans ?_
  rotate_left
  · rw [Fin.sum_univ_eq_sum_range (fun w : ℕ => if D ≤ j.val + w then f b.val (j.val + w - D) else 0)]
    show ∑ w ∈ Finset.range (mat 1 (D + 1)).numel, _ = _
    rw [hN]
    exact sum_tail (f b.val) D j.val (by omega)
  · have hn : n.val < D + 1 := lt_of_lt_of_eq n.isLt hN
    obtain ⟨hw0, hw1⟩ := symm_row n
    dsimp only
    split
    · next hin =>
      have h1 := hin 1
      change D ≤ j.val * 1 + ((mat 1 (D + 1)).rowMajor.symm n 1).val
        ∧ j.val * 1 + ((mat 1 (D + 1)).rowMajor.symm n 1).val - D < D + 1 at h1
      rw [hw1] at h1
      rw [if_pos (by omega)]
      refine (congrArg x (funext fun a => Fin.ext ?_)).trans (hx b ⟨j.val + n.val - D, by omega⟩)
      match a with
      | ⟨0, _⟩ =>
        show b.val * 1 + ((mat 1 (D + 1)).rowMajor.symm n 0).val - 0 = b.val
        rw [hw0]
        omega
      | ⟨1, _⟩ =>
        show j.val * 1 + ((mat 1 (D + 1)).rowMajor.symm n 1).val - D = j.val + n.val - D
        rw [hw1, Nat.mul_one]
    · next hin =>
      rw [if_neg fun hle => hin fun a => by
        match a with
        | ⟨0, _⟩ =>
          show 0 ≤ b.val * 1 + ((mat 1 (D + 1)).rowMajor.symm n 0).val ∧ b.val * 1 + ((mat 1 (D + 1)).rowMajor.symm n 0).val - 0 < R
          rw [hw0]
          omega
        | ⟨1, _⟩ =>
          show D ≤ j.val * 1 + ((mat 1 (D + 1)).rowMajor.symm n 1).val
            ∧ j.val * 1 + ((mat 1 (D + 1)).rowMajor.symm n 1).val - D < D + 1
          rw [hw1]
          omega]

end Cert.Sample

end
-- ==== Proof.DrawMath.lean ====
/-
  The kernel's token is the reference's, over the extended reals: both count the running sums below the drawn number.
-/
module

public import proofs.«01_k».proof.Proof.PrefixMath
public import proofs.«01_k».proof.Proof.RunningSum
public import proofs.«01_k».proof.Proof.HostStep
public import Idealize.ShloMosaic.Lib.KernelVsHost
public import Idealize.ShloMosaic.Lib.ValueLayout

@[expose] public section

set_option maxRecDepth 16384

noncomputable section

namespace Cert.Sample

open Cert.KernelIdeal Cert.KernelIdeal.Gen
open Idealize.ShloMosaic Idealize.ShloMosaic.TcCoe Idealize.SL.Sem
open scoped BigOperators

/-- Row `b` of a matrix of probabilities, in order, and zero past its end. -/
def rowOf (p : Vec Ideal S128x32000 .f32) (b : Fin 128) (n : ℕ) : EReal :=
  if h : n < 32000 then p (ValueIdx.ix2 b ⟨n, h⟩) else 0

/-- The probabilities as the sampling kernel takes them: number `128 · l + j` at row `j` and lane `l`, then six lanes of
zeros. -/
def laidOut {F : FTy → Type} [FloatOps F] (p : Vec F S128x32000 .f32) : Vec F S128x128x256 .f32 :=
  pad S128x128x256 ![0, 0, 0] ![0, 0, 6] ![0, 0, 0]
    (transpose S128x128x250 [2, 0, 1] (shapeCast S128x250x128 p shapeCasts_S128x32000_S128x250x128) transposes_S128x250x128_S128x128x250_2_0_1)
    (sitofp .f32 (constantI S_ 32 0#32)) pads_S128x128x250_S128x128x256_000_000_060 h_S_

/-- The zero that fills the padding lanes. -/
theorem fill_zero (i : S_.Idx) : (sitofp (F := Ideal) .f32 (constantI S_ 32 0#32) i : EReal) = 0 := by
  show ((BitVec.toInt 0#32 : ℝ) : EReal) = 0
  simp

/-- The laid out block holds the rows. -/
theorem laidOut_holds (p : Vec Ideal S128x32000 .f32) : Holds (laidOut p) (rowOf p) := by
  intro j b l
  unfold laidOut
  by_cases hl : l.val < 250
  · rw [if_pos hl]
    refine (pad_apply_of_inside _ _ _ _ _ _ _ _ (ValueIdx.ix3 j b (⟨l.val, hl⟩ : Fin 250)) fun a => ?_).trans ?_
    · match a with
      | ⟨0, _⟩ => show j.val = 0 + j.val * 1; omega
      | ⟨1, _⟩ => show b.val = 0 + b.val * 1; omega
      | ⟨2, _⟩ => show l.val = 0 + l.val * 1; omega
    · refine (transpose_apply _ _ _ _ (ValueIdx.ix3 b (⟨l.val, hl⟩ : Fin 250) j) fun a => ?_).trans ?_
      · match a with
        | ⟨0, _⟩ => rfl
        | ⟨1, _⟩ => rfl
        | ⟨2, _⟩ => rfl
      · unfold rowOf
        rw [dif_pos (show l.val * 128 + j.val < 32000 by have := j.isLt; omega)]
        refine shapeCast_apply _ _ _ _ ?_
        rw [Shape.rowMajor_val_two, Shape.rowMajor_val_three]
        show b.val * 32000 + (l.val * 128 + j.val) = (b.val * 250 + l.val) * 128 + j.val
        omega
  · rw [if_neg hl]
    refine (pad_apply_of_not_inside _ _ _ _ _ _ _ _ 2 fun h => hl ?_).trans (fill_zero _)
    have := h.2.2
    change (l.val - 0) / (0 + 1) < 250 at this
    omega

/-- The number of set bits among the first `n` columns, as a count. -/
theorem card_filter_eq (f : ℕ → Prop) [DecidablePred f] (n : ℕ) (q : Fin n → Prop) [DecidablePred q] (h : ∀ i, q i ↔ f i.val) :
    (Finset.univ.filter q).card = ∑ i ∈ Finset.range n, if f i then 1 else 0 := by
  rw [← Fin.sum_univ_eq_sum_range (fun i => if f i then 1 else 0) n, Finset.card_filter]
  exact Finset.sum_congr rfl fun i _ => if_congr (h i) rfl rfl

/-- The running sums of row `b` against the drawn number, one bit each. -/
abbrev belowBits (p : Vec Ideal S128x32000 .f32) (u : Vec Ideal S128x1 .f32) : IVec S128x32000 1 :=
  cmpf .olt
    (Host.reduceWindowAdd ![1, 32000] ![1, 1] ![0, 31999] ![0, 0] p
      (broadcastInDim S_ ![] Cert.ReferenceIdeal.Gen.bcast_S_S_ (constant S_ .f32 0x00000000#32))
      Cert.ReferenceIdeal.Gen.reduceWindows_S128x32000_S128x32000_w1s1p0_0_w32000s1p31999_0 Cert.ReferenceIdeal.Gen.h_S_)
    (broadcastInDim (α := Ideal .f32) S128x32000 ![0, 1] Cert.ReferenceIdeal.Gen.bcast_S128x1_S128x32000_0_1 u)

/-- A bit is set where the prefix sum lies below the drawn number. -/
theorem belowBits_iff (p : Vec Ideal S128x32000 .f32) (u : Vec Ideal S128x1 .f32) (b : Fin 128) (q : Fin 32000) :
    belowBits p u (ValueIdx.ix2 b q) = 1#1 ↔ ∑ n' ∈ Finset.range (q.val + 1), rowOf p b n' < (u (ValueIdx.ix2 b (0 : Fin 1)) : EReal) := by
  have hs := running_sum (R := 128) (C := 32000) (D := 31999) rfl p (fun b n => if hb : b < 128 then rowOf p ⟨b, hb⟩ n else 0)
    (fun b n => by rw [dif_pos b.isLt]; unfold rowOf; rw [dif_pos n.isLt])
    (broadcastInDim S_ ![] Cert.ReferenceIdeal.Gen.bcast_S_S_ (constant S_ .f32 0x00000000#32))
    Cert.ReferenceIdeal.Gen.reduceWindows_S128x32000_S128x32000_w1s1p0_0_w32000s1p31999_0 Cert.ReferenceIdeal.Gen.h_S_ ofBits_zero b q
  simp only [dif_pos b.isLt] at hs
  have hu : broadcastInDim (α := Ideal .f32) S128x32000 ![0, 1] Cert.ReferenceIdeal.Gen.bcast_S128x1_S128x32000_0_1 u (ValueIdx.ix2 b q) = u (ValueIdx.ix2 b (0 : Fin 1)) :=
    broadcastInDim_apply _ _ _ _ _ fun a => by
      match a with
      | ⟨0, _⟩ => rfl
      | ⟨1, _⟩ => rfl
  have e : belowBits p u (ValueIdx.ix2 b q) = BitVec.ofBool (decide (∑ n' ∈ Finset.range (q.val + 1), rowOf p b n' < (u (ValueIdx.ix2 b (0 : Fin 1)) : EReal))) := by
    refine Eq.trans ?_ (congrArg₂ (fun a c : EReal => BitVec.ofBool (decide (a < c))) hs hu)
    rfl
  rw [e]
  by_cases h : ∑ n' ∈ Finset.range (q.val + 1), rowOf p b n' < (u (ValueIdx.ix2 b (0 : Fin 1)) : EReal)
  · rw [decide_eq_true h]; exact ⟨fun _ => h, fun _ => rfl⟩
  · rw [decide_eq_false h]; exact ⟨fun e => absurd e (by decide), fun e => absurd e h⟩

/-- The vocabulary fits in a word. -/
theorem vocab_lt : 32000 < 2 ^ 32 := by norm_num

/-- The reference's count of row `b`. -/
theorem count_eq (p : Vec Ideal S128x32000 .f32) (u : Vec Ideal S128x1 .f32) (b : Fin 128) :
    (Host.reduce IntOp.addi (extui 32 (belowBits p u) Cert.ReferenceIdeal.Gen.natLt_1_32) (constantI S_ 32 0#32)
      reducesTo_S128x32000_S128_d1 h_S_ (ValueIdx.ix1 b)).toNat = below (rowOf p) u b :=
  (StableHlo.Predicate.toNat_reduce_count_cols (n := 128) (m := 32000) vocab_lt (belowBits p u) _ _ _ _).trans
    (card_filter_eq (fun n => ∑ n' ∈ Finset.range (n + 1), rowOf p b n' < (u (ValueIdx.ix2 b (0 : Fin 1)) : EReal)) _ _ fun q =>
      (Eq.congr_left (congrArg (belowBits p u) (Routing.ij_eq_ix2 b q))).trans (belowBits_iff p u b q))

/-- The reference's token: the clipped number of prefix sums below the drawn number. -/
theorem draw_eq (p : Vec Ideal S128x32000 .f32) (u : Vec Ideal S128x1 .f32) (b : Fin 128) :
    Host.draw p u (ValueIdx.ix2 b (0 : Fin 1)) = IntOp.minsi 31999#32 (IntOp.maxsi 0#32 (BitVec.ofNat 32 (below (rowOf p) u b))) := by
  have e : broadcastInDim S128x1 ![0] Cert.ReferenceIdeal.Gen.bcast_S128_S128x1_0
      (Host.reduce IntOp.addi (extui 32 (belowBits p u) Cert.ReferenceIdeal.Gen.natLt_1_32) (constantI S_ 32 0#32)
        reducesTo_S128x32000_S128_d1 h_S_) (ValueIdx.ix2 b (0 : Fin 1)) = BitVec.ofNat 32 (below (rowOf p) u b) := by
    refine (broadcastInDim_apply _ _ _ _ (ValueIdx.ix1 b) fun a => ?_).trans ?_
    · match a with
      | ⟨0, _⟩ => rfl
    · rw [← count_eq, BitVec.ofNat_toNat, BitVec.setWidth_eq]
  refine Eq.trans ?_ (congrArg (fun z => IntOp.minsi 31999#32 (IntOp.maxsi 0#32 z)) e)
  sl_kernel_rfl

/-- The kernel's token is the reference's. -/
theorem tokens_draw (p : Vec Ideal S128x32000 .f32) (u : Vec Ideal S128x1 .f32) : tokens (laidOut p) u = Host.draw p u := by
  funext i
  obtain ⟨b, z, rfl⟩ : ∃ (b : Fin 128) (z : Fin 1), i = ValueIdx.ix2 b z := ⟨i 0, i 1, ValueIdx.eq_ix2 i⟩
  obtain rfl : z = 0 := Subsingleton.elim _ _
  exact (tokens_eq (laidOut_holds p) u b).trans (draw_eq p u b).symm

end Cert.Sample

end
-- ==== Proof.LogProbMath.lean ====
/-
  The log-probability over the extended reals: the kernel's entry at the drawn token, less the row's maximum and the
  logarithm of its normalizer, is the reference's log-softmax at the drawn token. A drawn token lies inside the
  vocabulary, so the value filled in for a token outside is never taken.
-/
module

public import proofs.«01_k».proof.Proof.HostStep
public import Idealize.ShloMosaic.PureOps.Ideal.Laws
public import Idealize.ShloMosaic.Lib.ValueIdx
public import Idealize.ShloMosaic.Lib.Pipeline.Value
public import Idealize.ShloMosaic.Lib.Tactic

@[expose] public section

set_option maxRecDepth 16384

noncomputable section

namespace Cert.Sample

open Cert.ReferenceIdeal Cert.ReferenceIdeal.Gen Idealize.ShloMosaic Idealize.ShloMosaic.TcCoe Idealize.SL.Sem

/-- One number per row as a column. -/
def Host.col {F : FTy → Type} [FloatOps F] (v : Vec F S128 .f32) : Vec F S128x1 .f32 := broadcastInDim S128x1 ![0] bcast_S128_S128x1_0 v

/-- The kernel's log-probability of the drawn tokens. -/
def Host.tail {F : FTy → Type} [FloatOps F] (x : Vec F S128x32000 .f32) (k : IVec S128x1 32) : Vec F S128x1 .f32 :=
  subf (subf (Host.pick x k) (Host.col (Host.rowMax x)))
    (Host.log (Host.col (Host.rowTotal (Host.exp (subf x (Host.spread (Host.rowMax x)))))))

/-- A conjunction of set bits is set. -/
theorem foldl_andi_one {ι : Type*} (x : ι → BitVec 1) (hx : ∀ i, x i = 1#1) : ∀ (l : List ι), l.foldl (fun r i => IntOp.andi r (x i)) 1#1 = 1#1
  | [] => rfl
  | i :: l => by
    rw [List.foldl_cons, hx i]
    exact foldl_andi_one x hx l

/-- A host conjunction of set bits is set. -/
theorem reduce_andi_one {s t u : Shape} {axes : List (Fin s.rank)} (x : IVec s 1) (hx : ∀ i, x i = 1#1) (init : IVec u 1)
    (h : s.ReducesTo axes t) (hu : 0 < u.numel) (hi : init (Shape.Idx.first hu) = 1#1) (j : t.Idx) :
    Host.reduce IntOp.andi x init h hu j = 1#1 := by
  rw [Host.reduce_eq_foldl, hi]
  exact foldl_andi_one x hx _

/-- A token inside the vocabulary. -/
def InVocab (k : IVec S128x1 32) : Prop := ∀ i, (0#32 : BitVec 32).toInt ≤ (k i).toInt ∧ (k i).toInt ≤ (31999#32 : BitVec 32).toInt

/-- A clipped number lies between the bounds. -/
theorem clip_bounds (lo hi z : BitVec 32) (h : lo.toInt ≤ hi.toInt) :
    lo.toInt ≤ (IntOp.minsi hi (IntOp.maxsi lo z)).toInt ∧ (IntOp.minsi hi (IntOp.maxsi lo z)).toInt ≤ hi.toInt := by
  unfold IntOp.minsi IntOp.maxsi
  simp only [BitVec.slt, decide_eq_true_eq]
  by_cases h1 : z.toInt < lo.toInt
  · simp only [if_pos h1]
    split <;> omega
  · simp only [if_neg h1]
    split <;> omega

/-- A token clipped to the vocabulary lies inside it. -/
theorem clip_range (z : BitVec 32) : (0#32 : BitVec 32).toInt ≤ (IntOp.minsi 31999#32 (IntOp.maxsi 0#32 z)).toInt
    ∧ (IntOp.minsi 31999#32 (IntOp.maxsi 0#32 z)).toInt ≤ (31999#32 : BitVec 32).toInt :=
  clip_bounds _ _ z (by decide)

/-- The drawn tokens lie inside the vocabulary. -/
theorem draw_inVocab {F : FTy → Type} [FloatOps F] (p : Vec F S128x32000 .f32) (u : Vec F S128x1 .f32) : InVocab (Host.draw p u) :=
  fun i => by
    unfold Host.draw
    exact clip_range _

/-- A column number is the token. -/
theorem cols_range (k : IVec S128x1 32) (hk : InVocab k) (i : S128x1x1.Idx) :
    (0#32 : BitVec 32).toInt ≤ (Host.cols k i).toInt ∧ (Host.cols k i).toInt ≤ (31999#32 : BitVec 32).toInt := by
  obtain ⟨i', e⟩ : ∃ i', Host.cols k i = select (cmpi .slt k (Host.fillI 0#32 bcast_S_S128x1)) (addi k (Host.fillI 32000#32 bcast_S_S128x1)) k i' := ⟨_, rfl⟩
  have h := hk i'
  have hc : cmpi .slt k (Host.fillI 0#32 bcast_S_S128x1) i' = 0#1 := by
    show BitVec.ofBool ((k i').slt 0#32) = 0#1
    rw [show (k i').slt 0#32 = false from decide_eq_false (not_lt.2 h.1)]
    rfl
  have e' : select (cmpi .slt k (Host.fillI 0#32 bcast_S_S128x1)) (addi k (Host.fillI 32000#32 bcast_S_S128x1)) k i' = k i' := by
    unfold select
    rw [hc]
    rfl
  rw [e, e']
  exact h

/-- So every one lies inside the row. -/
theorem inside_one (k : IVec S128x1 32) (hk : InVocab k) (j : S128x1.Idx) : Host.inside k j = 1#1 := by
  refine reduce_andi_one _ (fun i => ?_) _ _ _ rfl _
  have h := cols_range k hk i
  show BitVec.ofBool ((0#32 : BitVec 32).sle (Host.cols k i)) &&& BitVec.ofBool ((Host.cols k i).sle 31999#32) = 1#1
  rw [show (0#32 : BitVec 32).sle (Host.cols k i) = true from decide_eq_true (h.1),
    show (Host.cols k i).sle 31999#32 = true from decide_eq_true (h.2)]
  rfl

/-- The entry read at a drawn token. -/
theorem pick_apply {F : FTy → Type} [FloatOps F] (x : Vec F S128x32000 .f32) (k : IVec S128x1 32) (hk : InVocab k) (j : S128x1.Idx) :
    Host.pick x k j = x (gather_S128x32000_S128x1x1_S128x1_n_1_0_0_1_2_11.operandIdx j (Host.cols k)) := by
  unfold Host.pick select
  rw [inside_one k hk]
  rfl

/-- It stands in the token's own row. -/
theorem pick_row {w : ℕ} (b : Fin 128) (z : Fin 1) (idx : IVec S128x1x1 w) :
    (gather_S128x32000_S128x1x1_S128x1_n_1_0_0_1_2_11.operandIdx (ValueIdx.ix2 b z) idx 0).val = b.val := by
  have h : (0 : Fin S128x32000.rank) ∈ gather_S128x32000_S128x1x1_S128x1_n_1_0_0_1_2_11.operandBatchingDims := by decide
  show GatherDims.start _ _ _ _ + GatherDims.batchCoord _ _ _ + GatherDims.offCoord _ _ _ = _
  rw [GatherDims.start_batching _ _ _ _ h, GatherDims.offCoord_eq_zero _ _ _ (fun h' => ((GatherDims.mem_sKept _ _).1 h').2 h), Nat.zero_add, Nat.add_zero]
  unfold GatherDims.batchCoord
  rw [dif_pos h]
  rfl

/-- Against the bottom element a maximum is the other number. -/
theorem max_bottom (v : FVec Ideal S128 .f32) : maximumf (F := Ideal) (φ := .f32) (Host.fill (F := Ideal) 0xFF800000#32 bcast_S_S128) v = v := by
  funext i
  show max (Ideal.ofBits .f32 0xFF800000#32) (v i : EReal) = v i
  rw [show Ideal.ofBits .f32 0xFF800000#32 = ⊥ by simp [Ideal.ofBits, Ideal.ieee]]
  exact bot_sup_eq _

/-- The two log-probabilities agree. -/
theorem tail_eq (x : Vec Ideal S128x32000 .f32) (k : IVec S128x1 32) (hk : InVocab k) : Host.tail x k = Host.pick (Host.logSoftmax x) k := by
  funext j
  obtain ⟨b, z, rfl⟩ : ∃ (b : Fin 128) (z : Fin 1), j = ValueIdx.ix2 b z := ⟨j 0, j 1, ValueIdx.eq_ix2 j⟩
  rw [pick_apply _ k hk]
  have hr := pick_row b z (Host.cols k)
  have hm : Host.shifted x = subf (F := Ideal) (φ := .f32) x (Host.spread (Host.rowMax x)) := by
    unfold Host.shifted
    rw [max_bottom]
  unfold Host.tail Host.logSoftmax
  rw [hm]
  have hp := pick_apply x k hk (ValueIdx.ix2 b z)
  generalize Host.rowTotal (Host.exp (subf (F := Ideal) (φ := .f32) x (Host.spread (Host.rowMax x)))) = s
  generalize Host.rowMax x = v
  generalize gather_S128x32000_S128x1x1_S128x1_n_1_0_0_1_2_11.operandIdx (ValueIdx.ix2 b z) (Host.cols k) = i at hr hp ⊢
  have hs : ∀ w : Vec Ideal S128x1 .f32, broadcastInDim (α := Ideal .f32) S128x32000 ![0, 1] bcast_S128x1_S128x32000_0_1 w i = w (ValueIdx.ix2 b z) := fun w =>
    broadcastInDim_apply _ _ _ _ _ fun a => by
      match a with
      | ⟨0, _⟩ => exact hr.symm
      | ⟨1, _⟩ => exact Nat.lt_one_iff.1 z.isLt
  show ((Host.pick x k (ValueIdx.ix2 b z) : EReal) - Host.col v (ValueIdx.ix2 b z)) - Host.log (Host.col s) (ValueIdx.ix2 b z)
    = ((x i : EReal) - broadcastInDim (α := Ideal .f32) S128x32000 ![0, 1] bcast_S128x1_S128x32000_0_1 (Host.col v) i)
      - broadcastInDim (α := Ideal .f32) S128x32000 ![0, 1] bcast_S128x1_S128x32000_0_1 (Host.log (Host.col s)) i
  rw [hp, hs, hs]

end Cert.Sample

end
-- ==== Proof.HostStretches1.lean ====
/-
  What the host operations around the calls of the first four steps leave, from any contents of the buffers they read.
-/
module

public import proofs.«01_k».proof.Proof.Gen.KernelIdeal.Launch
public import proofs.«01_k».proof.Proof.DrawMath
public import proofs.«01_k».proof.Proof.LogProbMath
public import proofs.«01_k».proof.Proof.Sampling
public import Idealize.ShloMosaic.Lib.StableHlo.Run
public import Idealize.ShloMosaic.Lib.Tactic

@[expose] public section

set_option maxRecDepth 16384

noncomputable section

namespace Cert.Sample

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-- Before the first call: the mean of the source tokens' embeddings, a column of ones, a zero sum, and the first input. -/
theorem opening :
    StableHlo.after hostOps0_3 (StableHlo.after hostOps0_2 (StableHlo.after hostOps0_1 (StableHlo.after hostOps0 W))) (Proc.devRef .tc main_v3) = Host.context (F := F) (W (Proc.devRef .tc main_arg1)) (W (Proc.devRef .tc main_arg0))
    ∧ StableHlo.after hostOps0_3 (StableHlo.after hostOps0_2 (StableHlo.after hostOps0_1 (StableHlo.after hostOps0 W))) (Proc.devRef .tc main_v4) = Host.fillI 1#32 ReferenceIdeal.Gen.facts.bcast_S_S128x1
    ∧ StableHlo.after hostOps0_3 (StableHlo.after hostOps0_2 (StableHlo.after hostOps0_1 (StableHlo.after hostOps0 W))) (Proc.devRef .tc main_v5) = Host.fill (F := F) 0x00000000#32 ReferenceIdeal.Gen.facts.bcast_S_S128
    ∧ StableHlo.after hostOps0_3 (StableHlo.after hostOps0_2 (StableHlo.after hostOps0_1 (StableHlo.after hostOps0 W))) (Proc.devRef .tc main_v8) = Host.embed (F := F) (W (Proc.devRef .tc main_arg1)) (W (Proc.devRef .tc main_arg0)) (Host.last 0 (by decide) (Host.fillI 1#32 ReferenceIdeal.Gen.facts.bcast_S_S128x1)) := by
  refine ⟨?_, ?_, ?_, ?_⟩ <;> simp only [hostOps0, hostOps0_1, hostOps0_2, hostOps0_3, TRef.binary, TRef.nullary, TRef.reshape, TRef.ternary, TRef.unary, TRef.toBuf, TRef.ofBuf, cast_eq] <;>
    after_results_simp <;> rfl

/-- Between the first step's second call and its third: the logits over the temperature, their softmax laid out and padded,
and the step's drawn numbers. -/
theorem ahead0 :
    StableHlo.after hostOps2_1 (StableHlo.after hostOps2 W) (Proc.devRef .tc main_v12) = Host.tempered (F := F) (W (Proc.devRef .tc main_v10))
    ∧ StableHlo.after hostOps2_1 (StableHlo.after hostOps2 W) (Proc.devRef .tc main_v28) = laidOut (F := F) (Host.softmax (Host.tempered (W (Proc.devRef .tc main_v10))))
    ∧ StableHlo.after hostOps2_1 (StableHlo.after hostOps2 W) (Proc.devRef .tc main_v25) = Host.drawn (F := F) (W (Proc.devRef .tc main_arg4)) 0 (by decide) := by
  refine ⟨?_, ?_, ?_⟩ <;> simp only [hostOps2, hostOps2_1, TRef.binary, TRef.nullary, TRef.reshape, TRef.ternary, TRef.unary, TRef.toBuf, TRef.ofBuf, cast_eq] <;>
    after_results_simp <;> rfl

/-- After the first step's third call: the log-probabilities with the drawn tokens' added, the tokens with a column more,
and the next step's input. -/
theorem behind0 :
    StableHlo.after hostOps3_4 (StableHlo.after hostOps3_3 (StableHlo.after hostOps3_2 (StableHlo.after hostOps3_1 (StableHlo.after hostOps3 W)))) (Proc.devRef .tc main_v42)
      = addf (F := F) (s := S128) (φ := .f32) (W (Proc.devRef .tc main_v5)) (shapeCast S128 (Host.tail (F := F) (W (Proc.devRef .tc main_v12)) (W (Proc.devRef .tc main_v29))) shapeCasts_S128x1_S128)
    ∧ StableHlo.after hostOps3_4 (StableHlo.after hostOps3_3 (StableHlo.after hostOps3_2 (StableHlo.after hostOps3_1 (StableHlo.after hostOps3 W)))) (Proc.devRef .tc main_v43) = Host.append 0 (by decide) (W (Proc.devRef .tc main_v4)) (W (Proc.devRef .tc main_v29))
    ∧ StableHlo.after hostOps3_4 (StableHlo.after hostOps3_3 (StableHlo.after hostOps3_2 (StableHlo.after hostOps3_1 (StableHlo.after hostOps3 W)))) (Proc.devRef .tc main_v47)
      = addf (F := F) (s := S128x1024) (φ := .f32)
        (Host.takeY (F := F) (W (Proc.devRef .tc main_arg1)) (Host.last 1 (by decide) (Host.append 0 (by decide) (W (Proc.devRef .tc main_v4)) (W (Proc.devRef .tc main_v29))))) (W (Proc.devRef .tc main_v3)) := by
  refine ⟨?_, ?_, ?_⟩ <;> simp only [hostOps3, hostOps3_1, hostOps3_2, hostOps3_3, hostOps3_4, TRef.binary, TRef.nullary, TRef.reshape, TRef.ternary, TRef.unary, TRef.toBuf, TRef.ofBuf, cast_eq] <;>
    after_results_simp <;> rfl

/-- Between the second step's second call and its third: the logits over the temperature, their softmax laid out and padded,
and the step's drawn numbers. -/
theorem ahead1 :
    StableHlo.after hostOps5_1 (StableHlo.after hostOps5 W) (Proc.devRef .tc main_v51) = Host.tempered (F := F) (W (Proc.devRef .tc main_v49))
    ∧ StableHlo.after hostOps5_1 (StableHlo.after hostOps5 W) (Proc.devRef .tc main_v67) = laidOut (F := F) (Host.softmax (Host.tempered (W (Proc.devRef .tc main_v49))))
    ∧ StableHlo.after hostOps5_1 (StableHlo.after hostOps5 W) (Proc.devRef .tc main_v64) = Host.drawn (F := F) (W (Proc.devRef .tc main_arg4)) 1 (by decide) := by
  refine ⟨?_, ?_, ?_⟩ <;> simp only [hostOps5, hostOps5_1, TRef.binary, TRef.nullary, TRef.reshape, TRef.ternary, TRef.unary, TRef.toBuf, TRef.ofBuf, cast_eq] <;>
    after_results_simp <;> rfl

/-- After the second step's third call: the log-probabilities with the drawn tokens' added, the tokens with a column more,
and the next step's input. -/
theorem behind1 :
    StableHlo.after hostOps6_4 (StableHlo.after hostOps6_3 (StableHlo.after hostOps6_2 (StableHlo.after hostOps6_1 (StableHlo.after hostOps6 W)))) (Proc.devRef .tc main_v81)
      = addf (F := F) (s := S128) (φ := .f32) (W (Proc.devRef .tc main_v42)) (shapeCast S128 (Host.tail (F := F) (W (Proc.devRef .tc main_v51)) (W (Proc.devRef .tc main_v68))) shapeCasts_S128x1_S128)
    ∧ StableHlo.after hostOps6_4 (StableHlo.after hostOps6_3 (StableHlo.after hostOps6_2 (StableHlo.after hostOps6_1 (StableHlo.after hostOps6 W)))) (Proc.devRef .tc main_v82) = Host.append 1 (by decide) (W (Proc.devRef .tc main_v43)) (W (Proc.devRef .tc main_v68))
    ∧ StableHlo.after hostOps6_4 (StableHlo.after hostOps6_3 (StableHlo.after hostOps6_2 (StableHlo.after hostOps6_1 (StableHlo.after hostOps6 W)))) (Proc.devRef .tc main_v86)
      = addf (F := F) (s := S128x1024) (φ := .f32)
        (Host.takeY (F := F) (W (Proc.devRef .tc main_arg1)) (Host.last 2 (by decide) (Host.append 1 (by decide) (W (Proc.devRef .tc main_v43)) (W (Proc.devRef .tc main_v68))))) (W (Proc.devRef .tc main_v3)) := by
  refine ⟨?_, ?_, ?_⟩ <;> simp only [hostOps6, hostOps6_1, hostOps6_2, hostOps6_3, hostOps6_4, TRef.binary, TRef.nullary, TRef.reshape, TRef.ternary, TRef.unary, TRef.toBuf, TRef.ofBuf, cast_eq] <;>
    after_results_simp <;> rfl

/-- Between the third step's second call and its third: the logits over the temperature, their softmax laid out and padded,
and the step's drawn numbers. -/
theorem ahead2 :
    StableHlo.after hostOps8_1 (StableHlo.after hostOps8 W) (Proc.devRef .tc main_v90) = Host.tempered (F := F) (W (Proc.devRef .tc main_v88))
    ∧ StableHlo.after hostOps8_1 (StableHlo.after hostOps8 W) (Proc.devRef .tc main_v106) = laidOut (F := F) (Host.softmax (Host.tempered (W (Proc.devRef .tc main_v88))))
    ∧ StableHlo.after hostOps8_1 (StableHlo.after hostOps8 W) (Proc.devRef .tc main_v103) = Host.drawn (F := F) (W (Proc.devRef .tc main_arg4)) 2 (by decide) := by
  refine ⟨?_, ?_, ?_⟩ <;> simp only [hostOps8, hostOps8_1, TRef.binary, TRef.nullary, TRef.reshape, TRef.ternary, TRef.unary, TRef.toBuf, TRef.ofBuf, cast_eq] <;>
    after_results_simp <;> rfl

/-- After the third step's third call: the log-probabilities with the drawn tokens' added, the tokens with a column more,
and the next step's input. -/
theorem behind2 :
    StableHlo.after hostOps9_4 (StableHlo.after hostOps9_3 (StableHlo.after hostOps9_2 (StableHlo.after hostOps9_1 (StableHlo.after hostOps9 W)))) (Proc.devRef .tc main_v120)
      = addf (F := F) (s := S128) (φ := .f32) (W (Proc.devRef .tc main_v81)) (shapeCast S128 (Host.tail (F := F) (W (Proc.devRef .tc main_v90)) (W (Proc.devRef .tc main_v107))) shapeCasts_S128x1_S128)
    ∧ StableHlo.after hostOps9_4 (StableHlo.after hostOps9_3 (StableHlo.after hostOps9_2 (StableHlo.after hostOps9_1 (StableHlo.after hostOps9 W)))) (Proc.devRef .tc main_v121) = Host.append 2 (by decide) (W (Proc.devRef .tc main_v82)) (W (Proc.devRef .tc main_v107))
    ∧ StableHlo.after hostOps9_4 (StableHlo.after hostOps9_3 (StableHlo.after hostOps9_2 (StableHlo.after hostOps9_1 (StableHlo.after hostOps9 W)))) (Proc.devRef .tc main_v125)
      = addf (F := F) (s := S128x1024) (φ := .f32)
        (Host.takeY (F := F) (W (Proc.devRef .tc main_arg1)) (Host.last 3 (by decide) (Host.append 2 (by decide) (W (Proc.devRef .tc main_v82)) (W (Proc.devRef .tc main_v107))))) (W (Proc.devRef .tc main_v3)) := by
  refine ⟨?_, ?_, ?_⟩ <;> simp only [hostOps9, hostOps9_1, hostOps9_2, hostOps9_3, hostOps9_4, TRef.binary, TRef.nullary, TRef.reshape, TRef.ternary, TRef.unary, TRef.toBuf, TRef.ofBuf, cast_eq] <;>
    after_results_simp <;> rfl

/-- Between the fourth step's second call and its third: the logits over the temperature, their softmax laid out and padded,
and the step's drawn numbers. -/
theorem ahead3 :
    StableHlo.after hostOps11_1 (StableHlo.after hostOps11 W) (Proc.devRef .tc main_v129) = Host.tempered (F := F) (W (Proc.devRef .tc main_v127))
    ∧ StableHlo.after hostOps11_1 (StableHlo.after hostOps11 W) (Proc.devRef .tc main_v145) = laidOut (F := F) (Host.softmax (Host.tempered (W (Proc.devRef .tc main_v127))))
    ∧ StableHlo.after hostOps11_1 (StableHlo.after hostOps11 W) (Proc.devRef .tc main_v142) = Host.drawn (F := F) (W (Proc.devRef .tc main_arg4)) 3 (by decide) := by
  refine ⟨?_, ?_, ?_⟩ <;> simp only [hostOps11, hostOps11_1, TRef.binary, TRef.nullary, TRef.reshape, TRef.ternary, TRef.unary, TRef.toBuf, TRef.ofBuf, cast_eq] <;>
    after_results_simp <;> rfl

/-- After the fourth step's third call: the log-probabilities with the drawn tokens' added, the tokens with a column more,
and the next step's input. -/
theorem behind3 :
    StableHlo.after hostOps12_4 (StableHlo.after hostOps12_3 (StableHlo.after hostOps12_2 (StableHlo.after hostOps12_1 (StableHlo.after hostOps12 W)))) (Proc.devRef .tc main_v159)
      = addf (F := F) (s := S128) (φ := .f32) (W (Proc.devRef .tc main_v120)) (shapeCast S128 (Host.tail (F := F) (W (Proc.devRef .tc main_v129)) (W (Proc.devRef .tc main_v146))) shapeCasts_S128x1_S128)
    ∧ StableHlo.after hostOps12_4 (StableHlo.after hostOps12_3 (StableHlo.after hostOps12_2 (StableHlo.after hostOps12_1 (StableHlo.after hostOps12 W)))) (Proc.devRef .tc main_v160) = Host.append 3 (by decide) (W (Proc.devRef .tc main_v121)) (W (Proc.devRef .tc main_v146))
    ∧ StableHlo.after hostOps12_4 (StableHlo.after hostOps12_3 (StableHlo.after hostOps12_2 (StableHlo.after hostOps12_1 (StableHlo.after hostOps12 W)))) (Proc.devRef .tc main_v164)
      = addf (F := F) (s := S128x1024) (φ := .f32)
        (Host.takeY (F := F) (W (Proc.devRef .tc main_arg1)) (Host.last 4 (by decide) (Host.append 3 (by decide) (W (Proc.devRef .tc main_v121)) (W (Proc.devRef .tc main_v146))))) (W (Proc.devRef .tc main_v3)) := by
  refine ⟨?_, ?_, ?_⟩ <;> simp only [hostOps12, hostOps12_1, hostOps12_2, hostOps12_3, hostOps12_4, TRef.binary, TRef.nullary, TRef.reshape, TRef.ternary, TRef.unary, TRef.toBuf, TRef.ofBuf, cast_eq] <;>
    after_results_simp <;> rfl

end Cert.Sample

end
-- ==== Proof.HostStretches2.lean ====
/-
  What the host operations around the calls of the second four steps leave, from any contents of the buffers they read.
-/
module

public import proofs.«01_k».proof.Proof.Gen.KernelIdeal.Launch
public import proofs.«01_k».proof.Proof.DrawMath
public import proofs.«01_k».proof.Proof.LogProbMath
public import proofs.«01_k».proof.Proof.Sampling
public import Idealize.ShloMosaic.Lib.StableHlo.Run
public import Idealize.ShloMosaic.Lib.Tactic

@[expose] public section

set_option maxRecDepth 16384

noncomputable section

namespace Cert.Sample

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-- Between the fifth step's second call and its third: the logits over the temperature, their softmax laid out and padded,
and the step's drawn numbers. -/
theorem ahead4 :
    StableHlo.after hostOps14_1 (StableHlo.after hostOps14 W) (Proc.devRef .tc main_v168) = Host.tempered (F := F) (W (Proc.devRef .tc main_v166))
    ∧ StableHlo.after hostOps14_1 (StableHlo.after hostOps14 W) (Proc.devRef .tc main_v184) = laidOut (F := F) (Host.softmax (Host.tempered (W (Proc.devRef .tc main_v166))))
    ∧ StableHlo.after hostOps14_1 (StableHlo.after hostOps14 W) (Proc.devRef .tc main_v181) = Host.drawn (F := F) (W (Proc.devRef .tc main_arg4)) 4 (by decide) := by
  refine ⟨?_, ?_, ?_⟩ <;> simp only [hostOps14, hostOps14_1, TRef.binary, TRef.nullary, TRef.reshape, TRef.ternary, TRef.unary, TRef.toBuf, TRef.ofBuf, cast_eq] <;>
    after_results_simp <;> rfl

/-- After the fifth step's third call: the log-probabilities with the drawn tokens' added, the tokens with a column more,
and the next step's input. -/
theorem behind4 :
    StableHlo.after hostOps15_4 (StableHlo.after hostOps15_3 (StableHlo.after hostOps15_2 (StableHlo.after hostOps15_1 (StableHlo.after hostOps15 W)))) (Proc.devRef .tc main_v198)
      = addf (F := F) (s := S128) (φ := .f32) (W (Proc.devRef .tc main_v159)) (shapeCast S128 (Host.tail (F := F) (W (Proc.devRef .tc main_v168)) (W (Proc.devRef .tc main_v185))) shapeCasts_S128x1_S128)
    ∧ StableHlo.after hostOps15_4 (StableHlo.after hostOps15_3 (StableHlo.after hostOps15_2 (StableHlo.after hostOps15_1 (StableHlo.after hostOps15 W)))) (Proc.devRef .tc main_v199) = Host.append 4 (by decide) (W (Proc.devRef .tc main_v160)) (W (Proc.devRef .tc main_v185))
    ∧ StableHlo.after hostOps15_4 (StableHlo.after hostOps15_3 (StableHlo.after hostOps15_2 (StableHlo.after hostOps15_1 (StableHlo.after hostOps15 W)))) (Proc.devRef .tc main_v203)
      = addf (F := F) (s := S128x1024) (φ := .f32)
        (Host.takeY (F := F) (W (Proc.devRef .tc main_arg1)) (Host.last 5 (by decide) (Host.append 4 (by decide) (W (Proc.devRef .tc main_v160)) (W (Proc.devRef .tc main_v185))))) (W (Proc.devRef .tc main_v3)) := by
  refine ⟨?_, ?_, ?_⟩ <;> simp only [hostOps15, hostOps15_1, hostOps15_2, hostOps15_3, hostOps15_4, TRef.binary, TRef.nullary, TRef.reshape, TRef.ternary, TRef.unary, TRef.toBuf, TRef.ofBuf, cast_eq] <;>
    after_results_simp <;> rfl

/-- Between the sixth step's second call and its third: the logits over the temperature, their softmax laid out and padded,
and the step's drawn numbers. -/
theorem ahead5 :
    StableHlo.after hostOps17_1 (StableHlo.after hostOps17 W) (Proc.devRef .tc main_v207) = Host.tempered (F := F) (W (Proc.devRef .tc main_v205))
    ∧ StableHlo.after hostOps17_1 (StableHlo.after hostOps17 W) (Proc.devRef .tc main_v223) = laidOut (F := F) (Host.softmax (Host.tempered (W (Proc.devRef .tc main_v205))))
    ∧ StableHlo.after hostOps17_1 (StableHlo.after hostOps17 W) (Proc.devRef .tc main_v220) = Host.drawn (F := F) (W (Proc.devRef .tc main_arg4)) 5 (by decide) := by
  refine ⟨?_, ?_, ?_⟩ <;> simp only [hostOps17, hostOps17_1, TRef.binary, TRef.nullary, TRef.reshape, TRef.ternary, TRef.unary, TRef.toBuf, TRef.ofBuf, cast_eq] <;>
    after_results_simp <;> rfl

/-- After the sixth step's third call: the log-probabilities with the drawn tokens' added, the tokens with a column more,
and the next step's input. -/
theorem behind5 :
    StableHlo.after hostOps18_4 (StableHlo.after hostOps18_3 (StableHlo.after hostOps18_2 (StableHlo.after hostOps18_1 (StableHlo.after hostOps18 W)))) (Proc.devRef .tc main_v237)
      = addf (F := F) (s := S128) (φ := .f32) (W (Proc.devRef .tc main_v198)) (shapeCast S128 (Host.tail (F := F) (W (Proc.devRef .tc main_v207)) (W (Proc.devRef .tc main_v224))) shapeCasts_S128x1_S128)
    ∧ StableHlo.after hostOps18_4 (StableHlo.after hostOps18_3 (StableHlo.after hostOps18_2 (StableHlo.after hostOps18_1 (StableHlo.after hostOps18 W)))) (Proc.devRef .tc main_v238) = Host.append 5 (by decide) (W (Proc.devRef .tc main_v199)) (W (Proc.devRef .tc main_v224))
    ∧ StableHlo.after hostOps18_4 (StableHlo.after hostOps18_3 (StableHlo.after hostOps18_2 (StableHlo.after hostOps18_1 (StableHlo.after hostOps18 W)))) (Proc.devRef .tc main_v242)
      = addf (F := F) (s := S128x1024) (φ := .f32)
        (Host.takeY (F := F) (W (Proc.devRef .tc main_arg1)) (Host.last 6 (by decide) (Host.append 5 (by decide) (W (Proc.devRef .tc main_v199)) (W (Proc.devRef .tc main_v224))))) (W (Proc.devRef .tc main_v3)) := by
  refine ⟨?_, ?_, ?_⟩ <;> simp only [hostOps18, hostOps18_1, hostOps18_2, hostOps18_3, hostOps18_4, TRef.binary, TRef.nullary, TRef.reshape, TRef.ternary, TRef.unary, TRef.toBuf, TRef.ofBuf, cast_eq] <;>
    after_results_simp <;> rfl

/-- Between the seventh step's second call and its third: the logits over the temperature, their softmax laid out and padded,
and the step's drawn numbers. -/
theorem ahead6 :
    StableHlo.after hostOps20_1 (StableHlo.after hostOps20 W) (Proc.devRef .tc main_v246) = Host.tempered (F := F) (W (Proc.devRef .tc main_v244))
    ∧ StableHlo.after hostOps20_1 (StableHlo.after hostOps20 W) (Proc.devRef .tc main_v262) = laidOut (F := F) (Host.softmax (Host.tempered (W (Proc.devRef .tc main_v244))))
    ∧ StableHlo.after hostOps20_1 (StableHlo.after hostOps20 W) (Proc.devRef .tc main_v259) = Host.drawn (F := F) (W (Proc.devRef .tc main_arg4)) 6 (by decide) := by
  refine ⟨?_, ?_, ?_⟩ <;> simp only [hostOps20, hostOps20_1, TRef.binary, TRef.nullary, TRef.reshape, TRef.ternary, TRef.unary, TRef.toBuf, TRef.ofBuf, cast_eq] <;>
    after_results_simp <;> rfl

/-- After the seventh step's third call: the log-probabilities with the drawn tokens' added, the tokens with a column more,
and the next step's input. -/
theorem behind6 :
    StableHlo.after hostOps21_4 (StableHlo.after hostOps21_3 (StableHlo.after hostOps21_2 (StableHlo.after hostOps21_1 (StableHlo.after hostOps21 W)))) (Proc.devRef .tc main_v276)
      = addf (F := F) (s := S128) (φ := .f32) (W (Proc.devRef .tc main_v237)) (shapeCast S128 (Host.tail (F := F) (W (Proc.devRef .tc main_v246)) (W (Proc.devRef .tc main_v263))) shapeCasts_S128x1_S128)
    ∧ StableHlo.after hostOps21_4 (StableHlo.after hostOps21_3 (StableHlo.after hostOps21_2 (StableHlo.after hostOps21_1 (StableHlo.after hostOps21 W)))) (Proc.devRef .tc main_v277) = Host.append 6 (by decide) (W (Proc.devRef .tc main_v238)) (W (Proc.devRef .tc main_v263))
    ∧ StableHlo.after hostOps21_4 (StableHlo.after hostOps21_3 (StableHlo.after hostOps21_2 (StableHlo.after hostOps21_1 (StableHlo.after hostOps21 W)))) (Proc.devRef .tc main_v281)
      = addf (F := F) (s := S128x1024) (φ := .f32)
        (Host.takeY (F := F) (W (Proc.devRef .tc main_arg1)) (Host.last 7 (by decide) (Host.append 6 (by decide) (W (Proc.devRef .tc main_v238)) (W (Proc.devRef .tc main_v263))))) (W (Proc.devRef .tc main_v3)) := by
  refine ⟨?_, ?_, ?_⟩ <;> simp only [hostOps21, hostOps21_1, hostOps21_2, hostOps21_3, hostOps21_4, TRef.binary, TRef.nullary, TRef.reshape, TRef.ternary, TRef.unary, TRef.toBuf, TRef.ofBuf, cast_eq] <;>
    after_results_simp <;> rfl

/-- Between the eighth step's second call and its third: the logits over the temperature, their softmax laid out and padded,
and the step's drawn numbers. -/
theorem ahead7 :
    StableHlo.after hostOps23_1 (StableHlo.after hostOps23 W) (Proc.devRef .tc main_v285) = Host.tempered (F := F) (W (Proc.devRef .tc main_v283))
    ∧ StableHlo.after hostOps23_1 (StableHlo.after hostOps23 W) (Proc.devRef .tc main_v301) = laidOut (F := F) (Host.softmax (Host.tempered (W (Proc.devRef .tc main_v283))))
    ∧ StableHlo.after hostOps23_1 (StableHlo.after hostOps23 W) (Proc.devRef .tc main_v298) = Host.drawn (F := F) (W (Proc.devRef .tc main_arg4)) 7 (by decide) := by
  refine ⟨?_, ?_, ?_⟩ <;> simp only [hostOps23, hostOps23_1, TRef.binary, TRef.nullary, TRef.reshape, TRef.ternary, TRef.unary, TRef.toBuf, TRef.ofBuf, cast_eq] <;>
    after_results_simp <;> rfl

/-- After the eighth step's third call: the log-probabilities with the drawn tokens' added, the tokens with a column more,
and the next step's input. -/
theorem behind7 :
    StableHlo.after hostOps24_4 (StableHlo.after hostOps24_3 (StableHlo.after hostOps24_2 (StableHlo.after hostOps24_1 (StableHlo.after hostOps24 W)))) (Proc.devRef .tc main_v315)
      = addf (F := F) (s := S128) (φ := .f32) (W (Proc.devRef .tc main_v276)) (shapeCast S128 (Host.tail (F := F) (W (Proc.devRef .tc main_v285)) (W (Proc.devRef .tc main_v302))) shapeCasts_S128x1_S128)
    ∧ StableHlo.after hostOps24_4 (StableHlo.after hostOps24_3 (StableHlo.after hostOps24_2 (StableHlo.after hostOps24_1 (StableHlo.after hostOps24 W)))) (Proc.devRef .tc main_v316) = Host.append 7 (by decide) (W (Proc.devRef .tc main_v277)) (W (Proc.devRef .tc main_v302))
    ∧ StableHlo.after hostOps24_4 (StableHlo.after hostOps24_3 (StableHlo.after hostOps24_2 (StableHlo.after hostOps24_1 (StableHlo.after hostOps24 W)))) (Proc.devRef .tc main_v320)
      = addf (F := F) (s := S128x1024) (φ := .f32)
        (Host.takeY (F := F) (W (Proc.devRef .tc main_arg1)) (Host.last 8 (by decide) (Host.append 7 (by decide) (W (Proc.devRef .tc main_v277)) (W (Proc.devRef .tc main_v302))))) (W (Proc.devRef .tc main_v3)) := by
  refine ⟨?_, ?_, ?_⟩ <;> simp only [hostOps24, hostOps24_1, hostOps24_2, hostOps24_3, hostOps24_4, TRef.binary, TRef.nullary, TRef.reshape, TRef.ternary, TRef.unary, TRef.toBuf, TRef.ofBuf, cast_eq] <;>
    after_results_simp <;> rfl

end Cert.Sample

end
-- ==== Proof.HostStretches3.lean ====
/-
  What the host operations around the calls of the third four steps leave, from any contents of the buffers they read.
-/
module

public import proofs.«01_k».proof.Proof.Gen.KernelIdeal.Launch
public import proofs.«01_k».proof.Proof.DrawMath
public import proofs.«01_k».proof.Proof.LogProbMath
public import proofs.«01_k».proof.Proof.Sampling
public import Idealize.ShloMosaic.Lib.StableHlo.Run
public import Idealize.ShloMosaic.Lib.Tactic

@[expose] public section

set_option maxRecDepth 16384

noncomputable section

namespace Cert.Sample

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-- Between the ninth step's second call and its third: the logits over the temperature, their softmax laid out and padded,
and the step's drawn numbers. -/
theorem ahead8 :
    StableHlo.after hostOps26_1 (StableHlo.after hostOps26 W) (Proc.devRef .tc main_v324) = Host.tempered (F := F) (W (Proc.devRef .tc main_v322))
    ∧ StableHlo.after hostOps26_1 (StableHlo.after hostOps26 W) (Proc.devRef .tc main_v340) = laidOut (F := F) (Host.softmax (Host.tempered (W (Proc.devRef .tc main_v322))))
    ∧ StableHlo.after hostOps26_1 (StableHlo.after hostOps26 W) (Proc.devRef .tc main_v337) = Host.drawn (F := F) (W (Proc.devRef .tc main_arg4)) 8 (by decide) := by
  refine ⟨?_, ?_, ?_⟩ <;> simp only [hostOps26, hostOps26_1, TRef.binary, TRef.nullary, TRef.reshape, TRef.ternary, TRef.unary, TRef.toBuf, TRef.ofBuf, cast_eq] <;>
    after_results_simp <;> rfl

/-- After the ninth step's third call: the log-probabilities with the drawn tokens' added, the tokens with a column more,
and the next step's input. -/
theorem behind8 :
    StableHlo.after hostOps27_4 (StableHlo.after hostOps27_3 (StableHlo.after hostOps27_2 (StableHlo.after hostOps27_1 (StableHlo.after hostOps27 W)))) (Proc.devRef .tc main_v354)
      = addf (F := F) (s := S128) (φ := .f32) (W (Proc.devRef .tc main_v315)) (shapeCast S128 (Host.tail (F := F) (W (Proc.devRef .tc main_v324)) (W (Proc.devRef .tc main_v341))) shapeCasts_S128x1_S128)
    ∧ StableHlo.after hostOps27_4 (StableHlo.after hostOps27_3 (StableHlo.after hostOps27_2 (StableHlo.after hostOps27_1 (StableHlo.after hostOps27 W)))) (Proc.devRef .tc main_v355) = Host.append 8 (by decide) (W (Proc.devRef .tc main_v316)) (W (Proc.devRef .tc main_v341))
    ∧ StableHlo.after hostOps27_4 (StableHlo.after hostOps27_3 (StableHlo.after hostOps27_2 (StableHlo.after hostOps27_1 (StableHlo.after hostOps27 W)))) (Proc.devRef .tc main_v359)
      = addf (F := F) (s := S128x1024) (φ := .f32)
        (Host.takeY (F := F) (W (Proc.devRef .tc main_arg1)) (Host.last 9 (by decide) (Host.append 8 (by decide) (W (Proc.devRef .tc main_v316)) (W (Proc.devRef .tc main_v341))))) (W (Proc.devRef .tc main_v3)) := by
  refine ⟨?_, ?_, ?_⟩ <;> simp only [hostOps27, hostOps27_1, hostOps27_2, hostOps27_3, hostOps27_4, TRef.binary, TRef.nullary, TRef.reshape, TRef.ternary, TRef.unary, TRef.toBuf, TRef.ofBuf, cast_eq] <;>
    after_results_simp <;> rfl

/-- Between the tenth step's second call and its third: the logits over the temperature, their softmax laid out and padded,
and the step's drawn numbers. -/
theorem ahead9 :
    StableHlo.after hostOps29_1 (StableHlo.after hostOps29 W) (Proc.devRef .tc main_v363) = Host.tempered (F := F) (W (Proc.devRef .tc main_v361))
    ∧ StableHlo.after hostOps29_1 (StableHlo.after hostOps29 W) (Proc.devRef .tc main_v379) = laidOut (F := F) (Host.softmax (Host.tempered (W (Proc.devRef .tc main_v361))))
    ∧ StableHlo.after hostOps29_1 (StableHlo.after hostOps29 W) (Proc.devRef .tc main_v376) = Host.drawn (F := F) (W (Proc.devRef .tc main_arg4)) 9 (by decide) := by
  refine ⟨?_, ?_, ?_⟩ <;> simp only [hostOps29, hostOps29_1, TRef.binary, TRef.nullary, TRef.reshape, TRef.ternary, TRef.unary, TRef.toBuf, TRef.ofBuf, cast_eq] <;>
    after_results_simp <;> rfl

/-- After the tenth step's third call: the log-probabilities with the drawn tokens' added, the tokens with a column more,
and the next step's input. -/
theorem behind9 :
    StableHlo.after hostOps30_4 (StableHlo.after hostOps30_3 (StableHlo.after hostOps30_2 (StableHlo.after hostOps30_1 (StableHlo.after hostOps30 W)))) (Proc.devRef .tc main_v393)
      = addf (F := F) (s := S128) (φ := .f32) (W (Proc.devRef .tc main_v354)) (shapeCast S128 (Host.tail (F := F) (W (Proc.devRef .tc main_v363)) (W (Proc.devRef .tc main_v380))) shapeCasts_S128x1_S128)
    ∧ StableHlo.after hostOps30_4 (StableHlo.after hostOps30_3 (StableHlo.after hostOps30_2 (StableHlo.after hostOps30_1 (StableHlo.after hostOps30 W)))) (Proc.devRef .tc main_v394) = Host.append 9 (by decide) (W (Proc.devRef .tc main_v355)) (W (Proc.devRef .tc main_v380))
    ∧ StableHlo.after hostOps30_4 (StableHlo.after hostOps30_3 (StableHlo.after hostOps30_2 (StableHlo.after hostOps30_1 (StableHlo.after hostOps30 W)))) (Proc.devRef .tc main_v398)
      = addf (F := F) (s := S128x1024) (φ := .f32)
        (Host.takeY (F := F) (W (Proc.devRef .tc main_arg1)) (Host.last 10 (by decide) (Host.append 9 (by decide) (W (Proc.devRef .tc main_v355)) (W (Proc.devRef .tc main_v380))))) (W (Proc.devRef .tc main_v3)) := by
  refine ⟨?_, ?_, ?_⟩ <;> simp only [hostOps30, hostOps30_1, hostOps30_2, hostOps30_3, hostOps30_4, TRef.binary, TRef.nullary, TRef.reshape, TRef.ternary, TRef.unary, TRef.toBuf, TRef.ofBuf, cast_eq] <;>
    after_results_simp <;> rfl

/-- Between the eleventh step's second call and its third: the logits over the temperature, their softmax laid out and padded,
and the step's drawn numbers. -/
theorem ahead10 :
    StableHlo.after hostOps32_1 (StableHlo.after hostOps32 W) (Proc.devRef .tc main_v402) = Host.tempered (F := F) (W (Proc.devRef .tc main_v400))
    ∧ StableHlo.after hostOps32_1 (StableHlo.after hostOps32 W) (Proc.devRef .tc main_v418) = laidOut (F := F) (Host.softmax (Host.tempered (W (Proc.devRef .tc main_v400))))
    ∧ StableHlo.after hostOps32_1 (StableHlo.after hostOps32 W) (Proc.devRef .tc main_v415) = Host.drawn (F := F) (W (Proc.devRef .tc main_arg4)) 10 (by decide) := by
  refine ⟨?_, ?_, ?_⟩ <;> simp only [hostOps32, hostOps32_1, TRef.binary, TRef.nullary, TRef.reshape, TRef.ternary, TRef.unary, TRef.toBuf, TRef.ofBuf, cast_eq] <;>
    after_results_simp <;> rfl

/-- After the eleventh step's third call: the log-probabilities with the drawn tokens' added, the tokens with a column more,
and the next step's input. -/
theorem behind10 :
    StableHlo.after hostOps33_4 (StableHlo.after hostOps33_3 (StableHlo.after hostOps33_2 (StableHlo.after hostOps33_1 (StableHlo.after hostOps33 W)))) (Proc.devRef .tc main_v432)
      = addf (F := F) (s := S128) (φ := .f32) (W (Proc.devRef .tc main_v393)) (shapeCast S128 (Host.tail (F := F) (W (Proc.devRef .tc main_v402)) (W (Proc.devRef .tc main_v419))) shapeCasts_S128x1_S128)
    ∧ StableHlo.after hostOps33_4 (StableHlo.after hostOps33_3 (StableHlo.after hostOps33_2 (StableHlo.after hostOps33_1 (StableHlo.after hostOps33 W)))) (Proc.devRef .tc main_v433) = Host.append 10 (by decide) (W (Proc.devRef .tc main_v394)) (W (Proc.devRef .tc main_v419))
    ∧ StableHlo.after hostOps33_4 (StableHlo.after hostOps33_3 (StableHlo.after hostOps33_2 (StableHlo.after hostOps33_1 (StableHlo.after hostOps33 W)))) (Proc.devRef .tc main_v437)
      = addf (F := F) (s := S128x1024) (φ := .f32)
        (Host.takeY (F := F) (W (Proc.devRef .tc main_arg1)) (Host.last 11 (by decide) (Host.append 10 (by decide) (W (Proc.devRef .tc main_v394)) (W (Proc.devRef .tc main_v419))))) (W (Proc.devRef .tc main_v3)) := by
  refine ⟨?_, ?_, ?_⟩ <;> simp only [hostOps33, hostOps33_1, hostOps33_2, hostOps33_3, hostOps33_4, TRef.binary, TRef.nullary, TRef.reshape, TRef.ternary, TRef.unary, TRef.toBuf, TRef.ofBuf, cast_eq] <;>
    after_results_simp <;> rfl

/-- Between the twelfth step's second call and its third: the logits over the temperature, their softmax laid out and padded,
and the step's drawn numbers. -/
theorem ahead11 :
    StableHlo.after hostOps35_1 (StableHlo.after hostOps35 W) (Proc.devRef .tc main_v441) = Host.tempered (F := F) (W (Proc.devRef .tc main_v439))
    ∧ StableHlo.after hostOps35_1 (StableHlo.after hostOps35 W) (Proc.devRef .tc main_v457) = laidOut (F := F) (Host.softmax (Host.tempered (W (Proc.devRef .tc main_v439))))
    ∧ StableHlo.after hostOps35_1 (StableHlo.after hostOps35 W) (Proc.devRef .tc main_v454) = Host.drawn (F := F) (W (Proc.devRef .tc main_arg4)) 11 (by decide) := by
  refine ⟨?_, ?_, ?_⟩ <;> simp only [hostOps35, hostOps35_1, TRef.binary, TRef.nullary, TRef.reshape, TRef.ternary, TRef.unary, TRef.toBuf, TRef.ofBuf, cast_eq] <;>
    after_results_simp <;> rfl

/-- After the twelfth step's third call: the log-probabilities with the drawn tokens' added, the tokens with a column more,
and the next step's input. -/
theorem behind11 :
    StableHlo.after hostOps36_4 (StableHlo.after hostOps36_3 (StableHlo.after hostOps36_2 (StableHlo.after hostOps36_1 (StableHlo.after hostOps36 W)))) (Proc.devRef .tc main_v471)
      = addf (F := F) (s := S128) (φ := .f32) (W (Proc.devRef .tc main_v432)) (shapeCast S128 (Host.tail (F := F) (W (Proc.devRef .tc main_v441)) (W (Proc.devRef .tc main_v458))) shapeCasts_S128x1_S128)
    ∧ StableHlo.after hostOps36_4 (StableHlo.after hostOps36_3 (StableHlo.after hostOps36_2 (StableHlo.after hostOps36_1 (StableHlo.after hostOps36 W)))) (Proc.devRef .tc main_v472) = Host.append 11 (by decide) (W (Proc.devRef .tc main_v433)) (W (Proc.devRef .tc main_v458))
    ∧ StableHlo.after hostOps36_4 (StableHlo.after hostOps36_3 (StableHlo.after hostOps36_2 (StableHlo.after hostOps36_1 (StableHlo.after hostOps36 W)))) (Proc.devRef .tc main_v476)
      = addf (F := F) (s := S128x1024) (φ := .f32)
        (Host.takeY (F := F) (W (Proc.devRef .tc main_arg1)) (Host.last 12 (by decide) (Host.append 11 (by decide) (W (Proc.devRef .tc main_v433)) (W (Proc.devRef .tc main_v458))))) (W (Proc.devRef .tc main_v3)) := by
  refine ⟨?_, ?_, ?_⟩ <;> simp only [hostOps36, hostOps36_1, hostOps36_2, hostOps36_3, hostOps36_4, TRef.binary, TRef.nullary, TRef.reshape, TRef.ternary, TRef.unary, TRef.toBuf, TRef.ofBuf, cast_eq] <;>
    after_results_simp <;> rfl

end Cert.Sample

end
-- ==== Proof.HostStretches4.lean ====
/-
  What the host operations around the calls of the fourth four steps leave, from any contents of the buffers they read.
-/
module

public import proofs.«01_k».proof.Proof.Gen.KernelIdeal.Launch
public import proofs.«01_k».proof.Proof.DrawMath
public import proofs.«01_k».proof.Proof.LogProbMath
public import proofs.«01_k».proof.Proof.Sampling
public import Idealize.ShloMosaic.Lib.StableHlo.Run
public import Idealize.ShloMosaic.Lib.Tactic

@[expose] public section

set_option maxRecDepth 16384

noncomputable section

namespace Cert.Sample

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-- Between the thirteenth step's second call and its third: the logits over the temperature, their softmax laid out and padded,
and the step's drawn numbers. -/
theorem ahead12 :
    StableHlo.after hostOps38_1 (StableHlo.after hostOps38 W) (Proc.devRef .tc main_v480) = Host.tempered (F := F) (W (Proc.devRef .tc main_v478))
    ∧ StableHlo.after hostOps38_1 (StableHlo.after hostOps38 W) (Proc.devRef .tc main_v496) = laidOut (F := F) (Host.softmax (Host.tempered (W (Proc.devRef .tc main_v478))))
    ∧ StableHlo.after hostOps38_1 (StableHlo.after hostOps38 W) (Proc.devRef .tc main_v493) = Host.drawn (F := F) (W (Proc.devRef .tc main_arg4)) 12 (by decide) := by
  refine ⟨?_, ?_, ?_⟩ <;> simp only [hostOps38, hostOps38_1, TRef.binary, TRef.nullary, TRef.reshape, TRef.ternary, TRef.unary, TRef.toBuf, TRef.ofBuf, cast_eq] <;>
    after_results_simp <;> rfl

/-- After the thirteenth step's third call: the log-probabilities with the drawn tokens' added, the tokens with a column more,
and the next step's input. -/
theorem behind12 :
    StableHlo.after hostOps39_4 (StableHlo.after hostOps39_3 (StableHlo.after hostOps39_2 (StableHlo.after hostOps39_1 (StableHlo.after hostOps39 W)))) (Proc.devRef .tc main_v510)
      = addf (F := F) (s := S128) (φ := .f32) (W (Proc.devRef .tc main_v471)) (shapeCast S128 (Host.tail (F := F) (W (Proc.devRef .tc main_v480)) (W (Proc.devRef .tc main_v497))) shapeCasts_S128x1_S128)
    ∧ StableHlo.after hostOps39_4 (StableHlo.after hostOps39_3 (StableHlo.after hostOps39_2 (StableHlo.after hostOps39_1 (StableHlo.after hostOps39 W)))) (Proc.devRef .tc main_v511) = Host.append 12 (by decide) (W (Proc.devRef .tc main_v472)) (W (Proc.devRef .tc main_v497))
    ∧ StableHlo.after hostOps39_4 (StableHlo.after hostOps39_3 (StableHlo.after hostOps39_2 (StableHlo.after hostOps39_1 (StableHlo.after hostOps39 W)))) (Proc.devRef .tc main_v515)
      = addf (F := F) (s := S128x1024) (φ := .f32)
        (Host.takeY (F := F) (W (Proc.devRef .tc main_arg1)) (Host.last 13 (by decide) (Host.append 12 (by decide) (W (Proc.devRef .tc main_v472)) (W (Proc.devRef .tc main_v497))))) (W (Proc.devRef .tc main_v3)) := by
  refine ⟨?_, ?_, ?_⟩ <;> simp only [hostOps39, hostOps39_1, hostOps39_2, hostOps39_3, hostOps39_4, TRef.binary, TRef.nullary, TRef.reshape, TRef.ternary, TRef.unary, TRef.toBuf, TRef.ofBuf, cast_eq] <;>
    after_results_simp <;> rfl

/-- Between the fourteenth step's second call and its third: the logits over the temperature, their softmax laid out and padded,
and the step's drawn numbers. -/
theorem ahead13 :
    StableHlo.after hostOps41_1 (StableHlo.after hostOps41 W) (Proc.devRef .tc main_v519) = Host.tempered (F := F) (W (Proc.devRef .tc main_v517))
    ∧ StableHlo.after hostOps41_1 (StableHlo.after hostOps41 W) (Proc.devRef .tc main_v535) = laidOut (F := F) (Host.softmax (Host.tempered (W (Proc.devRef .tc main_v517))))
    ∧ StableHlo.after hostOps41_1 (StableHlo.after hostOps41 W) (Proc.devRef .tc main_v532) = Host.drawn (F := F) (W (Proc.devRef .tc main_arg4)) 13 (by decide) := by
  refine ⟨?_, ?_, ?_⟩ <;> simp only [hostOps41, hostOps41_1, TRef.binary, TRef.nullary, TRef.reshape, TRef.ternary, TRef.unary, TRef.toBuf, TRef.ofBuf, cast_eq] <;>
    after_results_simp <;> rfl

/-- After the fourteenth step's third call: the log-probabilities with the drawn tokens' added, the tokens with a column more,
and the next step's input. -/
theorem behind13 :
    StableHlo.after hostOps42_4 (StableHlo.after hostOps42_3 (StableHlo.after hostOps42_2 (StableHlo.after hostOps42_1 (StableHlo.after hostOps42 W)))) (Proc.devRef .tc main_v549)
      = addf (F := F) (s := S128) (φ := .f32) (W (Proc.devRef .tc main_v510)) (shapeCast S128 (Host.tail (F := F) (W (Proc.devRef .tc main_v519)) (W (Proc.devRef .tc main_v536))) shapeCasts_S128x1_S128)
    ∧ StableHlo.after hostOps42_4 (StableHlo.after hostOps42_3 (StableHlo.after hostOps42_2 (StableHlo.after hostOps42_1 (StableHlo.after hostOps42 W)))) (Proc.devRef .tc main_v550) = Host.append 13 (by decide) (W (Proc.devRef .tc main_v511)) (W (Proc.devRef .tc main_v536))
    ∧ StableHlo.after hostOps42_4 (StableHlo.after hostOps42_3 (StableHlo.after hostOps42_2 (StableHlo.after hostOps42_1 (StableHlo.after hostOps42 W)))) (Proc.devRef .tc main_v554)
      = addf (F := F) (s := S128x1024) (φ := .f32)
        (Host.takeY (F := F) (W (Proc.devRef .tc main_arg1)) (Host.last 14 (by decide) (Host.append 13 (by decide) (W (Proc.devRef .tc main_v511)) (W (Proc.devRef .tc main_v536))))) (W (Proc.devRef .tc main_v3)) := by
  refine ⟨?_, ?_, ?_⟩ <;> simp only [hostOps42, hostOps42_1, hostOps42_2, hostOps42_3, hostOps42_4, TRef.binary, TRef.nullary, TRef.reshape, TRef.ternary, TRef.unary, TRef.toBuf, TRef.ofBuf, cast_eq] <;>
    after_results_simp <;> rfl

/-- Between the fifteenth step's second call and its third: the logits over the temperature, their softmax laid out and padded,
and the step's drawn numbers. -/
theorem ahead14 :
    StableHlo.after hostOps44_1 (StableHlo.after hostOps44 W) (Proc.devRef .tc main_v558) = Host.tempered (F := F) (W (Proc.devRef .tc main_v556))
    ∧ StableHlo.after hostOps44_1 (StableHlo.after hostOps44 W) (Proc.devRef .tc main_v574) = laidOut (F := F) (Host.softmax (Host.tempered (W (Proc.devRef .tc main_v556))))
    ∧ StableHlo.after hostOps44_1 (StableHlo.after hostOps44 W) (Proc.devRef .tc main_v571) = Host.drawn (F := F) (W (Proc.devRef .tc main_arg4)) 14 (by decide) := by
  refine ⟨?_, ?_, ?_⟩ <;> simp only [hostOps44, hostOps44_1, TRef.binary, TRef.nullary, TRef.reshape, TRef.ternary, TRef.unary, TRef.toBuf, TRef.ofBuf, cast_eq] <;>
    after_results_simp <;> rfl

/-- After the fifteenth step's third call: the log-probabilities with the drawn tokens' added, the tokens with a column more,
and the next step's input. -/
theorem behind14 :
    StableHlo.after hostOps45_4 (StableHlo.after hostOps45_3 (StableHlo.after hostOps45_2 (StableHlo.after hostOps45_1 (StableHlo.after hostOps45 W)))) (Proc.devRef .tc main_v588)
      = addf (F := F) (s := S128) (φ := .f32) (W (Proc.devRef .tc main_v549)) (shapeCast S128 (Host.tail (F := F) (W (Proc.devRef .tc main_v558)) (W (Proc.devRef .tc main_v575))) shapeCasts_S128x1_S128)
    ∧ StableHlo.after hostOps45_4 (StableHlo.after hostOps45_3 (StableHlo.after hostOps45_2 (StableHlo.after hostOps45_1 (StableHlo.after hostOps45 W)))) (Proc.devRef .tc main_v589) = Host.append 14 (by decide) (W (Proc.devRef .tc main_v550)) (W (Proc.devRef .tc main_v575))
    ∧ StableHlo.after hostOps45_4 (StableHlo.after hostOps45_3 (StableHlo.after hostOps45_2 (StableHlo.after hostOps45_1 (StableHlo.after hostOps45 W)))) (Proc.devRef .tc main_v593)
      = addf (F := F) (s := S128x1024) (φ := .f32)
        (Host.takeY (F := F) (W (Proc.devRef .tc main_arg1)) (Host.last 15 (by decide) (Host.append 14 (by decide) (W (Proc.devRef .tc main_v550)) (W (Proc.devRef .tc main_v575))))) (W (Proc.devRef .tc main_v3)) := by
  refine ⟨?_, ?_, ?_⟩ <;> simp only [hostOps45, hostOps45_1, hostOps45_2, hostOps45_3, hostOps45_4, TRef.binary, TRef.nullary, TRef.reshape, TRef.ternary, TRef.unary, TRef.toBuf, TRef.ofBuf, cast_eq] <;>
    after_results_simp <;> rfl

/-- Between the sixteenth step's second call and its third: the logits over the temperature, their softmax laid out and padded,
and the step's drawn numbers. -/
theorem ahead15 :
    StableHlo.after hostOps47_1 (StableHlo.after hostOps47 W) (Proc.devRef .tc main_v597) = Host.tempered (F := F) (W (Proc.devRef .tc main_v595))
    ∧ StableHlo.after hostOps47_1 (StableHlo.after hostOps47 W) (Proc.devRef .tc main_v613) = laidOut (F := F) (Host.softmax (Host.tempered (W (Proc.devRef .tc main_v595))))
    ∧ StableHlo.after hostOps47_1 (StableHlo.after hostOps47 W) (Proc.devRef .tc main_v610) = Host.drawn (F := F) (W (Proc.devRef .tc main_arg4)) 15 (by decide) := by
  refine ⟨?_, ?_, ?_⟩ <;> simp only [hostOps47, hostOps47_1, TRef.binary, TRef.nullary, TRef.reshape, TRef.ternary, TRef.unary, TRef.toBuf, TRef.ofBuf, cast_eq] <;>
    after_results_simp <;> rfl

/-- After the sixteenth step's third call: the log-probabilities with the drawn tokens' added, the tokens with a column more. -/
theorem behind15 :
    StableHlo.after hostOps48_2 (StableHlo.after hostOps48_1 (StableHlo.after hostOps48 W)) (Proc.devRef .tc main_v627)
      = addf (F := F) (s := S128) (φ := .f32) (W (Proc.devRef .tc main_v588)) (shapeCast S128 (Host.tail (F := F) (W (Proc.devRef .tc main_v597)) (W (Proc.devRef .tc main_v614))) shapeCasts_S128x1_S128)
    ∧ StableHlo.after hostOps48_2 (StableHlo.after hostOps48_1 (StableHlo.after hostOps48 W)) (Proc.devRef .tc main_v628) = Host.append 15 (by decide) (W (Proc.devRef .tc main_v589)) (W (Proc.devRef .tc main_v614)) := by
  refine ⟨?_, ?_⟩ <;> simp only [hostOps48, hostOps48_1, hostOps48_2, TRef.binary, TRef.nullary, TRef.reshape, TRef.ternary, TRef.unary, TRef.toBuf, TRef.ofBuf, cast_eq] <;>
    after_results_simp <;> rfl

end Cert.Sample

end
-- ==== Proof.KernelSteps.lean ====
/-
  The sixteen steps of the kernel's run, over the extended reals: what its buffers hold when a step begins, from what they
  held when the step before it began.
-/
module

public import proofs.«01_k».proof.Proof.HiddenArrays
public import proofs.«01_k».proof.Proof.LogitsArrays
public import proofs.«01_k».proof.Proof.TokenArrays
public import proofs.«01_k».proof.Proof.HostStretches1
public import proofs.«01_k».proof.Proof.HostStretches2
public import proofs.«01_k».proof.Proof.HostStretches3
public import proofs.«01_k».proof.Proof.HostStretches4
public import proofs.«01_k».proof.Proof.Gen.KernelIdeal.Frame.Fold1

@[expose] public section

set_option maxRecDepth 16384

noncomputable section

namespace Cert.Sample

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- An argument as launched. -/
abbrev arg (b : Ref sig .tc) : Buf (Elt Ideal) ((c.tc : Thread nD τ).loc b) := m ((c.tc : Thread nD τ).loc b)

/-- The tokens after `n` steps, of the arguments as launched. -/
abbrev runColumns (n : ℕ) (h : n ≤ 16) : IVec (Host.Columns n) 32 :=
  Host.columns (F := Ideal) (arg m c main_arg1) (arg m c main_arg0) (arg m c main_arg2) (arg m c main_arg3) (arg m c main_arg4) n h

/-- The log-probabilities after `n` steps, of the arguments as launched. -/
abbrev runTotal (n : ℕ) (h : n ≤ 16) : Vec Ideal S128 .f32 :=
  Host.total (F := Ideal) (arg m c main_arg1) (arg m c main_arg0) (arg m c main_arg2) (arg m c main_arg3) (arg m c main_arg4) n h

/-- The token drawn in step `n`, of the arguments as launched. -/
abbrev runNext (n : ℕ) (h : n < 16) : IVec S128x1 32 :=
  Host.next (F := Ideal) (arg m c main_arg1) (arg m c main_arg0) (arg m c main_arg2) (arg m c main_arg3) (arg m c main_arg4) n h

/-- The logits over the temperature of step `n`, of the arguments as launched. -/
abbrev runScores (n : ℕ) (h : n < 16) : Vec Ideal S128x32000 .f32 :=
  Host.rowScores (F := Ideal) (arg m c main_arg1) (arg m c main_arg0) (arg m c main_arg2) (arg m c main_arg3) (arg m c main_arg4) n h

/-- The decoder's input in step `n`, of the arguments as launched. -/
abbrev runInput (n : ℕ) (h : n ≤ 16) : Vec Ideal S128x1024 .f32 :=
  Host.embed (F := Ideal) (arg m c main_arg1) (arg m c main_arg0)
    (Host.seen (F := Ideal) (arg m c main_arg1) (arg m c main_arg0) (arg m c main_arg2) (arg m c main_arg3) (arg m c main_arg4) n h)

/-- The mean of the source tokens' embeddings, of the arguments as launched. -/
abbrev runContext : Vec Ideal S128x1024 .f32 := Host.context (F := Ideal) (arg m c main_arg1) (arg m c main_arg0)

/-- What the third call makes of the laid out softmax of a step is the step's token. -/
theorem tokens_next (n : ℕ) (h : n < 16) {p : Vec Ideal S128x128x256 .f32} {u : Vec Ideal S128x1 .f32}
    (hp : p = laidOut (Host.softmax (runScores m c n h))) (hu : u = Host.drawn (F := Ideal) (arg m c main_arg4) n h) :
    tokens (F := Ideal) p u = runNext m c n h := by
  subst hp hu
  exact tokens_draw (Host.softmax (runScores m c n h)) _

/-- The log-probability as the kernel computes it, added to the sum so far, is the sum with one step more. -/
theorem total_next (n : ℕ) (h : n < 16) {a : Vec Ideal S128 .f32} {x : Vec Ideal S128x32000 .f32} {k : IVec S128x1 32}
    (ha : a = runTotal m c n (Nat.le_of_lt h)) (hx : x = runScores m c n h) (hk : k = runNext m c n h) :
    addf (F := Ideal) (s := S128) (φ := .f32) a (shapeCast S128 (Host.tail (F := Ideal) x k) shapeCasts_S128x1_S128) = runTotal m c (n + 1) h := by
  subst ha hx hk
  unfold runNext Host.next Host.token
  rw [tail_eq _ _ (draw_inVocab _ _)]
  rfl

/-- The columns so far and a step's token are the columns with one step more. -/
theorem columns_next (n : ℕ) (h : n < 16) {Y : IVec (Host.Columns n) 32} {k : IVec S128x1 32}
    (hY : Y = runColumns m c n (Nat.le_of_lt h)) (hk : k = runNext m c n h) : Host.append n h Y k = runColumns m c (n + 1) h := by
  subst hY hk
  rfl

/-- The last column's embedding plus the context is the next step's input. -/
theorem input_next (n : ℕ) (h : n ≤ 16) {E : Vec Ideal S32000x1024 .f32} {Y : IVec (Host.Columns n) 32} {x : Vec Ideal S128x1024 .f32}
    (hE : E = arg m c main_arg1) (hY : Y = runColumns m c n h) (hx : x = runContext m c) :
    addf (F := Ideal) (s := S128x1024) (φ := .f32) (Host.takeY (F := Ideal) E (Host.last n h Y)) x = runInput m c n h := by
  subst hE hY hx
  rfl

/-- When the first step begins. -/
theorem ready0 : W4 m ρ c (Proc.devRef .tc main_v8) = runInput m c 0 (by decide) ∧ W4 m ρ c (Proc.devRef .tc main_v3) = runContext m c
    ∧ W4 m ρ c (Proc.devRef .tc main_v4) = runColumns m c 0 (by decide) ∧ W4 m ρ c (Proc.devRef .tc main_v5) = runTotal m c 0 (by decide) := by
  obtain ⟨h3, h4, h5, h8⟩ := opening (W0 m ρ c)
  exact ⟨h8, h3, h4, h5⟩

/-- When the second step begins. -/
theorem ready1 : W14 m ρ c (Proc.devRef .tc main_v47) = runInput m c 1 (by decide) ∧ W14 m ρ c (Proc.devRef .tc main_v3) = runContext m c
    ∧ W14 m ρ c (Proc.devRef .tc main_v43) = runColumns m c 1 (by decide) ∧ W14 m ρ c (Proc.devRef .tc main_v42) = runTotal m c 1 (by decide) := by
  obtain ⟨he, hc, hY, ha⟩ := ready0 m ρ c
  have hh := (W5_arr m ρ c 2).trans ((hidden_array _ c).trans (congrArg₂ (Host.hidden (F := Ideal)) he (W4_args m ρ c main_arg2 (by decide))))
  have hl := (W6_arr m ρ c 2).trans ((logits_array _ c).trans (congrArg₂ (Host.logits (F := Ideal)) hh (W5_args m ρ c main_arg3 (by decide))))
  obtain ⟨hx, hp, hu⟩ := ahead0 (W6 m ρ c)
  have hk := (W9_arr m ρ c 2).trans ((tokens_array _ c).trans (tokens_next m c 0 (by decide)
    (hp.trans (congrArg (fun z => laidOut (F := Ideal) (Host.softmax (Host.tempered z))) hl)) (hu.trans (congrArg (fun z => Host.drawn (F := Ideal) z 0 (by decide)) (W6_args m ρ c main_arg4 (by decide))))))
  have hs := (W9_of m ρ c main_v12 (by decide)).trans (hx.trans (congrArg (Host.tempered (F := Ideal)) hl))
  have hY' : W9 m ρ c (Proc.devRef .tc main_v4) = runColumns m c 0 (by decide) := (W9_of m ρ c main_v4 (by decide)).trans ((W8_of m ρ c main_v4 (by decide)).trans ((W7_of m ρ c main_v4 (by decide)).trans ((W6_of m ρ c main_v4 (by decide)).trans ((W5_of m ρ c main_v4 (by decide)).trans hY))))
  have ha' : W9 m ρ c (Proc.devRef .tc main_v5) = runTotal m c 0 (by decide) := (W9_of m ρ c main_v5 (by decide)).trans ((W8_of m ρ c main_v5 (by decide)).trans ((W7_of m ρ c main_v5 (by decide)).trans ((W6_of m ρ c main_v5 (by decide)).trans ((W5_of m ρ c main_v5 (by decide)).trans ha))))
  have hc' : W9 m ρ c (Proc.devRef .tc main_v3) = runContext m c := (W9_of m ρ c main_v3 (by decide)).trans ((W8_of m ρ c main_v3 (by decide)).trans ((W7_of m ρ c main_v3 (by decide)).trans ((W6_of m ρ c main_v3 (by decide)).trans ((W5_of m ρ c main_v3 (by decide)).trans hc))))
  obtain ⟨ba, bY, be⟩ := behind0 (W9 m ρ c)
  exact ⟨be.trans (input_next m c 1 (by decide) (W9_args m ρ c main_arg1 (by decide)) (columns_next m c 0 (by decide) hY' hk) hc'),
    (W14_of m ρ c main_v3 (by decide)).trans ((W13_of m ρ c main_v3 (by decide)).trans ((W12_of m ρ c main_v3 (by decide)).trans ((W11_of m ρ c main_v3 (by decide)).trans ((W10_of m ρ c main_v3 (by decide)).trans hc')))),
    bY.trans (columns_next m c 0 (by decide) hY' hk), ba.trans (total_next m c 0 (by decide) ha' hs hk)⟩

/-- When the third step begins. -/
theorem ready2 : W24 m ρ c (Proc.devRef .tc main_v86) = runInput m c 2 (by decide) ∧ W24 m ρ c (Proc.devRef .tc main_v3) = runContext m c
    ∧ W24 m ρ c (Proc.devRef .tc main_v82) = runColumns m c 2 (by decide) ∧ W24 m ρ c (Proc.devRef .tc main_v81) = runTotal m c 2 (by decide) := by
  obtain ⟨he, hc, hY, ha⟩ := ready1 m ρ c
  have hh := (W15_arr m ρ c 2).trans ((hidden_array3 _ c).trans (congrArg₂ (Host.hidden (F := Ideal)) he (W14_args m ρ c main_arg2 (by decide))))
  have hl := (W16_arr m ρ c 2).trans ((logits_array4 _ c).trans (congrArg₂ (Host.logits (F := Ideal)) hh (W15_args m ρ c main_arg3 (by decide))))
  obtain ⟨hx, hp, hu⟩ := ahead1 (W16 m ρ c)
  have hk := (W19_arr m ρ c 2).trans ((tokens_array5 _ c).trans (tokens_next m c 1 (by decide)
    (hp.trans (congrArg (fun z => laidOut (F := Ideal) (Host.softmax (Host.tempered z))) hl)) (hu.trans (congrArg (fun z => Host.drawn (F := Ideal) z 1 (by decide)) (W16_args m ρ c main_arg4 (by decide))))))
  have hs := (W19_of m ρ c main_v51 (by decide)).trans (hx.trans (congrArg (Host.tempered (F := Ideal)) hl))
  have hY' : W19 m ρ c (Proc.devRef .tc main_v43) = runColumns m c 1 (by decide) := (W19_of m ρ c main_v43 (by decide)).trans ((W18_of m ρ c main_v43 (by decide)).trans ((W17_of m ρ c main_v43 (by decide)).trans ((W16_of m ρ c main_v43 (by decide)).trans ((W15_of m ρ c main_v43 (by decide)).trans hY))))
  have ha' : W19 m ρ c (Proc.devRef .tc main_v42) = runTotal m c 1 (by decide) := (W19_of m ρ c main_v42 (by decide)).trans ((W18_of m ρ c main_v42 (by decide)).trans ((W17_of m ρ c main_v42 (by decide)).trans ((W16_of m ρ c main_v42 (by decide)).trans ((W15_of m ρ c main_v42 (by decide)).trans ha))))
  have hc' : W19 m ρ c (Proc.devRef .tc main_v3) = runContext m c := (W19_of m ρ c main_v3 (by decide)).trans ((W18_of m ρ c main_v3 (by decide)).trans ((W17_of m ρ c main_v3 (by decide)).trans ((W16_of m ρ c main_v3 (by decide)).trans ((W15_of m ρ c main_v3 (by decide)).trans hc))))
  obtain ⟨ba, bY, be⟩ := behind1 (W19 m ρ c)
  exact ⟨be.trans (input_next m c 2 (by decide) (W19_args m ρ c main_arg1 (by decide)) (columns_next m c 1 (by decide) hY' hk) hc'),
    (W24_of m ρ c main_v3 (by decide)).trans ((W23_of m ρ c main_v3 (by decide)).trans ((W22_of m ρ c main_v3 (by decide)).trans ((W21_of m ρ c main_v3 (by decide)).trans ((W20_of m ρ c main_v3 (by decide)).trans hc')))),
    bY.trans (columns_next m c 1 (by decide) hY' hk), ba.trans (total_next m c 1 (by decide) ha' hs hk)⟩

/-- When the fourth step begins. -/
theorem ready3 : W34 m ρ c (Proc.devRef .tc main_v125) = runInput m c 3 (by decide) ∧ W34 m ρ c (Proc.devRef .tc main_v3) = runContext m c
    ∧ W34 m ρ c (Proc.devRef .tc main_v121) = runColumns m c 3 (by decide) ∧ W34 m ρ c (Proc.devRef .tc main_v120) = runTotal m c 3 (by decide) := by
  obtain ⟨he, hc, hY, ha⟩ := ready2 m ρ c
  have hh := (W25_arr m ρ c 2).trans ((hidden_array6 _ c).trans (congrArg₂ (Host.hidden (F := Ideal)) he (W24_args m ρ c main_arg2 (by decide))))
  have hl := (W26_arr m ρ c 2).trans ((logits_array7 _ c).trans (congrArg₂ (Host.logits (F := Ideal)) hh (W25_args m ρ c main_arg3 (by decide))))
  obtain ⟨hx, hp, hu⟩ := ahead2 (W26 m ρ c)
  have hk := (W29_arr m ρ c 2).trans ((tokens_array8 _ c).trans (tokens_next m c 2 (by decide)
    (hp.trans (congrArg (fun z => laidOut (F := Ideal) (Host.softmax (Host.tempered z))) hl)) (hu.trans (congrArg (fun z => Host.drawn (F := Ideal) z 2 (by decide)) (W26_args m ρ c main_arg4 (by decide))))))
  have hs := (W29_of m ρ c main_v90 (by decide)).trans (hx.trans (congrArg (Host.tempered (F := Ideal)) hl))
  have hY' : W29 m ρ c (Proc.devRef .tc main_v82) = runColumns m c 2 (by decide) := (W29_of m ρ c main_v82 (by decide)).trans ((W28_of m ρ c main_v82 (by decide)).trans ((W27_of m ρ c main_v82 (by decide)).trans ((W26_of m ρ c main_v82 (by decide)).trans ((W25_of m ρ c main_v82 (by decide)).trans hY))))
  have ha' : W29 m ρ c (Proc.devRef .tc main_v81) = runTotal m c 2 (by decide) := (W29_of m ρ c main_v81 (by decide)).trans ((W28_of m ρ c main_v81 (by decide)).trans ((W27_of m ρ c main_v81 (by decide)).trans ((W26_of m ρ c main_v81 (by decide)).trans ((W25_of m ρ c main_v81 (by decide)).trans ha))))
  have hc' : W29 m ρ c (Proc.devRef .tc main_v3) = runContext m c := (W29_of m ρ c main_v3 (by decide)).trans ((W28_of m ρ c main_v3 (by decide)).trans ((W27_of m ρ c main_v3 (by decide)).trans ((W26_of m ρ c main_v3 (by decide)).trans ((W25_of m ρ c main_v3 (by decide)).trans hc))))
  obtain ⟨ba, bY, be⟩ := behind2 (W29 m ρ c)
  exact ⟨be.trans (input_next m c 3 (by decide) (W29_args m ρ c main_arg1 (by decide)) (columns_next m c 2 (by decide) hY' hk) hc'),
    (W34_of m ρ c main_v3 (by decide)).trans ((W33_of m ρ c main_v3 (by decide)).trans ((W32_of m ρ c main_v3 (by decide)).trans ((W31_of m ρ c main_v3 (by decide)).trans ((W30_of m ρ c main_v3 (by decide)).trans hc')))),
    bY.trans (columns_next m c 2 (by decide) hY' hk), ba.trans (total_next m c 2 (by decide) ha' hs hk)⟩

/-- When the fifth step begins. -/
theorem ready4 : W44 m ρ c (Proc.devRef .tc main_v164) = runInput m c 4 (by decide) ∧ W44 m ρ c (Proc.devRef .tc main_v3) = runContext m c
    ∧ W44 m ρ c (Proc.devRef .tc main_v160) = runColumns m c 4 (by decide) ∧ W44 m ρ c (Proc.devRef .tc main_v159) = runTotal m c 4 (by decide) := by
  obtain ⟨he, hc, hY, ha⟩ := ready3 m ρ c
  have hh := (W35_arr m ρ c 2).trans ((hidden_array9 _ c).trans (congrArg₂ (Host.hidden (F := Ideal)) he (W34_args m ρ c main_arg2 (by decide))))
  have hl := (W36_arr m ρ c 2).trans ((logits_array10 _ c).trans (congrArg₂ (Host.logits (F := Ideal)) hh (W35_args m ρ c main_arg3 (by decide))))
  obtain ⟨hx, hp, hu⟩ := ahead3 (W36 m ρ c)
  have hk := (W39_arr m ρ c 2).trans ((tokens_array11 _ c).trans (tokens_next m c 3 (by decide)
    (hp.trans (congrArg (fun z => laidOut (F := Ideal) (Host.softmax (Host.tempered z))) hl)) (hu.trans (congrArg (fun z => Host.drawn (F := Ideal) z 3 (by decide)) (W36_args m ρ c main_arg4 (by decide))))))
  have hs := (W39_of m ρ c main_v129 (by decide)).trans (hx.trans (congrArg (Host.tempered (F := Ideal)) hl))
  have hY' : W39 m ρ c (Proc.devRef .tc main_v121) = runColumns m c 3 (by decide) := (W39_of m ρ c main_v121 (by decide)).trans ((W38_of m ρ c main_v121 (by decide)).trans ((W37_of m ρ c main_v121 (by decide)).trans ((W36_of m ρ c main_v121 (by decide)).trans ((W35_of m ρ c main_v121 (by decide)).trans hY))))
  have ha' : W39 m ρ c (Proc.devRef .tc main_v120) = runTotal m c 3 (by decide) := (W39_of m ρ c main_v120 (by decide)).trans ((W38_of m ρ c main_v120 (by decide)).trans ((W37_of m ρ c main_v120 (by decide)).trans ((W36_of m ρ c main_v120 (by decide)).trans ((W35_of m ρ c main_v120 (by decide)).trans ha))))
  have hc' : W39 m ρ c (Proc.devRef .tc main_v3) = runContext m c := (W39_of m ρ c main_v3 (by decide)).trans ((W38_of m ρ c main_v3 (by decide)).trans ((W37_of m ρ c main_v3 (by decide)).trans ((W36_of m ρ c main_v3 (by decide)).trans ((W35_of m ρ c main_v3 (by decide)).trans hc))))
  obtain ⟨ba, bY, be⟩ := behind3 (W39 m ρ c)
  exact ⟨be.trans (input_next m c 4 (by decide) (W39_args m ρ c main_arg1 (by decide)) (columns_next m c 3 (by decide) hY' hk) hc'),
    (W44_of m ρ c main_v3 (by decide)).trans ((W43_of m ρ c main_v3 (by decide)).trans ((W42_of m ρ c main_v3 (by decide)).trans ((W41_of m ρ c main_v3 (by decide)).trans ((W40_of m ρ c main_v3 (by decide)).trans hc')))),
    bY.trans (columns_next m c 3 (by decide) hY' hk), ba.trans (total_next m c 3 (by decide) ha' hs hk)⟩

/-- When the sixth step begins. -/
theorem ready5 : W54 m ρ c (Proc.devRef .tc main_v203) = runInput m c 5 (by decide) ∧ W54 m ρ c (Proc.devRef .tc main_v3) = runContext m c
    ∧ W54 m ρ c (Proc.devRef .tc main_v199) = runColumns m c 5 (by decide) ∧ W54 m ρ c (Proc.devRef .tc main_v198) = runTotal m c 5 (by decide) := by
  obtain ⟨he, hc, hY, ha⟩ := ready4 m ρ c
  have hh := (W45_arr m ρ c 2).trans ((hidden_array12 _ c).trans (congrArg₂ (Host.hidden (F := Ideal)) he (W44_args m ρ c main_arg2 (by decide))))
  have hl := (W46_arr m ρ c 2).trans ((logits_array13 _ c).trans (congrArg₂ (Host.logits (F := Ideal)) hh (W45_args m ρ c main_arg3 (by decide))))
  obtain ⟨hx, hp, hu⟩ := ahead4 (W46 m ρ c)
  have hk := (W49_arr m ρ c 2).trans ((tokens_array14 _ c).trans (tokens_next m c 4 (by decide)
    (hp.trans (congrArg (fun z => laidOut (F := Ideal) (Host.softmax (Host.tempered z))) hl)) (hu.trans (congrArg (fun z => Host.drawn (F := Ideal) z 4 (by decide)) (W46_args m ρ c main_arg4 (by decide))))))
  have hs := (W49_of m ρ c main_v168 (by decide)).trans (hx.trans (congrArg (Host.tempered (F := Ideal)) hl))
  have hY' : W49 m ρ c (Proc.devRef .tc main_v160) = runColumns m c 4 (by decide) := (W49_of m ρ c main_v160 (by decide)).trans ((W48_of m ρ c main_v160 (by decide)).trans ((W47_of m ρ c main_v160 (by decide)).trans ((W46_of m ρ c main_v160 (by decide)).trans ((W45_of m ρ c main_v160 (by decide)).trans hY))))
  have ha' : W49 m ρ c (Proc.devRef .tc main_v159) = runTotal m c 4 (by decide) := (W49_of m ρ c main_v159 (by decide)).trans ((W48_of m ρ c main_v159 (by decide)).trans ((W47_of m ρ c main_v159 (by decide)).trans ((W46_of m ρ c main_v159 (by decide)).trans ((W45_of m ρ c main_v159 (by decide)).trans ha))))
  have hc' : W49 m ρ c (Proc.devRef .tc main_v3) = runContext m c := (W49_of m ρ c main_v3 (by decide)).trans ((W48_of m ρ c main_v3 (by decide)).trans ((W47_of m ρ c main_v3 (by decide)).trans ((W46_of m ρ c main_v3 (by decide)).trans ((W45_of m ρ c main_v3 (by decide)).trans hc))))
  obtain ⟨ba, bY, be⟩ := behind4 (W49 m ρ c)
  exact ⟨be.trans (input_next m c 5 (by decide) (W49_args m ρ c main_arg1 (by decide)) (columns_next m c 4 (by decide) hY' hk) hc'),
    (W54_of m ρ c main_v3 (by decide)).trans ((W53_of m ρ c main_v3 (by decide)).trans ((W52_of m ρ c main_v3 (by decide)).trans ((W51_of m ρ c main_v3 (by decide)).trans ((W50_of m ρ c main_v3 (by decide)).trans hc')))),
    bY.trans (columns_next m c 4 (by decide) hY' hk), ba.trans (total_next m c 4 (by decide) ha' hs hk)⟩

/-- When the seventh step begins. -/
theorem ready6 : W64 m ρ c (Proc.devRef .tc main_v242) = runInput m c 6 (by decide) ∧ W64 m ρ c (Proc.devRef .tc main_v3) = runContext m c
    ∧ W64 m ρ c (Proc.devRef .tc main_v238) = runColumns m c 6 (by decide) ∧ W64 m ρ c (Proc.devRef .tc main_v237) = runTotal m c 6 (by decide) := by
  obtain ⟨he, hc, hY, ha⟩ := ready5 m ρ c
  have hh := (W55_arr m ρ c 2).trans ((hidden_array15 _ c).trans (congrArg₂ (Host.hidden (F := Ideal)) he (W54_args m ρ c main_arg2 (by decide))))
  have hl := (W56_arr m ρ c 2).trans ((logits_array16 _ c).trans (congrArg₂ (Host.logits (F := Ideal)) hh (W55_args m ρ c main_arg3 (by decide))))
  obtain ⟨hx, hp, hu⟩ := ahead5 (W56 m ρ c)
  have hk := (W59_arr m ρ c 2).trans ((tokens_array17 _ c).trans (tokens_next m c 5 (by decide)
    (hp.trans (congrArg (fun z => laidOut (F := Ideal) (Host.softmax (Host.tempered z))) hl)) (hu.trans (congrArg (fun z => Host.drawn (F := Ideal) z 5 (by decide)) (W56_args m ρ c main_arg4 (by decide))))))
  have hs := (W59_of m ρ c main_v207 (by decide)).trans (hx.trans (congrArg (Host.tempered (F := Ideal)) hl))
  have hY' : W59 m ρ c (Proc.devRef .tc main_v199) = runColumns m c 5 (by decide) := (W59_of m ρ c main_v199 (by decide)).trans ((W58_of m ρ c main_v199 (by decide)).trans ((W57_of m ρ c main_v199 (by decide)).trans ((W56_of m ρ c main_v199 (by decide)).trans ((W55_of m ρ c main_v199 (by decide)).trans hY))))
  have ha' : W59 m ρ c (Proc.devRef .tc main_v198) = runTotal m c 5 (by decide) := (W59_of m ρ c main_v198 (by decide)).trans ((W58_of m ρ c main_v198 (by decide)).trans ((W57_of m ρ c main_v198 (by decide)).trans ((W56_of m ρ c main_v198 (by decide)).trans ((W55_of m ρ c main_v198 (by decide)).trans ha))))
  have hc' : W59 m ρ c (Proc.devRef .tc main_v3) = runContext m c := (W59_of m ρ c main_v3 (by decide)).trans ((W58_of m ρ c main_v3 (by decide)).trans ((W57_of m ρ c main_v3 (by decide)).trans ((W56_of m ρ c main_v3 (by decide)).trans ((W55_of m ρ c main_v3 (by decide)).trans hc))))
  obtain ⟨ba, bY, be⟩ := behind5 (W59 m ρ c)
  exact ⟨be.trans (input_next m c 6 (by decide) (W59_args m ρ c main_arg1 (by decide)) (columns_next m c 5 (by decide) hY' hk) hc'),
    (W64_of m ρ c main_v3 (by decide)).trans ((W63_of m ρ c main_v3 (by decide)).trans ((W62_of m ρ c main_v3 (by decide)).trans ((W61_of m ρ c main_v3 (by decide)).trans ((W60_of m ρ c main_v3 (by decide)).trans hc')))),
    bY.trans (columns_next m c 5 (by decide) hY' hk), ba.trans (total_next m c 5 (by decide) ha' hs hk)⟩

/-- When the eighth step begins. -/
theorem ready7 : W74 m ρ c (Proc.devRef .tc main_v281) = runInput m c 7 (by decide) ∧ W74 m ρ c (Proc.devRef .tc main_v3) = runContext m c
    ∧ W74 m ρ c (Proc.devRef .tc main_v277) = runColumns m c 7 (by decide) ∧ W74 m ρ c (Proc.devRef .tc main_v276) = runTotal m c 7 (by decide) := by
  obtain ⟨he, hc, hY, ha⟩ := ready6 m ρ c
  have hh := (W65_arr m ρ c 2).trans ((hidden_array18 _ c).trans (congrArg₂ (Host.hidden (F := Ideal)) he (W64_args m ρ c main_arg2 (by decide))))
  have hl := (W66_arr m ρ c 2).trans ((logits_array19 _ c).trans (congrArg₂ (Host.logits (F := Ideal)) hh (W65_args m ρ c main_arg3 (by decide))))
  obtain ⟨hx, hp, hu⟩ := ahead6 (W66 m ρ c)
  have hk := (W69_arr m ρ c 2).trans ((tokens_array20 _ c).trans (tokens_next m c 6 (by decide)
    (hp.trans (congrArg (fun z => laidOut (F := Ideal) (Host.softmax (Host.tempered z))) hl)) (hu.trans (congrArg (fun z => Host.drawn (F := Ideal) z 6 (by decide)) (W66_args m ρ c main_arg4 (by decide))))))
  have hs := (W69_of m ρ c main_v246 (by decide)).trans (hx.trans (congrArg (Host.tempered (F := Ideal)) hl))
  have hY' : W69 m ρ c (Proc.devRef .tc main_v238) = runColumns m c 6 (by decide) := (W69_of m ρ c main_v238 (by decide)).trans ((W68_of m ρ c main_v238 (by decide)).trans ((W67_of m ρ c main_v238 (by decide)).trans ((W66_of m ρ c main_v238 (by decide)).trans ((W65_of m ρ c main_v238 (by decide)).trans hY))))
  have ha' : W69 m ρ c (Proc.devRef .tc main_v237) = runTotal m c 6 (by decide) := (W69_of m ρ c main_v237 (by decide)).trans ((W68_of m ρ c main_v237 (by decide)).trans ((W67_of m ρ c main_v237 (by decide)).trans ((W66_of m ρ c main_v237 (by decide)).trans ((W65_of m ρ c main_v237 (by decide)).trans ha))))
  have hc' : W69 m ρ c (Proc.devRef .tc main_v3) = runContext m c := (W69_of m ρ c main_v3 (by decide)).trans ((W68_of m ρ c main_v3 (by decide)).trans ((W67_of m ρ c main_v3 (by decide)).trans ((W66_of m ρ c main_v3 (by decide)).trans ((W65_of m ρ c main_v3 (by decide)).trans hc))))
  obtain ⟨ba, bY, be⟩ := behind6 (W69 m ρ c)
  exact ⟨be.trans (input_next m c 7 (by decide) (W69_args m ρ c main_arg1 (by decide)) (columns_next m c 6 (by decide) hY' hk) hc'),
    (W74_of m ρ c main_v3 (by decide)).trans ((W73_of m ρ c main_v3 (by decide)).trans ((W72_of m ρ c main_v3 (by decide)).trans ((W71_of m ρ c main_v3 (by decide)).trans ((W70_of m ρ c main_v3 (by decide)).trans hc')))),
    bY.trans (columns_next m c 6 (by decide) hY' hk), ba.trans (total_next m c 6 (by decide) ha' hs hk)⟩

/-- When the ninth step begins. -/
theorem ready8 : W84 m ρ c (Proc.devRef .tc main_v320) = runInput m c 8 (by decide) ∧ W84 m ρ c (Proc.devRef .tc main_v3) = runContext m c
    ∧ W84 m ρ c (Proc.devRef .tc main_v316) = runColumns m c 8 (by decide) ∧ W84 m ρ c (Proc.devRef .tc main_v315) = runTotal m c 8 (by decide) := by
  obtain ⟨he, hc, hY, ha⟩ := ready7 m ρ c
  have hh := (W75_arr m ρ c 2).trans ((hidden_array21 _ c).trans (congrArg₂ (Host.hidden (F := Ideal)) he (W74_args m ρ c main_arg2 (by decide))))
  have hl := (W76_arr m ρ c 2).trans ((logits_array22 _ c).trans (congrArg₂ (Host.logits (F := Ideal)) hh (W75_args m ρ c main_arg3 (by decide))))
  obtain ⟨hx, hp, hu⟩ := ahead7 (W76 m ρ c)
  have hk := (W79_arr m ρ c 2).trans ((tokens_array23 _ c).trans (tokens_next m c 7 (by decide)
    (hp.trans (congrArg (fun z => laidOut (F := Ideal) (Host.softmax (Host.tempered z))) hl)) (hu.trans (congrArg (fun z => Host.drawn (F := Ideal) z 7 (by decide)) (W76_args m ρ c main_arg4 (by decide))))))
  have hs := (W79_of m ρ c main_v285 (by decide)).trans (hx.trans (congrArg (Host.tempered (F := Ideal)) hl))
  have hY' : W79 m ρ c (Proc.devRef .tc main_v277) = runColumns m c 7 (by decide) := (W79_of m ρ c main_v277 (by decide)).trans ((W78_of m ρ c main_v277 (by decide)).trans ((W77_of m ρ c main_v277 (by decide)).trans ((W76_of m ρ c main_v277 (by decide)).trans ((W75_of m ρ c main_v277 (by decide)).trans hY))))
  have ha' : W79 m ρ c (Proc.devRef .tc main_v276) = runTotal m c 7 (by decide) := (W79_of m ρ c main_v276 (by decide)).trans ((W78_of m ρ c main_v276 (by decide)).trans ((W77_of m ρ c main_v276 (by decide)).trans ((W76_of m ρ c main_v276 (by decide)).trans ((W75_of m ρ c main_v276 (by decide)).trans ha))))
  have hc' : W79 m ρ c (Proc.devRef .tc main_v3) = runContext m c := (W79_of m ρ c main_v3 (by decide)).trans ((W78_of m ρ c main_v3 (by decide)).trans ((W77_of m ρ c main_v3 (by decide)).trans ((W76_of m ρ c main_v3 (by decide)).trans ((W75_of m ρ c main_v3 (by decide)).trans hc))))
  obtain ⟨ba, bY, be⟩ := behind7 (W79 m ρ c)
  exact ⟨be.trans (input_next m c 8 (by decide) (W79_args m ρ c main_arg1 (by decide)) (columns_next m c 7 (by decide) hY' hk) hc'),
    (W84_of m ρ c main_v3 (by decide)).trans ((W83_of m ρ c main_v3 (by decide)).trans ((W82_of m ρ c main_v3 (by decide)).trans ((W81_of m ρ c main_v3 (by decide)).trans ((W80_of m ρ c main_v3 (by decide)).trans hc')))),
    bY.trans (columns_next m c 7 (by decide) hY' hk), ba.trans (total_next m c 7 (by decide) ha' hs hk)⟩

/-- When the tenth step begins. -/
theorem ready9 : W94 m ρ c (Proc.devRef .tc main_v359) = runInput m c 9 (by decide) ∧ W94 m ρ c (Proc.devRef .tc main_v3) = runContext m c
    ∧ W94 m ρ c (Proc.devRef .tc main_v355) = runColumns m c 9 (by decide) ∧ W94 m ρ c (Proc.devRef .tc main_v354) = runTotal m c 9 (by decide) := by
  obtain ⟨he, hc, hY, ha⟩ := ready8 m ρ c
  have hh := (W85_arr m ρ c 2).trans ((hidden_array24 _ c).trans (congrArg₂ (Host.hidden (F := Ideal)) he (W84_args m ρ c main_arg2 (by decide))))
  have hl := (W86_arr m ρ c 2).trans ((logits_array25 _ c).trans (congrArg₂ (Host.logits (F := Ideal)) hh (W85_args m ρ c main_arg3 (by decide))))
  obtain ⟨hx, hp, hu⟩ := ahead8 (W86 m ρ c)
  have hk := (W89_arr m ρ c 2).trans ((tokens_array26 _ c).trans (tokens_next m c 8 (by decide)
    (hp.trans (congrArg (fun z => laidOut (F := Ideal) (Host.softmax (Host.tempered z))) hl)) (hu.trans (congrArg (fun z => Host.drawn (F := Ideal) z 8 (by decide)) (W86_args m ρ c main_arg4 (by decide))))))
  have hs := (W89_of m ρ c main_v324 (by decide)).trans (hx.trans (congrArg (Host.tempered (F := Ideal)) hl))
  have hY' : W89 m ρ c (Proc.devRef .tc main_v316) = runColumns m c 8 (by decide) := (W89_of m ρ c main_v316 (by decide)).trans ((W88_of m ρ c main_v316 (by decide)).trans ((W87_of m ρ c main_v316 (by decide)).trans ((W86_of m ρ c main_v316 (by decide)).trans ((W85_of m ρ c main_v316 (by decide)).trans hY))))
  have ha' : W89 m ρ c (Proc.devRef .tc main_v315) = runTotal m c 8 (by decide) := (W89_of m ρ c main_v315 (by decide)).trans ((W88_of m ρ c main_v315 (by decide)).trans ((W87_of m ρ c main_v315 (by decide)).trans ((W86_of m ρ c main_v315 (by decide)).trans ((W85_of m ρ c main_v315 (by decide)).trans ha))))
  have hc' : W89 m ρ c (Proc.devRef .tc main_v3) = runContext m c := (W89_of m ρ c main_v3 (by decide)).trans ((W88_of m ρ c main_v3 (by decide)).trans ((W87_of m ρ c main_v3 (by decide)).trans ((W86_of m ρ c main_v3 (by decide)).trans ((W85_of m ρ c main_v3 (by decide)).trans hc))))
  obtain ⟨ba, bY, be⟩ := behind8 (W89 m ρ c)
  exact ⟨be.trans (input_next m c 9 (by decide) (W89_args m ρ c main_arg1 (by decide)) (columns_next m c 8 (by decide) hY' hk) hc'),
    (W94_of m ρ c main_v3 (by decide)).trans ((W93_of m ρ c main_v3 (by decide)).trans ((W92_of m ρ c main_v3 (by decide)).trans ((W91_of m ρ c main_v3 (by decide)).trans ((W90_of m ρ c main_v3 (by decide)).trans hc')))),
    bY.trans (columns_next m c 8 (by decide) hY' hk), ba.trans (total_next m c 8 (by decide) ha' hs hk)⟩

/-- When the eleventh step begins. -/
theorem ready10 : W104 m ρ c (Proc.devRef .tc main_v398) = runInput m c 10 (by decide) ∧ W104 m ρ c (Proc.devRef .tc main_v3) = runContext m c
    ∧ W104 m ρ c (Proc.devRef .tc main_v394) = runColumns m c 10 (by decide) ∧ W104 m ρ c (Proc.devRef .tc main_v393) = runTotal m c 10 (by decide) := by
  obtain ⟨he, hc, hY, ha⟩ := ready9 m ρ c
  have hh := (W95_arr m ρ c 2).trans ((hidden_array27 _ c).trans (congrArg₂ (Host.hidden (F := Ideal)) he (W94_args m ρ c main_arg2 (by decide))))
  have hl := (W96_arr m ρ c 2).trans ((logits_array28 _ c).trans (congrArg₂ (Host.logits (F := Ideal)) hh (W95_args m ρ c main_arg3 (by decide))))
  obtain ⟨hx, hp, hu⟩ := ahead9 (W96 m ρ c)
  have hk := (W99_arr m ρ c 2).trans ((tokens_array29 _ c).trans (tokens_next m c 9 (by decide)
    (hp.trans (congrArg (fun z => laidOut (F := Ideal) (Host.softmax (Host.tempered z))) hl)) (hu.trans (congrArg (fun z => Host.drawn (F := Ideal) z 9 (by decide)) (W96_args m ρ c main_arg4 (by decide))))))
  have hs := (W99_of m ρ c main_v363 (by decide)).trans (hx.trans (congrArg (Host.tempered (F := Ideal)) hl))
  have hY' : W99 m ρ c (Proc.devRef .tc main_v355) = runColumns m c 9 (by decide) := (W99_of m ρ c main_v355 (by decide)).trans ((W98_of m ρ c main_v355 (by decide)).trans ((W97_of m ρ c main_v355 (by decide)).trans ((W96_of m ρ c main_v355 (by decide)).trans ((W95_of m ρ c main_v355 (by decide)).trans hY))))
  have ha' : W99 m ρ c (Proc.devRef .tc main_v354) = runTotal m c 9 (by decide) := (W99_of m ρ c main_v354 (by decide)).trans ((W98_of m ρ c main_v354 (by decide)).trans ((W97_of m ρ c main_v354 (by decide)).trans ((W96_of m ρ c main_v354 (by decide)).trans ((W95_of m ρ c main_v354 (by decide)).trans ha))))
  have hc' : W99 m ρ c (Proc.devRef .tc main_v3) = runContext m c := (W99_of m ρ c main_v3 (by decide)).trans ((W98_of m ρ c main_v3 (by decide)).trans ((W97_of m ρ c main_v3 (by decide)).trans ((W96_of m ρ c main_v3 (by decide)).trans ((W95_of m ρ c main_v3 (by decide)).trans hc))))
  obtain ⟨ba, bY, be⟩ := behind9 (W99 m ρ c)
  exact ⟨be.trans (input_next m c 10 (by decide) (W99_args m ρ c main_arg1 (by decide)) (columns_next m c 9 (by decide) hY' hk) hc'),
    (W104_of m ρ c main_v3 (by decide)).trans ((W103_of m ρ c main_v3 (by decide)).trans ((W102_of m ρ c main_v3 (by decide)).trans ((W101_of m ρ c main_v3 (by decide)).trans ((W100_of m ρ c main_v3 (by decide)).trans hc')))),
    bY.trans (columns_next m c 9 (by decide) hY' hk), ba.trans (total_next m c 9 (by decide) ha' hs hk)⟩

/-- When the twelfth step begins. -/
theorem ready11 : W114 m ρ c (Proc.devRef .tc main_v437) = runInput m c 11 (by decide) ∧ W114 m ρ c (Proc.devRef .tc main_v3) = runContext m c
    ∧ W114 m ρ c (Proc.devRef .tc main_v433) = runColumns m c 11 (by decide) ∧ W114 m ρ c (Proc.devRef .tc main_v432) = runTotal m c 11 (by decide) := by
  obtain ⟨he, hc, hY, ha⟩ := ready10 m ρ c
  have hh := (W105_arr m ρ c 2).trans ((hidden_array30 _ c).trans (congrArg₂ (Host.hidden (F := Ideal)) he (W104_args m ρ c main_arg2 (by decide))))
  have hl := (W106_arr m ρ c 2).trans ((logits_array31 _ c).trans (congrArg₂ (Host.logits (F := Ideal)) hh (W105_args m ρ c main_arg3 (by decide))))
  obtain ⟨hx, hp, hu⟩ := ahead10 (W106 m ρ c)
  have hk := (W109_arr m ρ c 2).trans ((tokens_array32 _ c).trans (tokens_next m c 10 (by decide)
    (hp.trans (congrArg (fun z => laidOut (F := Ideal) (Host.softmax (Host.tempered z))) hl)) (hu.trans (congrArg (fun z => Host.drawn (F := Ideal) z 10 (by decide)) (W106_args m ρ c main_arg4 (by decide))))))
  have hs := (W109_of m ρ c main_v402 (by decide)).trans (hx.trans (congrArg (Host.tempered (F := Ideal)) hl))
  have hY' : W109 m ρ c (Proc.devRef .tc main_v394) = runColumns m c 10 (by decide) := (W109_of m ρ c main_v394 (by decide)).trans ((W108_of m ρ c main_v394 (by decide)).trans ((W107_of m ρ c main_v394 (by decide)).trans ((W106_of m ρ c main_v394 (by decide)).trans ((W105_of m ρ c main_v394 (by decide)).trans hY))))
  have ha' : W109 m ρ c (Proc.devRef .tc main_v393) = runTotal m c 10 (by decide) := (W109_of m ρ c main_v393 (by decide)).trans ((W108_of m ρ c main_v393 (by decide)).trans ((W107_of m ρ c main_v393 (by decide)).trans ((W106_of m ρ c main_v393 (by decide)).trans ((W105_of m ρ c main_v393 (by decide)).trans ha))))
  have hc' : W109 m ρ c (Proc.devRef .tc main_v3) = runContext m c := (W109_of m ρ c main_v3 (by decide)).trans ((W108_of m ρ c main_v3 (by decide)).trans ((W107_of m ρ c main_v3 (by decide)).trans ((W106_of m ρ c main_v3 (by decide)).trans ((W105_of m ρ c main_v3 (by decide)).trans hc))))
  obtain ⟨ba, bY, be⟩ := behind10 (W109 m ρ c)
  exact ⟨be.trans (input_next m c 11 (by decide) (W109_args m ρ c main_arg1 (by decide)) (columns_next m c 10 (by decide) hY' hk) hc'),
    (W114_of m ρ c main_v3 (by decide)).trans ((W113_of m ρ c main_v3 (by decide)).trans ((W112_of m ρ c main_v3 (by decide)).trans ((W111_of m ρ c main_v3 (by decide)).trans ((W110_of m ρ c main_v3 (by decide)).trans hc')))),
    bY.trans (columns_next m c 10 (by decide) hY' hk), ba.trans (total_next m c 10 (by decide) ha' hs hk)⟩

/-- When the thirteenth step begins. -/
theorem ready12 : W124 m ρ c (Proc.devRef .tc main_v476) = runInput m c 12 (by decide) ∧ W124 m ρ c (Proc.devRef .tc main_v3) = runContext m c
    ∧ W124 m ρ c (Proc.devRef .tc main_v472) = runColumns m c 12 (by decide) ∧ W124 m ρ c (Proc.devRef .tc main_v471) = runTotal m c 12 (by decide) := by
  obtain ⟨he, hc, hY, ha⟩ := ready11 m ρ c
  have hh := (W115_arr m ρ c 2).trans ((hidden_array33 _ c).trans (congrArg₂ (Host.hidden (F := Ideal)) he (W114_args m ρ c main_arg2 (by decide))))
  have hl := (W116_arr m ρ c 2).trans ((logits_array34 _ c).trans (congrArg₂ (Host.logits (F := Ideal)) hh (W115_args m ρ c main_arg3 (by decide))))
  obtain ⟨hx, hp, hu⟩ := ahead11 (W116 m ρ c)
  have hk := (W119_arr m ρ c 2).trans ((tokens_array35 _ c).trans (tokens_next m c 11 (by decide)
    (hp.trans (congrArg (fun z => laidOut (F := Ideal) (Host.softmax (Host.tempered z))) hl)) (hu.trans (congrArg (fun z => Host.drawn (F := Ideal) z 11 (by decide)) (W116_args m ρ c main_arg4 (by decide))))))
  have hs := (W119_of m ρ c main_v441 (by decide)).trans (hx.trans (congrArg (Host.tempered (F := Ideal)) hl))
  have hY' : W119 m ρ c (Proc.devRef .tc main_v433) = runColumns m c 11 (by decide) := (W119_of m ρ c main_v433 (by decide)).trans ((W118_of m ρ c main_v433 (by decide)).trans ((W117_of m ρ c main_v433 (by decide)).trans ((W116_of m ρ c main_v433 (by decide)).trans ((W115_of m ρ c main_v433 (by decide)).trans hY))))
  have ha' : W119 m ρ c (Proc.devRef .tc main_v432) = runTotal m c 11 (by decide) := (W119_of m ρ c main_v432 (by decide)).trans ((W118_of m ρ c main_v432 (by decide)).trans ((W117_of m ρ c main_v432 (by decide)).trans ((W116_of m ρ c main_v432 (by decide)).trans ((W115_of m ρ c main_v432 (by decide)).trans ha))))
  have hc' : W119 m ρ c (Proc.devRef .tc main_v3) = runContext m c := (W119_of m ρ c main_v3 (by decide)).trans ((W118_of m ρ c main_v3 (by decide)).trans ((W117_of m ρ c main_v3 (by decide)).trans ((W116_of m ρ c main_v3 (by decide)).trans ((W115_of m ρ c main_v3 (by decide)).trans hc))))
  obtain ⟨ba, bY, be⟩ := behind11 (W119 m ρ c)
  exact ⟨be.trans (input_next m c 12 (by decide) (W119_args m ρ c main_arg1 (by decide)) (columns_next m c 11 (by decide) hY' hk) hc'),
    (W124_of m ρ c main_v3 (by decide)).trans ((W123_of m ρ c main_v3 (by decide)).trans ((W122_of m ρ c main_v3 (by decide)).trans ((W121_of m ρ c main_v3 (by decide)).trans ((W120_of m ρ c main_v3 (by decide)).trans hc')))),
    bY.trans (columns_next m c 11 (by decide) hY' hk), ba.trans (total_next m c 11 (by decide) ha' hs hk)⟩

/-- When the fourteenth step begins. -/
theorem ready13 : W134 m ρ c (Proc.devRef .tc main_v515) = runInput m c 13 (by decide) ∧ W134 m ρ c (Proc.devRef .tc main_v3) = runContext m c
    ∧ W134 m ρ c (Proc.devRef .tc main_v511) = runColumns m c 13 (by decide) ∧ W134 m ρ c (Proc.devRef .tc main_v510) = runTotal m c 13 (by decide) := by
  obtain ⟨he, hc, hY, ha⟩ := ready12 m ρ c
  have hh := (W125_arr m ρ c 2).trans ((hidden_array36 _ c).trans (congrArg₂ (Host.hidden (F := Ideal)) he (W124_args m ρ c main_arg2 (by decide))))
  have hl := (W126_arr m ρ c 2).trans ((logits_array37 _ c).trans (congrArg₂ (Host.logits (F := Ideal)) hh (W125_args m ρ c main_arg3 (by decide))))
  obtain ⟨hx, hp, hu⟩ := ahead12 (W126 m ρ c)
  have hk := (W129_arr m ρ c 2).trans ((tokens_array38 _ c).trans (tokens_next m c 12 (by decide)
    (hp.trans (congrArg (fun z => laidOut (F := Ideal) (Host.softmax (Host.tempered z))) hl)) (hu.trans (congrArg (fun z => Host.drawn (F := Ideal) z 12 (by decide)) (W126_args m ρ c main_arg4 (by decide))))))
  have hs := (W129_of m ρ c main_v480 (by decide)).trans (hx.trans (congrArg (Host.tempered (F := Ideal)) hl))
  have hY' : W129 m ρ c (Proc.devRef .tc main_v472) = runColumns m c 12 (by decide) := (W129_of m ρ c main_v472 (by decide)).trans ((W128_of m ρ c main_v472 (by decide)).trans ((W127_of m ρ c main_v472 (by decide)).trans ((W126_of m ρ c main_v472 (by decide)).trans ((W125_of m ρ c main_v472 (by decide)).trans hY))))
  have ha' : W129 m ρ c (Proc.devRef .tc main_v471) = runTotal m c 12 (by decide) := (W129_of m ρ c main_v471 (by decide)).trans ((W128_of m ρ c main_v471 (by decide)).trans ((W127_of m ρ c main_v471 (by decide)).trans ((W126_of m ρ c main_v471 (by decide)).trans ((W125_of m ρ c main_v471 (by decide)).trans ha))))
  have hc' : W129 m ρ c (Proc.devRef .tc main_v3) = runContext m c := (W129_of m ρ c main_v3 (by decide)).trans ((W128_of m ρ c main_v3 (by decide)).trans ((W127_of m ρ c main_v3 (by decide)).trans ((W126_of m ρ c main_v3 (by decide)).trans ((W125_of m ρ c main_v3 (by decide)).trans hc))))
  obtain ⟨ba, bY, be⟩ := behind12 (W129 m ρ c)
  exact ⟨be.trans (input_next m c 13 (by decide) (W129_args m ρ c main_arg1 (by decide)) (columns_next m c 12 (by decide) hY' hk) hc'),
    (W134_of m ρ c main_v3 (by decide)).trans ((W133_of m ρ c main_v3 (by decide)).trans ((W132_of m ρ c main_v3 (by decide)).trans ((W131_of m ρ c main_v3 (by decide)).trans ((W130_of m ρ c main_v3 (by decide)).trans hc')))),
    bY.trans (columns_next m c 12 (by decide) hY' hk), ba.trans (total_next m c 12 (by decide) ha' hs hk)⟩

/-- When the fifteenth step begins. -/
theorem ready14 : W144 m ρ c (Proc.devRef .tc main_v554) = runInput m c 14 (by decide) ∧ W144 m ρ c (Proc.devRef .tc main_v3) = runContext m c
    ∧ W144 m ρ c (Proc.devRef .tc main_v550) = runColumns m c 14 (by decide) ∧ W144 m ρ c (Proc.devRef .tc main_v549) = runTotal m c 14 (by decide) := by
  obtain ⟨he, hc, hY, ha⟩ := ready13 m ρ c
  have hh := (W135_arr m ρ c 2).trans ((hidden_array39 _ c).trans (congrArg₂ (Host.hidden (F := Ideal)) he (W134_args m ρ c main_arg2 (by decide))))
  have hl := (W136_arr m ρ c 2).trans ((logits_array40 _ c).trans (congrArg₂ (Host.logits (F := Ideal)) hh (W135_args m ρ c main_arg3 (by decide))))
  obtain ⟨hx, hp, hu⟩ := ahead13 (W136 m ρ c)
  have hk := (W139_arr m ρ c 2).trans ((tokens_array41 _ c).trans (tokens_next m c 13 (by decide)
    (hp.trans (congrArg (fun z => laidOut (F := Ideal) (Host.softmax (Host.tempered z))) hl)) (hu.trans (congrArg (fun z => Host.drawn (F := Ideal) z 13 (by decide)) (W136_args m ρ c main_arg4 (by decide))))))
  have hs := (W139_of m ρ c main_v519 (by decide)).trans (hx.trans (congrArg (Host.tempered (F := Ideal)) hl))
  have hY' : W139 m ρ c (Proc.devRef .tc main_v511) = runColumns m c 13 (by decide) := (W139_of m ρ c main_v511 (by decide)).trans ((W138_of m ρ c main_v511 (by decide)).trans ((W137_of m ρ c main_v511 (by decide)).trans ((W136_of m ρ c main_v511 (by decide)).trans ((W135_of m ρ c main_v511 (by decide)).trans hY))))
  have ha' : W139 m ρ c (Proc.devRef .tc main_v510) = runTotal m c 13 (by decide) := (W139_of m ρ c main_v510 (by decide)).trans ((W138_of m ρ c main_v510 (by decide)).trans ((W137_of m ρ c main_v510 (by decide)).trans ((W136_of m ρ c main_v510 (by decide)).trans ((W135_of m ρ c main_v510 (by decide)).trans ha))))
  have hc' : W139 m ρ c (Proc.devRef .tc main_v3) = runContext m c := (W139_of m ρ c main_v3 (by decide)).trans ((W138_of m ρ c main_v3 (by decide)).trans ((W137_of m ρ c main_v3 (by decide)).trans ((W136_of m ρ c main_v3 (by decide)).trans ((W135_of m ρ c main_v3 (by decide)).trans hc))))
  obtain ⟨ba, bY, be⟩ := behind13 (W139 m ρ c)
  exact ⟨be.trans (input_next m c 14 (by decide) (W139_args m ρ c main_arg1 (by decide)) (columns_next m c 13 (by decide) hY' hk) hc'),
    (W144_of m ρ c main_v3 (by decide)).trans ((W143_of m ρ c main_v3 (by decide)).trans ((W142_of m ρ c main_v3 (by decide)).trans ((W141_of m ρ c main_v3 (by decide)).trans ((W140_of m ρ c main_v3 (by decide)).trans hc')))),
    bY.trans (columns_next m c 13 (by decide) hY' hk), ba.trans (total_next m c 13 (by decide) ha' hs hk)⟩

/-- When the sixteenth step begins. -/
theorem ready15 : W154 m ρ c (Proc.devRef .tc main_v593) = runInput m c 15 (by decide) ∧ W154 m ρ c (Proc.devRef .tc main_v3) = runContext m c
    ∧ W154 m ρ c (Proc.devRef .tc main_v589) = runColumns m c 15 (by decide) ∧ W154 m ρ c (Proc.devRef .tc main_v588) = runTotal m c 15 (by decide) := by
  obtain ⟨he, hc, hY, ha⟩ := ready14 m ρ c
  have hh := (W145_arr m ρ c 2).trans ((hidden_array42 _ c).trans (congrArg₂ (Host.hidden (F := Ideal)) he (W144_args m ρ c main_arg2 (by decide))))
  have hl := (W146_arr m ρ c 2).trans ((logits_array43 _ c).trans (congrArg₂ (Host.logits (F := Ideal)) hh (W145_args m ρ c main_arg3 (by decide))))
  obtain ⟨hx, hp, hu⟩ := ahead14 (W146 m ρ c)
  have hk := (W149_arr m ρ c 2).trans ((tokens_array44 _ c).trans (tokens_next m c 14 (by decide)
    (hp.trans (congrArg (fun z => laidOut (F := Ideal) (Host.softmax (Host.tempered z))) hl)) (hu.trans (congrArg (fun z => Host.drawn (F := Ideal) z 14 (by decide)) (W146_args m ρ c main_arg4 (by decide))))))
  have hs := (W149_of m ρ c main_v558 (by decide)).trans (hx.trans (congrArg (Host.tempered (F := Ideal)) hl))
  have hY' : W149 m ρ c (Proc.devRef .tc main_v550) = runColumns m c 14 (by decide) := (W149_of m ρ c main_v550 (by decide)).trans ((W148_of m ρ c main_v550 (by decide)).trans ((W147_of m ρ c main_v550 (by decide)).trans ((W146_of m ρ c main_v550 (by decide)).trans ((W145_of m ρ c main_v550 (by decide)).trans hY))))
  have ha' : W149 m ρ c (Proc.devRef .tc main_v549) = runTotal m c 14 (by decide) := (W149_of m ρ c main_v549 (by decide)).trans ((W148_of m ρ c main_v549 (by decide)).trans ((W147_of m ρ c main_v549 (by decide)).trans ((W146_of m ρ c main_v549 (by decide)).trans ((W145_of m ρ c main_v549 (by decide)).trans ha))))
  have hc' : W149 m ρ c (Proc.devRef .tc main_v3) = runContext m c := (W149_of m ρ c main_v3 (by decide)).trans ((W148_of m ρ c main_v3 (by decide)).trans ((W147_of m ρ c main_v3 (by decide)).trans ((W146_of m ρ c main_v3 (by decide)).trans ((W145_of m ρ c main_v3 (by decide)).trans hc))))
  obtain ⟨ba, bY, be⟩ := behind14 (W149 m ρ c)
  exact ⟨be.trans (input_next m c 15 (by decide) (W149_args m ρ c main_arg1 (by decide)) (columns_next m c 14 (by decide) hY' hk) hc'),
    (W154_of m ρ c main_v3 (by decide)).trans ((W153_of m ρ c main_v3 (by decide)).trans ((W152_of m ρ c main_v3 (by decide)).trans ((W151_of m ρ c main_v3 (by decide)).trans ((W150_of m ρ c main_v3 (by decide)).trans hc')))),
    bY.trans (columns_next m c 14 (by decide) hY' hk), ba.trans (total_next m c 14 (by decide) ha' hs hk)⟩

/-- When the run ends. -/
theorem ready16 : W162 m ρ c (Proc.devRef .tc main_v628) = runColumns m c 16 (by decide) ∧ W162 m ρ c (Proc.devRef .tc main_v627) = runTotal m c 16 (by decide) := by
  obtain ⟨he, -, hY, ha⟩ := ready15 m ρ c
  have hh := (W155_arr m ρ c 2).trans ((hidden_array45 _ c).trans (congrArg₂ (Host.hidden (F := Ideal)) he (W154_args m ρ c main_arg2 (by decide))))
  have hl := (W156_arr m ρ c 2).trans ((logits_array46 _ c).trans (congrArg₂ (Host.logits (F := Ideal)) hh (W155_args m ρ c main_arg3 (by decide))))
  obtain ⟨hx, hp, hu⟩ := ahead15 (W156 m ρ c)
  have hk := (W159_arr m ρ c 2).trans ((tokens_array47 _ c).trans (tokens_next m c 15 (by decide)
    (hp.trans (congrArg (fun z => laidOut (F := Ideal) (Host.softmax (Host.tempered z))) hl)) (hu.trans (congrArg (fun z => Host.drawn (F := Ideal) z 15 (by decide)) (W156_args m ρ c main_arg4 (by decide))))))
  have hs := (W159_of m ρ c main_v597 (by decide)).trans (hx.trans (congrArg (Host.tempered (F := Ideal)) hl))
  have hY' : W159 m ρ c (Proc.devRef .tc main_v589) = runColumns m c 15 (by decide) := (W159_of m ρ c main_v589 (by decide)).trans ((W158_of m ρ c main_v589 (by decide)).trans ((W157_of m ρ c main_v589 (by decide)).trans ((W156_of m ρ c main_v589 (by decide)).trans ((W155_of m ρ c main_v589 (by decide)).trans hY))))
  have ha' : W159 m ρ c (Proc.devRef .tc main_v588) = runTotal m c 15 (by decide) := (W159_of m ρ c main_v588 (by decide)).trans ((W158_of m ρ c main_v588 (by decide)).trans ((W157_of m ρ c main_v588 (by decide)).trans ((W156_of m ρ c main_v588 (by decide)).trans ((W155_of m ρ c main_v588 (by decide)).trans ha))))
  obtain ⟨ba, bY⟩ := behind15 (W159 m ρ c)
  exact ⟨bY.trans (columns_next m c 15 (by decide) hY' hk), ba.trans (total_next m c 15 (by decide) ha' hs hk)⟩

end Cert.Sample

end
-- ==== Proof.KernelRun.lean ====
/-
  The kernel's run, over the extended reals: it leaves the sixteen steps' tokens and log-probabilities in its two results,
  and its arguments unchanged.
-/
module

public import proofs.«01_k».proof.Proof.KernelSteps
public import proofs.«01_k».proof.Proof.Gen.KernelIdeal.Frame
public import Idealize.ShloMosaic.Lib.Quiescent

@[expose] public section

set_option maxRecDepth 16384

noncomputable section

namespace Cert.Sample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

set_option backward.isDefEq.respectTransparency.types false in
/-- The kernel's run. Every execution ends, with the results and the arguments as said and every counter at zero. -/
theorem kernel_run : θ_run defs (onTc (τ := τ) (main (F := Ideal))) ⟨m, fun _ => 0, ρ⟩ (fun r => ∀ c : Dev nD,
      r.2.mem ((c.tc : Thread nD τ).loc main_v628) = runColumns m c 16 (le_refl 16)
      ∧ r.2.mem ((c.tc : Thread nD τ).loc main_v627) = runTotal m c 16 (le_refl 16)
      ∧ r.2.mem ((c.tc : Thread nD τ).loc main_arg0) = arg m c main_arg0
      ∧ r.2.mem ((c.tc : Thread nD τ).loc main_arg1) = arg m c main_arg1
      ∧ r.2.mem ((c.tc : Thread nD τ).loc main_arg2) = arg m c main_arg2
      ∧ r.2.mem ((c.tc : Thread nD τ).loc main_arg3) = arg m c main_arg3
      ∧ r.2.mem ((c.tc : Thread nD τ).loc main_arg4) = arg m c main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      iterate 162 refine ⟨fun _ => .rfl, ?_⟩
      intro c
      dsimp only [Pipeline.Seg.post, hseg, Pipeline.HostSeg.ofOps]
      iintro ⟨Hh, Hp, HO⟩
      isplitl [Hh Hp]
      · isplitl [Hh]; · iexact Hh
        iexact Hp
      iexact HO)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W162 m ρ c b)
    (hfin := fun c s' => by
      iintro ⟨⟨Hh, -⟩, HSI⟩
      unfold StableHlo.held
      imodintro
      iapply (pointsTo_read_all (Pipeline.ucRefs τ sig) (fun b => (((c : Thread nD τ)).1, b)) (W162 m ρ c) s')
      isplitl [Hh] <;> iassumption)
    (hQ := fun s h _ c => ⟨(h c _ (mem_uc main_v628 (by decide))).trans (ready16 m ρ c).1, (h c _ (mem_uc main_v627 (by decide))).trans (ready16 m ρ c).2,
      (h c _ (mem_uc main_arg0 (by decide))).trans (W162_main_arg0 m ρ c), (h c _ (mem_uc main_arg1 (by decide))).trans (W162_main_arg1 m ρ c),
      (h c _ (mem_uc main_arg2 (by decide))).trans (W162_main_arg2 m ρ c), (h c _ (mem_uc main_arg3 (by decide))).trans (W162_main_arg3 m ρ c),
      (h c _ (mem_uc main_arg4 (by decide))).trans (W162_main_arg4 m ρ c)⟩)

end Cert.Sample

end
-- ==== Proof.lean ====
/-
  The proof of `Cert.Claim`: the frames of the three programs, the idealisation, and the equality of the kernel's results
  with the reference's over the extended reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.KernelRun
public import Idealize.ShloMosaic.Adequacy
public import Idealize.ShloMosaic.Init

@[expose] public section

noncomputable section

namespace Cert.Proof

open Idealize.ShloMosaic Idealize.ShloMosaic.TcCoe Idealize.SL.Sem

/-- The kernel ends, with its arguments unchanged and every counter at zero. -/
theorem frame_kernel : Cert.quiescent_Kernel := fun m ρ _ => Cert.Kernel.Gen.frame m ρ

/-- So does the kernel over the extended reals. -/
theorem frame_kernelIdeal : Cert.quiescent_KernelIdeal := fun m ρ _ => Cert.KernelIdeal.Gen.frame m ρ

/-- So does the reference, which has no counter. -/
theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.Sample.ref_run (F := Ideal) m ρ)

/-- The kernel's two results are the reference's, over the extended reals. -/
theorem algebraic : Cert.algebraic_KernelIdeal_ReferenceIdeal := fun m ρ m' ρ' _ h => by
  refine ⟨fun c => Cert.Sample.runColumns m c 16 (le_refl 16), fun c => Cert.Sample.runTotal m c 16 (le_refl 16), Cert.Sample.kernel_run m ρ, ?_⟩
  refine (θ_run Cert.ReferenceIdeal.defs _ _).mono (fun r hr c => ?_) (Cert.Sample.ref_run (F := Ideal) m' ρ')
  obtain ⟨h0, h1, h2, h3, h4⟩ := h c
  obtain ⟨r1, r2, rest⟩ := hr c
  dsimp only at r1 r2
  rw [h0, h1, h2, h3, h4] at r1 r2
  exact ⟨r1, r2, rest⟩

/-- The certificate's claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
